-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "ln2" .f32 0x3F317218#32 ((Real.log 2 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v138_0)) (v1 : (c : Dev Cert.KernelIdeal.nD) → Buf (Elt Ideal) ((c.tc : Thread Cert.KernelIdeal.nD Cert.KernelIdeal.τ).loc Cert.KernelIdeal.main_v138_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v138_0) = v0 c
          ∧ r.2.mem ((c.tc : Thread Cert.KernelIdeal.nD Cert.KernelIdeal.τ).loc Cert.KernelIdeal.main_v138_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v165) = v0 c
          ∧ r.2.mem ((c.tc : Thread Cert.ReferenceIdeal.nD Cert.ReferenceIdeal.τ).loc Cert.ReferenceIdeal.main_v166) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v15) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v8) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v13) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v11) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v5) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v1) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v5) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v1) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v5) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
-- ==== Pre_finite.lean ====
abbrev S4096x16x96 : Shape := ⟨3, ![4096, 16, 96]⟩
abbrev S4096x16x64 : Shape := ⟨3, ![4096, 16, 64]⟩
abbrev S4096 : Shape := ⟨1, ![4096]⟩
abbrev S_ : Shape := ⟨0, ![]⟩

class Facts : Prop where
  bcast_S_S4096x16x96 : S_.BroadcastsInDim S4096x16x96 (![] : Fin 0 → Fin S4096x16x96.rank)
  bcast_S_S4096x16x64 : S_.BroadcastsInDim S4096x16x64 (![] : Fin 0 → Fin S4096x16x64.rank)

variable [Facts]

def fn_part1 {F : FTy → Type} [FloatOps F] (main_arg4 : FVec F S4096x16x64 .f32) (main_v4 : IVec S4096x16x96 1) (main_v9 : IVec S4096x16x96 1) (main_v14 : IVec S4096x16x64 1) (main_v16 : IVec S4096x16x64 1) : IVec S4096x16x96 1 × IVec S4096x16x96 1 × IVec S4096x16x64 1 × IVec S4096x16x64 1 :=
  let main_cst_6 : FVec F S_ .f32 := constant S_ .f32 0x7F800000#32
  let main_v17 : FVec F S4096x16x64 .f32 := broadcastInDim S4096x16x64 ![] bcast_S_S4096x16x64 main_cst_6
  let main_v18 : IVec S4096x16x64 1 := cmpf .olt main_arg4 main_v17
  let main_v19 : IVec S4096x16x64 1 := andi main_v16 main_v18
  (main_v4, main_v9, main_v14, main_v19)

def fn {F : FTy → Type} [FloatOps F] (main_arg0 : FVec F S4096x16x96 .f32) (main_arg1 : FVec F S4096x16x96 .f32) (main_arg2 : FVec F S4096x16x64 .f32) (main_arg3 : IVec S4096 32) (main_arg4 : FVec F S4096x16x64 .f32) : IVec S4096x16x96 1 × IVec S4096x16x96 1 × IVec S4096x16x64 1 × IVec S4096x16x64 1 :=
  let main_cst : FVec F S_ .f32 := constant S_ .f32 0xFF800000#32
  let main_v0 : FVec F S4096x16x96 .f32 := broadcastInDim S4096x16x96 ![] bcast_S_S4096x16x96 main_cst
  let main_v1 : IVec S4096x16x96 1 := cmpf .ogt main_arg0 main_v0
  let main_cst_0 : FVec F S_ .f32 := constant S_ .f32 0x7F800000#32
  let main_v2 : FVec F S4096x16x96 .f32 := broadcastInDim S4096x16x96 ![] bcast_S_S4096x16x96 main_cst_0
  let main_v3 : IVec S4096x16x96 1 := cmpf .olt main_arg0 main_v2
  let main_v4 : IVec S4096x16x96 1 := andi main_v1 main_v3
  let main_cst_1 : FVec F S_ .f32 := constant S_ .f32 0xFF800000#32
  let main_v5 : FVec F S4096x16x96 .f32 := broadcastInDim S4096x16x96 ![] bcast_S_S4096x16x96 main_cst_1
  let main_v6 : IVec S4096x16x96 1 := cmpf .ogt main_arg1 main_v5
  let main_cst_2 : FVec F S_ .f32 := constant S_ .f32 0x7F800000#32
  let main_v7 : FVec F S4096x16x96 .f32 := broadcastInDim S4096x16x96 ![] bcast_S_S4096x16x96 main_cst_2
  let main_v8 : IVec S4096x16x96 1 := cmpf .olt main_arg1 main_v7
  let main_v9 : IVec S4096x16x96 1 := andi main_v6 main_v8
  let main_cst_3 : FVec F S_ .f32 := constant S_ .f32 0xFF800000#32
  let main_v10 : FVec F S4096x16x64 .f32 := broadcastInDim S4096x16x64 ![] bcast_S_S4096x16x64 main_cst_3
  let main_v11 : IVec S4096x16x64 1 := cmpf .ogt main_arg2 main_v10
  let main_cst_4 : FVec F S_ .f32 := constant S_ .f32 0x7F800000#32
  let main_v12 : FVec F S4096x16x64 .f32 := broadcastInDim S4096x16x64 ![] bcast_S_S4096x16x64 main_cst_4
  let main_v13 : IVec S4096x16x64 1 := cmpf .olt main_arg2 main_v12
  let main_v14 : IVec S4096x16x64 1 := andi main_v11 main_v13
  let main_cst_5 : FVec F S_ .f32 := constant S_ .f32 0xFF800000#32
  let main_v15 : FVec F S4096x16x64 .f32 := broadcastInDim S4096x16x64 ![] bcast_S_S4096x16x64 main_cst_5
  let main_v16 : IVec S4096x16x64 1 := cmpf .ogt main_arg4 main_v15
  fn_part1 (F := F) main_arg4 main_v4 main_v9 main_v14 main_v16
-- ==== Kernel.lean ====
abbrev S4096x16x96 : Shape := ⟨3, ![4096, 16, 96]⟩
abbrev S4096x16x64 : Shape := ⟨3, ![4096, 16, 64]⟩
abbrev S4096 : Shape := ⟨1, ![4096]⟩
abbrev S16 : Shape := ⟨1, ![16]⟩
abbrev S_ : Shape := ⟨0, ![]⟩
abbrev S64 : Shape := ⟨1, ![64]⟩
abbrev S32 : Shape := ⟨1, ![32]⟩
abbrev S128 : Shape := ⟨1, ![128]⟩
abbrev S1x128 : Shape := ⟨2, ![1, 128]⟩
abbrev S4096x1 : Shape := ⟨2, ![4096, 1]⟩
abbrev S4096x128 : Shape := ⟨2, ![4096, 128]⟩
abbrev S1x16 : Shape := ⟨2, ![1, 16]⟩
abbrev S4096x16 : Shape := ⟨2, ![4096, 16]⟩
abbrev S4096x1x16 : Shape := ⟨3, ![4096, 1, 16]⟩
abbrev S4096x16x32 : Shape := ⟨3, ![4096, 16, 32]⟩
abbrev S4096x16x16 : Shape := ⟨3, ![4096, 16, 16]⟩
abbrev S1x4096 : Shape := ⟨2, ![1, 4096]⟩
abbrev S4096x4096 : Shape := ⟨2, ![4096, 4096]⟩
abbrev S16x4096x4096 : Shape := ⟨3, ![16, 4096, 4096]⟩
abbrev S1x4096x4096 : Shape := ⟨3, ![1, 4096, 4096]⟩
abbrev S16x4096 : Shape := ⟨2, ![16, 4096]⟩
abbrev S16x4096x1 : Shape := ⟨3, ![16, 4096, 1]⟩
abbrev S16x16x1x256 : Shape := ⟨4, ![16, 16, 1, 256]⟩
abbrev S16x64x4096 : Shape := ⟨3, ![16, 64, 4096]⟩
abbrev S4096x16x128 : Shape := ⟨3, ![4096, 16, 128]⟩
abbrev S4096x2048 : Shape := ⟨2, ![4096, 2048]⟩
abbrev S4096x16x256 : Shape := ⟨3, ![4096, 16, 256]⟩
abbrev S256x2048 : Shape := ⟨2, ![256, 2048]⟩
abbrev S4096x1024 : Shape := ⟨2, ![4096, 1024]⟩
abbrev S8x16x1x256 : Shape := ⟨4, ![8, 16, 1, 256]⟩
abbrev S256x128 : Shape := ⟨2, ![256, 128]⟩
abbrev S256x1024 : Shape := ⟨2, ![256, 1024]⟩
abbrev S256x256 : Shape := ⟨2, ![256, 256]⟩
abbrev S1x1x1x256 : Shape := ⟨4, ![1, 1, 1, 256]⟩
abbrev S1x256 : Shape := ⟨2, ![1, 256]⟩

abbrev nBuf : Space → Nat
  | .hbm => 201
  | .vmem => 19
  | .smem => 0
  | _ => 0

abbrev hbmTy0_0 (i : Nat) : BufTy := match i % 128 with
  | 0 => ⟨S4096x16x96, .f32⟩
  | 1 => ⟨S4096x16x96, .f32⟩
  | 2 => ⟨S4096x16x64, .f32⟩
  | 3 => ⟨S4096, .i32⟩
  | 4 => ⟨S4096x16x64, .f32⟩
  | 5 => ⟨S16, .f32⟩
  | 6 => ⟨S_, .f32⟩
  | 7 => ⟨S16, .f32⟩
  | 8 => ⟨S16, .f32⟩
  | 9 => ⟨S_, .f32⟩
  | 10 => ⟨S16, .f32⟩
  | 11 => ⟨S16, .f32⟩
  | 12 => ⟨S16, .f32⟩
  | 13 => ⟨S_, .f32⟩
  | 14 => ⟨S16, .f32⟩
  | 15 => ⟨S16, .f32⟩
  | 16 => ⟨S_, .f32⟩
  | 17 => ⟨S16, .f32⟩
  | 18 => ⟨S16, .f32⟩
  | 19 => ⟨S_, .f32⟩
  | 20 => ⟨S64, .f32⟩
  | 21 => ⟨S_, .f32⟩
  | 22 => ⟨S32, .f32⟩
  | 23 => ⟨S128, .f32⟩
  | 24 => ⟨S1x128, .f32⟩
  | 25 => ⟨S4096x1, .i32⟩
  | 26 => ⟨S4096x1, .f32⟩
  | 27 => ⟨S4096x128, .f32⟩
  | 28 => ⟨S4096x128, .f32⟩
  | 29 => ⟨S4096x128, .f32⟩
  | 30 => ⟨S4096x128, .i32⟩
  | 31 => ⟨S4096x128, .f32⟩
  | 32 => ⟨S_, .i32⟩
  | 33 => ⟨S4096x128, .i32⟩
  | 34 => ⟨S4096x128, .i1⟩
  | 35 => ⟨S_, .i32⟩
  | 36 => ⟨S4096x128, .i32⟩
  | 37 => ⟨S4096x128, .i1⟩
  | 38 => ⟨S4096x128, .i1⟩
  | 39 => ⟨S_, .i32⟩
  | 40 => ⟨S4096x128, .i32⟩
  | 41 => ⟨S4096x128, .i1⟩
  | 42 => ⟨S_, .i32⟩
  | 43 => ⟨S4096x128, .i32⟩
  | 44 => ⟨S4096x128, .i1⟩
  | 45 => ⟨S4096x128, .i1⟩
  | 46 => ⟨S4096x128, .f32⟩
  | 47 => ⟨S4096x128, .f32⟩
  | 48 => ⟨S_, .f32⟩
  | 49 => ⟨S_, .f32⟩
  | 50 => ⟨S4096x128, .f32⟩
  | 51 => ⟨S4096x128, .f32⟩
  | 52 => ⟨S_, .f32⟩
  | 53 => ⟨S_, .f32⟩
  | 54 => ⟨S4096x128, .f32⟩
  | 55 => ⟨S4096x128, .f32⟩
  | 56 => ⟨S16, .f32⟩
  | 57 => ⟨S_, .f32⟩
  | 58 => ⟨S16, .f32⟩
  | 59 => ⟨S16, .f32⟩
  | 60 => ⟨S_, .f32⟩
  | 61 => ⟨S16, .f32⟩
  | 62 => ⟨S16, .f32⟩
  | 63 => ⟨S16, .f32⟩
  | 64 => ⟨S_, .f32⟩
  | 65 => ⟨S16, .f32⟩
  | 66 => ⟨S16, .f32⟩
  | 67 => ⟨S_, .f32⟩
  | 68 => ⟨S16, .f32⟩
  | 69 => ⟨S16, .f32⟩
  | 70 => ⟨S4096, .f32⟩
  | 71 => ⟨S4096x1, .f32⟩
  | 72 => ⟨S1x16, .f32⟩
  | 73 => ⟨S4096x16, .f32⟩
  | 74 => ⟨S4096x16, .f32⟩
  | 75 => ⟨S4096x16, .f32⟩
  | 76 => ⟨S4096x16, .f32⟩
  | 77 => ⟨S4096x16, .f32⟩
  | 78 => ⟨S4096x1x16, .f32⟩
  | 79 => ⟨S4096x1x16, .f32⟩
  | 80 => ⟨S4096x16x64, .f32⟩
  | 81 => ⟨S4096x16x32, .f32⟩
  | 82 => ⟨S4096x16x16, .f32⟩
  | 83 => ⟨S4096x16x16, .f32⟩
  | 84 => ⟨S4096x16x16, .f32⟩
  | 85 => ⟨S4096x16x16, .f32⟩
  | 86 => ⟨S4096x16x16, .f32⟩
  | 87 => ⟨S4096x16x16, .f32⟩
  | 88 => ⟨S4096x16x16, .f32⟩
  | 89 => ⟨S4096x16x16, .f32⟩
  | 90 => ⟨S4096x16x16, .f32⟩
  | 91 => ⟨S4096x16x16, .f32⟩
  | 92 => ⟨S4096x16x16, .f32⟩
  | 93 => ⟨S4096x16x16, .f32⟩
  | 94 => ⟨S4096x16x32, .f32⟩
  | 95 => ⟨S4096x16x96, .f32⟩
  | 96 => ⟨S4096x16x64, .f32⟩
  | 97 => ⟨S4096x16x32, .f32⟩
  | 98 => ⟨S4096x16x16, .f32⟩
  | 99 => ⟨S4096x16x16, .f32⟩
  | 100 => ⟨S4096x16x16, .f32⟩
  | 101 => ⟨S4096x16x16, .f32⟩
  | 102 => ⟨S4096x16x16, .f32⟩
  | 103 => ⟨S4096x16x16, .f32⟩
  | 104 => ⟨S4096x16x16, .f32⟩
  | 105 => ⟨S4096x16x16, .f32⟩
  | 106 => ⟨S4096x16x16, .f32⟩
  | 107 => ⟨S4096x16x16, .f32⟩
  | 108 => ⟨S4096x16x16, .f32⟩
  | 109 => ⟨S4096x16x16, .f32⟩
  | 110 => ⟨S4096x16x32, .f32⟩
  | 111 => ⟨S4096x16x96, .f32⟩
  | 112 => ⟨S4096, .i32⟩
  | 113 => ⟨S_, .i32⟩
  | 114 => ⟨S_, .i32⟩
  | 115 => ⟨S4096, .i32⟩
  | 116 => ⟨S4096, .i32⟩
  | 117 => ⟨S4096, .i32⟩
  | 118 => ⟨S_, .i32⟩
  | 119 => ⟨S4096, .i32⟩
  | 120 => ⟨S4096, .i1⟩
  | 121 => ⟨S4096, .i32⟩
  | 122 => ⟨S4096, .i32⟩
  | 123 => ⟨S_, .i32⟩
  | 124 => ⟨S4096, .i32⟩
  | 125 => ⟨S4096, .i1⟩
  | 126 => ⟨S4096, .i1⟩
  | 127 => ⟨S_, .i32⟩
  | _ => ⟨S4096x16x96, .f32⟩

abbrev hbmTy0_1 (i : Nat) : BufTy := match i % 128 with
  | 0 => ⟨S4096, .i32⟩
  | 1 => ⟨S4096, .i32⟩
  | 2 => ⟨S4096, .i32⟩
  | 3 => ⟨S1x4096, .i32⟩
  | 4 => ⟨S4096x1, .i32⟩
  | 5 => ⟨S4096x4096, .i32⟩
  | 6 => ⟨S4096x4096, .i32⟩
  | 7 => ⟨S4096x4096, .i1⟩
  | 8 => ⟨S16x4096x4096, .f32⟩
  | 9 => ⟨S_, .f32⟩
  | 10 => ⟨S16x4096x4096, .f32⟩
  | 11 => ⟨S16x4096x4096, .f32⟩
  | 12 => ⟨S1x4096x4096, .i1⟩
  | 13 => ⟨S_, .f32⟩
  | 14 => ⟨S_, .f32⟩
  | 15 => ⟨S16x4096x4096, .i1⟩
  | 16 => ⟨S16x4096x4096, .f32⟩
  | 17 => ⟨S16x4096x4096, .f32⟩
  | 18 => ⟨S_, .f32⟩
  | 19 => ⟨S16x4096, .f32⟩
  | 20 => ⟨S16x4096x1, .f32⟩
  | 21 => ⟨S16x4096x4096, .f32⟩
  | 22 => ⟨S16x4096x4096, .f32⟩
  | 23 => ⟨S16x4096x4096, .f32⟩
  | 24 => ⟨S_, .f32⟩
  | 25 => ⟨S16x4096, .f32⟩
  | 26 => ⟨S16x4096, .f32⟩
  | 27 => ⟨S16x4096, .f32⟩
  | 28 => ⟨S_, .f32⟩
  | 29 => ⟨S_, .f32⟩
  | 30 => ⟨S_, .f32⟩
  | 31 => ⟨S16x4096, .f32⟩
  | 32 => ⟨S16x4096, .f32⟩
  | 33 => ⟨S16x16x1x256, .f32⟩
  | 34 => ⟨S16x4096x1, .f32⟩
  | 35 => ⟨S16x4096x4096, .f32⟩
  | 36 => ⟨S16x4096x4096, .f32⟩
  | 37 => ⟨S16x64x4096, .f32⟩
  | 38 => ⟨S4096x16x64, .f32⟩
  | 39 => ⟨S4096x16x64, .f32⟩
  | 40 => ⟨S_, .f32⟩
  | 41 => ⟨S4096x16, .f32⟩
  | 42 => ⟨S16x4096, .f32⟩
  | 43 => ⟨S16x16x1x256, .f32⟩
  | 44 => ⟨S_, .f32⟩
  | 45 => ⟨S4096x16x96, .f32⟩
  | 46 => ⟨S4096x16x96, .f32⟩
  | 47 => ⟨S_, .f32⟩
  | 48 => ⟨S_, .f32⟩
  | 49 => ⟨S_, .f32⟩
  | 50 => ⟨S4096x16x96, .f32⟩
  | 51 => ⟨S4096x16x96, .f32⟩
  | 52 => ⟨S_, .i32⟩
  | 53 => ⟨S_, .f32⟩
  | 54 => ⟨S4096x16x128, .f32⟩
  | 55 => ⟨S4096x2048, .f32⟩
  | 56 => ⟨S4096x2048, .bf16⟩
  | 57 => ⟨S_, .i32⟩
  | 58 => ⟨S_, .f32⟩
  | 59 => ⟨S4096x16x128, .f32⟩
  | 60 => ⟨S_, .i32⟩
  | 61 => ⟨S_, .f32⟩
  | 62 => ⟨S4096x16x128, .f32⟩
  | 63 => ⟨S4096x16x256, .f32⟩
  | 64 => ⟨S4096x4096, .f32⟩
  | 65 => ⟨S4096x4096, .bf16⟩
  | 66 => ⟨S_, .i32⟩
  | 67 => ⟨S_, .f32⟩
  | 68 => ⟨S4096x16x128, .f32⟩
  | 69 => ⟨S4096x2048, .f32⟩
  | 70 => ⟨S4096x2048, .bf16⟩
  | 71 => ⟨S4096x2048, .bf16⟩
  | 72 => ⟨S4096x4096, .bf16⟩
  | _ => ⟨S4096x16x96, .f32⟩

abbrev hbmTy (i : Nat) : BufTy := match i / 128 with
  | 0 => hbmTy0_0 i
  | 1 => hbmTy0_1 i
  | _ => ⟨S4096x16x96, .f32⟩

abbrev bufTy : (tb : Table) → Fin (tcTables nBuf tb) → BufTy
  | .hbm, ⟨i, _⟩ => hbmTy i
  | .local _ .vmem, ⟨0, _⟩ => ⟨S256x2048, .bf16⟩
  | .local _ .vmem, ⟨1, _⟩ => ⟨S256x2048, .bf16⟩
  | .local _ .vmem, ⟨2, _⟩ => ⟨S4096x1024, .bf16⟩
  | .local _ .vmem, ⟨3, _⟩ => ⟨S4096x1024, .bf16⟩
  | .local _ .vmem, ⟨4, _⟩ => ⟨S8x16x1x256, .f32⟩
  | .local _ .vmem, ⟨5, _⟩ => ⟨S8x16x1x256, .f32⟩
  | .local _ .vmem, ⟨6, _⟩ => ⟨S8x16x1x256, .f32⟩
  | .local _ .vmem, ⟨7, _⟩ => ⟨S8x16x1x256, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x1024, .bf16⟩
  | .local _ .vmem, ⟨15, _⟩ => ⟨S256x1024, .bf16⟩
  | .local _ .vmem, ⟨16, _⟩ => ⟨S256x2048, .bf16⟩
  | .local _ .vmem, ⟨17, _⟩ => ⟨S256x2048, .bf16⟩
  | .local _ .vmem, ⟨18, _⟩ => ⟨S4096x1024, .f32⟩
  | _, _ => ⟨S4096x16x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_cst_4 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c : Ref sig .tc := ⟨.hbm, 32, rfl⟩
abbrev main_v21 : Ref sig .tc := ⟨.hbm, 33, rfl⟩
abbrev main_v22 : Ref sig .tc := ⟨.hbm, 34, rfl⟩
abbrev main_c_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_6 : Ref sig .tc := ⟨.hbm, 39, rfl⟩
abbrev main_v26 : Ref sig .tc := ⟨.hbm, 40, rfl⟩
abbrev main_v27 : Ref sig .tc := ⟨.hbm, 41, rfl⟩
abbrev main_c_7 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_8 : Ref sig .tc := ⟨.hbm, 48, rfl⟩
abbrev main_call0_v0 : Ref sig .tc := ⟨.hbm, 49, rfl⟩
abbrev main_call0_v1 : Ref sig .tc := ⟨.hbm, 50, rfl⟩
abbrev main_v33 : Ref sig .tc := ⟨.hbm, 51, rfl⟩
abbrev main_cst_9 : Ref sig .tc := ⟨.hbm, 52, rfl⟩
abbrev main_call1_v0 : Ref sig .tc := ⟨.hbm, 53, rfl⟩
abbrev main_call1_v1 : Ref sig .tc := ⟨.hbm, 54, rfl⟩
abbrev main_v34 : Ref sig .tc := ⟨.hbm, 55, rfl⟩
abbrev main_v35 : Ref sig .tc := ⟨.hbm, 56, rfl⟩
abbrev main_cst_10 : Ref sig .tc := ⟨.hbm, 57, rfl⟩
abbrev main_v36 : Ref sig .tc := ⟨.hbm, 58, rfl⟩
abbrev main_v37 : Ref sig .tc := ⟨.hbm, 59, rfl⟩
abbrev main_cst_11 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_12 : Ref sig .tc := ⟨.hbm, 64, rfl⟩
abbrev main_v41 : Ref sig .tc := ⟨.hbm, 65, rfl⟩
abbrev main_v42 : Ref sig .tc := ⟨.hbm, 66, rfl⟩
abbrev main_cst_13 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_c_14 : Ref sig .tc := ⟨.hbm, 113, rfl⟩
abbrev main_call2_v0 : Ref sig .tc := ⟨.hbm, 114, rfl⟩
abbrev main_call2_v1 : Ref sig .tc := ⟨.hbm, 115, rfl⟩
abbrev main_call2_v2 : Ref sig .tc := ⟨.hbm, 116, rfl⟩
abbrev main_call2_v3 : Ref sig .tc := ⟨.hbm, 117, rfl⟩
abbrev main_call2_v4 : Ref sig .tc := ⟨.hbm, 118, rfl⟩
abbrev main_call2_v5 : Ref sig .tc := ⟨.hbm, 119, rfl⟩
abbrev main_call2_v6 : Ref sig .tc := ⟨.hbm, 120, rfl⟩
abbrev main_call2_v7 : Ref sig .tc := ⟨.hbm, 121, rfl⟩
abbrev main_call2_v8 : Ref sig .tc := ⟨.hbm, 122, rfl⟩
abbrev main_call2_c : Ref sig .tc := ⟨.hbm, 123, rfl⟩
abbrev main_call2_v9 : Ref sig .tc := ⟨.hbm, 124, rfl⟩
abbrev main_call2_v10 : Ref sig .tc := ⟨.hbm, 125, rfl⟩
abbrev main_call2_v11 : Ref sig .tc := ⟨.hbm, 126, rfl⟩
abbrev main_call2_c_0 : Ref sig .tc := ⟨.hbm, 127, rfl⟩
abbrev main_call2_v12 : Ref sig .tc := ⟨.hbm, 128, rfl⟩
abbrev main_call2_v13 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_cst_15 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_cst_16 : Ref sig .tc := ⟨.hbm, 141, rfl⟩
abbrev main_call3_v0 : Ref sig .tc := ⟨.hbm, 142, rfl⟩
abbrev main_call3_v1 : Ref sig .tc := ⟨.hbm, 143, rfl⟩
abbrev main_call3_v2 : Ref sig .tc := ⟨.hbm, 144, rfl⟩
abbrev main_v98 : Ref sig .tc := ⟨.hbm, 145, rfl⟩
abbrev main_cst_17 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_cst_18 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_cst_19 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_cst_20 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_cst_21 : Ref sig .tc := ⟨.hbm, 172, rfl⟩
abbrev main_v121 : Ref sig .tc := ⟨.hbm, 173, rfl⟩
abbrev main_v122 : Ref sig .tc := ⟨.hbm, 174, rfl⟩
abbrev main_cst_22 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_c_23 : Ref sig .tc := ⟨.hbm, 180, rfl⟩
abbrev main_call4_v0 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_c_24 : Ref sig .tc := ⟨.hbm, 185, rfl⟩
abbrev main_call5_v0 : Ref sig .tc := ⟨.hbm, 186, rfl⟩
abbrev main_v130 : Ref sig .tc := ⟨.hbm, 187, rfl⟩
abbrev main_c_25 : Ref sig .tc := ⟨.hbm, 188, rfl⟩
abbrev main_call6_v0 : Ref sig .tc := ⟨.hbm, 189, rfl⟩
abbrev main_v131 : Ref sig .tc := ⟨.hbm, 190, rfl⟩
abbrev main_v132 : Ref sig .tc := ⟨.hbm, 191, rfl⟩
abbrev main_v133 : Ref sig .tc := ⟨.hbm, 192, rfl⟩
abbrev main_v134 : Ref sig .tc := ⟨.hbm, 193, rfl⟩
abbrev main_c_26 : Ref sig .tc := ⟨.hbm, 194, rfl⟩
abbrev main_call7_v0 : Ref sig .tc := ⟨.hbm, 195, rfl⟩
abbrev main_v135 : Ref sig .tc := ⟨.hbm, 196, rfl⟩
abbrev main_v136 : Ref sig .tc := ⟨.hbm, 197, rfl⟩
abbrev main_v137 : Ref sig .tc := ⟨.hbm, 198, rfl⟩
abbrev main_v138_0 : Ref sig .tc := ⟨.hbm, 199, rfl⟩
abbrev main_v138_1 : Ref sig .tc := ⟨.hbm, 200, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let arg1 : BitVec 32 := BitVec.ofNat 32 (i 1).val
  let c256_i32 : BitVec 32 := 256#32
  let v36 : BitVec 32 := Scalar.muli arg1 c256_i32
  v36
def k0_off1 (i : grid0.Coords) : Fin 2 → Nat :=
  let arg1 : BitVec 32 := BitVec.ofNat 32 (i 1).val
  let c256_i32 : BitVec 32 := 256#32
  let v36 : BitVec 32 := Scalar.muli arg1 c256_i32
  let v37 : BitVec 32 := v36
  let v38 : Index := Scalar.indexCast v37
  let c0_17 : Index := 0#32
  ![v38.toNat, 0]
def k0_off2 (i : grid0.Coords) : Fin 2 → Nat :=
  let arg1 : BitVec 32 := BitVec.ofNat 32 (i 1).val
  let c256_i32 : BitVec 32 := 256#32
  let v36 : BitVec 32 := Scalar.muli arg1 c256_i32
  let v37 : BitVec 32 := v36
  let v41 : Index := Scalar.indexCast v37
  let c128_18 : Index := 128#32
  ![v41.toNat, 128]
def k0_off3 (i : grid0.Coords) : Fin 2 → Nat :=
  let arg1 : BitVec 32 := BitVec.ofNat 32 (i 1).val
  let c256_i32 : BitVec 32 := 256#32
  let v36 : BitVec 32 := Scalar.muli arg1 c256_i32
  let v37 : BitVec 32 := v36
  let v44 : Index := Scalar.indexCast v37
  let c256_19 : Index := 256#32
  ![v44.toNat, 256]
def k0_off4 (i : grid0.Coords) : Fin 2 → Nat :=
  let arg1 : BitVec 32 := BitVec.ofNat 32 (i 1).val
  let c256_i32 : BitVec 32 := 256#32
  let v36 : BitVec 32 := Scalar.muli arg1 c256_i32
  let v37 : BitVec 32 := v36
  let v47 : Index := Scalar.indexCast v37
  let c384_20 : Index := 384#32
  ![v47.toNat, 384]
def k0_off5 (i : grid0.Coords) : Fin 2 → Nat :=
  let arg1 : BitVec 32 := BitVec.ofNat 32 (i 1).val
  let c256_i32 : BitVec 32 := 256#32
  let v36 : BitVec 32 := Scalar.muli arg1 c256_i32
  let v37 : BitVec 32 := v36
  let v50 : Index := Scalar.indexCast v37
  let c512_21 : Index := 512#32
  ![v50.toNat, 512]
def k0_off6 (i : grid0.Coords) : Fin 2 → Nat :=
  let arg1 : BitVec 32 := BitVec.ofNat 32 (i 1).val
  let c256_i32 : BitVec 32 := 256#32
  let v36 : BitVec 32 := Scalar.muli arg1 c256_i32
  let v37 : BitVec 32 := v36
  let v53 : Index := Scalar.indexCast v37
  let c640_22 : Index := 640#32
  ![v53.toNat, 640]
def k0_off7 (i : grid0.Coords) : Fin 2 → Nat :=
  let arg1 : BitVec 32 := BitVec.ofNat 32 (i 1).val
  let c256_i32 : BitVec 32 := 256#32
  let v36 : BitVec 32 := Scalar.muli arg1 c256_i32
  let v37 : BitVec 32 := v36
  let v56 : Index := Scalar.indexCast v37
  let c768_23 : Index := 768#32
  ![v56.toNat, 768]
def k0_off8 (i : grid0.Coords) : Fin 2 → Nat :=
  let arg1 : BitVec 32 := BitVec.ofNat 32 (i 1).val
  let c256_i32 : BitVec 32 := 256#32
  let v36 : BitVec 32 := Scalar.muli arg1 c256_i32
  let v37 : BitVec 32 := v36
  let v59 : Index := Scalar.indexCast v37
  let c896_24 : Index := 896#32
  ![v59.toNat, 896]
def k0_off9 (i : grid0.Coords) : Fin 4 → Nat :=
  let c0_51 : Index := 0#32
  let arg1 : BitVec 32 := BitVec.ofNat 32 (i 1).val
  let v111 : Index := Scalar.indexCast arg1
  let c0_52 : Index := 0#32
  let c0_53 : Index := 0#32
  ![0, v111.toNat, 0, 0]
def k0_off10 (i : grid0.Coords) : Fin 4 → Nat :=
  let c1 : Index := 1#32
  let arg1 : BitVec 32 := BitVec.ofNat 32 (i 1).val
  let v134 : Index := Scalar.indexCast arg1
  let c0_60 : Index := 0#32
  let c0_61 : Index := 0#32
  ![1, v134.toNat, 0, 0]
def k0_off11 (i : grid0.Coords) : Fin 4 → Nat :=
  let c2 : Index := 2#32
  let arg1 : BitVec 32 := BitVec.ofNat 32 (i 1).val
  let v157 : Index := Scalar.indexCast arg1
  let c0_68 : Index := 0#32
  let c0_69 : Index := 0#32
  ![2, v157.toNat, 0, 0]
def k0_off12 (i : grid0.Coords) : Fin 4 → Nat :=
  let c3 : Index := 3#32
  let arg1 : BitVec 32 := BitVec.ofNat 32 (i 1).val
  let v180 : Index := Scalar.indexCast arg1
  let c0_76 : Index := 0#32
  let c0_77 : Index := 0#32
  ![3, v180.toNat, 0, 0]
def k0_off13 (i : grid0.Coords) : Fin 4 → Nat :=
  let c4 : Index := 4#32
  let arg1 : BitVec 32 := BitVec.ofNat 32 (i 1).val
  let v203 : Index := Scalar.indexCast arg1
  let c0_84 : Index := 0#32
  let c0_85 : Index := 0#32
  ![4, v203.toNat, 0, 0]
def k0_off14 (i : grid0.Coords) : Fin 4 → Nat :=
  let c5 : Index := 5#32
  let arg1 : BitVec 32 := BitVec.ofNat 32 (i 1).val
  let v226 : Index := Scalar.indexCast arg1
  let c0_92 : Index := 0#32
  let c0_93 : Index := 0#32
  ![5, v226.toNat, 0, 0]
def k0_off15 (i : grid0.Coords) : Fin 4 → Nat :=
  let c6 : Index := 6#32
  let arg1 : BitVec 32 := BitVec.ofNat 32 (i 1).val
  let v249 : Index := Scalar.indexCast arg1
  let c0_100 : Index := 0#32
  let c0_101 : Index := 0#32
  ![6, v249.toNat, 0, 0]
def k0_off16 (i : grid0.Coords) : Fin 4 → Nat :=
  let c7 : Index := 7#32
  let arg1 : BitVec 32 := BitVec.ofNat 32 (i 1).val
  let v272 : Index := Scalar.indexCast arg1
  let c0_108 : Index := 0#32
  let c0_109 : Index := 0#32
  ![7, v272.toNat, 0, 0]
@[reducible] def k0_t1_loop (i : grid0.Coords) : Scf.Loop 32 :=
  let arg1 : BitVec 32 := BitVec.ofNat 32 (i 1).val
  let c1_i32 : BitVec 32 := 1#32
  let v382 : BitVec 32 := Scalar.addi arg1 c1_i32
  let c16_i32 : BitVec 32 := 16#32
  let v383 : BitVec 32 := Scalar.subi c16_i32 v382
  let c1_i32_153 : BitVec 32 := 1#32
  let v385 : BitVec 32 := Scalar.divsi v383 c1_i32_153
  let v386 : BitVec 32 := Scalar.muli v385 c1_i32_153
  let v387 : BitVec 32 := Scalar.addi v382 v386
  let c1_i32_154 : BitVec 32 := 1#32
  ⟨v382, v387, c1_i32_154⟩
def k0_mult2 (i : grid0.Coords) (k0_t1 : Fin (k0_t1_loop i).trips) : BitVec 32 :=
  let arg1 : BitVec 32 := BitVec.ofNat 32 (i 1).val
  let c1_i32 : BitVec 32 := 1#32
  let v382 : BitVec 32 := Scalar.addi arg1 c1_i32
  let c1_i32_154 : BitVec 32 := 1#32
  let arg13 : BitVec 32 := Scf.iv v382 c1_i32_154 k0_t1
  let c256_i32_356 : BitVec 32 := 256#32
  let v696 : BitVec 32 := Scalar.muli arg13 c256_i32_356
  v696
def k0_off17 (i : grid0.Coords) (k0_t1 : Fin (k0_t1_loop i).trips) : Fin 2 → Nat :=
  let arg1 : BitVec 32 := BitVec.ofNat 32 (i 1).val
  let c1_i32 : BitVec 32 := 1#32
  let v382 : BitVec 32 := Scalar.addi arg1 c1_i32
  let c1_i32_154 : BitVec 32 := 1#32
  let arg13 : BitVec 32 := Scf.iv v382 c1_i32_154 k0_t1
  let c256_i32_356 : BitVec 32 := 256#32
  let v696 : BitVec 32 := Scalar.muli arg13 c256_i32_356
  let v697 : BitVec 32 := v696
  let v698 : Index := Scalar.indexCast v697
  let c0_357 : Index := 0#32
  ![v698.toNat, 0]
def k0_off18 (i : grid0.Coords) (k0_t1 : Fin (k0_t1_loop i).trips) : Fin 2 → Nat :=
  let arg1 : BitVec 32 := BitVec.ofNat 32 (i 1).val
  let c1_i32 : BitVec 32 := 1#32
  let v382 : BitVec 32 := Scalar.addi arg1 c1_i32
  let c1_i32_154 : BitVec 32 := 1#32
  let arg13 : BitVec 32 := Scf.iv v382 c1_i32_154 k0_t1
  let c256_i32_356 : BitVec 32 := 256#32
  let v696 : BitVec 32 := Scalar.muli arg13 c256_i32_356
  let v697 : BitVec 32 := v696
  let v701 : Index := Scalar.indexCast v697
  let c128_358 : Index := 128#32
  ![v701.toNat, 128]
def k0_off19 (i : grid0.Coords) (k0_t1 : Fin (k0_t1_loop i).trips) : Fin 2 → Nat :=
  let arg1 : BitVec 32 := BitVec.ofNat 32 (i 1).val
  let c1_i32 : BitVec 32 := 1#32
  let v382 : BitVec 32 := Scalar.addi arg1 c1_i32
  let c1_i32_154 : BitVec 32 := 1#32
  let arg13 : BitVec 32 := Scf.iv v382 c1_i32_154 k0_t1
  let c256_i32_356 : BitVec 32 := 256#32
  let v696 : BitVec 32 := Scalar.muli arg13 c256_i32_356
  let v697 : BitVec 32 := v696
  let v704 : Index := Scalar.indexCast v697
  let c256_359 : Index := 256#32
  ![v704.toNat, 256]
def k0_off20 (i : grid0.Coords) (k0_t1 : Fin (k0_t1_loop i).trips) : Fin 2 → Nat :=
  let arg1 : BitVec 32 := BitVec.ofNat 32 (i 1).val
  let c1_i32 : BitVec 32 := 1#32
  let v382 : BitVec 32 := Scalar.addi arg1 c1_i32
  let c1_i32_154 : BitVec 32 := 1#32
  let arg13 : BitVec 32 := Scf.iv v382 c1_i32_154 k0_t1
  let c256_i32_356 : BitVec 32 := 256#32
  let v696 : BitVec 32 := Scalar.muli arg13 c256_i32_356
  let v697 : BitVec 32 := v696
  let v707 : Index := Scalar.indexCast v697
  let c384_360 : Index := 384#32
  ![v707.toNat, 384]
def k0_off21 (i : grid0.Coords) (k0_t1 : Fin (k0_t1_loop i).trips) : Fin 2 → Nat :=
  let arg1 : BitVec 32 := BitVec.ofNat 32 (i 1).val
  let c1_i32 : BitVec 32 := 1#32
  let v382 : BitVec 32 := Scalar.addi arg1 c1_i32
  let c1_i32_154 : BitVec 32 := 1#32
  let arg13 : BitVec 32 := Scf.iv v382 c1_i32_154 k0_t1
  let c256_i32_356 : BitVec 32 := 256#32
  let v696 : BitVec 32 := Scalar.muli arg13 c256_i32_356
  let v697 : BitVec 32 := v696
  let v710 : Index := Scalar.indexCast v697
  let c512_361 : Index := 512#32
  ![v710.toNat, 512]
def k0_off22 (i : grid0.Coords) (k0_t1 : Fin (k0_t1_loop i).trips) : Fin 2 → Nat :=
  let arg1 : BitVec 32 := BitVec.ofNat 32 (i 1).val
  let c1_i32 : BitVec 32 := 1#32
  let v382 : BitVec 32 := Scalar.addi arg1 c1_i32
  let c1_i32_154 : BitVec 32 := 1#32
  let arg13 : BitVec 32 := Scf.iv v382 c1_i32_154 k0_t1
  let c256_i32_356 : BitVec 32 := 256#32
  let v696 : BitVec 32 := Scalar.muli arg13 c256_i32_356
  let v697 : BitVec 32 := v696
  let v713 : Index := Scalar.indexCast v697
  let c640_362 : Index := 640#32
  ![v713.toNat, 640]
def k0_off23 (i : grid0.Coords) (k0_t1 : Fin (k0_t1_loop i).trips) : Fin 2 → Nat :=
  let arg1 : BitVec 32 := BitVec.ofNat 32 (i 1).val
  let c1_i32 : BitVec 32 := 1#32
  let v382 : BitVec 32 := Scalar.addi arg1 c1_i32
  let c1_i32_154 : BitVec 32 := 1#32
  let arg13 : BitVec 32 := Scf.iv v382 c1_i32_154 k0_t1
  let c256_i32_356 : BitVec 32 := 256#32
  let v696 : BitVec 32 := Scalar.muli arg13 c256_i32_356
  let v697 : BitVec 32 := v696
  let v716 : Index := Scalar.indexCast v697
  let c768_363 : Index := 768#32
  ![v716.toNat, 768]
def k0_off24 (i : grid0.Coords) (k0_t1 : Fin (k0_t1_loop i).trips) : Fin 2 → Nat :=
  let arg1 : BitVec 32 := BitVec.ofNat 32 (i 1).val
  let c1_i32 : BitVec 32 := 1#32
  let v382 : BitVec 32 := Scalar.addi arg1 c1_i32
  let c1_i32_154 : BitVec 32 := 1#32
  let arg13 : BitVec 32 := Scf.iv v382 c1_i32_154 k0_t1
  let c256_i32_356 : BitVec 32 := 256#32
  let v696 : BitVec 32 := Scalar.muli arg13 c256_i32_356
  let v697 : BitVec 32 := v696
  let v719 : Index := Scalar.indexCast v697
  let c896_364 : Index := 896#32
  ![v719.toNat, 896]
def k0_off25 (i : grid0.Coords) (k0_t1 : Fin (k0_t1_loop i).trips) : Fin 4 → Nat :=
  let c0_389 : Index := 0#32
  let arg1 : BitVec 32 := BitVec.ofNat 32 (i 1).val
  let c1_i32 : BitVec 32 := 1#32
  let v382 : BitVec 32 := Scalar.addi arg1 c1_i32
  let c1_i32_154 : BitVec 32 := 1#32
  let arg13 : BitVec 32 := Scf.iv v382 c1_i32_154 k0_t1
  let v762 : Index := Scalar.indexCast arg13
  let c0_390 : Index := 0#32
  let c0_391 : Index := 0#32
  ![0, v762.toNat, 0, 0]
def k0_off26 (i : grid0.Coords) (k0_t1 : Fin (k0_t1_loop i).trips) : Fin 4 → Nat :=
  let c1_395 : Index := 1#32
  let arg1 : BitVec 32 := BitVec.ofNat 32 (i 1).val
  let c1_i32 : BitVec 32 := 1#32
  let v382 : BitVec 32 := Scalar.addi arg1 c1_i32
  let c1_i32_154 : BitVec 32 := 1#32
  let arg13 : BitVec 32 := Scf.iv v382 c1_i32_154 k0_t1
  let v776 : Index := Scalar.indexCast arg13
  let c0_396 : Index := 0#32
  let c0_397 : Index := 0#32
  ![1, v776.toNat, 0, 0]
def k0_off27 (i : grid0.Coords) (k0_t1 : Fin (k0_t1_loop i).trips) : Fin 4 → Nat :=
  let c2_401 : Index := 2#32
  let arg1 : BitVec 32 := BitVec.ofNat 32 (i 1).val
  let c1_i32 : BitVec 32 := 1#32
  let v382 : BitVec 32 := Scalar.addi arg1 c1_i32
  let c1_i32_154 : BitVec 32 := 1#32
  let arg13 : BitVec 32 := Scf.iv v382 c1_i32_154 k0_t1
  let v790 : Index := Scalar.indexCast arg13
  let c0_402 : Index := 0#32
  let c0_403 : Index := 0#32
  ![2, v790.toNat, 0, 0]
def k0_off28 (i : grid0.Coords) (k0_t1 : Fin (k0_t1_loop i).trips) : Fin 4 → Nat :=
  let c3_407 : Index := 3#32
  let arg1 : BitVec 32 := BitVec.ofNat 32 (i 1).val
  let c1_i32 : BitVec 32 := 1#32
  let v382 : BitVec 32 := Scalar.addi arg1 c1_i32
  let c1_i32_154 : BitVec 32 := 1#32
  let arg13 : BitVec 32 := Scf.iv v382 c1_i32_154 k0_t1
  let v804 : Index := Scalar.indexCast arg13
  let c0_408 : Index := 0#32
  let c0_409 : Index := 0#32
  ![3, v804.toNat, 0, 0]
def k0_off29 (i : grid0.Coords) (k0_t1 : Fin (k0_t1_loop i).trips) : Fin 4 → Nat :=
  let c4_413 : Index := 4#32
  let arg1 : BitVec 32 := BitVec.ofNat 32 (i 1).val
  let c1_i32 : BitVec 32 := 1#32
  let v382 : BitVec 32 := Scalar.addi arg1 c1_i32
  let c1_i32_154 : BitVec 32 := 1#32
  let arg13 : BitVec 32 := Scf.iv v382 c1_i32_154 k0_t1
  let v818 : Index := Scalar.indexCast arg13
  let c0_414 : Index := 0#32
  let c0_415 : Index := 0#32
  ![4, v818.toNat, 0, 0]
def k0_off30 (i : grid0.Coords) (k0_t1 : Fin (k0_t1_loop i).trips) : Fin 4 → Nat :=
  let c5_419 : Index := 5#32
  let arg1 : BitVec 32 := BitVec.ofNat 32 (i 1).val
  let c1_i32 : BitVec 32 := 1#32
  let v382 : BitVec 32 := Scalar.addi arg1 c1_i32
  let c1_i32_154 : BitVec 32 := 1#32
  let arg13 : BitVec 32 := Scf.iv v382 c1_i32_154 k0_t1
  let v832 : Index := Scalar.indexCast arg13
  let c0_420 : Index := 0#32
  let c0_421 : Index := 0#32
  ![5, v832.toNat, 0, 0]
def k0_off31 (i : grid0.Coords) (k0_t1 : Fin (k0_t1_loop i).trips) : Fin 4 → Nat :=
  let c6_425 : Index := 6#32
  let arg1 : BitVec 32 := BitVec.ofNat 32 (i 1).val
  let c1_i32 : BitVec 32 := 1#32
  let v382 : BitVec 32 := Scalar.addi arg1 c1_i32
  let c1_i32_154 : BitVec 32 := 1#32
  let arg13 : BitVec 32 := Scf.iv v382 c1_i32_154 k0_t1
  let v846 : Index := Scalar.indexCast arg13
  let c0_426 : Index := 0#32
  let c0_427 : Index := 0#32
  ![6, v846.toNat, 0, 0]
def k0_off32 (i : grid0.Coords) (k0_t1 : Fin (k0_t1_loop i).trips) : Fin 4 → Nat :=
  let c7_431 : Index := 7#32
  let arg1 : BitVec 32 := BitVec.ofNat 32 (i 1).val
  let c1_i32 : BitVec 32 := 1#32
  let v382 : BitVec 32 := Scalar.addi arg1 c1_i32
  let c1_i32_154 : BitVec 32 := 1#32
  let arg13 : BitVec 32 := Scf.iv v382 c1_i32_154 k0_t1
  let v860 : Index := Scalar.indexCast arg13
  let c0_432 : Index := 0#32
  let c0_433 : Index := 0#32
  ![7, v860.toNat, 0, 0]
@[reducible] def k0_t2_loop (i : grid0.Coords) : Scf.Loop 32 :=
  let arg1 : BitVec 32 := BitVec.ofNat 32 (i 1).val
  let c1_i32 : BitVec 32 := 1#32
  let v382 : BitVec 32 := Scalar.addi arg1 c1_i32
  let c16_i32 : BitVec 32 := 16#32
  let v383 : BitVec 32 := Scalar.subi c16_i32 v382
  let c1_i32_153 : BitVec 32 := 1#32
  let v385 : BitVec 32 := Scalar.divsi v383 c1_i32_153
  let v386 : BitVec 32 := Scalar.muli v385 c1_i32_153
  let v387 : BitVec 32 := Scalar.addi v382 v386
  let v384 : BitVec 32 := Scalar.addi v382 v383
  let c1_i32_155 : BitVec 32 := 1#32
  ⟨v387, v384, c1_i32_155⟩
def k0_mult3 (i : grid0.Coords) (k0_t2 : Fin (k0_t2_loop i).trips) : BitVec 32 :=
  let arg1 : BitVec 32 := BitVec.ofNat 32 (i 1).val
  let c1_i32 : BitVec 32 := 1#32
  let v382 : BitVec 32 := Scalar.addi arg1 c1_i32
  let c16_i32 : BitVec 32 := 16#32
  let v383 : BitVec 32 := Scalar.subi c16_i32 v382
  let c1_i32_153 : BitVec 32 := 1#32
  let v385 : BitVec 32 := Scalar.divsi v383 c1_i32_153
  let v386 : BitVec 32 := Scalar.muli v385 c1_i32_153
  let v387 : BitVec 32 := Scalar.addi v382 v386
  let c1_i32_155 : BitVec 32 := 1#32
  let arg13 : BitVec 32 := Scf.iv v387 c1_i32_155 k0_t2
  let c256_i32_356 : BitVec 32 := 256#32
  let v696 : BitVec 32 := Scalar.muli arg13 c256_i32_356
  v696
def k0_off33 (i : grid0.Coords) (k0_t2 : Fin (k0_t2_loop i).trips) : Fin 2 → Nat :=
  let arg1 : BitVec 32 := BitVec.ofNat 32 (i 1).val
  let c1_i32 : BitVec 32 := 1#32
  let v382 : BitVec 32 := Scalar.addi arg1 c1_i32
  let c16_i32 : BitVec 32 := 16#32
  let v383 : BitVec 32 := Scalar.subi c16_i32 v382
  let c1_i32_153 : BitVec 32 := 1#32
  let v385 : BitVec 32 := Scalar.divsi v383 c1_i32_153
  let v386 : BitVec 32 := Scalar.muli v385 c1_i32_153
  let v387 : BitVec 32 := Scalar.addi v382 v386
  let c1_i32_155 : BitVec 32 := 1#32
  let arg13 : BitVec 32 := Scf.iv v387 c1_i32_155 k0_t2
  let c256_i32_356 : BitVec 32 := 256#32
  let v696 : BitVec 32 := Scalar.muli arg13 c256_i32_356
  let v697 : BitVec 32 := v696
  let v698 : Index := Scalar.indexCast v697
  let c0_357 : Index := 0#32
  ![v698.toNat, 0]
def k0_off34 (i : grid0.Coords) (k0_t2 : Fin (k0_t2_loop i).trips) : Fin 2 → Nat :=
  let arg1 : BitVec 32 := BitVec.ofNat 32 (i 1).val
  let c1_i32 : BitVec 32 := 1#32
  let v382 : BitVec 32 := Scalar.addi arg1 c1_i32
  let c16_i32 : BitVec 32 := 16#32
  let v383 : BitVec 32 := Scalar.subi c16_i32 v382
  let c1_i32_153 : BitVec 32 := 1#32
  let v385 : BitVec 32 := Scalar.divsi v383 c1_i32_153
  let v386 : BitVec 32 := Scalar.muli v385 c1_i32_153
  let v387 : BitVec 32 := Scalar.addi v382 v386
  let c1_i32_155 : BitVec 32 := 1#32
  let arg13 : BitVec 32 := Scf.iv v387 c1_i32_155 k0_t2
  let c256_i32_356 : BitVec 32 := 256#32
  let v696 : BitVec 32 := Scalar.muli arg13 c256_i32_356
  let v697 : BitVec 32 := v696
  let v701 : Index := Scalar.indexCast v697
  let c128_358 : Index := 128#32
  ![v701.toNat, 128]
def k0_off35 (i : grid0.Coords) (k0_t2 : Fin (k0_t2_loop i).trips) : Fin 2 → Nat :=
  let arg1 : BitVec 32 := BitVec.ofNat 32 (i 1).val
  let c1_i32 : BitVec 32 := 1#32
  let v382 : BitVec 32 := Scalar.addi arg1 c1_i32
  let c16_i32 : BitVec 32 := 16#32
  let v383 : BitVec 32 := Scalar.subi c16_i32 v382
  let c1_i32_153 : BitVec 32 := 1#32
  let v385 : BitVec 32 := Scalar.divsi v383 c1_i32_153
  let v386 : BitVec 32 := Scalar.muli v385 c1_i32_153
  let v387 : BitVec 32 := Scalar.addi v382 v386
  let c1_i32_155 : BitVec 32 := 1#32
  let arg13 : BitVec 32 := Scf.iv v387 c1_i32_155 k0_t2
  let c256_i32_356 : BitVec 32 := 256#32
  let v696 : BitVec 32 := Scalar.muli arg13 c256_i32_356
  let v697 : BitVec 32 := v696
  let v704 : Index := Scalar.indexCast v697
  let c256_359 : Index := 256#32
  ![v704.toNat, 256]
def k0_off36 (i : grid0.Coords) (k0_t2 : Fin (k0_t2_loop i).trips) : Fin 2 → Nat :=
  let arg1 : BitVec 32 := BitVec.ofNat 32 (i 1).val
  let c1_i32 : BitVec 32 := 1#32
  let v382 : BitVec 32 := Scalar.addi arg1 c1_i32
  let c16_i32 : BitVec 32 := 16#32
  let v383 : BitVec 32 := Scalar.subi c16_i32 v382
  let c1_i32_153 : BitVec 32 := 1#32
  let v385 : BitVec 32 := Scalar.divsi v383 c1_i32_153
  let v386 : BitVec 32 := Scalar.muli v385 c1_i32_153
  let v387 : BitVec 32 := Scalar.addi v382 v386
  let c1_i32_155 : BitVec 32 := 1#32
  let arg13 : BitVec 32 := Scf.iv v387 c1_i32_155 k0_t2
  let c256_i32_356 : BitVec 32 := 256#32
  let v696 : BitVec 32 := Scalar.muli arg13 c256_i32_356
  let v697 : BitVec 32 := v696
  let v707 : Index := Scalar.indexCast v697
  let c384_360 : Index := 384#32
  ![v707.toNat, 384]
def k0_off37 (i : grid0.Coords) (k0_t2 : Fin (k0_t2_loop i).trips) : Fin 2 → Nat :=
  let arg1 : BitVec 32 := BitVec.ofNat 32 (i 1).val
  let c1_i32 : BitVec 32 := 1#32
  let v382 : BitVec 32 := Scalar.addi arg1 c1_i32
  let c16_i32 : BitVec 32 := 16#32
  let v383 : BitVec 32 := Scalar.subi c16_i32 v382
  let c1_i32_153 : BitVec 32 := 1#32
  let v385 : BitVec 32 := Scalar.divsi v383 c1_i32_153
  let v386 : BitVec 32 := Scalar.muli v385 c1_i32_153
  let v387 : BitVec 32 := Scalar.addi v382 v386
  let c1_i32_155 : BitVec 32 := 1#32
  let arg13 : BitVec 32 := Scf.iv v387 c1_i32_155 k0_t2
  let c256_i32_356 : BitVec 32 := 256#32
  let v696 : BitVec 32 := Scalar.muli arg13 c256_i32_356
  let v697 : BitVec 32 := v696
  let v710 : Index := Scalar.indexCast v697
  let c512_361 : Index := 512#32
  ![v710.toNat, 512]
def k0_off38 (i : grid0.Coords) (k0_t2 : Fin (k0_t2_loop i).trips) : Fin 2 → Nat :=
  let arg1 : BitVec 32 := BitVec.ofNat 32 (i 1).val
  let c1_i32 : BitVec 32 := 1#32
  let v382 : BitVec 32 := Scalar.addi arg1 c1_i32
  let c16_i32 : BitVec 32 := 16#32
  let v383 : BitVec 32 := Scalar.subi c16_i32 v382
  let c1_i32_153 : BitVec 32 := 1#32
  let v385 : BitVec 32 := Scalar.divsi v383 c1_i32_153
  let v386 : BitVec 32 := Scalar.muli v385 c1_i32_153
  let v387 : BitVec 32 := Scalar.addi v382 v386
  let c1_i32_155 : BitVec 32 := 1#32
  let arg13 : BitVec 32 := Scf.iv v387 c1_i32_155 k0_t2
  let c256_i32_356 : BitVec 32 := 256#32
  let v696 : BitVec 32 := Scalar.muli arg13 c256_i32_356
  let v697 : BitVec 32 := v696
  let v713 : Index := Scalar.indexCast v697
  let c640_362 : Index := 640#32
  ![v713.toNat, 640]
def k0_off39 (i : grid0.Coords) (k0_t2 : Fin (k0_t2_loop i).trips) : Fin 2 → Nat :=
  let arg1 : BitVec 32 := BitVec.ofNat 32 (i 1).val
  let c1_i32 : BitVec 32 := 1#32
  let v382 : BitVec 32 := Scalar.addi arg1 c1_i32
  let c16_i32 : BitVec 32 := 16#32
  let v383 : BitVec 32 := Scalar.subi c16_i32 v382
  let c1_i32_153 : BitVec 32 := 1#32
  let v385 : BitVec 32 := Scalar.divsi v383 c1_i32_153
  let v386 : BitVec 32 := Scalar.muli v385 c1_i32_153
  let v387 : BitVec 32 := Scalar.addi v382 v386
  let c1_i32_155 : BitVec 32 := 1#32
  let arg13 : BitVec 32 := Scf.iv v387 c1_i32_155 k0_t2
  let c256_i32_356 : BitVec 32 := 256#32
  let v696 : BitVec 32 := Scalar.muli arg13 c256_i32_356
  let v697 : BitVec 32 := v696
  let v716 : Index := Scalar.indexCast v697
  let c768_363 : Index := 768#32
  ![v716.toNat, 768]
def k0_off40 (i : grid0.Coords) (k0_t2 : Fin (k0_t2_loop i).trips) : Fin 2 → Nat :=
  let arg1 : BitVec 32 := BitVec.ofNat 32 (i 1).val
  let c1_i32 : BitVec 32 := 1#32
  let v382 : BitVec 32 := Scalar.addi arg1 c1_i32
  let c16_i32 : BitVec 32 := 16#32
  let v383 : BitVec 32 := Scalar.subi c16_i32 v382
  let c1_i32_153 : BitVec 32 := 1#32
  let v385 : BitVec 32 := Scalar.divsi v383 c1_i32_153
  let v386 : BitVec 32 := Scalar.muli v385 c1_i32_153
  let v387 : BitVec 32 := Scalar.addi v382 v386
  let c1_i32_155 : BitVec 32 := 1#32
  let arg13 : BitVec 32 := Scf.iv v387 c1_i32_155 k0_t2
  let c256_i32_356 : BitVec 32 := 256#32
  let v696 : BitVec 32 := Scalar.muli arg13 c256_i32_356
  let v697 : BitVec 32 := v696
  let v719 : Index := Scalar.indexCast v697
  let c896_364 : Index := 896#32
  ![v719.toNat, 896]
def k0_off41 (i : grid0.Coords) (k0_t2 : Fin (k0_t2_loop i).trips) : Fin 4 → Nat :=
  let c0_389 : Index := 0#32
  let arg1 : BitVec 32 := BitVec.ofNat 32 (i 1).val
  let c1_i32 : BitVec 32 := 1#32
  let v382 : BitVec 32 := Scalar.addi arg1 c1_i32
  let c16_i32 : BitVec 32 := 16#32
  let v383 : BitVec 32 := Scalar.subi c16_i32 v382
  let c1_i32_153 : BitVec 32 := 1#32
  let v385 : BitVec 32 := Scalar.divsi v383 c1_i32_153
  let v386 : BitVec 32 := Scalar.muli v385 c1_i32_153
  let v387 : BitVec 32 := Scalar.addi v382 v386
  let c1_i32_155 : BitVec 32 := 1#32
  let arg13 : BitVec 32 := Scf.iv v387 c1_i32_155 k0_t2
  let v762 : Index := Scalar.indexCast arg13
  let c0_390 : Index := 0#32
  let c0_391 : Index := 0#32
  ![0, v762.toNat, 0, 0]
def k0_off42 (i : grid0.Coords) (k0_t2 : Fin (k0_t2_loop i).trips) : Fin 4 → Nat :=
  let c1_395 : Index := 1#32
  let arg1 : BitVec 32 := BitVec.ofNat 32 (i 1).val
  let c1_i32 : BitVec 32 := 1#32
  let v382 : BitVec 32 := Scalar.addi arg1 c1_i32
  let c16_i32 : BitVec 32 := 16#32
  let v383 : BitVec 32 := Scalar.subi c16_i32 v382
  let c1_i32_153 : BitVec 32 := 1#32
  let v385 : BitVec 32 := Scalar.divsi v383 c1_i32_153
  let v386 : BitVec 32 := Scalar.muli v385 c1_i32_153
  let v387 : BitVec 32 := Scalar.addi v382 v386
  let c1_i32_155 : BitVec 32 := 1#32
  let arg13 : BitVec 32 := Scf.iv v387 c1_i32_155 k0_t2
  let v776 : Index := Scalar.indexCast arg13
  let c0_396 : Index := 0#32
  let c0_397 : Index := 0#32
  ![1, v776.toNat, 0, 0]
def k0_off43 (i : grid0.Coords) (k0_t2 : Fin (k0_t2_loop i).trips) : Fin 4 → Nat :=
  let c2_401 : Index := 2#32
  let arg1 : BitVec 32 := BitVec.ofNat 32 (i 1).val
  let c1_i32 : BitVec 32 := 1#32
  let v382 : BitVec 32 := Scalar.addi arg1 c1_i32
  let c16_i32 : BitVec 32 := 16#32
  let v383 : BitVec 32 := Scalar.subi c16_i32 v382
  let c1_i32_153 : BitVec 32 := 1#32
  let v385 : BitVec 32 := Scalar.divsi v383 c1_i32_153
  let v386 : BitVec 32 := Scalar.muli v385 c1_i32_153
  let v387 : BitVec 32 := Scalar.addi v382 v386
  let c1_i32_155 : BitVec 32 := 1#32
  let arg13 : BitVec 32 := Scf.iv v387 c1_i32_155 k0_t2
  let v790 : Index := Scalar.indexCast arg13
  let c0_402 : Index := 0#32
  let c0_403 : Index := 0#32
  ![2, v790.toNat, 0, 0]
def k0_off44 (i : grid0.Coords) (k0_t2 : Fin (k0_t2_loop i).trips) : Fin 4 → Nat :=
  let c3_407 : Index := 3#32
  let arg1 : BitVec 32 := BitVec.ofNat 32 (i 1).val
  let c1_i32 : BitVec 32 := 1#32
  let v382 : BitVec 32 := Scalar.addi arg1 c1_i32
  let c16_i32 : BitVec 32 := 16#32
  let v383 : BitVec 32 := Scalar.subi c16_i32 v382
  let c1_i32_153 : BitVec 32 := 1#32
  let v385 : BitVec 32 := Scalar.divsi v383 c1_i32_153
  let v386 : BitVec 32 := Scalar.muli v385 c1_i32_153
  let v387 : BitVec 32 := Scalar.addi v382 v386
  let c1_i32_155 : BitVec 32 := 1#32
  let arg13 : BitVec 32 := Scf.iv v387 c1_i32_155 k0_t2
  let v804 : Index := Scalar.indexCast arg13
  let c0_408 : Index := 0#32
  let c0_409 : Index := 0#32
  ![3, v804.toNat, 0, 0]
def k0_off45 (i : grid0.Coords) (k0_t2 : Fin (k0_t2_loop i).trips) : Fin 4 → Nat :=
  let c4_413 : Index := 4#32
  let arg1 : BitVec 32 := BitVec.ofNat 32 (i 1).val
  let c1_i32 : BitVec 32 := 1#32
  let v382 : BitVec 32 := Scalar.addi arg1 c1_i32
  let c16_i32 : BitVec 32 := 16#32
  let v383 : BitVec 32 := Scalar.subi c16_i32 v382
  let c1_i32_153 : BitVec 32 := 1#32
  let v385 : BitVec 32 := Scalar.divsi v383 c1_i32_153
  let v386 : BitVec 32 := Scalar.muli v385 c1_i32_153
  let v387 : BitVec 32 := Scalar.addi v382 v386
  let c1_i32_155 : BitVec 32 := 1#32
  let arg13 : BitVec 32 := Scf.iv v387 c1_i32_155 k0_t2
  let v818 : Index := Scalar.indexCast arg13
  let c0_414 : Index := 0#32
  let c0_415 : Index := 0#32
  ![4, v818.toNat, 0, 0]
def k0_off46 (i : grid0.Coords) (k0_t2 : Fin (k0_t2_loop i).trips) : Fin 4 → Nat :=
  let c5_419 : Index := 5#32
  let arg1 : BitVec 32 := BitVec.ofNat 32 (i 1).val
  let c1_i32 : BitVec 32 := 1#32
  let v382 : BitVec 32 := Scalar.addi arg1 c1_i32
  let c16_i32 : BitVec 32 := 16#32
  let v383 : BitVec 32 := Scalar.subi c16_i32 v382
  let c1_i32_153 : BitVec 32 := 1#32
  let v385 : BitVec 32 := Scalar.divsi v383 c1_i32_153
  let v386 : BitVec 32 := Scalar.muli v385 c1_i32_153
  let v387 : BitVec 32 := Scalar.addi v382 v386
  let c1_i32_155 : BitVec 32 := 1#32
  let arg13 : BitVec 32 := Scf.iv v387 c1_i32_155 k0_t2
  let v832 : Index := Scalar.indexCast arg13
  let c0_420 : Index := 0#32
  let c0_421 : Index := 0#32
  ![5, v832.toNat, 0, 0]
def k0_off47 (i : grid0.Coords) (k0_t2 : Fin (k0_t2_loop i).trips) : Fin 4 → Nat :=
  let c6_425 : Index := 6#32
  let arg1 : BitVec 32 := BitVec.ofNat 32 (i 1).val
  let c1_i32 : BitVec 32 := 1#32
  let v382 : BitVec 32 := Scalar.addi arg1 c1_i32
  let c16_i32 : BitVec 32 := 16#32
  let v383 : BitVec 32 := Scalar.subi c16_i32 v382
  let c1_i32_153 : BitVec 32 := 1#32
  let v385 : BitVec 32 := Scalar.divsi v383 c1_i32_153
  let v386 : BitVec 32 := Scalar.muli v385 c1_i32_153
  let v387 : BitVec 32 := Scalar.addi v382 v386
  let c1_i32_155 : BitVec 32 := 1#32
  let arg13 : BitVec 32 := Scf.iv v387 c1_i32_155 k0_t2
  let v846 : Index := Scalar.indexCast arg13
  let c0_426 : Index := 0#32
  let c0_427 : Index := 0#32
  ![6, v846.toNat, 0, 0]
def k0_off48 (i : grid0.Coords) (k0_t2 : Fin (k0_t2_loop i).trips) : Fin 4 → Nat :=
  let c7_431 : Index := 7#32
  let arg1 : BitVec 32 := BitVec.ofNat 32 (i 1).val
  let c1_i32 : BitVec 32 := 1#32
  let v382 : BitVec 32 := Scalar.addi arg1 c1_i32
  let c16_i32 : BitVec 32 := 16#32
  let v383 : BitVec 32 := Scalar.subi c16_i32 v382
  let c1_i32_153 : BitVec 32 := 1#32
  let v385 : BitVec 32 := Scalar.divsi v383 c1_i32_153
  let v386 : BitVec 32 := Scalar.muli v385 c1_i32_153
  let v387 : BitVec 32 := Scalar.addi v382 v386
  let c1_i32_155 : BitVec 32 := 1#32
  let arg13 : BitVec 32 := Scf.iv v387 c1_i32_155 k0_t2
  let v860 : Index := Scalar.indexCast arg13
  let c0_432 : Index := 0#32
  let c0_433 : Index := 0#32
  ![7, v860.toNat, 0, 0]
def k0_mult4 (i : grid0.Coords) : BitVec 32 :=
  let arg1 : BitVec 32 := BitVec.ofNat 32 (i 1).val
  let c256_i32_156 : BitVec 32 := 256#32
  let v390 : BitVec 32 := Scalar.muli arg1 c256_i32_156
  v390
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S8x16x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x16x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F] [Named F]
def κ : String → Option EReal := fun
  | "ln2" => some ((Real.log 2 : ℝ) : EReal)
  | "mask" => some ⊥
  | _ => none
-- ==== ReferenceIdeal.lean ====
abbrev S4096x16x96 : Shape := ⟨3, ![4096, 16, 96]⟩
abbrev S4096x16x64 : Shape := ⟨3, ![4096, 16, 64]⟩
abbrev S4096 : Shape := ⟨1, ![4096]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S4096x1x16 : Shape := ⟨3, ![4096, 1, 16]⟩
abbrev S4096x16x32 : Shape := ⟨3, ![4096, 16, 32]⟩
abbrev S4096x16x16 : Shape := ⟨3, ![4096, 16, 16]⟩
abbrev S1x4096 : Shape := ⟨2, ![1, 4096]⟩
abbrev S4096x4096 : Shape := ⟨2, ![4096, 4096]⟩
abbrev S16x4096x4096 : Shape := ⟨3, ![16, 4096, 4096]⟩
abbrev S1x4096x4096 : Shape := ⟨3, ![1, 4096, 4096]⟩
abbrev S16x4096 : Shape := ⟨2, ![16, 4096]⟩
abbrev S16x4096x1 : Shape := ⟨3, ![16, 4096, 1]⟩
abbrev S16x64x4096 : Shape := ⟨3, ![16, 64, 4096]⟩
abbrev S16x4096x96 : Shape := ⟨3, ![16, 4096, 96]⟩
abbrev S4096x16x128 : Shape := ⟨3, ![4096, 16, 128]⟩
abbrev S4096x2048 : Shape := ⟨2, ![4096, 2048]⟩
abbrev S4096x16x256 : Shape := ⟨3, ![4096, 16, 256]⟩

abbrev nBuf : Space → Nat
  | .hbm => 229
  | .vmem => 0
  | .smem => 0
  | _ => 0

abbrev hbmTy0_0 (i : Nat) : BufTy := match i % 128 with
  | 0 => ⟨S4096x16x96, .f32⟩
  | 1 => ⟨S4096x16x96, .f32⟩
  | 2 => ⟨S4096x16x64, .f32⟩
  | 3 => ⟨S4096, .i32⟩
  | 4 => ⟨S4096x16x64, .f32⟩
  | 5 => ⟨S16, .f32⟩
  | 6 => ⟨S_, .f32⟩
  | 7 => ⟨S16, .f32⟩
  | 8 => ⟨S16, .f32⟩
  | 9 => ⟨S_, .f32⟩
  | 10 => ⟨S16, .f32⟩
  | 11 => ⟨S16, .f32⟩
  | 12 => ⟨S16, .f32⟩
  | 13 => ⟨S_, .f32⟩
  | 14 => ⟨S16, .f32⟩
  | 15 => ⟨S16, .f32⟩
  | 16 => ⟨S_, .f32⟩
  | 17 => ⟨S16, .f32⟩
  | 18 => ⟨S16, .f32⟩
  | 19 => ⟨S4096, .f32⟩
  | 20 => ⟨S4096x1, .f32⟩
  | 21 => ⟨S1x16, .f32⟩
  | 22 => ⟨S4096x16, .f32⟩
  | 23 => ⟨S4096x16, .f32⟩
  | 24 => ⟨S4096x16, .f32⟩
  | 25 => ⟨S4096x16, .f32⟩
  | 26 => ⟨S4096x16, .f32⟩
  | 27 => ⟨S4096x1x16, .f32⟩
  | 28 => ⟨S4096x1x16, .f32⟩
  | 29 => ⟨S4096x16x64, .f32⟩
  | 30 => ⟨S4096x16x32, .f32⟩
  | 31 => ⟨S4096x16x16, .f32⟩
  | 32 => ⟨S4096x16x16, .f32⟩
  | 33 => ⟨S4096x16x16, .f32⟩
  | 34 => ⟨S4096x16x16, .f32⟩
  | 35 => ⟨S4096x16x16, .f32⟩
  | 36 => ⟨S4096x16x16, .f32⟩
  | 37 => ⟨S4096x16x16, .f32⟩
  | 38 => ⟨S4096x16x16, .f32⟩
  | 39 => ⟨S4096x16x16, .f32⟩
  | 40 => ⟨S4096x16x16, .f32⟩
  | 41 => ⟨S4096x16x16, .f32⟩
  | 42 => ⟨S4096x16x16, .f32⟩
  | 43 => ⟨S4096x16x32, .f32⟩
  | 44 => ⟨S4096x16x96, .f32⟩
  | 45 => ⟨S4096x16x64, .f32⟩
  | 46 => ⟨S4096x16x32, .f32⟩
  | 47 => ⟨S4096x16x16, .f32⟩
  | 48 => ⟨S4096x16x16, .f32⟩
  | 49 => ⟨S4096x16x16, .f32⟩
  | 50 => ⟨S4096x16x16, .f32⟩
  | 51 => ⟨S4096x16x16, .f32⟩
  | 52 => ⟨S4096x16x16, .f32⟩
  | 53 => ⟨S4096x16x16, .f32⟩
  | 54 => ⟨S4096x16x16, .f32⟩
  | 55 => ⟨S4096x16x16, .f32⟩
  | 56 => ⟨S4096x16x16, .f32⟩
  | 57 => ⟨S4096x16x16, .f32⟩
  | 58 => ⟨S4096x16x16, .f32⟩
  | 59 => ⟨S4096x16x32, .f32⟩
  | 60 => ⟨S4096x16x96, .f32⟩
  | 61 => ⟨S4096, .i32⟩
  | 62 => ⟨S_, .i32⟩
  | 63 => ⟨S_, .i32⟩
  | 64 => ⟨S4096, .i32⟩
  | 65 => ⟨S4096, .i32⟩
  | 66 => ⟨S4096, .i32⟩
  | 67 => ⟨S_, .i32⟩
  | 68 => ⟨S4096, .i32⟩
  | 69 => ⟨S4096, .i1⟩
  | 70 => ⟨S4096, .i32⟩
  | 71 => ⟨S4096, .i32⟩
  | 72 => ⟨S_, .i32⟩
  | 73 => ⟨S4096, .i32⟩
  | 74 => ⟨S4096, .i1⟩
  | 75 => ⟨S4096, .i1⟩
  | 76 => ⟨S_, .i32⟩
  | 77 => ⟨S4096, .i32⟩
  | 78 => ⟨S4096, .i32⟩
  | 79 => ⟨S4096, .i32⟩
  | 80 => ⟨S1x4096, .i32⟩
  | 81 => ⟨S4096x1, .i32⟩
  | 82 => ⟨S4096x4096, .i32⟩
  | 83 => ⟨S4096x4096, .i32⟩
  | 84 => ⟨S4096x4096, .i1⟩
  | 85 => ⟨S16x4096x4096, .f32⟩
  | 86 => ⟨S_, .f32⟩
  | 87 => ⟨S16x4096x4096, .f32⟩
  | 88 => ⟨S16x4096x4096, .f32⟩
  | 89 => ⟨S1x4096x4096, .i1⟩
  | 90 => ⟨S_, .f32⟩
  | 91 => ⟨S_, .f32⟩
  | 92 => ⟨S16x4096x4096, .i1⟩
  | 93 => ⟨S16x4096x4096, .f32⟩
  | 94 => ⟨S16x4096x4096, .f32⟩
  | 95 => ⟨S_, .f32⟩
  | 96 => ⟨S16x4096x4096, .f32⟩
  | 97 => ⟨S_, .f32⟩
  | 98 => ⟨S16x4096, .f32⟩
  | 99 => ⟨S16x4096x1, .f32⟩
  | 100 => ⟨S16x4096x4096, .f32⟩
  | 101 => ⟨S16x4096x4096, .i1⟩
  | 102 => ⟨S16x4096x4096, .f32⟩
  | 103 => ⟨S_, .f32⟩
  | 104 => ⟨S16x4096, .f32⟩
  | 105 => ⟨S_, .f32⟩
  | 106 => ⟨S16x4096, .f32⟩
  | 107 => ⟨S16x4096, .f32⟩
  | 108 => ⟨S_, .f32⟩
  | 109 => ⟨S16x4096, .f32⟩
  | 110 => ⟨S16x4096, .i1⟩
  | 111 => ⟨S_, .f32⟩
  | 112 => ⟨S16x4096, .f32⟩
  | 113 => ⟨S16x4096, .i1⟩
  | 114 => ⟨S_, .f32⟩
  | 115 => ⟨S16x4096, .f32⟩
  | 116 => ⟨S_, .f32⟩
  | 117 => ⟨S16x4096, .f32⟩
  | 118 => ⟨S_, .f32⟩
  | 119 => ⟨S16x4096, .f32⟩
  | 120 => ⟨S16x4096, .f32⟩
  | 121 => ⟨S16x4096, .f32⟩
  | 122 => ⟨S16x4096x1, .f32⟩
  | 123 => ⟨S16x4096x4096, .f32⟩
  | 124 => ⟨S16x4096x4096, .f32⟩
  | 125 => ⟨S16x4096x4096, .f32⟩
  | 126 => ⟨S_, .f32⟩
  | 127 => ⟨S16x4096, .f32⟩
  | _ => ⟨S4096x16x96, .f32⟩

abbrev hbmTy0_1 (i : Nat) : BufTy := match i % 128 with
  | 0 => ⟨S16x4096x1, .f32⟩
  | 1 => ⟨S16x4096x4096, .f32⟩
  | 2 => ⟨S16x4096x4096, .f32⟩
  | 3 => ⟨S16x4096x1, .f32⟩
  | 4 => ⟨S_, .f32⟩
  | 5 => ⟨S16x4096x1, .f32⟩
  | 6 => ⟨S16x4096x1, .f32⟩
  | 7 => ⟨S16x64x4096, .f32⟩
  | 8 => ⟨S4096x16x64, .f32⟩
  | 9 => ⟨S16x64x4096, .f32⟩
  | 10 => ⟨S16x4096x4096, .f32⟩
  | 11 => ⟨S16x64x4096, .f32⟩
  | 12 => ⟨S4096x16x64, .f32⟩
  | 13 => ⟨S16x4096x4096, .f32⟩
  | 14 => ⟨S16x4096x4096, .f32⟩
  | 15 => ⟨S16x4096x4096, .f32⟩
  | 16 => ⟨S_, .f32⟩
  | 17 => ⟨S16x4096, .f32⟩
  | 18 => ⟨S16x4096x1, .f32⟩
  | 19 => ⟨S16x4096x1, .f32⟩
  | 20 => ⟨S16x4096x4096, .f32⟩
  | 21 => ⟨S16x4096x4096, .f32⟩
  | 22 => ⟨S_, .f32⟩
  | 23 => ⟨S16x4096, .f32⟩
  | 24 => ⟨S16x4096x4096, .f32⟩
  | 25 => ⟨S16x4096x4096, .f32⟩
  | 26 => ⟨S16x4096x4096, .f32⟩
  | 27 => ⟨S_, .f32⟩
  | 28 => ⟨S16x4096x4096, .f32⟩
  | 29 => ⟨S16x4096x4096, .f32⟩
  | 30 => ⟨S_, .f32⟩
  | 31 => ⟨S16x4096x4096, .f32⟩
  | 32 => ⟨S16x4096x4096, .f32⟩
  | 33 => ⟨S16x4096x96, .f32⟩
  | 34 => ⟨S4096x16x96, .f32⟩
  | 35 => ⟨S16x4096x96, .f32⟩
  | 36 => ⟨S4096x16x96, .f32⟩
  | 37 => ⟨S4096x16x64, .f32⟩
  | 38 => ⟨S4096x16x32, .f32⟩
  | 39 => ⟨S4096x16x16, .f32⟩
  | 40 => ⟨S4096x16x16, .f32⟩
  | 41 => ⟨S4096x16x16, .f32⟩
  | 42 => ⟨S4096x16x16, .f32⟩
  | 43 => ⟨S4096x16x16, .f32⟩
  | 44 => ⟨S4096x16x16, .f32⟩
  | 45 => ⟨S4096x16x16, .f32⟩
  | 46 => ⟨S4096x16x16, .f32⟩
  | 47 => ⟨S4096x16x16, .f32⟩
  | 48 => ⟨S4096x16x16, .f32⟩
  | 49 => ⟨S4096x16x16, .f32⟩
  | 50 => ⟨S4096x16x16, .f32⟩
  | 51 => ⟨S4096x16x16, .f32⟩
  | 52 => ⟨S_, .f32⟩
  | 53 => ⟨S4096x16x32, .f32⟩
  | 54 => ⟨S_, .f32⟩
  | 55 => ⟨S4096x16x32, .f32⟩
  | 56 => ⟨S4096x16x32, .f32⟩
  | 57 => ⟨S_, .f32⟩
  | 58 => ⟨S4096x16x96, .f32⟩
  | 59 => ⟨S_, .f32⟩
  | 60 => ⟨S4096x16x96, .f32⟩
  | 61 => ⟨S4096x16x96, .f32⟩
  | 62 => ⟨S4096x16x64, .f32⟩
  | 63 => ⟨S4096x16x32, .f32⟩
  | 64 => ⟨S4096x16x16, .f32⟩
  | 65 => ⟨S4096x16x16, .f32⟩
  | 66 => ⟨S4096x16x16, .f32⟩
  | 67 => ⟨S4096x16x16, .f32⟩
  | 68 => ⟨S4096x16x16, .f32⟩
  | 69 => ⟨S4096x16x16, .f32⟩
  | 70 => ⟨S4096x16x16, .f32⟩
  | 71 => ⟨S4096x16x16, .f32⟩
  | 72 => ⟨S4096x16x16, .f32⟩
  | 73 => ⟨S4096x16x16, .f32⟩
  | 74 => ⟨S4096x16x16, .f32⟩
  | 75 => ⟨S4096x16x16, .f32⟩
  | 76 => ⟨S4096x16x16, .f32⟩
  | 77 => ⟨S_, .f32⟩
  | 78 => ⟨S4096x16x32, .f32⟩
  | 79 => ⟨S_, .f32⟩
  | 80 => ⟨S4096x16x32, .f32⟩
  | 81 => ⟨S4096x16x32, .f32⟩
  | 82 => ⟨S_, .f32⟩
  | 83 => ⟨S4096x16x96, .f32⟩
  | 84 => ⟨S_, .f32⟩
  | 85 => ⟨S4096x16x96, .f32⟩
  | 86 => ⟨S4096x16x96, .f32⟩
  | 87 => ⟨S_, .i32⟩
  | 88 => ⟨S_, .f32⟩
  | 89 => ⟨S4096x16x128, .f32⟩
  | 90 => ⟨S4096x2048, .f32⟩
  | 91 => ⟨S_, .i32⟩
  | 92 => ⟨S_, .f32⟩
  | 93 => ⟨S4096x16x128, .f32⟩
  | 94 => ⟨S_, .i32⟩
  | 95 => ⟨S_, .f32⟩
  | 96 => ⟨S4096x16x128, .f32⟩
  | 97 => ⟨S4096x16x256, .f32⟩
  | 98 => ⟨S4096x4096, .f32⟩
  | 99 => ⟨S4096x2048, .bf16⟩
  | 100 => ⟨S4096x4096, .bf16⟩
  | _ => ⟨S4096x16x96, .f32⟩

abbrev hbmTy (i : Nat) : BufTy := match i / 128 with
  | 0 => hbmTy0_0 i
  | 1 => hbmTy0_1 i
  | _ => ⟨S4096x16x96, .f32⟩

abbrev bufTy : (tb : Table) → Fin (tcTables nBuf tb) → BufTy
  | .hbm, ⟨i, _⟩ => hbmTy i
  | _, _ => ⟨S4096x16x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_c : Ref sig .tc := ⟨.hbm, 62, rfl⟩
abbrev main_call0_v0 : Ref sig .tc := ⟨.hbm, 63, rfl⟩
abbrev main_call0_v1 : Ref sig .tc := ⟨.hbm, 64, rfl⟩
abbrev main_call0_v2 : Ref sig .tc := ⟨.hbm, 65, rfl⟩
abbrev main_call0_v3 : Ref sig .tc := ⟨.hbm, 66, rfl⟩
abbrev main_call0_v4 : Ref sig .tc := ⟨.hbm, 67, rfl⟩
abbrev main_call0_v5 : Ref sig .tc := ⟨.hbm, 68, rfl⟩
abbrev main_call0_v6 : Ref sig .tc := ⟨.hbm, 69, rfl⟩
abbrev main_call0_v7 : Ref sig .tc := ⟨.hbm, 70, rfl⟩
abbrev main_call0_v8 : Ref sig .tc := ⟨.hbm, 71, rfl⟩
abbrev main_call0_c : Ref sig .tc := ⟨.hbm, 72, rfl⟩
abbrev main_call0_v9 : Ref sig .tc := ⟨.hbm, 73, rfl⟩
abbrev main_call0_v10 : Ref sig .tc := ⟨.hbm, 74, rfl⟩
abbrev main_call0_v11 : Ref sig .tc := ⟨.hbm, 75, rfl⟩
abbrev main_call0_c_0 : Ref sig .tc := ⟨.hbm, 76, rfl⟩
abbrev main_call0_v12 : Ref sig .tc := ⟨.hbm, 77, rfl⟩
abbrev main_call0_v13 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_3 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_4 : Ref sig .tc := ⟨.hbm, 90, rfl⟩
abbrev main_call1_v0 : Ref sig .tc := ⟨.hbm, 91, rfl⟩
abbrev main_v63_1 : Ref sig .tc := ⟨.hbm, 92, rfl⟩
abbrev main_call1_v2 : Ref sig .tc := ⟨.hbm, 93, rfl⟩
abbrev main_v63_0 : Ref sig .tc := ⟨.hbm, 94, rfl⟩
abbrev main_call1_cst : Ref sig .tc := ⟨.hbm, 95, rfl⟩
abbrev main_v63_2 : Ref sig .tc := ⟨.hbm, 96, rfl⟩
abbrev main_cst_5 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_cst_6 : Ref sig .tc := ⟨.hbm, 103, rfl⟩
abbrev main_v69 : Ref sig .tc := ⟨.hbm, 104, rfl⟩
abbrev main_cst_7 : Ref sig .tc := ⟨.hbm, 105, rfl⟩
abbrev main_v70 : Ref sig .tc := ⟨.hbm, 106, rfl⟩
abbrev main_v71 : Ref sig .tc := ⟨.hbm, 107, rfl⟩
abbrev main_cst_8 : Ref sig .tc := ⟨.hbm, 108, rfl⟩
abbrev main_v72 : Ref sig .tc := ⟨.hbm, 109, rfl⟩
abbrev main_v73 : Ref sig .tc := ⟨.hbm, 110, rfl⟩
abbrev main_cst_9 : Ref sig .tc := ⟨.hbm, 111, rfl⟩
abbrev main_v74 : Ref sig .tc := ⟨.hbm, 112, rfl⟩
abbrev main_v75 : Ref sig .tc := ⟨.hbm, 113, rfl⟩
abbrev main_cst_10 : Ref sig .tc := ⟨.hbm, 114, rfl⟩
abbrev main_v76 : Ref sig .tc := ⟨.hbm, 115, rfl⟩
abbrev main_cst_11 : Ref sig .tc := ⟨.hbm, 116, rfl⟩
abbrev main_v77 : Ref sig .tc := ⟨.hbm, 117, rfl⟩
abbrev main_cst_12 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_cst_13 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_cst_14 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_cst_15 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_cst_16 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_call2_cst : Ref sig .tc := ⟨.hbm, 155, rfl⟩
abbrev main_call2_v0 : Ref sig .tc := ⟨.hbm, 156, rfl⟩
abbrev main_v110 : Ref sig .tc := ⟨.hbm, 157, rfl⟩
abbrev main_cst_17 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_cst_18 : Ref sig .tc := ⟨.hbm, 180, rfl⟩
abbrev main_v132 : Ref sig .tc := ⟨.hbm, 181, rfl⟩
abbrev main_cst_19 : Ref sig .tc := ⟨.hbm, 182, rfl⟩
abbrev main_v133 : Ref sig .tc := ⟨.hbm, 183, rfl⟩
abbrev main_v134 : Ref sig .tc := ⟨.hbm, 184, rfl⟩
abbrev main_cst_20 : Ref sig .tc := ⟨.hbm, 185, rfl⟩
abbrev main_v135 : Ref sig .tc := ⟨.hbm, 186, rfl⟩
abbrev main_cst_21 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩
abbrev main_v150 : Ref sig .tc := ⟨.hbm, 202, rfl⟩
abbrev main_v151 : Ref sig .tc := ⟨.hbm, 203, rfl⟩
abbrev main_v152 : Ref sig .tc := ⟨.hbm, 204, rfl⟩
abbrev main_cst_22 : Ref sig .tc := ⟨.hbm, 205, rfl⟩
abbrev main_v153 : Ref sig .tc := ⟨.hbm, 206, rfl⟩
abbrev main_cst_23 : Ref sig .tc := ⟨.hbm, 207, rfl⟩
abbrev main_v154 : Ref sig .tc := ⟨.hbm, 208, rfl⟩
abbrev main_v155 : Ref sig .tc := ⟨.hbm, 209, rfl⟩
abbrev main_cst_24 : Ref sig .tc := ⟨.hbm, 210, rfl⟩
abbrev main_v156 : Ref sig .tc := ⟨.hbm, 211, rfl⟩
abbrev main_cst_25 : Ref sig .tc := ⟨.hbm, 212, rfl⟩
abbrev main_v157 : Ref sig .tc := ⟨.hbm, 213, rfl⟩
abbrev main_v158 : Ref sig .tc := ⟨.hbm, 214, rfl⟩
abbrev main_c_26 : Ref sig .tc := ⟨.hbm, 215, rfl⟩
abbrev main_call3_v0 : Ref sig .tc := ⟨.hbm, 216, rfl⟩
abbrev main_v159 : Ref sig .tc := ⟨.hbm, 217, rfl⟩
abbrev main_v160 : Ref sig .tc := ⟨.hbm, 218, rfl⟩
abbrev main_c_27 : Ref sig .tc := ⟨.hbm, 219, rfl⟩
abbrev main_call4_v0 : Ref sig .tc := ⟨.hbm, 220, rfl⟩
abbrev main_v161 : Ref sig .tc := ⟨.hbm, 221, rfl⟩
abbrev main_c_28 : Ref sig .tc := ⟨.hbm, 222, rfl⟩
abbrev main_call5_v0 : Ref sig .tc := ⟨.hbm, 223, rfl⟩
abbrev main_v162 : Ref sig .tc := ⟨.hbm, 224, rfl⟩
abbrev main_v163 : Ref sig .tc := ⟨.hbm, 225, rfl⟩
abbrev main_v164 : Ref sig .tc := ⟨.hbm, 226, rfl⟩
abbrev main_v165 : Ref sig .tc := ⟨.hbm, 227, rfl⟩
abbrev main_v166 : Ref sig .tc := ⟨.hbm, 228, rfl⟩

abbrev nD : Nat := 1
abbrev τ : Topo := Topo.v7x

variable {F : FTy → Type} [FloatOps F]
-- ==== Kernel2.lean ====
abbrev S4096x4096 : Shape := ⟨2, ![4096, 4096]⟩
abbrev S4096x1024 : Shape := ⟨2, ![4096, 1024]⟩
abbrev S4x1024x1024 : Shape := ⟨3, ![4, 1024, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 5
  | .vmem => 8
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .bf16⟩
  | .hbm, ⟨3, _⟩ => ⟨S4x1024x1024, .bf16⟩
  | .hbm, ⟨4, _⟩ => ⟨S4096x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference2Ideal.lean ====
abbrev S4096x4096 : Shape := ⟨2, ![4096, 4096]⟩
abbrev S4096x1024 : Shape := ⟨2, ![4096, 1024]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .bf16⟩
  | .hbm, ⟨3, _⟩ => ⟨S4096x4096, .f32⟩
  | .hbm, ⟨4, _⟩ => ⟨S4096x1024, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .i1⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S4096x1024, .f32⟩
  | .hbm, ⟨18, _⟩ => ⟨S4096x1024, .f32⟩
  | .hbm, ⟨19, _⟩ => ⟨S4096x4096, .f32⟩
  | .hbm, ⟨20, _⟩ => ⟨S4096x4096, .f32⟩
  | .hbm, ⟨21, _⟩ => ⟨S_, .f32⟩
  | .hbm, ⟨22, _⟩ => ⟨S4096x4096, .f32⟩
  | .hbm, ⟨23, _⟩ => ⟨S4096x4096, .f32⟩
  | .hbm, ⟨24, _⟩ => ⟨S4096x4096, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== Kernel3.lean ====
abbrev S4096x4096 : Shape := ⟨2, ![4096, 4096]⟩
abbrev S4096x1024 : Shape := ⟨2, ![4096, 1024]⟩
abbrev S4x1024x1024 : Shape := ⟨3, ![4, 1024, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4x1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩
abbrev S4x1024x1024 : Shape := ⟨3, ![4, 1024, 1024]⟩

abbrev nBuf : Space → Nat
  | .hbm => 15
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S_, .f32⟩
  | .hbm, ⟨3, _⟩ => ⟨S4096x1024, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x1024, .f32⟩
  | .hbm, ⟨10, _⟩ => ⟨S4096x1024, .f32⟩
  | .hbm, ⟨11, _⟩ => ⟨S1024x4096, .f32⟩
  | .hbm, ⟨12, _⟩ => ⟨S4096x1024, .f32⟩
  | .hbm, ⟨13, _⟩ => ⟨S4x1024x1024, .f32⟩
  | .hbm, ⟨14, _⟩ => ⟨S4x1024x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel4.lean ====
abbrev S4096x4096 : Shape := ⟨2, ![4096, 4096]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S4096x1024 : Shape := ⟨2, ![4096, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S1024x4096, .bf16⟩
  | .hbm, ⟨2, _⟩ => ⟨S1024x4x1024, .bf16⟩
  | .hbm, ⟨3, _⟩ => ⟨S4x1024x1024, .bf16⟩
  | .hbm, ⟨4, _⟩ => ⟨S4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x4096 : Shape := ⟨2, ![4096, 4096]⟩
abbrev S1024x4096 : Shape := ⟨2, ![1024, 4096]⟩
abbrev S_ : Shape := ⟨0, ![]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S1024x4096, .bf16⟩
  | .hbm, ⟨2, _⟩ => ⟨S_, .f32⟩
  | .hbm, ⟨3, _⟩ => ⟨S4096x1024, .f32⟩
  | .hbm, ⟨4, _⟩ => ⟨S1024x4096, .f32⟩
  | .hbm, ⟨5, _⟩ => ⟨S4096x4096, .f32⟩
  | .hbm, ⟨6, _⟩ => ⟨S4096x4096, .f32⟩
  | .hbm, ⟨7, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S4096x1024 : Shape := ⟨2, ![4096, 1024]⟩
abbrev S4096x4096 : Shape := ⟨2, ![4096, 4096]⟩
abbrev S4x1024x1024 : Shape := ⟨3, ![4, 1024, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S4x1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩
abbrev S1024x4x1024 : Shape := ⟨3, ![1024, 4, 1024]⟩
abbrev S4x1024x1024 : Shape := ⟨3, ![4, 1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S_, .f32⟩
  | .hbm, ⟨3, _⟩ => ⟨S1024x4096, .f32⟩
  | .hbm, ⟨4, _⟩ => ⟨S4096x1024, .f32⟩
  | .hbm, ⟨5, _⟩ => ⟨S4096x4096, .f32⟩
  | .hbm, ⟨6, _⟩ => ⟨S4096x4096, .f32⟩
  | .hbm, ⟨7, _⟩ => ⟨S4096x1024, .f32⟩
  | .hbm, ⟨8, _⟩ => ⟨S1024x4096, .f32⟩
  | .hbm, ⟨9, _⟩ => ⟨S1024x4x1024, .f32⟩
  | .hbm, ⟨10, _⟩ => ⟨S4x1024x1024, .f32⟩
  | .hbm, ⟨11, _⟩ => ⟨S4x1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel6.lean ====
abbrev S4096x1024 : Shape := ⟨2, ![4096, 1024]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S4096x4096 : Shape := ⟨2, ![4096, 4096]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S1024x4x1024, .bf16⟩
  | .hbm, ⟨3, _⟩ => ⟨S4x1024x1024, .bf16⟩
  | .hbm, ⟨4, _⟩ => ⟨S4096x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S2048x1024, .bf16⟩
  | .local _ .vmem, ⟨5, _⟩ => ⟨S2048x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x1024 : Shape := ⟨2, ![4096, 1024]⟩
abbrev S1024x4096 : Shape := ⟨2, ![1024, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S4096x1024, .f32⟩
  | .hbm, ⟨3, _⟩ => ⟨S1024x4096, .f32⟩
  | .hbm, ⟨4, _⟩ => ⟨S4096x4096, .f32⟩
  | .hbm, ⟨5, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel7.lean ====
abbrev S4096x4096 : Shape := ⟨2, ![4096, 4096]⟩
abbrev S4096x1024 : Shape := ⟨2, ![4096, 1024]⟩
abbrev S4x1024x1024 : Shape := ⟨3, ![4, 1024, 1024]⟩
abbrev S1024x1024 : Shape := ⟨2, ![1024, 1024]⟩
abbrev S1x1024x1024 : Shape := ⟨3, ![1, 1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4x1024x1024, .bf16⟩
  | .hbm, ⟨3, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x4096 : Shape := ⟨2, ![4096, 4096]⟩
abbrev S4096x1024 : Shape := ⟨2, ![4096, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x4096, .f32⟩
  | .hbm, ⟨3, _⟩ => ⟨S4096x1024, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_cst : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel8.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel9.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference9Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel10.lean ====
abbrev S4096x1024 : Shape := ⟨2, ![4096, 1024]⟩
abbrev S4096x2048 : Shape := ⟨2, ![4096, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S1024x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S_, .f32⟩
  | .hbm, ⟨3, _⟩ => ⟨S1024x2048, .f32⟩
  | .hbm, ⟨4, _⟩ => ⟨S4096x1024, .f32⟩
  | .hbm, ⟨5, _⟩ => ⟨S4096x2048, .f32⟩
  | .hbm, ⟨6, _⟩ => ⟨S4096x2048, .f32⟩
  | .hbm, ⟨7, _⟩ => ⟨S2048x1024, .f32⟩
  | .hbm, ⟨8, _⟩ => ⟨S1024x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel11.lean ====
abbrev S4096x2048 : Shape := ⟨2, ![4096, 2048]⟩
abbrev S1024x2048 : Shape := ⟨2, ![1024, 2048]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x2048 : Shape := ⟨2, ![4096, 2048]⟩
abbrev S1024x2048 : Shape := ⟨2, ![1024, 2048]⟩
abbrev S_ : Shape := ⟨0, ![]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S_, .f32⟩
  | .hbm, ⟨3, _⟩ => ⟨S4096x1024, .f32⟩
  | .hbm, ⟨4, _⟩ => ⟨S1024x2048, .f32⟩
  | .hbm, ⟨5, _⟩ => ⟨S4096x2048, .f32⟩
  | .hbm, ⟨6, _⟩ => ⟨S4096x2048, .f32⟩
  | .hbm, ⟨7, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel12.lean ====
abbrev S4096x1024 : Shape := ⟨2, ![4096, 1024]⟩
abbrev S4096x672 : Shape := ⟨2, ![4096, 672]⟩
abbrev S1024x672 : Shape := ⟨2, ![1024, 672]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x672, .bf16⟩
  | .hbm, ⟨2, _⟩ => ⟨S1024x672, .f32⟩
  | .local _ .vmem, ⟨0, _⟩ => ⟨S1024x1024, .bf16⟩
  | .local _ .vmem, ⟨1, _⟩ => ⟨S1024x1024, .bf16⟩
  | .local _ .vmem, ⟨2, _⟩ => ⟨S1024x672, .bf16⟩
  | .local _ .vmem, ⟨3, _⟩ => ⟨S1024x672, .bf16⟩
  | .local _ .vmem, ⟨4, _⟩ => ⟨S1024x672, .f32⟩
  | .local _ .vmem, ⟨5, _⟩ => ⟨S1024x672, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x672 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x672 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference12Ideal.lean ====
abbrev S4096x1024 : Shape := ⟨2, ![4096, 1024]⟩
abbrev S4096x672 : Shape := ⟨2, ![4096, 672]⟩
abbrev S_ : Shape := ⟨0, ![]⟩
abbrev S1024x384 : Shape := ⟨2, ![1024, 384]⟩
abbrev S1024x288 : Shape := ⟨2, ![1024, 288]⟩
abbrev S4096x384 : Shape := ⟨2, ![4096, 384]⟩
abbrev S4096x288 : Shape := ⟨2, ![4096, 288]⟩
abbrev S288x1024 : Shape := ⟨2, ![288, 1024]⟩
abbrev S384x1024 : Shape := ⟨2, ![384, 1024]⟩
abbrev S1024x672 : Shape := ⟨2, ![1024, 672]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x672, .bf16⟩
  | .hbm, ⟨2, _⟩ => ⟨S_, .f32⟩
  | .hbm, ⟨3, _⟩ => ⟨S1024x384, .f32⟩
  | .hbm, ⟨4, _⟩ => ⟨S_, .f32⟩
  | .hbm, ⟨5, _⟩ => ⟨S1024x288, .f32⟩
  | .hbm, ⟨6, _⟩ => ⟨S4096x1024, .f32⟩
  | .hbm, ⟨7, _⟩ => ⟨S4096x384, .f32⟩
  | .hbm, ⟨8, _⟩ => ⟨S4096x288, .f32⟩
  | .hbm, ⟨9, _⟩ => ⟨S4096x672, .f32⟩
  | .hbm, ⟨10, _⟩ => ⟨S4096x672, .f32⟩
  | .hbm, ⟨11, _⟩ => ⟨S4096x384, .f32⟩
  | .hbm, ⟨12, _⟩ => ⟨S4096x288, .f32⟩
  | .hbm, ⟨13, _⟩ => ⟨S288x1024, .f32⟩
  | .hbm, ⟨14, _⟩ => ⟨S1024x288, .f32⟩
  | .hbm, ⟨15, _⟩ => ⟨S384x1024, .f32⟩
  | .hbm, ⟨16, _⟩ => ⟨S1024x384, .f32⟩
  | .hbm, ⟨17, _⟩ => ⟨S1024x672, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== Kernel13.lean ====
abbrev S4096x672 : Shape := ⟨2, ![4096, 672]⟩
abbrev S1024x384 : Shape := ⟨2, ![1024, 384]⟩
abbrev S1024x288 : Shape := ⟨2, ![1024, 288]⟩
abbrev S1024x672 : Shape := ⟨2, ![1024, 672]⟩
abbrev S4096x1024 : Shape := ⟨2, ![4096, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x672, .bf16⟩
  | .hbm, ⟨1, _⟩ => ⟨S1024x384, .bf16⟩
  | .hbm, ⟨2, _⟩ => ⟨S1024x288, .bf16⟩
  | .hbm, ⟨3, _⟩ => ⟨S1024x672, .bf16⟩
  | .hbm, ⟨4, _⟩ => ⟨S4096x1024, .f32⟩
  | .local _ .vmem, ⟨0, _⟩ => ⟨S1024x672, .bf16⟩
  | .local _ .vmem, ⟨1, _⟩ => ⟨S1024x672, .bf16⟩
  | .local _ .vmem, ⟨2, _⟩ => ⟨S1024x672, .bf16⟩
  | .local _ .vmem, ⟨3, _⟩ => ⟨S1024x1024, .f32⟩
  | .local _ .vmem, ⟨4, _⟩ => ⟨S1024x1024, .f32⟩
  | _, _ => ⟨S4096x672, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x672 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x672 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x672 : Shape := ⟨2, ![4096, 672]⟩
abbrev S1024x384 : Shape := ⟨2, ![1024, 384]⟩
abbrev S1024x288 : Shape := ⟨2, ![1024, 288]⟩
abbrev S_ : Shape := ⟨0, ![]⟩
abbrev S4096x1024 : Shape := ⟨2, ![4096, 1024]⟩
abbrev S4096x384 : Shape := ⟨2, ![4096, 384]⟩
abbrev S4096x288 : Shape := ⟨2, ![4096, 288]⟩

abbrev nBuf : Space → Nat
  | .hbm => 16
  | .vmem => 0
  | .smem => 0
  | _ => 0

abbrev bufTy : (tb : Table) → Fin (tcTables nBuf tb) → BufTy
  | .hbm, ⟨0, _⟩ => ⟨S4096x672, .bf16⟩
  | .hbm, ⟨1, _⟩ => ⟨S1024x384, .bf16⟩
  | .hbm, ⟨2, _⟩ => ⟨S1024x288, .bf16⟩
  | .hbm, ⟨3, _⟩ => ⟨S_, .f32⟩
  | .hbm, ⟨4, _⟩ => ⟨S4096x1024, .f32⟩
  | .hbm, ⟨5, _⟩ => ⟨S1024x384, .f32⟩
  | .hbm, ⟨6, _⟩ => ⟨S1024x288, .f32⟩
  | .hbm, ⟨7, _⟩ => ⟨S4096x384, .f32⟩
  | .hbm, ⟨8, _⟩ => ⟨S4096x288, .f32⟩
  | .hbm, ⟨9, _⟩ => ⟨S4096x672, .f32⟩
  | .hbm, ⟨10, _⟩ => ⟨S4096x672, .f32⟩
  | .hbm, ⟨11, _⟩ => ⟨S4096x384, .f32⟩
  | .hbm, ⟨12, _⟩ => ⟨S4096x288, .f32⟩
  | .hbm, ⟨13, _⟩ => ⟨S4096x1024, .f32⟩
  | .hbm, ⟨14, _⟩ => ⟨S4096x1024, .f32⟩
  | .hbm, ⟨15, _⟩ => ⟨S4096x1024, .f32⟩
  | _, _ => ⟨S4096x672, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Kernel14.lean ====
abbrev S4096x1024 : Shape := ⟨2, ![4096, 1024]⟩
abbrev S1024x2048 : Shape := ⟨2, ![1024, 2048]⟩
abbrev S2048 : Shape := ⟨1, ![2048]⟩
abbrev S1x2048 : Shape := ⟨2, ![1, 2048]⟩
abbrev S4096x2048 : Shape := ⟨2, ![4096, 2048]⟩
abbrev S1024x1024 : Shape := ⟨2, ![1024, 1024]⟩
abbrev S1x1024 : Shape := ⟨2, ![1, 1024]⟩

abbrev nBuf : Space → Nat
  | .hbm => 5
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S2048, .f32⟩
  | .hbm, ⟨3, _⟩ => ⟨S1x2048, .f32⟩
  | .hbm, ⟨4, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference14Ideal.lean ====
abbrev S4096x1024 : Shape := ⟨2, ![4096, 1024]⟩
abbrev S1024x2048 : Shape := ⟨2, ![1024, 2048]⟩
abbrev S2048 : Shape := ⟨1, ![2048]⟩
abbrev S4096x2048 : Shape := ⟨2, ![4096, 2048]⟩
abbrev S1x2048 : Shape := ⟨2, ![1, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S2048, .f32⟩
  | .hbm, ⟨3, _⟩ => ⟨S4096x1024, .f32⟩
  | .hbm, ⟨4, _⟩ => ⟨S1024x2048, .f32⟩
  | .hbm, ⟨5, _⟩ => ⟨S4096x2048, .f32⟩
  | .hbm, ⟨6, _⟩ => ⟨S1x2048, .f32⟩
  | .hbm, ⟨7, _⟩ => ⟨S4096x2048, .f32⟩
  | .hbm, ⟨8, _⟩ => ⟨S4096x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel15.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S1024, .f32⟩
  | .hbm, ⟨3, _⟩ => ⟨S1x1024, .f32⟩
  | .hbm, ⟨4, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference15Ideal.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S1024, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S1x1024, .f32⟩
  | .hbm, ⟨7, _⟩ => ⟨S4096x1024, .f32⟩
  | .hbm, ⟨8, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel16.lean ====
abbrev S4096x1024 : Shape := ⟨2, ![4096, 1024]⟩
abbrev S1024x384 : Shape := ⟨2, ![1024, 384]⟩
abbrev S1024x288 : Shape := ⟨2, ![1024, 288]⟩
abbrev S1024x672 : Shape := ⟨2, ![1024, 672]⟩
abbrev S4096x672 : Shape := ⟨2, ![4096, 672]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x384, .bf16⟩
  | .hbm, ⟨2, _⟩ => ⟨S1024x288, .bf16⟩
  | .hbm, ⟨3, _⟩ => ⟨S1024x672, .bf16⟩
  | .hbm, ⟨4, _⟩ => ⟨S4096x672, .f32⟩
  | .local _ .vmem, ⟨0, _⟩ => ⟨S1024x1024, .bf16⟩
  | .local _ .vmem, ⟨1, _⟩ => ⟨S1024x1024, .bf16⟩
  | .local _ .vmem, ⟨2, _⟩ => ⟨S1024x672, .bf16⟩
  | .local _ .vmem, ⟨3, _⟩ => ⟨S1024x672, .f32⟩
  | .local _ .vmem, ⟨4, _⟩ => ⟨S1024x672, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x672 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x672 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S4096x1024 : Shape := ⟨2, ![4096, 1024]⟩
abbrev S1024x384 : Shape := ⟨2, ![1024, 384]⟩
abbrev S1024x288 : Shape := ⟨2, ![1024, 288]⟩
abbrev S4096x384 : Shape := ⟨2, ![4096, 384]⟩
abbrev S4096x288 : Shape := ⟨2, ![4096, 288]⟩
abbrev S4096x672 : Shape := ⟨2, ![4096, 672]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x384, .bf16⟩
  | .hbm, ⟨2, _⟩ => ⟨S1024x288, .bf16⟩
  | .hbm, ⟨3, _⟩ => ⟨S4096x1024, .f32⟩
  | .hbm, ⟨4, _⟩ => ⟨S1024x384, .f32⟩
  | .hbm, ⟨5, _⟩ => ⟨S1024x288, .f32⟩
  | .hbm, ⟨6, _⟩ => ⟨S4096x384, .f32⟩
  | .hbm, ⟨7, _⟩ => ⟨S4096x288, .f32⟩
  | .hbm, ⟨8, _⟩ => ⟨S4096x672, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.KernelBody.lean ====
/- The frame of `Kernel`: the call of attn_bwd runs at every grid point from any contents of its scratch and of its output
   blocks, leaves its input blocks as they are, and the whole program ends with its arguments unchanged and every
   semaphore counter at zero. The contents of the outputs and of the scratch are not named here. -/
module

public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import Idealize.ShloMosaic.Lib.Pipeline.FrameBody
public import Idealize.ShloMosaic.Lib.Tactic

@[expose] public section

set_option maxRecDepth 16384

noncomputable section

namespace Cert.Kernel.AttnBwd

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The condition under which the body clears its scratch: the key block is the first. -/
abbrev firstBlock (i : grid0.Coords) : Prop :=
  (Scalar.cmpi .ne (Scalar.extui (Scalar.cmpi .eq (BitVec.ofNat 32 (i 1).val) 0#32)) 0#32) = 1#1

set_option maxHeartbeats 16000000 in
/-- The body at any grid point, on whole buffers: it hands the eight input blocks back as it found them, and the two output
    blocks and the scratch at some contents. -/
theorem bodyRun (c : Dev nD) (i : grid0.Coords) (arg2 : Memref sig .tc .vmem S256x2048 .bf16) (harg2 : arg2.IsWhole) (arg3 : Memref sig .tc .vmem S4096x1024 .bf16) (harg3 : arg3.IsWhole) (arg4 : Memref sig .tc .vmem S4096x1024 .bf16) (harg4 : arg4.IsWhole) (arg5 : Memref sig .tc .vmem S8x16x1x256 .f32) (harg5 : arg5.IsWhole) (arg6 : Memref sig .tc .vmem S8x16x1x256 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x1024 .bf16) (harg10 : arg10.IsWhole) (arg11 : Memref sig .tc .vmem S256x2048 .bf16) (harg11 : arg11.IsWhole) (arg12 : Memref sig .tc .vmem S4096x1024 .f32) (harg12 : arg12.IsWhole)
    (x2 : Vec F S256x2048 .bf16) (x3 : Vec F S4096x1024 .bf16) (x4 : Vec F S4096x1024 .bf16) (x5 : Vec F S8x16x1x256 .f32) (x6 : Vec F S8x16x1x256 .f32) (x7 : Vec F S256x128 .f32) (x8 : Vec F S256x128 .f32) (x9 : Vec F S256x128 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ (∃ d, owns (c : Thread nD τ) arg12 fullShare d)) -∗ K ⟨⟩))
      ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12) K := by
  by_cases hc0 : firstBlock i
  all_goals
    simp only [cc0_attn_bwd_eq_skeleton]; unfold cc0_attn_bwd_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
    sl_exec (disch := first | sl_exact hc0)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _, _; isplitr; swap; · iexact H10
      ipureintro; rfl
    isplitl [H11]
    · iexists _, _; isplitr; swap; · iexact H11
      ipureintro; rfl
    iexists _, _; isplitr; swap; · iexact H12
    ipureintro; rfl

end Cert.Kernel.AttnBwd

end
-- ==== Proof.KernelFrame.lean ====
/- The frame of `Kernel`: from the run of the body at any grid point to the run of the whole program, which ends with its
   arguments unchanged and every semaphore counter at zero. -/
module

public import proofs.«01_k».proof.Proof.KernelBody

@[expose] public section

set_option maxRecDepth 16384

noncomputable section

namespace Cert.Kernel.AttnBwd

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window 0's current staging buffer at point `t`, and that it is whole. -/
abbrev ms0 (t : Fin cfg0.N) : Memref sig .tc .vmem S256x2048 .bf16 := win0_0.stage (cfg0.slots t 0)
abbrev hs0 (t : Fin cfg0.N) : (ms0 t).IsWhole := hstage0_0 ((cfg0.slots t 0).cast nbuf0_0)
/-- Window 1's current staging buffer at point `t`, and that it is whole. -/
abbrev ms1 (t : Fin cfg0.N) : Memref sig .tc .vmem S4096x1024 .bf16 := win0_1.stage (cfg0.slots t 1)
abbrev hs1 (t : Fin cfg0.N) : (ms1 t).IsWhole := hstage0_1 ((cfg0.slots t 1).cast nbuf0_1)
/-- Window 2's current staging buffer at point `t`, and that it is whole. -/
abbrev ms2 (t : Fin cfg0.N) : Memref sig .tc .vmem S4096x1024 .bf16 := win0_2.stage (cfg0.slots t 2)
abbrev hs2 (t : Fin cfg0.N) : (ms2 t).IsWhole := hstage0_2 ((cfg0.slots t 2).cast nbuf0_2)
/-- Window 3's current staging buffer at point `t`, and that it is whole. -/
abbrev ms3 (t : Fin cfg0.N) : Memref sig .tc .vmem S8x16x1x256 .f32 := win0_3.stage (cfg0.slots t 3)
abbrev hs3 (t : Fin cfg0.N) : (ms3 t).IsWhole := hstage0_3 ((cfg0.slots t 3).cast nbuf0_3)
/-- Window 4's current staging buffer at point `t`, and that it is whole. -/
abbrev ms4 (t : Fin cfg0.N) : Memref sig .tc .vmem S8x16x1x256 .f32 := win0_4.stage (cfg0.slots t 4)
abbrev hs4 (t : Fin cfg0.N) : (ms4 t).IsWhole := hstage0_4 ((cfg0.slots t 4).cast nbuf0_4)
/-- Window 5's current staging buffer at point `t`, and that it is whole. -/
abbrev ms5 (t : Fin cfg0.N) : Memref sig .tc .vmem S256x128 .f32 := win0_5.stage (cfg0.slots t 5)
abbrev hs5 (t : Fin cfg0.N) : (ms5 t).IsWhole := hstage0_5 ((cfg0.slots t 5).cast nbuf0_5)
/-- Window 6's current staging buffer at point `t`, and that it is whole. -/
abbrev ms6 (t : Fin cfg0.N) : Memref sig .tc .vmem S256x128 .f32 := win0_6.stage (cfg0.slots t 6)
abbrev hs6 (t : Fin cfg0.N) : (ms6 t).IsWhole := hstage0_6 ((cfg0.slots t 6).cast nbuf0_6)
/-- Window 7's current staging buffer at point `t`, and that it is whole. -/
abbrev ms7 (t : Fin cfg0.N) : Memref sig .tc .vmem S256x128 .f32 := win0_7.stage (cfg0.slots t 7)
abbrev hs7 (t : Fin cfg0.N) : (ms7 t).IsWhole := hstage0_7 ((cfg0.slots t 7).cast nbuf0_7)
/-- Window 8's current staging buffer at point `t`, and that it is whole. -/
abbrev ms8 (t : Fin cfg0.N) : Memref sig .tc .vmem S256x1024 .bf16 := win0_8.stage (cfg0.slots t 8)
abbrev hs8 (t : Fin cfg0.N) : (ms8 t).IsWhole := hstage0_8 ((cfg0.slots t 8).cast nbuf0_8)
/-- Window 9's current staging buffer at point `t`, and that it is whole. -/
abbrev ms9 (t : Fin cfg0.N) : Memref sig .tc .vmem S256x2048 .bf16 := win0_9.stage (cfg0.slots t 9)
abbrev hs9 (t : Fin cfg0.N) : (ms9 t).IsWhole := hstage0_9 ((cfg0.slots t 9).cast nbuf0_9)
/-- The scratch buffer that accumulates the query gradient. -/
abbrev scr : Memref sig .tc .vmem S4096x1024 .f32 := Memref.whole cc0_scratch0

/-- What the launch hands the region besides the windows: the scratch at anything and the generator register. -/
theorem rest_eq (c : Dev nD) :
    (Pipeline.ΦA spec0 c : sProp 𝕄)
      = iprop(iprop((∃ d, owns (c : Thread nD τ) scr fullShare d)) ∗ (∃ r, prngReg c r)) := by
  unfold Pipeline.ΦA; rw [scopedRest0_eq]; simp only [scr, owns_whole]; try rfl

/-- The two output windows, of which nothing is named. -/
def forgets : Fin 10 → Bool := fun w => w.val == 8 || w.val == 9

/-- The proof data: the arrays as the region finds them, each input block as it is, the outputs unnamed, the scratch at
    anything between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
    | ⟨9, h⟩ => Pipeline.Dat.unnamed (cfg := cfg0) ⟨9, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare d)
    ∗ (∃ d, owns (c : Thread nD τ) (ms9 t) fullShare d))

/-- What it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ (∃ d, owns (c : Thread nD τ) (ms8 t) fullShare d)
    ∗ (∃ d, owns (c : Thread nD τ) (ms9 t) fullShare d))

set_option maxHeartbeats 3200000 in
/-- The body at any point, from what it is called with to what it returns. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).owesAt () t.succ = (dats m 0 c).owesAt () t.castSucc from rfl,
    after_0, after_1, after_2, after_3, after_4, after_5, after_6, after_7]
  rw [show (dats m 0 c).Φ t.succ = Pipeline.ΦA spec0 c from rfl, show (dats m 0 c).Φ t.castSucc = Pipeline.ΦA spec0 c from rfl, rest_eq]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (bodyRun c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [HS]; · iexact HS
  iintro ⟨H0, H1, H2, H3, H4, H5, H6, H7, H8, H9, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at a point is the body. -/
theorem defs_row (t : Fin cfg0.N) :
    defs₀ (F := F) .tc cfg0.body (cfg0.bodyArgs t (cfg0.slots t)) = bodyAt0 t := by
  unfold defs₀; rw [Defs.onTc_tc]

/-- The library's body obligation. -/
theorem body_obligation (c : Dev nD) : BodyObligation (dats (F := F) m 0 c) (defs₀ (F := F)) Variants.none () Set.univ forgets := fun t => by
  rw [bigSep_W0, bigSep_W0, defs_row]
  exact triple_restated (sound_body m c t) rfl .rfl fun _ => .rfl

set_option backward.isDefEq.respectTransparency.types false in
/-- The run of the program. -/
theorem run_forgotten : θ_run defs (onTc (τ := τ) (main (F := F))) (s₀ m ρ) (fun r => (Pipeline.RDat.FramePost (cfgs 0) (fun c => (dats m 0 c).toRForget forgets) (V m)) r ∧ r.2.sem = fun _ => 0) :=
  Pipeline.θ_run_frame_track_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m)
    (hin := fun c => Entails.refl _) (hout := fun c => Entails.refl _)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).2 main_arg0 (Pipeline.mem_restRefs_of main_arg0 (by decide) (by decide))).trans (V_main_arg0 m c), ((h.1 c).2 main_arg1 (Pipeline.mem_restRefs_of main_arg1 (by decide) (by decide))).trans (V_main_arg1 m c), ((h.1 c).2 main_arg2 (Pipeline.mem_restRefs_of main_arg2 (by decide) (by decide))).trans (V_main_arg2 m c), ((h.1 c).2 main_arg3 (Pipeline.mem_restRefs_of main_arg3 (by decide) (by decide))).trans (V_main_arg3 m c), ((h.1 c).2 main_arg4 (Pipeline.mem_restRefs_of main_arg4 (by decide) (by decide))).trans (V_main_arg4 m c)⟩, h.2⟩)
    (run_forgotten m ρ)

end Cert.Kernel.AttnBwd

end
-- ==== Proof.BodyRun.lean ====
/- The body of attn_bwd run once, from named contents of every block: the contents it leaves in its two output blocks and
   in the scratch are found by the run. One run per case of the condition under which the scratch is cleared. -/
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import Idealize.ShloMosaic.Lib.Pipeline.FrameBody
public import Idealize.ShloMosaic.Lib.Tactic

@[expose] public section

set_option maxRecDepth 16384

noncomputable section

namespace Cert.KernelIdeal.AttnBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The condition under which the body clears its scratch: the key block is the first. -/
abbrev firstBlock (i : grid0.Coords) : Prop :=
  (Scalar.cmpi .ne (Scalar.extui (Scalar.cmpi .eq (BitVec.ofNat 32 (i 1).val) 0#32)) 0#32) = 1#1

set_option maxHeartbeats 16000000 in
/-- The body at a first block of keys: the contents it leaves in the output blocks and in the scratch, and that it leaves them. -/
@[irreducible] def runFirst (c : Dev nD) (i : grid0.Coords) (arg2 : Memref sig .tc .vmem S256x2048 .bf16) (harg2 : arg2.IsWhole) (arg3 : Memref sig .tc .vmem S4096x1024 .bf16) (harg3 : arg3.IsWhole) (arg4 : Memref sig .tc .vmem S4096x1024 .bf16) (harg4 : arg4.IsWhole) (arg5 : Memref sig .tc .vmem S8x16x1x256 .f32) (harg5 : arg5.IsWhole) (arg6 : Memref sig .tc .vmem S8x16x1x256 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x1024 .bf16) (harg10 : arg10.IsWhole) (arg11 : Memref sig .tc .vmem S256x2048 .bf16) (harg11 : arg11.IsWhole) (arg12 : Memref sig .tc .vmem S4096x1024 .f32) (harg12 : arg12.IsWhole)
    (hc0 : firstBlock i) (x2 : Vec F S256x2048 .bf16) (x3 : Vec F S4096x1024 .bf16) (x4 : Vec F S4096x1024 .bf16) (x5 : Vec F S8x16x1x256 .f32) (x6 : Vec F S8x16x1x256 .f32) (x7 : Vec F S256x128 .f32) (x8 : Vec F S256x128 .f32) (x9 : Vec F S256x128 .f32) (d10 : Vec F S256x1024 .bf16) (d11 : Vec F S256x2048 .bf16) (s : Vec F S4096x1024 .f32) :
    Σ' (r10 : Vec F S256x1024 .bf16) (r11 : Vec F S256x2048 .bf16), { r12 : Vec F S4096x1024 .f32 // ∀ (E : Set ℕ) (K : PUnit → sProp 𝕄),
      iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare d10 ∗ owns (c : Thread nD τ) arg11 fullShare d11 ∗ owns (c : Thread nD τ) arg12 fullShare s
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare r10 ∗ owns (c : Thread nD τ) arg11 fullShare r11 ∗ owns (c : Thread nD τ) arg12 fullShare r12) -∗ K ⟨⟩))
      ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0_attn_bwd_eq_skeleton]; unfold cc0_attn_bwd_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
    sl_exec (disch := first | sl_exact hc0)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; swap; · iexact H10
      ipureintro; exact rfl
    isplitl [H11]
    · iexists _; isplitr; swap; · iexact H11
      ipureintro; exact rfl
    iexists _; isplitr; swap; · iexact H12
    ipureintro; exact rfl

set_option maxHeartbeats 16000000 in
/-- The body at a later block of keys: the contents it leaves in the output blocks and in the scratch, and that it leaves them. -/
@[irreducible] def runLater (c : Dev nD) (i : grid0.Coords) (arg2 : Memref sig .tc .vmem S256x2048 .bf16) (harg2 : arg2.IsWhole) (arg3 : Memref sig .tc .vmem S4096x1024 .bf16) (harg3 : arg3.IsWhole) (arg4 : Memref sig .tc .vmem S4096x1024 .bf16) (harg4 : arg4.IsWhole) (arg5 : Memref sig .tc .vmem S8x16x1x256 .f32) (harg5 : arg5.IsWhole) (arg6 : Memref sig .tc .vmem S8x16x1x256 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x1024 .bf16) (harg10 : arg10.IsWhole) (arg11 : Memref sig .tc .vmem S256x2048 .bf16) (harg11 : arg11.IsWhole) (arg12 : Memref sig .tc .vmem S4096x1024 .f32) (harg12 : arg12.IsWhole)
    (hc0 : ¬firstBlock i) (x2 : Vec F S256x2048 .bf16) (x3 : Vec F S4096x1024 .bf16) (x4 : Vec F S4096x1024 .bf16) (x5 : Vec F S8x16x1x256 .f32) (x6 : Vec F S8x16x1x256 .f32) (x7 : Vec F S256x128 .f32) (x8 : Vec F S256x128 .f32) (x9 : Vec F S256x128 .f32) (d10 : Vec F S256x1024 .bf16) (d11 : Vec F S256x2048 .bf16) (s : Vec F S4096x1024 .f32) :
    Σ' (r10 : Vec F S256x1024 .bf16) (r11 : Vec F S256x2048 .bf16), { r12 : Vec F S4096x1024 .f32 // ∀ (E : Set ℕ) (K : PUnit → sProp 𝕄),
      iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare d10 ∗ owns (c : Thread nD τ) arg11 fullShare d11 ∗ owns (c : Thread nD τ) arg12 fullShare s
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare r10 ∗ owns (c : Thread nD τ) arg11 fullShare r11 ∗ owns (c : Thread nD τ) arg12 fullShare r12) -∗ K ⟨⟩))
      ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0_attn_bwd_eq_skeleton]; unfold cc0_attn_bwd_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
    sl_exec (disch := first | sl_exact hc0)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; swap; · iexact H10
      ipureintro; exact rfl
    isplitl [H11]
    · iexists _; isplitr; swap; · iexact H11
      ipureintro; exact rfl
    iexists _; isplitr; swap; · iexact H12
    ipureintro; exact rfl

end Cert.KernelIdeal.AttnBwd

end
-- ==== Proof.Model.lean ====
/- What one block of attn_bwd computes, written once for any head: the tiles of the arrays that a step reads, the step's
   probabilities and score gradients, the three accumulations, and the inverse rotation of the results. -/
module

public import proofs.«01_k».proof.Proof.Gen.KernelIdeal
public import proofs.«01_k».proof.Proof.Gen.KernelIdeal.Skeleton
public import Idealize.ShloMosaic.Lib.Tactic
public import Idealize.ShloMosaic.Lib.WritesUnit
public import Idealize.ShloMosaic.Lib.Pipeline.FrameBody
public import Idealize.ShloMosaic.Lib.Pipeline.Value
public import Idealize.ShloMosaic.Lib.ValueIdxCore

@[expose] public section

set_option maxRecDepth 16384

noncomputable section

namespace Cert.KernelIdeal.AttnBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable {F : FTy → Type} [FloatOps F] [Named F]

theorem tile_inb (n : Fin 16) (h : Fin 8) : ∀ a, (![256 * n.val, 128 * h.val] : Fin 2 → ℕ) a + S256x128.size a ≤ S4096x1024.size a :=
  Fin.forall_fin_two.mpr ⟨by show 256 * n.val + 256 ≤ 4096; omega, by show 128 * h.val + 128 ≤ 1024; omega⟩

theorem half_inb (h : Fin 16) : ∀ a, (![0, 128 * h.val] : Fin 2 → ℕ) a + S256x128.size a ≤ S256x2048.size a :=
  Fin.forall_fin_two.mpr ⟨by show 0 + 256 ≤ 256; omega, by show 128 * h.val + 128 ≤ 2048; omega⟩

theorem row_inb (h : Fin 8) (n : Fin 16) : ∀ a, (![h.val, n.val, 0, 0] : Fin 4 → ℕ) a + S1x1x1x256.size a ≤ S8x16x1x256.size a := by
  intro a; fin_cases a
  · show h.val + 1 ≤ 8; omega
  · show n.val + 1 ≤ 16; omega
  · show 0 + 1 ≤ 1; omega
  · show 0 + 256 ≤ 256; omega

/-- Rows `256 n …` of head `h`'s columns of an array of eight heads. -/
def tile {e : EltTy} (n : Fin 16) (h : Fin 8) (x : Vec F S4096x1024 e) : Vec F S256x128 e :=
  fun j => x ((Rect.unit (s := S4096x1024) ![256 * n.val, 128 * h.val] S256x128.size (tile_inb n h)).idx j)

/-- The 128 columns of number `h` of a block of keys and values (keys at even numbers, values at odd ones). -/
def half {e : EltTy} (h : Fin 16) (x : Vec F S256x2048 e) : Vec F S256x128 e :=
  fun j => x ((Rect.unit (s := S256x2048) ![0, 128 * h.val] S256x128.size (half_inb h)).idx j)

/-- Head `h`'s entries for the queries of block `n`. -/
def rowOf {e : EltTy} (h : Fin 8) (n : Fin 16) (x : Vec F S8x16x1x256 e) : Vec F S1x1x1x256 e :=
  fun j => x ((Rect.unit (s := S8x16x1x256) ![h.val, n.val, 0, 0] S1x1x1x256.size (row_inb h n)).idx j)

/-- A head's keys in a block. -/
def keysOf {e : EltTy} (x : Vec F S256x2048 e) (h : Fin 8) : Vec F S256x128 e := half ⟨2 * h.val, by omega⟩ x
/-- A head's values in a block. -/
def valsOf {e : EltTy} (x : Vec F S256x2048 e) (h : Fin 8) : Vec F S256x128 e := half ⟨2 * h.val + 1, by omega⟩ x

/-- Every entry of a row of 256 at each of 256 rows. -/
def rows (l : Vec F S1x1x1x256 .f32) : FVec F S256x256 .f32 :=
  broadcastTo S256x256 (shapeCast S1x256 l shapeCasts_S1x1x1x256_S1x256) broadcasts_S1x256_S256x256

/-- Keys times queries (or values times output gradients), transposed: one row per key. -/
def outerT (k q : FVec F S256x128 .bf16) : FVec F S256x256 .f32 :=
  matmul dot_S256x128_S256x128_S256x256_1_1_0_0_n_n none k q (constant S256x256 .f32 0x00000000#32)

/-- The entries a diagonal block keeps: a key whose chunk is not later than the query's. -/
def diagMask : IVec S256x256 1 :=
  cmpi .sle (shrsi (iota .tc S256x256 32 [0] iota_S256x256_d0_w32) (broadcast S256x256 6#32))
    (shrsi (iota .tc S256x256 32 [1] iota_S256x256_d1_w32) (broadcast S256x256 6#32))

/-- The scores of a diagonal block, masked. -/
def masked (st : FVec F S256x256 .f32) : FVec F S256x256 .f32 :=
  select diagMask st (broadcast S256x256 (Named.named κ "mask" 0xF149F2CA#32 : F .f32))

/-- The scores a step works with: those of a diagonal block are masked. -/
def scoresOf (diag : Bool) (k q : FVec F S256x128 .bf16) : FVec F S256x256 .f32 :=
  match diag with
  | true => masked (outerT k q)
  | false => outerT k q

/-- The probabilities, from the scores and the saved logarithms of their sums. -/
def probs (st : FVec F S256x256 .f32) (l : Vec F S1x1x1x256 .f32) : FVec F S256x256 .f32 := exp2 (subf st (rows l))

/-- The probabilities as the products take them. -/
def pOf (diag : Bool) (k q : FVec F S256x128 .bf16) (l : Vec F S1x1x1x256 .f32) : FVec F S256x256 .bf16 :=
  truncf .bf16 (probs (scoresOf diag k q) l) bitsLt_bf16_f32

/-- The gradient of the scores. -/
def dsOf (diag : Bool) (k v q o : FVec F S256x128 .bf16) (l d : Vec F S1x1x1x256 .f32) : FVec F S256x256 .bf16 :=
  truncf .bf16 (mulf (probs (scoresOf diag k q) l) (subf (outerT v o) (rows d))) bitsLt_bf16_f32

/-- An accumulator plus the product of a block of weights with rows. -/
def accum (a : FVec F S256x128 .f32) (w : FVec F S256x256 .bf16) (x : FVec F S256x128 .bf16) : FVec F S256x128 .f32 :=
  addf a (matmul dot_S256x256_S256x128_S256x128_1_0_0_1_n_n none w x (constant S256x128 .f32 0x00000000#32))

/-- An accumulator plus the product of the transposed weights with rows. -/
def accumT (a : FVec F S256x128 .f32) (w : FVec F S256x256 .bf16) (x : FVec F S256x128 .bf16) : FVec F S256x128 .f32 :=
  addf a (matmul dot_S256x256_S256x128_S256x128_0_0_1_1_n_n none w x (constant S256x128 .f32 0x00000000#32))

/-- The inverse rotation, by tables of cosines and of sines at the first and the second half of the rotated columns. -/
def unrotate (d c a b : FVec F S256x128 .f32) : FVec F S256x128 .bf16 :=
  truncf .bf16 (addf (addf (mulf d c) (dynamicRotate 1 16#32 none (mulf d a) rotates_S256x128_d1))
    (dynamicRotate 1 112#32 none (mulf d b) rotates_S256x128_d1)) bitsLt_bf16_f32

/-- Keys' gradient as stored: scaled by the logarithm of two and rotated back. -/
def dkOut (d c a b : FVec F S256x128 .f32) : FVec F S256x128 .bf16 :=
  unrotate (mulf d (broadcast S256x128 (Named.named κ "ln2" 0x3F317218#32 : F .f32))) c a b

/-- Queries' gradient as stored: scaled by the attention's scale and rotated back. -/
def dqOut (d c a b : FVec F S256x128 .f32) : FVec F S256x128 .bf16 :=
  unrotate (mulf d (broadcast S256x128 (Scalar.ofBits .f32 0x3DD105EC#32 : F .f32))) c a b

/-- The accumulators of eight heads as the loop carries them. -/
def carryOf (dk dv : Fin 8 → FVec F S256x128 .f32) :
    FVec F S256x128 .f32 × FVec F S256x128 .f32 × FVec F S256x128 .f32 × FVec F S256x128 .f32 × FVec F S256x128 .f32 × FVec F S256x128 .f32 × FVec F S256x128 .f32 × FVec F S256x128 .f32 × FVec F S256x128 .f32 × FVec F S256x128 .f32 × FVec F S256x128 .f32 × FVec F S256x128 .f32 × FVec F S256x128 .f32 × FVec F S256x128 .f32 × FVec F S256x128 .f32 × FVec F S256x128 .f32 :=
  (dk 0, dv 0, dk 1, dv 1, dk 2, dv 2, dk 3, dv 3, dk 4, dv 4, dk 5, dv 5, dk 6, dv 6, dk 7, dv 7)

/-- The queries' accumulator after a step over the queries of block `n`: head `h`'s tile of that block has grown by what the
    score gradients `w h` and the keys `k h` give, every other entry is as it was. -/
def scratchStep (n : Fin 16) (w : Fin 8 → FVec F S256x256 .bf16) (k : Fin 8 → FVec F S256x128 .bf16) (s : Vec F S4096x1024 .f32) :
    Vec F S4096x1024 .f32 := fun x =>
  if hx : (x 0).val / 256 = n.val then
    accumT (tile n ⟨(x 1).val / 128, by have : (x 1).val < 1024 := (x 1).isLt; omega⟩ s)
      (w ⟨(x 1).val / 128, by have : (x 1).val < 1024 := (x 1).isLt; omega⟩)
      (k ⟨(x 1).val / 128, by have : (x 1).val < 1024 := (x 1).isLt; omega⟩)
      (ix2 ⟨(x 0).val % 256, by omega⟩ ⟨(x 1).val % 128, by omega⟩)
  else s x

/-- The same tile, loaded. -/
theorem tile_read {e : EltTy} {sp : Space} (M : Memref sig .tc sp S4096x1024 e) (hM : M.IsWhole) (x : Vec F S4096x1024 e) (n : Fin 16) (h : Fin 8)
    (off : Fin 2 → ℕ) (inb) (he : off = ![256 * n.val, 128 * h.val]) (hc : S256x128.ShapeCasts S256x128) :
    (shapeCast S256x128 (View.readAt (Elt F) M.view (Rect.unit (s := S4096x1024) off S256x128.size inb).toLoadRect (hM.unread x)) hc : Vec F S256x128 e)
      = tile n h x := by
  subst he
  refine (shapeCast_self (s := S256x128) _ _).trans ?_
  funext j
  exact congrFun (hM.read_unread x) _

/-- A tile of any contents, loaded. -/
theorem tile_readAt {e : EltTy} {sp : Space} (M : Memref sig .tc sp S4096x1024 e) (f : M.view.ty.Contents (Elt F)) (n : Fin 16) (h : Fin 8)
    (off : Fin 2 → ℕ) (inb) (he : off = ![256 * n.val, 128 * h.val]) :
    (View.readAt (Elt F) M.view (Rect.unit (s := S4096x1024) off S256x128.size inb).toLoadRect f : Vec F S256x128 e)
      = tile n h (M.view.read (Elt F) f) := by
  subst he; rfl

/-- A head's row of a block, loaded. -/
theorem row_read {e : EltTy} {sp : Space} (M : Memref sig .tc sp S8x16x1x256 e) (hM : M.IsWhole) (x : Vec F S8x16x1x256 e) (n : Fin 16) (h : Fin 8)
    (off : Fin 4 → ℕ) (inb) (he : off = ![h.val, n.val, 0, 0]) :
    (View.readAt (Elt F) M.view (Rect.unit (s := S8x16x1x256) off S1x1x1x256.size inb).toLoadRect (hM.unread x) : Vec F S1x1x1x256 e)
      = rowOf h n x := by
  subst he
  funext j
  exact congrFun (hM.read_unread x) _

/-- A head's keys or values, loaded. -/
theorem half_read {e : EltTy} {sp : Space} (M : Memref sig .tc sp S256x2048 e) (hM : M.IsWhole) (x : Vec F S256x2048 e) (h : Fin 16)
    (off : Fin 2 → ℕ) (inb) (he : off = ![0, 128 * h.val]) (hc : S256x128.ShapeCasts S256x128) :
    (shapeCast S256x128 (View.readAt (Elt F) M.view (Rect.unit (s := S256x2048) off S256x128.size inb).toLoadRect (hM.unread x)) hc : Vec F S256x128 e)
      = half h x := by
  subst he
  refine (shapeCast_self (s := S256x128) _ _).trans ?_
  funext j
  exact congrFun (hM.read_unread x) _

end Cert.KernelIdeal.AttnBwd

end
-- ==== Proof.Trip.lean ====
/- One trip of attn_bwd's loop over the later blocks of queries: what it carries on and what it leaves in the queries'
   accumulator, in terms of the block model. -/
module

public import proofs.«01_k».proof.Proof.Model
public import proofs.«01_k».proof.Proof.Gen.KernelIdeal.Loops

@[expose] public section

set_option maxRecDepth 16384

noncomputable section

namespace Cert.KernelIdeal.AttnBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable {F : FTy → Type} [FloatOps F] [Named F]

/-- The block of queries on the diagonal of a grid point. -/
def qb (i : grid0.Coords) : Fin 16 := ⟨(i 1).val, (i 1).isLt⟩

theorem trip_lt (i : grid0.Coords) (k : Fin (k0_t1_loop i).trips) : (i 1).val + 1 + k.val < 16 := by
  have r : (i 1).val < 16 := (i 1).isLt
  have h1 : Affine.IsInt (BitVec.ofNat 32 (i 1).val) (((i 1).val : Int)) := Affine.ofNat _ (by omega)
  have h2 : Affine.IsInt 1#32 (1) := Affine.ofNat _ (by omega)
  have h3 : Affine.IsInt _ (((i 1).val : Int) + 1) := Affine.addi h1 h2 (by omega)
  have hk : k.val < 15 := Nat.lt_of_lt_of_le k.isLt (k0_t1_abs i).2.1
  have h4 : Affine.IsInt _ (((i 1).val : Int) + (k.val : Int) + 1) := Affine.iv h3 h2 k.val (by omega)
  have h5 : ((i 1).val : Int) + (k.val : Int) + 1 ≤ 16 - 1 := Affine.iv_lt (k0_t1_abs i).1 k.isLt (k0_t1_abs i).2.2 h4
  omega

/-- The block of queries of a trip. -/
def nb (i : grid0.Coords) (k : Fin (k0_t1_loop i).trips) : Fin 16 := ⟨(i 1).val + 1 + k.val, trip_lt i k⟩

/-- The trip's counter, as the word the kernel computes. -/
theorem trip_word (i : grid0.Coords) (k : Fin (k0_t1_loop i).trips) :
    (Scalar.indexCast (Scf.iv (Scalar.addi (BitVec.ofNat 32 (i 1).val) 1#32) 1#32 k.val)).toNat = (nb i k).val := by
  have hn := trip_lt i k
  have h1 : Affine.IsInt (BitVec.ofNat 32 (i 1).val) (((i 1).val : Int)) := Affine.ofNat _ (by omega)
  have h2 : Affine.IsInt 1#32 (1) := Affine.ofNat _ (by omega)
  have h3 : Affine.IsInt _ (((i 1).val : Int) + 1) := Affine.addi h1 h2 (by omega)
  have h4 : Affine.IsInt _ (((i 1).val : Int) + (k.val : Int) + 1) := Affine.iv h3 h2 k.val (by omega)
  exact Affine.nat_eq (Affine.indexCast h4) _ (by unfold nb; push_cast; omega)

/-- The trip's first row, as the word the kernel computes. -/
theorem trip_row (i : grid0.Coords) (k : Fin (k0_t1_loop i).trips) :
    (Scalar.indexCast (Scalar.muli (Scf.iv (Scalar.addi (BitVec.ofNat 32 (i 1).val) 1#32) 1#32 k.val) 256#32)).toNat = 256 * (nb i k).val := by
  have hn := trip_lt i k
  have h1 : Affine.IsInt (BitVec.ofNat 32 (i 1).val) (((i 1).val : Int)) := Affine.ofNat _ (by omega)
  have h2 : Affine.IsInt 1#32 (1) := Affine.ofNat _ (by omega)
  have h6 : Affine.IsInt 256#32 (256) := Affine.ofNat _ (by omega)
  have h3 : Affine.IsInt _ (((i 1).val : Int) + 1) := Affine.addi h1 h2 (by omega)
  have h4 : Affine.IsInt _ (((i 1).val : Int) + (k.val : Int) + 1) := Affine.iv h3 h2 k.val (by omega)
  have h5 : Affine.IsInt _ (256 * ((i 1).val : Int) + 256 * (k.val : Int) + 256) := Affine.muli h4 h6 (by omega)
  exact Affine.nat_eq (Affine.indexCast h5) _ (by unfold nb; push_cast; omega)

/-- The diagonal block's number and first row, as the words the kernel computes. -/
theorem diag_word (i : grid0.Coords) : (Scalar.indexCast (BitVec.ofNat 32 (i 1).val)).toNat = (qb i).val := by
  have r : (i 1).val < 16 := (i 1).isLt
  have h1 : Affine.IsInt (BitVec.ofNat 32 (i 1).val) (((i 1).val : Int)) := Affine.ofNat _ (by omega)
  exact Affine.nat_eq (Affine.indexCast h1) _ rfl
theorem diag_row (i : grid0.Coords) : (Scalar.indexCast (Scalar.muli (BitVec.ofNat 32 (i 1).val) 256#32)).toNat = 256 * (qb i).val := by
  have r : (i 1).val < 16 := (i 1).isLt
  have h1 : Affine.IsInt (BitVec.ofNat 32 (i 1).val) (((i 1).val : Int)) := Affine.ofNat _ (by omega)
  have h6 : Affine.IsInt 256#32 (256) := Affine.ofNat _ (by omega)
  have h5 : Affine.IsInt _ (256 * ((i 1).val : Int)) := Affine.muli h1 h6 (by omega)
  exact Affine.nat_eq (Affine.indexCast h5) _ (by unfold qb; push_cast; omega)

theorem off17_eq (i : grid0.Coords) (k : Fin (k0_t1_loop i).trips) : k0_off17 i k = ![256 * (nb i k).val, 128 * ((0 : Fin 8) : ℕ)] := by
  rw [← trip_row]; rfl
theorem off25_eq (i : grid0.Coords) (k : Fin (k0_t1_loop i).trips) : k0_off25 i k = ![((0 : Fin 8) : ℕ), (nb i k).val, 0, 0] := by
  rw [← trip_word]; rfl
theorem off1_eq (i : grid0.Coords) : k0_off1 i = ![256 * (qb i).val, 128 * ((0 : Fin 8) : ℕ)] := by
  rw [← diag_row]; rfl
theorem off9_eq (i : grid0.Coords) : k0_off9 i = ![((0 : Fin 8) : ℕ), (qb i).val, 0, 0] := by
  rw [← diag_word]; rfl
theorem off18_eq (i : grid0.Coords) (k : Fin (k0_t1_loop i).trips) : k0_off18 i k = ![256 * (nb i k).val, 128 * ((1 : Fin 8) : ℕ)] := by
  rw [← trip_row]; rfl
theorem off26_eq (i : grid0.Coords) (k : Fin (k0_t1_loop i).trips) : k0_off26 i k = ![((1 : Fin 8) : ℕ), (nb i k).val, 0, 0] := by
  rw [← trip_word]; rfl
theorem off2_eq (i : grid0.Coords) : k0_off2 i = ![256 * (qb i).val, 128 * ((1 : Fin 8) : ℕ)] := by
  rw [← diag_row]; rfl
theorem off10_eq (i : grid0.Coords) : k0_off10 i = ![((1 : Fin 8) : ℕ), (qb i).val, 0, 0] := by
  rw [← diag_word]; rfl
theorem off19_eq (i : grid0.Coords) (k : Fin (k0_t1_loop i).trips) : k0_off19 i k = ![256 * (nb i k).val, 128 * ((2 : Fin 8) : ℕ)] := by
  rw [← trip_row]; rfl
theorem off27_eq (i : grid0.Coords) (k : Fin (k0_t1_loop i).trips) : k0_off27 i k = ![((2 : Fin 8) : ℕ), (nb i k).val, 0, 0] := by
  rw [← trip_word]; rfl
theorem off3_eq (i : grid0.Coords) : k0_off3 i = ![256 * (qb i).val, 128 * ((2 : Fin 8) : ℕ)] := by
  rw [← diag_row]; rfl
theorem off11_eq (i : grid0.Coords) : k0_off11 i = ![((2 : Fin 8) : ℕ), (qb i).val, 0, 0] := by
  rw [← diag_word]; rfl
theorem off20_eq (i : grid0.Coords) (k : Fin (k0_t1_loop i).trips) : k0_off20 i k = ![256 * (nb i k).val, 128 * ((3 : Fin 8) : ℕ)] := by
  rw [← trip_row]; rfl
theorem off28_eq (i : grid0.Coords) (k : Fin (k0_t1_loop i).trips) : k0_off28 i k = ![((3 : Fin 8) : ℕ), (nb i k).val, 0, 0] := by
  rw [← trip_word]; rfl
theorem off4_eq (i : grid0.Coords) : k0_off4 i = ![256 * (qb i).val, 128 * ((3 : Fin 8) : ℕ)] := by
  rw [← diag_row]; rfl
theorem off12_eq (i : grid0.Coords) : k0_off12 i = ![((3 : Fin 8) : ℕ), (qb i).val, 0, 0] := by
  rw [← diag_word]; rfl
theorem off21_eq (i : grid0.Coords) (k : Fin (k0_t1_loop i).trips) : k0_off21 i k = ![256 * (nb i k).val, 128 * ((4 : Fin 8) : ℕ)] := by
  rw [← trip_row]; rfl
theorem off29_eq (i : grid0.Coords) (k : Fin (k0_t1_loop i).trips) : k0_off29 i k = ![((4 : Fin 8) : ℕ), (nb i k).val, 0, 0] := by
  rw [← trip_word]; rfl
theorem off5_eq (i : grid0.Coords) : k0_off5 i = ![256 * (qb i).val, 128 * ((4 : Fin 8) : ℕ)] := by
  rw [← diag_row]; rfl
theorem off13_eq (i : grid0.Coords) : k0_off13 i = ![((4 : Fin 8) : ℕ), (qb i).val, 0, 0] := by
  rw [← diag_word]; rfl
theorem off22_eq (i : grid0.Coords) (k : Fin (k0_t1_loop i).trips) : k0_off22 i k = ![256 * (nb i k).val, 128 * ((5 : Fin 8) : ℕ)] := by
  rw [← trip_row]; rfl
theorem off30_eq (i : grid0.Coords) (k : Fin (k0_t1_loop i).trips) : k0_off30 i k = ![((5 : Fin 8) : ℕ), (nb i k).val, 0, 0] := by
  rw [← trip_word]; rfl
theorem off6_eq (i : grid0.Coords) : k0_off6 i = ![256 * (qb i).val, 128 * ((5 : Fin 8) : ℕ)] := by
  rw [← diag_row]; rfl
theorem off14_eq (i : grid0.Coords) : k0_off14 i = ![((5 : Fin 8) : ℕ), (qb i).val, 0, 0] := by
  rw [← diag_word]; rfl
theorem off23_eq (i : grid0.Coords) (k : Fin (k0_t1_loop i).trips) : k0_off23 i k = ![256 * (nb i k).val, 128 * ((6 : Fin 8) : ℕ)] := by
  rw [← trip_row]; rfl
theorem off31_eq (i : grid0.Coords) (k : Fin (k0_t1_loop i).trips) : k0_off31 i k = ![((6 : Fin 8) : ℕ), (nb i k).val, 0, 0] := by
  rw [← trip_word]; rfl
theorem off7_eq (i : grid0.Coords) : k0_off7 i = ![256 * (qb i).val, 128 * ((6 : Fin 8) : ℕ)] := by
  rw [← diag_row]; rfl
theorem off15_eq (i : grid0.Coords) : k0_off15 i = ![((6 : Fin 8) : ℕ), (qb i).val, 0, 0] := by
  rw [← diag_word]; rfl
theorem off24_eq (i : grid0.Coords) (k : Fin (k0_t1_loop i).trips) : k0_off24 i k = ![256 * (nb i k).val, 128 * ((7 : Fin 8) : ℕ)] := by
  rw [← trip_row]; rfl
theorem off32_eq (i : grid0.Coords) (k : Fin (k0_t1_loop i).trips) : k0_off32 i k = ![((7 : Fin 8) : ℕ), (nb i k).val, 0, 0] := by
  rw [← trip_word]; rfl
theorem off8_eq (i : grid0.Coords) : k0_off8 i = ![256 * (qb i).val, 128 * ((7 : Fin 8) : ℕ)] := by
  rw [← diag_row]; rfl
theorem off16_eq (i : grid0.Coords) : k0_off16 i = ![((7 : Fin 8) : ℕ), (qb i).val, 0, 0] := by
  rw [← diag_word]; rfl

/-- Eight stores, one tile of a block of queries per head, leave the accumulator as the step says if each stores its head's
    tile grown by the head's product. -/
theorem scratch_pieces {sp : Space} (M : Memref sig .tc sp S4096x1024 .f32) (f : M.view.ty.Contents (Elt F)) (n : Fin 16)
    (w : Fin 8 → FVec F S256x256 .bf16) (k : Fin 8 → FVec F S256x128 .bf16)
    (o0 : Fin 2 → ℕ) (i0 : ∀ a, o0 a + S256x128.size a ≤ S4096x1024.size a) (e0 : o0 = ![256 * n.val, 128 * ((0 : Fin 8) : ℕ)]) (o1 : Fin 2 → ℕ) (i1 : ∀ a, o1 a + S256x128.size a ≤ S4096x1024.size a) (e1 : o1 = ![256 * n.val, 128 * ((1 : Fin 8) : ℕ)]) (o2 : Fin 2 → ℕ) (i2 : ∀ a, o2 a + S256x128.size a ≤ S4096x1024.size a) (e2 : o2 = ![256 * n.val, 128 * ((2 : Fin 8) : ℕ)]) (o3 : Fin 2 → ℕ) (i3 : ∀ a, o3 a + S256x128.size a ≤ S4096x1024.size a) (e3 : o3 = ![256 * n.val, 128 * ((3 : Fin 8) : ℕ)]) (o4 : Fin 2 → ℕ) (i4 : ∀ a, o4 a + S256x128.size a ≤ S4096x1024.size a) (e4 : o4 = ![256 * n.val, 128 * ((4 : Fin 8) : ℕ)]) (o5 : Fin 2 → ℕ) (i5 : ∀ a, o5 a + S256x128.size a ≤ S4096x1024.size a) (e5 : o5 = ![256 * n.val, 128 * ((5 : Fin 8) : ℕ)]) (o6 : Fin 2 → ℕ) (i6 : ∀ a, o6 a + S256x128.size a ≤ S4096x1024.size a) (e6 : o6 = ![256 * n.val, 128 * ((6 : Fin 8) : ℕ)]) (o7 : Fin 2 → ℕ) (i7 : ∀ a, o7 a + S256x128.size a ≤ S4096x1024.size a) (e7 : o7 = ![256 * n.val, 128 * ((7 : Fin 8) : ℕ)])
    (p0 p1 p2 p3 p4 p5 p6 p7 : Vec F S256x128 .f32) (L : List (View.Piece (Elt F) S4096x1024 .f32))
    (hL : L = [⟨Rect.unit (s := S4096x1024) o7 S256x128.size i7, p7⟩, ⟨Rect.unit (s := S4096x1024) o6 S256x128.size i6, p6⟩, ⟨Rect.unit (s := S4096x1024) o5 S256x128.size i5, p5⟩, ⟨Rect.unit (s := S4096x1024) o4 S256x128.size i4, p4⟩, ⟨Rect.unit (s := S4096x1024) o3 S256x128.size i3, p3⟩, ⟨Rect.unit (s := S4096x1024) o2 S256x128.size i2, p2⟩, ⟨Rect.unit (s := S4096x1024) o1 S256x128.size i1, p1⟩, ⟨Rect.unit (s := S4096x1024) o0 S256x128.size i0, p0⟩])
    (h0 : p0 = accumT (tile n 0 (M.view.read (Elt F) f)) (w 0) (k 0)) (h1 : p1 = accumT (tile n 1 (M.view.read (Elt F) f)) (w 1) (k 1)) (h2 : p2 = accumT (tile n 2 (M.view.read (Elt F) f)) (w 2) (k 2)) (h3 : p3 = accumT (tile n 3 (M.view.read (Elt F) f)) (w 3) (k 3)) (h4 : p4 = accumT (tile n 4 (M.view.read (Elt F) f)) (w 4) (k 4)) (h5 : p5 = accumT (tile n 5 (M.view.read (Elt F) f)) (w 5) (k 5)) (h6 : p6 = accumT (tile n 6 (M.view.read (Elt F) f)) (w 6) (k 6)) (h7 : p7 = accumT (tile n 7 (M.view.read (Elt F) f)) (w 7) (k 7)) :
    M.view.read (Elt F) (M.view.writes (Elt F) f L) = scratchStep n w k (M.view.read (Elt F) f) := by
  subst hL
  funext x
  have hx0 : (x 0).val < 4096 := (x 0).isLt
  have hx1 : (x 1).val < 1024 := (x 1).isLt
  unfold scratchStep
  by_cases hr : (x 0).val / 256 = n.val
  · rw [dif_pos hr]
    have hc : (x 1).val / 128 < 8 := by omega
    rcases (by omega : (x 1).val / 128 = 0 ∨ (x 1).val / 128 = 1 ∨ (x 1).val / 128 = 2 ∨ (x 1).val / 128 = 3 ∨ (x 1).val / 128 = 4 ∨ (x 1).val / 128 = 5 ∨ (x 1).val / 128 = 6 ∨ (x 1).val / 128 = 7) with hq | hq | hq | hq | hq | hq | hq | hq
    · rw [View.read_writes_cons_unit_of_not_mem M.view f i7 p7 _ x e7 1 (Or.inl (by show (x 1).val < 128 * 7; omega))]
      rw [View.read_writes_cons_unit_of_not_mem M.view f i6 p6 _ x e6 1 (Or.inl (by show (x 1).val < 128 * 6; omega))]
      rw [View.read_writes_cons_unit_of_not_mem M.view f i5 p5 _ x e5 1 (Or.inl (by show (x 1).val < 128 * 5; omega))]
      rw [View.read_writes_cons_unit_of_not_mem M.view f i4 p4 _ x e4 1 (Or.inl (by show (x 1).val < 128 * 4; omega))]
      rw [View.read_writes_cons_unit_of_not_mem M.view f i3 p3 _ x e3 1 (Or.inl (by show (x 1).val < 128 * 3; omega))]
      rw [View.read_writes_cons_unit_of_not_mem M.view f i2 p2 _ x e2 1 (Or.inl (by show (x 1).val < 128 * 2; omega))]
      rw [View.read_writes_cons_unit_of_not_mem M.view f i1 p1 _ x e1 1 (Or.inl (by show (x 1).val < 128 * 1; omega))]
      rw [View.read_writes_cons_unit_of_mem M.view f i0 p0 _ x (ix2 ⟨(x 0).val % 256, by omega⟩ ⟨(x 1).val % 128, by omega⟩) e0
        (Fin.forall_fin_two.mpr ⟨by show (x 0).val = 256 * n.val + (x 0).val % 256; omega, by show (x 1).val = 128 * 0 + (x 1).val % 128; omega⟩)]
      have hf : ∀ hp : (x 1).val / 128 < 8, (⟨(x 1).val / 128, hp⟩ : Fin 8) = 0 := fun _ => Fin.ext hq
      rw [h0, hf]
    · rw [View.read_writes_cons_unit_of_not_mem M.view f i7 p7 _ x e7 1 (Or.inl (by show (x 1).val < 128 * 7; omega))]
      rw [View.read_writes_cons_unit_of_not_mem M.view f i6 p6 _ x e6 1 (Or.inl (by show (x 1).val < 128 * 6; omega))]
      rw [View.read_writes_cons_unit_of_not_mem M.view f i5 p5 _ x e5 1 (Or.inl (by show (x 1).val < 128 * 5; omega))]
      rw [View.read_writes_cons_unit_of_not_mem M.view f i4 p4 _ x e4 1 (Or.inl (by show (x 1).val < 128 * 4; omega))]
      rw [View.read_writes_cons_unit_of_not_mem M.view f i3 p3 _ x e3 1 (Or.inl (by show (x 1).val < 128 * 3; omega))]
      rw [View.read_writes_cons_unit_of_not_mem M.view f i2 p2 _ x e2 1 (Or.inl (by show (x 1).val < 128 * 2; omega))]
      rw [View.read_writes_cons_unit_of_mem M.view f i1 p1 _ x (ix2 ⟨(x 0).val % 256, by omega⟩ ⟨(x 1).val % 128, by omega⟩) e1
        (Fin.forall_fin_two.mpr ⟨by show (x 0).val = 256 * n.val + (x 0).val % 256; omega, by show (x 1).val = 128 * 1 + (x 1).val % 128; omega⟩)]
      have hf : ∀ hp : (x 1).val / 128 < 8, (⟨(x 1).val / 128, hp⟩ : Fin 8) = 1 := fun _ => Fin.ext hq
      rw [h1, hf]
    · rw [View.read_writes_cons_unit_of_not_mem M.view f i7 p7 _ x e7 1 (Or.inl (by show (x 1).val < 128 * 7; omega))]
      rw [View.read_writes_cons_unit_of_not_mem M.view f i6 p6 _ x e6 1 (Or.inl (by show (x 1).val < 128 * 6; omega))]
      rw [View.read_writes_cons_unit_of_not_mem M.view f i5 p5 _ x e5 1 (Or.inl (by show (x 1).val < 128 * 5; omega))]
      rw [View.read_writes_cons_unit_of_not_mem M.view f i4 p4 _ x e4 1 (Or.inl (by show (x 1).val < 128 * 4; omega))]
      rw [View.read_writes_cons_unit_of_not_mem M.view f i3 p3 _ x e3 1 (Or.inl (by show (x 1).val < 128 * 3; omega))]
      rw [View.read_writes_cons_unit_of_mem M.view f i2 p2 _ x (ix2 ⟨(x 0).val % 256, by omega⟩ ⟨(x 1).val % 128, by omega⟩) e2
        (Fin.forall_fin_two.mpr ⟨by show (x 0).val = 256 * n.val + (x 0).val % 256; omega, by show (x 1).val = 128 * 2 + (x 1).val % 128; omega⟩)]
      have hf : ∀ hp : (x 1).val / 128 < 8, (⟨(x 1).val / 128, hp⟩ : Fin 8) = 2 := fun _ => Fin.ext hq
      rw [h2, hf]
    · rw [View.read_writes_cons_unit_of_not_mem M.view f i7 p7 _ x e7 1 (Or.inl (by show (x 1).val < 128 * 7; omega))]
      rw [View.read_writes_cons_unit_of_not_mem M.view f i6 p6 _ x e6 1 (Or.inl (by show (x 1).val < 128 * 6; omega))]
      rw [View.read_writes_cons_unit_of_not_mem M.view f i5 p5 _ x e5 1 (Or.inl (by show (x 1).val < 128 * 5; omega))]
      rw [View.read_writes_cons_unit_of_not_mem M.view f i4 p4 _ x e4 1 (Or.inl (by show (x 1).val < 128 * 4; omega))]
      rw [View.read_writes_cons_unit_of_mem M.view f i3 p3 _ x (ix2 ⟨(x 0).val % 256, by omega⟩ ⟨(x 1).val % 128, by omega⟩) e3
        (Fin.forall_fin_two.mpr ⟨by show (x 0).val = 256 * n.val + (x 0).val % 256; omega, by show (x 1).val = 128 * 3 + (x 1).val % 128; omega⟩)]
      have hf : ∀ hp : (x 1).val / 128 < 8, (⟨(x 1).val / 128, hp⟩ : Fin 8) = 3 := fun _ => Fin.ext hq
      rw [h3, hf]
    · rw [View.read_writes_cons_unit_of_not_mem M.view f i7 p7 _ x e7 1 (Or.inl (by show (x 1).val < 128 * 7; omega))]
      rw [View.read_writes_cons_unit_of_not_mem M.view f i6 p6 _ x e6 1 (Or.inl (by show (x 1).val < 128 * 6; omega))]
      rw [View.read_writes_cons_unit_of_not_mem M.view f i5 p5 _ x e5 1 (Or.inl (by show (x 1).val < 128 * 5; omega))]
      rw [View.read_writes_cons_unit_of_mem M.view f i4 p4 _ x (ix2 ⟨(x 0).val % 256, by omega⟩ ⟨(x 1).val % 128, by omega⟩) e4
        (Fin.forall_fin_two.mpr ⟨by show (x 0).val = 256 * n.val + (x 0).val % 256; omega, by show (x 1).val = 128 * 4 + (x 1).val % 128; omega⟩)]
      have hf : ∀ hp : (x 1).val / 128 < 8, (⟨(x 1).val / 128, hp⟩ : Fin 8) = 4 := fun _ => Fin.ext hq
      rw [h4, hf]
    · rw [View.read_writes_cons_unit_of_not_mem M.view f i7 p7 _ x e7 1 (Or.inl (by show (x 1).val < 128 * 7; omega))]
      rw [View.read_writes_cons_unit_of_not_mem M.view f i6 p6 _ x e6 1 (Or.inl (by show (x 1).val < 128 * 6; omega))]
      rw [View.read_writes_cons_unit_of_mem M.view f i5 p5 _ x (ix2 ⟨(x 0).val % 256, by omega⟩ ⟨(x 1).val % 128, by omega⟩) e5
        (Fin.forall_fin_two.mpr ⟨by show (x 0).val = 256 * n.val + (x 0).val % 256; omega, by show (x 1).val = 128 * 5 + (x 1).val % 128; omega⟩)]
      have hf : ∀ hp : (x 1).val / 128 < 8, (⟨(x 1).val / 128, hp⟩ : Fin 8) = 5 := fun _ => Fin.ext hq
      rw [h5, hf]
    · rw [View.read_writes_cons_unit_of_not_mem M.view f i7 p7 _ x e7 1 (Or.inl (by show (x 1).val < 128 * 7; omega))]
      rw [View.read_writes_cons_unit_of_mem M.view f i6 p6 _ x (ix2 ⟨(x 0).val % 256, by omega⟩ ⟨(x 1).val % 128, by omega⟩) e6
        (Fin.forall_fin_two.mpr ⟨by show (x 0).val = 256 * n.val + (x 0).val % 256; omega, by show (x 1).val = 128 * 6 + (x 1).val % 128; omega⟩)]
      have hf : ∀ hp : (x 1).val / 128 < 8, (⟨(x 1).val / 128, hp⟩ : Fin 8) = 6 := fun _ => Fin.ext hq
      rw [h6, hf]
    · rw [View.read_writes_cons_unit_of_mem M.view f i7 p7 _ x (ix2 ⟨(x 0).val % 256, by omega⟩ ⟨(x 1).val % 128, by omega⟩) e7
        (Fin.forall_fin_two.mpr ⟨by show (x 0).val = 256 * n.val + (x 0).val % 256; omega, by show (x 1).val = 128 * 7 + (x 1).val % 128; omega⟩)]
      have hf : ∀ hp : (x 1).val / 128 < 8, (⟨(x 1).val / 128, hp⟩ : Fin 8) = 7 := fun _ => Fin.ext hq
      rw [h7, hf]
  · rw [dif_neg hr]
    rw [View.read_writes_cons_unit_of_not_mem M.view f i7 p7 _ x e7 0 (by show (x 0).val < 256 * n.val ∨ 256 * n.val + 256 ≤ (x 0).val; omega)]
    rw [View.read_writes_cons_unit_of_not_mem M.view f i6 p6 _ x e6 0 (by show (x 0).val < 256 * n.val ∨ 256 * n.val + 256 ≤ (x 0).val; omega)]
    rw [View.read_writes_cons_unit_of_not_mem M.view f i5 p5 _ x e5 0 (by show (x 0).val < 256 * n.val ∨ 256 * n.val + 256 ≤ (x 0).val; omega)]
    rw [View.read_writes_cons_unit_of_not_mem M.view f i4 p4 _ x e4 0 (by show (x 0).val < 256 * n.val ∨ 256 * n.val + 256 ≤ (x 0).val; omega)]
    rw [View.read_writes_cons_unit_of_not_mem M.view f i3 p3 _ x e3 0 (by show (x 0).val < 256 * n.val ∨ 256 * n.val + 256 ≤ (x 0).val; omega)]
    rw [View.read_writes_cons_unit_of_not_mem M.view f i2 p2 _ x e2 0 (by show (x 0).val < 256 * n.val ∨ 256 * n.val + 256 ≤ (x 0).val; omega)]
    rw [View.read_writes_cons_unit_of_not_mem M.view f i1 p1 _ x e1 0 (by show (x 0).val < 256 * n.val ∨ 256 * n.val + 256 ≤ (x 0).val; omega)]
    rw [View.read_writes_cons_unit_of_not_mem M.view f i0 p0 _ x e0 0 (by show (x 0).val < 256 * n.val ∨ 256 * n.val + 256 ≤ (x 0).val; omega)]
    rfl

section Trip

variable (𝒱 : Variants) (c : Dev nD) (bd : Option 𝒱.V) (i : grid0.Coords) (arg2 : Memref sig .tc .vmem S256x2048 .bf16) (harg2 : arg2.IsWhole) (arg3 : Memref sig .tc .vmem S4096x1024 .bf16) (harg3 : arg3.IsWhole) (arg4 : Memref sig .tc .vmem S4096x1024 .bf16) (harg4 : arg4.IsWhole) (arg5 : Memref sig .tc .vmem S8x16x1x256 .f32) (harg5 : arg5.IsWhole) (arg6 : Memref sig .tc .vmem S8x16x1x256 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x1024 .bf16) (harg10 : arg10.IsWhole) (arg11 : Memref sig .tc .vmem S256x2048 .bf16) (harg11 : arg11.IsWhole) (arg12 : Memref sig .tc .vmem S4096x1024 .f32) (harg12 : arg12.IsWhole) (arg1 : BitVec 32) (v35 : FVec F S256x128 .f32) (v37 : BitVec 32) (v58 : FVec F S256x128 .bf16) (v61 : FVec F S256x128 .bf16) (v85 : FVec F S256x128 .bf16) (v262 : FVec F S256x256 .bf16) (v278 : FVec F S256x256 .bf16) (v285 : FVec F S256x256 .bf16) (v287 : FVec F S256x128 .f32) (v289 : FVec F S256x128 .f32) (v299 : FVec F S256x128 .f32) (v301 : FVec F S256x128 .f32) (v311 : FVec F S256x128 .f32) (v313 : FVec F S256x128 .f32) (v323 : FVec F S256x128 .f32) (v325 : FVec F S256x128 .f32) (v335 : FVec F S256x128 .f32) (v337 : FVec F S256x128 .f32) (v347 : FVec F S256x128 .f32) (v349 : FVec F S256x128 .f32) (v359 : FVec F S256x128 .f32) (v382 : BitVec 32) (k : Fin (k0_t1_loop i).trips)
  (kk vv : Fin 8 → FVec F S256x128 .bf16) (x3 x4 : Vec F S4096x1024 .bf16) (x5 x6 : Vec F S8x16x1x256 .f32) (dk dv : Fin 8 → FVec F S256x128 .f32) (f : BufTy.Contents (Elt F) arg12.view.ty)

set_option maxHeartbeats 4000000 in
/-- What a trip carries on: every head's accumulators after the step. -/
theorem trip_carry :
    tripR_k0_t1 (F := F) 𝒱 c bd i arg2 harg2 arg3 harg3 arg4 harg4 arg5 harg5 arg6 harg6 arg7 harg7 arg8 harg8 arg9 harg9 arg10 harg10 arg11 harg11 arg12 harg12 arg1 (kk 0) (kk 1) (kk 2) (kk 3) (kk 4) (kk 5) (kk 6) (kk 7) (vv 0) (vv 1) (vv 2) (vv 3) (vv 4) (vv 5) (vv 6) (vv 7) v35 v37 v58 v61 v85 v262 v278 v285 v287 v289 v299 v301 v311 v313 v323 v325 v335 v337 v347 v349 v359 v382 (harg3.unread x3) (harg4.unread x4) (harg5.unread x5) (harg6.unread x6) k (carryOf dk dv) f
      = carryOf (fun h => accum (dk h) (dsOf false (kk h) (vv h) (tile (nb i k) h x3) (tile (nb i k) h x4) (rowOf h (nb i k) x5) (rowOf h (nb i k) x6)) (tile (nb i k) h x3))
          (fun h => accum (dv h) (pOf false (kk h) (tile (nb i k) h x3) (rowOf h (nb i k) x5)) (tile (nb i k) h x4)) := by
  have e3_0 : tile (nb i k) 0 x3 = _ := (tile_read arg3 harg3 x3 (nb i k) 0 (k0_off17 i k) (k0_off17_inb i k) (off17_eq i k) shapeCasts_S256x128_S256x128).symm
  have e4_0 : tile (nb i k) 0 x4 = _ := (tile_read arg4 harg4 x4 (nb i k) 0 (k0_off17 i k) (k0_off17_inb i k) (off17_eq i k) shapeCasts_S256x128_S256x128).symm
  have e5_0 : rowOf 0 (nb i k) x5 = _ := (row_read arg5 harg5 x5 (nb i k) 0 (k0_off25 i k) (k0_off25_inb i k) (off25_eq i k)).symm
  have e6_0 : rowOf 0 (nb i k) x6 = _ := (row_read arg6 harg6 x6 (nb i k) 0 (k0_off25 i k) (k0_off25_inb i k) (off25_eq i k)).symm
  have e3_1 : tile (nb i k) 1 x3 = _ := (tile_read arg3 harg3 x3 (nb i k) 1 (k0_off18 i k) (k0_off18_inb i k) (off18_eq i k) shapeCasts_S256x128_S256x128).symm
  have e4_1 : tile (nb i k) 1 x4 = _ := (tile_read arg4 harg4 x4 (nb i k) 1 (k0_off18 i k) (k0_off18_inb i k) (off18_eq i k) shapeCasts_S256x128_S256x128).symm
  have e5_1 : rowOf 1 (nb i k) x5 = _ := (row_read arg5 harg5 x5 (nb i k) 1 (k0_off26 i k) (k0_off26_inb i k) (off26_eq i k)).symm
  have e6_1 : rowOf 1 (nb i k) x6 = _ := (row_read arg6 harg6 x6 (nb i k) 1 (k0_off26 i k) (k0_off26_inb i k) (off26_eq i k)).symm
  have e3_2 : tile (nb i k) 2 x3 = _ := (tile_read arg3 harg3 x3 (nb i k) 2 (k0_off19 i k) (k0_off19_inb i k) (off19_eq i k) shapeCasts_S256x128_S256x128).symm
  have e4_2 : tile (nb i k) 2 x4 = _ := (tile_read arg4 harg4 x4 (nb i k) 2 (k0_off19 i k) (k0_off19_inb i k) (off19_eq i k) shapeCasts_S256x128_S256x128).symm
  have e5_2 : rowOf 2 (nb i k) x5 = _ := (row_read arg5 harg5 x5 (nb i k) 2 (k0_off27 i k) (k0_off27_inb i k) (off27_eq i k)).symm
  have e6_2 : rowOf 2 (nb i k) x6 = _ := (row_read arg6 harg6 x6 (nb i k) 2 (k0_off27 i k) (k0_off27_inb i k) (off27_eq i k)).symm
  have e3_3 : tile (nb i k) 3 x3 = _ := (tile_read arg3 harg3 x3 (nb i k) 3 (k0_off20 i k) (k0_off20_inb i k) (off20_eq i k) shapeCasts_S256x128_S256x128).symm
  have e4_3 : tile (nb i k) 3 x4 = _ := (tile_read arg4 harg4 x4 (nb i k) 3 (k0_off20 i k) (k0_off20_inb i k) (off20_eq i k) shapeCasts_S256x128_S256x128).symm
  have e5_3 : rowOf 3 (nb i k) x5 = _ := (row_read arg5 harg5 x5 (nb i k) 3 (k0_off28 i k) (k0_off28_inb i k) (off28_eq i k)).symm
  have e6_3 : rowOf 3 (nb i k) x6 = _ := (row_read arg6 harg6 x6 (nb i k) 3 (k0_off28 i k) (k0_off28_inb i k) (off28_eq i k)).symm
  have e3_4 : tile (nb i k) 4 x3 = _ := (tile_read arg3 harg3 x3 (nb i k) 4 (k0_off21 i k) (k0_off21_inb i k) (off21_eq i k) shapeCasts_S256x128_S256x128).symm
  have e4_4 : tile (nb i k) 4 x4 = _ := (tile_read arg4 harg4 x4 (nb i k) 4 (k0_off21 i k) (k0_off21_inb i k) (off21_eq i k) shapeCasts_S256x128_S256x128).symm
  have e5_4 : rowOf 4 (nb i k) x5 = _ := (row_read arg5 harg5 x5 (nb i k) 4 (k0_off29 i k) (k0_off29_inb i k) (off29_eq i k)).symm
  have e6_4 : rowOf 4 (nb i k) x6 = _ := (row_read arg6 harg6 x6 (nb i k) 4 (k0_off29 i k) (k0_off29_inb i k) (off29_eq i k)).symm
  have e3_5 : tile (nb i k) 5 x3 = _ := (tile_read arg3 harg3 x3 (nb i k) 5 (k0_off22 i k) (k0_off22_inb i k) (off22_eq i k) shapeCasts_S256x128_S256x128).symm
  have e4_5 : tile (nb i k) 5 x4 = _ := (tile_read arg4 harg4 x4 (nb i k) 5 (k0_off22 i k) (k0_off22_inb i k) (off22_eq i k) shapeCasts_S256x128_S256x128).symm
  have e5_5 : rowOf 5 (nb i k) x5 = _ := (row_read arg5 harg5 x5 (nb i k) 5 (k0_off30 i k) (k0_off30_inb i k) (off30_eq i k)).symm
  have e6_5 : rowOf 5 (nb i k) x6 = _ := (row_read arg6 harg6 x6 (nb i k) 5 (k0_off30 i k) (k0_off30_inb i k) (off30_eq i k)).symm
  have e3_6 : tile (nb i k) 6 x3 = _ := (tile_read arg3 harg3 x3 (nb i k) 6 (k0_off23 i k) (k0_off23_inb i k) (off23_eq i k) shapeCasts_S256x128_S256x128).symm
  have e4_6 : tile (nb i k) 6 x4 = _ := (tile_read arg4 harg4 x4 (nb i k) 6 (k0_off23 i k) (k0_off23_inb i k) (off23_eq i k) shapeCasts_S256x128_S256x128).symm
  have e5_6 : rowOf 6 (nb i k) x5 = _ := (row_read arg5 harg5 x5 (nb i k) 6 (k0_off31 i k) (k0_off31_inb i k) (off31_eq i k)).symm
  have e6_6 : rowOf 6 (nb i k) x6 = _ := (row_read arg6 harg6 x6 (nb i k) 6 (k0_off31 i k) (k0_off31_inb i k) (off31_eq i k)).symm
  have e3_7 : tile (nb i k) 7 x3 = _ := (tile_read arg3 harg3 x3 (nb i k) 7 (k0_off24 i k) (k0_off24_inb i k) (off24_eq i k) shapeCasts_S256x128_S256x128).symm
  have e4_7 : tile (nb i k) 7 x4 = _ := (tile_read arg4 harg4 x4 (nb i k) 7 (k0_off24 i k) (k0_off24_inb i k) (off24_eq i k) shapeCasts_S256x128_S256x128).symm
  have e5_7 : rowOf 7 (nb i k) x5 = _ := (row_read arg5 harg5 x5 (nb i k) 7 (k0_off32 i k) (k0_off32_inb i k) (off32_eq i k)).symm
  have e6_7 : rowOf 7 (nb i k) x6 = _ := (row_read arg6 harg6 x6 (nb i k) 7 (k0_off32 i k) (k0_off32_inb i k) (off32_eq i k)).symm
  unfold carryOf; dsimp only
  rw [e3_0, e4_0, e5_0, e6_0, e3_1, e4_1, e5_1, e6_1, e3_2, e4_2, e5_2, e6_2, e3_3, e4_3, e5_3, e6_3, e3_4, e4_4, e5_4, e6_4, e3_5, e4_5, e5_5, e6_5, e3_6, e4_6, e5_6, e6_6, e3_7, e4_7, e5_7, e6_7]
  unfold tripR_k0_t1 trip_k0_t1
  rfl

set_option maxHeartbeats 4000000 in
/-- What a trip leaves in the queries' accumulator. -/
theorem trip_scratch (acc) :
    arg12.view.read (Elt F) (arg12.view.writes (Elt F) f (tripL_k0_t1 (F := F) 𝒱 c bd i arg2 harg2 arg3 harg3 arg4 harg4 arg5 harg5 arg6 harg6 arg7 harg7 arg8 harg8 arg9 harg9 arg10 harg10 arg11 harg11 arg12 harg12 arg1 (kk 0) (kk 1) (kk 2) (kk 3) (kk 4) (kk 5) (kk 6) (kk 7) (vv 0) (vv 1) (vv 2) (vv 3) (vv 4) (vv 5) (vv 6) (vv 7) v35 v37 v58 v61 v85 v262 v278 v285 v287 v289 v299 v301 v311 v313 v323 v325 v335 v337 v347 v349 v359 v382 (harg3.unread x3) (harg4.unread x4) (harg5.unread x5) (harg6.unread x6) k acc f))
      = scratchStep (nb i k) (fun h => dsOf false (kk h) (vv h) (tile (nb i k) h x3) (tile (nb i k) h x4) (rowOf h (nb i k) x5) (rowOf h (nb i k) x6)) kk (arg12.view.read (Elt F) f) := by
  refine scratch_pieces arg12 f (nb i k) _ _ (k0_off17 i k) (k0_off17_inb i k) (off17_eq i k) (k0_off18 i k) (k0_off18_inb i k) (off18_eq i k) (k0_off19 i k) (k0_off19_inb i k) (off19_eq i k) (k0_off20 i k) (k0_off20_inb i k) (off20_eq i k) (k0_off21 i k) (k0_off21_inb i k) (off21_eq i k) (k0_off22 i k) (k0_off22_inb i k) (off22_eq i k) (k0_off23 i k) (k0_off23_inb i k) (off23_eq i k) (k0_off24 i k) (k0_off24_inb i k) (off24_eq i k) (shapeCast S256x128 (accumT (tile (nb i k) 0 (arg12.view.read (Elt F) f)) (dsOf false (kk 0) (vv 0) (tile (nb i k) 0 x3) (tile (nb i k) 0 x4) (rowOf 0 (nb i k) x5) (rowOf 0 (nb i k) x6)) (kk 0)) shapeCasts_S256x128_S256x128) (shapeCast S256x128 (accumT (tile (nb i k) 1 (arg12.view.read (Elt F) f)) (dsOf false (kk 1) (vv 1) (tile (nb i k) 1 x3) (tile (nb i k) 1 x4) (rowOf 1 (nb i k) x5) (rowOf 1 (nb i k) x6)) (kk 1)) shapeCasts_S256x128_S256x128) (shapeCast S256x128 (accumT (tile (nb i k) 2 (arg12.view.read (Elt F) f)) (dsOf false (kk 2) (vv 2) (tile (nb i k) 2 x3) (tile (nb i k) 2 x4) (rowOf 2 (nb i k) x5) (rowOf 2 (nb i k) x6)) (kk 2)) shapeCasts_S256x128_S256x128) (shapeCast S256x128 (accumT (tile (nb i k) 3 (arg12.view.read (Elt F) f)) (dsOf false (kk 3) (vv 3) (tile (nb i k) 3 x3) (tile (nb i k) 3 x4) (rowOf 3 (nb i k) x5) (rowOf 3 (nb i k) x6)) (kk 3)) shapeCasts_S256x128_S256x128) (shapeCast S256x128 (accumT (tile (nb i k) 4 (arg12.view.read (Elt F) f)) (dsOf false (kk 4) (vv 4) (tile (nb i k) 4 x3) (tile (nb i k) 4 x4) (rowOf 4 (nb i k) x5) (rowOf 4 (nb i k) x6)) (kk 4)) shapeCasts_S256x128_S256x128) (shapeCast S256x128 (accumT (tile (nb i k) 5 (arg12.view.read (Elt F) f)) (dsOf false (kk 5) (vv 5) (tile (nb i k) 5 x3) (tile (nb i k) 5 x4) (rowOf 5 (nb i k) x5) (rowOf 5 (nb i k) x6)) (kk 5)) shapeCasts_S256x128_S256x128) (shapeCast S256x128 (accumT (tile (nb i k) 6 (arg12.view.read (Elt F) f)) (dsOf false (kk 6) (vv 6) (tile (nb i k) 6 x3) (tile (nb i k) 6 x4) (rowOf 6 (nb i k) x5) (rowOf 6 (nb i k) x6)) (kk 6)) shapeCasts_S256x128_S256x128) (shapeCast S256x128 (accumT (tile (nb i k) 7 (arg12.view.read (Elt F) f)) (dsOf false (kk 7) (vv 7) (tile (nb i k) 7 x3) (tile (nb i k) 7 x4) (rowOf 7 (nb i k) x5) (rowOf 7 (nb i k) x6)) (kk 7)) shapeCasts_S256x128_S256x128) _ ?_ (shapeCast_self _ _) (shapeCast_self _ _) (shapeCast_self _ _) (shapeCast_self _ _) (shapeCast_self _ _) (shapeCast_self _ _) (shapeCast_self _ _) (shapeCast_self _ _)
  have e3_0 : tile (nb i k) 0 x3 = _ := (tile_read arg3 harg3 x3 (nb i k) 0 (k0_off17 i k) (k0_off17_inb i k) (off17_eq i k) shapeCasts_S256x128_S256x128).symm
  have e4_0 : tile (nb i k) 0 x4 = _ := (tile_read arg4 harg4 x4 (nb i k) 0 (k0_off17 i k) (k0_off17_inb i k) (off17_eq i k) shapeCasts_S256x128_S256x128).symm
  have e5_0 : rowOf 0 (nb i k) x5 = _ := (row_read arg5 harg5 x5 (nb i k) 0 (k0_off25 i k) (k0_off25_inb i k) (off25_eq i k)).symm
  have e6_0 : rowOf 0 (nb i k) x6 = _ := (row_read arg6 harg6 x6 (nb i k) 0 (k0_off25 i k) (k0_off25_inb i k) (off25_eq i k)).symm
  have e3_1 : tile (nb i k) 1 x3 = _ := (tile_read arg3 harg3 x3 (nb i k) 1 (k0_off18 i k) (k0_off18_inb i k) (off18_eq i k) shapeCasts_S256x128_S256x128).symm
  have e4_1 : tile (nb i k) 1 x4 = _ := (tile_read arg4 harg4 x4 (nb i k) 1 (k0_off18 i k) (k0_off18_inb i k) (off18_eq i k) shapeCasts_S256x128_S256x128).symm
  have e5_1 : rowOf 1 (nb i k) x5 = _ := (row_read arg5 harg5 x5 (nb i k) 1 (k0_off26 i k) (k0_off26_inb i k) (off26_eq i k)).symm
  have e6_1 : rowOf 1 (nb i k) x6 = _ := (row_read arg6 harg6 x6 (nb i k) 1 (k0_off26 i k) (k0_off26_inb i k) (off26_eq i k)).symm
  have e3_2 : tile (nb i k) 2 x3 = _ := (tile_read arg3 harg3 x3 (nb i k) 2 (k0_off19 i k) (k0_off19_inb i k) (off19_eq i k) shapeCasts_S256x128_S256x128).symm
  have e4_2 : tile (nb i k) 2 x4 = _ := (tile_read arg4 harg4 x4 (nb i k) 2 (k0_off19 i k) (k0_off19_inb i k) (off19_eq i k) shapeCasts_S256x128_S256x128).symm
  have e5_2 : rowOf 2 (nb i k) x5 = _ := (row_read arg5 harg5 x5 (nb i k) 2 (k0_off27 i k) (k0_off27_inb i k) (off27_eq i k)).symm
  have e6_2 : rowOf 2 (nb i k) x6 = _ := (row_read arg6 harg6 x6 (nb i k) 2 (k0_off27 i k) (k0_off27_inb i k) (off27_eq i k)).symm
  have e3_3 : tile (nb i k) 3 x3 = _ := (tile_read arg3 harg3 x3 (nb i k) 3 (k0_off20 i k) (k0_off20_inb i k) (off20_eq i k) shapeCasts_S256x128_S256x128).symm
  have e4_3 : tile (nb i k) 3 x4 = _ := (tile_read arg4 harg4 x4 (nb i k) 3 (k0_off20 i k) (k0_off20_inb i k) (off20_eq i k) shapeCasts_S256x128_S256x128).symm
  have e5_3 : rowOf 3 (nb i k) x5 = _ := (row_read arg5 harg5 x5 (nb i k) 3 (k0_off28 i k) (k0_off28_inb i k) (off28_eq i k)).symm
  have e6_3 : rowOf 3 (nb i k) x6 = _ := (row_read arg6 harg6 x6 (nb i k) 3 (k0_off28 i k) (k0_off28_inb i k) (off28_eq i k)).symm
  have e3_4 : tile (nb i k) 4 x3 = _ := (tile_read arg3 harg3 x3 (nb i k) 4 (k0_off21 i k) (k0_off21_inb i k) (off21_eq i k) shapeCasts_S256x128_S256x128).symm
  have e4_4 : tile (nb i k) 4 x4 = _ := (tile_read arg4 harg4 x4 (nb i k) 4 (k0_off21 i k) (k0_off21_inb i k) (off21_eq i k) shapeCasts_S256x128_S256x128).symm
  have e5_4 : rowOf 4 (nb i k) x5 = _ := (row_read arg5 harg5 x5 (nb i k) 4 (k0_off29 i k) (k0_off29_inb i k) (off29_eq i k)).symm
  have e6_4 : rowOf 4 (nb i k) x6 = _ := (row_read arg6 harg6 x6 (nb i k) 4 (k0_off29 i k) (k0_off29_inb i k) (off29_eq i k)).symm
  have e3_5 : tile (nb i k) 5 x3 = _ := (tile_read arg3 harg3 x3 (nb i k) 5 (k0_off22 i k) (k0_off22_inb i k) (off22_eq i k) shapeCasts_S256x128_S256x128).symm
  have e4_5 : tile (nb i k) 5 x4 = _ := (tile_read arg4 harg4 x4 (nb i k) 5 (k0_off22 i k) (k0_off22_inb i k) (off22_eq i k) shapeCasts_S256x128_S256x128).symm
  have e5_5 : rowOf 5 (nb i k) x5 = _ := (row_read arg5 harg5 x5 (nb i k) 5 (k0_off30 i k) (k0_off30_inb i k) (off30_eq i k)).symm
  have e6_5 : rowOf 5 (nb i k) x6 = _ := (row_read arg6 harg6 x6 (nb i k) 5 (k0_off30 i k) (k0_off30_inb i k) (off30_eq i k)).symm
  have e3_6 : tile (nb i k) 6 x3 = _ := (tile_read arg3 harg3 x3 (nb i k) 6 (k0_off23 i k) (k0_off23_inb i k) (off23_eq i k) shapeCasts_S256x128_S256x128).symm
  have e4_6 : tile (nb i k) 6 x4 = _ := (tile_read arg4 harg4 x4 (nb i k) 6 (k0_off23 i k) (k0_off23_inb i k) (off23_eq i k) shapeCasts_S256x128_S256x128).symm
  have e5_6 : rowOf 6 (nb i k) x5 = _ := (row_read arg5 harg5 x5 (nb i k) 6 (k0_off31 i k) (k0_off31_inb i k) (off31_eq i k)).symm
  have e6_6 : rowOf 6 (nb i k) x6 = _ := (row_read arg6 harg6 x6 (nb i k) 6 (k0_off31 i k) (k0_off31_inb i k) (off31_eq i k)).symm
  have e3_7 : tile (nb i k) 7 x3 = _ := (tile_read arg3 harg3 x3 (nb i k) 7 (k0_off24 i k) (k0_off24_inb i k) (off24_eq i k) shapeCasts_S256x128_S256x128).symm
  have e4_7 : tile (nb i k) 7 x4 = _ := (tile_read arg4 harg4 x4 (nb i k) 7 (k0_off24 i k) (k0_off24_inb i k) (off24_eq i k) shapeCasts_S256x128_S256x128).symm
  have e5_7 : rowOf 7 (nb i k) x5 = _ := (row_read arg5 harg5 x5 (nb i k) 7 (k0_off32 i k) (k0_off32_inb i k) (off32_eq i k)).symm
  have e6_7 : rowOf 7 (nb i k) x6 = _ := (row_read arg6 harg6 x6 (nb i k) 7 (k0_off32 i k) (k0_off32_inb i k) (off32_eq i k)).symm
  have e12_0 : tile (nb i k) 0 (arg12.view.read (Elt F) f) = _ := (tile_readAt arg12 f (nb i k) 0 (k0_off17 i k) (k0_off17_inb i k) (off17_eq i k)).symm
  have e12_1 : tile (nb i k) 1 (arg12.view.read (Elt F) f) = _ := (tile_readAt arg12 f (nb i k) 1 (k0_off18 i k) (k0_off18_inb i k) (off18_eq i k)).symm
  have e12_2 : tile (nb i k) 2 (arg12.view.read (Elt F) f) = _ := (tile_readAt arg12 f (nb i k) 2 (k0_off19 i k) (k0_off19_inb i k) (off19_eq i k)).symm
  have e12_3 : tile (nb i k) 3 (arg12.view.read (Elt F) f) = _ := (tile_readAt arg12 f (nb i k) 3 (k0_off20 i k) (k0_off20_inb i k) (off20_eq i k)).symm
  have e12_4 : tile (nb i k) 4 (arg12.view.read (Elt F) f) = _ := (tile_readAt arg12 f (nb i k) 4 (k0_off21 i k) (k0_off21_inb i k) (off21_eq i k)).symm
  have e12_5 : tile (nb i k) 5 (arg12.view.read (Elt F) f) = _ := (tile_readAt arg12 f (nb i k) 5 (k0_off22 i k) (k0_off22_inb i k) (off22_eq i k)).symm
  have e12_6 : tile (nb i k) 6 (arg12.view.read (Elt F) f) = _ := (tile_readAt arg12 f (nb i k) 6 (k0_off23 i k) (k0_off23_inb i k) (off23_eq i k)).symm
  have e12_7 : tile (nb i k) 7 (arg12.view.read (Elt F) f) = _ := (tile_readAt arg12 f (nb i k) 7 (k0_off24 i k) (k0_off24_inb i k) (off24_eq i k)).symm
  rw [e3_0, e4_0, e5_0, e6_0, e3_1, e4_1, e5_1, e6_1, e3_2, e4_2, e5_2, e6_2, e3_3, e4_3, e5_3, e6_3, e3_4, e4_4, e5_4, e6_4, e3_5, e4_5, e5_5, e6_5, e3_6, e4_6, e5_6, e6_6, e3_7, e4_7, e5_7, e6_7]
  rw [e12_0, e12_1, e12_2, e12_3, e12_4, e12_5, e12_6, e12_7]
  unfold tripL_k0_t1 trip_k0_t1
  rfl

end Trip

end Cert.KernelIdeal.AttnBwd

end
-- ==== Proof.Steps.lean ====
/- The steps of a grid point of attn_bwd: the diagonal block of queries, then every later one. What the accumulators hold
   after each, and that the kernel's loop carries them. -/
module

public import proofs.«01_k».proof.Proof.Trip

@[expose] public section

set_option maxRecDepth 16384

noncomputable section

namespace Cert.KernelIdeal.AttnBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable {F : FTy → Type} [FloatOps F] [Named F]

/-- The block of queries of step `j` from the diagonal block `n`. -/
def blk (n : Fin 16) (j : ℕ) : Fin 16 := ⟨(n.val + j) % 16, Nat.mod_lt _ (by decide)⟩

/-- The block is the diagonal's plus the step as long as there is one. -/
theorem blk_val (n : Fin 16) (j : ℕ) (h : n.val + j < 16) : (blk n j).val = n.val + j := Nat.mod_eq_of_lt h

/-- The score gradients of step `j`, per head. -/
def dsAt (kk vv : Fin 8 → FVec F S256x128 .bf16) (x3 x4 : Vec F S4096x1024 .bf16) (x5 x6 : Vec F S8x16x1x256 .f32) (n : Fin 16) (j : ℕ) (h : Fin 8) : FVec F S256x256 .bf16 :=
  dsOf (j == 0) (kk h) (vv h) (tile (blk n j) h x3) (tile (blk n j) h x4) (rowOf h (blk n j) x5) (rowOf h (blk n j) x6)

/-- The probabilities of step `j`, per head. -/
def pAt (kk : Fin 8 → FVec F S256x128 .bf16) (x3 : Vec F S4096x1024 .bf16) (x5 : Vec F S8x16x1x256 .f32) (n : Fin 16) (j : ℕ) (h : Fin 8) :
    FVec F S256x256 .bf16 :=
  pOf (j == 0) (kk h) (tile (blk n j) h x3) (rowOf h (blk n j) x5)

/-- The keys' accumulators after `j` steps. -/
def dkAt (kk vv : Fin 8 → FVec F S256x128 .bf16) (x3 x4 : Vec F S4096x1024 .bf16) (x5 x6 : Vec F S8x16x1x256 .f32) (n : Fin 16) : ℕ → Fin 8 → FVec F S256x128 .f32
  | 0, _ => constant S256x128 .f32 0x00000000#32
  | j + 1, h => accum (dkAt kk vv x3 x4 x5 x6 n j h) (dsAt kk vv x3 x4 x5 x6 n j h) (tile (blk n j) h x3)

/-- The values' accumulators after `j` steps. -/
def dvAt (kk : Fin 8 → FVec F S256x128 .bf16) (x3 x4 : Vec F S4096x1024 .bf16) (x5 : Vec F S8x16x1x256 .f32) (n : Fin 16) : ℕ → Fin 8 → FVec F S256x128 .f32
  | 0, _ => constant S256x128 .f32 0x00000000#32
  | j + 1, h => accum (dvAt kk x3 x4 x5 n j h) (pAt kk x3 x5 n j h) (tile (blk n j) h x4)

/-- The queries' accumulator after `j` steps from contents `s`. -/
def scrAt (kk vv : Fin 8 → FVec F S256x128 .bf16) (x3 x4 : Vec F S4096x1024 .bf16) (x5 x6 : Vec F S8x16x1x256 .f32) (n : Fin 16) (s : Vec F S4096x1024 .f32) : ℕ → Vec F S4096x1024 .f32
  | 0 => s
  | j + 1 => scratchStep (blk n j) (dsAt kk vv x3 x4 x5 x6 n j) kk (scrAt kk vv x3 x4 x5 x6 n s j)

/-- The trips of the loop: one per block of queries after the diagonal one. -/
theorem trips_eq (i : grid0.Coords) : (k0_t1_loop i).trips = 15 - (i 1).val := by
  have h : ∀ n : Fin 16, (let v := Scalar.addi (BitVec.ofNat 32 n.val) 1#32; (⟨v, Scalar.addi v (Scalar.muli (Scalar.divsi (Scalar.subi 16#32 v) 1#32) 1#32), 1#32⟩ : Scf.Loop 32).trips) = 15 - n.val := by decide
  exact h ⟨(i 1).val, (i 1).isLt⟩

/-- The block of a trip is the block of the step after it. -/
theorem blk_nb (i : grid0.Coords) (k : Fin (k0_t1_loop i).trips) : blk (qb i) (k.val + 1) = nb i k := by
  apply Fin.ext
  have := trip_lt i k
  refine (blk_val _ _ (by show (i 1).val + (k.val + 1) < 16; omega)).trans ?_
  show (i 1).val + (k.val + 1) = (i 1).val + 1 + k.val; omega

section Loop

variable (𝒱 : Variants) (c : Dev nD) (bd : Option 𝒱.V) (i : grid0.Coords) (arg2 : Memref sig .tc .vmem S256x2048 .bf16) (harg2 : arg2.IsWhole) (arg3 : Memref sig .tc .vmem S4096x1024 .bf16) (harg3 : arg3.IsWhole) (arg4 : Memref sig .tc .vmem S4096x1024 .bf16) (harg4 : arg4.IsWhole) (arg5 : Memref sig .tc .vmem S8x16x1x256 .f32) (harg5 : arg5.IsWhole) (arg6 : Memref sig .tc .vmem S8x16x1x256 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x1024 .bf16) (harg10 : arg10.IsWhole) (arg11 : Memref sig .tc .vmem S256x2048 .bf16) (harg11 : arg11.IsWhole) (arg12 : Memref sig .tc .vmem S4096x1024 .f32) (harg12 : arg12.IsWhole) (arg1 : BitVec 32) (v35 : FVec F S256x128 .f32) (v37 : BitVec 32) (v58 : FVec F S256x128 .bf16) (v61 : FVec F S256x128 .bf16) (v85 : FVec F S256x128 .bf16) (v262 : FVec F S256x256 .bf16) (v278 : FVec F S256x256 .bf16) (v285 : FVec F S256x256 .bf16) (v287 : FVec F S256x128 .f32) (v289 : FVec F S256x128 .f32) (v299 : FVec F S256x128 .f32) (v301 : FVec F S256x128 .f32) (v311 : FVec F S256x128 .f32) (v313 : FVec F S256x128 .f32) (v323 : FVec F S256x128 .f32) (v325 : FVec F S256x128 .f32) (v335 : FVec F S256x128 .f32) (v337 : FVec F S256x128 .f32) (v347 : FVec F S256x128 .f32) (v349 : FVec F S256x128 .f32) (v359 : FVec F S256x128 .f32) (v382 : BitVec 32)
  (kk vv : Fin 8 → FVec F S256x128 .bf16) (x3 x4 : Vec F S4096x1024 .bf16) (x5 x6 : Vec F S8x16x1x256 .f32) (G : BufTy.Contents (Elt F) arg12.view.ty) (s : Vec F S4096x1024 .f32)

set_option maxHeartbeats 4000000 in
/-- The loop's state before trip `n`: the accumulators after the diagonal step and `n` more. -/
theorem loop_state (init : FVec F S256x128 .f32 × FVec F S256x128 .f32 × FVec F S256x128 .f32 × FVec F S256x128 .f32 × FVec F S256x128 .f32 × FVec F S256x128 .f32 × FVec F S256x128 .f32 × FVec F S256x128 .f32 × FVec F S256x128 .f32 × FVec F S256x128 .f32 × FVec F S256x128 .f32 × FVec F S256x128 .f32 × FVec F S256x128 .f32 × FVec F S256x128 .f32 × FVec F S256x128 .f32 × FVec F S256x128 .f32)
    (hinit : init = carryOf (dkAt kk vv x3 x4 x5 x6 (qb i) 1) (dvAt kk x3 x4 x5 (qb i) 1))
    (hG : arg12.view.read (Elt F) G = scrAt kk vv x3 x4 x5 x6 (qb i) s 1) :
    ∀ n, n ≤ (k0_t1_loop i).trips →
      (st_k0_t1 (F := F) 𝒱 c bd i arg2 harg2 arg3 harg3 arg4 harg4 arg5 harg5 arg6 harg6 arg7 harg7 arg8 harg8 arg9 harg9 arg10 harg10 arg11 harg11 arg12 harg12 arg1 (kk 0) (kk 1) (kk 2) (kk 3) (kk 4) (kk 5) (kk 6) (kk 7) (vv 0) (vv 1) (vv 2) (vv 3) (vv 4) (vv 5) (vv 6) (vv 7) v35 v37 v58 v61 v85 v262 v278 v285 v287 v289 v299 v301 v311 v313 v323 v325 v335 v337 v347 v349 v359 v382 (harg3.unread x3) (harg4.unread x4) (harg5.unread x5) (harg6.unread x6) G init n).1 = carryOf (dkAt kk vv x3 x4 x5 x6 (qb i) (n + 1)) (dvAt kk x3 x4 x5 (qb i) (n + 1))
      ∧ arg12.view.read (Elt F) (arg12.view.writes (Elt F) G (st_k0_t1 (F := F) 𝒱 c bd i arg2 harg2 arg3 harg3 arg4 harg4 arg5 harg5 arg6 harg6 arg7 harg7 arg8 harg8 arg9 harg9 arg10 harg10 arg11 harg11 arg12 harg12 arg1 (kk 0) (kk 1) (kk 2) (kk 3) (kk 4) (kk 5) (kk 6) (kk 7) (vv 0) (vv 1) (vv 2) (vv 3) (vv 4) (vv 5) (vv 6) (vv 7) v35 v37 v58 v61 v85 v262 v278 v285 v287 v289 v299 v301 v311 v313 v323 v325 v335 v337 v347 v349 v359 v382 (harg3.unread x3) (harg4.unread x4) (harg5.unread x5) (harg6.unread x6) G init n).2)
          = scrAt kk vv x3 x4 x5 x6 (qb i) s (n + 1) := by
  intro n
  induction n with
  | zero => intro _; exact ⟨hinit, hG⟩
  | succ n ih =>
    intro hn
    obtain ⟨ih1, ih2⟩ := ih (by omega)
    have e := st_k0_t1_succ (F := F) 𝒱 c bd i arg2 harg2 arg3 harg3 arg4 harg4 arg5 harg5 arg6 harg6 arg7 harg7 arg8 harg8 arg9 harg9 arg10 harg10 arg11 harg11 arg12 harg12 arg1 (kk 0) (kk 1) (kk 2) (kk 3) (kk 4) (kk 5) (kk 6) (kk 7) (vv 0) (vv 1) (vv 2) (vv 3) (vv 4) (vv 5) (vv 6) (vv 7) v35 v37 v58 v61 v85 v262 v278 v285 v287 v289 v299 v301 v311 v313 v323 v325 v335 v337 v347 v349 v359 v382 (harg3.unread x3) (harg4.unread x4) (harg5.unread x5) (harg6.unread x6) G init ⟨n, hn⟩
    have hb := blk_nb i ⟨n, hn⟩
    rw [show n + 1 = (⟨n, hn⟩ : Fin (k0_t1_loop i).trips).val + 1 from rfl, e]
    constructor
    · dsimp only
      rw [ih1, trip_carry]
      unfold carryOf
      show _ = (_, _, _, _, _, _, _, _, _, _, _, _, _, _, _, _)
      simp only [dkAt, dvAt, dsAt, pAt, hb]
      rfl
    · dsimp only
      rw [View.writes_append, trip_scratch, ih2, ← hb]
      rfl

end Loop

end Cert.KernelIdeal.AttnBwd

end
-- ==== Proof.Tail.lean ====
/- What the blocks of attn_bwd hold after a grid point's two loops, and what a list of stored tiles leaves in a block. -/
module

public import proofs.«01_k».proof.Proof.Steps

@[expose] public section

set_option maxRecDepth 16384

noncomputable section

namespace Cert.KernelIdeal.AttnBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable {F : FTy → Type} [FloatOps F] [Named F]

/-- The kernel's second loop has no trips. -/
theorem trips2_eq (i : grid0.Coords) : (k0_t2_loop i).trips = 0 := by
  have h : ∀ n : Fin 16, (let v := Scalar.addi (BitVec.ofNat 32 n.val) 1#32; let d := Scalar.subi 16#32 v; let q := Scalar.divsi d 1#32;
      (⟨Scalar.addi v (Scalar.muli q 1#32), Scalar.addi v d, 1#32⟩ : Scf.Loop 32).trips) = 0 := by decide
  exact h ⟨(i 1).val, (i 1).isLt⟩

section Tail

variable (𝒱 : Variants) (c : Dev nD) (bd : Option 𝒱.V) (i : grid0.Coords) (arg2 : Memref sig .tc .vmem S256x2048 .bf16) (harg2 : arg2.IsWhole) (arg3 : Memref sig .tc .vmem S4096x1024 .bf16) (harg3 : arg3.IsWhole) (arg4 : Memref sig .tc .vmem S4096x1024 .bf16) (harg4 : arg4.IsWhole) (arg5 : Memref sig .tc .vmem S8x16x1x256 .f32) (harg5 : arg5.IsWhole) (arg6 : Memref sig .tc .vmem S8x16x1x256 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x1024 .bf16) (harg10 : arg10.IsWhole) (arg11 : Memref sig .tc .vmem S256x2048 .bf16) (harg11 : arg11.IsWhole) (arg12 : Memref sig .tc .vmem S4096x1024 .f32) (harg12 : arg12.IsWhole) (arg1 : BitVec 32) (v4 : FVec F S256x128 .bf16) (v6 : FVec F S256x128 .bf16) (v8 : FVec F S256x128 .bf16) (v10 : FVec F S256x128 .bf16) (v12 : FVec F S256x128 .bf16) (v14 : FVec F S256x128 .bf16) (v16 : FVec F S256x128 .bf16) (v18 : FVec F S256x128 .bf16) (v20 : FVec F S256x128 .bf16) (v22 : FVec F S256x128 .bf16) (v24 : FVec F S256x128 .bf16) (v26 : FVec F S256x128 .bf16) (v28 : FVec F S256x128 .bf16) (v30 : FVec F S256x128 .bf16) (v32 : FVec F S256x128 .bf16) (v34 : FVec F S256x128 .bf16) (v35 : FVec F S256x128 .f32) (v37 : BitVec 32) (v58 : FVec F S256x128 .bf16) (v61 : FVec F S256x128 .bf16) (v85 : FVec F S256x128 .bf16) (v262 : FVec F S256x256 .bf16) (v278 : FVec F S256x256 .bf16) (v285 : FVec F S256x256 .bf16) (v287 : FVec F S256x128 .f32) (v289 : FVec F S256x128 .f32) (v299 : FVec F S256x128 .f32) (v301 : FVec F S256x128 .f32) (v311 : FVec F S256x128 .f32) (v313 : FVec F S256x128 .f32) (v323 : FVec F S256x128 .f32) (v325 : FVec F S256x128 .f32) (v335 : FVec F S256x128 .f32) (v337 : FVec F S256x128 .f32) (v347 : FVec F S256x128 .f32) (v349 : FVec F S256x128 .f32) (v359 : FVec F S256x128 .f32) (v382 : BitVec 32) (v387 : BitVec 32)
  (kk vv : Fin 8 → FVec F S256x128 .bf16) (x3 x4 : Vec F S4096x1024 .bf16) (x5 x6 : Vec F S8x16x1x256 .f32) (f : BufTy.Contents (Elt F) arg12.view.ty) (Q : List (View.Piece (Elt F) S4096x1024 .f32)) (s : Vec F S4096x1024 .f32)
  (X3 : BufTy.Contents (Elt F) arg3.view.ty) (X4 : BufTy.Contents (Elt F) arg4.view.ty) (X5 : BufTy.Contents (Elt F) arg5.view.ty) (X6 : BufTy.Contents (Elt F) arg6.view.ty)

/-- The second loop carries on what it was given and stores nothing. -/
theorem second_none (G : BufTy.Contents (Elt F) arg12.view.ty) (init : FVec F S256x128 .f32 × FVec F S256x128 .f32 × FVec F S256x128 .f32 × FVec F S256x128 .f32 × FVec F S256x128 .f32 × FVec F S256x128 .f32 × FVec F S256x128 .f32 × FVec F S256x128 .f32 × FVec F S256x128 .f32 × FVec F S256x128 .f32 × FVec F S256x128 .f32 × FVec F S256x128 .f32 × FVec F S256x128 .f32 × FVec F S256x128 .f32 × FVec F S256x128 .f32 × FVec F S256x128 .f32) :
    st_k0_t2 (F := F)  𝒱 c bd i arg2 harg2 arg3 harg3 arg4 harg4 arg5 harg5 arg6 harg6 arg7 harg7 arg8 harg8 arg9 harg9 arg10 harg10 arg11 harg11 arg12 harg12 arg1 v4 v6 v8 v10 v12 v14 v16 v18 v20 v22 v24 v26 v28 v30 v32 v34 v35 v37 v58 v61 v85 v262 v278 v285 v287 v289 v299 v301 v311 v313 v323 v325 v335 v337 v347 v349 v359 v387 X3 X4 X5 X6 G init (k0_t2_loop i).trips = (init, []) := by
  rw [trips2_eq]; rfl

/-- The accumulators of keys and values after both loops, in the order the first loop carries them. -/
theorem tail_carry (init : FVec F S256x128 .f32 × FVec F S256x128 .f32 × FVec F S256x128 .f32 × FVec F S256x128 .f32 × FVec F S256x128 .f32 × FVec F S256x128 .f32 × FVec F S256x128 .f32 × FVec F S256x128 .f32 × FVec F S256x128 .f32 × FVec F S256x128 .f32 × FVec F S256x128 .f32 × FVec F S256x128 .f32 × FVec F S256x128 .f32 × FVec F S256x128 .f32 × FVec F S256x128 .f32 × FVec F S256x128 .f32)
    (hk0 : v4 = kk 0) (hk1 : v6 = kk 1) (hk2 : v8 = kk 2) (hk3 : v10 = kk 3) (hk4 : v12 = kk 4) (hk5 : v14 = kk 5) (hk6 : v16 = kk 6) (hk7 : v18 = kk 7) (hv0 : v20 = vv 0) (hv1 : v22 = vv 1) (hv2 : v24 = vv 2) (hv3 : v26 = vv 3) (hv4 : v28 = vv 4) (hv5 : v30 = vv 5) (hv6 : v32 = vv 6) (hv7 : v34 = vv 7)
    (hinit : init = carryOf (dkAt kk vv x3 x4 x5 x6 (qb i) 1) (dvAt kk x3 x4 x5 (qb i) 1))
    (hG : arg12.view.read (Elt F) (arg12.view.writes (Elt F) f Q) = scrAt kk vv x3 x4 x5 x6 (qb i) s 1) :
    (st_k0_t1 (F := F)  𝒱 c bd i arg2 harg2 arg3 harg3 arg4 harg4 arg5 harg5 arg6 harg6 arg7 harg7 arg8 harg8 arg9 harg9 arg10 harg10 arg11 harg11 arg12 harg12 arg1 v4 v6 v8 v10 v12 v14 v16 v18 v20 v22 v24 v26 v28 v30 v32 v34 v35 v37 v58 v61 v85 v262 v278 v285 v287 v289 v299 v301 v311 v313 v323 v325 v335 v337 v347 v349 v359 v382 (harg3.unread x3) (harg4.unread x4) (harg5.unread x5) (harg6.unread x6) (arg12.view.writes (Elt F) f Q) init (k0_t1_loop i).trips).1
      = carryOf (dkAt kk vv x3 x4 x5 x6 (qb i) (16 - (i 1).val)) (dvAt kk x3 x4 x5 (qb i) (16 - (i 1).val)) := by
  subst hk0; subst hk1; subst hk2; subst hk3; subst hk4; subst hk5; subst hk6; subst hk7; subst hv0; subst hv1; subst hv2; subst hv3; subst hv4; subst hv5; subst hv6; subst hv7
  have hi : (i 1).val < 16 := (i 1).isLt
  refine (loop_state _ _ _ _ _ _ _ _ _ _ _ _ _ _ _ _ _ _ _ _ _ _ _ _ _ _ _ _ _ _ _ _ _ _ _ _ _ _ _ _ _ _ _ _ _ _ _ _ _ kk vv x3 x4 x5 x6 _ s _ hinit hG _ le_rfl).1.trans ?_
  rw [trips_eq, show 15 - (i 1).val + 1 = 16 - (i 1).val by omega]

/-- The queries' accumulator after both loops. -/
theorem tail_read (init : FVec F S256x128 .f32 × FVec F S256x128 .f32 × FVec F S256x128 .f32 × FVec F S256x128 .f32 × FVec F S256x128 .f32 × FVec F S256x128 .f32 × FVec F S256x128 .f32 × FVec F S256x128 .f32 × FVec F S256x128 .f32 × FVec F S256x128 .f32 × FVec F S256x128 .f32 × FVec F S256x128 .f32 × FVec F S256x128 .f32 × FVec F S256x128 .f32 × FVec F S256x128 .f32 × FVec F S256x128 .f32) (G2 : BufTy.Contents (Elt F) arg12.view.ty) (init2 : FVec F S256x128 .f32 × FVec F S256x128 .f32 × FVec F S256x128 .f32 × FVec F S256x128 .f32 × FVec F S256x128 .f32 × FVec F S256x128 .f32 × FVec F S256x128 .f32 × FVec F S256x128 .f32 × FVec F S256x128 .f32 × FVec F S256x128 .f32 × FVec F S256x128 .f32 × FVec F S256x128 .f32 × FVec F S256x128 .f32 × FVec F S256x128 .f32 × FVec F S256x128 .f32 × FVec F S256x128 .f32)
    (hk0 : v4 = kk 0) (hk1 : v6 = kk 1) (hk2 : v8 = kk 2) (hk3 : v10 = kk 3) (hk4 : v12 = kk 4) (hk5 : v14 = kk 5) (hk6 : v16 = kk 6) (hk7 : v18 = kk 7) (hv0 : v20 = vv 0) (hv1 : v22 = vv 1) (hv2 : v24 = vv 2) (hv3 : v26 = vv 3) (hv4 : v28 = vv 4) (hv5 : v30 = vv 5) (hv6 : v32 = vv 6) (hv7 : v34 = vv 7)
    (hinit : init = carryOf (dkAt kk vv x3 x4 x5 x6 (qb i) 1) (dvAt kk x3 x4 x5 (qb i) 1))
    (hG : arg12.view.read (Elt F) (arg12.view.writes (Elt F) f Q) = scrAt kk vv x3 x4 x5 x6 (qb i) s 1) :
    arg12.view.read (Elt F) (arg12.view.writes (Elt F) f
        ((st_k0_t2 (F := F)  𝒱 c bd i arg2 harg2 arg3 harg3 arg4 harg4 arg5 harg5 arg6 harg6 arg7 harg7 arg8 harg8 arg9 harg9 arg10 harg10 arg11 harg11 arg12 harg12 arg1 v4 v6 v8 v10 v12 v14 v16 v18 v20 v22 v24 v26 v28 v30 v32 v34 v35 v37 v58 v61 v85 v262 v278 v285 v287 v289 v299 v301 v311 v313 v323 v325 v335 v337 v347 v349 v359 v387 X3 X4 X5 X6 G2 init2 (k0_t2_loop i).trips).2
          ++ ((st_k0_t1 (F := F)  𝒱 c bd i arg2 harg2 arg3 harg3 arg4 harg4 arg5 harg5 arg6 harg6 arg7 harg7 arg8 harg8 arg9 harg9 arg10 harg10 arg11 harg11 arg12 harg12 arg1 v4 v6 v8 v10 v12 v14 v16 v18 v20 v22 v24 v26 v28 v30 v32 v34 v35 v37 v58 v61 v85 v262 v278 v285 v287 v289 v299 v301 v311 v313 v323 v325 v335 v337 v347 v349 v359 v382 (harg3.unread x3) (harg4.unread x4) (harg5.unread x5) (harg6.unread x6) (arg12.view.writes (Elt F) f Q) init (k0_t1_loop i).trips).2 ++ Q)))
      = scrAt kk vv x3 x4 x5 x6 (qb i) s (16 - (i 1).val) := by
  subst hk0; subst hk1; subst hk2; subst hk3; subst hk4; subst hk5; subst hk6; subst hk7; subst hv0; subst hv1; subst hv2; subst hv3; subst hv4; subst hv5; subst hv6; subst hv7
  have hi : (i 1).val < 16 := (i 1).isLt
  rw [second_none, List.nil_append, View.writes_append]
  refine (loop_state _ _ _ _ _ _ _ _ _ _ _ _ _ _ _ _ _ _ _ _ _ _ _ _ _ _ _ _ _ _ _ _ _ _ _ _ _ _ _ _ _ _ _ _ _ _ _ _ _ kk vv x3 x4 x5 x6 _ s _ hinit hG _ le_rfl).2.trans ?_
  rw [trips_eq, show 15 - (i 1).val + 1 = 16 - (i 1).val by omega]

end Tail

/-- A whole block of 256 rows and 128 columns, loaded. -/
theorem whole_read {e : EltTy} {sp : Space} (M : Memref sig .tc sp S256x128 e) (hM : M.IsWhole) (x : Vec F S256x128 e)
    (inb) (hc : S256x128.ShapeCasts S256x128) :
    (shapeCast S256x128 (View.readAt (Elt F) M.view (Rect.unit (s := S256x128) ![0, 0] S256x128.size inb).toLoadRect (hM.unread x)) hc : Vec F S256x128 e) = x := by
  refine (shapeCast_self (s := S256x128) _ _).trans ?_
  funext j
  refine (congrFun (hM.read_unread x) _).trans (congrArg x ?_)
  funext a
  apply Fin.ext
  fin_cases a
  · show 0 + 1 * (j 0).val = (j 0).val; omega
  · show 0 + 1 * (j 1).val = (j 1).val; omega

/-- A tile of one head does not see a store to a tile of another. -/
theorem tile_skip {sp : Space} (M : Memref sig .tc sp S4096x1024 .f32) (f : M.view.ty.Contents (Elt F)) (n : Fin 16) (h g : Fin 8) (hne : h ≠ g)
    (o : Fin 2 → ℕ) (ib : ∀ a, o a + S256x128.size a ≤ S4096x1024.size a) (eo : o = ![256 * n.val, 128 * g.val])
    (p : Vec F S256x128 .f32) (L : List (View.Piece (Elt F) S4096x1024 .f32)) :
    tile n h (M.view.read (Elt F) (M.view.writes (Elt F) f (⟨Rect.unit (s := S4096x1024) o S256x128.size ib, p⟩ :: L)))
      = tile n h (M.view.read (Elt F) (M.view.writes (Elt F) f L)) := by
  funext j
  refine View.read_writes_cons_unit_of_not_mem M.view f ib p L _ eo 1 ?_
  have hj : (j 1).val < 128 := (j 1).isLt
  have hv : h.val ≠ g.val := fun e => hne (Fin.ext e)
  show 128 * h.val + 1 * (j 1).val < 128 * g.val ∨ 128 * g.val + 128 ≤ 128 * h.val + 1 * (j 1).val
  omega

/-- Eight stores in turn, one tile per head, each of the tile grown by the head's product: the accumulator after the step. -/
theorem scratch_pieces_seq {sp : Space} (M : Memref sig .tc sp S4096x1024 .f32) (f : M.view.ty.Contents (Elt F)) (n : Fin 16)
    (w : Fin 8 → FVec F S256x256 .bf16) (k : Fin 8 → FVec F S256x128 .bf16) (B : List (View.Piece (Elt F) S4096x1024 .f32))
    (o0 : Fin 2 → ℕ) (i0 : ∀ a, o0 a + S256x128.size a ≤ S4096x1024.size a) (e0 : o0 = ![256 * n.val, 128 * ((0 : Fin 8) : ℕ)]) (o1 : Fin 2 → ℕ) (i1 : ∀ a, o1 a + S256x128.size a ≤ S4096x1024.size a) (e1 : o1 = ![256 * n.val, 128 * ((1 : Fin 8) : ℕ)]) (o2 : Fin 2 → ℕ) (i2 : ∀ a, o2 a + S256x128.size a ≤ S4096x1024.size a) (e2 : o2 = ![256 * n.val, 128 * ((2 : Fin 8) : ℕ)]) (o3 : Fin 2 → ℕ) (i3 : ∀ a, o3 a + S256x128.size a ≤ S4096x1024.size a) (e3 : o3 = ![256 * n.val, 128 * ((3 : Fin 8) : ℕ)]) (o4 : Fin 2 → ℕ) (i4 : ∀ a, o4 a + S256x128.size a ≤ S4096x1024.size a) (e4 : o4 = ![256 * n.val, 128 * ((4 : Fin 8) : ℕ)]) (o5 : Fin 2 → ℕ) (i5 : ∀ a, o5 a + S256x128.size a ≤ S4096x1024.size a) (e5 : o5 = ![256 * n.val, 128 * ((5 : Fin 8) : ℕ)]) (o6 : Fin 2 → ℕ) (i6 : ∀ a, o6 a + S256x128.size a ≤ S4096x1024.size a) (e6 : o6 = ![256 * n.val, 128 * ((6 : Fin 8) : ℕ)]) (o7 : Fin 2 → ℕ) (i7 : ∀ a, o7 a + S256x128.size a ≤ S4096x1024.size a) (e7 : o7 = ![256 * n.val, 128 * ((7 : Fin 8) : ℕ)])
    (p0 p1 p2 p3 p4 p5 p6 p7 : Vec F S256x128 .f32)
    (h0 : p0 = accumT (tile n 0 (M.view.read (Elt F) (M.view.writes (Elt F) f (B)))) (w 0) (k 0)) (h1 : p1 = accumT (tile n 1 (M.view.read (Elt F) (M.view.writes (Elt F) f (⟨Rect.unit (s := S4096x1024) o0 S256x128.size i0, p0⟩ :: B)))) (w 1) (k 1)) (h2 : p2 = accumT (tile n 2 (M.view.read (Elt F) (M.view.writes (Elt F) f (⟨Rect.unit (s := S4096x1024) o1 S256x128.size i1, p1⟩ :: ⟨Rect.unit (s := S4096x1024) o0 S256x128.size i0, p0⟩ :: B)))) (w 2) (k 2)) (h3 : p3 = accumT (tile n 3 (M.view.read (Elt F) (M.view.writes (Elt F) f (⟨Rect.unit (s := S4096x1024) o2 S256x128.size i2, p2⟩ :: ⟨Rect.unit (s := S4096x1024) o1 S256x128.size i1, p1⟩ :: ⟨Rect.unit (s := S4096x1024) o0 S256x128.size i0, p0⟩ :: B)))) (w 3) (k 3)) (h4 : p4 = accumT (tile n 4 (M.view.read (Elt F) (M.view.writes (Elt F) f (⟨Rect.unit (s := S4096x1024) o3 S256x128.size i3, p3⟩ :: ⟨Rect.unit (s := S4096x1024) o2 S256x128.size i2, p2⟩ :: ⟨Rect.unit (s := S4096x1024) o1 S256x128.size i1, p1⟩ :: ⟨Rect.unit (s := S4096x1024) o0 S256x128.size i0, p0⟩ :: B)))) (w 4) (k 4)) (h5 : p5 = accumT (tile n 5 (M.view.read (Elt F) (M.view.writes (Elt F) f (⟨Rect.unit (s := S4096x1024) o4 S256x128.size i4, p4⟩ :: ⟨Rect.unit (s := S4096x1024) o3 S256x128.size i3, p3⟩ :: ⟨Rect.unit (s := S4096x1024) o2 S256x128.size i2, p2⟩ :: ⟨Rect.unit (s := S4096x1024) o1 S256x128.size i1, p1⟩ :: ⟨Rect.unit (s := S4096x1024) o0 S256x128.size i0, p0⟩ :: B)))) (w 5) (k 5)) (h6 : p6 = accumT (tile n 6 (M.view.read (Elt F) (M.view.writes (Elt F) f (⟨Rect.unit (s := S4096x1024) o5 S256x128.size i5, p5⟩ :: ⟨Rect.unit (s := S4096x1024) o4 S256x128.size i4, p4⟩ :: ⟨Rect.unit (s := S4096x1024) o3 S256x128.size i3, p3⟩ :: ⟨Rect.unit (s := S4096x1024) o2 S256x128.size i2, p2⟩ :: ⟨Rect.unit (s := S4096x1024) o1 S256x128.size i1, p1⟩ :: ⟨Rect.unit (s := S4096x1024) o0 S256x128.size i0, p0⟩ :: B)))) (w 6) (k 6)) (h7 : p7 = accumT (tile n 7 (M.view.read (Elt F) (M.view.writes (Elt F) f (⟨Rect.unit (s := S4096x1024) o6 S256x128.size i6, p6⟩ :: ⟨Rect.unit (s := S4096x1024) o5 S256x128.size i5, p5⟩ :: ⟨Rect.unit (s := S4096x1024) o4 S256x128.size i4, p4⟩ :: ⟨Rect.unit (s := S4096x1024) o3 S256x128.size i3, p3⟩ :: ⟨Rect.unit (s := S4096x1024) o2 S256x128.size i2, p2⟩ :: ⟨Rect.unit (s := S4096x1024) o1 S256x128.size i1, p1⟩ :: ⟨Rect.unit (s := S4096x1024) o0 S256x128.size i0, p0⟩ :: B)))) (w 7) (k 7)) :
    M.view.read (Elt F) (M.view.writes (Elt F) f (⟨Rect.unit (s := S4096x1024) o7 S256x128.size i7, p7⟩ :: ⟨Rect.unit (s := S4096x1024) o6 S256x128.size i6, p6⟩ :: ⟨Rect.unit (s := S4096x1024) o5 S256x128.size i5, p5⟩ :: ⟨Rect.unit (s := S4096x1024) o4 S256x128.size i4, p4⟩ :: ⟨Rect.unit (s := S4096x1024) o3 S256x128.size i3, p3⟩ :: ⟨Rect.unit (s := S4096x1024) o2 S256x128.size i2, p2⟩ :: ⟨Rect.unit (s := S4096x1024) o1 S256x128.size i1, p1⟩ :: ⟨Rect.unit (s := S4096x1024) o0 S256x128.size i0, p0⟩ :: B)) = scratchStep n w k (M.view.read (Elt F) (M.view.writes (Elt F) f B)) := by
  refine (congrArg (M.view.read (Elt F)) (View.writes_append (Val := Elt F) M.view f [⟨Rect.unit (s := S4096x1024) o7 S256x128.size i7, p7⟩, ⟨Rect.unit (s := S4096x1024) o6 S256x128.size i6, p6⟩, ⟨Rect.unit (s := S4096x1024) o5 S256x128.size i5, p5⟩, ⟨Rect.unit (s := S4096x1024) o4 S256x128.size i4, p4⟩, ⟨Rect.unit (s := S4096x1024) o3 S256x128.size i3, p3⟩, ⟨Rect.unit (s := S4096x1024) o2 S256x128.size i2, p2⟩, ⟨Rect.unit (s := S4096x1024) o1 S256x128.size i1, p1⟩, ⟨Rect.unit (s := S4096x1024) o0 S256x128.size i0, p0⟩] B)).trans ?_
  refine scratch_pieces M _ n w k o0 i0 e0 o1 i1 e1 o2 i2 e2 o3 i3 e3 o4 i4 e4 o5 i5 e5 o6 i6 e6 o7 i7 e7 p0 p1 p2 p3 p4 p5 p6 p7 _ rfl ?_ ?_ ?_ ?_ ?_ ?_ ?_ ?_
  · rw [h0]
  · rw [h1, tile_skip M f n 1 0 (by decide) o0 i0 e0]
  · rw [h2, tile_skip M f n 2 1 (by decide) o1 i1 e1, tile_skip M f n 2 0 (by decide) o0 i0 e0]
  · rw [h3, tile_skip M f n 3 2 (by decide) o2 i2 e2, tile_skip M f n 3 1 (by decide) o1 i1 e1, tile_skip M f n 3 0 (by decide) o0 i0 e0]
  · rw [h4, tile_skip M f n 4 3 (by decide) o3 i3 e3, tile_skip M f n 4 2 (by decide) o2 i2 e2, tile_skip M f n 4 1 (by decide) o1 i1 e1, tile_skip M f n 4 0 (by decide) o0 i0 e0]
  · rw [h5, tile_skip M f n 5 4 (by decide) o4 i4 e4, tile_skip M f n 5 3 (by decide) o3 i3 e3, tile_skip M f n 5 2 (by decide) o2 i2 e2, tile_skip M f n 5 1 (by decide) o1 i1 e1, tile_skip M f n 5 0 (by decide) o0 i0 e0]
  · rw [h6, tile_skip M f n 6 5 (by decide) o5 i5 e5, tile_skip M f n 6 4 (by decide) o4 i4 e4, tile_skip M f n 6 3 (by decide) o3 i3 e3, tile_skip M f n 6 2 (by decide) o2 i2 e2, tile_skip M f n 6 1 (by decide) o1 i1 e1, tile_skip M f n 6 0 (by decide) o0 i0 e0]
  · rw [h7, tile_skip M f n 7 6 (by decide) o6 i6 e6, tile_skip M f n 7 5 (by decide) o5 i5 e5, tile_skip M f n 7 4 (by decide) o4 i4 e4, tile_skip M f n 7 3 (by decide) o3 i3 e3, tile_skip M f n 7 2 (by decide) o2 i2 e2, tile_skip M f n 7 1 (by decide) o1 i1 e1, tile_skip M f n 7 0 (by decide) o0 i0 e0]

/-- A block of eight heads' columns, tile by tile. -/
def joined8 (d : Fin 8 → FVec F S256x128 .bf16) : Vec F S256x1024 .bf16 := fun x =>
  d ⟨(x 1).val / 128, by have : (x 1).val < 1024 := (x 1).isLt; omega⟩ (ix2 (x 0) ⟨(x 1).val % 128, by omega⟩)

/-- A block of sixteen groups of columns, tile by tile. -/
def joined16 (d : Fin 16 → FVec F S256x128 .bf16) : Vec F S256x2048 .bf16 := fun x =>
  d ⟨(x 1).val / 128, by have : (x 1).val < 2048 := (x 1).isLt; omega⟩ (ix2 (x 0) ⟨(x 1).val % 128, by omega⟩)

/-- Stores of all 8 tiles leave the block as joined. -/
theorem pieces8 {sp : Space} (M : Memref sig .tc sp S256x1024 .bf16) (f : M.view.ty.Contents (Elt F)) (d : Fin 8 → FVec F S256x128 .bf16)
    (i0 : ∀ a, (![0, 0] : Fin 2 → ℕ) a + S256x128.size a ≤ S256x1024.size a) (i1 : ∀ a, (![0, 128] : Fin 2 → ℕ) a + S256x128.size a ≤ S256x1024.size a) (i2 : ∀ a, (![0, 256] : Fin 2 → ℕ) a + S256x128.size a ≤ S256x1024.size a) (i3 : ∀ a, (![0, 384] : Fin 2 → ℕ) a + S256x128.size a ≤ S256x1024.size a) (i4 : ∀ a, (![0, 512] : Fin 2 → ℕ) a + S256x128.size a ≤ S256x1024.size a) (i5 : ∀ a, (![0, 640] : Fin 2 → ℕ) a + S256x128.size a ≤ S256x1024.size a) (i6 : ∀ a, (![0, 768] : Fin 2 → ℕ) a + S256x128.size a ≤ S256x1024.size a) (i7 : ∀ a, (![0, 896] : Fin 2 → ℕ) a + S256x128.size a ≤ S256x1024.size a)
    (p0 p1 p2 p3 p4 p5 p6 p7 : Vec F S256x128 .bf16)
    (h0 : p0 = d 0) (h1 : p1 = d 1) (h2 : p2 = d 2) (h3 : p3 = d 3) (h4 : p4 = d 4) (h5 : p5 = d 5) (h6 : p6 = d 6) (h7 : p7 = d 7) :
    M.view.read (Elt F) (M.view.writes (Elt F) f [⟨Rect.unit (s := S256x1024) ![0, 896] S256x128.size i7, p7⟩, ⟨Rect.unit (s := S256x1024) ![0, 768] S256x128.size i6, p6⟩, ⟨Rect.unit (s := S256x1024) ![0, 640] S256x128.size i5, p5⟩, ⟨Rect.unit (s := S256x1024) ![0, 512] S256x128.size i4, p4⟩, ⟨Rect.unit (s := S256x1024) ![0, 384] S256x128.size i3, p3⟩, ⟨Rect.unit (s := S256x1024) ![0, 256] S256x128.size i2, p2⟩, ⟨Rect.unit (s := S256x1024) ![0, 128] S256x128.size i1, p1⟩, ⟨Rect.unit (s := S256x1024) ![0, 0] S256x128.size i0, p0⟩]) = joined8 d := by
  funext x
  have hx0 : (x 0).val < 256 := (x 0).isLt
  have hx1 : (x 1).val < 1024 := (x 1).isLt
  unfold joined8
  rcases (by omega : (x 1).val / 128 = 0 ∨ (x 1).val / 128 = 1 ∨ (x 1).val / 128 = 2 ∨ (x 1).val / 128 = 3 ∨ (x 1).val / 128 = 4 ∨ (x 1).val / 128 = 5 ∨ (x 1).val / 128 = 6 ∨ (x 1).val / 128 = 7) with hq | hq | hq | hq | hq | hq | hq | hq
  · rw [View.read_writes_cons_unit_of_not_mem M.view f i7 p7 _ x rfl 1 (Or.inl (by show (x 1).val < 896; omega))]
    rw [View.read_writes_cons_unit_of_not_mem M.view f i6 p6 _ x rfl 1 (Or.inl (by show (x 1).val < 768; omega))]
    rw [View.read_writes_cons_unit_of_not_mem M.view f i5 p5 _ x rfl 1 (Or.inl (by show (x 1).val < 640; omega))]
    rw [View.read_writes_cons_unit_of_not_mem M.view f i4 p4 _ x rfl 1 (Or.inl (by show (x 1).val < 512; omega))]
    rw [View.read_writes_cons_unit_of_not_mem M.view f i3 p3 _ x rfl 1 (Or.inl (by show (x 1).val < 384; omega))]
    rw [View.read_writes_cons_unit_of_not_mem M.view f i2 p2 _ x rfl 1 (Or.inl (by show (x 1).val < 256; omega))]
    rw [View.read_writes_cons_unit_of_not_mem M.view f i1 p1 _ x rfl 1 (Or.inl (by show (x 1).val < 128; omega))]
    have hf : ∀ hp : (x 1).val / 128 < 8, (⟨(x 1).val / 128, hp⟩ : Fin 8) = 0 := fun _ => Fin.ext hq
    rw [View.read_writes_cons_unit_of_mem M.view f i0 p0 _ x (ix2 (x 0) ⟨(x 1).val % 128, by omega⟩) rfl
      (Fin.forall_fin_two.mpr ⟨by show (x 0).val = 0 + (x 0).val; omega, by show (x 1).val = 0 + (x 1).val % 128; omega⟩), h0, hf]
  · rw [View.read_writes_cons_unit_of_not_mem M.view f i7 p7 _ x rfl 1 (Or.inl (by show (x 1).val < 896; omega))]
    rw [View.read_writes_cons_unit_of_not_mem M.view f i6 p6 _ x rfl 1 (Or.inl (by show (x 1).val < 768; omega))]
    rw [View.read_writes_cons_unit_of_not_mem M.view f i5 p5 _ x rfl 1 (Or.inl (by show (x 1).val < 640; omega))]
    rw [View.read_writes_cons_unit_of_not_mem M.view f i4 p4 _ x rfl 1 (Or.inl (by show (x 1).val < 512; omega))]
    rw [View.read_writes_cons_unit_of_not_mem M.view f i3 p3 _ x rfl 1 (Or.inl (by show (x 1).val < 384; omega))]
    rw [View.read_writes_cons_unit_of_not_mem M.view f i2 p2 _ x rfl 1 (Or.inl (by show (x 1).val < 256; omega))]
    have hf : ∀ hp : (x 1).val / 128 < 8, (⟨(x 1).val / 128, hp⟩ : Fin 8) = 1 := fun _ => Fin.ext hq
    rw [View.read_writes_cons_unit_of_mem M.view f i1 p1 _ x (ix2 (x 0) ⟨(x 1).val % 128, by omega⟩) rfl
      (Fin.forall_fin_two.mpr ⟨by show (x 0).val = 0 + (x 0).val; omega, by show (x 1).val = 128 + (x 1).val % 128; omega⟩), h1, hf]
  · rw [View.read_writes_cons_unit_of_not_mem M.view f i7 p7 _ x rfl 1 (Or.inl (by show (x 1).val < 896; omega))]
    rw [View.read_writes_cons_unit_of_not_mem M.view f i6 p6 _ x rfl 1 (Or.inl (by show (x 1).val < 768; omega))]
    rw [View.read_writes_cons_unit_of_not_mem M.view f i5 p5 _ x rfl 1 (Or.inl (by show (x 1).val < 640; omega))]
    rw [View.read_writes_cons_unit_of_not_mem M.view f i4 p4 _ x rfl 1 (Or.inl (by show (x 1).val < 512; omega))]
    rw [View.read_writes_cons_unit_of_not_mem M.view f i3 p3 _ x rfl 1 (Or.inl (by show (x 1).val < 384; omega))]
    have hf : ∀ hp : (x 1).val / 128 < 8, (⟨(x 1).val / 128, hp⟩ : Fin 8) = 2 := fun _ => Fin.ext hq
    rw [View.read_writes_cons_unit_of_mem M.view f i2 p2 _ x (ix2 (x 0) ⟨(x 1).val % 128, by omega⟩) rfl
      (Fin.forall_fin_two.mpr ⟨by show (x 0).val = 0 + (x 0).val; omega, by show (x 1).val = 256 + (x 1).val % 128; omega⟩), h2, hf]
  · rw [View.read_writes_cons_unit_of_not_mem M.view f i7 p7 _ x rfl 1 (Or.inl (by show (x 1).val < 896; omega))]
    rw [View.read_writes_cons_unit_of_not_mem M.view f i6 p6 _ x rfl 1 (Or.inl (by show (x 1).val < 768; omega))]
    rw [View.read_writes_cons_unit_of_not_mem M.view f i5 p5 _ x rfl 1 (Or.inl (by show (x 1).val < 640; omega))]
    rw [View.read_writes_cons_unit_of_not_mem M.view f i4 p4 _ x rfl 1 (Or.inl (by show (x 1).val < 512; omega))]
    have hf : ∀ hp : (x 1).val / 128 < 8, (⟨(x 1).val / 128, hp⟩ : Fin 8) = 3 := fun _ => Fin.ext hq
    rw [View.read_writes_cons_unit_of_mem M.view f i3 p3 _ x (ix2 (x 0) ⟨(x 1).val % 128, by omega⟩) rfl
      (Fin.forall_fin_two.mpr ⟨by show (x 0).val = 0 + (x 0).val; omega, by show (x 1).val = 384 + (x 1).val % 128; omega⟩), h3, hf]
  · rw [View.read_writes_cons_unit_of_not_mem M.view f i7 p7 _ x rfl 1 (Or.inl (by show (x 1).val < 896; omega))]
    rw [View.read_writes_cons_unit_of_not_mem M.view f i6 p6 _ x rfl 1 (Or.inl (by show (x 1).val < 768; omega))]
    rw [View.read_writes_cons_unit_of_not_mem M.view f i5 p5 _ x rfl 1 (Or.inl (by show (x 1).val < 640; omega))]
    have hf : ∀ hp : (x 1).val / 128 < 8, (⟨(x 1).val / 128, hp⟩ : Fin 8) = 4 := fun _ => Fin.ext hq
    rw [View.read_writes_cons_unit_of_mem M.view f i4 p4 _ x (ix2 (x 0) ⟨(x 1).val % 128, by omega⟩) rfl
      (Fin.forall_fin_two.mpr ⟨by show (x 0).val = 0 + (x 0).val; omega, by show (x 1).val = 512 + (x 1).val % 128; omega⟩), h4, hf]
  · rw [View.read_writes_cons_unit_of_not_mem M.view f i7 p7 _ x rfl 1 (Or.inl (by show (x 1).val < 896; omega))]
    rw [View.read_writes_cons_unit_of_not_mem M.view f i6 p6 _ x rfl 1 (Or.inl (by show (x 1).val < 768; omega))]
    have hf : ∀ hp : (x 1).val / 128 < 8, (⟨(x 1).val / 128, hp⟩ : Fin 8) = 5 := fun _ => Fin.ext hq
    rw [View.read_writes_cons_unit_of_mem M.view f i5 p5 _ x (ix2 (x 0) ⟨(x 1).val % 128, by omega⟩) rfl
      (Fin.forall_fin_two.mpr ⟨by show (x 0).val = 0 + (x 0).val; omega, by show (x 1).val = 640 + (x 1).val % 128; omega⟩), h5, hf]
  · rw [View.read_writes_cons_unit_of_not_mem M.view f i7 p7 _ x rfl 1 (Or.inl (by show (x 1).val < 896; omega))]
    have hf : ∀ hp : (x 1).val / 128 < 8, (⟨(x 1).val / 128, hp⟩ : Fin 8) = 6 := fun _ => Fin.ext hq
    rw [View.read_writes_cons_unit_of_mem M.view f i6 p6 _ x (ix2 (x 0) ⟨(x 1).val % 128, by omega⟩) rfl
      (Fin.forall_fin_two.mpr ⟨by show (x 0).val = 0 + (x 0).val; omega, by show (x 1).val = 768 + (x 1).val % 128; omega⟩), h6, hf]
  · have hf : ∀ hp : (x 1).val / 128 < 8, (⟨(x 1).val / 128, hp⟩ : Fin 8) = 7 := fun _ => Fin.ext hq
    rw [View.read_writes_cons_unit_of_mem M.view f i7 p7 _ x (ix2 (x 0) ⟨(x 1).val % 128, by omega⟩) rfl
      (Fin.forall_fin_two.mpr ⟨by show (x 0).val = 0 + (x 0).val; omega, by show (x 1).val = 896 + (x 1).val % 128; omega⟩), h7, hf]

/-- Stores of all 16 tiles leave the block as joined. -/
theorem pieces16 {sp : Space} (M : Memref sig .tc sp S256x2048 .bf16) (f : M.view.ty.Contents (Elt F)) (d : Fin 16 → FVec F S256x128 .bf16)
    (i0 : ∀ a, (![0, 0] : Fin 2 → ℕ) a + S256x128.size a ≤ S256x2048.size a) (i1 : ∀ a, (![0, 128] : Fin 2 → ℕ) a + S256x128.size a ≤ S256x2048.size a) (i2 : ∀ a, (![0, 256] : Fin 2 → ℕ) a + S256x128.size a ≤ S256x2048.size a) (i3 : ∀ a, (![0, 384] : Fin 2 → ℕ) a + S256x128.size a ≤ S256x2048.size a) (i4 : ∀ a, (![0, 512] : Fin 2 → ℕ) a + S256x128.size a ≤ S256x2048.size a) (i5 : ∀ a, (![0, 640] : Fin 2 → ℕ) a + S256x128.size a ≤ S256x2048.size a) (i6 : ∀ a, (![0, 768] : Fin 2 → ℕ) a + S256x128.size a ≤ S256x2048.size a) (i7 : ∀ a, (![0, 896] : Fin 2 → ℕ) a + S256x128.size a ≤ S256x2048.size a) (i8 : ∀ a, (![0, 1024] : Fin 2 → ℕ) a + S256x128.size a ≤ S256x2048.size a) (i9 : ∀ a, (![0, 1152] : Fin 2 → ℕ) a + S256x128.size a ≤ S256x2048.size a) (i10 : ∀ a, (![0, 1280] : Fin 2 → ℕ) a + S256x128.size a ≤ S256x2048.size a) (i11 : ∀ a, (![0, 1408] : Fin 2 → ℕ) a + S256x128.size a ≤ S256x2048.size a) (i12 : ∀ a, (![0, 1536] : Fin 2 → ℕ) a + S256x128.size a ≤ S256x2048.size a) (i13 : ∀ a, (![0, 1664] : Fin 2 → ℕ) a + S256x128.size a ≤ S256x2048.size a) (i14 : ∀ a, (![0, 1792] : Fin 2 → ℕ) a + S256x128.size a ≤ S256x2048.size a) (i15 : ∀ a, (![0, 1920] : Fin 2 → ℕ) a + S256x128.size a ≤ S256x2048.size a)
    (p0 p1 p2 p3 p4 p5 p6 p7 p8 p9 p10 p11 p12 p13 p14 p15 : Vec F S256x128 .bf16)
    (h0 : p0 = d 0) (h1 : p1 = d 1) (h2 : p2 = d 2) (h3 : p3 = d 3) (h4 : p4 = d 4) (h5 : p5 = d 5) (h6 : p6 = d 6) (h7 : p7 = d 7) (h8 : p8 = d 8) (h9 : p9 = d 9) (h10 : p10 = d 10) (h11 : p11 = d 11) (h12 : p12 = d 12) (h13 : p13 = d 13) (h14 : p14 = d 14) (h15 : p15 = d 15) :
    M.view.read (Elt F) (M.view.writes (Elt F) f [⟨Rect.unit (s := S256x2048) ![0, 1920] S256x128.size i15, p15⟩, ⟨Rect.unit (s := S256x2048) ![0, 1792] S256x128.size i14, p14⟩, ⟨Rect.unit (s := S256x2048) ![0, 1664] S256x128.size i13, p13⟩, ⟨Rect.unit (s := S256x2048) ![0, 1536] S256x128.size i12, p12⟩, ⟨Rect.unit (s := S256x2048) ![0, 1408] S256x128.size i11, p11⟩, ⟨Rect.unit (s := S256x2048) ![0, 1280] S256x128.size i10, p10⟩, ⟨Rect.unit (s := S256x2048) ![0, 1152] S256x128.size i9, p9⟩, ⟨Rect.unit (s := S256x2048) ![0, 1024] S256x128.size i8, p8⟩, ⟨Rect.unit (s := S256x2048) ![0, 896] S256x128.size i7, p7⟩, ⟨Rect.unit (s := S256x2048) ![0, 768] S256x128.size i6, p6⟩, ⟨Rect.unit (s := S256x2048) ![0, 640] S256x128.size i5, p5⟩, ⟨Rect.unit (s := S256x2048) ![0, 512] S256x128.size i4, p4⟩, ⟨Rect.unit (s := S256x2048) ![0, 384] S256x128.size i3, p3⟩, ⟨Rect.unit (s := S256x2048) ![0, 256] S256x128.size i2, p2⟩, ⟨Rect.unit (s := S256x2048) ![0, 128] S256x128.size i1, p1⟩, ⟨Rect.unit (s := S256x2048) ![0, 0] S256x128.size i0, p0⟩]) = joined16 d := by
  funext x
  have hx0 : (x 0).val < 256 := (x 0).isLt
  have hx1 : (x 1).val < 2048 := (x 1).isLt
  unfold joined16
  rcases (by omega : (x 1).val / 128 = 0 ∨ (x 1).val / 128 = 1 ∨ (x 1).val / 128 = 2 ∨ (x 1).val / 128 = 3 ∨ (x 1).val / 128 = 4 ∨ (x 1).val / 128 = 5 ∨ (x 1).val / 128 = 6 ∨ (x 1).val / 128 = 7 ∨ (x 1).val / 128 = 8 ∨ (x 1).val / 128 = 9 ∨ (x 1).val / 128 = 10 ∨ (x 1).val / 128 = 11 ∨ (x 1).val / 128 = 12 ∨ (x 1).val / 128 = 13 ∨ (x 1).val / 128 = 14 ∨ (x 1).val / 128 = 15) with hq | hq | hq | hq | hq | hq | hq | hq | hq | hq | hq | hq | hq | hq | hq | hq
  · rw [View.read_writes_cons_unit_of_not_mem M.view f i15 p15 _ x rfl 1 (Or.inl (by show (x 1).val < 1920; omega))]
    rw [View.read_writes_cons_unit_of_not_mem M.view f i14 p14 _ x rfl 1 (Or.inl (by show (x 1).val < 1792; omega))]
    rw [View.read_writes_cons_unit_of_not_mem M.view f i13 p13 _ x rfl 1 (Or.inl (by show (x 1).val < 1664; omega))]
    rw [View.read_writes_cons_unit_of_not_mem M.view f i12 p12 _ x rfl 1 (Or.inl (by show (x 1).val < 1536; omega))]
    rw [View.read_writes_cons_unit_of_not_mem M.view f i11 p11 _ x rfl 1 (Or.inl (by show (x 1).val < 1408; omega))]
    rw [View.read_writes_cons_unit_of_not_mem M.view f i10 p10 _ x rfl 1 (Or.inl (by show (x 1).val < 1280; omega))]
    rw [View.read_writes_cons_unit_of_not_mem M.view f i9 p9 _ x rfl 1 (Or.inl (by show (x 1).val < 1152; omega))]
    rw [View.read_writes_cons_unit_of_not_mem M.view f i8 p8 _ x rfl 1 (Or.inl (by show (x 1).val < 1024; omega))]
    rw [View.read_writes_cons_unit_of_not_mem M.view f i7 p7 _ x rfl 1 (Or.inl (by show (x 1).val < 896; omega))]
    rw [View.read_writes_cons_unit_of_not_mem M.view f i6 p6 _ x rfl 1 (Or.inl (by show (x 1).val < 768; omega))]
    rw [View.read_writes_cons_unit_of_not_mem M.view f i5 p5 _ x rfl 1 (Or.inl (by show (x 1).val < 640; omega))]
    rw [View.read_writes_cons_unit_of_not_mem M.view f i4 p4 _ x rfl 1 (Or.inl (by show (x 1).val < 512; omega))]
    rw [View.read_writes_cons_unit_of_not_mem M.view f i3 p3 _ x rfl 1 (Or.inl (by show (x 1).val < 384; omega))]
    rw [View.read_writes_cons_unit_of_not_mem M.view f i2 p2 _ x rfl 1 (Or.inl (by show (x 1).val < 256; omega))]
    rw [View.read_writes_cons_unit_of_not_mem M.view f i1 p1 _ x rfl 1 (Or.inl (by show (x 1).val < 128; omega))]
    have hf : ∀ hp : (x 1).val / 128 < 16, (⟨(x 1).val / 128, hp⟩ : Fin 16) = 0 := fun _ => Fin.ext hq
    rw [View.read_writes_cons_unit_of_mem M.view f i0 p0 _ x (ix2 (x 0) ⟨(x 1).val % 128, by omega⟩) rfl
      (Fin.forall_fin_two.mpr ⟨by show (x 0).val = 0 + (x 0).val; omega, by show (x 1).val = 0 + (x 1).val % 128; omega⟩), h0, hf]
  · rw [View.read_writes_cons_unit_of_not_mem M.view f i15 p15 _ x rfl 1 (Or.inl (by show (x 1).val < 1920; omega))]
    rw [View.read_writes_cons_unit_of_not_mem M.view f i14 p14 _ x rfl 1 (Or.inl (by show (x 1).val < 1792; omega))]
    rw [View.read_writes_cons_unit_of_not_mem M.view f i13 p13 _ x rfl 1 (Or.inl (by show (x 1).val < 1664; omega))]
    rw [View.read_writes_cons_unit_of_not_mem M.view f i12 p12 _ x rfl 1 (Or.inl (by show (x 1).val < 1536; omega))]
    rw [View.read_writes_cons_unit_of_not_mem M.view f i11 p11 _ x rfl 1 (Or.inl (by show (x 1).val < 1408; omega))]
    rw [View.read_writes_cons_unit_of_not_mem M.view f i10 p10 _ x rfl 1 (Or.inl (by show (x 1).val < 1280; omega))]
    rw [View.read_writes_cons_unit_of_not_mem M.view f i9 p9 _ x rfl 1 (Or.inl (by show (x 1).val < 1152; omega))]
    rw [View.read_writes_cons_unit_of_not_mem M.view f i8 p8 _ x rfl 1 (Or.inl (by show (x 1).val < 1024; omega))]
    rw [View.read_writes_cons_unit_of_not_mem M.view f i7 p7 _ x rfl 1 (Or.inl (by show (x 1).val < 896; omega))]
    rw [View.read_writes_cons_unit_of_not_mem M.view f i6 p6 _ x rfl 1 (Or.inl (by show (x 1).val < 768; omega))]
    rw [View.read_writes_cons_unit_of_not_mem M.view f i5 p5 _ x rfl 1 (Or.inl (by show (x 1).val < 640; omega))]
    rw [View.read_writes_cons_unit_of_not_mem M.view f i4 p4 _ x rfl 1 (Or.inl (by show (x 1).val < 512; omega))]
    rw [View.read_writes_cons_unit_of_not_mem M.view f i3 p3 _ x rfl 1 (Or.inl (by show (x 1).val < 384; omega))]
    rw [View.read_writes_cons_unit_of_not_mem M.view f i2 p2 _ x rfl 1 (Or.inl (by show (x 1).val < 256; omega))]
    have hf : ∀ hp : (x 1).val / 128 < 16, (⟨(x 1).val / 128, hp⟩ : Fin 16) = 1 := fun _ => Fin.ext hq
    rw [View.read_writes_cons_unit_of_mem M.view f i1 p1 _ x (ix2 (x 0) ⟨(x 1).val % 128, by omega⟩) rfl
      (Fin.forall_fin_two.mpr ⟨by show (x 0).val = 0 + (x 0).val; omega, by show (x 1).val = 128 + (x 1).val % 128; omega⟩), h1, hf]
  · rw [View.read_writes_cons_unit_of_not_mem M.view f i15 p15 _ x rfl 1 (Or.inl (by show (x 1).val < 1920; omega))]
    rw [View.read_writes_cons_unit_of_not_mem M.view f i14 p14 _ x rfl 1 (Or.inl (by show (x 1).val < 1792; omega))]
    rw [View.read_writes_cons_unit_of_not_mem M.view f i13 p13 _ x rfl 1 (Or.inl (by show (x 1).val < 1664; omega))]
    rw [View.read_writes_cons_unit_of_not_mem M.view f i12 p12 _ x rfl 1 (Or.inl (by show (x 1).val < 1536; omega))]
    rw [View.read_writes_cons_unit_of_not_mem M.view f i11 p11 _ x rfl 1 (Or.inl (by show (x 1).val < 1408; omega))]
    rw [View.read_writes_cons_unit_of_not_mem M.view f i10 p10 _ x rfl 1 (Or.inl (by show (x 1).val < 1280; omega))]
    rw [View.read_writes_cons_unit_of_not_mem M.view f i9 p9 _ x rfl 1 (Or.inl (by show (x 1).val < 1152; omega))]
    rw [View.read_writes_cons_unit_of_not_mem M.view f i8 p8 _ x rfl 1 (Or.inl (by show (x 1).val < 1024; omega))]
    rw [View.read_writes_cons_unit_of_not_mem M.view f i7 p7 _ x rfl 1 (Or.inl (by show (x 1).val < 896; omega))]
    rw [View.read_writes_cons_unit_of_not_mem M.view f i6 p6 _ x rfl 1 (Or.inl (by show (x 1).val < 768; omega))]
    rw [View.read_writes_cons_unit_of_not_mem M.view f i5 p5 _ x rfl 1 (Or.inl (by show (x 1).val < 640; omega))]
    rw [View.read_writes_cons_unit_of_not_mem M.view f i4 p4 _ x rfl 1 (Or.inl (by show (x 1).val < 512; omega))]
    rw [View.read_writes_cons_unit_of_not_mem M.view f i3 p3 _ x rfl 1 (Or.inl (by show (x 1).val < 384; omega))]
    have hf : ∀ hp : (x 1).val / 128 < 16, (⟨(x 1).val / 128, hp⟩ : Fin 16) = 2 := fun _ => Fin.ext hq
    rw [View.read_writes_cons_unit_of_mem M.view f i2 p2 _ x (ix2 (x 0) ⟨(x 1).val % 128, by omega⟩) rfl
      (Fin.forall_fin_two.mpr ⟨by show (x 0).val = 0 + (x 0).val; omega, by show (x 1).val = 256 + (x 1).val % 128; omega⟩), h2, hf]
  · rw [View.read_writes_cons_unit_of_not_mem M.view f i15 p15 _ x rfl 1 (Or.inl (by show (x 1).val < 1920; omega))]
    rw [View.read_writes_cons_unit_of_not_mem M.view f i14 p14 _ x rfl 1 (Or.inl (by show (x 1).val < 1792; omega))]
    rw [View.read_writes_cons_unit_of_not_mem M.view f i13 p13 _ x rfl 1 (Or.inl (by show (x 1).val < 1664; omega))]
    rw [View.read_writes_cons_unit_of_not_mem M.view f i12 p12 _ x rfl 1 (Or.inl (by show (x 1).val < 1536; omega))]
    rw [View.read_writes_cons_unit_of_not_mem M.view f i11 p11 _ x rfl 1 (Or.inl (by show (x 1).val < 1408; omega))]
    rw [View.read_writes_cons_unit_of_not_mem M.view f i10 p10 _ x rfl 1 (Or.inl (by show (x 1).val < 1280; omega))]
    rw [View.read_writes_cons_unit_of_not_mem M.view f i9 p9 _ x rfl 1 (Or.inl (by show (x 1).val < 1152; omega))]
    rw [View.read_writes_cons_unit_of_not_mem M.view f i8 p8 _ x rfl 1 (Or.inl (by show (x 1).val < 1024; omega))]
    rw [View.read_writes_cons_unit_of_not_mem M.view f i7 p7 _ x rfl 1 (Or.inl (by show (x 1).val < 896; omega))]
    rw [View.read_writes_cons_unit_of_not_mem M.view f i6 p6 _ x rfl 1 (Or.inl (by show (x 1).val < 768; omega))]
    rw [View.read_writes_cons_unit_of_not_mem M.view f i5 p5 _ x rfl 1 (Or.inl (by show (x 1).val < 640; omega))]
    rw [View.read_writes_cons_unit_of_not_mem M.view f i4 p4 _ x rfl 1 (Or.inl (by show (x 1).val < 512; omega))]
    have hf : ∀ hp : (x 1).val / 128 < 16, (⟨(x 1).val / 128, hp⟩ : Fin 16) = 3 := fun _ => Fin.ext hq
    rw [View.read_writes_cons_unit_of_mem M.view f i3 p3 _ x (ix2 (x 0) ⟨(x 1).val % 128, by omega⟩) rfl
      (Fin.forall_fin_two.mpr ⟨by show (x 0).val = 0 + (x 0).val; omega, by show (x 1).val = 384 + (x 1).val % 128; omega⟩), h3, hf]
  · rw [View.read_writes_cons_unit_of_not_mem M.view f i15 p15 _ x rfl 1 (Or.inl (by show (x 1).val < 1920; omega))]
    rw [View.read_writes_cons_unit_of_not_mem M.view f i14 p14 _ x rfl 1 (Or.inl (by show (x 1).val < 1792; omega))]
    rw [View.read_writes_cons_unit_of_not_mem M.view f i13 p13 _ x rfl 1 (Or.inl (by show (x 1).val < 1664; omega))]
    rw [View.read_writes_cons_unit_of_not_mem M.view f i12 p12 _ x rfl 1 (Or.inl (by show (x 1).val < 1536; omega))]
    rw [View.read_writes_cons_unit_of_not_mem M.view f i11 p11 _ x rfl 1 (Or.inl (by show (x 1).val < 1408; omega))]
    rw [View.read_writes_cons_unit_of_not_mem M.view f i10 p10 _ x rfl 1 (Or.inl (by show (x 1).val < 1280; omega))]
    rw [View.read_writes_cons_unit_of_not_mem M.view f i9 p9 _ x rfl 1 (Or.inl (by show (x 1).val < 1152; omega))]
    rw [View.read_writes_cons_unit_of_not_mem M.view f i8 p8 _ x rfl 1 (Or.inl (by show (x 1).val < 1024; omega))]
    rw [View.read_writes_cons_unit_of_not_mem M.view f i7 p7 _ x rfl 1 (Or.inl (by show (x 1).val < 896; omega))]
    rw [View.read_writes_cons_unit_of_not_mem M.view f i6 p6 _ x rfl 1 (Or.inl (by show (x 1).val < 768; omega))]
    rw [View.read_writes_cons_unit_of_not_mem M.view f i5 p5 _ x rfl 1 (Or.inl (by show (x 1).val < 640; omega))]
    have hf : ∀ hp : (x 1).val / 128 < 16, (⟨(x 1).val / 128, hp⟩ : Fin 16) = 4 := fun _ => Fin.ext hq
    rw [View.read_writes_cons_unit_of_mem M.view f i4 p4 _ x (ix2 (x 0) ⟨(x 1).val % 128, by omega⟩) rfl
      (Fin.forall_fin_two.mpr ⟨by show (x 0).val = 0 + (x 0).val; omega, by show (x 1).val = 512 + (x 1).val % 128; omega⟩), h4, hf]
  · rw [View.read_writes_cons_unit_of_not_mem M.view f i15 p15 _ x rfl 1 (Or.inl (by show (x 1).val < 1920; omega))]
    rw [View.read_writes_cons_unit_of_not_mem M.view f i14 p14 _ x rfl 1 (Or.inl (by show (x 1).val < 1792; omega))]
    rw [View.read_writes_cons_unit_of_not_mem M.view f i13 p13 _ x rfl 1 (Or.inl (by show (x 1).val < 1664; omega))]
    rw [View.read_writes_cons_unit_of_not_mem M.view f i12 p12 _ x rfl 1 (Or.inl (by show (x 1).val < 1536; omega))]
    rw [View.read_writes_cons_unit_of_not_mem M.view f i11 p11 _ x rfl 1 (Or.inl (by show (x 1).val < 1408; omega))]
    rw [View.read_writes_cons_unit_of_not_mem M.view f i10 p10 _ x rfl 1 (Or.inl (by show (x 1).val < 1280; omega))]
    rw [View.read_writes_cons_unit_of_not_mem M.view f i9 p9 _ x rfl 1 (Or.inl (by show (x 1).val < 1152; omega))]
    rw [View.read_writes_cons_unit_of_not_mem M.view f i8 p8 _ x rfl 1 (Or.inl (by show (x 1).val < 1024; omega))]
    rw [View.read_writes_cons_unit_of_not_mem M.view f i7 p7 _ x rfl 1 (Or.inl (by show (x 1).val < 896; omega))]
    rw [View.read_writes_cons_unit_of_not_mem M.view f i6 p6 _ x rfl 1 (Or.inl (by show (x 1).val < 768; omega))]
    have hf : ∀ hp : (x 1).val / 128 < 16, (⟨(x 1).val / 128, hp⟩ : Fin 16) = 5 := fun _ => Fin.ext hq
    rw [View.read_writes_cons_unit_of_mem M.view f i5 p5 _ x (ix2 (x 0) ⟨(x 1).val % 128, by omega⟩) rfl
      (Fin.forall_fin_two.mpr ⟨by show (x 0).val = 0 + (x 0).val; omega, by show (x 1).val = 640 + (x 1).val % 128; omega⟩), h5, hf]
  · rw [View.read_writes_cons_unit_of_not_mem M.view f i15 p15 _ x rfl 1 (Or.inl (by show (x 1).val < 1920; omega))]
    rw [View.read_writes_cons_unit_of_not_mem M.view f i14 p14 _ x rfl 1 (Or.inl (by show (x 1).val < 1792; omega))]
    rw [View.read_writes_cons_unit_of_not_mem M.view f i13 p13 _ x rfl 1 (Or.inl (by show (x 1).val < 1664; omega))]
    rw [View.read_writes_cons_unit_of_not_mem M.view f i12 p12 _ x rfl 1 (Or.inl (by show (x 1).val < 1536; omega))]
    rw [View.read_writes_cons_unit_of_not_mem M.view f i11 p11 _ x rfl 1 (Or.inl (by show (x 1).val < 1408; omega))]
    rw [View.read_writes_cons_unit_of_not_mem M.view f i10 p10 _ x rfl 1 (Or.inl (by show (x 1).val < 1280; omega))]
    rw [View.read_writes_cons_unit_of_not_mem M.view f i9 p9 _ x rfl 1 (Or.inl (by show (x 1).val < 1152; omega))]
    rw [View.read_writes_cons_unit_of_not_mem M.view f i8 p8 _ x rfl 1 (Or.inl (by show (x 1).val < 1024; omega))]
    rw [View.read_writes_cons_unit_of_not_mem M.view f i7 p7 _ x rfl 1 (Or.inl (by show (x 1).val < 896; omega))]
    have hf : ∀ hp : (x 1).val / 128 < 16, (⟨(x 1).val / 128, hp⟩ : Fin 16) = 6 := fun _ => Fin.ext hq
    rw [View.read_writes_cons_unit_of_mem M.view f i6 p6 _ x (ix2 (x 0) ⟨(x 1).val % 128, by omega⟩) rfl
      (Fin.forall_fin_two.mpr ⟨by show (x 0).val = 0 + (x 0).val; omega, by show (x 1).val = 768 + (x 1).val % 128; omega⟩), h6, hf]
  · rw [View.read_writes_cons_unit_of_not_mem M.view f i15 p15 _ x rfl 1 (Or.inl (by show (x 1).val < 1920; omega))]
    rw [View.read_writes_cons_unit_of_not_mem M.view f i14 p14 _ x rfl 1 (Or.inl (by show (x 1).val < 1792; omega))]
    rw [View.read_writes_cons_unit_of_not_mem M.view f i13 p13 _ x rfl 1 (Or.inl (by show (x 1).val < 1664; omega))]
    rw [View.read_writes_cons_unit_of_not_mem M.view f i12 p12 _ x rfl 1 (Or.inl (by show (x 1).val < 1536; omega))]
    rw [View.read_writes_cons_unit_of_not_mem M.view f i11 p11 _ x rfl 1 (Or.inl (by show (x 1).val < 1408; omega))]
    rw [View.read_writes_cons_unit_of_not_mem M.view f i10 p10 _ x rfl 1 (Or.inl (by show (x 1).val < 1280; omega))]
    rw [View.read_writes_cons_unit_of_not_mem M.view f i9 p9 _ x rfl 1 (Or.inl (by show (x 1).val < 1152; omega))]
    rw [View.read_writes_cons_unit_of_not_mem M.view f i8 p8 _ x rfl 1 (Or.inl (by show (x 1).val < 1024; omega))]
    have hf : ∀ hp : (x 1).val / 128 < 16, (⟨(x 1).val / 128, hp⟩ : Fin 16) = 7 := fun _ => Fin.ext hq
    rw [View.read_writes_cons_unit_of_mem M.view f i7 p7 _ x (ix2 (x 0) ⟨(x 1).val % 128, by omega⟩) rfl
      (Fin.forall_fin_two.mpr ⟨by show (x 0).val = 0 + (x 0).val; omega, by show (x 1).val = 896 + (x 1).val % 128; omega⟩), h7, hf]
  · rw [View.read_writes_cons_unit_of_not_mem M.view f i15 p15 _ x rfl 1 (Or.inl (by show (x 1).val < 1920; omega))]
    rw [View.read_writes_cons_unit_of_not_mem M.view f i14 p14 _ x rfl 1 (Or.inl (by show (x 1).val < 1792; omega))]
    rw [View.read_writes_cons_unit_of_not_mem M.view f i13 p13 _ x rfl 1 (Or.inl (by show (x 1).val < 1664; omega))]
    rw [View.read_writes_cons_unit_of_not_mem M.view f i12 p12 _ x rfl 1 (Or.inl (by show (x 1).val < 1536; omega))]
    rw [View.read_writes_cons_unit_of_not_mem M.view f i11 p11 _ x rfl 1 (Or.inl (by show (x 1).val < 1408; omega))]
    rw [View.read_writes_cons_unit_of_not_mem M.view f i10 p10 _ x rfl 1 (Or.inl (by show (x 1).val < 1280; omega))]
    rw [View.read_writes_cons_unit_of_not_mem M.view f i9 p9 _ x rfl 1 (Or.inl (by show (x 1).val < 1152; omega))]
    have hf : ∀ hp : (x 1).val / 128 < 16, (⟨(x 1).val / 128, hp⟩ : Fin 16) = 8 := fun _ => Fin.ext hq
    rw [View.read_writes_cons_unit_of_mem M.view f i8 p8 _ x (ix2 (x 0) ⟨(x 1).val % 128, by omega⟩) rfl
      (Fin.forall_fin_two.mpr ⟨by show (x 0).val = 0 + (x 0).val; omega, by show (x 1).val = 1024 + (x 1).val % 128; omega⟩), h8, hf]
  · rw [View.read_writes_cons_unit_of_not_mem M.view f i15 p15 _ x rfl 1 (Or.inl (by show (x 1).val < 1920; omega))]
    rw [View.read_writes_cons_unit_of_not_mem M.view f i14 p14 _ x rfl 1 (Or.inl (by show (x 1).val < 1792; omega))]
    rw [View.read_writes_cons_unit_of_not_mem M.view f i13 p13 _ x rfl 1 (Or.inl (by show (x 1).val < 1664; omega))]
    rw [View.read_writes_cons_unit_of_not_mem M.view f i12 p12 _ x rfl 1 (Or.inl (by show (x 1).val < 1536; omega))]
    rw [View.read_writes_cons_unit_of_not_mem M.view f i11 p11 _ x rfl 1 (Or.inl (by show (x 1).val < 1408; omega))]
    rw [View.read_writes_cons_unit_of_not_mem M.view f i10 p10 _ x rfl 1 (Or.inl (by show (x 1).val < 1280; omega))]
    have hf : ∀ hp : (x 1).val / 128 < 16, (⟨(x 1).val / 128, hp⟩ : Fin 16) = 9 := fun _ => Fin.ext hq
    rw [View.read_writes_cons_unit_of_mem M.view f i9 p9 _ x (ix2 (x 0) ⟨(x 1).val % 128, by omega⟩) rfl
      (Fin.forall_fin_two.mpr ⟨by show (x 0).val = 0 + (x 0).val; omega, by show (x 1).val = 1152 + (x 1).val % 128; omega⟩), h9, hf]
  · rw [View.read_writes_cons_unit_of_not_mem M.view f i15 p15 _ x rfl 1 (Or.inl (by show (x 1).val < 1920; omega))]
    rw [View.read_writes_cons_unit_of_not_mem M.view f i14 p14 _ x rfl 1 (Or.inl (by show (x 1).val < 1792; omega))]
    rw [View.read_writes_cons_unit_of_not_mem M.view f i13 p13 _ x rfl 1 (Or.inl (by show (x 1).val < 1664; omega))]
    rw [View.read_writes_cons_unit_of_not_mem M.view f i12 p12 _ x rfl 1 (Or.inl (by show (x 1).val < 1536; omega))]
    rw [View.read_writes_cons_unit_of_not_mem M.view f i11 p11 _ x rfl 1 (Or.inl (by show (x 1).val < 1408; omega))]
    have hf : ∀ hp : (x 1).val / 128 < 16, (⟨(x 1).val / 128, hp⟩ : Fin 16) = 10 := fun _ => Fin.ext hq
    rw [View.read_writes_cons_unit_of_mem M.view f i10 p10 _ x (ix2 (x 0) ⟨(x 1).val % 128, by omega⟩) rfl
      (Fin.forall_fin_two.mpr ⟨by show (x 0).val = 0 + (x 0).val; omega, by show (x 1).val = 1280 + (x 1).val % 128; omega⟩), h10, hf]
  · rw [View.read_writes_cons_unit_of_not_mem M.view f i15 p15 _ x rfl 1 (Or.inl (by show (x 1).val < 1920; omega))]
    rw [View.read_writes_cons_unit_of_not_mem M.view f i14 p14 _ x rfl 1 (Or.inl (by show (x 1).val < 1792; omega))]
    rw [View.read_writes_cons_unit_of_not_mem M.view f i13 p13 _ x rfl 1 (Or.inl (by show (x 1).val < 1664; omega))]
    rw [View.read_writes_cons_unit_of_not_mem M.view f i12 p12 _ x rfl 1 (Or.inl (by show (x 1).val < 1536; omega))]
    have hf : ∀ hp : (x 1).val / 128 < 16, (⟨(x 1).val / 128, hp⟩ : Fin 16) = 11 := fun _ => Fin.ext hq
    rw [View.read_writes_cons_unit_of_mem M.view f i11 p11 _ x (ix2 (x 0) ⟨(x 1).val % 128, by omega⟩) rfl
      (Fin.forall_fin_two.mpr ⟨by show (x 0).val = 0 + (x 0).val; omega, by show (x 1).val = 1408 + (x 1).val % 128; omega⟩), h11, hf]
  · rw [View.read_writes_cons_unit_of_not_mem M.view f i15 p15 _ x rfl 1 (Or.inl (by show (x 1).val < 1920; omega))]
    rw [View.read_writes_cons_unit_of_not_mem M.view f i14 p14 _ x rfl 1 (Or.inl (by show (x 1).val < 1792; omega))]
    rw [View.read_writes_cons_unit_of_not_mem M.view f i13 p13 _ x rfl 1 (Or.inl (by show (x 1).val < 1664; omega))]
    have hf : ∀ hp : (x 1).val / 128 < 16, (⟨(x 1).val / 128, hp⟩ : Fin 16) = 12 := fun _ => Fin.ext hq
    rw [View.read_writes_cons_unit_of_mem M.view f i12 p12 _ x (ix2 (x 0) ⟨(x 1).val % 128, by omega⟩) rfl
      (Fin.forall_fin_two.mpr ⟨by show (x 0).val = 0 + (x 0).val; omega, by show (x 1).val = 1536 + (x 1).val % 128; omega⟩), h12, hf]
  · rw [View.read_writes_cons_unit_of_not_mem M.view f i15 p15 _ x rfl 1 (Or.inl (by show (x 1).val < 1920; omega))]
    rw [View.read_writes_cons_unit_of_not_mem M.view f i14 p14 _ x rfl 1 (Or.inl (by show (x 1).val < 1792; omega))]
    have hf : ∀ hp : (x 1).val / 128 < 16, (⟨(x 1).val / 128, hp⟩ : Fin 16) = 13 := fun _ => Fin.ext hq
    rw [View.read_writes_cons_unit_of_mem M.view f i13 p13 _ x (ix2 (x 0) ⟨(x 1).val % 128, by omega⟩) rfl
      (Fin.forall_fin_two.mpr ⟨by show (x 0).val = 0 + (x 0).val; omega, by show (x 1).val = 1664 + (x 1).val % 128; omega⟩), h13, hf]
  · rw [View.read_writes_cons_unit_of_not_mem M.view f i15 p15 _ x rfl 1 (Or.inl (by show (x 1).val < 1920; omega))]
    have hf : ∀ hp : (x 1).val / 128 < 16, (⟨(x 1).val / 128, hp⟩ : Fin 16) = 14 := fun _ => Fin.ext hq
    rw [View.read_writes_cons_unit_of_mem M.view f i14 p14 _ x (ix2 (x 0) ⟨(x 1).val % 128, by omega⟩) rfl
      (Fin.forall_fin_two.mpr ⟨by show (x 0).val = 0 + (x 0).val; omega, by show (x 1).val = 1792 + (x 1).val % 128; omega⟩), h14, hf]
  · have hf : ∀ hp : (x 1).val / 128 < 16, (⟨(x 1).val / 128, hp⟩ : Fin 16) = 15 := fun _ => Fin.ext hq
    rw [View.read_writes_cons_unit_of_mem M.view f i15 p15 _ x (ix2 (x 0) ⟨(x 1).val % 128, by omega⟩) rfl
      (Fin.forall_fin_two.mpr ⟨by show (x 0).val = 0 + (x 0).val; omega, by show (x 1).val = 1920 + (x 1).val % 128; omega⟩), h15, hf]

theorem whole_inb : ∀ a, (![0, 0] : Fin 2 → ℕ) a + S256x128.size a ≤ S256x128.size a := Fin.forall_fin_two.mpr ⟨le_rfl, le_rfl⟩

/-- A cleared scratch. -/
def zeros : Vec F S4096x1024 .f32 := broadcast S4096x1024 (Scalar.ofBits .f32 0x00000000#32 : F .f32)

/-- The tiles a grid point stores of the gradients of keys (at even numbers) and values (at odd ones). -/
def dkvTile (dk dv : Fin 8 → FVec F S256x128 .f32) (c a b : FVec F S256x128 .f32) (g : Fin 16) : FVec F S256x128 .bf16 :=
  if g.val % 2 = 0 then dkOut (dk ⟨g.val / 2, by omega⟩) c a b else truncf .bf16 (dv ⟨g.val / 2, by omega⟩) bitsLt_bf16_f32

/-- The first step is the diagonal block's. -/
theorem blk_zero (n : Fin 16) : blk n 0 = n := Fin.ext (Nat.mod_eq_of_lt n.isLt)

theorem dkAt_one (kk vv : Fin 8 → FVec F S256x128 .bf16) (x3 x4 : Vec F S4096x1024 .bf16) (x5 x6 : Vec F S8x16x1x256 .f32) (n : Fin 16) (h : Fin 8) :
    dkAt kk vv x3 x4 x5 x6 n 1 h = accum (broadcast S256x128 (Scalar.ofBits .f32 0x00000000#32 : F .f32))
      (dsOf true (kk h) (vv h) (tile n h x3) (tile n h x4) (rowOf h n x5) (rowOf h n x6)) (tile n h x3) := by
  show accum _ (dsAt kk vv x3 x4 x5 x6 n 0 h) (tile (blk n 0) h x3) = _
  unfold dsAt; rw [blk_zero]; rfl

theorem dvAt_one (kk : Fin 8 → FVec F S256x128 .bf16) (x3 x4 : Vec F S4096x1024 .bf16) (x5 : Vec F S8x16x1x256 .f32) (n : Fin 16) (h : Fin 8) :
    dvAt kk x3 x4 x5 n 1 h = accum (broadcast S256x128 (Scalar.ofBits .f32 0x00000000#32 : F .f32))
      (pOf true (kk h) (tile n h x3) (rowOf h n x5)) (tile n h x4) := by
  show accum _ (pAt kk x3 x5 n 0 h) (tile (blk n 0) h x4) = _
  unfold pAt; rw [blk_zero]; rfl

theorem scrAt_one (kk vv : Fin 8 → FVec F S256x128 .bf16) (x3 x4 : Vec F S4096x1024 .bf16) (x5 x6 : Vec F S8x16x1x256 .f32) (n : Fin 16) (s : Vec F S4096x1024 .f32) :
    scrAt kk vv x3 x4 x5 x6 n s 1 = scratchStep n
      (fun h => dsOf true (kk h) (vv h) (tile n h x3) (tile n h x4) (rowOf h n x5) (rowOf h n x6)) kk s := by
  show scratchStep (blk n 0) (dsAt kk vv x3 x4 x5 x6 n 0) kk s = _
  unfold dsAt; rw [blk_zero]; rfl

end Cert.KernelIdeal.AttnBwd

end
-- ==== Proof.FirstStart.lean ====
/- What the body of attn_bwd leaves at a first block of keys. -/
module

public import proofs.«01_k».proof.Proof.BodyRun
public import proofs.«01_k».proof.Proof.Tail

@[expose] public section

set_option maxRecDepth 16384

noncomputable section

namespace Cert.KernelIdeal.AttnBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable {F : FTy → Type} [FloatOps F] [Named F]

section First

variable (c : Dev nD) (i : grid0.Coords) (arg2 : Memref sig .tc .vmem S256x2048 .bf16) (harg2 : arg2.IsWhole) (arg3 : Memref sig .tc .vmem S4096x1024 .bf16) (harg3 : arg3.IsWhole) (arg4 : Memref sig .tc .vmem S4096x1024 .bf16) (harg4 : arg4.IsWhole) (arg5 : Memref sig .tc .vmem S8x16x1x256 .f32) (harg5 : arg5.IsWhole) (arg6 : Memref sig .tc .vmem S8x16x1x256 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x1024 .bf16) (harg10 : arg10.IsWhole) (arg11 : Memref sig .tc .vmem S256x2048 .bf16) (harg11 : arg11.IsWhole) (arg12 : Memref sig .tc .vmem S4096x1024 .f32) (harg12 : arg12.IsWhole) (x2 : Vec F S256x2048 .bf16) (x3 : Vec F S4096x1024 .bf16) (x4 : Vec F S4096x1024 .bf16) (x5 : Vec F S8x16x1x256 .f32) (x6 : Vec F S8x16x1x256 .f32) (x7 : Vec F S256x128 .f32) (x8 : Vec F S256x128 .f32) (x9 : Vec F S256x128 .f32) (d10 : Vec F S256x1024 .bf16) (d11 : Vec F S256x2048 .bf16) (s : Vec F S4096x1024 .f32)

/-- The scratch just cleared. -/
theorem first_clear : arg12.view.read (Elt F) (arg12.view.writes (Elt F) arg12.view.junk runFirst.sl.H12_1) = zeros := by
  funext x
  refine (View.read_writes_cons_unit_of_mem arg12.view _ _ _ [] x x (off' := ![0, 0]) rfl ?_).trans ?_
  · intro a; fin_cases a
    · show (x 0).val = 0 + (x 0).val; omega
    · show (x 1).val = 0 + (x 1).val; omega
  · exact congrFun (shapeCast_self (s := S4096x1024) _ _) x

/-- Head 0's keys. -/
theorem first_k0 : (runFirst.sl.v4 c arg2 harg2 x2) = keysOf x2 0 :=
  half_read arg2 harg2 x2 ⟨2 * (0 : Fin 8).val, by decide⟩ ![0, 0] _ rfl _
/-- Head 0's values. -/
theorem first_v0 : (runFirst.sl.v20 c arg2 harg2 x2) = valsOf x2 0 :=
  half_read arg2 harg2 x2 ⟨2 * (0 : Fin 8).val + 1, by decide⟩ ![0, 128] _ rfl _
/-- Head 1's keys. -/
theorem first_k1 : (runFirst.sl.v6 c arg2 harg2 x2) = keysOf x2 1 :=
  half_read arg2 harg2 x2 ⟨2 * (1 : Fin 8).val, by decide⟩ ![0, 256] _ rfl _
/-- Head 1's values. -/
theorem first_v1 : (runFirst.sl.v22 c arg2 harg2 x2) = valsOf x2 1 :=
  half_read arg2 harg2 x2 ⟨2 * (1 : Fin 8).val + 1, by decide⟩ ![0, 384] _ rfl _
/-- Head 2's keys. -/
theorem first_k2 : (runFirst.sl.v8 c arg2 harg2 x2) = keysOf x2 2 :=
  half_read arg2 harg2 x2 ⟨2 * (2 : Fin 8).val, by decide⟩ ![0, 512] _ rfl _
/-- Head 2's values. -/
theorem first_v2 : (runFirst.sl.v24 c arg2 harg2 x2) = valsOf x2 2 :=
  half_read arg2 harg2 x2 ⟨2 * (2 : Fin 8).val + 1, by decide⟩ ![0, 640] _ rfl _
/-- Head 3's keys. -/
theorem first_k3 : (runFirst.sl.v10 c arg2 harg2 x2) = keysOf x2 3 :=
  half_read arg2 harg2 x2 ⟨2 * (3 : Fin 8).val, by decide⟩ ![0, 768] _ rfl _
/-- Head 3's values. -/
theorem first_v3 : (runFirst.sl.v26 c arg2 harg2 x2) = valsOf x2 3 :=
  half_read arg2 harg2 x2 ⟨2 * (3 : Fin 8).val + 1, by decide⟩ ![0, 896] _ rfl _
/-- Head 4's keys. -/
theorem first_k4 : (runFirst.sl.v12 c arg2 harg2 x2) = keysOf x2 4 :=
  half_read arg2 harg2 x2 ⟨2 * (4 : Fin 8).val, by decide⟩ ![0, 1024] _ rfl _
/-- Head 4's values. -/
theorem first_v4 : (runFirst.sl.v28 c arg2 harg2 x2) = valsOf x2 4 :=
  half_read arg2 harg2 x2 ⟨2 * (4 : Fin 8).val + 1, by decide⟩ ![0, 1152] _ rfl _
/-- Head 5's keys. -/
theorem first_k5 : (runFirst.sl.v14 c arg2 harg2 x2) = keysOf x2 5 :=
  half_read arg2 harg2 x2 ⟨2 * (5 : Fin 8).val, by decide⟩ ![0, 1280] _ rfl _
/-- Head 5's values. -/
theorem first_v5 : (runFirst.sl.v30 c arg2 harg2 x2) = valsOf x2 5 :=
  half_read arg2 harg2 x2 ⟨2 * (5 : Fin 8).val + 1, by decide⟩ ![0, 1408] _ rfl _
/-- Head 6's keys. -/
theorem first_k6 : (runFirst.sl.v16 c arg2 harg2 x2) = keysOf x2 6 :=
  half_read arg2 harg2 x2 ⟨2 * (6 : Fin 8).val, by decide⟩ ![0, 1536] _ rfl _
/-- Head 6's values. -/
theorem first_v6 : (runFirst.sl.v32 c arg2 harg2 x2) = valsOf x2 6 :=
  half_read arg2 harg2 x2 ⟨2 * (6 : Fin 8).val + 1, by decide⟩ ![0, 1664] _ rfl _
/-- Head 7's keys. -/
theorem first_k7 : (runFirst.sl.v18 c arg2 harg2 x2) = keysOf x2 7 :=
  half_read arg2 harg2 x2 ⟨2 * (7 : Fin 8).val, by decide⟩ ![0, 1792] _ rfl _
/-- Head 7's values. -/
theorem first_v7 : (runFirst.sl.v34 c arg2 harg2 x2) = valsOf x2 7 :=
  half_read arg2 harg2 x2 ⟨2 * (7 : Fin 8).val + 1, by decide⟩ ![0, 1920] _ rfl _

set_option maxHeartbeats 1000000 in
/-- Head 0's key accumulator after the diagonal step. -/
theorem first_dk0 : (runFirst.sl.v289 c i arg2 harg2 arg3 harg3 arg4 harg4 arg5 harg5 arg6 harg6 x2 x3 x4 x5 x6) = dkAt (keysOf x2) (valsOf x2) x3 x4 x5 x6 (qb i) 1 0 := by
  have e3 : tile (qb i) 0 x3 = _ := (tile_read arg3 harg3 x3 (qb i) 0 (k0_off1 i) (k0_off1_inb i) (off1_eq i) shapeCasts_S256x128_S256x128).symm
  have e4 : tile (qb i) 0 x4 = _ := (tile_read arg4 harg4 x4 (qb i) 0 (k0_off1 i) (k0_off1_inb i) (off1_eq i) shapeCasts_S256x128_S256x128).symm
  have e5 : rowOf 0 (qb i) x5 = _ := (row_read arg5 harg5 x5 (qb i) 0 (k0_off9 i) (k0_off9_inb i) (off9_eq i)).symm
  have e6 : rowOf 0 (qb i) x6 = _ := (row_read arg6 harg6 x6 (qb i) 0 (k0_off9 i) (k0_off9_inb i) (off9_eq i)).symm
  rw [dkAt_one, ← first_k0 c arg2 harg2 x2, ← first_v0 c arg2 harg2 x2, e3, e4, e5, e6]
  rfl
set_option maxHeartbeats 1000000 in
/-- Head 0's value accumulator after the diagonal step. -/
theorem first_dv0 : (runFirst.sl.v287 c i arg2 harg2 arg3 harg3 arg4 harg4 arg5 harg5 x2 x3 x4 x5) = dvAt (keysOf x2) x3 x4 x5 (qb i) 1 0 := by
  have e3 : tile (qb i) 0 x3 = _ := (tile_read arg3 harg3 x3 (qb i) 0 (k0_off1 i) (k0_off1_inb i) (off1_eq i) shapeCasts_S256x128_S256x128).symm
  have e4 : tile (qb i) 0 x4 = _ := (tile_read arg4 harg4 x4 (qb i) 0 (k0_off1 i) (k0_off1_inb i) (off1_eq i) shapeCasts_S256x128_S256x128).symm
  have e5 : rowOf 0 (qb i) x5 = _ := (row_read arg5 harg5 x5 (qb i) 0 (k0_off9 i) (k0_off9_inb i) (off9_eq i)).symm
  rw [dvAt_one, ← first_k0 c arg2 harg2 x2, e3, e4, e5]
  rfl

set_option maxHeartbeats 1000000 in
/-- Head 1's key accumulator after the diagonal step. -/
theorem first_dk1 : (runFirst.sl.v301 c i arg2 harg2 arg3 harg3 arg4 harg4 arg5 harg5 arg6 harg6 x2 x3 x4 x5 x6) = dkAt (keysOf x2) (valsOf x2) x3 x4 x5 x6 (qb i) 1 1 := by
  have e3 : tile (qb i) 1 x3 = _ := (tile_read arg3 harg3 x3 (qb i) 1 (k0_off2 i) (k0_off2_inb i) (off2_eq i) shapeCasts_S256x128_S256x128).symm
  have e4 : tile (qb i) 1 x4 = _ := (tile_read arg4 harg4 x4 (qb i) 1 (k0_off2 i) (k0_off2_inb i) (off2_eq i) shapeCasts_S256x128_S256x128).symm
  have e5 : rowOf 1 (qb i) x5 = _ := (row_read arg5 harg5 x5 (qb i) 1 (k0_off10 i) (k0_off10_inb i) (off10_eq i)).symm
  have e6 : rowOf 1 (qb i) x6 = _ := (row_read arg6 harg6 x6 (qb i) 1 (k0_off10 i) (k0_off10_inb i) (off10_eq i)).symm
  rw [dkAt_one, ← first_k1 c arg2 harg2 x2, ← first_v1 c arg2 harg2 x2, e3, e4, e5, e6]
  rfl
set_option maxHeartbeats 1000000 in
/-- Head 1's value accumulator after the diagonal step. -/
theorem first_dv1 : (runFirst.sl.v299 c i arg2 harg2 arg3 harg3 arg4 harg4 arg5 harg5 x2 x3 x4 x5) = dvAt (keysOf x2) x3 x4 x5 (qb i) 1 1 := by
  have e3 : tile (qb i) 1 x3 = _ := (tile_read arg3 harg3 x3 (qb i) 1 (k0_off2 i) (k0_off2_inb i) (off2_eq i) shapeCasts_S256x128_S256x128).symm
  have e4 : tile (qb i) 1 x4 = _ := (tile_read arg4 harg4 x4 (qb i) 1 (k0_off2 i) (k0_off2_inb i) (off2_eq i) shapeCasts_S256x128_S256x128).symm
  have e5 : rowOf 1 (qb i) x5 = _ := (row_read arg5 harg5 x5 (qb i) 1 (k0_off10 i) (k0_off10_inb i) (off10_eq i)).symm
  rw [dvAt_one, ← first_k1 c arg2 harg2 x2, e3, e4, e5]
  rfl

set_option maxHeartbeats 1000000 in
/-- Head 2's key accumulator after the diagonal step. -/
theorem first_dk2 : (runFirst.sl.v313 c i arg2 harg2 arg3 harg3 arg4 harg4 arg5 harg5 arg6 harg6 x2 x3 x4 x5 x6) = dkAt (keysOf x2) (valsOf x2) x3 x4 x5 x6 (qb i) 1 2 := by
  have e3 : tile (qb i) 2 x3 = _ := (tile_read arg3 harg3 x3 (qb i) 2 (k0_off3 i) (k0_off3_inb i) (off3_eq i) shapeCasts_S256x128_S256x128).symm
  have e4 : tile (qb i) 2 x4 = _ := (tile_read arg4 harg4 x4 (qb i) 2 (k0_off3 i) (k0_off3_inb i) (off3_eq i) shapeCasts_S256x128_S256x128).symm
  have e5 : rowOf 2 (qb i) x5 = _ := (row_read arg5 harg5 x5 (qb i) 2 (k0_off11 i) (k0_off11_inb i) (off11_eq i)).symm
  have e6 : rowOf 2 (qb i) x6 = _ := (row_read arg6 harg6 x6 (qb i) 2 (k0_off11 i) (k0_off11_inb i) (off11_eq i)).symm
  rw [dkAt_one, ← first_k2 c arg2 harg2 x2, ← first_v2 c arg2 harg2 x2, e3, e4, e5, e6]
  rfl
set_option maxHeartbeats 1000000 in
/-- Head 2's value accumulator after the diagonal step. -/
theorem first_dv2 : (runFirst.sl.v311 c i arg2 harg2 arg3 harg3 arg4 harg4 arg5 harg5 x2 x3 x4 x5) = dvAt (keysOf x2) x3 x4 x5 (qb i) 1 2 := by
  have e3 : tile (qb i) 2 x3 = _ := (tile_read arg3 harg3 x3 (qb i) 2 (k0_off3 i) (k0_off3_inb i) (off3_eq i) shapeCasts_S256x128_S256x128).symm
  have e4 : tile (qb i) 2 x4 = _ := (tile_read arg4 harg4 x4 (qb i) 2 (k0_off3 i) (k0_off3_inb i) (off3_eq i) shapeCasts_S256x128_S256x128).symm
  have e5 : rowOf 2 (qb i) x5 = _ := (row_read arg5 harg5 x5 (qb i) 2 (k0_off11 i) (k0_off11_inb i) (off11_eq i)).symm
  rw [dvAt_one, ← first_k2 c arg2 harg2 x2, e3, e4, e5]
  rfl

set_option maxHeartbeats 1000000 in
/-- Head 3's key accumulator after the diagonal step. -/
theorem first_dk3 : (runFirst.sl.v325 c i arg2 harg2 arg3 harg3 arg4 harg4 arg5 harg5 arg6 harg6 x2 x3 x4 x5 x6) = dkAt (keysOf x2) (valsOf x2) x3 x4 x5 x6 (qb i) 1 3 := by
  have e3 : tile (qb i) 3 x3 = _ := (tile_read arg3 harg3 x3 (qb i) 3 (k0_off4 i) (k0_off4_inb i) (off4_eq i) shapeCasts_S256x128_S256x128).symm
  have e4 : tile (qb i) 3 x4 = _ := (tile_read arg4 harg4 x4 (qb i) 3 (k0_off4 i) (k0_off4_inb i) (off4_eq i) shapeCasts_S256x128_S256x128).symm
  have e5 : rowOf 3 (qb i) x5 = _ := (row_read arg5 harg5 x5 (qb i) 3 (k0_off12 i) (k0_off12_inb i) (off12_eq i)).symm
  have e6 : rowOf 3 (qb i) x6 = _ := (row_read arg6 harg6 x6 (qb i) 3 (k0_off12 i) (k0_off12_inb i) (off12_eq i)).symm
  rw [dkAt_one, ← first_k3 c arg2 harg2 x2, ← first_v3 c arg2 harg2 x2, e3, e4, e5, e6]
  rfl
set_option maxHeartbeats 1000000 in
/-- Head 3's value accumulator after the diagonal step. -/
theorem first_dv3 : (runFirst.sl.v323 c i arg2 harg2 arg3 harg3 arg4 harg4 arg5 harg5 x2 x3 x4 x5) = dvAt (keysOf x2) x3 x4 x5 (qb i) 1 3 := by
  have e3 : tile (qb i) 3 x3 = _ := (tile_read arg3 harg3 x3 (qb i) 3 (k0_off4 i) (k0_off4_inb i) (off4_eq i) shapeCasts_S256x128_S256x128).symm
  have e4 : tile (qb i) 3 x4 = _ := (tile_read arg4 harg4 x4 (qb i) 3 (k0_off4 i) (k0_off4_inb i) (off4_eq i) shapeCasts_S256x128_S256x128).symm
  have e5 : rowOf 3 (qb i) x5 = _ := (row_read arg5 harg5 x5 (qb i) 3 (k0_off12 i) (k0_off12_inb i) (off12_eq i)).symm
  rw [dvAt_one, ← first_k3 c arg2 harg2 x2, e3, e4, e5]
  rfl

set_option maxHeartbeats 1000000 in
/-- Head 4's key accumulator after the diagonal step. -/
theorem first_dk4 : (runFirst.sl.v337 c i arg2 harg2 arg3 harg3 arg4 harg4 arg5 harg5 arg6 harg6 x2 x3 x4 x5 x6) = dkAt (keysOf x2) (valsOf x2) x3 x4 x5 x6 (qb i) 1 4 := by
  have e3 : tile (qb i) 4 x3 = _ := (tile_read arg3 harg3 x3 (qb i) 4 (k0_off5 i) (k0_off5_inb i) (off5_eq i) shapeCasts_S256x128_S256x128).symm
  have e4 : tile (qb i) 4 x4 = _ := (tile_read arg4 harg4 x4 (qb i) 4 (k0_off5 i) (k0_off5_inb i) (off5_eq i) shapeCasts_S256x128_S256x128).symm
  have e5 : rowOf 4 (qb i) x5 = _ := (row_read arg5 harg5 x5 (qb i) 4 (k0_off13 i) (k0_off13_inb i) (off13_eq i)).symm
  have e6 : rowOf 4 (qb i) x6 = _ := (row_read arg6 harg6 x6 (qb i) 4 (k0_off13 i) (k0_off13_inb i) (off13_eq i)).symm
  rw [dkAt_one, ← first_k4 c arg2 harg2 x2, ← first_v4 c arg2 harg2 x2, e3, e4, e5, e6]
  rfl
set_option maxHeartbeats 1000000 in
/-- Head 4's value accumulator after the diagonal step. -/
theorem first_dv4 : (runFirst.sl.v335 c i arg2 harg2 arg3 harg3 arg4 harg4 arg5 harg5 x2 x3 x4 x5) = dvAt (keysOf x2) x3 x4 x5 (qb i) 1 4 := by
  have e3 : tile (qb i) 4 x3 = _ := (tile_read arg3 harg3 x3 (qb i) 4 (k0_off5 i) (k0_off5_inb i) (off5_eq i) shapeCasts_S256x128_S256x128).symm
  have e4 : tile (qb i) 4 x4 = _ := (tile_read arg4 harg4 x4 (qb i) 4 (k0_off5 i) (k0_off5_inb i) (off5_eq i) shapeCasts_S256x128_S256x128).symm
  have e5 : rowOf 4 (qb i) x5 = _ := (row_read arg5 harg5 x5 (qb i) 4 (k0_off13 i) (k0_off13_inb i) (off13_eq i)).symm
  rw [dvAt_one, ← first_k4 c arg2 harg2 x2, e3, e4, e5]
  rfl

set_option maxHeartbeats 1000000 in
/-- Head 5's key accumulator after the diagonal step. -/
theorem first_dk5 : (runFirst.sl.v349 c i arg2 harg2 arg3 harg3 arg4 harg4 arg5 harg5 arg6 harg6 x2 x3 x4 x5 x6) = dkAt (keysOf x2) (valsOf x2) x3 x4 x5 x6 (qb i) 1 5 := by
  have e3 : tile (qb i) 5 x3 = _ := (tile_read arg3 harg3 x3 (qb i) 5 (k0_off6 i) (k0_off6_inb i) (off6_eq i) shapeCasts_S256x128_S256x128).symm
  have e4 : tile (qb i) 5 x4 = _ := (tile_read arg4 harg4 x4 (qb i) 5 (k0_off6 i) (k0_off6_inb i) (off6_eq i) shapeCasts_S256x128_S256x128).symm
  have e5 : rowOf 5 (qb i) x5 = _ := (row_read arg5 harg5 x5 (qb i) 5 (k0_off14 i) (k0_off14_inb i) (off14_eq i)).symm
  have e6 : rowOf 5 (qb i) x6 = _ := (row_read arg6 harg6 x6 (qb i) 5 (k0_off14 i) (k0_off14_inb i) (off14_eq i)).symm
  rw [dkAt_one, ← first_k5 c arg2 harg2 x2, ← first_v5 c arg2 harg2 x2, e3, e4, e5, e6]
  rfl
set_option maxHeartbeats 1000000 in
/-- Head 5's value accumulator after the diagonal step. -/
theorem first_dv5 : (runFirst.sl.v347 c i arg2 harg2 arg3 harg3 arg4 harg4 arg5 harg5 x2 x3 x4 x5) = dvAt (keysOf x2) x3 x4 x5 (qb i) 1 5 := by
  have e3 : tile (qb i) 5 x3 = _ := (tile_read arg3 harg3 x3 (qb i) 5 (k0_off6 i) (k0_off6_inb i) (off6_eq i) shapeCasts_S256x128_S256x128).symm
  have e4 : tile (qb i) 5 x4 = _ := (tile_read arg4 harg4 x4 (qb i) 5 (k0_off6 i) (k0_off6_inb i) (off6_eq i) shapeCasts_S256x128_S256x128).symm
  have e5 : rowOf 5 (qb i) x5 = _ := (row_read arg5 harg5 x5 (qb i) 5 (k0_off14 i) (k0_off14_inb i) (off14_eq i)).symm
  rw [dvAt_one, ← first_k5 c arg2 harg2 x2, e3, e4, e5]
  rfl

set_option maxHeartbeats 1000000 in
/-- Head 6's key accumulator after the diagonal step. -/
theorem first_dk6 : (k0_pay243 runFirst.sl.v35 (runFirst.sl.v58 c i arg3 harg3 x3) (runFirst.sl.r_17 c i arg2 harg2 arg3 harg3 arg4 harg4 arg5 harg5 arg6 harg6 x2 x3 x4 x5 x6)) = dkAt (keysOf x2) (valsOf x2) x3 x4 x5 x6 (qb i) 1 6 := by
  have e3 : tile (qb i) 6 x3 = _ := (tile_read arg3 harg3 x3 (qb i) 6 (k0_off7 i) (k0_off7_inb i) (off7_eq i) shapeCasts_S256x128_S256x128).symm
  have e4 : tile (qb i) 6 x4 = _ := (tile_read arg4 harg4 x4 (qb i) 6 (k0_off7 i) (k0_off7_inb i) (off7_eq i) shapeCasts_S256x128_S256x128).symm
  have e5 : rowOf 6 (qb i) x5 = _ := (row_read arg5 harg5 x5 (qb i) 6 (k0_off15 i) (k0_off15_inb i) (off15_eq i)).symm
  have e6 : rowOf 6 (qb i) x6 = _ := (row_read arg6 harg6 x6 (qb i) 6 (k0_off15 i) (k0_off15_inb i) (off15_eq i)).symm
  rw [dkAt_one, ← first_k6 c arg2 harg2 x2, ← first_v6 c arg2 harg2 x2, e3, e4, e5, e6]
  rfl
set_option maxHeartbeats 1000000 in
/-- Head 6's value accumulator after the diagonal step. -/
theorem first_dv6 : (runFirst.sl.v359 c i arg2 harg2 arg3 harg3 arg4 harg4 arg5 harg5 x2 x3 x4 x5) = dvAt (keysOf x2) x3 x4 x5 (qb i) 1 6 := by
  have e3 : tile (qb i) 6 x3 = _ := (tile_read arg3 harg3 x3 (qb i) 6 (k0_off7 i) (k0_off7_inb i) (off7_eq i) shapeCasts_S256x128_S256x128).symm
  have e4 : tile (qb i) 6 x4 = _ := (tile_read arg4 harg4 x4 (qb i) 6 (k0_off7 i) (k0_off7_inb i) (off7_eq i) shapeCasts_S256x128_S256x128).symm
  have e5 : rowOf 6 (qb i) x5 = _ := (row_read arg5 harg5 x5 (qb i) 6 (k0_off15 i) (k0_off15_inb i) (off15_eq i)).symm
  rw [dvAt_one, ← first_k6 c arg2 harg2 x2, e3, e4, e5]
  rfl

set_option maxHeartbeats 1000000 in
/-- Head 7's key accumulator after the diagonal step. -/
theorem first_dk7 : (k0_pay246 runFirst.sl.v35 (runFirst.sl.v61 c i arg3 harg3 x3) (runFirst.sl.v285 c i arg2 harg2 arg3 harg3 arg4 harg4 arg5 harg5 arg6 harg6 x2 x3 x4 x5 x6)) = dkAt (keysOf x2) (valsOf x2) x3 x4 x5 x6 (qb i) 1 7 := by
  have e3 : tile (qb i) 7 x3 = _ := (tile_read arg3 harg3 x3 (qb i) 7 (k0_off8 i) (k0_off8_inb i) (off8_eq i) shapeCasts_S256x128_S256x128).symm
  have e4 : tile (qb i) 7 x4 = _ := (tile_read arg4 harg4 x4 (qb i) 7 (k0_off8 i) (k0_off8_inb i) (off8_eq i) shapeCasts_S256x128_S256x128).symm
  have e5 : rowOf 7 (qb i) x5 = _ := (row_read arg5 harg5 x5 (qb i) 7 (k0_off16 i) (k0_off16_inb i) (off16_eq i)).symm
  have e6 : rowOf 7 (qb i) x6 = _ := (row_read arg6 harg6 x6 (qb i) 7 (k0_off16 i) (k0_off16_inb i) (off16_eq i)).symm
  rw [dkAt_one, ← first_k7 c arg2 harg2 x2, ← first_v7 c arg2 harg2 x2, e3, e4, e5, e6]
  rfl
set_option maxHeartbeats 1000000 in
/-- Head 7's value accumulator after the diagonal step. -/
theorem first_dv7 : (k0_pay245 runFirst.sl.v35 (runFirst.sl.v85 c i arg4 harg4 x4) (runFirst.sl.r_19 c i arg2 harg2 arg3 harg3 arg5 harg5 x2 x3 x5)) = dvAt (keysOf x2) x3 x4 x5 (qb i) 1 7 := by
  have e3 : tile (qb i) 7 x3 = _ := (tile_read arg3 harg3 x3 (qb i) 7 (k0_off8 i) (k0_off8_inb i) (off8_eq i) shapeCasts_S256x128_S256x128).symm
  have e4 : tile (qb i) 7 x4 = _ := (tile_read arg4 harg4 x4 (qb i) 7 (k0_off8 i) (k0_off8_inb i) (off8_eq i) shapeCasts_S256x128_S256x128).symm
  have e5 : rowOf 7 (qb i) x5 = _ := (row_read arg5 harg5 x5 (qb i) 7 (k0_off16 i) (k0_off16_inb i) (off16_eq i)).symm
  rw [dvAt_one, ← first_k7 c arg2 harg2 x2, e3, e4, e5]
  rfl

/-- What the loop is given. -/
theorem first_init : ((runFirst.sl.v289 c i arg2 harg2 arg3 harg3 arg4 harg4 arg5 harg5 arg6 harg6 x2 x3 x4 x5 x6), (runFirst.sl.v287 c i arg2 harg2 arg3 harg3 arg4 harg4 arg5 harg5 x2 x3 x4 x5), (runFirst.sl.v301 c i arg2 harg2 arg3 harg3 arg4 harg4 arg5 harg5 arg6 harg6 x2 x3 x4 x5 x6), (runFirst.sl.v299 c i arg2 harg2 arg3 harg3 arg4 harg4 arg5 harg5 x2 x3 x4 x5), (runFirst.sl.v313 c i arg2 harg2 arg3 harg3 arg4 harg4 arg5 harg5 arg6 harg6 x2 x3 x4 x5 x6), (runFirst.sl.v311 c i arg2 harg2 arg3 harg3 arg4 harg4 arg5 harg5 x2 x3 x4 x5), (runFirst.sl.v325 c i arg2 harg2 arg3 harg3 arg4 harg4 arg5 harg5 arg6 harg6 x2 x3 x4 x5 x6), (runFirst.sl.v323 c i arg2 harg2 arg3 harg3 arg4 harg4 arg5 harg5 x2 x3 x4 x5), (runFirst.sl.v337 c i arg2 harg2 arg3 harg3 arg4 harg4 arg5 harg5 arg6 harg6 x2 x3 x4 x5 x6), (runFirst.sl.v335 c i arg2 harg2 arg3 harg3 arg4 harg4 arg5 harg5 x2 x3 x4 x5), (runFirst.sl.v349 c i arg2 harg2 arg3 harg3 arg4 harg4 arg5 harg5 arg6 harg6 x2 x3 x4 x5 x6), (runFirst.sl.v347 c i arg2 harg2 arg3 harg3 arg4 harg4 arg5 harg5 x2 x3 x4 x5), (k0_pay243 runFirst.sl.v35 (runFirst.sl.v58 c i arg3 harg3 x3) (runFirst.sl.r_17 c i arg2 harg2 arg3 harg3 arg4 harg4 arg5 harg5 arg6 harg6 x2 x3 x4 x5 x6)), (runFirst.sl.v359 c i arg2 harg2 arg3 harg3 arg4 harg4 arg5 harg5 x2 x3 x4 x5), (k0_pay246 runFirst.sl.v35 (runFirst.sl.v61 c i arg3 harg3 x3) (runFirst.sl.v285 c i arg2 harg2 arg3 harg3 arg4 harg4 arg5 harg5 arg6 harg6 x2 x3 x4 x5 x6)), (k0_pay245 runFirst.sl.v35 (runFirst.sl.v85 c i arg4 harg4 x4) (runFirst.sl.r_19 c i arg2 harg2 arg3 harg3 arg5 harg5 x2 x3 x5))) = carryOf (dkAt (keysOf x2) (valsOf x2) x3 x4 x5 x6 (qb i) 1) (dvAt (keysOf x2) x3 x4 x5 (qb i) 1) := by
  unfold carryOf
  rw [first_dk0, first_dv0, first_dk1, first_dv1, first_dk2, first_dv2, first_dk3, first_dv3, first_dk4, first_dv4, first_dk5, first_dv5, first_dk6, first_dv6, first_dk7, first_dv7]

set_option maxHeartbeats 1000000 in
/-- Head 0's stored tile of the queries' accumulator. -/
theorem first_pay0 : (runFirst.sl.v297 c i arg2 harg2 arg3 harg3 arg4 harg4 arg5 harg5 arg6 harg6 arg12 x2 x3 x4 x5 x6) = accumT (tile (qb i) 0 (arg12.view.read (Elt F) (arg12.view.writes (Elt F) arg12.view.junk runFirst.sl.H12_1))) (dsOf true (keysOf x2 0) (valsOf x2 0) (tile (qb i) 0 x3) (tile (qb i) 0 x4) (rowOf 0 (qb i) x5) (rowOf 0 (qb i) x6)) (keysOf x2 0) := by
  have e3 : tile (qb i) 0 x3 = _ := (tile_read arg3 harg3 x3 (qb i) 0 (k0_off1 i) (k0_off1_inb i) (off1_eq i) shapeCasts_S256x128_S256x128).symm
  have e4 : tile (qb i) 0 x4 = _ := (tile_read arg4 harg4 x4 (qb i) 0 (k0_off1 i) (k0_off1_inb i) (off1_eq i) shapeCasts_S256x128_S256x128).symm
  have e5 : rowOf 0 (qb i) x5 = _ := (row_read arg5 harg5 x5 (qb i) 0 (k0_off9 i) (k0_off9_inb i) (off9_eq i)).symm
  have e6 : rowOf 0 (qb i) x6 = _ := (row_read arg6 harg6 x6 (qb i) 0 (k0_off9 i) (k0_off9_inb i) (off9_eq i)).symm
  rw [← first_k0 c arg2 harg2 x2, ← first_v0 c arg2 harg2 x2, e3, e4, e5, e6, ← tile_readAt arg12 _ (qb i) 0 (k0_off1 i) (k0_off1_inb i) (off1_eq i)]
  exact shapeCast_self (s := S256x128) _ shapeCasts_S256x128_S256x128

set_option maxHeartbeats 1000000 in
/-- Head 1's stored tile of the queries' accumulator. -/
theorem first_pay1 : (runFirst.sl.v309 c i arg2 harg2 arg3 harg3 arg4 harg4 arg5 harg5 arg6 harg6 arg12 x2 x3 x4 x5 x6) = accumT (tile (qb i) 1 (arg12.view.read (Elt F) (arg12.view.writes (Elt F) arg12.view.junk (runFirst.sl.H12_2 c i arg2 harg2 arg3 harg3 arg4 harg4 arg5 harg5 arg6 harg6 arg12 x2 x3 x4 x5 x6)))) (dsOf true (keysOf x2 1) (valsOf x2 1) (tile (qb i) 1 x3) (tile (qb i) 1 x4) (rowOf 1 (qb i) x5) (rowOf 1 (qb i) x6)) (keysOf x2 1) := by
  have e3 : tile (qb i) 1 x3 = _ := (tile_read arg3 harg3 x3 (qb i) 1 (k0_off2 i) (k0_off2_inb i) (off2_eq i) shapeCasts_S256x128_S256x128).symm
  have e4 : tile (qb i) 1 x4 = _ := (tile_read arg4 harg4 x4 (qb i) 1 (k0_off2 i) (k0_off2_inb i) (off2_eq i) shapeCasts_S256x128_S256x128).symm
  have e5 : rowOf 1 (qb i) x5 = _ := (row_read arg5 harg5 x5 (qb i) 1 (k0_off10 i) (k0_off10_inb i) (off10_eq i)).symm
  have e6 : rowOf 1 (qb i) x6 = _ := (row_read arg6 harg6 x6 (qb i) 1 (k0_off10 i) (k0_off10_inb i) (off10_eq i)).symm
  rw [← first_k1 c arg2 harg2 x2, ← first_v1 c arg2 harg2 x2, e3, e4, e5, e6, ← tile_readAt arg12 _ (qb i) 1 (k0_off2 i) (k0_off2_inb i) (off2_eq i)]
  exact shapeCast_self (s := S256x128) _ shapeCasts_S256x128_S256x128

set_option maxHeartbeats 1000000 in
/-- Head 2's stored tile of the queries' accumulator. -/
theorem first_pay2 : (runFirst.sl.v321 c i arg2 harg2 arg3 harg3 arg4 harg4 arg5 harg5 arg6 harg6 arg12 x2 x3 x4 x5 x6) = accumT (tile (qb i) 2 (arg12.view.read (Elt F) (arg12.view.writes (Elt F) arg12.view.junk (runFirst.sl.H12_3 c i arg2 harg2 arg3 harg3 arg4 harg4 arg5 harg5 arg6 harg6 arg12 x2 x3 x4 x5 x6)))) (dsOf true (keysOf x2 2) (valsOf x2 2) (tile (qb i) 2 x3) (tile (qb i) 2 x4) (rowOf 2 (qb i) x5) (rowOf 2 (qb i) x6)) (keysOf x2 2) := by
  have e3 : tile (qb i) 2 x3 = _ := (tile_read arg3 harg3 x3 (qb i) 2 (k0_off3 i) (k0_off3_inb i) (off3_eq i) shapeCasts_S256x128_S256x128).symm
  have e4 : tile (qb i) 2 x4 = _ := (tile_read arg4 harg4 x4 (qb i) 2 (k0_off3 i) (k0_off3_inb i) (off3_eq i) shapeCasts_S256x128_S256x128).symm
  have e5 : rowOf 2 (qb i) x5 = _ := (row_read arg5 harg5 x5 (qb i) 2 (k0_off11 i) (k0_off11_inb i) (off11_eq i)).symm
  have e6 : rowOf 2 (qb i) x6 = _ := (row_read arg6 harg6 x6 (qb i) 2 (k0_off11 i) (k0_off11_inb i) (off11_eq i)).symm
  rw [← first_k2 c arg2 harg2 x2, ← first_v2 c arg2 harg2 x2, e3, e4, e5, e6, ← tile_readAt arg12 _ (qb i) 2 (k0_off3 i) (k0_off3_inb i) (off3_eq i)]
  exact shapeCast_self (s := S256x128) _ shapeCasts_S256x128_S256x128

set_option maxHeartbeats 1000000 in
/-- Head 3's stored tile of the queries' accumulator. -/
theorem first_pay3 : (runFirst.sl.v333 c i arg2 harg2 arg3 harg3 arg4 harg4 arg5 harg5 arg6 harg6 arg12 x2 x3 x4 x5 x6) = accumT (tile (qb i) 3 (arg12.view.read (Elt F) (arg12.view.writes (Elt F) arg12.view.junk (runFirst.sl.H12_4 c i arg2 harg2 arg3 harg3 arg4 harg4 arg5 harg5 arg6 harg6 arg12 x2 x3 x4 x5 x6)))) (dsOf true (keysOf x2 3) (valsOf x2 3) (tile (qb i) 3 x3) (tile (qb i) 3 x4) (rowOf 3 (qb i) x5) (rowOf 3 (qb i) x6)) (keysOf x2 3) := by
  have e3 : tile (qb i) 3 x3 = _ := (tile_read arg3 harg3 x3 (qb i) 3 (k0_off4 i) (k0_off4_inb i) (off4_eq i) shapeCasts_S256x128_S256x128).symm
  have e4 : tile (qb i) 3 x4 = _ := (tile_read arg4 harg4 x4 (qb i) 3 (k0_off4 i) (k0_off4_inb i) (off4_eq i) shapeCasts_S256x128_S256x128).symm
  have e5 : rowOf 3 (qb i) x5 = _ := (row_read arg5 harg5 x5 (qb i) 3 (k0_off12 i) (k0_off12_inb i) (off12_eq i)).symm
  have e6 : rowOf 3 (qb i) x6 = _ := (row_read arg6 harg6 x6 (qb i) 3 (k0_off12 i) (k0_off12_inb i) (off12_eq i)).symm
  rw [← first_k3 c arg2 harg2 x2, ← first_v3 c arg2 harg2 x2, e3, e4, e5, e6, ← tile_readAt arg12 _ (qb i) 3 (k0_off4 i) (k0_off4_inb i) (off4_eq i)]
  exact shapeCast_self (s := S256x128) _ shapeCasts_S256x128_S256x128

set_option maxHeartbeats 1000000 in
/-- Head 4's stored tile of the queries' accumulator. -/
theorem first_pay4 : (runFirst.sl.v345 c i arg2 harg2 arg3 harg3 arg4 harg4 arg5 harg5 arg6 harg6 arg12 x2 x3 x4 x5 x6) = accumT (tile (qb i) 4 (arg12.view.read (Elt F) (arg12.view.writes (Elt F) arg12.view.junk (runFirst.sl.H12_5 c i arg2 harg2 arg3 harg3 arg4 harg4 arg5 harg5 arg6 harg6 arg12 x2 x3 x4 x5 x6)))) (dsOf true (keysOf x2 4) (valsOf x2 4) (tile (qb i) 4 x3) (tile (qb i) 4 x4) (rowOf 4 (qb i) x5) (rowOf 4 (qb i) x6)) (keysOf x2 4) := by
  have e3 : tile (qb i) 4 x3 = _ := (tile_read arg3 harg3 x3 (qb i) 4 (k0_off5 i) (k0_off5_inb i) (off5_eq i) shapeCasts_S256x128_S256x128).symm
  have e4 : tile (qb i) 4 x4 = _ := (tile_read arg4 harg4 x4 (qb i) 4 (k0_off5 i) (k0_off5_inb i) (off5_eq i) shapeCasts_S256x128_S256x128).symm
  have e5 : rowOf 4 (qb i) x5 = _ := (row_read arg5 harg5 x5 (qb i) 4 (k0_off13 i) (k0_off13_inb i) (off13_eq i)).symm
  have e6 : rowOf 4 (qb i) x6 = _ := (row_read arg6 harg6 x6 (qb i) 4 (k0_off13 i) (k0_off13_inb i) (off13_eq i)).symm
  rw [← first_k4 c arg2 harg2 x2, ← first_v4 c arg2 harg2 x2, e3, e4, e5, e6, ← tile_readAt arg12 _ (qb i) 4 (k0_off5 i) (k0_off5_inb i) (off5_eq i)]
  exact shapeCast_self (s := S256x128) _ shapeCasts_S256x128_S256x128

set_option maxHeartbeats 1000000 in
/-- Head 5's stored tile of the queries' accumulator. -/
theorem first_pay5 : (runFirst.sl.v357 c i arg2 harg2 arg3 harg3 arg4 harg4 arg5 harg5 arg6 harg6 arg12 x2 x3 x4 x5 x6) = accumT (tile (qb i) 5 (arg12.view.read (Elt F) (arg12.view.writes (Elt F) arg12.view.junk (runFirst.sl.H12_6 c i arg2 harg2 arg3 harg3 arg4 harg4 arg5 harg5 arg6 harg6 arg12 x2 x3 x4 x5 x6)))) (dsOf true (keysOf x2 5) (valsOf x2 5) (tile (qb i) 5 x3) (tile (qb i) 5 x4) (rowOf 5 (qb i) x5) (rowOf 5 (qb i) x6)) (keysOf x2 5) := by
  have e3 : tile (qb i) 5 x3 = _ := (tile_read arg3 harg3 x3 (qb i) 5 (k0_off6 i) (k0_off6_inb i) (off6_eq i) shapeCasts_S256x128_S256x128).symm
  have e4 : tile (qb i) 5 x4 = _ := (tile_read arg4 harg4 x4 (qb i) 5 (k0_off6 i) (k0_off6_inb i) (off6_eq i) shapeCasts_S256x128_S256x128).symm
  have e5 : rowOf 5 (qb i) x5 = _ := (row_read arg5 harg5 x5 (qb i) 5 (k0_off14 i) (k0_off14_inb i) (off14_eq i)).symm
  have e6 : rowOf 5 (qb i) x6 = _ := (row_read arg6 harg6 x6 (qb i) 5 (k0_off14 i) (k0_off14_inb i) (off14_eq i)).symm
  rw [← first_k5 c arg2 harg2 x2, ← first_v5 c arg2 harg2 x2, e3, e4, e5, e6, ← tile_readAt arg12 _ (qb i) 5 (k0_off6 i) (k0_off6_inb i) (off6_eq i)]
  exact shapeCast_self (s := S256x128) _ shapeCasts_S256x128_S256x128

set_option maxHeartbeats 1000000 in
/-- Head 6's stored tile of the queries' accumulator. -/
theorem first_pay6 : (k0_pay244 (runFirst.sl.v16 c arg2 harg2 x2) (runFirst.sl.r_17 c i arg2 harg2 arg3 harg3 arg4 harg4 arg5 harg5 arg6 harg6 x2 x3 x4 x5 x6) (runFirst.sl.v363 c i arg2 harg2 arg3 harg3 arg4 harg4 arg5 harg5 arg6 harg6 arg12 x2 x3 x4 x5 x6)) = accumT (tile (qb i) 6 (arg12.view.read (Elt F) (arg12.view.writes (Elt F) arg12.view.junk (runFirst.sl.H12_7 c i arg2 harg2 arg3 harg3 arg4 harg4 arg5 harg5 arg6 harg6 arg12 x2 x3 x4 x5 x6)))) (dsOf true (keysOf x2 6) (valsOf x2 6) (tile (qb i) 6 x3) (tile (qb i) 6 x4) (rowOf 6 (qb i) x5) (rowOf 6 (qb i) x6)) (keysOf x2 6) := by
  have e3 : tile (qb i) 6 x3 = _ := (tile_read arg3 harg3 x3 (qb i) 6 (k0_off7 i) (k0_off7_inb i) (off7_eq i) shapeCasts_S256x128_S256x128).symm
  have e4 : tile (qb i) 6 x4 = _ := (tile_read arg4 harg4 x4 (qb i) 6 (k0_off7 i) (k0_off7_inb i) (off7_eq i) shapeCasts_S256x128_S256x128).symm
  have e5 : rowOf 6 (qb i) x5 = _ := (row_read arg5 harg5 x5 (qb i) 6 (k0_off15 i) (k0_off15_inb i) (off15_eq i)).symm
  have e6 : rowOf 6 (qb i) x6 = _ := (row_read arg6 harg6 x6 (qb i) 6 (k0_off15 i) (k0_off15_inb i) (off15_eq i)).symm
  rw [← first_k6 c arg2 harg2 x2, ← first_v6 c arg2 harg2 x2, e3, e4, e5, e6, ← tile_readAt arg12 _ (qb i) 6 (k0_off7 i) (k0_off7_inb i) (off7_eq i)]
  exact shapeCast_self (s := S256x128) _ shapeCasts_S256x128_S256x128

set_option maxHeartbeats 1000000 in
/-- Head 7's stored tile of the queries' accumulator. -/
theorem first_pay7 : (k0_pay247 (runFirst.sl.v18 c arg2 harg2 x2) (runFirst.sl.v285 c i arg2 harg2 arg3 harg3 arg4 harg4 arg5 harg5 arg6 harg6 x2 x3 x4 x5 x6) (runFirst.sl.v375 c i arg2 harg2 arg3 harg3 arg4 harg4 arg5 harg5 arg6 harg6 arg12 x2 x3 x4 x5 x6)) = accumT (tile (qb i) 7 (arg12.view.read (Elt F) (arg12.view.writes (Elt F) arg12.view.junk (runFirst.sl.H12_8 c i arg2 harg2 arg3 harg3 arg4 harg4 arg5 harg5 arg6 harg6 arg12 x2 x3 x4 x5 x6)))) (dsOf true (keysOf x2 7) (valsOf x2 7) (tile (qb i) 7 x3) (tile (qb i) 7 x4) (rowOf 7 (qb i) x5) (rowOf 7 (qb i) x6)) (keysOf x2 7) := by
  have e3 : tile (qb i) 7 x3 = _ := (tile_read arg3 harg3 x3 (qb i) 7 (k0_off8 i) (k0_off8_inb i) (off8_eq i) shapeCasts_S256x128_S256x128).symm
  have e4 : tile (qb i) 7 x4 = _ := (tile_read arg4 harg4 x4 (qb i) 7 (k0_off8 i) (k0_off8_inb i) (off8_eq i) shapeCasts_S256x128_S256x128).symm
  have e5 : rowOf 7 (qb i) x5 = _ := (row_read arg5 harg5 x5 (qb i) 7 (k0_off16 i) (k0_off16_inb i) (off16_eq i)).symm
  have e6 : rowOf 7 (qb i) x6 = _ := (row_read arg6 harg6 x6 (qb i) 7 (k0_off16 i) (k0_off16_inb i) (off16_eq i)).symm
  rw [← first_k7 c arg2 harg2 x2, ← first_v7 c arg2 harg2 x2, e3, e4, e5, e6, ← tile_readAt arg12 _ (qb i) 7 (k0_off8 i) (k0_off8_inb i) (off8_eq i)]
  exact shapeCast_self (s := S256x128) _ shapeCasts_S256x128_S256x128

set_option maxHeartbeats 2000000 in
/-- The queries' accumulator after the diagonal step. -/
theorem first_base : arg12.view.read (Elt F) (arg12.view.writes (Elt F) arg12.view.junk (⟨Rect.unit (s := S4096x1024) (k0_off8 i) S256x128.size (k0_off8_inb i), (k0_pay247 (runFirst.sl.v18 c arg2 harg2 x2) (runFirst.sl.v285 c i arg2 harg2 arg3 harg3 arg4 harg4 arg5 harg5 arg6 harg6 x2 x3 x4 x5 x6) (runFirst.sl.v375 c i arg2 harg2 arg3 harg3 arg4 harg4 arg5 harg5 arg6 harg6 arg12 x2 x3 x4 x5 x6))⟩ :: (runFirst.sl.H12_8 c i arg2 harg2 arg3 harg3 arg4 harg4 arg5 harg5 arg6 harg6 arg12 x2 x3 x4 x5 x6))) = scrAt (keysOf x2) (valsOf x2) x3 x4 x5 x6 (qb i) zeros 1 := by
  rw [scrAt_one]
  refine (scratch_pieces_seq arg12 arg12.view.junk (qb i) (fun h => dsOf true (keysOf x2 h) (valsOf x2 h) (tile (qb i) h x3) (tile (qb i) h x4) (rowOf h (qb i) x5) (rowOf h (qb i) x6)) (keysOf x2) runFirst.sl.H12_1
    (k0_off1 i) (k0_off1_inb i) (off1_eq i) (k0_off2 i) (k0_off2_inb i) (off2_eq i) (k0_off3 i) (k0_off3_inb i) (off3_eq i) (k0_off4 i) (k0_off4_inb i) (off4_eq i) (k0_off5 i) (k0_off5_inb i) (off5_eq i) (k0_off6 i) (k0_off6_inb i) (off6_eq i) (k0_off7 i) (k0_off7_inb i) (off7_eq i) (k0_off8 i) (k0_off8_inb i) (off8_eq i)
    (runFirst.sl.v297 c i arg2 harg2 arg3 harg3 arg4 harg4 arg5 harg5 arg6 harg6 arg12 x2 x3 x4 x5 x6) (runFirst.sl.v309 c i arg2 harg2 arg3 harg3 arg4 harg4 arg5 harg5 arg6 harg6 arg12 x2 x3 x4 x5 x6) (runFirst.sl.v321 c i arg2 harg2 arg3 harg3 arg4 harg4 arg5 harg5 arg6 harg6 arg12 x2 x3 x4 x5 x6) (runFirst.sl.v333 c i arg2 harg2 arg3 harg3 arg4 harg4 arg5 harg5 arg6 harg6 arg12 x2 x3 x4 x5 x6) (runFirst.sl.v345 c i arg2 harg2 arg3 harg3 arg4 harg4 arg5 harg5 arg6 harg6 arg12 x2 x3 x4 x5 x6) (runFirst.sl.v357 c i arg2 harg2 arg3 harg3 arg4 harg4 arg5 harg5 arg6 harg6 arg12 x2 x3 x4 x5 x6) (k0_pay244 (runFirst.sl.v16 c arg2 harg2 x2) (runFirst.sl.r_17 c i arg2 harg2 arg3 harg3 arg4 harg4 arg5 harg5 arg6 harg6 x2 x3 x4 x5 x6) (runFirst.sl.v363 c i arg2 harg2 arg3 harg3 arg4 harg4 arg5 harg5 arg6 harg6 arg12 x2 x3 x4 x5 x6)) (k0_pay247 (runFirst.sl.v18 c arg2 harg2 x2) (runFirst.sl.v285 c i arg2 harg2 arg3 harg3 arg4 harg4 arg5 harg5 arg6 harg6 x2 x3 x4 x5 x6) (runFirst.sl.v375 c i arg2 harg2 arg3 harg3 arg4 harg4 arg5 harg5 arg6 harg6 arg12 x2 x3 x4 x5 x6))
    (first_pay0 ..) (first_pay1 ..) (first_pay2 ..) (first_pay3 ..) (first_pay4 ..) (first_pay5 ..) (first_pay6 ..) (first_pay7 ..)).trans ?_
  rw [first_clear]

end First

end Cert.KernelIdeal.AttnBwd

end
-- ==== Proof.FirstEnd.lean ====
/- What the body of attn_bwd leaves at a first block of keys: after the loops. -/
module

public import proofs.«01_k».proof.Proof.FirstStart

@[expose] public section

set_option maxRecDepth 16384

noncomputable section

namespace Cert.KernelIdeal.AttnBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable {F : FTy → Type} [FloatOps F] [Named F]

section First

variable (c : Dev nD) (i : grid0.Coords) (arg2 : Memref sig .tc .vmem S256x2048 .bf16) (harg2 : arg2.IsWhole) (arg3 : Memref sig .tc .vmem S4096x1024 .bf16) (harg3 : arg3.IsWhole) (arg4 : Memref sig .tc .vmem S4096x1024 .bf16) (harg4 : arg4.IsWhole) (arg5 : Memref sig .tc .vmem S8x16x1x256 .f32) (harg5 : arg5.IsWhole) (arg6 : Memref sig .tc .vmem S8x16x1x256 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x1024 .bf16) (harg10 : arg10.IsWhole) (arg11 : Memref sig .tc .vmem S256x2048 .bf16) (harg11 : arg11.IsWhole) (arg12 : Memref sig .tc .vmem S4096x1024 .f32) (harg12 : arg12.IsWhole) (x2 : Vec F S256x2048 .bf16) (x3 : Vec F S4096x1024 .bf16) (x4 : Vec F S4096x1024 .bf16) (x5 : Vec F S8x16x1x256 .f32) (x6 : Vec F S8x16x1x256 .f32) (x7 : Vec F S256x128 .f32) (x8 : Vec F S256x128 .f32) (x9 : Vec F S256x128 .f32) (d10 : Vec F S256x1024 .bf16) (d11 : Vec F S256x2048 .bf16) (s : Vec F S4096x1024 .f32)

set_option maxHeartbeats 2000000 in
/-- The final accumulator of keys of head 0, scaled. -/
theorem first_fin0 : (runFirst.sl.r_35 c i arg2 harg2 arg3 harg3 arg4 harg4 arg5 harg5 arg6 harg6 arg7 harg7 arg8 harg8 arg9 harg9 arg10 harg10 arg11 harg11 arg12 harg12 x2 x3 x4 x5 x6) = mulf (dkAt (keysOf x2) (valsOf x2) x3 x4 x5 x6 (qb i) (16 - (i 1).val) 0) (broadcast S256x128 (Named.named κ "ln2" 0x3F317218#32 : F .f32)) := by
  unfold runFirst.sl.r_35
  rw [second_none]
  dsimp only
  exact congrArg (fun z => k0_pay262 z.1) (tail_carry (kk := keysOf x2) (vv := valsOf x2) (hinit := (first_init c i arg2 harg2 arg3 harg3 arg4 harg4 arg5 harg5 arg6 harg6 x2 x3 x4 x5 x6)) (hG := (first_base c i arg2 harg2 arg3 harg3 arg4 harg4 arg5 harg5 arg6 harg6 arg12 x2 x3 x4 x5 x6))
    (hk0 := first_k0 c arg2 harg2 x2) (hk1 := first_k1 c arg2 harg2 x2) (hk2 := first_k2 c arg2 harg2 x2) (hk3 := first_k3 c arg2 harg2 x2) (hk4 := first_k4 c arg2 harg2 x2) (hk5 := first_k5 c arg2 harg2 x2) (hk6 := first_k6 c arg2 harg2 x2) (hk7 := first_k7 c arg2 harg2 x2) (hv0 := first_v0 c arg2 harg2 x2) (hv1 := first_v1 c arg2 harg2 x2) (hv2 := first_v2 c arg2 harg2 x2) (hv3 := first_v3 c arg2 harg2 x2) (hv4 := first_v4 c arg2 harg2 x2) (hv5 := first_v5 c arg2 harg2 x2) (hv6 := first_v6 c arg2 harg2 x2) (hv7 := first_v7 c arg2 harg2 x2) ..)

set_option maxHeartbeats 2000000 in
/-- The final accumulator of values of head 0. -/
theorem first_fin1 : (runFirst.sl.r_20 c i arg2 harg2 arg3 harg3 arg4 harg4 arg5 harg5 arg6 harg6 arg7 harg7 arg8 harg8 arg9 harg9 arg10 harg10 arg11 harg11 arg12 harg12 x2 x3 x4 x5 x6) = dvAt (keysOf x2) x3 x4 x5 (qb i) (16 - (i 1).val) 0 := by
  unfold runFirst.sl.r_20
  rw [second_none]
  dsimp only
  exact congrArg (fun z => z.2.1) (tail_carry (kk := keysOf x2) (vv := valsOf x2) (hinit := (first_init c i arg2 harg2 arg3 harg3 arg4 harg4 arg5 harg5 arg6 harg6 x2 x3 x4 x5 x6)) (hG := (first_base c i arg2 harg2 arg3 harg3 arg4 harg4 arg5 harg5 arg6 harg6 arg12 x2 x3 x4 x5 x6))
    (hk0 := first_k0 c arg2 harg2 x2) (hk1 := first_k1 c arg2 harg2 x2) (hk2 := first_k2 c arg2 harg2 x2) (hk3 := first_k3 c arg2 harg2 x2) (hk4 := first_k4 c arg2 harg2 x2) (hk5 := first_k5 c arg2 harg2 x2) (hk6 := first_k6 c arg2 harg2 x2) (hk7 := first_k7 c arg2 harg2 x2) (hv0 := first_v0 c arg2 harg2 x2) (hv1 := first_v1 c arg2 harg2 x2) (hv2 := first_v2 c arg2 harg2 x2) (hv3 := first_v3 c arg2 harg2 x2) (hv4 := first_v4 c arg2 harg2 x2) (hv5 := first_v5 c arg2 harg2 x2) (hv6 := first_v6 c arg2 harg2 x2) (hv7 := first_v7 c arg2 harg2 x2) ..)

set_option maxHeartbeats 2000000 in
/-- The final accumulator of keys of head 1. -/
theorem first_fin2 : (runFirst.sl.r_21 c i arg2 harg2 arg3 harg3 arg4 harg4 arg5 harg5 arg6 harg6 arg7 harg7 arg8 harg8 arg9 harg9 arg10 harg10 arg11 harg11 arg12 harg12 x2 x3 x4 x5 x6) = dkAt (keysOf x2) (valsOf x2) x3 x4 x5 x6 (qb i) (16 - (i 1).val) 1 := by
  unfold runFirst.sl.r_21
  rw [second_none]
  dsimp only
  exact congrArg (fun z => z.2.2.1) (tail_carry (kk := keysOf x2) (vv := valsOf x2) (hinit := (first_init c i arg2 harg2 arg3 harg3 arg4 harg4 arg5 harg5 arg6 harg6 x2 x3 x4 x5 x6)) (hG := (first_base c i arg2 harg2 arg3 harg3 arg4 harg4 arg5 harg5 arg6 harg6 arg12 x2 x3 x4 x5 x6))
    (hk0 := first_k0 c arg2 harg2 x2) (hk1 := first_k1 c arg2 harg2 x2) (hk2 := first_k2 c arg2 harg2 x2) (hk3 := first_k3 c arg2 harg2 x2) (hk4 := first_k4 c arg2 harg2 x2) (hk5 := first_k5 c arg2 harg2 x2) (hk6 := first_k6 c arg2 harg2 x2) (hk7 := first_k7 c arg2 harg2 x2) (hv0 := first_v0 c arg2 harg2 x2) (hv1 := first_v1 c arg2 harg2 x2) (hv2 := first_v2 c arg2 harg2 x2) (hv3 := first_v3 c arg2 harg2 x2) (hv4 := first_v4 c arg2 harg2 x2) (hv5 := first_v5 c arg2 harg2 x2) (hv6 := first_v6 c arg2 harg2 x2) (hv7 := first_v7 c arg2 harg2 x2) ..)

set_option maxHeartbeats 2000000 in
/-- The final accumulator of values of head 1. -/
theorem first_fin3 : (runFirst.sl.r_22 c i arg2 harg2 arg3 harg3 arg4 harg4 arg5 harg5 arg6 harg6 arg7 harg7 arg8 harg8 arg9 harg9 arg10 harg10 arg11 harg11 arg12 harg12 x2 x3 x4 x5 x6) = dvAt (keysOf x2) x3 x4 x5 (qb i) (16 - (i 1).val) 1 := by
  unfold runFirst.sl.r_22
  rw [second_none]
  dsimp only
  exact congrArg (fun z => z.2.2.2.1) (tail_carry (kk := keysOf x2) (vv := valsOf x2) (hinit := (first_init c i arg2 harg2 arg3 harg3 arg4 harg4 arg5 harg5 arg6 harg6 x2 x3 x4 x5 x6)) (hG := (first_base c i arg2 harg2 arg3 harg3 arg4 harg4 arg5 harg5 arg6 harg6 arg12 x2 x3 x4 x5 x6))
    (hk0 := first_k0 c arg2 harg2 x2) (hk1 := first_k1 c arg2 harg2 x2) (hk2 := first_k2 c arg2 harg2 x2) (hk3 := first_k3 c arg2 harg2 x2) (hk4 := first_k4 c arg2 harg2 x2) (hk5 := first_k5 c arg2 harg2 x2) (hk6 := first_k6 c arg2 harg2 x2) (hk7 := first_k7 c arg2 harg2 x2) (hv0 := first_v0 c arg2 harg2 x2) (hv1 := first_v1 c arg2 harg2 x2) (hv2 := first_v2 c arg2 harg2 x2) (hv3 := first_v3 c arg2 harg2 x2) (hv4 := first_v4 c arg2 harg2 x2) (hv5 := first_v5 c arg2 harg2 x2) (hv6 := first_v6 c arg2 harg2 x2) (hv7 := first_v7 c arg2 harg2 x2) ..)

set_option maxHeartbeats 2000000 in
/-- The final accumulator of keys of head 2. -/
theorem first_fin4 : (runFirst.sl.r_23 c i arg2 harg2 arg3 harg3 arg4 harg4 arg5 harg5 arg6 harg6 arg7 harg7 arg8 harg8 arg9 harg9 arg10 harg10 arg11 harg11 arg12 harg12 x2 x3 x4 x5 x6) = dkAt (keysOf x2) (valsOf x2) x3 x4 x5 x6 (qb i) (16 - (i 1).val) 2 := by
  unfold runFirst.sl.r_23
  rw [second_none]
  dsimp only
  exact congrArg (fun z => z.2.2.2.2.1) (tail_carry (kk := keysOf x2) (vv := valsOf x2) (hinit := (first_init c i arg2 harg2 arg3 harg3 arg4 harg4 arg5 harg5 arg6 harg6 x2 x3 x4 x5 x6)) (hG := (first_base c i arg2 harg2 arg3 harg3 arg4 harg4 arg5 harg5 arg6 harg6 arg12 x2 x3 x4 x5 x6))
    (hk0 := first_k0 c arg2 harg2 x2) (hk1 := first_k1 c arg2 harg2 x2) (hk2 := first_k2 c arg2 harg2 x2) (hk3 := first_k3 c arg2 harg2 x2) (hk4 := first_k4 c arg2 harg2 x2) (hk5 := first_k5 c arg2 harg2 x2) (hk6 := first_k6 c arg2 harg2 x2) (hk7 := first_k7 c arg2 harg2 x2) (hv0 := first_v0 c arg2 harg2 x2) (hv1 := first_v1 c arg2 harg2 x2) (hv2 := first_v2 c arg2 harg2 x2) (hv3 := first_v3 c arg2 harg2 x2) (hv4 := first_v4 c arg2 harg2 x2) (hv5 := first_v5 c arg2 harg2 x2) (hv6 := first_v6 c arg2 harg2 x2) (hv7 := first_v7 c arg2 harg2 x2) ..)

set_option maxHeartbeats 2000000 in
/-- The final accumulator of values of head 2. -/
theorem first_fin5 : (runFirst.sl.r_24 c i arg2 harg2 arg3 harg3 arg4 harg4 arg5 harg5 arg6 harg6 arg7 harg7 arg8 harg8 arg9 harg9 arg10 harg10 arg11 harg11 arg12 harg12 x2 x3 x4 x5 x6) = dvAt (keysOf x2) x3 x4 x5 (qb i) (16 - (i 1).val) 2 := by
  unfold runFirst.sl.r_24
  rw [second_none]
  dsimp only
  exact congrArg (fun z => z.2.2.2.2.2.1) (tail_carry (kk := keysOf x2) (vv := valsOf x2) (hinit := (first_init c i arg2 harg2 arg3 harg3 arg4 harg4 arg5 harg5 arg6 harg6 x2 x3 x4 x5 x6)) (hG := (first_base c i arg2 harg2 arg3 harg3 arg4 harg4 arg5 harg5 arg6 harg6 arg12 x2 x3 x4 x5 x6))
    (hk0 := first_k0 c arg2 harg2 x2) (hk1 := first_k1 c arg2 harg2 x2) (hk2 := first_k2 c arg2 harg2 x2) (hk3 := first_k3 c arg2 harg2 x2) (hk4 := first_k4 c arg2 harg2 x2) (hk5 := first_k5 c arg2 harg2 x2) (hk6 := first_k6 c arg2 harg2 x2) (hk7 := first_k7 c arg2 harg2 x2) (hv0 := first_v0 c arg2 harg2 x2) (hv1 := first_v1 c arg2 harg2 x2) (hv2 := first_v2 c arg2 harg2 x2) (hv3 := first_v3 c arg2 harg2 x2) (hv4 := first_v4 c arg2 harg2 x2) (hv5 := first_v5 c arg2 harg2 x2) (hv6 := first_v6 c arg2 harg2 x2) (hv7 := first_v7 c arg2 harg2 x2) ..)

set_option maxHeartbeats 2000000 in
/-- The final accumulator of keys of head 3. -/
theorem first_fin6 : (runFirst.sl.r_25 c i arg2 harg2 arg3 harg3 arg4 harg4 arg5 harg5 arg6 harg6 arg7 harg7 arg8 harg8 arg9 harg9 arg10 harg10 arg11 harg11 arg12 harg12 x2 x3 x4 x5 x6) = dkAt (keysOf x2) (valsOf x2) x3 x4 x5 x6 (qb i) (16 - (i 1).val) 3 := by
  unfold runFirst.sl.r_25
  rw [second_none]
  dsimp only
  exact congrArg (fun z => z.2.2.2.2.2.2.1) (tail_carry (kk := keysOf x2) (vv := valsOf x2) (hinit := (first_init c i arg2 harg2 arg3 harg3 arg4 harg4 arg5 harg5 arg6 harg6 x2 x3 x4 x5 x6)) (hG := (first_base c i arg2 harg2 arg3 harg3 arg4 harg4 arg5 harg5 arg6 harg6 arg12 x2 x3 x4 x5 x6))
    (hk0 := first_k0 c arg2 harg2 x2) (hk1 := first_k1 c arg2 harg2 x2) (hk2 := first_k2 c arg2 harg2 x2) (hk3 := first_k3 c arg2 harg2 x2) (hk4 := first_k4 c arg2 harg2 x2) (hk5 := first_k5 c arg2 harg2 x2) (hk6 := first_k6 c arg2 harg2 x2) (hk7 := first_k7 c arg2 harg2 x2) (hv0 := first_v0 c arg2 harg2 x2) (hv1 := first_v1 c arg2 harg2 x2) (hv2 := first_v2 c arg2 harg2 x2) (hv3 := first_v3 c arg2 harg2 x2) (hv4 := first_v4 c arg2 harg2 x2) (hv5 := first_v5 c arg2 harg2 x2) (hv6 := first_v6 c arg2 harg2 x2) (hv7 := first_v7 c arg2 harg2 x2) ..)

set_option maxHeartbeats 2000000 in
/-- The final accumulator of values of head 3. -/
theorem first_fin7 : (runFirst.sl.r_26 c i arg2 harg2 arg3 harg3 arg4 harg4 arg5 harg5 arg6 harg6 arg7 harg7 arg8 harg8 arg9 harg9 arg10 harg10 arg11 harg11 arg12 harg12 x2 x3 x4 x5 x6) = dvAt (keysOf x2) x3 x4 x5 (qb i) (16 - (i 1).val) 3 := by
  unfold runFirst.sl.r_26
  rw [second_none]
  dsimp only
  exact congrArg (fun z => z.2.2.2.2.2.2.2.1) (tail_carry (kk := keysOf x2) (vv := valsOf x2) (hinit := (first_init c i arg2 harg2 arg3 harg3 arg4 harg4 arg5 harg5 arg6 harg6 x2 x3 x4 x5 x6)) (hG := (first_base c i arg2 harg2 arg3 harg3 arg4 harg4 arg5 harg5 arg6 harg6 arg12 x2 x3 x4 x5 x6))
    (hk0 := first_k0 c arg2 harg2 x2) (hk1 := first_k1 c arg2 harg2 x2) (hk2 := first_k2 c arg2 harg2 x2) (hk3 := first_k3 c arg2 harg2 x2) (hk4 := first_k4 c arg2 harg2 x2) (hk5 := first_k5 c arg2 harg2 x2) (hk6 := first_k6 c arg2 harg2 x2) (hk7 := first_k7 c arg2 harg2 x2) (hv0 := first_v0 c arg2 harg2 x2) (hv1 := first_v1 c arg2 harg2 x2) (hv2 := first_v2 c arg2 harg2 x2) (hv3 := first_v3 c arg2 harg2 x2) (hv4 := first_v4 c arg2 harg2 x2) (hv5 := first_v5 c arg2 harg2 x2) (hv6 := first_v6 c arg2 harg2 x2) (hv7 := first_v7 c arg2 harg2 x2) ..)

set_option maxHeartbeats 2000000 in
/-- The final accumulator of keys of head 4. -/
theorem first_fin8 : (runFirst.sl.r_27 c i arg2 harg2 arg3 harg3 arg4 harg4 arg5 harg5 arg6 harg6 arg7 harg7 arg8 harg8 arg9 harg9 arg10 harg10 arg11 harg11 arg12 harg12 x2 x3 x4 x5 x6) = dkAt (keysOf x2) (valsOf x2) x3 x4 x5 x6 (qb i) (16 - (i 1).val) 4 := by
  unfold runFirst.sl.r_27
  rw [second_none]
  dsimp only
  exact congrArg (fun z => z.2.2.2.2.2.2.2.2.1) (tail_carry (kk := keysOf x2) (vv := valsOf x2) (hinit := (first_init c i arg2 harg2 arg3 harg3 arg4 harg4 arg5 harg5 arg6 harg6 x2 x3 x4 x5 x6)) (hG := (first_base c i arg2 harg2 arg3 harg3 arg4 harg4 arg5 harg5 arg6 harg6 arg12 x2 x3 x4 x5 x6))
    (hk0 := first_k0 c arg2 harg2 x2) (hk1 := first_k1 c arg2 harg2 x2) (hk2 := first_k2 c arg2 harg2 x2) (hk3 := first_k3 c arg2 harg2 x2) (hk4 := first_k4 c arg2 harg2 x2) (hk5 := first_k5 c arg2 harg2 x2) (hk6 := first_k6 c arg2 harg2 x2) (hk7 := first_k7 c arg2 harg2 x2) (hv0 := first_v0 c arg2 harg2 x2) (hv1 := first_v1 c arg2 harg2 x2) (hv2 := first_v2 c arg2 harg2 x2) (hv3 := first_v3 c arg2 harg2 x2) (hv4 := first_v4 c arg2 harg2 x2) (hv5 := first_v5 c arg2 harg2 x2) (hv6 := first_v6 c arg2 harg2 x2) (hv7 := first_v7 c arg2 harg2 x2) ..)

set_option maxHeartbeats 2000000 in
/-- The final accumulator of values of head 4. -/
theorem first_fin9 : (runFirst.sl.r_28 c i arg2 harg2 arg3 harg3 arg4 harg4 arg5 harg5 arg6 harg6 arg7 harg7 arg8 harg8 arg9 harg9 arg10 harg10 arg11 harg11 arg12 harg12 x2 x3 x4 x5 x6) = dvAt (keysOf x2) x3 x4 x5 (qb i) (16 - (i 1).val) 4 := by
  unfold runFirst.sl.r_28
  rw [second_none]
  dsimp only
  exact congrArg (fun z => z.2.2.2.2.2.2.2.2.2.1) (tail_carry (kk := keysOf x2) (vv := valsOf x2) (hinit := (first_init c i arg2 harg2 arg3 harg3 arg4 harg4 arg5 harg5 arg6 harg6 x2 x3 x4 x5 x6)) (hG := (first_base c i arg2 harg2 arg3 harg3 arg4 harg4 arg5 harg5 arg6 harg6 arg12 x2 x3 x4 x5 x6))
    (hk0 := first_k0 c arg2 harg2 x2) (hk1 := first_k1 c arg2 harg2 x2) (hk2 := first_k2 c arg2 harg2 x2) (hk3 := first_k3 c arg2 harg2 x2) (hk4 := first_k4 c arg2 harg2 x2) (hk5 := first_k5 c arg2 harg2 x2) (hk6 := first_k6 c arg2 harg2 x2) (hk7 := first_k7 c arg2 harg2 x2) (hv0 := first_v0 c arg2 harg2 x2) (hv1 := first_v1 c arg2 harg2 x2) (hv2 := first_v2 c arg2 harg2 x2) (hv3 := first_v3 c arg2 harg2 x2) (hv4 := first_v4 c arg2 harg2 x2) (hv5 := first_v5 c arg2 harg2 x2) (hv6 := first_v6 c arg2 harg2 x2) (hv7 := first_v7 c arg2 harg2 x2) ..)

set_option maxHeartbeats 2000000 in
/-- The final accumulator of keys of head 5. -/
theorem first_fin10 : (runFirst.sl.r_29 c i arg2 harg2 arg3 harg3 arg4 harg4 arg5 harg5 arg6 harg6 arg7 harg7 arg8 harg8 arg9 harg9 arg10 harg10 arg11 harg11 arg12 harg12 x2 x3 x4 x5 x6) = dkAt (keysOf x2) (valsOf x2) x3 x4 x5 x6 (qb i) (16 - (i 1).val) 5 := by
  unfold runFirst.sl.r_29
  rw [second_none]
  dsimp only
  exact congrArg (fun z => z.2.2.2.2.2.2.2.2.2.2.1) (tail_carry (kk := keysOf x2) (vv := valsOf x2) (hinit := (first_init c i arg2 harg2 arg3 harg3 arg4 harg4 arg5 harg5 arg6 harg6 x2 x3 x4 x5 x6)) (hG := (first_base c i arg2 harg2 arg3 harg3 arg4 harg4 arg5 harg5 arg6 harg6 arg12 x2 x3 x4 x5 x6))
    (hk0 := first_k0 c arg2 harg2 x2) (hk1 := first_k1 c arg2 harg2 x2) (hk2 := first_k2 c arg2 harg2 x2) (hk3 := first_k3 c arg2 harg2 x2) (hk4 := first_k4 c arg2 harg2 x2) (hk5 := first_k5 c arg2 harg2 x2) (hk6 := first_k6 c arg2 harg2 x2) (hk7 := first_k7 c arg2 harg2 x2) (hv0 := first_v0 c arg2 harg2 x2) (hv1 := first_v1 c arg2 harg2 x2) (hv2 := first_v2 c arg2 harg2 x2) (hv3 := first_v3 c arg2 harg2 x2) (hv4 := first_v4 c arg2 harg2 x2) (hv5 := first_v5 c arg2 harg2 x2) (hv6 := first_v6 c arg2 harg2 x2) (hv7 := first_v7 c arg2 harg2 x2) ..)

set_option maxHeartbeats 2000000 in
/-- The final accumulator of values of head 5. -/
theorem first_fin11 : (runFirst.sl.r_30 c i arg2 harg2 arg3 harg3 arg4 harg4 arg5 harg5 arg6 harg6 arg7 harg7 arg8 harg8 arg9 harg9 arg10 harg10 arg11 harg11 arg12 harg12 x2 x3 x4 x5 x6) = dvAt (keysOf x2) x3 x4 x5 (qb i) (16 - (i 1).val) 5 := by
  unfold runFirst.sl.r_30
  rw [second_none]
  dsimp only
  exact congrArg (fun z => z.2.2.2.2.2.2.2.2.2.2.2.1) (tail_carry (kk := keysOf x2) (vv := valsOf x2) (hinit := (first_init c i arg2 harg2 arg3 harg3 arg4 harg4 arg5 harg5 arg6 harg6 x2 x3 x4 x5 x6)) (hG := (first_base c i arg2 harg2 arg3 harg3 arg4 harg4 arg5 harg5 arg6 harg6 arg12 x2 x3 x4 x5 x6))
    (hk0 := first_k0 c arg2 harg2 x2) (hk1 := first_k1 c arg2 harg2 x2) (hk2 := first_k2 c arg2 harg2 x2) (hk3 := first_k3 c arg2 harg2 x2) (hk4 := first_k4 c arg2 harg2 x2) (hk5 := first_k5 c arg2 harg2 x2) (hk6 := first_k6 c arg2 harg2 x2) (hk7 := first_k7 c arg2 harg2 x2) (hv0 := first_v0 c arg2 harg2 x2) (hv1 := first_v1 c arg2 harg2 x2) (hv2 := first_v2 c arg2 harg2 x2) (hv3 := first_v3 c arg2 harg2 x2) (hv4 := first_v4 c arg2 harg2 x2) (hv5 := first_v5 c arg2 harg2 x2) (hv6 := first_v6 c arg2 harg2 x2) (hv7 := first_v7 c arg2 harg2 x2) ..)

set_option maxHeartbeats 2000000 in
/-- The final accumulator of keys of head 6. -/
theorem first_fin12 : (runFirst.sl.r_31 c i arg2 harg2 arg3 harg3 arg4 harg4 arg5 harg5 arg6 harg6 arg7 harg7 arg8 harg8 arg9 harg9 arg10 harg10 arg11 harg11 arg12 harg12 x2 x3 x4 x5 x6) = dkAt (keysOf x2) (valsOf x2) x3 x4 x5 x6 (qb i) (16 - (i 1).val) 6 := by
  unfold runFirst.sl.r_31
  rw [second_none]
  dsimp only
  exact congrArg (fun z => z.2.2.2.2.2.2.2.2.2.2.2.2.1) (tail_carry (kk := keysOf x2) (vv := valsOf x2) (hinit := (first_init c i arg2 harg2 arg3 harg3 arg4 harg4 arg5 harg5 arg6 harg6 x2 x3 x4 x5 x6)) (hG := (first_base c i arg2 harg2 arg3 harg3 arg4 harg4 arg5 harg5 arg6 harg6 arg12 x2 x3 x4 x5 x6))
    (hk0 := first_k0 c arg2 harg2 x2) (hk1 := first_k1 c arg2 harg2 x2) (hk2 := first_k2 c arg2 harg2 x2) (hk3 := first_k3 c arg2 harg2 x2) (hk4 := first_k4 c arg2 harg2 x2) (hk5 := first_k5 c arg2 harg2 x2) (hk6 := first_k6 c arg2 harg2 x2) (hk7 := first_k7 c arg2 harg2 x2) (hv0 := first_v0 c arg2 harg2 x2) (hv1 := first_v1 c arg2 harg2 x2) (hv2 := first_v2 c arg2 harg2 x2) (hv3 := first_v3 c arg2 harg2 x2) (hv4 := first_v4 c arg2 harg2 x2) (hv5 := first_v5 c arg2 harg2 x2) (hv6 := first_v6 c arg2 harg2 x2) (hv7 := first_v7 c arg2 harg2 x2) ..)

set_option maxHeartbeats 2000000 in
/-- The final accumulator of values of head 6. -/
theorem first_fin13 : (runFirst.sl.r_32 c i arg2 harg2 arg3 harg3 arg4 harg4 arg5 harg5 arg6 harg6 arg7 harg7 arg8 harg8 arg9 harg9 arg10 harg10 arg11 harg11 arg12 harg12 x2 x3 x4 x5 x6) = dvAt (keysOf x2) x3 x4 x5 (qb i) (16 - (i 1).val) 6 := by
  unfold runFirst.sl.r_32
  rw [second_none]
  dsimp only
  exact congrArg (fun z => z.2.2.2.2.2.2.2.2.2.2.2.2.2.1) (tail_carry (kk := keysOf x2) (vv := valsOf x2) (hinit := (first_init c i arg2 harg2 arg3 harg3 arg4 harg4 arg5 harg5 arg6 harg6 x2 x3 x4 x5 x6)) (hG := (first_base c i arg2 harg2 arg3 harg3 arg4 harg4 arg5 harg5 arg6 harg6 arg12 x2 x3 x4 x5 x6))
    (hk0 := first_k0 c arg2 harg2 x2) (hk1 := first_k1 c arg2 harg2 x2) (hk2 := first_k2 c arg2 harg2 x2) (hk3 := first_k3 c arg2 harg2 x2) (hk4 := first_k4 c arg2 harg2 x2) (hk5 := first_k5 c arg2 harg2 x2) (hk6 := first_k6 c arg2 harg2 x2) (hk7 := first_k7 c arg2 harg2 x2) (hv0 := first_v0 c arg2 harg2 x2) (hv1 := first_v1 c arg2 harg2 x2) (hv2 := first_v2 c arg2 harg2 x2) (hv3 := first_v3 c arg2 harg2 x2) (hv4 := first_v4 c arg2 harg2 x2) (hv5 := first_v5 c arg2 harg2 x2) (hv6 := first_v6 c arg2 harg2 x2) (hv7 := first_v7 c arg2 harg2 x2) ..)

set_option maxHeartbeats 2000000 in
/-- The final accumulator of keys of head 7. -/
theorem first_fin14 : (runFirst.sl.r_33 c i arg2 harg2 arg3 harg3 arg4 harg4 arg5 harg5 arg6 harg6 arg7 harg7 arg8 harg8 arg9 harg9 arg10 harg10 arg11 harg11 arg12 harg12 x2 x3 x4 x5 x6) = dkAt (keysOf x2) (valsOf x2) x3 x4 x5 x6 (qb i) (16 - (i 1).val) 7 := by
  unfold runFirst.sl.r_33
  rw [second_none]
  dsimp only
  exact congrArg (fun z => z.2.2.2.2.2.2.2.2.2.2.2.2.2.2.1) (tail_carry (kk := keysOf x2) (vv := valsOf x2) (hinit := (first_init c i arg2 harg2 arg3 harg3 arg4 harg4 arg5 harg5 arg6 harg6 x2 x3 x4 x5 x6)) (hG := (first_base c i arg2 harg2 arg3 harg3 arg4 harg4 arg5 harg5 arg6 harg6 arg12 x2 x3 x4 x5 x6))
    (hk0 := first_k0 c arg2 harg2 x2) (hk1 := first_k1 c arg2 harg2 x2) (hk2 := first_k2 c arg2 harg2 x2) (hk3 := first_k3 c arg2 harg2 x2) (hk4 := first_k4 c arg2 harg2 x2) (hk5 := first_k5 c arg2 harg2 x2) (hk6 := first_k6 c arg2 harg2 x2) (hk7 := first_k7 c arg2 harg2 x2) (hv0 := first_v0 c arg2 harg2 x2) (hv1 := first_v1 c arg2 harg2 x2) (hv2 := first_v2 c arg2 harg2 x2) (hv3 := first_v3 c arg2 harg2 x2) (hv4 := first_v4 c arg2 harg2 x2) (hv5 := first_v5 c arg2 harg2 x2) (hv6 := first_v6 c arg2 harg2 x2) (hv7 := first_v7 c arg2 harg2 x2) ..)

set_option maxHeartbeats 2000000 in
/-- The final accumulator of values of head 7. -/
theorem first_fin15 : (runFirst.sl.r_34 c i arg2 harg2 arg3 harg3 arg4 harg4 arg5 harg5 arg6 harg6 arg7 harg7 arg8 harg8 arg9 harg9 arg10 harg10 arg11 harg11 arg12 harg12 x2 x3 x4 x5 x6) = dvAt (keysOf x2) x3 x4 x5 (qb i) (16 - (i 1).val) 7 := by
  unfold runFirst.sl.r_34
  rw [second_none]
  dsimp only
  exact congrArg (fun z => z.2.2.2.2.2.2.2.2.2.2.2.2.2.2.2) (tail_carry (kk := keysOf x2) (vv := valsOf x2) (hinit := (first_init c i arg2 harg2 arg3 harg3 arg4 harg4 arg5 harg5 arg6 harg6 x2 x3 x4 x5 x6)) (hG := (first_base c i arg2 harg2 arg3 harg3 arg4 harg4 arg5 harg5 arg6 harg6 arg12 x2 x3 x4 x5 x6))
    (hk0 := first_k0 c arg2 harg2 x2) (hk1 := first_k1 c arg2 harg2 x2) (hk2 := first_k2 c arg2 harg2 x2) (hk3 := first_k3 c arg2 harg2 x2) (hk4 := first_k4 c arg2 harg2 x2) (hk5 := first_k5 c arg2 harg2 x2) (hk6 := first_k6 c arg2 harg2 x2) (hk7 := first_k7 c arg2 harg2 x2) (hv0 := first_v0 c arg2 harg2 x2) (hv1 := first_v1 c arg2 harg2 x2) (hv2 := first_v2 c arg2 harg2 x2) (hv3 := first_v3 c arg2 harg2 x2) (hv4 := first_v4 c arg2 harg2 x2) (hv5 := first_v5 c arg2 harg2 x2) (hv6 := first_v6 c arg2 harg2 x2) (hv7 := first_v7 c arg2 harg2 x2) ..)

set_option maxHeartbeats 2000000 in
/-- Head 0's finished tile of queries, loaded. -/
theorem first_tile0 : (runFirst.sl.v412 c i arg2 harg2 arg3 harg3 arg4 harg4 arg5 harg5 arg6 harg6 arg7 harg7 arg8 harg8 arg9 harg9 arg10 harg10 arg11 harg11 arg12 harg12 x2 x3 x4 x5 x6) = tile (qb i) 0 (scrAt (keysOf x2) (valsOf x2) x3 x4 x5 x6 (qb i) zeros (16 - (i 1).val)) := by
  unfold runFirst.sl.v412
  refine (tile_readAt arg12 _ (qb i) 0 (k0_off1 i) (k0_off1_inb i) (off1_eq i)).trans (congrArg (tile (qb i) 0) ?_)
  exact tail_read (kk := keysOf x2) (vv := valsOf x2) (hinit := (first_init c i arg2 harg2 arg3 harg3 arg4 harg4 arg5 harg5 arg6 harg6 x2 x3 x4 x5 x6)) (hG := (first_base c i arg2 harg2 arg3 harg3 arg4 harg4 arg5 harg5 arg6 harg6 arg12 x2 x3 x4 x5 x6))
    (hk0 := first_k0 c arg2 harg2 x2) (hk1 := first_k1 c arg2 harg2 x2) (hk2 := first_k2 c arg2 harg2 x2) (hk3 := first_k3 c arg2 harg2 x2) (hk4 := first_k4 c arg2 harg2 x2) (hk5 := first_k5 c arg2 harg2 x2) (hk6 := first_k6 c arg2 harg2 x2) (hk7 := first_k7 c arg2 harg2 x2) (hv0 := first_v0 c arg2 harg2 x2) (hv1 := first_v1 c arg2 harg2 x2) (hv2 := first_v2 c arg2 harg2 x2) (hv3 := first_v3 c arg2 harg2 x2) (hv4 := first_v4 c arg2 harg2 x2) (hv5 := first_v5 c arg2 harg2 x2) (hv6 := first_v6 c arg2 harg2 x2) (hv7 := first_v7 c arg2 harg2 x2) ..

set_option maxHeartbeats 2000000 in
/-- Head 1's finished tile of queries, loaded. -/
theorem first_tile1 : (runFirst.sl.v450 c i arg2 harg2 arg3 harg3 arg4 harg4 arg5 harg5 arg6 harg6 arg7 harg7 arg8 harg8 arg9 harg9 arg10 harg10 arg11 harg11 arg12 harg12 x2 x3 x4 x5 x6) = tile (qb i) 1 (scrAt (keysOf x2) (valsOf x2) x3 x4 x5 x6 (qb i) zeros (16 - (i 1).val)) := by
  unfold runFirst.sl.v450
  refine (tile_readAt arg12 _ (qb i) 1 (k0_off2 i) (k0_off2_inb i) (off2_eq i)).trans (congrArg (tile (qb i) 1) ?_)
  exact tail_read (kk := keysOf x2) (vv := valsOf x2) (hinit := (first_init c i arg2 harg2 arg3 harg3 arg4 harg4 arg5 harg5 arg6 harg6 x2 x3 x4 x5 x6)) (hG := (first_base c i arg2 harg2 arg3 harg3 arg4 harg4 arg5 harg5 arg6 harg6 arg12 x2 x3 x4 x5 x6))
    (hk0 := first_k0 c arg2 harg2 x2) (hk1 := first_k1 c arg2 harg2 x2) (hk2 := first_k2 c arg2 harg2 x2) (hk3 := first_k3 c arg2 harg2 x2) (hk4 := first_k4 c arg2 harg2 x2) (hk5 := first_k5 c arg2 harg2 x2) (hk6 := first_k6 c arg2 harg2 x2) (hk7 := first_k7 c arg2 harg2 x2) (hv0 := first_v0 c arg2 harg2 x2) (hv1 := first_v1 c arg2 harg2 x2) (hv2 := first_v2 c arg2 harg2 x2) (hv3 := first_v3 c arg2 harg2 x2) (hv4 := first_v4 c arg2 harg2 x2) (hv5 := first_v5 c arg2 harg2 x2) (hv6 := first_v6 c arg2 harg2 x2) (hv7 := first_v7 c arg2 harg2 x2) ..

set_option maxHeartbeats 2000000 in
/-- Head 2's finished tile of queries, loaded. -/
theorem first_tile2 : (runFirst.sl.v488 c i arg2 harg2 arg3 harg3 arg4 harg4 arg5 harg5 arg6 harg6 arg7 harg7 arg8 harg8 arg9 harg9 arg10 harg10 arg11 harg11 arg12 harg12 x2 x3 x4 x5 x6) = tile (qb i) 2 (scrAt (keysOf x2) (valsOf x2) x3 x4 x5 x6 (qb i) zeros (16 - (i 1).val)) := by
  unfold runFirst.sl.v488
  refine (tile_readAt arg12 _ (qb i) 2 (k0_off3 i) (k0_off3_inb i) (off3_eq i)).trans (congrArg (tile (qb i) 2) ?_)
  exact tail_read (kk := keysOf x2) (vv := valsOf x2) (hinit := (first_init c i arg2 harg2 arg3 harg3 arg4 harg4 arg5 harg5 arg6 harg6 x2 x3 x4 x5 x6)) (hG := (first_base c i arg2 harg2 arg3 harg3 arg4 harg4 arg5 harg5 arg6 harg6 arg12 x2 x3 x4 x5 x6))
    (hk0 := first_k0 c arg2 harg2 x2) (hk1 := first_k1 c arg2 harg2 x2) (hk2 := first_k2 c arg2 harg2 x2) (hk3 := first_k3 c arg2 harg2 x2) (hk4 := first_k4 c arg2 harg2 x2) (hk5 := first_k5 c arg2 harg2 x2) (hk6 := first_k6 c arg2 harg2 x2) (hk7 := first_k7 c arg2 harg2 x2) (hv0 := first_v0 c arg2 harg2 x2) (hv1 := first_v1 c arg2 harg2 x2) (hv2 := first_v2 c arg2 harg2 x2) (hv3 := first_v3 c arg2 harg2 x2) (hv4 := first_v4 c arg2 harg2 x2) (hv5 := first_v5 c arg2 harg2 x2) (hv6 := first_v6 c arg2 harg2 x2) (hv7 := first_v7 c arg2 harg2 x2) ..

set_option maxHeartbeats 2000000 in
/-- Head 3's finished tile of queries, loaded. -/
theorem first_tile3 : (runFirst.sl.v526 c i arg2 harg2 arg3 harg3 arg4 harg4 arg5 harg5 arg6 harg6 arg7 harg7 arg8 harg8 arg9 harg9 arg10 harg10 arg11 harg11 arg12 harg12 x2 x3 x4 x5 x6) = tile (qb i) 3 (scrAt (keysOf x2) (valsOf x2) x3 x4 x5 x6 (qb i) zeros (16 - (i 1).val)) := by
  unfold runFirst.sl.v526
  refine (tile_readAt arg12 _ (qb i) 3 (k0_off4 i) (k0_off4_inb i) (off4_eq i)).trans (congrArg (tile (qb i) 3) ?_)
  exact tail_read (kk := keysOf x2) (vv := valsOf x2) (hinit := (first_init c i arg2 harg2 arg3 harg3 arg4 harg4 arg5 harg5 arg6 harg6 x2 x3 x4 x5 x6)) (hG := (first_base c i arg2 harg2 arg3 harg3 arg4 harg4 arg5 harg5 arg6 harg6 arg12 x2 x3 x4 x5 x6))
    (hk0 := first_k0 c arg2 harg2 x2) (hk1 := first_k1 c arg2 harg2 x2) (hk2 := first_k2 c arg2 harg2 x2) (hk3 := first_k3 c arg2 harg2 x2) (hk4 := first_k4 c arg2 harg2 x2) (hk5 := first_k5 c arg2 harg2 x2) (hk6 := first_k6 c arg2 harg2 x2) (hk7 := first_k7 c arg2 harg2 x2) (hv0 := first_v0 c arg2 harg2 x2) (hv1 := first_v1 c arg2 harg2 x2) (hv2 := first_v2 c arg2 harg2 x2) (hv3 := first_v3 c arg2 harg2 x2) (hv4 := first_v4 c arg2 harg2 x2) (hv5 := first_v5 c arg2 harg2 x2) (hv6 := first_v6 c arg2 harg2 x2) (hv7 := first_v7 c arg2 harg2 x2) ..

set_option maxHeartbeats 2000000 in
/-- Head 4's finished tile of queries, loaded. -/
theorem first_tile4 : (runFirst.sl.v564 c i arg2 harg2 arg3 harg3 arg4 harg4 arg5 harg5 arg6 harg6 arg7 harg7 arg8 harg8 arg9 harg9 arg10 harg10 arg11 harg11 arg12 harg12 x2 x3 x4 x5 x6) = tile (qb i) 4 (scrAt (keysOf x2) (valsOf x2) x3 x4 x5 x6 (qb i) zeros (16 - (i 1).val)) := by
  unfold runFirst.sl.v564
  refine (tile_readAt arg12 _ (qb i) 4 (k0_off5 i) (k0_off5_inb i) (off5_eq i)).trans (congrArg (tile (qb i) 4) ?_)
  exact tail_read (kk := keysOf x2) (vv := valsOf x2) (hinit := (first_init c i arg2 harg2 arg3 harg3 arg4 harg4 arg5 harg5 arg6 harg6 x2 x3 x4 x5 x6)) (hG := (first_base c i arg2 harg2 arg3 harg3 arg4 harg4 arg5 harg5 arg6 harg6 arg12 x2 x3 x4 x5 x6))
    (hk0 := first_k0 c arg2 harg2 x2) (hk1 := first_k1 c arg2 harg2 x2) (hk2 := first_k2 c arg2 harg2 x2) (hk3 := first_k3 c arg2 harg2 x2) (hk4 := first_k4 c arg2 harg2 x2) (hk5 := first_k5 c arg2 harg2 x2) (hk6 := first_k6 c arg2 harg2 x2) (hk7 := first_k7 c arg2 harg2 x2) (hv0 := first_v0 c arg2 harg2 x2) (hv1 := first_v1 c arg2 harg2 x2) (hv2 := first_v2 c arg2 harg2 x2) (hv3 := first_v3 c arg2 harg2 x2) (hv4 := first_v4 c arg2 harg2 x2) (hv5 := first_v5 c arg2 harg2 x2) (hv6 := first_v6 c arg2 harg2 x2) (hv7 := first_v7 c arg2 harg2 x2) ..

set_option maxHeartbeats 2000000 in
/-- Head 5's finished tile of queries, loaded. -/
theorem first_tile5 : (runFirst.sl.v602 c i arg2 harg2 arg3 harg3 arg4 harg4 arg5 harg5 arg6 harg6 arg7 harg7 arg8 harg8 arg9 harg9 arg10 harg10 arg11 harg11 arg12 harg12 x2 x3 x4 x5 x6) = tile (qb i) 5 (scrAt (keysOf x2) (valsOf x2) x3 x4 x5 x6 (qb i) zeros (16 - (i 1).val)) := by
  unfold runFirst.sl.v602
  refine (tile_readAt arg12 _ (qb i) 5 (k0_off6 i) (k0_off6_inb i) (off6_eq i)).trans (congrArg (tile (qb i) 5) ?_)
  exact tail_read (kk := keysOf x2) (vv := valsOf x2) (hinit := (first_init c i arg2 harg2 arg3 harg3 arg4 harg4 arg5 harg5 arg6 harg6 x2 x3 x4 x5 x6)) (hG := (first_base c i arg2 harg2 arg3 harg3 arg4 harg4 arg5 harg5 arg6 harg6 arg12 x2 x3 x4 x5 x6))
    (hk0 := first_k0 c arg2 harg2 x2) (hk1 := first_k1 c arg2 harg2 x2) (hk2 := first_k2 c arg2 harg2 x2) (hk3 := first_k3 c arg2 harg2 x2) (hk4 := first_k4 c arg2 harg2 x2) (hk5 := first_k5 c arg2 harg2 x2) (hk6 := first_k6 c arg2 harg2 x2) (hk7 := first_k7 c arg2 harg2 x2) (hv0 := first_v0 c arg2 harg2 x2) (hv1 := first_v1 c arg2 harg2 x2) (hv2 := first_v2 c arg2 harg2 x2) (hv3 := first_v3 c arg2 harg2 x2) (hv4 := first_v4 c arg2 harg2 x2) (hv5 := first_v5 c arg2 harg2 x2) (hv6 := first_v6 c arg2 harg2 x2) (hv7 := first_v7 c arg2 harg2 x2) ..

set_option maxHeartbeats 2000000 in
/-- Head 6's finished tile of queries, loaded. -/
theorem first_tile6 : (runFirst.sl.v640 c i arg2 harg2 arg3 harg3 arg4 harg4 arg5 harg5 arg6 harg6 arg7 harg7 arg8 harg8 arg9 harg9 arg10 harg10 arg11 harg11 arg12 harg12 x2 x3 x4 x5 x6) = tile (qb i) 6 (scrAt (keysOf x2) (valsOf x2) x3 x4 x5 x6 (qb i) zeros (16 - (i 1).val)) := by
  unfold runFirst.sl.v640
  refine (tile_readAt arg12 _ (qb i) 6 (k0_off7 i) (k0_off7_inb i) (off7_eq i)).trans (congrArg (tile (qb i) 6) ?_)
  exact tail_read (kk := keysOf x2) (vv := valsOf x2) (hinit := (first_init c i arg2 harg2 arg3 harg3 arg4 harg4 arg5 harg5 arg6 harg6 x2 x3 x4 x5 x6)) (hG := (first_base c i arg2 harg2 arg3 harg3 arg4 harg4 arg5 harg5 arg6 harg6 arg12 x2 x3 x4 x5 x6))
    (hk0 := first_k0 c arg2 harg2 x2) (hk1 := first_k1 c arg2 harg2 x2) (hk2 := first_k2 c arg2 harg2 x2) (hk3 := first_k3 c arg2 harg2 x2) (hk4 := first_k4 c arg2 harg2 x2) (hk5 := first_k5 c arg2 harg2 x2) (hk6 := first_k6 c arg2 harg2 x2) (hk7 := first_k7 c arg2 harg2 x2) (hv0 := first_v0 c arg2 harg2 x2) (hv1 := first_v1 c arg2 harg2 x2) (hv2 := first_v2 c arg2 harg2 x2) (hv3 := first_v3 c arg2 harg2 x2) (hv4 := first_v4 c arg2 harg2 x2) (hv5 := first_v5 c arg2 harg2 x2) (hv6 := first_v6 c arg2 harg2 x2) (hv7 := first_v7 c arg2 harg2 x2) ..

set_option maxHeartbeats 2000000 in
/-- Head 7's finished tile of queries, loaded. -/
theorem first_tile7 : (runFirst.sl.v678 c i arg2 harg2 arg3 harg3 arg4 harg4 arg5 harg5 arg6 harg6 arg7 harg7 arg8 harg8 arg9 harg9 arg10 harg10 arg11 harg11 arg12 harg12 x2 x3 x4 x5 x6) = tile (qb i) 7 (scrAt (keysOf x2) (valsOf x2) x3 x4 x5 x6 (qb i) zeros (16 - (i 1).val)) := by
  unfold runFirst.sl.v678
  refine (tile_readAt arg12 _ (qb i) 7 (k0_off8 i) (k0_off8_inb i) (off8_eq i)).trans (congrArg (tile (qb i) 7) ?_)
  exact tail_read (kk := keysOf x2) (vv := valsOf x2) (hinit := (first_init c i arg2 harg2 arg3 harg3 arg4 harg4 arg5 harg5 arg6 harg6 x2 x3 x4 x5 x6)) (hG := (first_base c i arg2 harg2 arg3 harg3 arg4 harg4 arg5 harg5 arg6 harg6 arg12 x2 x3 x4 x5 x6))
    (hk0 := first_k0 c arg2 harg2 x2) (hk1 := first_k1 c arg2 harg2 x2) (hk2 := first_k2 c arg2 harg2 x2) (hk3 := first_k3 c arg2 harg2 x2) (hk4 := first_k4 c arg2 harg2 x2) (hk5 := first_k5 c arg2 harg2 x2) (hk6 := first_k6 c arg2 harg2 x2) (hk7 := first_k7 c arg2 harg2 x2) (hv0 := first_v0 c arg2 harg2 x2) (hv1 := first_v1 c arg2 harg2 x2) (hv2 := first_v2 c arg2 harg2 x2) (hv3 := first_v3 c arg2 harg2 x2) (hv4 := first_v4 c arg2 harg2 x2) (hv5 := first_v5 c arg2 harg2 x2) (hv6 := first_v6 c arg2 harg2 x2) (hv7 := first_v7 c arg2 harg2 x2) ..

set_option maxHeartbeats 4000000 in
/-- The block of queries' gradients the body leaves. -/
theorem first_dq (hc0 : firstBlock i) : (runFirst c i arg2 harg2 arg3 harg3 arg4 harg4 arg5 harg5 arg6 harg6 arg7 harg7 arg8 harg8 arg9 harg9 arg10 harg10 arg11 harg11 arg12 harg12 hc0 x2 x3 x4 x5 x6 x7 x8 x9 d10 d11 s).1 = joined8 (fun h => dqOut (tile (qb i) h (scrAt (keysOf x2) (valsOf x2) x3 x4 x5 x6 (qb i) zeros (16 - (i 1).val))) x7 x8 x9) := by
  unfold runFirst; dsimp only
  refine pieces8 arg10 _ _ _ _ _ _ _ _ _ _ _ _ _ _ _ _ _ _ ?_ ?_ ?_ ?_ ?_ ?_ ?_ ?_
  · refine Eq.trans (b := dqOut (runFirst.sl.v412 c i arg2 harg2 arg3 harg3 arg4 harg4 arg5 harg5 arg6 harg6 arg7 harg7 arg8 harg8 arg9 harg9 arg10 harg10 arg11 harg11 arg12 harg12 x2 x3 x4 x5 x6) (shapeCast S256x128 (View.readAt (Elt F) arg7.view (Rect.unit (s := S256x128) ![0, 0] S256x128.size whole_inb).toLoadRect (harg7.unread x7)) shapeCasts_S256x128_S256x128) (shapeCast S256x128 (View.readAt (Elt F) arg8.view (Rect.unit (s := S256x128) ![0, 0] S256x128.size whole_inb).toLoadRect (harg8.unread x8)) shapeCasts_S256x128_S256x128) (shapeCast S256x128 (View.readAt (Elt F) arg9.view (Rect.unit (s := S256x128) ![0, 0] S256x128.size whole_inb).toLoadRect (harg9.unread x9)) shapeCasts_S256x128_S256x128)) rfl ?_
    rw [first_tile0, whole_read arg7 harg7, whole_read arg8 harg8, whole_read arg9 harg9]
  · refine Eq.trans (b := dqOut (runFirst.sl.v450 c i arg2 harg2 arg3 harg3 arg4 harg4 arg5 harg5 arg6 harg6 arg7 harg7 arg8 harg8 arg9 harg9 arg10 harg10 arg11 harg11 arg12 harg12 x2 x3 x4 x5 x6) (shapeCast S256x128 (View.readAt (Elt F) arg7.view (Rect.unit (s := S256x128) ![0, 0] S256x128.size whole_inb).toLoadRect (harg7.unread x7)) shapeCasts_S256x128_S256x128) (shapeCast S256x128 (View.readAt (Elt F) arg8.view (Rect.unit (s := S256x128) ![0, 0] S256x128.size whole_inb).toLoadRect (harg8.unread x8)) shapeCasts_S256x128_S256x128) (shapeCast S256x128 (View.readAt (Elt F) arg9.view (Rect.unit (s := S256x128) ![0, 0] S256x128.size whole_inb).toLoadRect (harg9.unread x9)) shapeCasts_S256x128_S256x128)) rfl ?_
    rw [first_tile1, whole_read arg7 harg7, whole_read arg8 harg8, whole_read arg9 harg9]
  · refine Eq.trans (b := dqOut (runFirst.sl.v488 c i arg2 harg2 arg3 harg3 arg4 harg4 arg5 harg5 arg6 harg6 arg7 harg7 arg8 harg8 arg9 harg9 arg10 harg10 arg11 harg11 arg12 harg12 x2 x3 x4 x5 x6) (shapeCast S256x128 (View.readAt (Elt F) arg7.view (Rect.unit (s := S256x128) ![0, 0] S256x128.size whole_inb).toLoadRect (harg7.unread x7)) shapeCasts_S256x128_S256x128) (shapeCast S256x128 (View.readAt (Elt F) arg8.view (Rect.unit (s := S256x128) ![0, 0] S256x128.size whole_inb).toLoadRect (harg8.unread x8)) shapeCasts_S256x128_S256x128) (shapeCast S256x128 (View.readAt (Elt F) arg9.view (Rect.unit (s := S256x128) ![0, 0] S256x128.size whole_inb).toLoadRect (harg9.unread x9)) shapeCasts_S256x128_S256x128)) rfl ?_
    rw [first_tile2, whole_read arg7 harg7, whole_read arg8 harg8, whole_read arg9 harg9]
  · refine Eq.trans (b := dqOut (runFirst.sl.v526 c i arg2 harg2 arg3 harg3 arg4 harg4 arg5 harg5 arg6 harg6 arg7 harg7 arg8 harg8 arg9 harg9 arg10 harg10 arg11 harg11 arg12 harg12 x2 x3 x4 x5 x6) (shapeCast S256x128 (View.readAt (Elt F) arg7.view (Rect.unit (s := S256x128) ![0, 0] S256x128.size whole_inb).toLoadRect (harg7.unread x7)) shapeCasts_S256x128_S256x128) (shapeCast S256x128 (View.readAt (Elt F) arg8.view (Rect.unit (s := S256x128) ![0, 0] S256x128.size whole_inb).toLoadRect (harg8.unread x8)) shapeCasts_S256x128_S256x128) (shapeCast S256x128 (View.readAt (Elt F) arg9.view (Rect.unit (s := S256x128) ![0, 0] S256x128.size whole_inb).toLoadRect (harg9.unread x9)) shapeCasts_S256x128_S256x128)) rfl ?_
    rw [first_tile3, whole_read arg7 harg7, whole_read arg8 harg8, whole_read arg9 harg9]
  · refine Eq.trans (b := dqOut (runFirst.sl.v564 c i arg2 harg2 arg3 harg3 arg4 harg4 arg5 harg5 arg6 harg6 arg7 harg7 arg8 harg8 arg9 harg9 arg10 harg10 arg11 harg11 arg12 harg12 x2 x3 x4 x5 x6) (shapeCast S256x128 (View.readAt (Elt F) arg7.view (Rect.unit (s := S256x128) ![0, 0] S256x128.size whole_inb).toLoadRect (harg7.unread x7)) shapeCasts_S256x128_S256x128) (shapeCast S256x128 (View.readAt (Elt F) arg8.view (Rect.unit (s := S256x128) ![0, 0] S256x128.size whole_inb).toLoadRect (harg8.unread x8)) shapeCasts_S256x128_S256x128) (shapeCast S256x128 (View.readAt (Elt F) arg9.view (Rect.unit (s := S256x128) ![0, 0] S256x128.size whole_inb).toLoadRect (harg9.unread x9)) shapeCasts_S256x128_S256x128)) rfl ?_
    rw [first_tile4, whole_read arg7 harg7, whole_read arg8 harg8, whole_read arg9 harg9]
  · refine Eq.trans (b := dqOut (runFirst.sl.v602 c i arg2 harg2 arg3 harg3 arg4 harg4 arg5 harg5 arg6 harg6 arg7 harg7 arg8 harg8 arg9 harg9 arg10 harg10 arg11 harg11 arg12 harg12 x2 x3 x4 x5 x6) (shapeCast S256x128 (View.readAt (Elt F) arg7.view (Rect.unit (s := S256x128) ![0, 0] S256x128.size whole_inb).toLoadRect (harg7.unread x7)) shapeCasts_S256x128_S256x128) (shapeCast S256x128 (View.readAt (Elt F) arg8.view (Rect.unit (s := S256x128) ![0, 0] S256x128.size whole_inb).toLoadRect (harg8.unread x8)) shapeCasts_S256x128_S256x128) (shapeCast S256x128 (View.readAt (Elt F) arg9.view (Rect.unit (s := S256x128) ![0, 0] S256x128.size whole_inb).toLoadRect (harg9.unread x9)) shapeCasts_S256x128_S256x128)) rfl ?_
    rw [first_tile5, whole_read arg7 harg7, whole_read arg8 harg8, whole_read arg9 harg9]
  · refine Eq.trans (b := dqOut (runFirst.sl.v640 c i arg2 harg2 arg3 harg3 arg4 harg4 arg5 harg5 arg6 harg6 arg7 harg7 arg8 harg8 arg9 harg9 arg10 harg10 arg11 harg11 arg12 harg12 x2 x3 x4 x5 x6) (shapeCast S256x128 (View.readAt (Elt F) arg7.view (Rect.unit (s := S256x128) ![0, 0] S256x128.size whole_inb).toLoadRect (harg7.unread x7)) shapeCasts_S256x128_S256x128) (shapeCast S256x128 (View.readAt (Elt F) arg8.view (Rect.unit (s := S256x128) ![0, 0] S256x128.size whole_inb).toLoadRect (harg8.unread x8)) shapeCasts_S256x128_S256x128) (shapeCast S256x128 (View.readAt (Elt F) arg9.view (Rect.unit (s := S256x128) ![0, 0] S256x128.size whole_inb).toLoadRect (harg9.unread x9)) shapeCasts_S256x128_S256x128)) rfl ?_
    rw [first_tile6, whole_read arg7 harg7, whole_read arg8 harg8, whole_read arg9 harg9]
  · refine Eq.trans (b := dqOut (runFirst.sl.v678 c i arg2 harg2 arg3 harg3 arg4 harg4 arg5 harg5 arg6 harg6 arg7 harg7 arg8 harg8 arg9 harg9 arg10 harg10 arg11 harg11 arg12 harg12 x2 x3 x4 x5 x6) (shapeCast S256x128 (View.readAt (Elt F) arg7.view (Rect.unit (s := S256x128) ![0, 0] S256x128.size whole_inb).toLoadRect (harg7.unread x7)) shapeCasts_S256x128_S256x128) (shapeCast S256x128 (View.readAt (Elt F) arg8.view (Rect.unit (s := S256x128) ![0, 0] S256x128.size whole_inb).toLoadRect (harg8.unread x8)) shapeCasts_S256x128_S256x128) (shapeCast S256x128 (View.readAt (Elt F) arg9.view (Rect.unit (s := S256x128) ![0, 0] S256x128.size whole_inb).toLoadRect (harg9.unread x9)) shapeCasts_S256x128_S256x128)) rfl ?_
    rw [first_tile7, whole_read arg7 harg7, whole_read arg8 harg8, whole_read arg9 harg9]

set_option maxHeartbeats 4000000 in
/-- The block of keys' and values' gradients the body leaves. -/
theorem first_dkv (hc0 : firstBlock i) : (runFirst c i arg2 harg2 arg3 harg3 arg4 harg4 arg5 harg5 arg6 harg6 arg7 harg7 arg8 harg8 arg9 harg9 arg10 harg10 arg11 harg11 arg12 harg12 hc0 x2 x3 x4 x5 x6 x7 x8 x9 d10 d11 s).2.1 = joined16 (dkvTile (dkAt (keysOf x2) (valsOf x2) x3 x4 x5 x6 (qb i) (16 - (i 1).val)) (dvAt (keysOf x2) x3 x4 x5 (qb i) (16 - (i 1).val)) x7 x8 x9) := by
  unfold runFirst; dsimp only
  refine pieces16 arg11 _ _ _ _ _ _ _ _ _ _ _ _ _ _ _ _ _ _ _ _ _ _ _ _ _ _ _ _ _ _ _ _ _ _ ?_ ?_ ?_ ?_ ?_ ?_ ?_ ?_ ?_ ?_ ?_ ?_ ?_ ?_ ?_ ?_
  · refine Eq.trans (b := unrotate (runFirst.sl.r_35 c i arg2 harg2 arg3 harg3 arg4 harg4 arg5 harg5 arg6 harg6 arg7 harg7 arg8 harg8 arg9 harg9 arg10 harg10 arg11 harg11 arg12 harg12 x2 x3 x4 x5 x6) (shapeCast S256x128 (View.readAt (Elt F) arg7.view (Rect.unit (s := S256x128) ![0, 0] S256x128.size whole_inb).toLoadRect (harg7.unread x7)) shapeCasts_S256x128_S256x128) (shapeCast S256x128 (View.readAt (Elt F) arg8.view (Rect.unit (s := S256x128) ![0, 0] S256x128.size whole_inb).toLoadRect (harg8.unread x8)) shapeCasts_S256x128_S256x128) (shapeCast S256x128 (View.readAt (Elt F) arg9.view (Rect.unit (s := S256x128) ![0, 0] S256x128.size whole_inb).toLoadRect (harg9.unread x9)) shapeCasts_S256x128_S256x128)) rfl ?_
    rw [first_fin0, whole_read arg7 harg7, whole_read arg8 harg8, whole_read arg9 harg9]; rfl
  · refine Eq.trans (b := truncf .bf16 (runFirst.sl.r_20 c i arg2 harg2 arg3 harg3 arg4 harg4 arg5 harg5 arg6 harg6 arg7 harg7 arg8 harg8 arg9 harg9 arg10 harg10 arg11 harg11 arg12 harg12 x2 x3 x4 x5 x6) bitsLt_bf16_f32) rfl ?_
    rw [first_fin1]; rfl
  · refine Eq.trans (b := dkOut (runFirst.sl.r_21 c i arg2 harg2 arg3 harg3 arg4 harg4 arg5 harg5 arg6 harg6 arg7 harg7 arg8 harg8 arg9 harg9 arg10 harg10 arg11 harg11 arg12 harg12 x2 x3 x4 x5 x6) (shapeCast S256x128 (View.readAt (Elt F) arg7.view (Rect.unit (s := S256x128) ![0, 0] S256x128.size whole_inb).toLoadRect (harg7.unread x7)) shapeCasts_S256x128_S256x128) (shapeCast S256x128 (View.readAt (Elt F) arg8.view (Rect.unit (s := S256x128) ![0, 0] S256x128.size whole_inb).toLoadRect (harg8.unread x8)) shapeCasts_S256x128_S256x128) (shapeCast S256x128 (View.readAt (Elt F) arg9.view (Rect.unit (s := S256x128) ![0, 0] S256x128.size whole_inb).toLoadRect (harg9.unread x9)) shapeCasts_S256x128_S256x128)) rfl ?_
    rw [first_fin2, whole_read arg7 harg7, whole_read arg8 harg8, whole_read arg9 harg9]; rfl
  · refine Eq.trans (b := truncf .bf16 (runFirst.sl.r_22 c i arg2 harg2 arg3 harg3 arg4 harg4 arg5 harg5 arg6 harg6 arg7 harg7 arg8 harg8 arg9 harg9 arg10 harg10 arg11 harg11 arg12 harg12 x2 x3 x4 x5 x6) bitsLt_bf16_f32) rfl ?_
    rw [first_fin3]; rfl
  · refine Eq.trans (b := dkOut (runFirst.sl.r_23 c i arg2 harg2 arg3 harg3 arg4 harg4 arg5 harg5 arg6 harg6 arg7 harg7 arg8 harg8 arg9 harg9 arg10 harg10 arg11 harg11 arg12 harg12 x2 x3 x4 x5 x6) (shapeCast S256x128 (View.readAt (Elt F) arg7.view (Rect.unit (s := S256x128) ![0, 0] S256x128.size whole_inb).toLoadRect (harg7.unread x7)) shapeCasts_S256x128_S256x128) (shapeCast S256x128 (View.readAt (Elt F) arg8.view (Rect.unit (s := S256x128) ![0, 0] S256x128.size whole_inb).toLoadRect (harg8.unread x8)) shapeCasts_S256x128_S256x128) (shapeCast S256x128 (View.readAt (Elt F) arg9.view (Rect.unit (s := S256x128) ![0, 0] S256x128.size whole_inb).toLoadRect (harg9.unread x9)) shapeCasts_S256x128_S256x128)) rfl ?_
    rw [first_fin4, whole_read arg7 harg7, whole_read arg8 harg8, whole_read arg9 harg9]; rfl
  · refine Eq.trans (b := truncf .bf16 (runFirst.sl.r_24 c i arg2 harg2 arg3 harg3 arg4 harg4 arg5 harg5 arg6 harg6 arg7 harg7 arg8 harg8 arg9 harg9 arg10 harg10 arg11 harg11 arg12 harg12 x2 x3 x4 x5 x6) bitsLt_bf16_f32) rfl ?_
    rw [first_fin5]; rfl
  · refine Eq.trans (b := dkOut (runFirst.sl.r_25 c i arg2 harg2 arg3 harg3 arg4 harg4 arg5 harg5 arg6 harg6 arg7 harg7 arg8 harg8 arg9 harg9 arg10 harg10 arg11 harg11 arg12 harg12 x2 x3 x4 x5 x6) (shapeCast S256x128 (View.readAt (Elt F) arg7.view (Rect.unit (s := S256x128) ![0, 0] S256x128.size whole_inb).toLoadRect (harg7.unread x7)) shapeCasts_S256x128_S256x128) (shapeCast S256x128 (View.readAt (Elt F) arg8.view (Rect.unit (s := S256x128) ![0, 0] S256x128.size whole_inb).toLoadRect (harg8.unread x8)) shapeCasts_S256x128_S256x128) (shapeCast S256x128 (View.readAt (Elt F) arg9.view (Rect.unit (s := S256x128) ![0, 0] S256x128.size whole_inb).toLoadRect (harg9.unread x9)) shapeCasts_S256x128_S256x128)) rfl ?_
    rw [first_fin6, whole_read arg7 harg7, whole_read arg8 harg8, whole_read arg9 harg9]; rfl
  · refine Eq.trans (b := truncf .bf16 (runFirst.sl.r_26 c i arg2 harg2 arg3 harg3 arg4 harg4 arg5 harg5 arg6 harg6 arg7 harg7 arg8 harg8 arg9 harg9 arg10 harg10 arg11 harg11 arg12 harg12 x2 x3 x4 x5 x6) bitsLt_bf16_f32) rfl ?_
    rw [first_fin7]; rfl
  · refine Eq.trans (b := dkOut (runFirst.sl.r_27 c i arg2 harg2 arg3 harg3 arg4 harg4 arg5 harg5 arg6 harg6 arg7 harg7 arg8 harg8 arg9 harg9 arg10 harg10 arg11 harg11 arg12 harg12 x2 x3 x4 x5 x6) (shapeCast S256x128 (View.readAt (Elt F) arg7.view (Rect.unit (s := S256x128) ![0, 0] S256x128.size whole_inb).toLoadRect (harg7.unread x7)) shapeCasts_S256x128_S256x128) (shapeCast S256x128 (View.readAt (Elt F) arg8.view (Rect.unit (s := S256x128) ![0, 0] S256x128.size whole_inb).toLoadRect (harg8.unread x8)) shapeCasts_S256x128_S256x128) (shapeCast S256x128 (View.readAt (Elt F) arg9.view (Rect.unit (s := S256x128) ![0, 0] S256x128.size whole_inb).toLoadRect (harg9.unread x9)) shapeCasts_S256x128_S256x128)) rfl ?_
    rw [first_fin8, whole_read arg7 harg7, whole_read arg8 harg8, whole_read arg9 harg9]; rfl
  · refine Eq.trans (b := truncf .bf16 (runFirst.sl.r_28 c i arg2 harg2 arg3 harg3 arg4 harg4 arg5 harg5 arg6 harg6 arg7 harg7 arg8 harg8 arg9 harg9 arg10 harg10 arg11 harg11 arg12 harg12 x2 x3 x4 x5 x6) bitsLt_bf16_f32) rfl ?_
    rw [first_fin9]; rfl
  · refine Eq.trans (b := dkOut (runFirst.sl.r_29 c i arg2 harg2 arg3 harg3 arg4 harg4 arg5 harg5 arg6 harg6 arg7 harg7 arg8 harg8 arg9 harg9 arg10 harg10 arg11 harg11 arg12 harg12 x2 x3 x4 x5 x6) (shapeCast S256x128 (View.readAt (Elt F) arg7.view (Rect.unit (s := S256x128) ![0, 0] S256x128.size whole_inb).toLoadRect (harg7.unread x7)) shapeCasts_S256x128_S256x128) (shapeCast S256x128 (View.readAt (Elt F) arg8.view (Rect.unit (s := S256x128) ![0, 0] S256x128.size whole_inb).toLoadRect (harg8.unread x8)) shapeCasts_S256x128_S256x128) (shapeCast S256x128 (View.readAt (Elt F) arg9.view (Rect.unit (s := S256x128) ![0, 0] S256x128.size whole_inb).toLoadRect (harg9.unread x9)) shapeCasts_S256x128_S256x128)) rfl ?_
    rw [first_fin10, whole_read arg7 harg7, whole_read arg8 harg8, whole_read arg9 harg9]; rfl
  · refine Eq.trans (b := truncf .bf16 (runFirst.sl.r_30 c i arg2 harg2 arg3 harg3 arg4 harg4 arg5 harg5 arg6 harg6 arg7 harg7 arg8 harg8 arg9 harg9 arg10 harg10 arg11 harg11 arg12 harg12 x2 x3 x4 x5 x6) bitsLt_bf16_f32) rfl ?_
    rw [first_fin11]; rfl
  · refine Eq.trans (b := dkOut (runFirst.sl.r_31 c i arg2 harg2 arg3 harg3 arg4 harg4 arg5 harg5 arg6 harg6 arg7 harg7 arg8 harg8 arg9 harg9 arg10 harg10 arg11 harg11 arg12 harg12 x2 x3 x4 x5 x6) (shapeCast S256x128 (View.readAt (Elt F) arg7.view (Rect.unit (s := S256x128) ![0, 0] S256x128.size whole_inb).toLoadRect (harg7.unread x7)) shapeCasts_S256x128_S256x128) (shapeCast S256x128 (View.readAt (Elt F) arg8.view (Rect.unit (s := S256x128) ![0, 0] S256x128.size whole_inb).toLoadRect (harg8.unread x8)) shapeCasts_S256x128_S256x128) (shapeCast S256x128 (View.readAt (Elt F) arg9.view (Rect.unit (s := S256x128) ![0, 0] S256x128.size whole_inb).toLoadRect (harg9.unread x9)) shapeCasts_S256x128_S256x128)) rfl ?_
    rw [first_fin12, whole_read arg7 harg7, whole_read arg8 harg8, whole_read arg9 harg9]; rfl
  · refine Eq.trans (b := truncf .bf16 (runFirst.sl.r_32 c i arg2 harg2 arg3 harg3 arg4 harg4 arg5 harg5 arg6 harg6 arg7 harg7 arg8 harg8 arg9 harg9 arg10 harg10 arg11 harg11 arg12 harg12 x2 x3 x4 x5 x6) bitsLt_bf16_f32) rfl ?_
    rw [first_fin13]; rfl
  · refine Eq.trans (b := dkOut (runFirst.sl.r_33 c i arg2 harg2 arg3 harg3 arg4 harg4 arg5 harg5 arg6 harg6 arg7 harg7 arg8 harg8 arg9 harg9 arg10 harg10 arg11 harg11 arg12 harg12 x2 x3 x4 x5 x6) (shapeCast S256x128 (View.readAt (Elt F) arg7.view (Rect.unit (s := S256x128) ![0, 0] S256x128.size whole_inb).toLoadRect (harg7.unread x7)) shapeCasts_S256x128_S256x128) (shapeCast S256x128 (View.readAt (Elt F) arg8.view (Rect.unit (s := S256x128) ![0, 0] S256x128.size whole_inb).toLoadRect (harg8.unread x8)) shapeCasts_S256x128_S256x128) (shapeCast S256x128 (View.readAt (Elt F) arg9.view (Rect.unit (s := S256x128) ![0, 0] S256x128.size whole_inb).toLoadRect (harg9.unread x9)) shapeCasts_S256x128_S256x128)) rfl ?_
    rw [first_fin14, whole_read arg7 harg7, whole_read arg8 harg8, whole_read arg9 harg9]; rfl
  · refine Eq.trans (b := truncf .bf16 (runFirst.sl.r_34 c i arg2 harg2 arg3 harg3 arg4 harg4 arg5 harg5 arg6 harg6 arg7 harg7 arg8 harg8 arg9 harg9 arg10 harg10 arg11 harg11 arg12 harg12 x2 x3 x4 x5 x6) bitsLt_bf16_f32) rfl ?_
    rw [first_fin15]; rfl

set_option maxHeartbeats 4000000 in
/-- The scratch the body leaves. -/
theorem first_scr (hc0 : firstBlock i) : (runFirst c i arg2 harg2 arg3 harg3 arg4 harg4 arg5 harg5 arg6 harg6 arg7 harg7 arg8 harg8 arg9 harg9 arg10 harg10 arg11 harg11 arg12 harg12 hc0 x2 x3 x4 x5 x6 x7 x8 x9 d10 d11 s).2.2.1 = (scrAt (keysOf x2) (valsOf x2) x3 x4 x5 x6 (qb i) zeros (16 - (i 1).val)) := by
  unfold runFirst; dsimp only
  exact tail_read (kk := keysOf x2) (vv := valsOf x2) (hinit := (first_init c i arg2 harg2 arg3 harg3 arg4 harg4 arg5 harg5 arg6 harg6 x2 x3 x4 x5 x6)) (hG := (first_base c i arg2 harg2 arg3 harg3 arg4 harg4 arg5 harg5 arg6 harg6 arg12 x2 x3 x4 x5 x6))
    (hk0 := first_k0 c arg2 harg2 x2) (hk1 := first_k1 c arg2 harg2 x2) (hk2 := first_k2 c arg2 harg2 x2) (hk3 := first_k3 c arg2 harg2 x2) (hk4 := first_k4 c arg2 harg2 x2) (hk5 := first_k5 c arg2 harg2 x2) (hk6 := first_k6 c arg2 harg2 x2) (hk7 := first_k7 c arg2 harg2 x2) (hv0 := first_v0 c arg2 harg2 x2) (hv1 := first_v1 c arg2 harg2 x2) (hv2 := first_v2 c arg2 harg2 x2) (hv3 := first_v3 c arg2 harg2 x2) (hv4 := first_v4 c arg2 harg2 x2) (hv5 := first_v5 c arg2 harg2 x2) (hv6 := first_v6 c arg2 harg2 x2) (hv7 := first_v7 c arg2 harg2 x2) ..

end First

end Cert.KernelIdeal.AttnBwd

end
-- ==== Proof.LaterStart.lean ====
/- What the body of attn_bwd leaves at a later block of keys. -/
module

public import proofs.«01_k».proof.Proof.BodyRun
public import proofs.«01_k».proof.Proof.Tail

@[expose] public section

set_option maxRecDepth 16384

noncomputable section

namespace Cert.KernelIdeal.AttnBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable {F : FTy → Type} [FloatOps F] [Named F]

section Later

variable (c : Dev nD) (i : grid0.Coords) (arg2 : Memref sig .tc .vmem S256x2048 .bf16) (harg2 : arg2.IsWhole) (arg3 : Memref sig .tc .vmem S4096x1024 .bf16) (harg3 : arg3.IsWhole) (arg4 : Memref sig .tc .vmem S4096x1024 .bf16) (harg4 : arg4.IsWhole) (arg5 : Memref sig .tc .vmem S8x16x1x256 .f32) (harg5 : arg5.IsWhole) (arg6 : Memref sig .tc .vmem S8x16x1x256 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x1024 .bf16) (harg10 : arg10.IsWhole) (arg11 : Memref sig .tc .vmem S256x2048 .bf16) (harg11 : arg11.IsWhole) (arg12 : Memref sig .tc .vmem S4096x1024 .f32) (harg12 : arg12.IsWhole) (x2 : Vec F S256x2048 .bf16) (x3 : Vec F S4096x1024 .bf16) (x4 : Vec F S4096x1024 .bf16) (x5 : Vec F S8x16x1x256 .f32) (x6 : Vec F S8x16x1x256 .f32) (x7 : Vec F S256x128 .f32) (x8 : Vec F S256x128 .f32) (x9 : Vec F S256x128 .f32) (d10 : Vec F S256x1024 .bf16) (d11 : Vec F S256x2048 .bf16) (s : Vec F S4096x1024 .f32)

/-- Head 0's keys. -/
theorem later_k0 : (runLater.sl.v4 c arg2 harg2 x2) = keysOf x2 0 :=
  half_read arg2 harg2 x2 ⟨2 * (0 : Fin 8).val, by decide⟩ ![0, 0] _ rfl _
/-- Head 0's values. -/
theorem later_v0 : (runLater.sl.v20 c arg2 harg2 x2) = valsOf x2 0 :=
  half_read arg2 harg2 x2 ⟨2 * (0 : Fin 8).val + 1, by decide⟩ ![0, 128] _ rfl _
/-- Head 1's keys. -/
theorem later_k1 : (runLater.sl.v6 c arg2 harg2 x2) = keysOf x2 1 :=
  half_read arg2 harg2 x2 ⟨2 * (1 : Fin 8).val, by decide⟩ ![0, 256] _ rfl _
/-- Head 1's values. -/
theorem later_v1 : (runLater.sl.v22 c arg2 harg2 x2) = valsOf x2 1 :=
  half_read arg2 harg2 x2 ⟨2 * (1 : Fin 8).val + 1, by decide⟩ ![0, 384] _ rfl _
/-- Head 2's keys. -/
theorem later_k2 : (runLater.sl.v8 c arg2 harg2 x2) = keysOf x2 2 :=
  half_read arg2 harg2 x2 ⟨2 * (2 : Fin 8).val, by decide⟩ ![0, 512] _ rfl _
/-- Head 2's values. -/
theorem later_v2 : (runLater.sl.v24 c arg2 harg2 x2) = valsOf x2 2 :=
  half_read arg2 harg2 x2 ⟨2 * (2 : Fin 8).val + 1, by decide⟩ ![0, 640] _ rfl _
/-- Head 3's keys. -/
theorem later_k3 : (runLater.sl.v10 c arg2 harg2 x2) = keysOf x2 3 :=
  half_read arg2 harg2 x2 ⟨2 * (3 : Fin 8).val, by decide⟩ ![0, 768] _ rfl _
/-- Head 3's values. -/
theorem later_v3 : (runLater.sl.v26 c arg2 harg2 x2) = valsOf x2 3 :=
  half_read arg2 harg2 x2 ⟨2 * (3 : Fin 8).val + 1, by decide⟩ ![0, 896] _ rfl _
/-- Head 4's keys. -/
theorem later_k4 : (runLater.sl.v12 c arg2 harg2 x2) = keysOf x2 4 :=
  half_read arg2 harg2 x2 ⟨2 * (4 : Fin 8).val, by decide⟩ ![0, 1024] _ rfl _
/-- Head 4's values. -/
theorem later_v4 : (runLater.sl.v28 c arg2 harg2 x2) = valsOf x2 4 :=
  half_read arg2 harg2 x2 ⟨2 * (4 : Fin 8).val + 1, by decide⟩ ![0, 1152] _ rfl _
/-- Head 5's keys. -/
theorem later_k5 : (runLater.sl.v14 c arg2 harg2 x2) = keysOf x2 5 :=
  half_read arg2 harg2 x2 ⟨2 * (5 : Fin 8).val, by decide⟩ ![0, 1280] _ rfl _
/-- Head 5's values. -/
theorem later_v5 : (runLater.sl.v30 c arg2 harg2 x2) = valsOf x2 5 :=
  half_read arg2 harg2 x2 ⟨2 * (5 : Fin 8).val + 1, by decide⟩ ![0, 1408] _ rfl _
/-- Head 6's keys. -/
theorem later_k6 : (runLater.sl.v16 c arg2 harg2 x2) = keysOf x2 6 :=
  half_read arg2 harg2 x2 ⟨2 * (6 : Fin 8).val, by decide⟩ ![0, 1536] _ rfl _
/-- Head 6's values. -/
theorem later_v6 : (runLater.sl.v32 c arg2 harg2 x2) = valsOf x2 6 :=
  half_read arg2 harg2 x2 ⟨2 * (6 : Fin 8).val + 1, by decide⟩ ![0, 1664] _ rfl _
/-- Head 7's keys. -/
theorem later_k7 : (runLater.sl.v18 c arg2 harg2 x2) = keysOf x2 7 :=
  half_read arg2 harg2 x2 ⟨2 * (7 : Fin 8).val, by decide⟩ ![0, 1792] _ rfl _
/-- Head 7's values. -/
theorem later_v7 : (runLater.sl.v34 c arg2 harg2 x2) = valsOf x2 7 :=
  half_read arg2 harg2 x2 ⟨2 * (7 : Fin 8).val + 1, by decide⟩ ![0, 1920] _ rfl _

set_option maxHeartbeats 1000000 in
/-- Head 0's key accumulator after the diagonal step. -/
theorem later_dk0 : (runLater.sl.v289 c i arg2 harg2 arg3 harg3 arg4 harg4 arg5 harg5 arg6 harg6 x2 x3 x4 x5 x6) = dkAt (keysOf x2) (valsOf x2) x3 x4 x5 x6 (qb i) 1 0 := by
  have e3 : tile (qb i) 0 x3 = _ := (tile_read arg3 harg3 x3 (qb i) 0 (k0_off1 i) (k0_off1_inb i) (off1_eq i) shapeCasts_S256x128_S256x128).symm
  have e4 : tile (qb i) 0 x4 = _ := (tile_read arg4 harg4 x4 (qb i) 0 (k0_off1 i) (k0_off1_inb i) (off1_eq i) shapeCasts_S256x128_S256x128).symm
  have e5 : rowOf 0 (qb i) x5 = _ := (row_read arg5 harg5 x5 (qb i) 0 (k0_off9 i) (k0_off9_inb i) (off9_eq i)).symm
  have e6 : rowOf 0 (qb i) x6 = _ := (row_read arg6 harg6 x6 (qb i) 0 (k0_off9 i) (k0_off9_inb i) (off9_eq i)).symm
  rw [dkAt_one, ← later_k0 c arg2 harg2 x2, ← later_v0 c arg2 harg2 x2, e3, e4, e5, e6]
  rfl
set_option maxHeartbeats 1000000 in
/-- Head 0's value accumulator after the diagonal step. -/
theorem later_dv0 : (runLater.sl.v287 c i arg2 harg2 arg3 harg3 arg4 harg4 arg5 harg5 x2 x3 x4 x5) = dvAt (keysOf x2) x3 x4 x5 (qb i) 1 0 := by
  have e3 : tile (qb i) 0 x3 = _ := (tile_read arg3 harg3 x3 (qb i) 0 (k0_off1 i) (k0_off1_inb i) (off1_eq i) shapeCasts_S256x128_S256x128).symm
  have e4 : tile (qb i) 0 x4 = _ := (tile_read arg4 harg4 x4 (qb i) 0 (k0_off1 i) (k0_off1_inb i) (off1_eq i) shapeCasts_S256x128_S256x128).symm
  have e5 : rowOf 0 (qb i) x5 = _ := (row_read arg5 harg5 x5 (qb i) 0 (k0_off9 i) (k0_off9_inb i) (off9_eq i)).symm
  rw [dvAt_one, ← later_k0 c arg2 harg2 x2, e3, e4, e5]
  rfl

set_option maxHeartbeats 1000000 in
/-- Head 1's key accumulator after the diagonal step. -/
theorem later_dk1 : (runLater.sl.v301 c i arg2 harg2 arg3 harg3 arg4 harg4 arg5 harg5 arg6 harg6 x2 x3 x4 x5 x6) = dkAt (keysOf x2) (valsOf x2) x3 x4 x5 x6 (qb i) 1 1 := by
  have e3 : tile (qb i) 1 x3 = _ := (tile_read arg3 harg3 x3 (qb i) 1 (k0_off2 i) (k0_off2_inb i) (off2_eq i) shapeCasts_S256x128_S256x128).symm
  have e4 : tile (qb i) 1 x4 = _ := (tile_read arg4 harg4 x4 (qb i) 1 (k0_off2 i) (k0_off2_inb i) (off2_eq i) shapeCasts_S256x128_S256x128).symm
  have e5 : rowOf 1 (qb i) x5 = _ := (row_read arg5 harg5 x5 (qb i) 1 (k0_off10 i) (k0_off10_inb i) (off10_eq i)).symm
  have e6 : rowOf 1 (qb i) x6 = _ := (row_read arg6 harg6 x6 (qb i) 1 (k0_off10 i) (k0_off10_inb i) (off10_eq i)).symm
  rw [dkAt_one, ← later_k1 c arg2 harg2 x2, ← later_v1 c arg2 harg2 x2, e3, e4, e5, e6]
  rfl
set_option maxHeartbeats 1000000 in
/-- Head 1's value accumulator after the diagonal step. -/
theorem later_dv1 : (runLater.sl.v299 c i arg2 harg2 arg3 harg3 arg4 harg4 arg5 harg5 x2 x3 x4 x5) = dvAt (keysOf x2) x3 x4 x5 (qb i) 1 1 := by
  have e3 : tile (qb i) 1 x3 = _ := (tile_read arg3 harg3 x3 (qb i) 1 (k0_off2 i) (k0_off2_inb i) (off2_eq i) shapeCasts_S256x128_S256x128).symm
  have e4 : tile (qb i) 1 x4 = _ := (tile_read arg4 harg4 x4 (qb i) 1 (k0_off2 i) (k0_off2_inb i) (off2_eq i) shapeCasts_S256x128_S256x128).symm
  have e5 : rowOf 1 (qb i) x5 = _ := (row_read arg5 harg5 x5 (qb i) 1 (k0_off10 i) (k0_off10_inb i) (off10_eq i)).symm
  rw [dvAt_one, ← later_k1 c arg2 harg2 x2, e3, e4, e5]
  rfl

set_option maxHeartbeats 1000000 in
/-- Head 2's key accumulator after the diagonal step. -/
theorem later_dk2 : (runLater.sl.v313 c i arg2 harg2 arg3 harg3 arg4 harg4 arg5 harg5 arg6 harg6 x2 x3 x4 x5 x6) = dkAt (keysOf x2) (valsOf x2) x3 x4 x5 x6 (qb i) 1 2 := by
  have e3 : tile (qb i) 2 x3 = _ := (tile_read arg3 harg3 x3 (qb i) 2 (k0_off3 i) (k0_off3_inb i) (off3_eq i) shapeCasts_S256x128_S256x128).symm
  have e4 : tile (qb i) 2 x4 = _ := (tile_read arg4 harg4 x4 (qb i) 2 (k0_off3 i) (k0_off3_inb i) (off3_eq i) shapeCasts_S256x128_S256x128).symm
  have e5 : rowOf 2 (qb i) x5 = _ := (row_read arg5 harg5 x5 (qb i) 2 (k0_off11 i) (k0_off11_inb i) (off11_eq i)).symm
  have e6 : rowOf 2 (qb i) x6 = _ := (row_read arg6 harg6 x6 (qb i) 2 (k0_off11 i) (k0_off11_inb i) (off11_eq i)).symm
  rw [dkAt_one, ← later_k2 c arg2 harg2 x2, ← later_v2 c arg2 harg2 x2, e3, e4, e5, e6]
  rfl
set_option maxHeartbeats 1000000 in
/-- Head 2's value accumulator after the diagonal step. -/
theorem later_dv2 : (runLater.sl.v311 c i arg2 harg2 arg3 harg3 arg4 harg4 arg5 harg5 x2 x3 x4 x5) = dvAt (keysOf x2) x3 x4 x5 (qb i) 1 2 := by
  have e3 : tile (qb i) 2 x3 = _ := (tile_read arg3 harg3 x3 (qb i) 2 (k0_off3 i) (k0_off3_inb i) (off3_eq i) shapeCasts_S256x128_S256x128).symm
  have e4 : tile (qb i) 2 x4 = _ := (tile_read arg4 harg4 x4 (qb i) 2 (k0_off3 i) (k0_off3_inb i) (off3_eq i) shapeCasts_S256x128_S256x128).symm
  have e5 : rowOf 2 (qb i) x5 = _ := (row_read arg5 harg5 x5 (qb i) 2 (k0_off11 i) (k0_off11_inb i) (off11_eq i)).symm
  rw [dvAt_one, ← later_k2 c arg2 harg2 x2, e3, e4, e5]
  rfl

set_option maxHeartbeats 1000000 in
/-- Head 3's key accumulator after the diagonal step. -/
theorem later_dk3 : (runLater.sl.v325 c i arg2 harg2 arg3 harg3 arg4 harg4 arg5 harg5 arg6 harg6 x2 x3 x4 x5 x6) = dkAt (keysOf x2) (valsOf x2) x3 x4 x5 x6 (qb i) 1 3 := by
  have e3 : tile (qb i) 3 x3 = _ := (tile_read arg3 harg3 x3 (qb i) 3 (k0_off4 i) (k0_off4_inb i) (off4_eq i) shapeCasts_S256x128_S256x128).symm
  have e4 : tile (qb i) 3 x4 = _ := (tile_read arg4 harg4 x4 (qb i) 3 (k0_off4 i) (k0_off4_inb i) (off4_eq i) shapeCasts_S256x128_S256x128).symm
  have e5 : rowOf 3 (qb i) x5 = _ := (row_read arg5 harg5 x5 (qb i) 3 (k0_off12 i) (k0_off12_inb i) (off12_eq i)).symm
  have e6 : rowOf 3 (qb i) x6 = _ := (row_read arg6 harg6 x6 (qb i) 3 (k0_off12 i) (k0_off12_inb i) (off12_eq i)).symm
  rw [dkAt_one, ← later_k3 c arg2 harg2 x2, ← later_v3 c arg2 harg2 x2, e3, e4, e5, e6]
  rfl
set_option maxHeartbeats 1000000 in
/-- Head 3's value accumulator after the diagonal step. -/
theorem later_dv3 : (runLater.sl.v323 c i arg2 harg2 arg3 harg3 arg4 harg4 arg5 harg5 x2 x3 x4 x5) = dvAt (keysOf x2) x3 x4 x5 (qb i) 1 3 := by
  have e3 : tile (qb i) 3 x3 = _ := (tile_read arg3 harg3 x3 (qb i) 3 (k0_off4 i) (k0_off4_inb i) (off4_eq i) shapeCasts_S256x128_S256x128).symm
  have e4 : tile (qb i) 3 x4 = _ := (tile_read arg4 harg4 x4 (qb i) 3 (k0_off4 i) (k0_off4_inb i) (off4_eq i) shapeCasts_S256x128_S256x128).symm
  have e5 : rowOf 3 (qb i) x5 = _ := (row_read arg5 harg5 x5 (qb i) 3 (k0_off12 i) (k0_off12_inb i) (off12_eq i)).symm
  rw [dvAt_one, ← later_k3 c arg2 harg2 x2, e3, e4, e5]
  rfl

set_option maxHeartbeats 1000000 in
/-- Head 4's key accumulator after the diagonal step. -/
theorem later_dk4 : (runLater.sl.v337 c i arg2 harg2 arg3 harg3 arg4 harg4 arg5 harg5 arg6 harg6 x2 x3 x4 x5 x6) = dkAt (keysOf x2) (valsOf x2) x3 x4 x5 x6 (qb i) 1 4 := by
  have e3 : tile (qb i) 4 x3 = _ := (tile_read arg3 harg3 x3 (qb i) 4 (k0_off5 i) (k0_off5_inb i) (off5_eq i) shapeCasts_S256x128_S256x128).symm
  have e4 : tile (qb i) 4 x4 = _ := (tile_read arg4 harg4 x4 (qb i) 4 (k0_off5 i) (k0_off5_inb i) (off5_eq i) shapeCasts_S256x128_S256x128).symm
  have e5 : rowOf 4 (qb i) x5 = _ := (row_read arg5 harg5 x5 (qb i) 4 (k0_off13 i) (k0_off13_inb i) (off13_eq i)).symm
  have e6 : rowOf 4 (qb i) x6 = _ := (row_read arg6 harg6 x6 (qb i) 4 (k0_off13 i) (k0_off13_inb i) (off13_eq i)).symm
  rw [dkAt_one, ← later_k4 c arg2 harg2 x2, ← later_v4 c arg2 harg2 x2, e3, e4, e5, e6]
  rfl
set_option maxHeartbeats 1000000 in
/-- Head 4's value accumulator after the diagonal step. -/
theorem later_dv4 : (runLater.sl.v335 c i arg2 harg2 arg3 harg3 arg4 harg4 arg5 harg5 x2 x3 x4 x5) = dvAt (keysOf x2) x3 x4 x5 (qb i) 1 4 := by
  have e3 : tile (qb i) 4 x3 = _ := (tile_read arg3 harg3 x3 (qb i) 4 (k0_off5 i) (k0_off5_inb i) (off5_eq i) shapeCasts_S256x128_S256x128).symm
  have e4 : tile (qb i) 4 x4 = _ := (tile_read arg4 harg4 x4 (qb i) 4 (k0_off5 i) (k0_off5_inb i) (off5_eq i) shapeCasts_S256x128_S256x128).symm
  have e5 : rowOf 4 (qb i) x5 = _ := (row_read arg5 harg5 x5 (qb i) 4 (k0_off13 i) (k0_off13_inb i) (off13_eq i)).symm
  rw [dvAt_one, ← later_k4 c arg2 harg2 x2, e3, e4, e5]
  rfl

set_option maxHeartbeats 1000000 in
/-- Head 5's key accumulator after the diagonal step. -/
theorem later_dk5 : (runLater.sl.v349 c i arg2 harg2 arg3 harg3 arg4 harg4 arg5 harg5 arg6 harg6 x2 x3 x4 x5 x6) = dkAt (keysOf x2) (valsOf x2) x3 x4 x5 x6 (qb i) 1 5 := by
  have e3 : tile (qb i) 5 x3 = _ := (tile_read arg3 harg3 x3 (qb i) 5 (k0_off6 i) (k0_off6_inb i) (off6_eq i) shapeCasts_S256x128_S256x128).symm
  have e4 : tile (qb i) 5 x4 = _ := (tile_read arg4 harg4 x4 (qb i) 5 (k0_off6 i) (k0_off6_inb i) (off6_eq i) shapeCasts_S256x128_S256x128).symm
  have e5 : rowOf 5 (qb i) x5 = _ := (row_read arg5 harg5 x5 (qb i) 5 (k0_off14 i) (k0_off14_inb i) (off14_eq i)).symm
  have e6 : rowOf 5 (qb i) x6 = _ := (row_read arg6 harg6 x6 (qb i) 5 (k0_off14 i) (k0_off14_inb i) (off14_eq i)).symm
  rw [dkAt_one, ← later_k5 c arg2 harg2 x2, ← later_v5 c arg2 harg2 x2, e3, e4, e5, e6]
  rfl
set_option maxHeartbeats 1000000 in
/-- Head 5's value accumulator after the diagonal step. -/
theorem later_dv5 : (runLater.sl.v347 c i arg2 harg2 arg3 harg3 arg4 harg4 arg5 harg5 x2 x3 x4 x5) = dvAt (keysOf x2) x3 x4 x5 (qb i) 1 5 := by
  have e3 : tile (qb i) 5 x3 = _ := (tile_read arg3 harg3 x3 (qb i) 5 (k0_off6 i) (k0_off6_inb i) (off6_eq i) shapeCasts_S256x128_S256x128).symm
  have e4 : tile (qb i) 5 x4 = _ := (tile_read arg4 harg4 x4 (qb i) 5 (k0_off6 i) (k0_off6_inb i) (off6_eq i) shapeCasts_S256x128_S256x128).symm
  have e5 : rowOf 5 (qb i) x5 = _ := (row_read arg5 harg5 x5 (qb i) 5 (k0_off14 i) (k0_off14_inb i) (off14_eq i)).symm
  rw [dvAt_one, ← later_k5 c arg2 harg2 x2, e3, e4, e5]
  rfl

set_option maxHeartbeats 1000000 in
/-- Head 6's key accumulator after the diagonal step. -/
theorem later_dk6 : (k0_pay243 runLater.sl.v35 (runLater.sl.v58 c i arg3 harg3 x3) (runLater.sl.r_17 c i arg2 harg2 arg3 harg3 arg4 harg4 arg5 harg5 arg6 harg6 x2 x3 x4 x5 x6)) = dkAt (keysOf x2) (valsOf x2) x3 x4 x5 x6 (qb i) 1 6 := by
  have e3 : tile (qb i) 6 x3 = _ := (tile_read arg3 harg3 x3 (qb i) 6 (k0_off7 i) (k0_off7_inb i) (off7_eq i) shapeCasts_S256x128_S256x128).symm
  have e4 : tile (qb i) 6 x4 = _ := (tile_read arg4 harg4 x4 (qb i) 6 (k0_off7 i) (k0_off7_inb i) (off7_eq i) shapeCasts_S256x128_S256x128).symm
  have e5 : rowOf 6 (qb i) x5 = _ := (row_read arg5 harg5 x5 (qb i) 6 (k0_off15 i) (k0_off15_inb i) (off15_eq i)).symm
  have e6 : rowOf 6 (qb i) x6 = _ := (row_read arg6 harg6 x6 (qb i) 6 (k0_off15 i) (k0_off15_inb i) (off15_eq i)).symm
  rw [dkAt_one, ← later_k6 c arg2 harg2 x2, ← later_v6 c arg2 harg2 x2, e3, e4, e5, e6]
  rfl
set_option maxHeartbeats 1000000 in
/-- Head 6's value accumulator after the diagonal step. -/
theorem later_dv6 : (runLater.sl.v359 c i arg2 harg2 arg3 harg3 arg4 harg4 arg5 harg5 x2 x3 x4 x5) = dvAt (keysOf x2) x3 x4 x5 (qb i) 1 6 := by
  have e3 : tile (qb i) 6 x3 = _ := (tile_read arg3 harg3 x3 (qb i) 6 (k0_off7 i) (k0_off7_inb i) (off7_eq i) shapeCasts_S256x128_S256x128).symm
  have e4 : tile (qb i) 6 x4 = _ := (tile_read arg4 harg4 x4 (qb i) 6 (k0_off7 i) (k0_off7_inb i) (off7_eq i) shapeCasts_S256x128_S256x128).symm
  have e5 : rowOf 6 (qb i) x5 = _ := (row_read arg5 harg5 x5 (qb i) 6 (k0_off15 i) (k0_off15_inb i) (off15_eq i)).symm
  rw [dvAt_one, ← later_k6 c arg2 harg2 x2, e3, e4, e5]
  rfl

set_option maxHeartbeats 1000000 in
/-- Head 7's key accumulator after the diagonal step. -/
theorem later_dk7 : (k0_pay246 runLater.sl.v35 (runLater.sl.v61 c i arg3 harg3 x3) (runLater.sl.v285 c i arg2 harg2 arg3 harg3 arg4 harg4 arg5 harg5 arg6 harg6 x2 x3 x4 x5 x6)) = dkAt (keysOf x2) (valsOf x2) x3 x4 x5 x6 (qb i) 1 7 := by
  have e3 : tile (qb i) 7 x3 = _ := (tile_read arg3 harg3 x3 (qb i) 7 (k0_off8 i) (k0_off8_inb i) (off8_eq i) shapeCasts_S256x128_S256x128).symm
  have e4 : tile (qb i) 7 x4 = _ := (tile_read arg4 harg4 x4 (qb i) 7 (k0_off8 i) (k0_off8_inb i) (off8_eq i) shapeCasts_S256x128_S256x128).symm
  have e5 : rowOf 7 (qb i) x5 = _ := (row_read arg5 harg5 x5 (qb i) 7 (k0_off16 i) (k0_off16_inb i) (off16_eq i)).symm
  have e6 : rowOf 7 (qb i) x6 = _ := (row_read arg6 harg6 x6 (qb i) 7 (k0_off16 i) (k0_off16_inb i) (off16_eq i)).symm
  rw [dkAt_one, ← later_k7 c arg2 harg2 x2, ← later_v7 c arg2 harg2 x2, e3, e4, e5, e6]
  rfl
set_option maxHeartbeats 1000000 in
/-- Head 7's value accumulator after the diagonal step. -/
theorem later_dv7 : (k0_pay245 runLater.sl.v35 (runLater.sl.v85 c i arg4 harg4 x4) (runLater.sl.r_19 c i arg2 harg2 arg3 harg3 arg5 harg5 x2 x3 x5)) = dvAt (keysOf x2) x3 x4 x5 (qb i) 1 7 := by
  have e3 : tile (qb i) 7 x3 = _ := (tile_read arg3 harg3 x3 (qb i) 7 (k0_off8 i) (k0_off8_inb i) (off8_eq i) shapeCasts_S256x128_S256x128).symm
  have e4 : tile (qb i) 7 x4 = _ := (tile_read arg4 harg4 x4 (qb i) 7 (k0_off8 i) (k0_off8_inb i) (off8_eq i) shapeCasts_S256x128_S256x128).symm
  have e5 : rowOf 7 (qb i) x5 = _ := (row_read arg5 harg5 x5 (qb i) 7 (k0_off16 i) (k0_off16_inb i) (off16_eq i)).symm
  rw [dvAt_one, ← later_k7 c arg2 harg2 x2, e3, e4, e5]
  rfl

/-- What the loop is given. -/
theorem later_init : ((runLater.sl.v289 c i arg2 harg2 arg3 harg3 arg4 harg4 arg5 harg5 arg6 harg6 x2 x3 x4 x5 x6), (runLater.sl.v287 c i arg2 harg2 arg3 harg3 arg4 harg4 arg5 harg5 x2 x3 x4 x5), (runLater.sl.v301 c i arg2 harg2 arg3 harg3 arg4 harg4 arg5 harg5 arg6 harg6 x2 x3 x4 x5 x6), (runLater.sl.v299 c i arg2 harg2 arg3 harg3 arg4 harg4 arg5 harg5 x2 x3 x4 x5), (runLater.sl.v313 c i arg2 harg2 arg3 harg3 arg4 harg4 arg5 harg5 arg6 harg6 x2 x3 x4 x5 x6), (runLater.sl.v311 c i arg2 harg2 arg3 harg3 arg4 harg4 arg5 harg5 x2 x3 x4 x5), (runLater.sl.v325 c i arg2 harg2 arg3 harg3 arg4 harg4 arg5 harg5 arg6 harg6 x2 x3 x4 x5 x6), (runLater.sl.v323 c i arg2 harg2 arg3 harg3 arg4 harg4 arg5 harg5 x2 x3 x4 x5), (runLater.sl.v337 c i arg2 harg2 arg3 harg3 arg4 harg4 arg5 harg5 arg6 harg6 x2 x3 x4 x5 x6), (runLater.sl.v335 c i arg2 harg2 arg3 harg3 arg4 harg4 arg5 harg5 x2 x3 x4 x5), (runLater.sl.v349 c i arg2 harg2 arg3 harg3 arg4 harg4 arg5 harg5 arg6 harg6 x2 x3 x4 x5 x6), (runLater.sl.v347 c i arg2 harg2 arg3 harg3 arg4 harg4 arg5 harg5 x2 x3 x4 x5), (k0_pay243 runLater.sl.v35 (runLater.sl.v58 c i arg3 harg3 x3) (runLater.sl.r_17 c i arg2 harg2 arg3 harg3 arg4 harg4 arg5 harg5 arg6 harg6 x2 x3 x4 x5 x6)), (runLater.sl.v359 c i arg2 harg2 arg3 harg3 arg4 harg4 arg5 harg5 x2 x3 x4 x5), (k0_pay246 runLater.sl.v35 (runLater.sl.v61 c i arg3 harg3 x3) (runLater.sl.v285 c i arg2 harg2 arg3 harg3 arg4 harg4 arg5 harg5 arg6 harg6 x2 x3 x4 x5 x6)), (k0_pay245 runLater.sl.v35 (runLater.sl.v85 c i arg4 harg4 x4) (runLater.sl.r_19 c i arg2 harg2 arg3 harg3 arg5 harg5 x2 x3 x5))) = carryOf (dkAt (keysOf x2) (valsOf x2) x3 x4 x5 x6 (qb i) 1) (dvAt (keysOf x2) x3 x4 x5 (qb i) 1) := by
  unfold carryOf
  rw [later_dk0, later_dv0, later_dk1, later_dv1, later_dk2, later_dv2, later_dk3, later_dv3, later_dk4, later_dv4, later_dk5, later_dv5, later_dk6, later_dv6, later_dk7, later_dv7]

set_option maxHeartbeats 1000000 in
/-- Head 0's stored tile of the queries' accumulator. -/
theorem later_pay0 : (runLater.sl.v297 c i arg2 harg2 arg3 harg3 arg4 harg4 arg5 harg5 arg6 harg6 arg12 harg12 x2 x3 x4 x5 x6 s) = accumT (tile (qb i) 0 (arg12.view.read (Elt F) (harg12.unread s))) (dsOf true (keysOf x2 0) (valsOf x2 0) (tile (qb i) 0 x3) (tile (qb i) 0 x4) (rowOf 0 (qb i) x5) (rowOf 0 (qb i) x6)) (keysOf x2 0) := by
  have e3 : tile (qb i) 0 x3 = _ := (tile_read arg3 harg3 x3 (qb i) 0 (k0_off1 i) (k0_off1_inb i) (off1_eq i) shapeCasts_S256x128_S256x128).symm
  have e4 : tile (qb i) 0 x4 = _ := (tile_read arg4 harg4 x4 (qb i) 0 (k0_off1 i) (k0_off1_inb i) (off1_eq i) shapeCasts_S256x128_S256x128).symm
  have e5 : rowOf 0 (qb i) x5 = _ := (row_read arg5 harg5 x5 (qb i) 0 (k0_off9 i) (k0_off9_inb i) (off9_eq i)).symm
  have e6 : rowOf 0 (qb i) x6 = _ := (row_read arg6 harg6 x6 (qb i) 0 (k0_off9 i) (k0_off9_inb i) (off9_eq i)).symm
  rw [← later_k0 c arg2 harg2 x2, ← later_v0 c arg2 harg2 x2, e3, e4, e5, e6, ← tile_readAt arg12 _ (qb i) 0 (k0_off1 i) (k0_off1_inb i) (off1_eq i)]
  exact shapeCast_self (s := S256x128) _ shapeCasts_S256x128_S256x128

set_option maxHeartbeats 1000000 in
/-- Head 1's stored tile of the queries' accumulator. -/
theorem later_pay1 : (runLater.sl.v309 c i arg2 harg2 arg3 harg3 arg4 harg4 arg5 harg5 arg6 harg6 arg12 harg12 x2 x3 x4 x5 x6 s) = accumT (tile (qb i) 1 (arg12.view.read (Elt F) (harg12.unread s))) (dsOf true (keysOf x2 1) (valsOf x2 1) (tile (qb i) 1 x3) (tile (qb i) 1 x4) (rowOf 1 (qb i) x5) (rowOf 1 (qb i) x6)) (keysOf x2 1) := by
  have e3 : tile (qb i) 1 x3 = _ := (tile_read arg3 harg3 x3 (qb i) 1 (k0_off2 i) (k0_off2_inb i) (off2_eq i) shapeCasts_S256x128_S256x128).symm
  have e4 : tile (qb i) 1 x4 = _ := (tile_read arg4 harg4 x4 (qb i) 1 (k0_off2 i) (k0_off2_inb i) (off2_eq i) shapeCasts_S256x128_S256x128).symm
  have e5 : rowOf 1 (qb i) x5 = _ := (row_read arg5 harg5 x5 (qb i) 1 (k0_off10 i) (k0_off10_inb i) (off10_eq i)).symm
  have e6 : rowOf 1 (qb i) x6 = _ := (row_read arg6 harg6 x6 (qb i) 1 (k0_off10 i) (k0_off10_inb i) (off10_eq i)).symm
  rw [← later_k1 c arg2 harg2 x2, ← later_v1 c arg2 harg2 x2, e3, e4, e5, e6, ← tile_readAt arg12 _ (qb i) 1 (k0_off2 i) (k0_off2_inb i) (off2_eq i)]
  exact shapeCast_self (s := S256x128) _ shapeCasts_S256x128_S256x128

set_option maxHeartbeats 1000000 in
/-- Head 2's stored tile of the queries' accumulator. -/
theorem later_pay2 : (runLater.sl.v321 c i arg2 harg2 arg3 harg3 arg4 harg4 arg5 harg5 arg6 harg6 arg12 harg12 x2 x3 x4 x5 x6 s) = accumT (tile (qb i) 2 (arg12.view.read (Elt F) (harg12.unread s))) (dsOf true (keysOf x2 2) (valsOf x2 2) (tile (qb i) 2 x3) (tile (qb i) 2 x4) (rowOf 2 (qb i) x5) (rowOf 2 (qb i) x6)) (keysOf x2 2) := by
  have e3 : tile (qb i) 2 x3 = _ := (tile_read arg3 harg3 x3 (qb i) 2 (k0_off3 i) (k0_off3_inb i) (off3_eq i) shapeCasts_S256x128_S256x128).symm
  have e4 : tile (qb i) 2 x4 = _ := (tile_read arg4 harg4 x4 (qb i) 2 (k0_off3 i) (k0_off3_inb i) (off3_eq i) shapeCasts_S256x128_S256x128).symm
  have e5 : rowOf 2 (qb i) x5 = _ := (row_read arg5 harg5 x5 (qb i) 2 (k0_off11 i) (k0_off11_inb i) (off11_eq i)).symm
  have e6 : rowOf 2 (qb i) x6 = _ := (row_read arg6 harg6 x6 (qb i) 2 (k0_off11 i) (k0_off11_inb i) (off11_eq i)).symm
  rw [← later_k2 c arg2 harg2 x2, ← later_v2 c arg2 harg2 x2, e3, e4, e5, e6, ← tile_readAt arg12 _ (qb i) 2 (k0_off3 i) (k0_off3_inb i) (off3_eq i)]
  exact shapeCast_self (s := S256x128) _ shapeCasts_S256x128_S256x128

set_option maxHeartbeats 1000000 in
/-- Head 3's stored tile of the queries' accumulator. -/
theorem later_pay3 : (runLater.sl.v333 c i arg2 harg2 arg3 harg3 arg4 harg4 arg5 harg5 arg6 harg6 arg12 harg12 x2 x3 x4 x5 x6 s) = accumT (tile (qb i) 3 (arg12.view.read (Elt F) (harg12.unread s))) (dsOf true (keysOf x2 3) (valsOf x2 3) (tile (qb i) 3 x3) (tile (qb i) 3 x4) (rowOf 3 (qb i) x5) (rowOf 3 (qb i) x6)) (keysOf x2 3) := by
  have e3 : tile (qb i) 3 x3 = _ := (tile_read arg3 harg3 x3 (qb i) 3 (k0_off4 i) (k0_off4_inb i) (off4_eq i) shapeCasts_S256x128_S256x128).symm
  have e4 : tile (qb i) 3 x4 = _ := (tile_read arg4 harg4 x4 (qb i) 3 (k0_off4 i) (k0_off4_inb i) (off4_eq i) shapeCasts_S256x128_S256x128).symm
  have e5 : rowOf 3 (qb i) x5 = _ := (row_read arg5 harg5 x5 (qb i) 3 (k0_off12 i) (k0_off12_inb i) (off12_eq i)).symm
  have e6 : rowOf 3 (qb i) x6 = _ := (row_read arg6 harg6 x6 (qb i) 3 (k0_off12 i) (k0_off12_inb i) (off12_eq i)).symm
  rw [← later_k3 c arg2 harg2 x2, ← later_v3 c arg2 harg2 x2, e3, e4, e5, e6, ← tile_readAt arg12 _ (qb i) 3 (k0_off4 i) (k0_off4_inb i) (off4_eq i)]
  exact shapeCast_self (s := S256x128) _ shapeCasts_S256x128_S256x128

set_option maxHeartbeats 1000000 in
/-- Head 4's stored tile of the queries' accumulator. -/
theorem later_pay4 : (runLater.sl.v345 c i arg2 harg2 arg3 harg3 arg4 harg4 arg5 harg5 arg6 harg6 arg12 harg12 x2 x3 x4 x5 x6 s) = accumT (tile (qb i) 4 (arg12.view.read (Elt F) (harg12.unread s))) (dsOf true (keysOf x2 4) (valsOf x2 4) (tile (qb i) 4 x3) (tile (qb i) 4 x4) (rowOf 4 (qb i) x5) (rowOf 4 (qb i) x6)) (keysOf x2 4) := by
  have e3 : tile (qb i) 4 x3 = _ := (tile_read arg3 harg3 x3 (qb i) 4 (k0_off5 i) (k0_off5_inb i) (off5_eq i) shapeCasts_S256x128_S256x128).symm
  have e4 : tile (qb i) 4 x4 = _ := (tile_read arg4 harg4 x4 (qb i) 4 (k0_off5 i) (k0_off5_inb i) (off5_eq i) shapeCasts_S256x128_S256x128).symm
  have e5 : rowOf 4 (qb i) x5 = _ := (row_read arg5 harg5 x5 (qb i) 4 (k0_off13 i) (k0_off13_inb i) (off13_eq i)).symm
  have e6 : rowOf 4 (qb i) x6 = _ := (row_read arg6 harg6 x6 (qb i) 4 (k0_off13 i) (k0_off13_inb i) (off13_eq i)).symm
  rw [← later_k4 c arg2 harg2 x2, ← later_v4 c arg2 harg2 x2, e3, e4, e5, e6, ← tile_readAt arg12 _ (qb i) 4 (k0_off5 i) (k0_off5_inb i) (off5_eq i)]
  exact shapeCast_self (s := S256x128) _ shapeCasts_S256x128_S256x128

set_option maxHeartbeats 1000000 in
/-- Head 5's stored tile of the queries' accumulator. -/
theorem later_pay5 : (runLater.sl.v357 c i arg2 harg2 arg3 harg3 arg4 harg4 arg5 harg5 arg6 harg6 arg12 harg12 x2 x3 x4 x5 x6 s) = accumT (tile (qb i) 5 (arg12.view.read (Elt F) (harg12.unread s))) (dsOf true (keysOf x2 5) (valsOf x2 5) (tile (qb i) 5 x3) (tile (qb i) 5 x4) (rowOf 5 (qb i) x5) (rowOf 5 (qb i) x6)) (keysOf x2 5) := by
  have e3 : tile (qb i) 5 x3 = _ := (tile_read arg3 harg3 x3 (qb i) 5 (k0_off6 i) (k0_off6_inb i) (off6_eq i) shapeCasts_S256x128_S256x128).symm
  have e4 : tile (qb i) 5 x4 = _ := (tile_read arg4 harg4 x4 (qb i) 5 (k0_off6 i) (k0_off6_inb i) (off6_eq i) shapeCasts_S256x128_S256x128).symm
  have e5 : rowOf 5 (qb i) x5 = _ := (row_read arg5 harg5 x5 (qb i) 5 (k0_off14 i) (k0_off14_inb i) (off14_eq i)).symm
  have e6 : rowOf 5 (qb i) x6 = _ := (row_read arg6 harg6 x6 (qb i) 5 (k0_off14 i) (k0_off14_inb i) (off14_eq i)).symm
  rw [← later_k5 c arg2 harg2 x2, ← later_v5 c arg2 harg2 x2, e3, e4, e5, e6, ← tile_readAt arg12 _ (qb i) 5 (k0_off6 i) (k0_off6_inb i) (off6_eq i)]
  exact shapeCast_self (s := S256x128) _ shapeCasts_S256x128_S256x128

set_option maxHeartbeats 1000000 in
/-- Head 6's stored tile of the queries' accumulator. -/
theorem later_pay6 : (k0_pay244 (runLater.sl.v16 c arg2 harg2 x2) (runLater.sl.r_17 c i arg2 harg2 arg3 harg3 arg4 harg4 arg5 harg5 arg6 harg6 x2 x3 x4 x5 x6) (runLater.sl.v363 c i arg12 harg12 s)) = accumT (tile (qb i) 6 (arg12.view.read (Elt F) (harg12.unread s))) (dsOf true (keysOf x2 6) (valsOf x2 6) (tile (qb i) 6 x3) (tile (qb i) 6 x4) (rowOf 6 (qb i) x5) (rowOf 6 (qb i) x6)) (keysOf x2 6) := by
  have e3 : tile (qb i) 6 x3 = _ := (tile_read arg3 harg3 x3 (qb i) 6 (k0_off7 i) (k0_off7_inb i) (off7_eq i) shapeCasts_S256x128_S256x128).symm
  have e4 : tile (qb i) 6 x4 = _ := (tile_read arg4 harg4 x4 (qb i) 6 (k0_off7 i) (k0_off7_inb i) (off7_eq i) shapeCasts_S256x128_S256x128).symm
  have e5 : rowOf 6 (qb i) x5 = _ := (row_read arg5 harg5 x5 (qb i) 6 (k0_off15 i) (k0_off15_inb i) (off15_eq i)).symm
  have e6 : rowOf 6 (qb i) x6 = _ := (row_read arg6 harg6 x6 (qb i) 6 (k0_off15 i) (k0_off15_inb i) (off15_eq i)).symm
  rw [← later_k6 c arg2 harg2 x2, ← later_v6 c arg2 harg2 x2, e3, e4, e5, e6, ← tile_readAt arg12 _ (qb i) 6 (k0_off7 i) (k0_off7_inb i) (off7_eq i)]
  exact shapeCast_self (s := S256x128) _ shapeCasts_S256x128_S256x128

set_option maxHeartbeats 1000000 in
/-- Head 7's stored tile of the queries' accumulator. -/
theorem later_pay7 : (k0_pay247 (runLater.sl.v18 c arg2 harg2 x2) (runLater.sl.v285 c i arg2 harg2 arg3 harg3 arg4 harg4 arg5 harg5 arg6 harg6 x2 x3 x4 x5 x6) (runLater.sl.v375 c i arg12 harg12 s)) = accumT (tile (qb i) 7 (arg12.view.read (Elt F) (harg12.unread s))) (dsOf true (keysOf x2 7) (valsOf x2 7) (tile (qb i) 7 x3) (tile (qb i) 7 x4) (rowOf 7 (qb i) x5) (rowOf 7 (qb i) x6)) (keysOf x2 7) := by
  have e3 : tile (qb i) 7 x3 = _ := (tile_read arg3 harg3 x3 (qb i) 7 (k0_off8 i) (k0_off8_inb i) (off8_eq i) shapeCasts_S256x128_S256x128).symm
  have e4 : tile (qb i) 7 x4 = _ := (tile_read arg4 harg4 x4 (qb i) 7 (k0_off8 i) (k0_off8_inb i) (off8_eq i) shapeCasts_S256x128_S256x128).symm
  have e5 : rowOf 7 (qb i) x5 = _ := (row_read arg5 harg5 x5 (qb i) 7 (k0_off16 i) (k0_off16_inb i) (off16_eq i)).symm
  have e6 : rowOf 7 (qb i) x6 = _ := (row_read arg6 harg6 x6 (qb i) 7 (k0_off16 i) (k0_off16_inb i) (off16_eq i)).symm
  rw [← later_k7 c arg2 harg2 x2, ← later_v7 c arg2 harg2 x2, e3, e4, e5, e6, ← tile_readAt arg12 _ (qb i) 7 (k0_off8 i) (k0_off8_inb i) (off8_eq i)]
  exact shapeCast_self (s := S256x128) _ shapeCasts_S256x128_S256x128

set_option maxHeartbeats 2000000 in
/-- The queries' accumulator after the diagonal step. -/
theorem later_base : arg12.view.read (Elt F) (arg12.view.writes (Elt F) (harg12.unread s) [⟨Rect.unit (s := S4096x1024) (k0_off8 i) S256x128.size (k0_off8_inb i), (k0_pay247 (runLater.sl.v18 c arg2 harg2 x2) (runLater.sl.v285 c i arg2 harg2 arg3 harg3 arg4 harg4 arg5 harg5 arg6 harg6 x2 x3 x4 x5 x6) (runLater.sl.v375 c i arg12 harg12 s))⟩, ⟨Rect.unit (s := S4096x1024) (k0_off7 i) S256x128.size (k0_off7_inb i), (k0_pay244 (runLater.sl.v16 c arg2 harg2 x2) (runLater.sl.r_17 c i arg2 harg2 arg3 harg3 arg4 harg4 arg5 harg5 arg6 harg6 x2 x3 x4 x5 x6) (runLater.sl.v363 c i arg12 harg12 s))⟩, ⟨Rect.unit (s := S4096x1024) (k0_off6 i) S256x128.size (k0_off6_inb i), (runLater.sl.v357 c i arg2 harg2 arg3 harg3 arg4 harg4 arg5 harg5 arg6 harg6 arg12 harg12 x2 x3 x4 x5 x6 s)⟩, ⟨Rect.unit (s := S4096x1024) (k0_off5 i) S256x128.size (k0_off5_inb i), (runLater.sl.v345 c i arg2 harg2 arg3 harg3 arg4 harg4 arg5 harg5 arg6 harg6 arg12 harg12 x2 x3 x4 x5 x6 s)⟩, ⟨Rect.unit (s := S4096x1024) (k0_off4 i) S256x128.size (k0_off4_inb i), (runLater.sl.v333 c i arg2 harg2 arg3 harg3 arg4 harg4 arg5 harg5 arg6 harg6 arg12 harg12 x2 x3 x4 x5 x6 s)⟩, ⟨Rect.unit (s := S4096x1024) (k0_off3 i) S256x128.size (k0_off3_inb i), (runLater.sl.v321 c i arg2 harg2 arg3 harg3 arg4 harg4 arg5 harg5 arg6 harg6 arg12 harg12 x2 x3 x4 x5 x6 s)⟩, ⟨Rect.unit (s := S4096x1024) (k0_off2 i) S256x128.size (k0_off2_inb i), (runLater.sl.v309 c i arg2 harg2 arg3 harg3 arg4 harg4 arg5 harg5 arg6 harg6 arg12 harg12 x2 x3 x4 x5 x6 s)⟩, ⟨Rect.unit (s := S4096x1024) (k0_off1 i) S256x128.size (k0_off1_inb i), (runLater.sl.v297 c i arg2 harg2 arg3 harg3 arg4 harg4 arg5 harg5 arg6 harg6 arg12 harg12 x2 x3 x4 x5 x6 s)⟩]) = scrAt (keysOf x2) (valsOf x2) x3 x4 x5 x6 (qb i) s 1 := by
  rw [scrAt_one]
  refine (scratch_pieces arg12 (harg12.unread s) (qb i) (fun h => dsOf true (keysOf x2 h) (valsOf x2 h) (tile (qb i) h x3) (tile (qb i) h x4) (rowOf h (qb i) x5) (rowOf h (qb i) x6)) (keysOf x2)
    (k0_off1 i) (k0_off1_inb i) (off1_eq i) (k0_off2 i) (k0_off2_inb i) (off2_eq i) (k0_off3 i) (k0_off3_inb i) (off3_eq i) (k0_off4 i) (k0_off4_inb i) (off4_eq i) (k0_off5 i) (k0_off5_inb i) (off5_eq i) (k0_off6 i) (k0_off6_inb i) (off6_eq i) (k0_off7 i) (k0_off7_inb i) (off7_eq i) (k0_off8 i) (k0_off8_inb i) (off8_eq i)
    (runLater.sl.v297 c i arg2 harg2 arg3 harg3 arg4 harg4 arg5 harg5 arg6 harg6 arg12 harg12 x2 x3 x4 x5 x6 s) (runLater.sl.v309 c i arg2 harg2 arg3 harg3 arg4 harg4 arg5 harg5 arg6 harg6 arg12 harg12 x2 x3 x4 x5 x6 s) (runLater.sl.v321 c i arg2 harg2 arg3 harg3 arg4 harg4 arg5 harg5 arg6 harg6 arg12 harg12 x2 x3 x4 x5 x6 s) (runLater.sl.v333 c i arg2 harg2 arg3 harg3 arg4 harg4 arg5 harg5 arg6 harg6 arg12 harg12 x2 x3 x4 x5 x6 s) (runLater.sl.v345 c i arg2 harg2 arg3 harg3 arg4 harg4 arg5 harg5 arg6 harg6 arg12 harg12 x2 x3 x4 x5 x6 s) (runLater.sl.v357 c i arg2 harg2 arg3 harg3 arg4 harg4 arg5 harg5 arg6 harg6 arg12 harg12 x2 x3 x4 x5 x6 s) (k0_pay244 (runLater.sl.v16 c arg2 harg2 x2) (runLater.sl.r_17 c i arg2 harg2 arg3 harg3 arg4 harg4 arg5 harg5 arg6 harg6 x2 x3 x4 x5 x6) (runLater.sl.v363 c i arg12 harg12 s)) (k0_pay247 (runLater.sl.v18 c arg2 harg2 x2) (runLater.sl.v285 c i arg2 harg2 arg3 harg3 arg4 harg4 arg5 harg5 arg6 harg6 x2 x3 x4 x5 x6) (runLater.sl.v375 c i arg12 harg12 s)) _ rfl
    (later_pay0 ..) (later_pay1 ..) (later_pay2 ..) (later_pay3 ..) (later_pay4 ..) (later_pay5 ..) (later_pay6 ..) (later_pay7 ..)).trans ?_
  rw [harg12.read_unread]

end Later

end Cert.KernelIdeal.AttnBwd

end
-- ==== Proof.LaterEnd.lean ====
/- What the body of attn_bwd leaves at a later block of keys: after the loops. -/
module

public import proofs.«01_k».proof.Proof.LaterStart

@[expose] public section

set_option maxRecDepth 16384

noncomputable section

namespace Cert.KernelIdeal.AttnBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable {F : FTy → Type} [FloatOps F] [Named F]

section Later

variable (c : Dev nD) (i : grid0.Coords) (arg2 : Memref sig .tc .vmem S256x2048 .bf16) (harg2 : arg2.IsWhole) (arg3 : Memref sig .tc .vmem S4096x1024 .bf16) (harg3 : arg3.IsWhole) (arg4 : Memref sig .tc .vmem S4096x1024 .bf16) (harg4 : arg4.IsWhole) (arg5 : Memref sig .tc .vmem S8x16x1x256 .f32) (harg5 : arg5.IsWhole) (arg6 : Memref sig .tc .vmem S8x16x1x256 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x1024 .bf16) (harg10 : arg10.IsWhole) (arg11 : Memref sig .tc .vmem S256x2048 .bf16) (harg11 : arg11.IsWhole) (arg12 : Memref sig .tc .vmem S4096x1024 .f32) (harg12 : arg12.IsWhole) (x2 : Vec F S256x2048 .bf16) (x3 : Vec F S4096x1024 .bf16) (x4 : Vec F S4096x1024 .bf16) (x5 : Vec F S8x16x1x256 .f32) (x6 : Vec F S8x16x1x256 .f32) (x7 : Vec F S256x128 .f32) (x8 : Vec F S256x128 .f32) (x9 : Vec F S256x128 .f32) (d10 : Vec F S256x1024 .bf16) (d11 : Vec F S256x2048 .bf16) (s : Vec F S4096x1024 .f32)

set_option maxHeartbeats 2000000 in
/-- The final accumulator of keys of head 0, scaled. -/
theorem later_fin0 : (runLater.sl.r_35 c i arg2 harg2 arg3 harg3 arg4 harg4 arg5 harg5 arg6 harg6 arg7 harg7 arg8 harg8 arg9 harg9 arg10 harg10 arg11 harg11 arg12 harg12 x2 x3 x4 x5 x6 s) = mulf (dkAt (keysOf x2) (valsOf x2) x3 x4 x5 x6 (qb i) (16 - (i 1).val) 0) (broadcast S256x128 (Named.named κ "ln2" 0x3F317218#32 : F .f32)) := by
  unfold runLater.sl.r_35
  rw [second_none]
  dsimp only
  exact congrArg (fun z => k0_pay262 z.1) (tail_carry (kk := keysOf x2) (vv := valsOf x2) (hinit := (later_init c i arg2 harg2 arg3 harg3 arg4 harg4 arg5 harg5 arg6 harg6 x2 x3 x4 x5 x6)) (hG := (later_base c i arg2 harg2 arg3 harg3 arg4 harg4 arg5 harg5 arg6 harg6 arg12 harg12 x2 x3 x4 x5 x6 s))
    (hk0 := later_k0 c arg2 harg2 x2) (hk1 := later_k1 c arg2 harg2 x2) (hk2 := later_k2 c arg2 harg2 x2) (hk3 := later_k3 c arg2 harg2 x2) (hk4 := later_k4 c arg2 harg2 x2) (hk5 := later_k5 c arg2 harg2 x2) (hk6 := later_k6 c arg2 harg2 x2) (hk7 := later_k7 c arg2 harg2 x2) (hv0 := later_v0 c arg2 harg2 x2) (hv1 := later_v1 c arg2 harg2 x2) (hv2 := later_v2 c arg2 harg2 x2) (hv3 := later_v3 c arg2 harg2 x2) (hv4 := later_v4 c arg2 harg2 x2) (hv5 := later_v5 c arg2 harg2 x2) (hv6 := later_v6 c arg2 harg2 x2) (hv7 := later_v7 c arg2 harg2 x2) ..)

set_option maxHeartbeats 2000000 in
/-- The final accumulator of values of head 0. -/
theorem later_fin1 : (runLater.sl.r_20 c i arg2 harg2 arg3 harg3 arg4 harg4 arg5 harg5 arg6 harg6 arg7 harg7 arg8 harg8 arg9 harg9 arg10 harg10 arg11 harg11 arg12 harg12 x2 x3 x4 x5 x6 s) = dvAt (keysOf x2) x3 x4 x5 (qb i) (16 - (i 1).val) 0 := by
  unfold runLater.sl.r_20
  rw [second_none]
  dsimp only
  exact congrArg (fun z => z.2.1) (tail_carry (kk := keysOf x2) (vv := valsOf x2) (hinit := (later_init c i arg2 harg2 arg3 harg3 arg4 harg4 arg5 harg5 arg6 harg6 x2 x3 x4 x5 x6)) (hG := (later_base c i arg2 harg2 arg3 harg3 arg4 harg4 arg5 harg5 arg6 harg6 arg12 harg12 x2 x3 x4 x5 x6 s))
    (hk0 := later_k0 c arg2 harg2 x2) (hk1 := later_k1 c arg2 harg2 x2) (hk2 := later_k2 c arg2 harg2 x2) (hk3 := later_k3 c arg2 harg2 x2) (hk4 := later_k4 c arg2 harg2 x2) (hk5 := later_k5 c arg2 harg2 x2) (hk6 := later_k6 c arg2 harg2 x2) (hk7 := later_k7 c arg2 harg2 x2) (hv0 := later_v0 c arg2 harg2 x2) (hv1 := later_v1 c arg2 harg2 x2) (hv2 := later_v2 c arg2 harg2 x2) (hv3 := later_v3 c arg2 harg2 x2) (hv4 := later_v4 c arg2 harg2 x2) (hv5 := later_v5 c arg2 harg2 x2) (hv6 := later_v6 c arg2 harg2 x2) (hv7 := later_v7 c arg2 harg2 x2) ..)

set_option maxHeartbeats 2000000 in
/-- The final accumulator of keys of head 1. -/
theorem later_fin2 : (runLater.sl.r_21 c i arg2 harg2 arg3 harg3 arg4 harg4 arg5 harg5 arg6 harg6 arg7 harg7 arg8 harg8 arg9 harg9 arg10 harg10 arg11 harg11 arg12 harg12 x2 x3 x4 x5 x6 s) = dkAt (keysOf x2) (valsOf x2) x3 x4 x5 x6 (qb i) (16 - (i 1).val) 1 := by
  unfold runLater.sl.r_21
  rw [second_none]
  dsimp only
  exact congrArg (fun z => z.2.2.1) (tail_carry (kk := keysOf x2) (vv := valsOf x2) (hinit := (later_init c i arg2 harg2 arg3 harg3 arg4 harg4 arg5 harg5 arg6 harg6 x2 x3 x4 x5 x6)) (hG := (later_base c i arg2 harg2 arg3 harg3 arg4 harg4 arg5 harg5 arg6 harg6 arg12 harg12 x2 x3 x4 x5 x6 s))
    (hk0 := later_k0 c arg2 harg2 x2) (hk1 := later_k1 c arg2 harg2 x2) (hk2 := later_k2 c arg2 harg2 x2) (hk3 := later_k3 c arg2 harg2 x2) (hk4 := later_k4 c arg2 harg2 x2) (hk5 := later_k5 c arg2 harg2 x2) (hk6 := later_k6 c arg2 harg2 x2) (hk7 := later_k7 c arg2 harg2 x2) (hv0 := later_v0 c arg2 harg2 x2) (hv1 := later_v1 c arg2 harg2 x2) (hv2 := later_v2 c arg2 harg2 x2) (hv3 := later_v3 c arg2 harg2 x2) (hv4 := later_v4 c arg2 harg2 x2) (hv5 := later_v5 c arg2 harg2 x2) (hv6 := later_v6 c arg2 harg2 x2) (hv7 := later_v7 c arg2 harg2 x2) ..)

set_option maxHeartbeats 2000000 in
/-- The final accumulator of values of head 1. -/
theorem later_fin3 : (runLater.sl.r_22 c i arg2 harg2 arg3 harg3 arg4 harg4 arg5 harg5 arg6 harg6 arg7 harg7 arg8 harg8 arg9 harg9 arg10 harg10 arg11 harg11 arg12 harg12 x2 x3 x4 x5 x6 s) = dvAt (keysOf x2) x3 x4 x5 (qb i) (16 - (i 1).val) 1 := by
  unfold runLater.sl.r_22
  rw [second_none]
  dsimp only
  exact congrArg (fun z => z.2.2.2.1) (tail_carry (kk := keysOf x2) (vv := valsOf x2) (hinit := (later_init c i arg2 harg2 arg3 harg3 arg4 harg4 arg5 harg5 arg6 harg6 x2 x3 x4 x5 x6)) (hG := (later_base c i arg2 harg2 arg3 harg3 arg4 harg4 arg5 harg5 arg6 harg6 arg12 harg12 x2 x3 x4 x5 x6 s))
    (hk0 := later_k0 c arg2 harg2 x2) (hk1 := later_k1 c arg2 harg2 x2) (hk2 := later_k2 c arg2 harg2 x2) (hk3 := later_k3 c arg2 harg2 x2) (hk4 := later_k4 c arg2 harg2 x2) (hk5 := later_k5 c arg2 harg2 x2) (hk6 := later_k6 c arg2 harg2 x2) (hk7 := later_k7 c arg2 harg2 x2) (hv0 := later_v0 c arg2 harg2 x2) (hv1 := later_v1 c arg2 harg2 x2) (hv2 := later_v2 c arg2 harg2 x2) (hv3 := later_v3 c arg2 harg2 x2) (hv4 := later_v4 c arg2 harg2 x2) (hv5 := later_v5 c arg2 harg2 x2) (hv6 := later_v6 c arg2 harg2 x2) (hv7 := later_v7 c arg2 harg2 x2) ..)

set_option maxHeartbeats 2000000 in
/-- The final accumulator of keys of head 2. -/
theorem later_fin4 : (runLater.sl.r_23 c i arg2 harg2 arg3 harg3 arg4 harg4 arg5 harg5 arg6 harg6 arg7 harg7 arg8 harg8 arg9 harg9 arg10 harg10 arg11 harg11 arg12 harg12 x2 x3 x4 x5 x6 s) = dkAt (keysOf x2) (valsOf x2) x3 x4 x5 x6 (qb i) (16 - (i 1).val) 2 := by
  unfold runLater.sl.r_23
  rw [second_none]
  dsimp only
  exact congrArg (fun z => z.2.2.2.2.1) (tail_carry (kk := keysOf x2) (vv := valsOf x2) (hinit := (later_init c i arg2 harg2 arg3 harg3 arg4 harg4 arg5 harg5 arg6 harg6 x2 x3 x4 x5 x6)) (hG := (later_base c i arg2 harg2 arg3 harg3 arg4 harg4 arg5 harg5 arg6 harg6 arg12 harg12 x2 x3 x4 x5 x6 s))
    (hk0 := later_k0 c arg2 harg2 x2) (hk1 := later_k1 c arg2 harg2 x2) (hk2 := later_k2 c arg2 harg2 x2) (hk3 := later_k3 c arg2 harg2 x2) (hk4 := later_k4 c arg2 harg2 x2) (hk5 := later_k5 c arg2 harg2 x2) (hk6 := later_k6 c arg2 harg2 x2) (hk7 := later_k7 c arg2 harg2 x2) (hv0 := later_v0 c arg2 harg2 x2) (hv1 := later_v1 c arg2 harg2 x2) (hv2 := later_v2 c arg2 harg2 x2) (hv3 := later_v3 c arg2 harg2 x2) (hv4 := later_v4 c arg2 harg2 x2) (hv5 := later_v5 c arg2 harg2 x2) (hv6 := later_v6 c arg2 harg2 x2) (hv7 := later_v7 c arg2 harg2 x2) ..)

set_option maxHeartbeats 2000000 in
/-- The final accumulator of values of head 2. -/
theorem later_fin5 : (runLater.sl.r_24 c i arg2 harg2 arg3 harg3 arg4 harg4 arg5 harg5 arg6 harg6 arg7 harg7 arg8 harg8 arg9 harg9 arg10 harg10 arg11 harg11 arg12 harg12 x2 x3 x4 x5 x6 s) = dvAt (keysOf x2) x3 x4 x5 (qb i) (16 - (i 1).val) 2 := by
  unfold runLater.sl.r_24
  rw [second_none]
  dsimp only
  exact congrArg (fun z => z.2.2.2.2.2.1) (tail_carry (kk := keysOf x2) (vv := valsOf x2) (hinit := (later_init c i arg2 harg2 arg3 harg3 arg4 harg4 arg5 harg5 arg6 harg6 x2 x3 x4 x5 x6)) (hG := (later_base c i arg2 harg2 arg3 harg3 arg4 harg4 arg5 harg5 arg6 harg6 arg12 harg12 x2 x3 x4 x5 x6 s))
    (hk0 := later_k0 c arg2 harg2 x2) (hk1 := later_k1 c arg2 harg2 x2) (hk2 := later_k2 c arg2 harg2 x2) (hk3 := later_k3 c arg2 harg2 x2) (hk4 := later_k4 c arg2 harg2 x2) (hk5 := later_k5 c arg2 harg2 x2) (hk6 := later_k6 c arg2 harg2 x2) (hk7 := later_k7 c arg2 harg2 x2) (hv0 := later_v0 c arg2 harg2 x2) (hv1 := later_v1 c arg2 harg2 x2) (hv2 := later_v2 c arg2 harg2 x2) (hv3 := later_v3 c arg2 harg2 x2) (hv4 := later_v4 c arg2 harg2 x2) (hv5 := later_v5 c arg2 harg2 x2) (hv6 := later_v6 c arg2 harg2 x2) (hv7 := later_v7 c arg2 harg2 x2) ..)

set_option maxHeartbeats 2000000 in
/-- The final accumulator of keys of head 3. -/
theorem later_fin6 : (runLater.sl.r_25 c i arg2 harg2 arg3 harg3 arg4 harg4 arg5 harg5 arg6 harg6 arg7 harg7 arg8 harg8 arg9 harg9 arg10 harg10 arg11 harg11 arg12 harg12 x2 x3 x4 x5 x6 s) = dkAt (keysOf x2) (valsOf x2) x3 x4 x5 x6 (qb i) (16 - (i 1).val) 3 := by
  unfold runLater.sl.r_25
  rw [second_none]
  dsimp only
  exact congrArg (fun z => z.2.2.2.2.2.2.1) (tail_carry (kk := keysOf x2) (vv := valsOf x2) (hinit := (later_init c i arg2 harg2 arg3 harg3 arg4 harg4 arg5 harg5 arg6 harg6 x2 x3 x4 x5 x6)) (hG := (later_base c i arg2 harg2 arg3 harg3 arg4 harg4 arg5 harg5 arg6 harg6 arg12 harg12 x2 x3 x4 x5 x6 s))
    (hk0 := later_k0 c arg2 harg2 x2) (hk1 := later_k1 c arg2 harg2 x2) (hk2 := later_k2 c arg2 harg2 x2) (hk3 := later_k3 c arg2 harg2 x2) (hk4 := later_k4 c arg2 harg2 x2) (hk5 := later_k5 c arg2 harg2 x2) (hk6 := later_k6 c arg2 harg2 x2) (hk7 := later_k7 c arg2 harg2 x2) (hv0 := later_v0 c arg2 harg2 x2) (hv1 := later_v1 c arg2 harg2 x2) (hv2 := later_v2 c arg2 harg2 x2) (hv3 := later_v3 c arg2 harg2 x2) (hv4 := later_v4 c arg2 harg2 x2) (hv5 := later_v5 c arg2 harg2 x2) (hv6 := later_v6 c arg2 harg2 x2) (hv7 := later_v7 c arg2 harg2 x2) ..)

set_option maxHeartbeats 2000000 in
/-- The final accumulator of values of head 3. -/
theorem later_fin7 : (runLater.sl.r_26 c i arg2 harg2 arg3 harg3 arg4 harg4 arg5 harg5 arg6 harg6 arg7 harg7 arg8 harg8 arg9 harg9 arg10 harg10 arg11 harg11 arg12 harg12 x2 x3 x4 x5 x6 s) = dvAt (keysOf x2) x3 x4 x5 (qb i) (16 - (i 1).val) 3 := by
  unfold runLater.sl.r_26
  rw [second_none]
  dsimp only
  exact congrArg (fun z => z.2.2.2.2.2.2.2.1) (tail_carry (kk := keysOf x2) (vv := valsOf x2) (hinit := (later_init c i arg2 harg2 arg3 harg3 arg4 harg4 arg5 harg5 arg6 harg6 x2 x3 x4 x5 x6)) (hG := (later_base c i arg2 harg2 arg3 harg3 arg4 harg4 arg5 harg5 arg6 harg6 arg12 harg12 x2 x3 x4 x5 x6 s))
    (hk0 := later_k0 c arg2 harg2 x2) (hk1 := later_k1 c arg2 harg2 x2) (hk2 := later_k2 c arg2 harg2 x2) (hk3 := later_k3 c arg2 harg2 x2) (hk4 := later_k4 c arg2 harg2 x2) (hk5 := later_k5 c arg2 harg2 x2) (hk6 := later_k6 c arg2 harg2 x2) (hk7 := later_k7 c arg2 harg2 x2) (hv0 := later_v0 c arg2 harg2 x2) (hv1 := later_v1 c arg2 harg2 x2) (hv2 := later_v2 c arg2 harg2 x2) (hv3 := later_v3 c arg2 harg2 x2) (hv4 := later_v4 c arg2 harg2 x2) (hv5 := later_v5 c arg2 harg2 x2) (hv6 := later_v6 c arg2 harg2 x2) (hv7 := later_v7 c arg2 harg2 x2) ..)

set_option maxHeartbeats 2000000 in
/-- The final accumulator of keys of head 4. -/
theorem later_fin8 : (runLater.sl.r_27 c i arg2 harg2 arg3 harg3 arg4 harg4 arg5 harg5 arg6 harg6 arg7 harg7 arg8 harg8 arg9 harg9 arg10 harg10 arg11 harg11 arg12 harg12 x2 x3 x4 x5 x6 s) = dkAt (keysOf x2) (valsOf x2) x3 x4 x5 x6 (qb i) (16 - (i 1).val) 4 := by
  unfold runLater.sl.r_27
  rw [second_none]
  dsimp only
  exact congrArg (fun z => z.2.2.2.2.2.2.2.2.1) (tail_carry (kk := keysOf x2) (vv := valsOf x2) (hinit := (later_init c i arg2 harg2 arg3 harg3 arg4 harg4 arg5 harg5 arg6 harg6 x2 x3 x4 x5 x6)) (hG := (later_base c i arg2 harg2 arg3 harg3 arg4 harg4 arg5 harg5 arg6 harg6 arg12 harg12 x2 x3 x4 x5 x6 s))
    (hk0 := later_k0 c arg2 harg2 x2) (hk1 := later_k1 c arg2 harg2 x2) (hk2 := later_k2 c arg2 harg2 x2) (hk3 := later_k3 c arg2 harg2 x2) (hk4 := later_k4 c arg2 harg2 x2) (hk5 := later_k5 c arg2 harg2 x2) (hk6 := later_k6 c arg2 harg2 x2) (hk7 := later_k7 c arg2 harg2 x2) (hv0 := later_v0 c arg2 harg2 x2) (hv1 := later_v1 c arg2 harg2 x2) (hv2 := later_v2 c arg2 harg2 x2) (hv3 := later_v3 c arg2 harg2 x2) (hv4 := later_v4 c arg2 harg2 x2) (hv5 := later_v5 c arg2 harg2 x2) (hv6 := later_v6 c arg2 harg2 x2) (hv7 := later_v7 c arg2 harg2 x2) ..)

set_option maxHeartbeats 2000000 in
/-- The final accumulator of values of head 4. -/
theorem later_fin9 : (runLater.sl.r_28 c i arg2 harg2 arg3 harg3 arg4 harg4 arg5 harg5 arg6 harg6 arg7 harg7 arg8 harg8 arg9 harg9 arg10 harg10 arg11 harg11 arg12 harg12 x2 x3 x4 x5 x6 s) = dvAt (keysOf x2) x3 x4 x5 (qb i) (16 - (i 1).val) 4 := by
  unfold runLater.sl.r_28
  rw [second_none]
  dsimp only
  exact congrArg (fun z => z.2.2.2.2.2.2.2.2.2.1) (tail_carry (kk := keysOf x2) (vv := valsOf x2) (hinit := (later_init c i arg2 harg2 arg3 harg3 arg4 harg4 arg5 harg5 arg6 harg6 x2 x3 x4 x5 x6)) (hG := (later_base c i arg2 harg2 arg3 harg3 arg4 harg4 arg5 harg5 arg6 harg6 arg12 harg12 x2 x3 x4 x5 x6 s))
    (hk0 := later_k0 c arg2 harg2 x2) (hk1 := later_k1 c arg2 harg2 x2) (hk2 := later_k2 c arg2 harg2 x2) (hk3 := later_k3 c arg2 harg2 x2) (hk4 := later_k4 c arg2 harg2 x2) (hk5 := later_k5 c arg2 harg2 x2) (hk6 := later_k6 c arg2 harg2 x2) (hk7 := later_k7 c arg2 harg2 x2) (hv0 := later_v0 c arg2 harg2 x2) (hv1 := later_v1 c arg2 harg2 x2) (hv2 := later_v2 c arg2 harg2 x2) (hv3 := later_v3 c arg2 harg2 x2) (hv4 := later_v4 c arg2 harg2 x2) (hv5 := later_v5 c arg2 harg2 x2) (hv6 := later_v6 c arg2 harg2 x2) (hv7 := later_v7 c arg2 harg2 x2) ..)

set_option maxHeartbeats 2000000 in
/-- The final accumulator of keys of head 5. -/
theorem later_fin10 : (runLater.sl.r_29 c i arg2 harg2 arg3 harg3 arg4 harg4 arg5 harg5 arg6 harg6 arg7 harg7 arg8 harg8 arg9 harg9 arg10 harg10 arg11 harg11 arg12 harg12 x2 x3 x4 x5 x6 s) = dkAt (keysOf x2) (valsOf x2) x3 x4 x5 x6 (qb i) (16 - (i 1).val) 5 := by
  unfold runLater.sl.r_29
  rw [second_none]
  dsimp only
  exact congrArg (fun z => z.2.2.2.2.2.2.2.2.2.2.1) (tail_carry (kk := keysOf x2) (vv := valsOf x2) (hinit := (later_init c i arg2 harg2 arg3 harg3 arg4 harg4 arg5 harg5 arg6 harg6 x2 x3 x4 x5 x6)) (hG := (later_base c i arg2 harg2 arg3 harg3 arg4 harg4 arg5 harg5 arg6 harg6 arg12 harg12 x2 x3 x4 x5 x6 s))
    (hk0 := later_k0 c arg2 harg2 x2) (hk1 := later_k1 c arg2 harg2 x2) (hk2 := later_k2 c arg2 harg2 x2) (hk3 := later_k3 c arg2 harg2 x2) (hk4 := later_k4 c arg2 harg2 x2) (hk5 := later_k5 c arg2 harg2 x2) (hk6 := later_k6 c arg2 harg2 x2) (hk7 := later_k7 c arg2 harg2 x2) (hv0 := later_v0 c arg2 harg2 x2) (hv1 := later_v1 c arg2 harg2 x2) (hv2 := later_v2 c arg2 harg2 x2) (hv3 := later_v3 c arg2 harg2 x2) (hv4 := later_v4 c arg2 harg2 x2) (hv5 := later_v5 c arg2 harg2 x2) (hv6 := later_v6 c arg2 harg2 x2) (hv7 := later_v7 c arg2 harg2 x2) ..)

set_option maxHeartbeats 2000000 in
/-- The final accumulator of values of head 5. -/
theorem later_fin11 : (runLater.sl.r_30 c i arg2 harg2 arg3 harg3 arg4 harg4 arg5 harg5 arg6 harg6 arg7 harg7 arg8 harg8 arg9 harg9 arg10 harg10 arg11 harg11 arg12 harg12 x2 x3 x4 x5 x6 s) = dvAt (keysOf x2) x3 x4 x5 (qb i) (16 - (i 1).val) 5 := by
  unfold runLater.sl.r_30
  rw [second_none]
  dsimp only
  exact congrArg (fun z => z.2.2.2.2.2.2.2.2.2.2.2.1) (tail_carry (kk := keysOf x2) (vv := valsOf x2) (hinit := (later_init c i arg2 harg2 arg3 harg3 arg4 harg4 arg5 harg5 arg6 harg6 x2 x3 x4 x5 x6)) (hG := (later_base c i arg2 harg2 arg3 harg3 arg4 harg4 arg5 harg5 arg6 harg6 arg12 harg12 x2 x3 x4 x5 x6 s))
    (hk0 := later_k0 c arg2 harg2 x2) (hk1 := later_k1 c arg2 harg2 x2) (hk2 := later_k2 c arg2 harg2 x2) (hk3 := later_k3 c arg2 harg2 x2) (hk4 := later_k4 c arg2 harg2 x2) (hk5 := later_k5 c arg2 harg2 x2) (hk6 := later_k6 c arg2 harg2 x2) (hk7 := later_k7 c arg2 harg2 x2) (hv0 := later_v0 c arg2 harg2 x2) (hv1 := later_v1 c arg2 harg2 x2) (hv2 := later_v2 c arg2 harg2 x2) (hv3 := later_v3 c arg2 harg2 x2) (hv4 := later_v4 c arg2 harg2 x2) (hv5 := later_v5 c arg2 harg2 x2) (hv6 := later_v6 c arg2 harg2 x2) (hv7 := later_v7 c arg2 harg2 x2) ..)

set_option maxHeartbeats 2000000 in
/-- The final accumulator of keys of head 6. -/
theorem later_fin12 : (runLater.sl.r_31 c i arg2 harg2 arg3 harg3 arg4 harg4 arg5 harg5 arg6 harg6 arg7 harg7 arg8 harg8 arg9 harg9 arg10 harg10 arg11 harg11 arg12 harg12 x2 x3 x4 x5 x6 s) = dkAt (keysOf x2) (valsOf x2) x3 x4 x5 x6 (qb i) (16 - (i 1).val) 6 := by
  unfold runLater.sl.r_31
  rw [second_none]
  dsimp only
  exact congrArg (fun z => z.2.2.2.2.2.2.2.2.2.2.2.2.1) (tail_carry (kk := keysOf x2) (vv := valsOf x2) (hinit := (later_init c i arg2 harg2 arg3 harg3 arg4 harg4 arg5 harg5 arg6 harg6 x2 x3 x4 x5 x6)) (hG := (later_base c i arg2 harg2 arg3 harg3 arg4 harg4 arg5 harg5 arg6 harg6 arg12 harg12 x2 x3 x4 x5 x6 s))
    (hk0 := later_k0 c arg2 harg2 x2) (hk1 := later_k1 c arg2 harg2 x2) (hk2 := later_k2 c arg2 harg2 x2) (hk3 := later_k3 c arg2 harg2 x2) (hk4 := later_k4 c arg2 harg2 x2) (hk5 := later_k5 c arg2 harg2 x2) (hk6 := later_k6 c arg2 harg2 x2) (hk7 := later_k7 c arg2 harg2 x2) (hv0 := later_v0 c arg2 harg2 x2) (hv1 := later_v1 c arg2 harg2 x2) (hv2 := later_v2 c arg2 harg2 x2) (hv3 := later_v3 c arg2 harg2 x2) (hv4 := later_v4 c arg2 harg2 x2) (hv5 := later_v5 c arg2 harg2 x2) (hv6 := later_v6 c arg2 harg2 x2) (hv7 := later_v7 c arg2 harg2 x2) ..)

set_option maxHeartbeats 2000000 in
/-- The final accumulator of values of head 6. -/
theorem later_fin13 : (runLater.sl.r_32 c i arg2 harg2 arg3 harg3 arg4 harg4 arg5 harg5 arg6 harg6 arg7 harg7 arg8 harg8 arg9 harg9 arg10 harg10 arg11 harg11 arg12 harg12 x2 x3 x4 x5 x6 s) = dvAt (keysOf x2) x3 x4 x5 (qb i) (16 - (i 1).val) 6 := by
  unfold runLater.sl.r_32
  rw [second_none]
  dsimp only
  exact congrArg (fun z => z.2.2.2.2.2.2.2.2.2.2.2.2.2.1) (tail_carry (kk := keysOf x2) (vv := valsOf x2) (hinit := (later_init c i arg2 harg2 arg3 harg3 arg4 harg4 arg5 harg5 arg6 harg6 x2 x3 x4 x5 x6)) (hG := (later_base c i arg2 harg2 arg3 harg3 arg4 harg4 arg5 harg5 arg6 harg6 arg12 harg12 x2 x3 x4 x5 x6 s))
    (hk0 := later_k0 c arg2 harg2 x2) (hk1 := later_k1 c arg2 harg2 x2) (hk2 := later_k2 c arg2 harg2 x2) (hk3 := later_k3 c arg2 harg2 x2) (hk4 := later_k4 c arg2 harg2 x2) (hk5 := later_k5 c arg2 harg2 x2) (hk6 := later_k6 c arg2 harg2 x2) (hk7 := later_k7 c arg2 harg2 x2) (hv0 := later_v0 c arg2 harg2 x2) (hv1 := later_v1 c arg2 harg2 x2) (hv2 := later_v2 c arg2 harg2 x2) (hv3 := later_v3 c arg2 harg2 x2) (hv4 := later_v4 c arg2 harg2 x2) (hv5 := later_v5 c arg2 harg2 x2) (hv6 := later_v6 c arg2 harg2 x2) (hv7 := later_v7 c arg2 harg2 x2) ..)

set_option maxHeartbeats 2000000 in
/-- The final accumulator of keys of head 7. -/
theorem later_fin14 : (runLater.sl.r_33 c i arg2 harg2 arg3 harg3 arg4 harg4 arg5 harg5 arg6 harg6 arg7 harg7 arg8 harg8 arg9 harg9 arg10 harg10 arg11 harg11 arg12 harg12 x2 x3 x4 x5 x6 s) = dkAt (keysOf x2) (valsOf x2) x3 x4 x5 x6 (qb i) (16 - (i 1).val) 7 := by
  unfold runLater.sl.r_33
  rw [second_none]
  dsimp only
  exact congrArg (fun z => z.2.2.2.2.2.2.2.2.2.2.2.2.2.2.1) (tail_carry (kk := keysOf x2) (vv := valsOf x2) (hinit := (later_init c i arg2 harg2 arg3 harg3 arg4 harg4 arg5 harg5 arg6 harg6 x2 x3 x4 x5 x6)) (hG := (later_base c i arg2 harg2 arg3 harg3 arg4 harg4 arg5 harg5 arg6 harg6 arg12 harg12 x2 x3 x4 x5 x6 s))
    (hk0 := later_k0 c arg2 harg2 x2) (hk1 := later_k1 c arg2 harg2 x2) (hk2 := later_k2 c arg2 harg2 x2) (hk3 := later_k3 c arg2 harg2 x2) (hk4 := later_k4 c arg2 harg2 x2) (hk5 := later_k5 c arg2 harg2 x2) (hk6 := later_k6 c arg2 harg2 x2) (hk7 := later_k7 c arg2 harg2 x2) (hv0 := later_v0 c arg2 harg2 x2) (hv1 := later_v1 c arg2 harg2 x2) (hv2 := later_v2 c arg2 harg2 x2) (hv3 := later_v3 c arg2 harg2 x2) (hv4 := later_v4 c arg2 harg2 x2) (hv5 := later_v5 c arg2 harg2 x2) (hv6 := later_v6 c arg2 harg2 x2) (hv7 := later_v7 c arg2 harg2 x2) ..)

set_option maxHeartbeats 2000000 in
/-- The final accumulator of values of head 7. -/
theorem later_fin15 : (runLater.sl.r_34 c i arg2 harg2 arg3 harg3 arg4 harg4 arg5 harg5 arg6 harg6 arg7 harg7 arg8 harg8 arg9 harg9 arg10 harg10 arg11 harg11 arg12 harg12 x2 x3 x4 x5 x6 s) = dvAt (keysOf x2) x3 x4 x5 (qb i) (16 - (i 1).val) 7 := by
  unfold runLater.sl.r_34
  rw [second_none]
  dsimp only
  exact congrArg (fun z => z.2.2.2.2.2.2.2.2.2.2.2.2.2.2.2) (tail_carry (kk := keysOf x2) (vv := valsOf x2) (hinit := (later_init c i arg2 harg2 arg3 harg3 arg4 harg4 arg5 harg5 arg6 harg6 x2 x3 x4 x5 x6)) (hG := (later_base c i arg2 harg2 arg3 harg3 arg4 harg4 arg5 harg5 arg6 harg6 arg12 harg12 x2 x3 x4 x5 x6 s))
    (hk0 := later_k0 c arg2 harg2 x2) (hk1 := later_k1 c arg2 harg2 x2) (hk2 := later_k2 c arg2 harg2 x2) (hk3 := later_k3 c arg2 harg2 x2) (hk4 := later_k4 c arg2 harg2 x2) (hk5 := later_k5 c arg2 harg2 x2) (hk6 := later_k6 c arg2 harg2 x2) (hk7 := later_k7 c arg2 harg2 x2) (hv0 := later_v0 c arg2 harg2 x2) (hv1 := later_v1 c arg2 harg2 x2) (hv2 := later_v2 c arg2 harg2 x2) (hv3 := later_v3 c arg2 harg2 x2) (hv4 := later_v4 c arg2 harg2 x2) (hv5 := later_v5 c arg2 harg2 x2) (hv6 := later_v6 c arg2 harg2 x2) (hv7 := later_v7 c arg2 harg2 x2) ..)

set_option maxHeartbeats 2000000 in
/-- Head 0's finished tile of queries, loaded. -/
theorem later_tile0 : (runLater.sl.v412 c i arg2 harg2 arg3 harg3 arg4 harg4 arg5 harg5 arg6 harg6 arg7 harg7 arg8 harg8 arg9 harg9 arg10 harg10 arg11 harg11 arg12 harg12 x2 x3 x4 x5 x6 s) = tile (qb i) 0 (scrAt (keysOf x2) (valsOf x2) x3 x4 x5 x6 (qb i) s (16 - (i 1).val)) := by
  unfold runLater.sl.v412
  refine (tile_readAt arg12 _ (qb i) 0 (k0_off1 i) (k0_off1_inb i) (off1_eq i)).trans (congrArg (tile (qb i) 0) ?_)
  exact tail_read (kk := keysOf x2) (vv := valsOf x2) (hinit := (later_init c i arg2 harg2 arg3 harg3 arg4 harg4 arg5 harg5 arg6 harg6 x2 x3 x4 x5 x6)) (hG := (later_base c i arg2 harg2 arg3 harg3 arg4 harg4 arg5 harg5 arg6 harg6 arg12 harg12 x2 x3 x4 x5 x6 s))
    (hk0 := later_k0 c arg2 harg2 x2) (hk1 := later_k1 c arg2 harg2 x2) (hk2 := later_k2 c arg2 harg2 x2) (hk3 := later_k3 c arg2 harg2 x2) (hk4 := later_k4 c arg2 harg2 x2) (hk5 := later_k5 c arg2 harg2 x2) (hk6 := later_k6 c arg2 harg2 x2) (hk7 := later_k7 c arg2 harg2 x2) (hv0 := later_v0 c arg2 harg2 x2) (hv1 := later_v1 c arg2 harg2 x2) (hv2 := later_v2 c arg2 harg2 x2) (hv3 := later_v3 c arg2 harg2 x2) (hv4 := later_v4 c arg2 harg2 x2) (hv5 := later_v5 c arg2 harg2 x2) (hv6 := later_v6 c arg2 harg2 x2) (hv7 := later_v7 c arg2 harg2 x2) ..

set_option maxHeartbeats 2000000 in
/-- Head 1's finished tile of queries, loaded. -/
theorem later_tile1 : (runLater.sl.v450 c i arg2 harg2 arg3 harg3 arg4 harg4 arg5 harg5 arg6 harg6 arg7 harg7 arg8 harg8 arg9 harg9 arg10 harg10 arg11 harg11 arg12 harg12 x2 x3 x4 x5 x6 s) = tile (qb i) 1 (scrAt (keysOf x2) (valsOf x2) x3 x4 x5 x6 (qb i) s (16 - (i 1).val)) := by
  unfold runLater.sl.v450
  refine (tile_readAt arg12 _ (qb i) 1 (k0_off2 i) (k0_off2_inb i) (off2_eq i)).trans (congrArg (tile (qb i) 1) ?_)
  exact tail_read (kk := keysOf x2) (vv := valsOf x2) (hinit := (later_init c i arg2 harg2 arg3 harg3 arg4 harg4 arg5 harg5 arg6 harg6 x2 x3 x4 x5 x6)) (hG := (later_base c i arg2 harg2 arg3 harg3 arg4 harg4 arg5 harg5 arg6 harg6 arg12 harg12 x2 x3 x4 x5 x6 s))
    (hk0 := later_k0 c arg2 harg2 x2) (hk1 := later_k1 c arg2 harg2 x2) (hk2 := later_k2 c arg2 harg2 x2) (hk3 := later_k3 c arg2 harg2 x2) (hk4 := later_k4 c arg2 harg2 x2) (hk5 := later_k5 c arg2 harg2 x2) (hk6 := later_k6 c arg2 harg2 x2) (hk7 := later_k7 c arg2 harg2 x2) (hv0 := later_v0 c arg2 harg2 x2) (hv1 := later_v1 c arg2 harg2 x2) (hv2 := later_v2 c arg2 harg2 x2) (hv3 := later_v3 c arg2 harg2 x2) (hv4 := later_v4 c arg2 harg2 x2) (hv5 := later_v5 c arg2 harg2 x2) (hv6 := later_v6 c arg2 harg2 x2) (hv7 := later_v7 c arg2 harg2 x2) ..

set_option maxHeartbeats 2000000 in
/-- Head 2's finished tile of queries, loaded. -/
theorem later_tile2 : (runLater.sl.v488 c i arg2 harg2 arg3 harg3 arg4 harg4 arg5 harg5 arg6 harg6 arg7 harg7 arg8 harg8 arg9 harg9 arg10 harg10 arg11 harg11 arg12 harg12 x2 x3 x4 x5 x6 s) = tile (qb i) 2 (scrAt (keysOf x2) (valsOf x2) x3 x4 x5 x6 (qb i) s (16 - (i 1).val)) := by
  unfold runLater.sl.v488
  refine (tile_readAt arg12 _ (qb i) 2 (k0_off3 i) (k0_off3_inb i) (off3_eq i)).trans (congrArg (tile (qb i) 2) ?_)
  exact tail_read (kk := keysOf x2) (vv := valsOf x2) (hinit := (later_init c i arg2 harg2 arg3 harg3 arg4 harg4 arg5 harg5 arg6 harg6 x2 x3 x4 x5 x6)) (hG := (later_base c i arg2 harg2 arg3 harg3 arg4 harg4 arg5 harg5 arg6 harg6 arg12 harg12 x2 x3 x4 x5 x6 s))
    (hk0 := later_k0 c arg2 harg2 x2) (hk1 := later_k1 c arg2 harg2 x2) (hk2 := later_k2 c arg2 harg2 x2) (hk3 := later_k3 c arg2 harg2 x2) (hk4 := later_k4 c arg2 harg2 x2) (hk5 := later_k5 c arg2 harg2 x2) (hk6 := later_k6 c arg2 harg2 x2) (hk7 := later_k7 c arg2 harg2 x2) (hv0 := later_v0 c arg2 harg2 x2) (hv1 := later_v1 c arg2 harg2 x2) (hv2 := later_v2 c arg2 harg2 x2) (hv3 := later_v3 c arg2 harg2 x2) (hv4 := later_v4 c arg2 harg2 x2) (hv5 := later_v5 c arg2 harg2 x2) (hv6 := later_v6 c arg2 harg2 x2) (hv7 := later_v7 c arg2 harg2 x2) ..

set_option maxHeartbeats 2000000 in
/-- Head 3's finished tile of queries, loaded. -/
theorem later_tile3 : (runLater.sl.v526 c i arg2 harg2 arg3 harg3 arg4 harg4 arg5 harg5 arg6 harg6 arg7 harg7 arg8 harg8 arg9 harg9 arg10 harg10 arg11 harg11 arg12 harg12 x2 x3 x4 x5 x6 s) = tile (qb i) 3 (scrAt (keysOf x2) (valsOf x2) x3 x4 x5 x6 (qb i) s (16 - (i 1).val)) := by
  unfold runLater.sl.v526
  refine (tile_readAt arg12 _ (qb i) 3 (k0_off4 i) (k0_off4_inb i) (off4_eq i)).trans (congrArg (tile (qb i) 3) ?_)
  exact tail_read (kk := keysOf x2) (vv := valsOf x2) (hinit := (later_init c i arg2 harg2 arg3 harg3 arg4 harg4 arg5 harg5 arg6 harg6 x2 x3 x4 x5 x6)) (hG := (later_base c i arg2 harg2 arg3 harg3 arg4 harg4 arg5 harg5 arg6 harg6 arg12 harg12 x2 x3 x4 x5 x6 s))
    (hk0 := later_k0 c arg2 harg2 x2) (hk1 := later_k1 c arg2 harg2 x2) (hk2 := later_k2 c arg2 harg2 x2) (hk3 := later_k3 c arg2 harg2 x2) (hk4 := later_k4 c arg2 harg2 x2) (hk5 := later_k5 c arg2 harg2 x2) (hk6 := later_k6 c arg2 harg2 x2) (hk7 := later_k7 c arg2 harg2 x2) (hv0 := later_v0 c arg2 harg2 x2) (hv1 := later_v1 c arg2 harg2 x2) (hv2 := later_v2 c arg2 harg2 x2) (hv3 := later_v3 c arg2 harg2 x2) (hv4 := later_v4 c arg2 harg2 x2) (hv5 := later_v5 c arg2 harg2 x2) (hv6 := later_v6 c arg2 harg2 x2) (hv7 := later_v7 c arg2 harg2 x2) ..

set_option maxHeartbeats 2000000 in
/-- Head 4's finished tile of queries, loaded. -/
theorem later_tile4 : (runLater.sl.v564 c i arg2 harg2 arg3 harg3 arg4 harg4 arg5 harg5 arg6 harg6 arg7 harg7 arg8 harg8 arg9 harg9 arg10 harg10 arg11 harg11 arg12 harg12 x2 x3 x4 x5 x6 s) = tile (qb i) 4 (scrAt (keysOf x2) (valsOf x2) x3 x4 x5 x6 (qb i) s (16 - (i 1).val)) := by
  unfold runLater.sl.v564
  refine (tile_readAt arg12 _ (qb i) 4 (k0_off5 i) (k0_off5_inb i) (off5_eq i)).trans (congrArg (tile (qb i) 4) ?_)
  exact tail_read (kk := keysOf x2) (vv := valsOf x2) (hinit := (later_init c i arg2 harg2 arg3 harg3 arg4 harg4 arg5 harg5 arg6 harg6 x2 x3 x4 x5 x6)) (hG := (later_base c i arg2 harg2 arg3 harg3 arg4 harg4 arg5 harg5 arg6 harg6 arg12 harg12 x2 x3 x4 x5 x6 s))
    (hk0 := later_k0 c arg2 harg2 x2) (hk1 := later_k1 c arg2 harg2 x2) (hk2 := later_k2 c arg2 harg2 x2) (hk3 := later_k3 c arg2 harg2 x2) (hk4 := later_k4 c arg2 harg2 x2) (hk5 := later_k5 c arg2 harg2 x2) (hk6 := later_k6 c arg2 harg2 x2) (hk7 := later_k7 c arg2 harg2 x2) (hv0 := later_v0 c arg2 harg2 x2) (hv1 := later_v1 c arg2 harg2 x2) (hv2 := later_v2 c arg2 harg2 x2) (hv3 := later_v3 c arg2 harg2 x2) (hv4 := later_v4 c arg2 harg2 x2) (hv5 := later_v5 c arg2 harg2 x2) (hv6 := later_v6 c arg2 harg2 x2) (hv7 := later_v7 c arg2 harg2 x2) ..

set_option maxHeartbeats 2000000 in
/-- Head 5's finished tile of queries, loaded. -/
theorem later_tile5 : (runLater.sl.v602 c i arg2 harg2 arg3 harg3 arg4 harg4 arg5 harg5 arg6 harg6 arg7 harg7 arg8 harg8 arg9 harg9 arg10 harg10 arg11 harg11 arg12 harg12 x2 x3 x4 x5 x6 s) = tile (qb i) 5 (scrAt (keysOf x2) (valsOf x2) x3 x4 x5 x6 (qb i) s (16 - (i 1).val)) := by
  unfold runLater.sl.v602
  refine (tile_readAt arg12 _ (qb i) 5 (k0_off6 i) (k0_off6_inb i) (off6_eq i)).trans (congrArg (tile (qb i) 5) ?_)
  exact tail_read (kk := keysOf x2) (vv := valsOf x2) (hinit := (later_init c i arg2 harg2 arg3 harg3 arg4 harg4 arg5 harg5 arg6 harg6 x2 x3 x4 x5 x6)) (hG := (later_base c i arg2 harg2 arg3 harg3 arg4 harg4 arg5 harg5 arg6 harg6 arg12 harg12 x2 x3 x4 x5 x6 s))
    (hk0 := later_k0 c arg2 harg2 x2) (hk1 := later_k1 c arg2 harg2 x2) (hk2 := later_k2 c arg2 harg2 x2) (hk3 := later_k3 c arg2 harg2 x2) (hk4 := later_k4 c arg2 harg2 x2) (hk5 := later_k5 c arg2 harg2 x2) (hk6 := later_k6 c arg2 harg2 x2) (hk7 := later_k7 c arg2 harg2 x2) (hv0 := later_v0 c arg2 harg2 x2) (hv1 := later_v1 c arg2 harg2 x2) (hv2 := later_v2 c arg2 harg2 x2) (hv3 := later_v3 c arg2 harg2 x2) (hv4 := later_v4 c arg2 harg2 x2) (hv5 := later_v5 c arg2 harg2 x2) (hv6 := later_v6 c arg2 harg2 x2) (hv7 := later_v7 c arg2 harg2 x2) ..

set_option maxHeartbeats 2000000 in
/-- Head 6's finished tile of queries, loaded. -/
theorem later_tile6 : (runLater.sl.v640 c i arg2 harg2 arg3 harg3 arg4 harg4 arg5 harg5 arg6 harg6 arg7 harg7 arg8 harg8 arg9 harg9 arg10 harg10 arg11 harg11 arg12 harg12 x2 x3 x4 x5 x6 s) = tile (qb i) 6 (scrAt (keysOf x2) (valsOf x2) x3 x4 x5 x6 (qb i) s (16 - (i 1).val)) := by
  unfold runLater.sl.v640
  refine (tile_readAt arg12 _ (qb i) 6 (k0_off7 i) (k0_off7_inb i) (off7_eq i)).trans (congrArg (tile (qb i) 6) ?_)
  exact tail_read (kk := keysOf x2) (vv := valsOf x2) (hinit := (later_init c i arg2 harg2 arg3 harg3 arg4 harg4 arg5 harg5 arg6 harg6 x2 x3 x4 x5 x6)) (hG := (later_base c i arg2 harg2 arg3 harg3 arg4 harg4 arg5 harg5 arg6 harg6 arg12 harg12 x2 x3 x4 x5 x6 s))
    (hk0 := later_k0 c arg2 harg2 x2) (hk1 := later_k1 c arg2 harg2 x2) (hk2 := later_k2 c arg2 harg2 x2) (hk3 := later_k3 c arg2 harg2 x2) (hk4 := later_k4 c arg2 harg2 x2) (hk5 := later_k5 c arg2 harg2 x2) (hk6 := later_k6 c arg2 harg2 x2) (hk7 := later_k7 c arg2 harg2 x2) (hv0 := later_v0 c arg2 harg2 x2) (hv1 := later_v1 c arg2 harg2 x2) (hv2 := later_v2 c arg2 harg2 x2) (hv3 := later_v3 c arg2 harg2 x2) (hv4 := later_v4 c arg2 harg2 x2) (hv5 := later_v5 c arg2 harg2 x2) (hv6 := later_v6 c arg2 harg2 x2) (hv7 := later_v7 c arg2 harg2 x2) ..

set_option maxHeartbeats 2000000 in
/-- Head 7's finished tile of queries, loaded. -/
theorem later_tile7 : (runLater.sl.v678 c i arg2 harg2 arg3 harg3 arg4 harg4 arg5 harg5 arg6 harg6 arg7 harg7 arg8 harg8 arg9 harg9 arg10 harg10 arg11 harg11 arg12 harg12 x2 x3 x4 x5 x6 s) = tile (qb i) 7 (scrAt (keysOf x2) (valsOf x2) x3 x4 x5 x6 (qb i) s (16 - (i 1).val)) := by
  unfold runLater.sl.v678
  refine (tile_readAt arg12 _ (qb i) 7 (k0_off8 i) (k0_off8_inb i) (off8_eq i)).trans (congrArg (tile (qb i) 7) ?_)
  exact tail_read (kk := keysOf x2) (vv := valsOf x2) (hinit := (later_init c i arg2 harg2 arg3 harg3 arg4 harg4 arg5 harg5 arg6 harg6 x2 x3 x4 x5 x6)) (hG := (later_base c i arg2 harg2 arg3 harg3 arg4 harg4 arg5 harg5 arg6 harg6 arg12 harg12 x2 x3 x4 x5 x6 s))
    (hk0 := later_k0 c arg2 harg2 x2) (hk1 := later_k1 c arg2 harg2 x2) (hk2 := later_k2 c arg2 harg2 x2) (hk3 := later_k3 c arg2 harg2 x2) (hk4 := later_k4 c arg2 harg2 x2) (hk5 := later_k5 c arg2 harg2 x2) (hk6 := later_k6 c arg2 harg2 x2) (hk7 := later_k7 c arg2 harg2 x2) (hv0 := later_v0 c arg2 harg2 x2) (hv1 := later_v1 c arg2 harg2 x2) (hv2 := later_v2 c arg2 harg2 x2) (hv3 := later_v3 c arg2 harg2 x2) (hv4 := later_v4 c arg2 harg2 x2) (hv5 := later_v5 c arg2 harg2 x2) (hv6 := later_v6 c arg2 harg2 x2) (hv7 := later_v7 c arg2 harg2 x2) ..

set_option maxHeartbeats 4000000 in
/-- The block of queries' gradients the body leaves. -/
theorem later_dq (hc0 : ¬firstBlock i) : (runLater c i arg2 harg2 arg3 harg3 arg4 harg4 arg5 harg5 arg6 harg6 arg7 harg7 arg8 harg8 arg9 harg9 arg10 harg10 arg11 harg11 arg12 harg12 hc0 x2 x3 x4 x5 x6 x7 x8 x9 d10 d11 s).1 = joined8 (fun h => dqOut (tile (qb i) h (scrAt (keysOf x2) (valsOf x2) x3 x4 x5 x6 (qb i) s (16 - (i 1).val))) x7 x8 x9) := by
  unfold runLater; dsimp only
  refine pieces8 arg10 _ _ _ _ _ _ _ _ _ _ _ _ _ _ _ _ _ _ ?_ ?_ ?_ ?_ ?_ ?_ ?_ ?_
  · refine Eq.trans (b := dqOut (runLater.sl.v412 c i arg2 harg2 arg3 harg3 arg4 harg4 arg5 harg5 arg6 harg6 arg7 harg7 arg8 harg8 arg9 harg9 arg10 harg10 arg11 harg11 arg12 harg12 x2 x3 x4 x5 x6 s) (shapeCast S256x128 (View.readAt (Elt F) arg7.view (Rect.unit (s := S256x128) ![0, 0] S256x128.size whole_inb).toLoadRect (harg7.unread x7)) shapeCasts_S256x128_S256x128) (shapeCast S256x128 (View.readAt (Elt F) arg8.view (Rect.unit (s := S256x128) ![0, 0] S256x128.size whole_inb).toLoadRect (harg8.unread x8)) shapeCasts_S256x128_S256x128) (shapeCast S256x128 (View.readAt (Elt F) arg9.view (Rect.unit (s := S256x128) ![0, 0] S256x128.size whole_inb).toLoadRect (harg9.unread x9)) shapeCasts_S256x128_S256x128)) rfl ?_
    rw [later_tile0, whole_read arg7 harg7, whole_read arg8 harg8, whole_read arg9 harg9]
  · refine Eq.trans (b := dqOut (runLater.sl.v450 c i arg2 harg2 arg3 harg3 arg4 harg4 arg5 harg5 arg6 harg6 arg7 harg7 arg8 harg8 arg9 harg9 arg10 harg10 arg11 harg11 arg12 harg12 x2 x3 x4 x5 x6 s) (shapeCast S256x128 (View.readAt (Elt F) arg7.view (Rect.unit (s := S256x128) ![0, 0] S256x128.size whole_inb).toLoadRect (harg7.unread x7)) shapeCasts_S256x128_S256x128) (shapeCast S256x128 (View.readAt (Elt F) arg8.view (Rect.unit (s := S256x128) ![0, 0] S256x128.size whole_inb).toLoadRect (harg8.unread x8)) shapeCasts_S256x128_S256x128) (shapeCast S256x128 (View.readAt (Elt F) arg9.view (Rect.unit (s := S256x128) ![0, 0] S256x128.size whole_inb).toLoadRect (harg9.unread x9)) shapeCasts_S256x128_S256x128)) rfl ?_
    rw [later_tile1, whole_read arg7 harg7, whole_read arg8 harg8, whole_read arg9 harg9]
  · refine Eq.trans (b := dqOut (runLater.sl.v488 c i arg2 harg2 arg3 harg3 arg4 harg4 arg5 harg5 arg6 harg6 arg7 harg7 arg8 harg8 arg9 harg9 arg10 harg10 arg11 harg11 arg12 harg12 x2 x3 x4 x5 x6 s) (shapeCast S256x128 (View.readAt (Elt F) arg7.view (Rect.unit (s := S256x128) ![0, 0] S256x128.size whole_inb).toLoadRect (harg7.unread x7)) shapeCasts_S256x128_S256x128) (shapeCast S256x128 (View.readAt (Elt F) arg8.view (Rect.unit (s := S256x128) ![0, 0] S256x128.size whole_inb).toLoadRect (harg8.unread x8)) shapeCasts_S256x128_S256x128) (shapeCast S256x128 (View.readAt (Elt F) arg9.view (Rect.unit (s := S256x128) ![0, 0] S256x128.size whole_inb).toLoadRect (harg9.unread x9)) shapeCasts_S256x128_S256x128)) rfl ?_
    rw [later_tile2, whole_read arg7 harg7, whole_read arg8 harg8, whole_read arg9 harg9]
  · refine Eq.trans (b := dqOut (runLater.sl.v526 c i arg2 harg2 arg3 harg3 arg4 harg4 arg5 harg5 arg6 harg6 arg7 harg7 arg8 harg8 arg9 harg9 arg10 harg10 arg11 harg11 arg12 harg12 x2 x3 x4 x5 x6 s) (shapeCast S256x128 (View.readAt (Elt F) arg7.view (Rect.unit (s := S256x128) ![0, 0] S256x128.size whole_inb).toLoadRect (harg7.unread x7)) shapeCasts_S256x128_S256x128) (shapeCast S256x128 (View.readAt (Elt F) arg8.view (Rect.unit (s := S256x128) ![0, 0] S256x128.size whole_inb).toLoadRect (harg8.unread x8)) shapeCasts_S256x128_S256x128) (shapeCast S256x128 (View.readAt (Elt F) arg9.view (Rect.unit (s := S256x128) ![0, 0] S256x128.size whole_inb).toLoadRect (harg9.unread x9)) shapeCasts_S256x128_S256x128)) rfl ?_
    rw [later_tile3, whole_read arg7 harg7, whole_read arg8 harg8, whole_read arg9 harg9]
  · refine Eq.trans (b := dqOut (runLater.sl.v564 c i arg2 harg2 arg3 harg3 arg4 harg4 arg5 harg5 arg6 harg6 arg7 harg7 arg8 harg8 arg9 harg9 arg10 harg10 arg11 harg11 arg12 harg12 x2 x3 x4 x5 x6 s) (shapeCast S256x128 (View.readAt (Elt F) arg7.view (Rect.unit (s := S256x128) ![0, 0] S256x128.size whole_inb).toLoadRect (harg7.unread x7)) shapeCasts_S256x128_S256x128) (shapeCast S256x128 (View.readAt (Elt F) arg8.view (Rect.unit (s := S256x128) ![0, 0] S256x128.size whole_inb).toLoadRect (harg8.unread x8)) shapeCasts_S256x128_S256x128) (shapeCast S256x128 (View.readAt (Elt F) arg9.view (Rect.unit (s := S256x128) ![0, 0] S256x128.size whole_inb).toLoadRect (harg9.unread x9)) shapeCasts_S256x128_S256x128)) rfl ?_
    rw [later_tile4, whole_read arg7 harg7, whole_read arg8 harg8, whole_read arg9 harg9]
  · refine Eq.trans (b := dqOut (runLater.sl.v602 c i arg2 harg2 arg3 harg3 arg4 harg4 arg5 harg5 arg6 harg6 arg7 harg7 arg8 harg8 arg9 harg9 arg10 harg10 arg11 harg11 arg12 harg12 x2 x3 x4 x5 x6 s) (shapeCast S256x128 (View.readAt (Elt F) arg7.view (Rect.unit (s := S256x128) ![0, 0] S256x128.size whole_inb).toLoadRect (harg7.unread x7)) shapeCasts_S256x128_S256x128) (shapeCast S256x128 (View.readAt (Elt F) arg8.view (Rect.unit (s := S256x128) ![0, 0] S256x128.size whole_inb).toLoadRect (harg8.unread x8)) shapeCasts_S256x128_S256x128) (shapeCast S256x128 (View.readAt (Elt F) arg9.view (Rect.unit (s := S256x128) ![0, 0] S256x128.size whole_inb).toLoadRect (harg9.unread x9)) shapeCasts_S256x128_S256x128)) rfl ?_
    rw [later_tile5, whole_read arg7 harg7, whole_read arg8 harg8, whole_read arg9 harg9]
  · refine Eq.trans (b := dqOut (runLater.sl.v640 c i arg2 harg2 arg3 harg3 arg4 harg4 arg5 harg5 arg6 harg6 arg7 harg7 arg8 harg8 arg9 harg9 arg10 harg10 arg11 harg11 arg12 harg12 x2 x3 x4 x5 x6 s) (shapeCast S256x128 (View.readAt (Elt F) arg7.view (Rect.unit (s := S256x128) ![0, 0] S256x128.size whole_inb).toLoadRect (harg7.unread x7)) shapeCasts_S256x128_S256x128) (shapeCast S256x128 (View.readAt (Elt F) arg8.view (Rect.unit (s := S256x128) ![0, 0] S256x128.size whole_inb).toLoadRect (harg8.unread x8)) shapeCasts_S256x128_S256x128) (shapeCast S256x128 (View.readAt (Elt F) arg9.view (Rect.unit (s := S256x128) ![0, 0] S256x128.size whole_inb).toLoadRect (harg9.unread x9)) shapeCasts_S256x128_S256x128)) rfl ?_
    rw [later_tile6, whole_read arg7 harg7, whole_read arg8 harg8, whole_read arg9 harg9]
  · refine Eq.trans (b := dqOut (runLater.sl.v678 c i arg2 harg2 arg3 harg3 arg4 harg4 arg5 harg5 arg6 harg6 arg7 harg7 arg8 harg8 arg9 harg9 arg10 harg10 arg11 harg11 arg12 harg12 x2 x3 x4 x5 x6 s) (shapeCast S256x128 (View.readAt (Elt F) arg7.view (Rect.unit (s := S256x128) ![0, 0] S256x128.size whole_inb).toLoadRect (harg7.unread x7)) shapeCasts_S256x128_S256x128) (shapeCast S256x128 (View.readAt (Elt F) arg8.view (Rect.unit (s := S256x128) ![0, 0] S256x128.size whole_inb).toLoadRect (harg8.unread x8)) shapeCasts_S256x128_S256x128) (shapeCast S256x128 (View.readAt (Elt F) arg9.view (Rect.unit (s := S256x128) ![0, 0] S256x128.size whole_inb).toLoadRect (harg9.unread x9)) shapeCasts_S256x128_S256x128)) rfl ?_
    rw [later_tile7, whole_read arg7 harg7, whole_read arg8 harg8, whole_read arg9 harg9]

set_option maxHeartbeats 4000000 in
/-- The block of keys' and values' gradients the body leaves. -/
theorem later_dkv (hc0 : ¬firstBlock i) : (runLater c i arg2 harg2 arg3 harg3 arg4 harg4 arg5 harg5 arg6 harg6 arg7 harg7 arg8 harg8 arg9 harg9 arg10 harg10 arg11 harg11 arg12 harg12 hc0 x2 x3 x4 x5 x6 x7 x8 x9 d10 d11 s).2.1 = joined16 (dkvTile (dkAt (keysOf x2) (valsOf x2) x3 x4 x5 x6 (qb i) (16 - (i 1).val)) (dvAt (keysOf x2) x3 x4 x5 (qb i) (16 - (i 1).val)) x7 x8 x9) := by
  unfold runLater; dsimp only
  refine pieces16 arg11 _ _ _ _ _ _ _ _ _ _ _ _ _ _ _ _ _ _ _ _ _ _ _ _ _ _ _ _ _ _ _ _ _ _ ?_ ?_ ?_ ?_ ?_ ?_ ?_ ?_ ?_ ?_ ?_ ?_ ?_ ?_ ?_ ?_
  · refine Eq.trans (b := unrotate (runLater.sl.r_35 c i arg2 harg2 arg3 harg3 arg4 harg4 arg5 harg5 arg6 harg6 arg7 harg7 arg8 harg8 arg9 harg9 arg10 harg10 arg11 harg11 arg12 harg12 x2 x3 x4 x5 x6 s) (shapeCast S256x128 (View.readAt (Elt F) arg7.view (Rect.unit (s := S256x128) ![0, 0] S256x128.size whole_inb).toLoadRect (harg7.unread x7)) shapeCasts_S256x128_S256x128) (shapeCast S256x128 (View.readAt (Elt F) arg8.view (Rect.unit (s := S256x128) ![0, 0] S256x128.size whole_inb).toLoadRect (harg8.unread x8)) shapeCasts_S256x128_S256x128) (shapeCast S256x128 (View.readAt (Elt F) arg9.view (Rect.unit (s := S256x128) ![0, 0] S256x128.size whole_inb).toLoadRect (harg9.unread x9)) shapeCasts_S256x128_S256x128)) rfl ?_
    rw [later_fin0, whole_read arg7 harg7, whole_read arg8 harg8, whole_read arg9 harg9]; rfl
  · refine Eq.trans (b := truncf .bf16 (runLater.sl.r_20 c i arg2 harg2 arg3 harg3 arg4 harg4 arg5 harg5 arg6 harg6 arg7 harg7 arg8 harg8 arg9 harg9 arg10 harg10 arg11 harg11 arg12 harg12 x2 x3 x4 x5 x6 s) bitsLt_bf16_f32) rfl ?_
    rw [later_fin1]; rfl
  · refine Eq.trans (b := dkOut (runLater.sl.r_21 c i arg2 harg2 arg3 harg3 arg4 harg4 arg5 harg5 arg6 harg6 arg7 harg7 arg8 harg8 arg9 harg9 arg10 harg10 arg11 harg11 arg12 harg12 x2 x3 x4 x5 x6 s) (shapeCast S256x128 (View.readAt (Elt F) arg7.view (Rect.unit (s := S256x128) ![0, 0] S256x128.size whole_inb).toLoadRect (harg7.unread x7)) shapeCasts_S256x128_S256x128) (shapeCast S256x128 (View.readAt (Elt F) arg8.view (Rect.unit (s := S256x128) ![0, 0] S256x128.size whole_inb).toLoadRect (harg8.unread x8)) shapeCasts_S256x128_S256x128) (shapeCast S256x128 (View.readAt (Elt F) arg9.view (Rect.unit (s := S256x128) ![0, 0] S256x128.size whole_inb).toLoadRect (harg9.unread x9)) shapeCasts_S256x128_S256x128)) rfl ?_
    rw [later_fin2, whole_read arg7 harg7, whole_read arg8 harg8, whole_read arg9 harg9]; rfl
  · refine Eq.trans (b := truncf .bf16 (runLater.sl.r_22 c i arg2 harg2 arg3 harg3 arg4 harg4 arg5 harg5 arg6 harg6 arg7 harg7 arg8 harg8 arg9 harg9 arg10 harg10 arg11 harg11 arg12 harg12 x2 x3 x4 x5 x6 s) bitsLt_bf16_f32) rfl ?_
    rw [later_fin3]; rfl
  · refine Eq.trans (b := dkOut (runLater.sl.r_23 c i arg2 harg2 arg3 harg3 arg4 harg4 arg5 harg5 arg6 harg6 arg7 harg7 arg8 harg8 arg9 harg9 arg10 harg10 arg11 harg11 arg12 harg12 x2 x3 x4 x5 x6 s) (shapeCast S256x128 (View.readAt (Elt F) arg7.view (Rect.unit (s := S256x128) ![0, 0] S256x128.size whole_inb).toLoadRect (harg7.unread x7)) shapeCasts_S256x128_S256x128) (shapeCast S256x128 (View.readAt (Elt F) arg8.view (Rect.unit (s := S256x128) ![0, 0] S256x128.size whole_inb).toLoadRect (harg8.unread x8)) shapeCasts_S256x128_S256x128) (shapeCast S256x128 (View.readAt (Elt F) arg9.view (Rect.unit (s := S256x128) ![0, 0] S256x128.size whole_inb).toLoadRect (harg9.unread x9)) shapeCasts_S256x128_S256x128)) rfl ?_
    rw [later_fin4, whole_read arg7 harg7, whole_read arg8 harg8, whole_read arg9 harg9]; rfl
  · refine Eq.trans (b := truncf .bf16 (runLater.sl.r_24 c i arg2 harg2 arg3 harg3 arg4 harg4 arg5 harg5 arg6 harg6 arg7 harg7 arg8 harg8 arg9 harg9 arg10 harg10 arg11 harg11 arg12 harg12 x2 x3 x4 x5 x6 s) bitsLt_bf16_f32) rfl ?_
    rw [later_fin5]; rfl
  · refine Eq.trans (b := dkOut (runLater.sl.r_25 c i arg2 harg2 arg3 harg3 arg4 harg4 arg5 harg5 arg6 harg6 arg7 harg7 arg8 harg8 arg9 harg9 arg10 harg10 arg11 harg11 arg12 harg12 x2 x3 x4 x5 x6 s) (shapeCast S256x128 (View.readAt (Elt F) arg7.view (Rect.unit (s := S256x128) ![0, 0] S256x128.size whole_inb).toLoadRect (harg7.unread x7)) shapeCasts_S256x128_S256x128) (shapeCast S256x128 (View.readAt (Elt F) arg8.view (Rect.unit (s := S256x128) ![0, 0] S256x128.size whole_inb).toLoadRect (harg8.unread x8)) shapeCasts_S256x128_S256x128) (shapeCast S256x128 (View.readAt (Elt F) arg9.view (Rect.unit (s := S256x128) ![0, 0] S256x128.size whole_inb).toLoadRect (harg9.unread x9)) shapeCasts_S256x128_S256x128)) rfl ?_
    rw [later_fin6, whole_read arg7 harg7, whole_read arg8 harg8, whole_read arg9 harg9]; rfl
  · refine Eq.trans (b := truncf .bf16 (runLater.sl.r_26 c i arg2 harg2 arg3 harg3 arg4 harg4 arg5 harg5 arg6 harg6 arg7 harg7 arg8 harg8 arg9 harg9 arg10 harg10 arg11 harg11 arg12 harg12 x2 x3 x4 x5 x6 s) bitsLt_bf16_f32) rfl ?_
    rw [later_fin7]; rfl
  · refine Eq.trans (b := dkOut (runLater.sl.r_27 c i arg2 harg2 arg3 harg3 arg4 harg4 arg5 harg5 arg6 harg6 arg7 harg7 arg8 harg8 arg9 harg9 arg10 harg10 arg11 harg11 arg12 harg12 x2 x3 x4 x5 x6 s) (shapeCast S256x128 (View.readAt (Elt F) arg7.view (Rect.unit (s := S256x128) ![0, 0] S256x128.size whole_inb).toLoadRect (harg7.unread x7)) shapeCasts_S256x128_S256x128) (shapeCast S256x128 (View.readAt (Elt F) arg8.view (Rect.unit (s := S256x128) ![0, 0] S256x128.size whole_inb).toLoadRect (harg8.unread x8)) shapeCasts_S256x128_S256x128) (shapeCast S256x128 (View.readAt (Elt F) arg9.view (Rect.unit (s := S256x128) ![0, 0] S256x128.size whole_inb).toLoadRect (harg9.unread x9)) shapeCasts_S256x128_S256x128)) rfl ?_
    rw [later_fin8, whole_read arg7 harg7, whole_read arg8 harg8, whole_read arg9 harg9]; rfl
  · refine Eq.trans (b := truncf .bf16 (runLater.sl.r_28 c i arg2 harg2 arg3 harg3 arg4 harg4 arg5 harg5 arg6 harg6 arg7 harg7 arg8 harg8 arg9 harg9 arg10 harg10 arg11 harg11 arg12 harg12 x2 x3 x4 x5 x6 s) bitsLt_bf16_f32) rfl ?_
    rw [later_fin9]; rfl
  · refine Eq.trans (b := dkOut (runLater.sl.r_29 c i arg2 harg2 arg3 harg3 arg4 harg4 arg5 harg5 arg6 harg6 arg7 harg7 arg8 harg8 arg9 harg9 arg10 harg10 arg11 harg11 arg12 harg12 x2 x3 x4 x5 x6 s) (shapeCast S256x128 (View.readAt (Elt F) arg7.view (Rect.unit (s := S256x128) ![0, 0] S256x128.size whole_inb).toLoadRect (harg7.unread x7)) shapeCasts_S256x128_S256x128) (shapeCast S256x128 (View.readAt (Elt F) arg8.view (Rect.unit (s := S256x128) ![0, 0] S256x128.size whole_inb).toLoadRect (harg8.unread x8)) shapeCasts_S256x128_S256x128) (shapeCast S256x128 (View.readAt (Elt F) arg9.view (Rect.unit (s := S256x128) ![0, 0] S256x128.size whole_inb).toLoadRect (harg9.unread x9)) shapeCasts_S256x128_S256x128)) rfl ?_
    rw [later_fin10, whole_read arg7 harg7, whole_read arg8 harg8, whole_read arg9 harg9]; rfl
  · refine Eq.trans (b := truncf .bf16 (runLater.sl.r_30 c i arg2 harg2 arg3 harg3 arg4 harg4 arg5 harg5 arg6 harg6 arg7 harg7 arg8 harg8 arg9 harg9 arg10 harg10 arg11 harg11 arg12 harg12 x2 x3 x4 x5 x6 s) bitsLt_bf16_f32) rfl ?_
    rw [later_fin11]; rfl
  · refine Eq.trans (b := dkOut (runLater.sl.r_31 c i arg2 harg2 arg3 harg3 arg4 harg4 arg5 harg5 arg6 harg6 arg7 harg7 arg8 harg8 arg9 harg9 arg10 harg10 arg11 harg11 arg12 harg12 x2 x3 x4 x5 x6 s) (shapeCast S256x128 (View.readAt (Elt F) arg7.view (Rect.unit (s := S256x128) ![0, 0] S256x128.size whole_inb).toLoadRect (harg7.unread x7)) shapeCasts_S256x128_S256x128) (shapeCast S256x128 (View.readAt (Elt F) arg8.view (Rect.unit (s := S256x128) ![0, 0] S256x128.size whole_inb).toLoadRect (harg8.unread x8)) shapeCasts_S256x128_S256x128) (shapeCast S256x128 (View.readAt (Elt F) arg9.view (Rect.unit (s := S256x128) ![0, 0] S256x128.size whole_inb).toLoadRect (harg9.unread x9)) shapeCasts_S256x128_S256x128)) rfl ?_
    rw [later_fin12, whole_read arg7 harg7, whole_read arg8 harg8, whole_read arg9 harg9]; rfl
  · refine Eq.trans (b := truncf .bf16 (runLater.sl.r_32 c i arg2 harg2 arg3 harg3 arg4 harg4 arg5 harg5 arg6 harg6 arg7 harg7 arg8 harg8 arg9 harg9 arg10 harg10 arg11 harg11 arg12 harg12 x2 x3 x4 x5 x6 s) bitsLt_bf16_f32) rfl ?_
    rw [later_fin13]; rfl
  · refine Eq.trans (b := dkOut (runLater.sl.r_33 c i arg2 harg2 arg3 harg3 arg4 harg4 arg5 harg5 arg6 harg6 arg7 harg7 arg8 harg8 arg9 harg9 arg10 harg10 arg11 harg11 arg12 harg12 x2 x3 x4 x5 x6 s) (shapeCast S256x128 (View.readAt (Elt F) arg7.view (Rect.unit (s := S256x128) ![0, 0] S256x128.size whole_inb).toLoadRect (harg7.unread x7)) shapeCasts_S256x128_S256x128) (shapeCast S256x128 (View.readAt (Elt F) arg8.view (Rect.unit (s := S256x128) ![0, 0] S256x128.size whole_inb).toLoadRect (harg8.unread x8)) shapeCasts_S256x128_S256x128) (shapeCast S256x128 (View.readAt (Elt F) arg9.view (Rect.unit (s := S256x128) ![0, 0] S256x128.size whole_inb).toLoadRect (harg9.unread x9)) shapeCasts_S256x128_S256x128)) rfl ?_
    rw [later_fin14, whole_read arg7 harg7, whole_read arg8 harg8, whole_read arg9 harg9]; rfl
  · refine Eq.trans (b := truncf .bf16 (runLater.sl.r_34 c i arg2 harg2 arg3 harg3 arg4 harg4 arg5 harg5 arg6 harg6 arg7 harg7 arg8 harg8 arg9 harg9 arg10 harg10 arg11 harg11 arg12 harg12 x2 x3 x4 x5 x6 s) bitsLt_bf16_f32) rfl ?_
    rw [later_fin15]; rfl

set_option maxHeartbeats 4000000 in
/-- The scratch the body leaves. -/
theorem later_scr (hc0 : ¬firstBlock i) : (runLater c i arg2 harg2 arg3 harg3 arg4 harg4 arg5 harg5 arg6 harg6 arg7 harg7 arg8 harg8 arg9 harg9 arg10 harg10 arg11 harg11 arg12 harg12 hc0 x2 x3 x4 x5 x6 x7 x8 x9 d10 d11 s).2.2.1 = (scrAt (keysOf x2) (valsOf x2) x3 x4 x5 x6 (qb i) s (16 - (i 1).val)) := by
  unfold runLater; dsimp only
  exact tail_read (kk := keysOf x2) (vv := valsOf x2) (hinit := (later_init c i arg2 harg2 arg3 harg3 arg4 harg4 arg5 harg5 arg6 harg6 x2 x3 x4 x5 x6)) (hG := (later_base c i arg2 harg2 arg3 harg3 arg4 harg4 arg5 harg5 arg6 harg6 arg12 harg12 x2 x3 x4 x5 x6 s))
    (hk0 := later_k0 c arg2 harg2 x2) (hk1 := later_k1 c arg2 harg2 x2) (hk2 := later_k2 c arg2 harg2 x2) (hk3 := later_k3 c arg2 harg2 x2) (hk4 := later_k4 c arg2 harg2 x2) (hk5 := later_k5 c arg2 harg2 x2) (hk6 := later_k6 c arg2 harg2 x2) (hk7 := later_k7 c arg2 harg2 x2) (hv0 := later_v0 c arg2 harg2 x2) (hv1 := later_v1 c arg2 harg2 x2) (hv2 := later_v2 c arg2 harg2 x2) (hv3 := later_v3 c arg2 harg2 x2) (hv4 := later_v4 c arg2 harg2 x2) (hv5 := later_v5 c arg2 harg2 x2) (hv6 := later_v6 c arg2 harg2 x2) (hv7 := later_v7 c arg2 harg2 x2) ..

end Later

end Cert.KernelIdeal.AttnBwd

end
-- ==== Proof.IdealRun.lean ====
/- The run of attn_bwd with named contents: what the scratch holds after each grid point, what each point leaves in the
   two output blocks, and the launch. -/
module

public import proofs.«01_k».proof.Proof.FirstEnd
public import proofs.«01_k».proof.Proof.LaterEnd
public import proofs.«01_k».proof.Proof.Gen.KernelIdeal.Launch
public import proofs.«01_k».proof.Proof.Gen.KernelIdeal.Frame
public import Idealize.ShloMosaic.Lib.WordCmp

@[expose] public section

set_option maxRecDepth 16384

noncomputable section

namespace Cert.KernelIdeal.AttnBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Window 0's current staging buffer at point `t`, and that it is whole. -/
abbrev ms0 (t : Fin cfg0.N) : Memref sig .tc .vmem S256x2048 .bf16 := win0_0.stage (cfg0.slots t 0)
abbrev hs0 (t : Fin cfg0.N) : (ms0 t).IsWhole := hstage0_0 ((cfg0.slots t 0).cast nbuf0_0)
/-- Window 1's current staging buffer at point `t`, and that it is whole. -/
abbrev ms1 (t : Fin cfg0.N) : Memref sig .tc .vmem S4096x1024 .bf16 := win0_1.stage (cfg0.slots t 1)
abbrev hs1 (t : Fin cfg0.N) : (ms1 t).IsWhole := hstage0_1 ((cfg0.slots t 1).cast nbuf0_1)
/-- Window 2's current staging buffer at point `t`, and that it is whole. -/
abbrev ms2 (t : Fin cfg0.N) : Memref sig .tc .vmem S4096x1024 .bf16 := win0_2.stage (cfg0.slots t 2)
abbrev hs2 (t : Fin cfg0.N) : (ms2 t).IsWhole := hstage0_2 ((cfg0.slots t 2).cast nbuf0_2)
/-- Window 3's current staging buffer at point `t`, and that it is whole. -/
abbrev ms3 (t : Fin cfg0.N) : Memref sig .tc .vmem S8x16x1x256 .f32 := win0_3.stage (cfg0.slots t 3)
abbrev hs3 (t : Fin cfg0.N) : (ms3 t).IsWhole := hstage0_3 ((cfg0.slots t 3).cast nbuf0_3)
/-- Window 4's current staging buffer at point `t`, and that it is whole. -/
abbrev ms4 (t : Fin cfg0.N) : Memref sig .tc .vmem S8x16x1x256 .f32 := win0_4.stage (cfg0.slots t 4)
abbrev hs4 (t : Fin cfg0.N) : (ms4 t).IsWhole := hstage0_4 ((cfg0.slots t 4).cast nbuf0_4)
/-- Window 5's current staging buffer at point `t`, and that it is whole. -/
abbrev ms5 (t : Fin cfg0.N) : Memref sig .tc .vmem S256x128 .f32 := win0_5.stage (cfg0.slots t 5)
abbrev hs5 (t : Fin cfg0.N) : (ms5 t).IsWhole := hstage0_5 ((cfg0.slots t 5).cast nbuf0_5)
/-- Window 6's current staging buffer at point `t`, and that it is whole. -/
abbrev ms6 (t : Fin cfg0.N) : Memref sig .tc .vmem S256x128 .f32 := win0_6.stage (cfg0.slots t 6)
abbrev hs6 (t : Fin cfg0.N) : (ms6 t).IsWhole := hstage0_6 ((cfg0.slots t 6).cast nbuf0_6)
/-- Window 7's current staging buffer at point `t`, and that it is whole. -/
abbrev ms7 (t : Fin cfg0.N) : Memref sig .tc .vmem S256x128 .f32 := win0_7.stage (cfg0.slots t 7)
abbrev hs7 (t : Fin cfg0.N) : (ms7 t).IsWhole := hstage0_7 ((cfg0.slots t 7).cast nbuf0_7)
/-- Window 8's current staging buffer at point `t`, and that it is whole. -/
abbrev ms8 (t : Fin cfg0.N) : Memref sig .tc .vmem S256x1024 .bf16 := win0_8.stage (cfg0.slots t 8)
abbrev hs8 (t : Fin cfg0.N) : (ms8 t).IsWhole := hstage0_8 ((cfg0.slots t 8).cast nbuf0_8)
/-- Window 9's current staging buffer at point `t`, and that it is whole. -/
abbrev ms9 (t : Fin cfg0.N) : Memref sig .tc .vmem S256x2048 .bf16 := win0_9.stage (cfg0.slots t 9)
abbrev hs9 (t : Fin cfg0.N) : (ms9 t).IsWhole := hstage0_9 ((cfg0.slots t 9).cast nbuf0_9)
/-- The scratch buffer that accumulates the query gradient. -/
abbrev scr : Memref sig .tc .vmem S4096x1024 .f32 := Memref.whole cc0_scratch0

/-- What the launch hands the region besides the windows: the scratch at anything and the generator register. -/
theorem rest_eq (c : Dev nD) :
    (Pipeline.ΦA spec0 c : sProp 𝕄)
      = iprop(iprop((∃ d, owns (c : Thread nD τ) scr fullShare d)) ∗ (∃ r, prngReg c r)) := by
  unfold Pipeline.ΦA; rw [scopedRest0_eq]; simp only [scr, owns_whole]; try rfl

/-- A run's statement at other names of the contents it leaves. -/
theorem named_of {α β γ : Type} {P : α → β → γ → Prop} (R : Σ' (x : α) (y : β), { z : γ // P x y z }) {x : α} {y : β} {z : γ}
    (hx : R.1 = x) (hy : R.2.1 = y) (hz : R.2.2.1 = z) : P x y z := by
  subst hx hy hz; exact R.2.2.2

/-- The points at which the scratch is cleared. -/
theorem first_iff : ∀ t : Fin cfg0.N, firstBlock (grid0.coords t) ↔ t.val % 16 = 0 :=
  (fun t => by
    have ht : t.val < 32 := Nat.lt_of_lt_of_eq t.isLt N_0
    have e0 : (grid0.coords t 0).val = t.val / 16 % 2 := Pipeline.Grid.coords_val t 0 (by decide) rfl
    have e1 : (grid0.coords t 1).val = t.val / 1 % 16 := Pipeline.Grid.coords_val t 1 (by decide) rfl
    simp only [firstBlock, e0, e1]
    word_cmp
   : ∀ t : Fin grid0.N, firstBlock (grid0.coords t) ↔ t.val % 16 = 0)

/-- The scratch after point `t`, from what it held before the point's own steps. -/
def scrStep (c : Dev nD) (t : Fin cfg0.N) (s : Vec F S4096x1024 .f32) : Vec F S4096x1024 .f32 :=
  scrAt (keysOf (iblk m c 0 t)) (valsOf (iblk m c 0 t)) (iblk m c 1 t) (iblk m c 2 t) (iblk m c 3 t) (iblk m c 4 t) (qb (grid0.coords t)) s (16 - (grid0.coords t 1).val)

/-- The scratch after point `n`. -/
def scrAfter (c : Dev nD) : (n : ℕ) → n < cfg0.N → Vec F S4096x1024 .f32
  | 0, hn => scrStep m c ⟨0, hn⟩ zeros
  | n + 1, hn => scrStep m c ⟨n + 1, hn⟩ (if (n + 1) % 16 = 0 then zeros else scrAfter c n (Nat.lt_of_succ_lt hn))

theorem scrAfter_first (c : Dev nD) (t : Fin cfg0.N) (h : t.val % 16 = 0) : scrAfter m c t.val t.isLt = scrStep m c t zeros := by
  obtain ⟨n, hn⟩ := t
  cases n with
  | zero => rfl
  | succ n => exact congrArg (scrStep m c ⟨n + 1, hn⟩) (if_pos h)

theorem scrAfter_later (c : Dev nD) (t : Fin cfg0.N) (h : ¬t.val % 16 = 0) :
    scrAfter m c t.val t.isLt = scrStep m c t (scrAfter m c (t.val - 1) (Nat.lt_of_le_of_lt (Nat.sub_le _ _) t.isLt)) := by
  obtain ⟨n, hn⟩ := t
  cases n with
  | zero => exact absurd (Nat.zero_mod _) h
  | succ n => exact congrArg (scrStep m c ⟨n + 1, hn⟩) (if_neg h)

/-- The block of queries' gradients of point `t`. -/
def outQ (c : Dev nD) (t : Fin cfg0.N) : Vec F S256x1024 .bf16 :=
  joined8 (fun h => dqOut (tile (qb (grid0.coords t)) h (scrAfter m c t.val t.isLt)) (iblk m c 5 t) (iblk m c 6 t) (iblk m c 7 t))

/-- The block of keys' and values' gradients of point `t`. -/
def outKV (c : Dev nD) (t : Fin cfg0.N) : Vec F S256x2048 .bf16 :=
  joined16 (dkvTile (dkAt (keysOf (iblk m c 0 t)) (valsOf (iblk m c 0 t)) (iblk m c 1 t) (iblk m c 2 t) (iblk m c 3 t) (iblk m c 4 t) (qb (grid0.coords t)) (16 - (grid0.coords t 1).val))
    (dvAt (keysOf (iblk m c 0 t)) (iblk m c 1 t) (iblk m c 2 t) (iblk m c 3 t) (qb (grid0.coords t)) (16 - (grid0.coords t 1).val)) (iblk m c 5 t) (iblk m c 6 t) (iblk m c 7 t))

/-- Between points: before the first the scratch at anything, then at what the point before left. -/
def PhiS (c : Dev nD) : (n : ℕ) → n ≤ cfg0.N → sProp 𝕄
  | 0, _ => Pipeline.ΦA spec0 c
  | n + 1, hn => iprop(iprop(owns (c : Thread nD τ) scr fullShare ((scrAfter m c n hn))) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scr fullShare ((scrAfter m c n hn))) ∗ (∃ r, prngReg c r)) := rfl

theorem PhiS_pos (c : Dev nD) (n : ℕ) (h : n ≤ cfg0.N) (hz : n ≠ 0) :
    PhiS m c n h = iprop(iprop(owns (c : Thread nD τ) scr fullShare ((scrAfter m c (n - 1) (by omega)))) ∗ (∃ r, prngReg c r)) := by
  cases n with
  | zero => exact absurd rfl hz
  | succ n => rfl

/-- The proof data: the arrays as the region finds them, each input block as it is, the outputs and the scratch named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outQ m c t
    | ⟨9, _⟩ => outKV m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = outQ m c t := by dsimp only [dats]
theorem after_9 (c : Dev nD) (t : Fin cfg0.N) : (dats m 0 c).after 9 t = outKV m c t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))

/-- What it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t))

set_option maxHeartbeats 3200000 in
/-- The body at any point, from what it is called with to what it returns. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).owesAt () t.succ = (dats m 0 c).owesAt () t.castSucc from rfl,
    after_0, after_1, after_2, after_3, after_4, after_5, after_6, after_7, after_8, after_9]
  rw [show (dats m 0 c).Φ t.succ = PhiS m c (t.val + 1) t.isLt from rfl, PhiS_succ]
  by_cases h0 : t.val % 16 = 0
  · by_cases hz : t.val = 0
    · rw [PhiS_castSucc m c t, PhiS_zero m c _ _ hz, rest_eq]
      iintro ⟨⟨⟨%dS, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      have e1 : (runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scr (Memref.isWhole_whole _) ((first_iff t).mpr h0) (iblk m c 0 t) (iblk m c 1 t) (iblk m c 2 t) (iblk m c 3 t) (iblk m c 4 t) (iblk m c 5 t) (iblk m c 6 t) (iblk m c 7 t) ((dats m 0 c).before 8 t d8) ((dats m 0 c).before 9 t d9) dS).1 = outQ m c t := (first_dq ..).trans (by unfold outQ; rw [scrAfter_first m c t h0]; rfl)
      have e2 : (runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scr (Memref.isWhole_whole _) ((first_iff t).mpr h0) (iblk m c 0 t) (iblk m c 1 t) (iblk m c 2 t) (iblk m c 3 t) (iblk m c 4 t) (iblk m c 5 t) (iblk m c 6 t) (iblk m c 7 t) ((dats m 0 c).before 8 t d8) ((dats m 0 c).before 9 t d9) dS).2.1 = outKV m c t := first_dkv ..
      have e3 : (runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scr (Memref.isWhole_whole _) ((first_iff t).mpr h0) (iblk m c 0 t) (iblk m c 1 t) (iblk m c 2 t) (iblk m c 3 t) (iblk m c 4 t) (iblk m c 5 t) (iblk m c 6 t) (iblk m c 7 t) ((dats m 0 c).before 8 t d8) ((dats m 0 c).before 9 t d9) dS).2.2.1 = scrAfter m c t.val t.isLt := (first_scr ..).trans (by rw [scrAfter_first m c t h0]; rfl)
      iapply (named_of (runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scr (Memref.isWhole_whole _) ((first_iff t).mpr h0) (iblk m c 0 t) (iblk m c 1 t) (iblk m c 2 t) (iblk m c 3 t) (iblk m c 4 t) (iblk m c 5 t) (iblk m c 6 t) (iblk m c 7 t) ((dats m 0 c).before 8 t d8) ((dats m 0 c).before 9 t d9) dS) e1 e2 e3 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS]; · iexact HS
      iintro ⟨H0, H1, H2, H3, H4, H5, H6, H7, H8, H9, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      have e1 : (runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scr (Memref.isWhole_whole _) ((first_iff t).mpr h0) (iblk m c 0 t) (iblk m c 1 t) (iblk m c 2 t) (iblk m c 3 t) (iblk m c 4 t) (iblk m c 5 t) (iblk m c 6 t) (iblk m c 7 t) ((dats m 0 c).before 8 t d8) ((dats m 0 c).before 9 t d9) (scrAfter m c (t.val - 1) (by omega))).1 = outQ m c t := (first_dq ..).trans (by unfold outQ; rw [scrAfter_first m c t h0]; rfl)
      have e2 : (runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scr (Memref.isWhole_whole _) ((first_iff t).mpr h0) (iblk m c 0 t) (iblk m c 1 t) (iblk m c 2 t) (iblk m c 3 t) (iblk m c 4 t) (iblk m c 5 t) (iblk m c 6 t) (iblk m c 7 t) ((dats m 0 c).before 8 t d8) ((dats m 0 c).before 9 t d9) (scrAfter m c (t.val - 1) (by omega))).2.1 = outKV m c t := first_dkv ..
      have e3 : (runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scr (Memref.isWhole_whole _) ((first_iff t).mpr h0) (iblk m c 0 t) (iblk m c 1 t) (iblk m c 2 t) (iblk m c 3 t) (iblk m c 4 t) (iblk m c 5 t) (iblk m c 6 t) (iblk m c 7 t) ((dats m 0 c).before 8 t d8) ((dats m 0 c).before 9 t d9) (scrAfter m c (t.val - 1) (by omega))).2.2.1 = scrAfter m c t.val t.isLt := (first_scr ..).trans (by rw [scrAfter_first m c t h0]; rfl)
      iapply (named_of (runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scr (Memref.isWhole_whole _) ((first_iff t).mpr h0) (iblk m c 0 t) (iblk m c 1 t) (iblk m c 2 t) (iblk m c 3 t) (iblk m c 4 t) (iblk m c 5 t) (iblk m c 6 t) (iblk m c 7 t) ((dats m 0 c).before 8 t d8) ((dats m 0 c).before 9 t d9) (scrAfter m c (t.val - 1) (by omega))) e1 e2 e3 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS]; · iexact HS
      iintro ⟨H0, H1, H2, H3, H4, H5, H6, H7, H8, H9, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
  · have hz : t.val ≠ 0 := fun e => h0 (by rw [e])
    rw [PhiS_castSucc m c t, PhiS_pos m c _ _ hz]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    have e1 : (runLater c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scr (Memref.isWhole_whole _) (fun h => h0 ((first_iff t).mp h)) (iblk m c 0 t) (iblk m c 1 t) (iblk m c 2 t) (iblk m c 3 t) (iblk m c 4 t) (iblk m c 5 t) (iblk m c 6 t) (iblk m c 7 t) ((dats m 0 c).before 8 t d8) ((dats m 0 c).before 9 t d9) (scrAfter m c (t.val - 1) (Nat.lt_of_le_of_lt (Nat.sub_le _ _) t.isLt))).1 = outQ m c t := (later_dq ..).trans (by unfold outQ; rw [scrAfter_later m c t h0]; rfl)
    have e2 : (runLater c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scr (Memref.isWhole_whole _) (fun h => h0 ((first_iff t).mp h)) (iblk m c 0 t) (iblk m c 1 t) (iblk m c 2 t) (iblk m c 3 t) (iblk m c 4 t) (iblk m c 5 t) (iblk m c 6 t) (iblk m c 7 t) ((dats m 0 c).before 8 t d8) ((dats m 0 c).before 9 t d9) (scrAfter m c (t.val - 1) (Nat.lt_of_le_of_lt (Nat.sub_le _ _) t.isLt))).2.1 = outKV m c t := later_dkv ..
    have e3 : (runLater c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scr (Memref.isWhole_whole _) (fun h => h0 ((first_iff t).mp h)) (iblk m c 0 t) (iblk m c 1 t) (iblk m c 2 t) (iblk m c 3 t) (iblk m c 4 t) (iblk m c 5 t) (iblk m c 6 t) (iblk m c 7 t) ((dats m 0 c).before 8 t d8) ((dats m 0 c).before 9 t d9) (scrAfter m c (t.val - 1) (Nat.lt_of_le_of_lt (Nat.sub_le _ _) t.isLt))).2.2.1 = scrAfter m c t.val t.isLt := (later_scr ..).trans (by rw [scrAfter_later m c t h0]; rfl)
    iapply (named_of (runLater c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scr (Memref.isWhole_whole _) (fun h => h0 ((first_iff t).mp h)) (iblk m c 0 t) (iblk m c 1 t) (iblk m c 2 t) (iblk m c 3 t) (iblk m c 4 t) (iblk m c 5 t) (iblk m c 6 t) (iblk m c 7 t) ((dats m 0 c).before 8 t d8) ((dats m 0 c).before 9 t d9) (scrAfter m c (t.val - 1) (Nat.lt_of_le_of_lt (Nat.sub_le _ _) t.isLt))) e1 e2 e3 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS]; · iexact HS
    iintro ⟨H0, H1, H2, H3, H4, H5, H6, H7, H8, H9, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The body table's row at a point is the body. -/
theorem defs_row (t : Fin cfg0.N) :
    defs₀ (F := F) .tc cfg0.body (cfg0.bodyArgs t (cfg0.slots t)) = bodyAt0 t := by
  unfold defs₀; rw [Defs.onTc_tc]

/-- The library's body obligation. -/
theorem body_obligation (c : Dev nD) : BodyObligation (dats (F := F) m 0 c) (defs₀ (F := F)) Variants.none () Set.univ := fun t => by
  rw [bigSep_W0, bigSep_W0, defs_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 32 := N_0; omega), rest_eq]
  iintro ⟨HS, Hg⟩
  isplitl [HS]
  · iexists _; iexact HS
  iexact Hg

set_option backward.isDefEq.respectTransparency.types false in
/-- The run of the program: every array at what the points leave in it, every other buffer as the region found it. -/
theorem run_named : θ_run defs (onTc (τ := τ) (main (F := F))) (s₀ m ρ) (fun r => Pipeline.FramePost cfgs (dats m) (0 : Fin 1) (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := hin m) (hout := hout m) (hQ' := fun _ h => h)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).2 main_arg0 (Pipeline.mem_restRefs_of main_arg0 (by decide) (by decide))).trans (V_main_arg0 m c), ((h.1 c).2 main_arg1 (Pipeline.mem_restRefs_of main_arg1 (by decide) (by decide))).trans (V_main_arg1 m c), ((h.1 c).2 main_arg2 (Pipeline.mem_restRefs_of main_arg2 (by decide) (by decide))).trans (V_main_arg2 m c), ((h.1 c).2 main_arg3 (Pipeline.mem_restRefs_of main_arg3 (by decide) (by decide))).trans (V_main_arg3 m c), ((h.1 c).2 main_arg4 (Pipeline.mem_restRefs_of main_arg4 (by decide) (by decide))).trans (V_main_arg4 m c)⟩, h.2⟩)
    (run_named m ρ)

end Cert.KernelIdeal.AttnBwd

end
-- ==== Proof.Frames.lean ====
/- The claims beside the value claim: the reference's frame, and the two constants that the idealized kernel names. -/
module

public import proofs.«01_k».proof.Defs
public import proofs.«01_k».proof.Proof.Gen.ReferenceIdeal.Run
public import Idealize.ShloMosaic.Lib.Quiescent

@[expose] public section

noncomputable section

namespace Cert.Frames

open Idealize.ShloMosaic Idealize.ShloMosaic.TcCoe Idealize.SL.Sem

/-- The reference ends with its arguments unchanged and every counter at zero. -/
theorem reference (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0) :=
  (θ_run Cert.ReferenceIdeal.defs _ _).mono (fun r h => ⟨fun c => (h c).2.2, sem_eq_zero_of_no_sems (by decide) _⟩) (Cert.ReferenceIdeal.Value.run m g)

/-- The mask and the logarithm of two are what the idealized kernel's table says. -/
theorem preserves : Cert.preserves_Kernel_KernelIdeal :=
  ⟨IdealRules.named_const.statement _ _ .f32 _ _ rfl, IdealRules.named_const.statement _ _ .f32 _ _ rfl⟩

end Cert.Frames

end
-- ==== Proof.TileReal.lean ====
/- The operations of a point on tiles of real numbers: each gives a tile of real numbers, named here. -/
module

public import proofs.«01_k».proof.Proof.Steps
public import Idealize.ShloMosaic.Lib.Pointwise
public import Idealize.ShloMosaic.Lib.Pointwise.Tactic

@[expose] public section

set_option maxRecDepth 16384

noncomputable section

namespace Cert.KernelIdeal.AttnBwd

open Cert.KernelIdeal Cert.KernelIdeal.Gen
open Idealize.ShloMosaic Idealize.ShloMosaic.TcCoe Idealize.ShloMosaic.Tactic

/-- A tile of real numbers. -/
def up {φ : FTy} (f : Fin 256 → Fin 128 → ℝ) : FVec Ideal S256x128 φ := fun i => ((f (i 0) (i 1) : ℝ) : EReal)

/-- A square of real numbers. -/
def upS {φ : FTy} (f : Fin 256 → Fin 256 → ℝ) : FVec Ideal S256x256 φ := fun i => ((f (i 0) (i 1) : ℝ) : EReal)

/-- A row of real numbers. -/
def upR (f : Fin 256 → ℝ) : Vec Ideal S1x1x1x256 .f32 := fun i => ((f (i 3) : ℝ) : EReal)

/-- The sum of real numbers as extended ones. -/
theorem coe_sum {ι : Type*} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

theorem outerT_up (k q : Fin 256 → Fin 128 → ℝ) : outerT (F := Ideal) (up k) (up q) = upS fun a b => ∑ l, k a l * q b l := by
  funext i
  obtain ⟨a, b, rfl⟩ := (⟨i 0, i 1, eq_ix2 i⟩ : ∃ a b, i = ix2 a b)
  pointwise [outerT, up, upS]
  rw [coe_sum]
  simp [EReal.coe_mul]

theorem accum_up (A : Fin 256 → Fin 128 → ℝ) (w : Fin 256 → Fin 256 → ℝ) (x : Fin 256 → Fin 128 → ℝ) :
    accum (F := Ideal) (up A) (upS w) (up x) = up fun a l => A a l + ∑ b, w a b * x b l := by
  funext i
  obtain ⟨a, b, rfl⟩ := (⟨i 0, i 1, eq_ix2 i⟩ : ∃ a b, i = ix2 a b)
  pointwise [accum, up, upS]
  rw [EReal.coe_add, coe_sum]
  simp [EReal.coe_mul]

theorem accumT_up (A : Fin 256 → Fin 128 → ℝ) (w : Fin 256 → Fin 256 → ℝ) (x : Fin 256 → Fin 128 → ℝ) :
    accumT (F := Ideal) (up A) (upS w) (up x) = up fun b l => A b l + ∑ a, w a b * x a l := by
  funext i
  obtain ⟨a, b, rfl⟩ := (⟨i 0, i 1, eq_ix2 i⟩ : ∃ a b, i = ix2 a b)
  pointwise [accumT, up, upS]
  rw [EReal.coe_add, coe_sum]
  simp [EReal.coe_mul]

theorem rows_up (l : Fin 256 → ℝ) : rows (F := Ideal) (upR l) = upS fun _ b => l b := by
  funext i
  obtain ⟨a, b, rfl⟩ := (⟨i 0, i 1, eq_ix2 i⟩ : ∃ a b, i = ix2 a b)
  pointwise [rows, upR, upS]

theorem exp2_coe (r : ℝ) : Ideal.exp2 (r : EReal) = (((2 : ℝ) ^ r : ℝ) : EReal) := rfl

theorem chunk_word : ∀ a : Fin 256, IntOp.shrsi .vector (BitVec.ofNat 32 a.val) 6#32 = BitVec.ofNat 32 (a.val / 64) := by decide +kernel

theorem chunk_le : ∀ a b : Fin 4, IntOp.cmpi .sle (BitVec.ofNat 32 a.val) (BitVec.ofNat 32 b.val) = 1#1 ↔ a.val ≤ b.val := by decide +kernel

/-- The diagonal's mask holds where the key's chunk is not later than the query's. -/
theorem diagMask_apply (a b : Fin 256) : diagMask (ix2 a b) = 1#1 ↔ a.val / 64 ≤ b.val / 64 := by
  have e : diagMask (ix2 a b) = IntOp.cmpi .sle (IntOp.shrsi .vector (BitVec.ofNat 32 a.val) 6#32) (IntOp.shrsi .vector (BitVec.ofNat 32 b.val) 6#32) := by
    pointwise [diagMask]
  rw [e, chunk_word, chunk_word]
  exact chunk_le ⟨a.val / 64, by omega⟩ ⟨b.val / 64, by omega⟩

/-- Probabilities of a block whose scores are none of them masked, and of the diagonal's. -/
def pReal (diag : Bool) (k q : Fin 256 → Fin 128 → ℝ) (l : Fin 256 → ℝ) (a b : Fin 256) : ℝ :=
  if diag = true ∧ ¬ a.val / 64 ≤ b.val / 64 then 0 else (2 : ℝ) ^ ((∑ x, k a x * q b x) - l b)

theorem probs_up (diag : Bool) (k q : Fin 256 → Fin 128 → ℝ) (l : Fin 256 → ℝ) :
    probs (F := Ideal) (scoresOf diag (up k) (up q)) (upR l) = upS (pReal diag k q l) := by
  funext i
  obtain ⟨a, b, rfl⟩ := (⟨i 0, i 1, eq_ix2 i⟩ : ∃ a b, i = ix2 a b)
  have hf : probs (F := Ideal) (outerT (up k) (up q)) (upR l) (ix2 a b) = ((((2 : ℝ) ^ ((∑ x, k a x * q b x) - l b) : ℝ)) : EReal) := by
    rw [outerT_up, probs, rows_up]
    show Ideal.exp2 (((∑ x, k a x * q b x : ℝ) : EReal) - ((l b : ℝ) : EReal)) = _
    rw [← EReal.coe_sub, exp2_coe]
  cases diag with
  | false =>
    refine hf.trans ?_
    show _ = ((pReal false k q l a b : ℝ) : EReal)
    rw [pReal, if_neg (by simp)]
  | true =>
    show _ = ((pReal true k q l a b : ℝ) : EReal)
    by_cases hm : a.val / 64 ≤ b.val / 64
    · rw [pReal, if_neg (by simp [hm]), ← hf]
      have : masked (F := Ideal) (outerT (up k) (up q)) (ix2 a b) = outerT (F := Ideal) (up k) (up q) (ix2 a b) := by
        show (if diagMask (ix2 a b) = 1#1 then _ else _) = _
        rw [if_pos ((diagMask_apply a b).mpr hm)]
      exact congrArg (fun z : EReal => Ideal.exp2 (z - rows (F := Ideal) (upR l) (ix2 a b))) this
    · rw [pReal, if_pos ⟨rfl, hm⟩]
      have : masked (F := Ideal) (outerT (up k) (up q)) (ix2 a b) = (⊥ : EReal) := by
        show (if diagMask (ix2 a b) = 1#1 then _ else (Named.named (F := Ideal) κ "mask" 0xF149F2CA#32)) = _
        rw [if_neg (fun h => hm ((diagMask_apply a b).mp h))]
        exact IdealRules.named_const.ideal_named_scalar κ "mask" _ _ rfl
      refine (congrArg (fun z : EReal => Ideal.exp2 (z - rows (F := Ideal) (upR l) (ix2 a b))) this).trans ?_
      rw [rows_up]
      show Ideal.exp2 ((⊥ : EReal) - ((l b : ℝ) : EReal)) = _
      rw [EReal.bot_sub]; rfl

theorem pOf_up (diag : Bool) (k q : Fin 256 → Fin 128 → ℝ) (l : Fin 256 → ℝ) :
    pOf (F := Ideal) diag (up k) (up q) (upR l) = upS (pReal diag k q l) := by
  rw [pOf, probs_up]; rfl

theorem dsOf_up (diag : Bool) (k v q o : Fin 256 → Fin 128 → ℝ) (l d : Fin 256 → ℝ) :
    dsOf (F := Ideal) diag (up k) (up v) (up q) (up o) (upR l) (upR d)
      = upS fun a b => pReal diag k q l a b * ((∑ x, v a x * o b x) - d b) := by
  rw [dsOf, probs_up, outerT_up, rows_up]
  funext i
  show ((_ : ℝ) : EReal) * (((_ : ℝ) : EReal) - ((_ : ℝ) : EReal)) = ((_ : ℝ) : EReal)
  rw [← EReal.coe_sub, ← EReal.coe_mul]

/-- The lane `s` lanes before. -/
def rot (s : ℕ) (x : Fin 128) : Fin 128 := ⟨(x.val + 128 - s) % 128, Nat.mod_lt _ (by decide)⟩

/-- The inverse rotation on real numbers. -/
def unrotR (d c a b : Fin 256 → Fin 128 → ℝ) (r : Fin 256) (x : Fin 128) : ℝ :=
  d r x * c r x + d r (rot 16 x) * a r (rot 16 x) + d r (rot 112 x) * b r (rot 112 x)

theorem unrotate_up (d c a b : Fin 256 → Fin 128 → ℝ) : unrotate (F := Ideal) (up d) (up c) (up a) (up b) = up (unrotR d c a b) := by
  funext i
  obtain ⟨r, x, rfl⟩ := (⟨i 0, i 1, eq_ix2 i⟩ : ∃ a b, i = ix2 a b)
  show (up d (ix2 r x) * up c (ix2 r x) + dynamicRotate 1 16#32 none (mulf (F := Ideal) (φ := .f32) (up d) (up a)) rotates_S256x128_d1 (ix2 r x))
    + dynamicRotate 1 112#32 none (mulf (F := Ideal) (φ := .f32) (up d) (up b)) rotates_S256x128_d1 (ix2 r x) = _
  have e1 : dynamicRotate 1 16#32 none (mulf (F := Ideal) (φ := .f32) (up d) (up a)) rotates_S256x128_d1 (ix2 r x)
      = ((d r (rot 16 x) * a r (rot 16 x) : ℝ) : EReal) := by
    pointwise [up, rot]
    exact (EReal.coe_mul _ _).symm
  have e2 : dynamicRotate 1 112#32 none (mulf (F := Ideal) (φ := .f32) (up d) (up b)) rotates_S256x128_d1 (ix2 r x)
      = ((d r (rot 112 x) * b r (rot 112 x) : ℝ) : EReal) := by
    pointwise [up, rot]
    exact (EReal.coe_mul _ _).symm
  rw [e1, e2]
  show ((_ : ℝ) : EReal) * ((_ : ℝ) : EReal) + _ + _ = ((_ : ℝ) : EReal)
  rw [← EReal.coe_mul, ← EReal.coe_add, ← EReal.coe_add]
  rfl

theorem scale_up (d : Fin 256 → Fin 128 → ℝ) (s : Ideal .f32) (σ : ℝ) (h : s = (σ : EReal)) :
    mulf (F := Ideal) (φ := .f32) (up d) (broadcast S256x128 s) = up fun r x => d r x * σ := by
  subst h
  funext i
  exact (EReal.coe_mul _ _).symm

theorem dkOut_up (d c a b : Fin 256 → Fin 128 → ℝ) :
    dkOut (F := Ideal) (up d) (up c) (up a) (up b) = up (unrotR (fun r x => d r x * Real.log 2) c a b) := by
  rw [dkOut, scale_up d _ (Real.log 2) (IdealRules.named_const.ideal_named_scalar κ "ln2" _ _ rfl), unrotate_up]

/-- The attention's scale, the number that its pattern stands for. -/
def sigma : ℝ := (Ideal.ofBits .f32 0x3DD105EC#32 : EReal).toReal

theorem sigma_eq : (Ideal.ofBits .f32 0x3DD105EC#32 : EReal) = ((sigma : ℝ) : EReal) := by
  have : (Ideal.ofBits .f32 0x3DD105EC#32 : EReal) ≠ ⊤ ∧ (Ideal.ofBits .f32 0x3DD105EC#32 : EReal) ≠ ⊥ := by
    simp [Ideal.ofBits, Ideal.ieee, -EReal.coe_mul]
  exact (EReal.coe_toReal this.1 this.2).symm

theorem dqOut_up (d c a b : Fin 256 → Fin 128 → ℝ) :
    dqOut (F := Ideal) (up d) (up c) (up a) (up b) = up (unrotR (fun r x => d r x * sigma) c a b) := by
  rw [dqOut, scale_up d (FloatOps.ofBits .f32 0x3DD105EC#32) sigma sigma_eq, unrotate_up]

end Cert.KernelIdeal.AttnBwd

end
-- ==== Proof.Blocks.lean ====
/- The sums that the call forms block by block, over real arrays. -/
module

public import proofs.«01_k».proof.Proof.TileReal
public import proofs.«01_k».proof.Proof.IdealRun

@[expose] public section

set_option maxRecDepth 16384

noncomputable section

namespace Cert.KernelIdeal.AttnBwd

open Cert.KernelIdeal Cert.KernelIdeal.Gen
open Idealize.ShloMosaic Idealize.ShloMosaic.TcCoe Idealize.ShloMosaic.Tactic
open Idealize.SL

/-- Sums over consecutive blocks of 256 are one sum. -/
theorem block_sum (F : ℕ → ℝ) (n N : ℕ) :
    ∑ i ∈ Finset.range N, ∑ b : Fin 256, F (256 * (n + i) + b.val) = ∑ r ∈ Finset.range (256 * N), F (256 * n + r) := by
  induction N with
  | zero => simp
  | succ N ih =>
    rw [Finset.sum_range_succ, ih, show 256 * (N + 1) = 256 * N + 256 from rfl, Finset.sum_range_add, Finset.sum_range (n := 256)]
    congr 1
    exact Finset.sum_congr rfl fun b _ => congrArg F (by ring)

/-- A sum whose first terms vanish begins later. -/
theorem skip_sum (F : ℕ → ℝ) (k N : ℕ) (hF : ∀ r, r < k → F r = 0) :
    ∑ r ∈ Finset.range N, F (k + r) = ∑ r ∈ Finset.range (k + N), F r := by
  rw [Finset.sum_range_add, Finset.sum_eq_zero (fun r hr => hF r (Finset.mem_range.mp hr)), zero_add]

/-- A sum whose last terms vanish ends earlier. -/
theorem cut_sum (F : ℕ → ℝ) (k N : ℕ) (hF : ∀ r, k ≤ r → F r = 0) :
    ∑ r ∈ Finset.range k, F r = ∑ r ∈ Finset.range (k + N), F r := by
  rw [Finset.sum_range_add, Finset.sum_eq_zero (s := Finset.range N) (fun r _ => hF (k + r) (Nat.le_add_right _ _)), add_zero]

section Spec

variable (K V Q O : ℕ → ℕ → ℕ → ℝ) (L D : ℕ → ℕ → ℝ)

/-- The probability of key `j` at query `r` of head `h`, by the saved logarithm of the sum: powers of two. -/
def pk (h r j : ℕ) : ℝ := if j / 64 ≤ r / 64 then (2 : ℝ) ^ ((∑ x : Fin 128, K h j x.val * Q h r x.val) - L h r) else 0

/-- The gradient of the score of key `j` at query `r` of head `h`. -/
def dsk (h r j : ℕ) : ℝ := pk K Q L h r j * ((∑ x : Fin 128, V h j x.val * O h r x.val) - D h r)

theorem pk_zero {h r j : ℕ} (hj : ¬ j / 64 ≤ r / 64) : pk K Q L h r j = 0 := if_neg hj

theorem dsk_zero {h r j : ℕ} (hj : ¬ j / 64 ≤ r / 64) : dsk K V Q O L D h r j = 0 := by
  rw [dsk, pk_zero K Q L hj, zero_mul]

/-- The probabilities of the step from key block `n` to query block `n + j`. -/
theorem pReal_block (h n j : ℕ) (a b : Fin 256) :
    pReal (j == 0) (fun a x => K h (256 * n + a.val) x.val) (fun b x => Q h (256 * (n + j) + b.val) x.val) (fun b => L h (256 * (n + j) + b.val)) a b
      = pk K Q L h (256 * (n + j) + b.val) (256 * n + a.val) := by
  unfold pReal pk
  by_cases hj : j = 0
  · subst hj
    by_cases hab : a.val / 64 ≤ b.val / 64
    · rw [if_neg (by simp [hab]), if_pos (by omega)]
    · rw [if_pos ⟨rfl, hab⟩, if_neg (by omega)]
  · rw [if_neg (by simp [hj]), if_pos (by omega)]

/-- A point's blocks, as reals: the keys and values of block `n`, and all queries, output gradients, and saved rows. -/
structure Inputs (kk vv : Fin 8 → FVec Ideal S256x128 .bf16) (x3 x4 : Vec Ideal S4096x1024 .bf16) (x5 x6 : Vec Ideal S8x16x1x256 .f32) (n : Fin 16) : Prop where
  hk : ∀ h : Fin 8, kk h = up fun a x => K h.val (256 * n.val + a.val) x.val
  hv : ∀ h : Fin 8, vv h = up fun a x => V h.val (256 * n.val + a.val) x.val
  hq : ∀ (h : Fin 8) (n' : Fin 16), tile n' h x3 = up (φ := .bf16) fun b x => Q h.val (256 * n'.val + b.val) x.val
  ho : ∀ (h : Fin 8) (n' : Fin 16), tile n' h x4 = up (φ := .bf16) fun b x => O h.val (256 * n'.val + b.val) x.val
  hl : ∀ (h : Fin 8) (n' : Fin 16), rowOf h n' x5 = upR fun b => L h.val (256 * n'.val + b.val)
  hd : ∀ (h : Fin 8) (n' : Fin 16), rowOf h n' x6 = upR fun b => D h.val (256 * n'.val + b.val)

variable {K V Q O L D}
variable {kk vv : Fin 8 → FVec Ideal S256x128 .bf16} {x3 x4 : Vec Ideal S4096x1024 .bf16} {x5 x6 : Vec Ideal S8x16x1x256 .f32} {n : Fin 16}

section
theorem zero_up : (constant S256x128 .f32 0x00000000#32 : FVec Ideal S256x128 .f32) = up fun _ _ => 0 := by
  funext i
  show (Ideal.ofBits .f32 0x00000000#32 : EReal) = ((0 : ℝ) : EReal)
  simp [Ideal.ofBits, Ideal.ieee, -EReal.coe_mul]

variable (I : Inputs K V Q O L D kk vv x3 x4 x5 x6 n)
include I

/-- The probabilities of a step. -/
theorem pAt_real (j : ℕ) (hj : n.val + j < 16) (h : Fin 8) :
    pAt kk x3 x5 n j h = upS fun a b => pk K Q L h.val (256 * (n.val + j) + b.val) (256 * n.val + a.val) := by
  unfold pAt
  rw [I.hk, I.hq, I.hl, blk_val n j hj, pOf_up]
  congr 1
  funext a b
  exact pReal_block K Q L h.val n.val j a b

/-- The score gradients of a step. -/
theorem dsAt_real (j : ℕ) (hj : n.val + j < 16) (h : Fin 8) :
    dsAt kk vv x3 x4 x5 x6 n j h = upS fun a b => dsk K V Q O L D h.val (256 * (n.val + j) + b.val) (256 * n.val + a.val) := by
  unfold dsAt
  rw [I.hk, I.hv, I.hq, I.ho, I.hl, I.hd, blk_val n j hj, dsOf_up]
  congr 1
  funext a b
  rw [pReal_block K Q L h.val n.val j a b]
  rfl

/-- The keys' accumulator after `j` steps. -/
theorem dkAt_steps (h : Fin 8) : ∀ j, n.val + j ≤ 16 → dkAt kk vv x3 x4 x5 x6 n j h
    = up fun a x => ∑ i ∈ Finset.range j, ∑ b : Fin 256, dsk K V Q O L D h.val (256 * (n.val + i) + b.val) (256 * n.val + a.val) * Q h.val (256 * (n.val + i) + b.val) x.val := by
  intro j
  induction j with
  | zero =>
    intro _
    rw [dkAt, zero_up]
    simp only [Finset.range_zero, Finset.sum_empty]
  | succ j ih =>
    intro hj
    rw [dkAt, ih (by omega), dsAt_real I j (by omega), I.hq, blk_val n j (by omega), accum_up]
    simp only [Finset.sum_range_succ]

/-- The values' accumulator after `j` steps. -/
theorem dvAt_steps (h : Fin 8) : ∀ j, n.val + j ≤ 16 → dvAt kk x3 x4 x5 n j h
    = up fun a x => ∑ i ∈ Finset.range j, ∑ b : Fin 256, pk K Q L h.val (256 * (n.val + i) + b.val) (256 * n.val + a.val) * O h.val (256 * (n.val + i) + b.val) x.val := by
  intro j
  induction j with
  | zero =>
    intro _
    rw [dvAt, zero_up]
    simp only [Finset.range_zero, Finset.sum_empty]
  | succ j ih =>
    intro hj
    rw [dvAt, ih (by omega), pAt_real I j (by omega), I.ho, blk_val n j (by omega), accum_up]
    simp only [Finset.sum_range_succ]

/-- The keys' accumulator at the end: the sum over all queries. -/
theorem dkAt_real (h : Fin 8) : dkAt kk vv x3 x4 x5 x6 n (16 - n.val) h
    = up fun a x => ∑ r ∈ Finset.range 4096, dsk K V Q O L D h.val r (256 * n.val + a.val) * Q h.val r x.val := by
  rw [dkAt_steps I h _ (by omega)]
  congr 1
  funext a x
  rw [block_sum (fun r => dsk K V Q O L D h.val r (256 * n.val + a.val) * Q h.val r x.val), skip_sum (fun r => dsk K V Q O L D h.val r (256 * n.val + a.val) * Q h.val r x.val) (256 * n.val)]
  · rw [show 256 * n.val + 256 * (16 - n.val) = 4096 by omega]
  · intro r hr; rw [dsk_zero _ _ _ _ _ _ (by omega), zero_mul]

/-- The values' accumulator at the end: the sum over all queries. -/
theorem dvAt_real (h : Fin 8) : dvAt kk x3 x4 x5 n (16 - n.val) h
    = up fun a x => ∑ r ∈ Finset.range 4096, pk K Q L h.val r (256 * n.val + a.val) * O h.val r x.val := by
  rw [dvAt_steps I h _ (by omega)]
  congr 1
  funext a x
  rw [block_sum (fun r => pk K Q L h.val r (256 * n.val + a.val) * O h.val r x.val), skip_sum (fun r => pk K Q L h.val r (256 * n.val + a.val) * O h.val r x.val) (256 * n.val)]
  · rw [show 256 * n.val + 256 * (16 - n.val) = 4096 by omega]
  · intro r hr; rw [pk_zero _ _ _ (by omega), zero_mul]

end

/-- An entry of a tile. -/
theorem tile_apply {e : EltTy} (n : Fin 16) (h : Fin 8) (x : Vec Ideal S4096x1024 e) (a : Fin 256) (l : Fin 128) :
    tile n h x (ix2 a l) = x (ix2 ⟨256 * n.val + a.val, by omega⟩ ⟨128 * h.val + l.val, by omega⟩) := by
  unfold tile
  congr 1
  funext d
  refine Fin.ext ?_
  fin_cases d
  · show 256 * n.val + 1 * a.val = _; rw [one_mul]; rfl
  · show 128 * h.val + 1 * l.val = _; rw [one_mul]; rfl

/-- A step grows the tiles of its block alone. -/
theorem tile_step (n n' : Fin 16) (h : Fin 8) (w : Fin 8 → FVec Ideal S256x256 .bf16) (k : Fin 8 → FVec Ideal S256x128 .bf16) (s : Vec Ideal S4096x1024 .f32) :
    tile n' h (scratchStep n w k s) = if n' = n then accumT (tile n h s) (w h) (k h) else tile n' h s := by
  funext i
  obtain ⟨a, l, rfl⟩ := (⟨i 0, i 1, eq_ix2 i⟩ : ∃ a l, i = ix2 a l)
  rw [tile_apply, scratchStep]
  have e0 : (256 * n'.val + a.val) / 256 = n'.val := by omega
  have e1 : (128 * h.val + l.val) / 128 = h.val := by omega
  have e2 : (256 * n'.val + a.val) % 256 = a.val := by omega
  have e3 : (128 * h.val + l.val) % 128 = l.val := by omega
  by_cases hn : n' = n
  · rw [dif_pos (by show (256 * n'.val + a.val) / 256 = n.val; rw [e0, hn]), if_pos hn]
    have e : ∀ (H : Fin 8) (A : Fin 256) (B : Fin 128), H = h → A = a → B = l →
        accumT (tile n H s) (w H) (k H) (ix2 A B) = accumT (tile n h s) (w h) (k h) (ix2 a l) := by
      rintro _ _ _ rfl rfl rfl; rfl
    exact e _ _ _ (Fin.ext e1) (Fin.ext e2) (Fin.ext e3)
  · rw [dif_neg (by show ¬ (256 * n'.val + a.val) / 256 = n.val; rw [e0]; exact fun h => hn (Fin.ext h)), if_neg hn, tile_apply]

variable (K V Q O L D) in
/-- The queries' accumulator when the first `k` blocks of keys are done. -/
def Scr (k : ℕ) (s : Vec Ideal S4096x1024 .f32) : Prop :=
  ∀ (n' : Fin 16) (h : Fin 8), tile n' h s = up (φ := .f32) fun b x => ∑ J ∈ Finset.range (256 * min (n'.val + 1) k), dsk K V Q O L D h.val (256 * n'.val + b.val) J * K h.val J x.val

theorem scr_zero : Scr K V Q O L D 0 (zeros (F := Ideal)) := by
  intro n' h
  funext i
  obtain ⟨a, l, rfl⟩ := (⟨i 0, i 1, eq_ix2 i⟩ : ∃ a l, i = ix2 a l)
  rw [tile_apply]
  simp only [Nat.min_zero, Nat.mul_zero, Finset.range_zero, Finset.sum_empty]
  show (Ideal.ofBits .f32 0x00000000#32 : EReal) = ((0 : ℝ) : EReal)
  simp [Ideal.ofBits, Ideal.ieee, -EReal.coe_mul]

section
variable (I : Inputs K V Q O L D kk vv x3 x4 x5 x6 n)
include I

/-- The queries' accumulator after `j` steps of a point. -/
theorem scr_steps (s : Vec Ideal S4096x1024 .f32) (hs : Scr K V Q O L D n.val s) (h : Fin 8) (n' : Fin 16) : ∀ j, n.val + j ≤ 16 →
    tile n' h (scrAt kk vv x3 x4 x5 x6 n s j)
      = up (φ := .f32) fun b x => ∑ J ∈ Finset.range (if n.val ≤ n'.val ∧ n'.val < n.val + j then 256 * (n.val + 1) else 256 * min (n'.val + 1) n.val), dsk K V Q O L D h.val (256 * n'.val + b.val) J * K h.val J x.val := by
  intro j
  induction j with
  | zero => intro _; rw [if_neg (by omega)]; exact hs n' h
  | succ j ih =>
    intro hj
    rw [scrAt, tile_step]
    have hb := blk_val n j (by omega)
    by_cases hn : n' = blk n j
    · rw [if_pos hn, ← hn, ih (by omega)]
      have hn' : n'.val = n.val + j := by rw [hn, hb]
      rw [if_neg (by omega), if_pos (by omega), dsAt_real I j (by omega), I.hk, accumT_up]
      congr 1
      funext b x
      rw [← hn', show min (n'.val + 1) n.val = n.val by omega, Nat.mul_add, Finset.sum_range_add, Finset.sum_range (n := 256 * 1)]
    · rw [if_neg hn, ih (by omega)]
      have hn' : n'.val ≠ n.val + j := fun e => hn (Fin.ext (e.trans hb.symm))
      congr 1
      funext b x
      rw [if_congr (show (n.val ≤ n'.val ∧ n'.val < n.val + j) ↔ (n.val ≤ n'.val ∧ n'.val < n.val + (j + 1)) by omega) rfl rfl]

/-- A point does one more block of keys. -/
theorem scr_point (s : Vec Ideal S4096x1024 .f32) (hs : Scr K V Q O L D n.val s) :
    Scr K V Q O L D (n.val + 1) (scrAt kk vv x3 x4 x5 x6 n s (16 - n.val)) := by
  intro n' h
  rw [scr_steps I s hs h n' _ (by omega)]
  congr 1
  funext b x
  rw [show (if n.val ≤ n'.val ∧ n'.val < n.val + (16 - n.val) then 256 * (n.val + 1) else 256 * min (n'.val + 1) n.val) = 256 * min (n'.val + 1) (n.val + 1) by split_ifs <;> omega]

end

/-- A block's tile when its own keys are done: the sum over all keys. -/
theorem scr_tile (n : Fin 16) (h : Fin 8) (s : Vec Ideal S4096x1024 .f32) (hs : Scr K V Q O L D (n.val + 1) s) :
    tile n h s = up (φ := .f32) fun b x => ∑ J ∈ Finset.range 4096, dsk K V Q O L D h.val (256 * n.val + b.val) J * K h.val J x.val := by
  rw [hs n h]
  congr 1
  funext b x
  rw [min_self, cut_sum (fun J => dsk K V Q O L D h.val (256 * n.val + b.val) J * K h.val J x.val) _ (4096 - 256 * (n.val + 1)), show 256 * (n.val + 1) + (4096 - 256 * (n.val + 1)) = 4096 by omega]
  intro J hJ
  rw [dsk_zero _ _ _ _ _ _ (by omega), zero_mul]

end Spec

end Cert.KernelIdeal.AttnBwd

end
-- ==== Proof.HostReads.lean ====
/- What the host operations before the call leave in the arrays it reads: each is a term of the rotated queries and keys, of
   the masked scores and of the arguments, the same terms that the reference computes with. -/
module

public import proofs.«01_k».proof.Proof.Gen.KernelIdeal
public import proofs.«01_k».proof.Proof.Gen.KernelIdeal.Launch
public import proofs.«01_k».proof.Proof.Gen.KernelIdeal.Frame
public import proofs.«01_k».proof.Proof.Gen.ReferenceIdeal.Run
public import Idealize.ShloMosaic.Lib.StableHlo.RunRead

@[expose] public section

set_option maxRecDepth 16384

noncomputable section

namespace Cert.KernelIdeal.AttnBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.StableHlo
open Cert.ReferenceIdeal.Value (res_main_v35 res_main_v51 res_main_v63_0 res_main_v64)

variable {F : FTy → Type} [FloatOps F] [Named F]

variable (m : (ℓ : Loc nD τ sig) → Buf (Elt F) ℓ) (W : Valuation Cert.ReferenceIdeal.τ Cert.ReferenceIdeal.sig (Elt F))

/-- Two arrays joined, from equations of the two. -/
@[local congr] theorem concat2_congr {α : Type} {s1 s2 t : Shape} {d : Fin t.rank} {a a' : s1.Idx → α} {b b' : s2.Idx → α}
    {h : Shape.Concatenates [s1, s2] t d} (ha : a = a') (hb : b = b') :
    concatenate t d [⟨s1, a⟩, ⟨s2, b⟩] h = concatenate t d [⟨s1, a'⟩, ⟨s2, b'⟩] h := by subst ha hb; rfl

/-- Four arrays joined, from equations of the four. -/
theorem concat4_congr {α : Type} {s1 s2 s3 s4 t : Shape} {d : Fin t.rank} {a a' : s1.Idx → α} {b b' : s2.Idx → α} {e e' : s3.Idx → α} {f f' : s4.Idx → α}
    {h : Shape.Concatenates [s1, s2, s3, s4] t d} (ha : a = a') (hb : b = b') (he : e = e') (hf : f = f') :
    concatenate t d [⟨s1, a⟩, ⟨s2, b⟩, ⟨s3, e⟩, ⟨s4, f⟩] h = concatenate t d [⟨s1, a'⟩, ⟨s2, b'⟩, ⟨s3, e'⟩, ⟨s4, f'⟩] h := by
  subst ha hb he hf; rfl

/-- The two programs are given the same arrays. -/
structure SameArgs (c : Dev nD) (q k : FVec F S4096x16x96 .f32) (v : FVec F S4096x16x64 .f32) (p : IVec S4096 32) (o : FVec F S4096x16x64 .f32) : Prop where
  k0 : m (c, Proc.devRef .tc main_arg0) = q
  k1 : m (c, Proc.devRef .tc main_arg1) = k
  k2 : m (c, Proc.devRef .tc main_arg2) = v
  k3 : m (c, Proc.devRef .tc main_arg3) = p
  k4 : m (c, Proc.devRef .tc main_arg4) = o
  r0 : W (Proc.devRef .tc Cert.ReferenceIdeal.main_arg0) = q
  r1 : W (Proc.devRef .tc Cert.ReferenceIdeal.main_arg1) = k
  r2 : W (Proc.devRef .tc Cert.ReferenceIdeal.main_arg2) = v
  r3 : W (Proc.devRef .tc Cert.ReferenceIdeal.main_arg3) = p
  r4 : W (Proc.devRef .tc Cert.ReferenceIdeal.main_arg4) = o

variable {m W} {c : Dev nD} {q k : FVec F S4096x16x96 .f32} {v : FVec F S4096x16x64 .f32} {p : IVec S4096 32} {o : FVec F S4096x16x64 .f32} (A : SameArgs m W c q k v p o)

include A

/-- The frequencies as the reference spells them. -/
def freqs : FVec F S16 .f32 := Host.powf (broadcastInDim S16 ![] bcast_S_S16 (constant S_ .f32 0x461C4000#32)) (Host.divf (Host.negf (addf (broadcastInDim S16 ![] bcast_S_S16 (constant S_ .f32 0x00000000#32)) (mulf (broadcastInDim S16 ![] bcast_S_S16 (constant S_ .f32 0x40000000#32)) (sitofp .f32 (iotaInDim S16 32 0))))) (broadcastInDim S16 ![] bcast_S_S16 (constant S_ .f32 0x42000000#32)))

omit A in
set_option maxHeartbeats 4000000 in
/-- The frequencies of the 128 lanes of a head: none outside the rotated ones. -/
theorem host_freqs : V m c main_v12 = concatenate S128 0 [⟨S64, broadcastInDim S64 ![] bcast_S_S64 (constant S_ .f32 0x00000000#32)⟩, ⟨S16, freqs⟩, ⟨S16, freqs⟩, ⟨S32, broadcastInDim S32 ![] bcast_S_S32 (constant S_ .f32 0x00000000#32)⟩] concatenates_S64_S16_S16_S32_S128_d0 := by
  after_reads_simp
  refine concat4_congr ?_ ?_ ?_ ?_
  · change upto (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16] : List (HloOp τ sig (Elt F))) _ 18 (Proc.devRef .tc main_v10) = _
    after_reads_simp
  · change upto (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16] : List (HloOp τ sig (Elt F))) _ 18 (Proc.devRef .tc main_v9) = _
    after_reads_simp
    rfl
  · change upto (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16] : List (HloOp τ sig (Elt F))) _ 18 (Proc.devRef .tc main_v9) = _
    after_reads_simp
    rfl
  · change upto (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16] : List (HloOp τ sig (Elt F))) _ 18 (Proc.devRef .tc main_v11) = _
    after_reads_simp

/-- The angles of a head's lanes at every position. -/
theorem host_angle : V m c main_v18 = mulf (broadcastInDim S4096x128 ![0,1] bcast_S4096x1_S4096x128_0_1 (sitofp .f32 (shapeCast S4096x1 p shapeCasts_S4096_S4096x1))) (broadcastInDim S4096x128 ![0,1] bcast_S1x128_S4096x128_0_1 (shapeCast S1x128 (V m c main_v12) shapeCasts_S128_S1x128)) := by
  after_reads_simp
  rw [A.k3]
  rfl

omit A in
/-- The cosines of the angles. -/
theorem host_cos : V m c main_v31 = Host.cos (V m c main_v18 : FVec F S4096x128 .f32) := by
  after_reads_simp

omit A in
/-- The sines, negated, at the first half of the rotated lanes. -/
theorem host_sa : V m c main_v33 = select (andi (cmpi .sge (iotaInDim S4096x128 32 1) (broadcastInDim S4096x128 ![] bcast_S_S4096x128 (constantI S_ 32 64#32))) (cmpi .slt (iotaInDim S4096x128 32 1) (broadcastInDim S4096x128 ![] bcast_S_S4096x128 (constantI S_ 32 80#32)))) (Host.negf (Host.sin (V m c main_v18 : FVec F S4096x128 .f32))) (broadcastInDim S4096x128 ![] bcast_S_S4096x128 (constant S_ .f32 0x00000000#32)) := by
  after_reads_simp
  rfl

omit A in
/-- The sines at the second half of the rotated lanes. -/
theorem host_sb : V m c main_v34 = select (andi (cmpi .sge (iotaInDim S4096x128 32 1) (broadcastInDim S4096x128 ![] bcast_S_S4096x128 (constantI S_ 32 80#32))) (cmpi .slt (iotaInDim S4096x128 32 1) (broadcastInDim S4096x128 ![] bcast_S_S4096x128 (constantI S_ 32 96#32)))) (Host.sin (V m c main_v18 : FVec F S4096x128 .f32)) (broadcastInDim S4096x128 ![] bcast_S_S4096x128 (constant S_ .f32 0x00000000#32)) := by
  after_reads_simp
  rfl

set_option maxHeartbeats 8000000 in
/-- The rotated queries. -/
theorem host_q : V m c main_v70 = res_main_v35 W := by
  after_reads_simp
  unfold Cert.ReferenceIdeal.Value.res_main_v35 Cert.ReferenceIdeal.Value.res_main_v22 Cert.ReferenceIdeal.Value.res_main_v23 Cert.ReferenceIdeal.Value.res_main_v21 Cert.ReferenceIdeal.Value.res_main_v18 Cert.ReferenceIdeal.Value.res_main_v19 Cert.ReferenceIdeal.Value.res_main_v15
  rw [A.k0, A.k3, A.r0, A.r3]

set_option maxHeartbeats 8000000 in
/-- The rotated keys. -/
theorem host_k : V m c main_v86 = res_main_v51 W := by
  after_reads_simp
  unfold Cert.ReferenceIdeal.Value.res_main_v51 Cert.ReferenceIdeal.Value.res_main_v38 Cert.ReferenceIdeal.Value.res_main_v39 Cert.ReferenceIdeal.Value.res_main_v37 Cert.ReferenceIdeal.Value.res_main_v18 Cert.ReferenceIdeal.Value.res_main_v19 Cert.ReferenceIdeal.Value.res_main_v15
  rw [A.k1, A.k3, A.r1, A.r3]

set_option maxHeartbeats 8000000 in
/-- The masked scores. -/
theorem host_scores : V m c main_v98 = res_main_v63_0 W := by
  have e : V m c main_v98 = select (Cert.ReferenceIdeal.Value.res_main_v63_1 W) (mulf (Host.dotGeneral dot_S4096x16x96_S4096x16x96_S16x4096x4096_2_2_0_0_1_1 none (V m c main_v70 : FVec F S4096x16x96 .f32) (V m c main_v86 : FVec F S4096x16x96 .f32)) (broadcastInDim S16x4096x4096 ![] bcast_S_S16x4096x4096 (constant S_ .f32 0x3DD105EC#32))) (broadcastInDim S16x4096x4096 ![] bcast_S_S16x4096x4096 (id (constant S_ .f32 0xFF800000#32))) := by
    after_reads_simp
    rfl
  rw [e, host_q A, host_k A]
  rfl

omit A in
/-- The largest score of a query. -/
theorem host_max : V m c main_v99 = Host.reduce FloatOps.maximumf (V m c main_v98 : FVec F S16x4096x4096 .f32) (constant S_ .f32 0xFF800000#32) reducesTo_S16x4096x4096_S16x4096_d2 h_S_ := by
  after_reads_simp

omit A in
/-- The exponentials of the scores less the largest. -/
theorem host_exp : V m c main_v103 = Host.exp (subf (V m c main_v98 : FVec F S16x4096x4096 .f32) (broadcastInDim S16x4096x4096 ![0, 1, 2] bcast_S16x4096x1_S16x4096x4096_0_1_2 (broadcastInDim S16x4096x1 ![0, 1] bcast_S16x4096_S16x4096x1_0_1 (V m c main_v99 : FVec F S16x4096 .f32)))) := by
  after_reads_simp

omit A in
/-- Their sums. -/
theorem host_sum : V m c main_v104 = Host.reduceAdd (V m c main_v103 : FVec F S16x4096x4096 .f32) (constant S_ .f32 0x00000000#32) reducesTo_S16x4096x4096_S16x4096_d2 h_S_ := by
  after_reads_simp

omit A in
/-- The logarithms of the sums, to base two, with the largest score taken back in: window 3's array. -/
theorem host_lse : V m c main_v111 = shapeCast S16x16x1x256 (Host.divf (addf (V m c main_v99 : FVec F S16x4096 .f32) (Host.log (V m c main_v104 : FVec F S16x4096 .f32))) (broadcastInDim S16x4096 ![] bcast_S_S16x4096 (Host.log (constant S_ .f32 0x40000000#32)))) shapeCasts_S16x4096_S16x16x1x256 := by
  after_reads_simp
  rfl

set_option maxHeartbeats 8000000 in
/-- The products of the output and its gradient, summed over a head: window 4's array. -/
theorem host_dd : V m c main_v120 = shapeCast S16x16x1x256 (transpose S16x4096 [1, 0] (Host.reduceAdd (mulf o (transpose S4096x16x64 [2, 0, 1] (Host.dotGeneral dot_S4096x16x64_S16x4096x4096_S16x64x4096_0_2_2_1_1_0 none v (Host.divf (V m c main_v103 : FVec F S16x4096x4096 .f32) (broadcastInDim S16x4096x4096 ![0, 1, 2] bcast_S16x4096x1_S16x4096x4096_0_1_2 (broadcastInDim S16x4096x1 ![0, 1] bcast_S16x4096_S16x4096x1_0_1 (V m c main_v104 : FVec F S16x4096 .f32))))) transposes_S16x64x4096_S4096x16x64_2_0_1)) (constant S_ .f32 0x00000000#32) reducesTo_S4096x16x64_S4096x16_d2 h_S_) transposes_S4096x16_S16x4096_1_0) shapeCasts_S16x4096_S16x16x1x256 := by
  after_reads_simp
  simp only [A.k4, A.k2]
  rfl

omit A in
/-- The queries as the call takes them: scaled, over the logarithm of two, padded. -/
theorem host_qf : V m c main_v129 = truncf .bf16 (shapeCast S4096x2048 (pad S4096x16x128 ![0, 0, 0] ![0, 0, 32] ![0, 0, 0] (Host.divf (mulf (V m c main_v70 : FVec F S4096x16x96 .f32) (broadcastInDim S4096x16x96 ![] bcast_S_S4096x16x96 (constant S_ .f32 0x3DD105EC#32))) (broadcastInDim S4096x16x96 ![] bcast_S_S4096x16x96 (Host.log (constant S_ .f32 0x40000000#32)))) (sitofp .f32 (constantI S_ 32 0#32)) pads_S4096x16x96_S4096x16x128_000_000_0320 h_S_) shapeCasts_S4096x16x128_S4096x2048) bitsLt_bf16_f32 := by
  after_reads_simp
  rfl

/-- The keys and values as the call takes them: padded, side by side. -/
theorem host_kv : V m c main_v134 = truncf .bf16 (shapeCast S4096x4096 (concatenate S4096x16x256 2 [⟨S4096x16x128, pad S4096x16x128 ![0, 0, 0] ![0, 0, 32] ![0, 0, 0] (V m c main_v86 : FVec F S4096x16x96 .f32) (sitofp .f32 (constantI S_ 32 0#32)) pads_S4096x16x96_S4096x16x128_000_000_0320 h_S_⟩, ⟨S4096x16x128, pad S4096x16x128 ![0, 0, 0] ![0, 0, 64] ![0, 0, 0] v (sitofp .f32 (constantI S_ 32 0#32)) pads_S4096x16x64_S4096x16x128_000_000_0640 h_S_⟩] concatenates_S4096x16x128_S4096x16x128_S4096x16x256_d2) shapeCasts_S4096x16x256_S4096x4096) bitsLt_bf16_f32 := by
  after_reads_simp
  rw [A.k2]
  rfl

/-- The output's gradient as the call takes it: padded. -/
theorem host_do : V m c main_v137 = truncf .bf16 (shapeCast S4096x2048 (pad S4096x16x128 ![0, 0, 0] ![0, 0, 64] ![0, 0, 0] o (sitofp .f32 (constantI S_ 32 0#32)) pads_S4096x16x64_S4096x16x128_000_000_0640 h_S_) shapeCasts_S4096x16x128_S4096x2048) bitsLt_bf16_f32 := by
  after_reads_simp
  rw [A.k4]
  rfl

end Cert.KernelIdeal.AttnBwd

end
-- ==== Proof.RefReal.lean ====
/- The reference's arrays as arrays of real numbers, when its arguments are. -/
module

public import Mathlib.Data.Finset.Fold
public import proofs.«01_k».proof.Proof.Gen.ReferenceIdeal.Run
public import proofs.«01_k».proof.Proof.TileReal
public import proofs.«01_k».proof.Proof.HostReads

@[expose] public section

set_option maxRecDepth 16384

noncomputable section

namespace Cert.RealArrays

open Cert.ReferenceIdeal Cert.ReferenceIdeal.Gen Cert.ReferenceIdeal.Value
open Idealize.ShloMosaic Idealize.ShloMosaic.TcCoe Idealize.ShloMosaic.Tactic Idealize.ShloMosaic.StableHlo
open Cert.KernelIdeal.AttnBwd (coe_sum sigma sigma_eq)

/-- Arrays of real numbers, of rank one, two and three, from functions of the coordinates. -/
def u1 {a : ℕ} (f : ℕ → ℝ) : (⟨1, ![a]⟩ : Shape).Idx → EReal := fun i => ((f (i 0).val : ℝ) : EReal)
def u2 {a b : ℕ} (f : ℕ → ℕ → ℝ) : (⟨2, ![a, b]⟩ : Shape).Idx → EReal := fun i => ((f (i 0).val (i 1).val : ℝ) : EReal)
def u3 {a b c : ℕ} (f : ℕ → ℕ → ℕ → ℝ) : (⟨3, ![a, b, c]⟩ : Shape).Idx → EReal :=
  fun i => ((f (i 0).val (i 1).val (i 2).val : ℝ) : EReal)

theorem ix1_all {a : ℕ} {α : Type} {f g : (⟨1, ![a]⟩ : Shape).Idx → α} (h : ∀ x : Fin a, f (ix1 x) = g (ix1 x)) : f = g := by
  funext i; rw [eq_ix1 i]; exact h _
theorem ix2_all {a b : ℕ} {α : Type} {f g : (⟨2, ![a, b]⟩ : Shape).Idx → α} (h : ∀ (x : Fin a) (y : Fin b), f (ix2 x y) = g (ix2 x y)) : f = g := by
  funext i; rw [eq_ix2 i]; exact h _ _
theorem ix3_all {a b c : ℕ} {α : Type} {f g : (⟨3, ![a, b, c]⟩ : Shape).Idx → α}
    (h : ∀ (x : Fin a) (y : Fin b) (z : Fin c), f (ix3 x y z) = g (ix3 x y z)) : f = g := by
  funext i; rw [eq_ix3 i]; exact h _ _ _

theorem div_coe (x y : ℝ) (hy : y ≠ 0) : Ideal.div (x : EReal) (y : EReal) = ((x * y⁻¹ : ℝ) : EReal) := by
  rw [Ideal.div, if_neg (by exact_mod_cast hy), EReal.coe_mul, EReal.coe_inv]

theorem sitofp_coe {w : ℕ} (b : BitVec w) : FloatOps.sitofp (F := Ideal) .f32 b = (((b.toInt : ℤ) : ℝ) : EReal) := rfl

/-- The frequencies are real numbers. -/
theorem freqs_real : ∃ f : ℕ → ℝ, (Cert.KernelIdeal.AttnBwd.freqs : FVec Ideal S16 .f32) = u1 f := by
  have h1 : (Ideal.ofBits .f32 0x461C4000#32 : EReal) = ((10000 : ℝ) : EReal) := by
    simp [Ideal.ofBits, Ideal.ieee, -EReal.coe_mul]; norm_num
  have h2 : (Ideal.ofBits .f32 0x40000000#32 : EReal) = ((2 : ℝ) : EReal) := by
    simp [Ideal.ofBits, Ideal.ieee, -EReal.coe_mul]; norm_num
  have h3 : (Ideal.ofBits .f32 0x42000000#32 : EReal) = ((32 : ℝ) : EReal) := by
    simp [Ideal.ofBits, Ideal.ieee, -EReal.coe_mul]; norm_num
  refine ⟨fun i => Real.rpow 10000 (-(2 * ((BitVec.ofNat 32 i).toInt : ℝ)) * (32 : ℝ)⁻¹), ix1_all fun x => ?_⟩
  pointwise [Cert.KernelIdeal.AttnBwd.freqs, u1]
  rw [h1, h2, h3, sitofp_coe, ← EReal.coe_mul, ← EReal.coe_neg, div_coe _ _ (by norm_num)]
  rfl

/-- The reference's arguments are arrays of real numbers. -/
structure RealArgs (W : Valuation τ sig (Elt Ideal)) (q k v o : ℕ → ℕ → ℕ → ℝ) (p : ℕ → ℝ) : Prop where
  a0 : W (Proc.devRef .tc main_arg0) = (u3 q : FVec Ideal S4096x16x96 .f32)
  a1 : W (Proc.devRef .tc main_arg1) = (u3 k : FVec Ideal S4096x16x96 .f32)
  a2 : W (Proc.devRef .tc main_arg2) = (u3 v : FVec Ideal S4096x16x64 .f32)
  a3 : (sitofp .f32 (W (Proc.devRef .tc main_arg3) : IVec S4096 32) : FVec Ideal S4096 .f32) = u1 p
  a4 : W (Proc.devRef .tc main_arg4) = (u3 o : FVec Ideal S4096x16x64 .f32)

variable {W : Valuation τ sig (Elt Ideal)} {q k v o : ℕ → ℕ → ℕ → ℝ} {p f : ℕ → ℝ} (A : RealArgs W q k v o p)
  (hf : (Cert.KernelIdeal.AttnBwd.freqs : FVec Ideal S16 .f32) = u1 f)

include A hf

theorem v15_real : res_main_v15 W = (u2 fun r i => p r * f i) := by
  have e : res_main_v15 W = mulf (broadcastInDim S4096x16 ![0, 1] bcast_S4096x1_S4096x16_0_1 (broadcastInDim S4096x1 ![0] bcast_S4096_S4096x1_0 (sitofp .f32 (W (Proc.devRef .tc main_arg3) : IVec S4096 32) : FVec Ideal S4096 .f32))) (broadcastInDim S4096x16 ![0, 1] bcast_S1x16_S4096x16_0_1 (broadcastInDim S1x16 ![1] bcast_S16_S1x16_1 (Cert.KernelIdeal.AttnBwd.freqs : FVec Ideal S16 .f32))) := rfl
  rw [e, hf, A.a3]
  refine ix2_all fun x y => ?_
  pointwise [u1, u2]
  rw [EReal.coe_mul]

theorem v18_real : res_main_v18 W = (u3 fun r _ i => Real.cos (p r * f i)) := by
  rw [res_main_v18, v15_real A hf]
  refine ix3_all fun x y z => ?_
  pointwise [u3, u2]
  rfl

theorem v19_real : res_main_v19 W = (u3 fun r _ i => Real.sin (p r * f i)) := by
  rw [res_main_v19, v15_real A hf]
  refine ix3_all fun x y z => ?_
  pointwise [u3, u2]
  rfl

/-- The rotation of the last 32 of 96 lanes. -/
def rotR (q : ℕ → ℕ → ℕ → ℝ) (C S : ℕ → ℕ → ℝ) (r h x : ℕ) : ℝ :=
  if x < 64 then q r h x
  else if x < 80 then q r h x * C r (x - 64) - q r h (x + 16) * S r (x - 64)
  else q r h (x - 16) * S r (x - 80) + q r h x * C r (x - 80)

/-- The tables of cosines and sines. -/
def cosT (p f : ℕ → ℝ) (r i : ℕ) : ℝ := Real.cos (p r * f i)
def sinT (p f : ℕ → ℝ) (r i : ℕ) : ℝ := Real.sin (p r * f i)

omit A hf in
theorem rot_value (q : ℕ → ℕ → ℕ → ℝ) (C S : ℕ → ℕ → ℝ) (x y z : ℕ) (hz : z < 96) :
    (if h : z < 64 then ((q x y z : ℝ) : EReal)
      else if h : z - 64 < 16 then
        ((q x y (64 + (z - 64)) : ℝ) : EReal) * ((C x (z - 64) : ℝ) : EReal) - ((q x y (64 + (16 + (z - 64))) : ℝ) : EReal) * ((S x (z - 64) : ℝ) : EReal)
      else ((q x y (64 + (z - 64 - 16)) : ℝ) : EReal) * ((S x (z - 64 - 16) : ℝ) : EReal)
        + ((q x y (64 + (16 + (z - 64 - 16))) : ℝ) : EReal) * ((C x (z - 64 - 16) : ℝ) : EReal))
      = ((rotR q C S x y z : ℝ) : EReal) := by
  unfold rotR
  by_cases h1 : z < 64
  · rw [dif_pos h1, if_pos h1]
  rw [dif_neg h1, if_neg h1]
  by_cases h2 : z < 80
  · rw [dif_pos (by omega), if_pos h2, EReal.coe_sub, EReal.coe_mul, EReal.coe_mul,
      show 64 + (z - 64) = z by omega, show 64 + (16 + (z - 64)) = z + 16 by omega]
  · rw [dif_neg (by omega), if_neg h2, EReal.coe_add, EReal.coe_mul, EReal.coe_mul,
      show 64 + (z - 64 - 16) = z - 16 by omega, show 64 + (16 + (z - 64 - 16)) = z by omega, show z - 64 - 16 = z - 80 by omega]

theorem v35_real : res_main_v35 W = u3 (rotR q (cosT p f) (sinT p f)) := by
  rw [res_main_v35, res_main_v22, res_main_v23, res_main_v21, v18_real A hf, v19_real A hf, A.a0]
  refine ix3_all fun x y z => ?_
  pointwise [u3, u2]
  exact rot_value q (cosT p f) (sinT p f) x y z z.isLt

theorem v51_real : res_main_v51 W = u3 (rotR k (cosT p f) (sinT p f)) := by
  rw [res_main_v51, res_main_v38, res_main_v39, res_main_v37, v18_real A hf, v19_real A hf, A.a1]
  refine ix3_all fun x y z => ?_
  pointwise [u3, u2]
  exact rot_value k (cosT p f) (sinT p f) x y z z.isLt

omit hf in
theorem v95_real : res_main_v95 W = (u3 fun h r j => ∑ d ∈ Finset.range 64, o r h d * v j h d) := by
  rw [res_main_v95, res_main_v94, A.a4, A.a2]
  refine ix3_all fun x y z => ?_
  pointwise [u3, u2]
  rw [Finset.sum_range, coe_sum]
  simp only [EReal.coe_mul]

omit A hf

theorem chunk_word : ∀ r : Fin 4096, res_main_v53 W (ix1 r) = BitVec.ofNat 32 (r.val / 64) := by
  intro r
  unfold res_main_v53 res_main_call0_v2 res_main_call0_v0 res_main_v52
  pointwise
  have e : (id (constantI S_ 32 64#32) ix0 : BitVec 32) = 64#32 := rfl
  rw [e]
  revert r
  decide +kernel

theorem chunk_le : ∀ a b : Fin 64, IntOp.cmpi .sle (BitVec.ofNat 32 a.val) (BitVec.ofNat 32 b.val) = if a.val ≤ b.val then 1#1 else 0#1 := by
  decide +kernel

theorem v63_1_value : ∀ (h : Fin 16) (r j : Fin 4096), res_main_v63_1 W (ix3 h r j) = if j.val / 64 ≤ r.val / 64 then 1#1 else 0#1 := by
  intro h r j
  rw [res_main_v63_1]
  pointwise
  rw [chunk_word, chunk_word]
  exact chunk_le ⟨j.val / 64, by omega⟩ ⟨r.val / 64, by omega⟩

/-- A key is seen by a query whose chunk is not earlier. -/
def Sees (r j : ℕ) : Prop := j / 64 ≤ r / 64

instance (r j : ℕ) : Decidable (Sees r j) := inferInstanceAs (Decidable (j / 64 ≤ r / 64))

/-- The scaled score of a query and a key. -/
def score (q k : ℕ → ℕ → ℕ → ℝ) (h r j : ℕ) : ℝ := (∑ x ∈ Finset.range 96, q r h x * k j h x) * sigma

/-- The masked scores: no score where the key is not seen. -/
theorem v63_0_value (qf kf : ℕ → ℕ → ℕ → ℝ) (hq : res_main_v35 W = u3 qf) (hk : res_main_v51 W = u3 kf) (h : Fin 16) (r j : Fin 4096) :
    res_main_v63_0 W (ix3 h r j) = (if Sees r.val j.val then ((score qf kf h r j : ℝ) : EReal) else ⊥ : EReal) := by
  have e : res_main_v63_0 W (ix3 h r j) = Scalar.select (res_main_v63_1 W (ix3 h r j))
      (Host.dotGeneral dot_S4096x16x96_S4096x16x96_S16x4096x4096_2_2_0_0_1_1 none (res_main_v35 W) (res_main_v51 W) (ix3 h r j) * (Ideal.ofBits .f32 0x3DD105EC#32 : EReal))
      (Ideal.ofBits .f32 0xFF800000#32 : EReal) := rfl
  have eb : (Ideal.ofBits .f32 0xFF800000#32 : EReal) = ⊥ := by
    simp [Ideal.ofBits, Ideal.ieee, -EReal.coe_mul]
  rw [e, v63_1_value, hq, hk, eb, sigma_eq]
  by_cases hs : j.val / 64 ≤ r.val / 64
  · rw [if_pos hs, if_pos (show Sees r.val j.val from hs)]
    show Host.dotGeneral (F := Ideal) (φ₁ := .f32) (φ₂ := .f32) dot_S4096x16x96_S4096x16x96_S16x4096x4096_2_2_0_0_1_1 none (u3 qf) (u3 kf) (ix3 h r j) * ((sigma : ℝ) : EReal) = _
    rw [score, EReal.coe_mul, Finset.sum_range, coe_sum]
    pointwise [u3]
    simp only [EReal.coe_mul]
  · rw [if_neg hs, if_neg (show ¬ Sees r.val j.val from hs)]
    rfl

/-- The largest of entries below infinity, one of them a number, is a number. -/
theorem fold_max_real {n : ℕ} (g : Fin n → EReal) (hg : ∀ i, g i < ⊤) (i : Fin n) (hi : ⊥ < g i) :
    ∃ M : ℝ, Finset.univ.fold max (⊥ : EReal) g = (M : EReal) := by
  have h1 : Finset.univ.fold max (⊥ : EReal) g < ⊤ := (Finset.fold_max_lt _).mpr ⟨bot_lt_top, fun x _ => hg x⟩
  have h2 : ⊥ < Finset.univ.fold max (⊥ : EReal) g := (Finset.lt_fold_max _).mpr (Or.inr ⟨i, Finset.mem_univ _, hi⟩)
  exact ⟨_, (EReal.coe_toReal h1.ne h2.ne').symm⟩

/-- The largest scores are numbers. -/
theorem v64_real (qf kf : ℕ → ℕ → ℕ → ℝ) (hq : res_main_v35 W = u3 qf) (hk : res_main_v51 W = u3 kf) :
    ∃ M : ℕ → ℕ → ℝ, res_main_v64 W = u2 M := by
  have eb : (Ideal.ofBits .f32 0xFF800000#32 : EReal) = ⊥ := by
    simp [Ideal.ofBits, Ideal.ieee, -EReal.coe_mul]
  have key : ∀ (h : Fin 16) (r : Fin 4096), ∃ M : ℝ, res_main_v64 W (ix2 h r) = (M : EReal) := by
    intro h r
    have e : res_main_v64 W (ix2 h r) = Finset.univ.fold max (⊥ : EReal) (fun j : Fin 4096 => res_main_v63_0 W (ix3 h r j)) := by
      rw [res_main_v64]
      refine (Host.reduce_eq_fold (max : EReal → EReal → EReal) (res_main_v63_0 W) (constant S_ .f32 0xFF800000#32 : FVec Ideal S_ .f32) reducesTo_S16x4096x4096_S16x4096_d2 h_S_ (ix2 h r)).trans ?_
      refine (reducesTo_S16x4096x4096_S16x4096_d2.fold_fiber_r3_a2 (ix2 h r) (max : EReal → EReal → EReal) _ _).trans ?_
      show Finset.univ.fold max (Ideal.ofBits .f32 0xFF800000#32 : EReal) _ = _
      rw [eb]
      rfl
    rw [e]
    refine fold_max_real _ (fun j => ?_) r ?_
    · rw [v63_0_value qf kf hq hk]
      split
      · exact EReal.coe_lt_top _
      · exact bot_lt_top
    · rw [v63_0_value qf kf hq hk, if_pos (show Sees r.val r.val from le_rfl)]
      exact EReal.bot_lt_coe _
  choose M hM using key
  refine ⟨fun h r => if hh : h < 16 then if hr : r < 4096 then M ⟨h, hh⟩ ⟨r, hr⟩ else 0 else 0, ix2_all fun h r => ?_⟩
  rw [hM]
  show _ = (((if hh : h.val < 16 then if hr : r.val < 4096 then M ⟨h, hh⟩ ⟨r, hr⟩ else 0 else 0 : ℝ)) : EReal)
  rw [dif_pos h.isLt, dif_pos r.isLt]

end Cert.RealArrays

end
-- ==== Proof.RefGrad.lean ====
/- The reference's probabilities and gradients as arrays of real numbers. -/
module

public import proofs.«01_k».proof.Proof.RefReal

@[expose] public section

set_option maxRecDepth 16384

noncomputable section

namespace Cert.RealArrays

open Cert.ReferenceIdeal Cert.ReferenceIdeal.Gen Cert.ReferenceIdeal.Value
open Idealize.ShloMosaic Idealize.ShloMosaic.TcCoe Idealize.ShloMosaic.Tactic Idealize.ShloMosaic.StableHlo
open Cert.KernelIdeal.AttnBwd (coe_sum sigma sigma_eq)

/-- The exponential of a score less the largest, nothing where the key is not seen. -/
def expo (qf kf : ℕ → ℕ → ℕ → ℝ) (M : ℕ → ℕ → ℝ) (h r j : ℕ) : ℝ := if Sees r j then Real.exp (score qf kf h r j - M h r) else 0

/-- Their sum over the keys. -/
def total (qf kf : ℕ → ℕ → ℕ → ℝ) (M : ℕ → ℕ → ℝ) (h r : ℕ) : ℝ := ∑ j ∈ Finset.range 4096, expo qf kf M h r j

/-- The probabilities. -/
def prob (qf kf : ℕ → ℕ → ℕ → ℝ) (M : ℕ → ℕ → ℝ) (h r j : ℕ) : ℝ := expo qf kf M h r j * (total qf kf M h r)⁻¹

/-- The gradient of the probabilities. -/
def dprob (o v : ℕ → ℕ → ℕ → ℝ) (h r j : ℕ) : ℝ := ∑ d ∈ Finset.range 64, o r h d * v j h d

/-- The gradient of the scores before the scale. -/
def dscore (qf kf : ℕ → ℕ → ℕ → ℝ) (M : ℕ → ℕ → ℝ) (o v : ℕ → ℕ → ℕ → ℝ) (h r j : ℕ) : ℝ :=
  prob qf kf M h r j * (dprob o v h r j - ∑ i ∈ Finset.range 4096, prob qf kf M h r i * dprob o v h r i)

theorem expo_nonneg (qf kf : ℕ → ℕ → ℕ → ℝ) (M : ℕ → ℕ → ℝ) (h r j : ℕ) : 0 ≤ expo qf kf M h r j := by
  unfold expo; split
  · exact (Real.exp_pos _).le
  · exact le_rfl

theorem total_pos (qf kf : ℕ → ℕ → ℕ → ℝ) (M : ℕ → ℕ → ℝ) (h r : ℕ) (hr : r < 4096) : 0 < total qf kf M h r := by
  refine Finset.sum_pos' (fun j _ => expo_nonneg qf kf M h r j) ⟨r, Finset.mem_range.mpr hr, ?_⟩
  rw [expo, if_pos (show Sees r r from le_rfl)]
  exact Real.exp_pos _

variable {W : Valuation τ sig (Elt Ideal)} {qf kf v o : ℕ → ℕ → ℕ → ℝ} {M : ℕ → ℕ → ℝ}

theorem exp_value (X : FVec Ideal S16x4096x4096 .f32) (Y : FVec Ideal S16x4096 .f32) (h : Fin 16) (r j : Fin 4096) :
    Host.exp (subf X (broadcastInDim S16x4096x4096 ![0, 1, 2] bcast_S16x4096x1_S16x4096x4096_0_1_2 (broadcastInDim S16x4096x1 ![0, 1] bcast_S16x4096_S16x4096x1_0_1 (maximumf (broadcastInDim S16x4096 ![] bcast_S_S16x4096 (constant S_ .f32 0xFF800000#32)) Y)))) (ix3 h r j)
      = Ideal.exp (HSub.hSub (α := EReal) (β := EReal) (γ := EReal) (X (ix3 h r j)) (max (Ideal.ofBits .f32 0xFF800000#32 : EReal) (Y (ix2 h r)))) := by
  pointwise

theorem v84_real (hq : res_main_v35 W = u3 qf) (hk : res_main_v51 W = u3 kf) (hM : res_main_v64 W = u2 M) :
    res_main_v84 W = u3 (expo qf kf M) := by
  have eb : (Ideal.ofBits .f32 0xFF800000#32 : EReal) = ⊥ := by
    simp [Ideal.ofBits, Ideal.ieee, -EReal.coe_mul]
  refine ix3_all fun h r j => ?_
  have e : ∀ s : EReal, res_main_v63_0 W (ix3 h r j) = s → ∀ b : EReal, res_main_v64 W (ix2 h r) = b →
      res_main_v84 W (ix3 h r j) = Ideal.exp (s - max (Ideal.ofBits .f32 0xFF800000#32 : EReal) b) := by
    intro s hs b hb
    rw [res_main_v84, exp_value, hs, hb]
  refine (e _ (v63_0_value qf kf hq hk h r j) ((M h r : ℝ) : EReal) (congrFun hM (ix2 h r))).trans ?_
  show _ = ((expo qf kf M h r j : ℝ) : EReal)
  rw [eb, max_eq_right bot_le]
  unfold expo
  by_cases hs : Sees r.val j.val
  · rw [if_pos hs, if_pos hs, ← EReal.coe_sub]; rfl
  · rw [if_neg hs, if_neg hs, EReal.bot_sub]; rfl

theorem v86_real (hE : res_main_v84 W = u3 (expo qf kf M)) : res_main_v86 W = (u3 fun h r _ => total qf kf M h r) := by
  rw [res_main_v86, hE]
  refine ix3_all fun h r j => ?_
  pointwise [u3]
  rw [total, Finset.sum_range, coe_sum]

theorem v88_real (hE : res_main_v84 W = u3 (expo qf kf M)) : res_main_v88 W = u3 (prob qf kf M) := by
  rw [res_main_v88, v86_real hE, hE]
  refine ix3_all fun h r j => ?_
  pointwise [u3]
  rw [div_coe _ _ (total_pos qf kf M h r r.isLt).ne', prob]

theorem grad_value (L E : ℝ) (D e : ℕ → ℝ) (d : ℝ) (hL : L ≠ 0) :
    (d * L⁻¹ + -(∑ j ∈ Finset.range 4096, D j * (L * L)⁻¹ * e j)) * E
      = E * L⁻¹ * (d - ∑ j ∈ Finset.range 4096, e j * L⁻¹ * D j) := by
  have : ∑ j ∈ Finset.range 4096, D j * (L * L)⁻¹ * e j = L⁻¹ * ∑ j ∈ Finset.range 4096, e j * L⁻¹ * D j := by
    rw [Finset.mul_sum]
    refine Finset.sum_congr rfl fun j _ => ?_
    rw [mul_inv]; ring
  rw [this]; ring

theorem v112_real (hE : res_main_v84 W = u3 (expo qf kf M)) (hD : res_main_v95 W = u3 (dprob o v)) :
    res_main_v112 W = (u3 fun h r j => dscore qf kf M o v h r j * sigma) := by
  rw [res_main_v112, v86_real hE, hE, hD]
  refine ix3_all fun h r j => ?_
  pointwise [u3]
  rw [v63_1_value, sigma_eq]
  have hL := (total_pos qf kf M h r r.isLt).ne'
  have h1 : (1 : EReal) = ((1 : ℝ) : EReal) := rfl
  simp only [Fin.sum_univ_one, h1, ← EReal.coe_mul]
  rw [div_coe _ _ hL, div_coe _ _ (mul_ne_zero hL hL)]
  simp only [← EReal.coe_mul, ← coe_sum, ← EReal.coe_neg, ← EReal.coe_add]
  by_cases hs : j.val / 64 ≤ r.val / 64
  · rw [if_pos hs]
    refine congrArg (fun z : ℝ => (z : EReal)) ?_
    simp only [dscore, prob]
    rw [← grad_value _ _ (dprob o v h r) (expo qf kf M h r) _ hL, Finset.sum_range]
    simp only [one_mul]
  · rw [if_neg hs]
    show (0 : EReal) = _
    have hz : expo qf kf M h r j = 0 := if_neg (show ¬ Sees r.val j.val from hs)
    simp only [dscore, prob]
    rw [hz, zero_mul, zero_mul, zero_mul]
    rfl

theorem v114_real (hq : res_main_v35 W = u3 qf) (hS : res_main_v112 W = (u3 fun h r j => dscore qf kf M o v h r j * sigma)) :
    res_main_v114 W = (u3 fun j h x => ∑ r ∈ Finset.range 4096, dscore qf kf M o v h r j * sigma * qf r h x) := by
  rw [res_main_v114, hS, hq]
  refine ix3_all fun h r j => ?_
  pointwise [u3]
  rw [Finset.sum_range, coe_sum]
  simp only [EReal.coe_mul]

theorem v116_real (hk : res_main_v51 W = u3 kf) (hS : res_main_v112 W = (u3 fun h r j => dscore qf kf M o v h r j * sigma)) :
    res_main_v116 W = (u3 fun r h x => ∑ j ∈ Finset.range 4096, dscore qf kf M o v h r j * sigma * kf j h x) := by
  rw [res_main_v116, hS, hk]
  refine ix3_all fun h r j => ?_
  pointwise [u3]
  rw [Finset.sum_range, coe_sum]
  simp only [EReal.coe_mul]

theorem v97_real (ho : W (Proc.devRef .tc main_arg4) = (u3 o : FVec Ideal S4096x16x64 .f32)) (hP : res_main_v88 W = u3 (prob qf kf M)) :
    transpose S4096x16x64 [2, 0, 1] (Host.dotGeneral (F := Ideal) (φ₁ := .f32) (φ₂ := .f32) dot_S16x64x4096_S16x4096x4096_S16x64x4096_2_1_1_2_0_0 none (res_main_v94 W) (res_main_v88 W) : FVec Ideal S16x64x4096 .f32) transposes_S16x64x4096_S4096x16x64_2_0_1
      = (u3 fun j h d => ∑ r ∈ Finset.range 4096, o r h d * prob qf kf M h r j) := by
  rw [res_main_v94, ho, hP]
  refine ix3_all fun h r j => ?_
  pointwise [u3]
  rw [Finset.sum_range, coe_sum]
  simp only [EReal.coe_mul]

end Cert.RealArrays

end
-- ==== Proof.HostReal.lean ====
/- The arrays that the call reads, as arrays of real numbers. -/
module

public import proofs.«01_k».proof.Proof.RefGrad

@[expose] public section

set_option maxRecDepth 16384

noncomputable section

namespace Cert.KernelIdeal.AttnBwd

open Cert.KernelIdeal Cert.KernelIdeal.Gen
open Idealize.ShloMosaic Idealize.ShloMosaic.TcCoe Idealize.ShloMosaic.Tactic Idealize.ShloMosaic.StableHlo
open Idealize.SL
open Cert.ReferenceIdeal.Value (res_main_v35 res_main_v51 res_main_v63_0 res_main_v64)
open Cert.RealArrays

/-- Arrays of real numbers of rank four. -/
def u4 {a b c d : ℕ} (f : ℕ → ℕ → ℕ → ℕ → ℝ) : (⟨4, ![a, b, c, d]⟩ : Shape).Idx → EReal :=
  fun i => ((f (i 0).val (i 1).val (i 2).val (i 3).val : ℝ) : EReal)

theorem ix4_all {a b c d : ℕ} {α : Type} {f g : (⟨4, ![a, b, c, d]⟩ : Shape).Idx → α}
    (h : ∀ (x : Fin a) (y : Fin b) (z : Fin c) (w : Fin d), f (ix4 x y z w) = g (ix4 x y z w)) : f = g := by
  funext i; rw [eq_ix4 i]; exact h _ _ _ _

theorem log_two : Ideal.log (Ideal.ofBits .f32 0x40000000#32 : EReal) = ((Real.log 2 : ℝ) : EReal) := by
  have h2 : (Ideal.ofBits .f32 0x40000000#32 : EReal) = ((2 : ℝ) : EReal) := by
    simp [Ideal.ofBits, Ideal.ieee, -EReal.coe_mul]; norm_num
  rw [h2]
  show (if (2 : ℝ) ≤ 0 then (⊥ : EReal) else ((Real.log 2 : ℝ) : EReal)) = _
  rw [if_neg (by norm_num)]

theorem log_pos (x : ℝ) (hx : 0 < x) : Ideal.log (x : EReal) = ((Real.log x : ℝ) : EReal) := by
  show (if x ≤ 0 then (⊥ : EReal) else ((Real.log x : ℝ) : EReal)) = _
  rw [if_neg (not_le.mpr hx)]

theorem log_two_ne : Real.log 2 ≠ 0 := (Real.log_pos (by norm_num)).ne'

theorem sitofp_zero : FloatOps.sitofp (F := Ideal) .f32 (0#32 : BitVec 32) = ((0 : ℝ) : EReal) := by
  rw [sitofp_coe]; simp

/-- An array of `n` lanes widened by zeros. -/
def widen (n : ℕ) (a : ℕ → ℕ → ℕ → ℝ) (r h x : ℕ) : ℝ := if x < n then a r h x else 0

/-- The queries as the call takes them, by row, head and lane. -/
def qPad (qf : ℕ → ℕ → ℕ → ℝ) : ℕ → ℕ → ℕ → ℝ := widen 96 fun r h x => qf r h x * sigma * (Real.log 2)⁻¹

theorem pad96 (a : ℕ → ℕ → ℕ → ℝ) (X : FVec Ideal S4096x16x96 .f32) (hX : X = u3 a) :
    pad S4096x16x128 ![0, 0, 0] ![0, 0, 32] ![0, 0, 0] X (sitofp .f32 (constantI S_ 32 0#32) : FVec Ideal S_ .f32) pads_S4096x16x96_S4096x16x128_000_000_0320 h_S_
      = (u3 (widen 96 a) : FVec Ideal S4096x16x128 .f32) := by
  subst hX
  refine ix3_all fun r h x => ?_
  pointwise [u3]
  unfold widen
  split_ifs
  · rfl
  · exact sitofp_zero

theorem pad64 (a : ℕ → ℕ → ℕ → ℝ) (X : FVec Ideal S4096x16x64 .f32) (hX : X = u3 a) :
    pad S4096x16x128 ![0, 0, 0] ![0, 0, 64] ![0, 0, 0] X (sitofp .f32 (constantI S_ 32 0#32) : FVec Ideal S_ .f32) pads_S4096x16x64_S4096x16x128_000_000_0640 h_S_
      = (u3 (widen 64 a) : FVec Ideal S4096x16x128 .f32) := by
  subst hX
  refine ix3_all fun r h x => ?_
  pointwise [u3]
  unfold widen
  split_ifs
  · rfl
  · exact sitofp_zero

theorem scaled (a : ℕ → ℕ → ℕ → ℝ) (X : FVec Ideal S4096x16x96 .f32) (hX : X = u3 a) :
    Host.divf (mulf X (broadcastInDim S4096x16x96 ![] bcast_S_S4096x16x96 (constant S_ .f32 0x3DD105EC#32))) (broadcastInDim S4096x16x96 ![] bcast_S_S4096x16x96 (Host.log (constant S_ .f32 0x40000000#32)))
      = (u3 fun r h x => a r h x * sigma * (Real.log 2)⁻¹ : FVec Ideal S4096x16x96 .f32) := by
  subst hX
  refine ix3_all fun r h x => ?_
  pointwise [u3]
  rw [log_two, sigma_eq, ← EReal.coe_mul, div_coe _ _ log_two_ne]

variable {m : (ℓ : Loc nD τ sig) → Buf (Elt Ideal) ℓ} {W : Valuation Cert.ReferenceIdeal.τ Cert.ReferenceIdeal.sig (Elt Ideal)}
  {c : Dev nD} {q k : FVec Ideal S4096x16x96 .f32} {v : FVec Ideal S4096x16x64 .f32} {p : IVec S4096 32} {o : FVec Ideal S4096x16x64 .f32}
  (A : SameArgs m W c q k v p o) {qf kf vr or : ℕ → ℕ → ℕ → ℝ} {pr f : ℕ → ℝ} {M : ℕ → ℕ → ℝ}

include A

theorem qf_real (hq : res_main_v35 W = u3 qf) :
    V m c main_v129 = (u2 fun r x => qPad qf r (x / 128) (x % 128) : FVec Ideal S4096x2048 .bf16) := by
  rw [host_qf, scaled qf _ ((host_q A).trans hq), pad96 _ _ rfl]
  refine ix2_all fun r x => ?_
  pointwise [u3, u2]
  rfl

theorem kv_real (hk : res_main_v51 W = u3 kf) (hv : v = u3 vr) :
    V m c main_v134 = (u2 fun r x => if x % 256 < 128 then widen 96 kf r (x / 256) (x % 256) else widen 64 vr r (x / 256) (x % 256 - 128) : FVec Ideal S4096x4096 .bf16) := by
  rw [host_kv A, pad96 kf _ ((host_k A).trans hk), pad64 vr _ hv]
  refine ix2_all fun r x => ?_
  pointwise [u3, u2]
  split_ifs <;> rfl

theorem do_real (ho : o = u3 or) :
    V m c main_v137 = (u2 fun r x => widen 64 or r (x / 128) (x % 128) : FVec Ideal S4096x2048 .bf16) := by
  rw [host_do A, pad64 or _ ho]
  refine ix2_all fun r x => ?_
  pointwise [u3, u2]

/-- The saved logarithms. -/
def lseR (qf kf : ℕ → ℕ → ℕ → ℝ) (M : ℕ → ℕ → ℝ) (h r : ℕ) : ℝ := (M h r + Real.log (total qf kf M h r)) * (Real.log 2)⁻¹

theorem max_real (hM : res_main_v64 W = u2 M) : V m c main_v99 = (u2 M : FVec Ideal S16x4096 .f32) := by
  rw [host_max, host_scores A]
  exact hM

theorem exp_real (hq : res_main_v35 W = u3 qf) (hk : res_main_v51 W = u3 kf) (hM : res_main_v64 W = u2 M) :
    V m c main_v103 = (u3 (expo qf kf M) : FVec Ideal S16x4096x4096 .f32) := by
  rw [host_exp, max_real A hM, host_scores A]
  refine ix3_all fun h r j => ?_
  have e : ∀ X : FVec Ideal S16x4096x4096 .f32, Host.exp (subf X (broadcastInDim S16x4096x4096 ![0, 1, 2] bcast_S16x4096x1_S16x4096x4096_0_1_2 (broadcastInDim S16x4096x1 ![0, 1] bcast_S16x4096_S16x4096x1_0_1 (u2 M : FVec Ideal S16x4096 .f32)))) (ix3 h r j)
      = Ideal.exp (HSub.hSub (α := EReal) (β := EReal) (γ := EReal) (X (ix3 h r j)) ((M h r : ℝ) : EReal)) := by
    intro X
    pointwise [u2]
  refine (e _).trans ?_
  refine (congrArg (fun z : EReal => Ideal.exp (z - ((M h r : ℝ) : EReal))) (v63_0_value qf kf hq hk h r j)).trans ?_
  show _ = ((expo qf kf M h r j : ℝ) : EReal)
  unfold expo
  by_cases hs : Sees r.val j.val
  · rw [if_pos hs, if_pos hs, ← EReal.coe_sub]; rfl
  · rw [if_neg hs, if_neg hs, EReal.bot_sub]; rfl

omit A in
theorem sum_real (hE : V m c main_v103 = (u3 (expo qf kf M) : FVec Ideal S16x4096x4096 .f32)) :
    V m c main_v104 = (u2 (total qf kf M) : FVec Ideal S16x4096 .f32) := by
  rw [host_sum, hE]
  refine ix2_all fun h r => ?_
  pointwise [u3, u2]
  rw [total, Finset.sum_range, coe_sum]

omit A in
theorem lse_real (hM : V m c main_v99 = (u2 M : FVec Ideal S16x4096 .f32)) (hL : V m c main_v104 = (u2 (total qf kf M) : FVec Ideal S16x4096 .f32)) :
    V m c main_v111 = (u4 fun h n _ b => lseR qf kf M h (256 * n + b) : FVec Ideal S16x16x1x256 .f32) := by
  rw [host_lse, hM, hL]
  refine ix4_all fun h n z b => ?_
  pointwise [u3, u2, u4]
  have hr : n.val * 256 + b.val < 4096 := by omega
  rw [log_two, log_pos _ (total_pos qf kf M h.val _ hr), ← EReal.coe_add, div_coe _ _ log_two_ne, Nat.mul_comm 256]
  rfl

/-- The saved sums of the products of probabilities and their gradients. -/
def ddR (qf kf : ℕ → ℕ → ℕ → ℝ) (M : ℕ → ℕ → ℝ) (o v : ℕ → ℕ → ℕ → ℝ) (h r : ℕ) : ℝ :=
  ∑ j ∈ Finset.range 4096, prob qf kf M h r j * dprob o v h r j

theorem dd_real (hE : V m c main_v103 = (u3 (expo qf kf M) : FVec Ideal S16x4096x4096 .f32)) (hL : V m c main_v104 = (u2 (total qf kf M) : FVec Ideal S16x4096 .f32))
    (hv : v = u3 vr) (ho : o = u3 or) :
    V m c main_v120 = (u4 fun h n _ b => ddR qf kf M or vr h (256 * n + b) : FVec Ideal S16x16x1x256 .f32) := by
  rw [host_dd A, hE, hL, hv, ho]
  refine ix4_all fun h n z b => ?_
  pointwise [u3, u2, u4]
  have hr : n.val * 256 + b.val < 4096 := by omega
  rw [Nat.mul_comm 256]
  generalize n.val * 256 + b.val = r at hr ⊢
  simp only [div_coe _ _ (total_pos qf kf M h.val _ hr).ne', ← EReal.coe_mul, ← coe_sum]
  congr 1
  rw [ddR]
  simp only [dprob, Finset.mul_sum, Finset.sum_range]
  rw [Finset.sum_comm]
  refine Finset.sum_congr rfl fun j _ => Finset.sum_congr rfl fun d _ => ?_
  rw [prob]; ring

/-- The cosines of a head's lanes: one outside the rotated ones. -/
def cosL (p f : ℕ → ℝ) (r x : ℕ) : ℝ := if x < 64 then 1 else if x < 80 then cosT p f r (x - 64) else if x < 96 then cosT p f r (x - 80) else 1
/-- The sines, negated, at the first half of the rotated lanes. -/
def saL (p f : ℕ → ℝ) (r x : ℕ) : ℝ := if 64 ≤ x ∧ x < 80 then -sinT p f r (x - 64) else 0
/-- The sines at the second half of the rotated lanes. -/
def sbL (p f : ℕ → ℝ) (r x : ℕ) : ℝ := if 80 ≤ x ∧ x < 96 then sinT p f r (x - 80) else 0

/-- The angles of a head's lanes. -/
def angL (p f : ℕ → ℝ) (r x : ℕ) : ℝ := p r * (if x < 64 then 0 else if x < 80 then f (x - 64) else if x < 96 then f (x - 80) else 0)

theorem angle_real (hp : (sitofp .f32 p : FVec Ideal S4096 .f32) = u1 pr) (hf : (freqs : FVec Ideal S16 .f32) = u1 f) :
    V m c main_v18 = (u2 (angL pr f) : FVec Ideal S4096x128 .f32) := by
  rw [host_angle A, host_freqs, hf]
  refine ix2_all fun r x => ?_
  have hp' : FloatOps.sitofp (F := Ideal) .f32 (p (ix1 r)) = ((pr r : ℝ) : EReal) := congrFun hp (ix1 r)
  pointwise [u1, u2]
  rw [hp', angL, EReal.coe_mul]
  congr 1
  rcases lt_or_ge x.val 64 with h1 | h1
  · rw [dif_pos h1, if_pos h1]; rfl
  · rw [dif_neg (by omega), if_neg (by omega)]
    rcases lt_or_ge x.val 80 with h2 | h2
    · rw [dif_pos (by omega), if_pos h2]
    · rw [dif_neg (by omega), if_neg (by omega)]
      rcases lt_or_ge x.val 96 with h3 | h3
      · rw [dif_pos (by omega), if_pos h3, Nat.sub_sub]
      · rw [dif_neg (by omega), if_neg (by omega)]; rfl

omit A in
theorem cos_real (ha : V m c main_v18 = (u2 (angL pr f) : FVec Ideal S4096x128 .f32)) :
    V m c main_v31 = (u2 (cosL pr f) : FVec Ideal S4096x128 .f32) := by
  rw [host_cos, ha]
  refine ix2_all fun r x => ?_
  pointwise [u2]
  show ((Real.cos (angL pr f r x) : ℝ) : EReal) = _
  congr 1
  unfold angL cosL cosT
  split_ifs <;> simp

omit A in
theorem lanes_a : ∀ x : Fin 128, IntOp.andi (IntOp.cmpi .sge (BitVec.ofNat 32 x.val) 64#32) (IntOp.cmpi .slt (BitVec.ofNat 32 x.val) 80#32)
    = if 64 ≤ x.val ∧ x.val < 80 then 1#1 else 0#1 := by decide +kernel

omit A in
theorem lanes_b : ∀ x : Fin 128, IntOp.andi (IntOp.cmpi .sge (BitVec.ofNat 32 x.val) 80#32) (IntOp.cmpi .slt (BitVec.ofNat 32 x.val) 96#32)
    = if 80 ≤ x.val ∧ x.val < 96 then 1#1 else 0#1 := by decide +kernel

omit A in
theorem sa_real (ha : V m c main_v18 = (u2 (angL pr f) : FVec Ideal S4096x128 .f32)) :
    V m c main_v33 = (u2 (saL pr f) : FVec Ideal S4096x128 .f32) := by
  rw [host_sa, ha]
  refine ix2_all fun r x => ?_
  pointwise [u2]
  rw [lanes_a]
  show (if (if _ then 1#1 else 0#1) = 1#1 then (-((Real.sin (angL pr f r x) : ℝ) : EReal)) else 0) = ((saL pr f r x : ℝ) : EReal)
  unfold saL
  by_cases hx : 64 ≤ x.val ∧ x.val < 80
  · rw [if_pos hx, if_pos hx, if_pos rfl]
    unfold angL sinT
    rw [if_neg (by omega), if_pos hx.2, EReal.coe_neg]
  · rw [if_neg hx, if_neg hx, if_neg (by decide)]; rfl

omit A in
theorem sb_real (ha : V m c main_v18 = (u2 (angL pr f) : FVec Ideal S4096x128 .f32)) :
    V m c main_v34 = (u2 (sbL pr f) : FVec Ideal S4096x128 .f32) := by
  rw [host_sb, ha]
  refine ix2_all fun r x => ?_
  pointwise [u2]
  rw [lanes_b]
  show (if (if _ then 1#1 else 0#1) = 1#1 then ((Real.sin (angL pr f r x) : ℝ) : EReal) else 0) = ((sbL pr f r x : ℝ) : EReal)
  unfold sbL
  by_cases hx : 80 ≤ x.val ∧ x.val < 96
  · rw [if_pos hx, if_pos hx, if_pos rfl]
    unfold angL sinT
    rw [if_neg (by omega), if_neg (by omega), if_pos hx.2]
  · rw [if_neg hx, if_neg hx, if_neg (by decide)]; rfl

end Cert.KernelIdeal.AttnBwd

end
-- ==== Proof.Spec.lean ====
/- What the call forms is the gradient, over real arrays: powers of two against exponentials, and the rotation undone. -/
module

public import proofs.«01_k».proof.Proof.Blocks
public import proofs.«01_k».proof.Proof.HostReal

@[expose] public section

set_option maxRecDepth 16384

noncomputable section

namespace Cert.KernelIdeal.AttnBwd

open Cert.RealArrays

/-- Keys of group `g`'s heads. -/
abbrev gK (kf : ℕ → ℕ → ℕ → ℝ) (g : ℕ) : ℕ → ℕ → ℕ → ℝ := fun h j x => widen 96 kf j (8 * g + h) x
/-- Values of group `g`'s heads, and output gradients. -/
abbrev gV (vr : ℕ → ℕ → ℕ → ℝ) (g : ℕ) : ℕ → ℕ → ℕ → ℝ := fun h j x => widen 64 vr j (8 * g + h) x
/-- Queries of group `g`'s heads. -/
abbrev gQ (qf : ℕ → ℕ → ℕ → ℝ) (g : ℕ) : ℕ → ℕ → ℕ → ℝ := fun h r x => qPad qf r (8 * g + h) x
/-- Rows of group `g`'s heads. -/
abbrev gL (l : ℕ → ℕ → ℝ) (g : ℕ) : ℕ → ℕ → ℝ := fun h r => l (8 * g + h) r

/-- A sum over 128 lanes of which those from `n` on vanish. -/
theorem lane_sum (F : ℕ → ℝ) (n : ℕ) (hn : n ≤ 128) (hF : ∀ x, n ≤ x → F x = 0) : ∑ x : Fin 128, F x.val = ∑ x ∈ Finset.range n, F x := by
  rw [cut_sum F n (128 - n) hF, show n + (128 - n) = 128 by omega, Finset.sum_range]

variable (qf kf vr or : ℕ → ℕ → ℕ → ℝ) (M : ℕ → ℕ → ℝ) (g h : ℕ)

theorem scores_sum (r j : ℕ) : ∑ x : Fin 128, gK kf g h j x.val * gQ qf g h r x.val = score qf kf (8 * g + h) r j * (Real.log 2)⁻¹ := by
  rw [lane_sum (fun x => gK kf g h j x * gQ qf g h r x) 96 (by omega) (fun x hx => by
    show widen 96 kf j (8 * g + h) x * _ = 0
    rw [widen, if_neg (by omega), zero_mul])]
  rw [score, Finset.sum_mul, Finset.sum_mul]
  refine Finset.sum_congr rfl fun x hx => ?_
  have hx := Finset.mem_range.mp hx
  show widen 96 kf j (8 * g + h) x * widen 96 _ r (8 * g + h) x = _
  rw [widen, widen, if_pos hx, if_pos hx]
  ring

theorem values_sum (r j : ℕ) : ∑ x : Fin 128, gV vr g h j x.val * gV or g h r x.val = dprob or vr (8 * g + h) r j := by
  rw [lane_sum (fun x => gV vr g h j x * gV or g h r x) 64 (by omega) (fun x hx => by
    show widen 64 vr j (8 * g + h) x * _ = 0
    rw [widen, if_neg (by omega), zero_mul])]
  rw [dprob]
  refine Finset.sum_congr rfl fun x hx => ?_
  have hx := Finset.mem_range.mp hx
  show widen 64 vr j (8 * g + h) x * widen 64 _ r (8 * g + h) x = _
  rw [widen, widen, if_pos hx, if_pos hx]
  ring

/-- The powers of two are the probabilities. -/
theorem pk_prob (r j : ℕ) (hr : r < 4096) : pk (gK kf g) (gQ qf g) (gL (lseR qf kf M) g) h r j = prob qf kf M (8 * g + h) r j := by
  unfold pk
  rw [scores_sum, prob, expo]
  by_cases hs : Sees r j
  · rw [if_pos hs, if_pos (show j / 64 ≤ r / 64 from hs)]
    have hT := total_pos qf kf M (8 * g + h) r hr
    show (2 : ℝ) ^ (_ - lseR qf kf M (8 * g + h) r) = _
    rw [lseR, Real.rpow_def_of_pos (by norm_num), ← sub_mul, mul_comm (Real.log 2), mul_assoc, inv_mul_cancel₀ log_two_ne, mul_one, ← sub_sub, Real.exp_sub,
      Real.exp_log hT, div_eq_mul_inv]
  · rw [if_neg hs, if_neg (show ¬ j / 64 ≤ r / 64 from hs), zero_mul]

/-- The gradients of the scores are those. -/
theorem dsk_dscore (r j : ℕ) (hr : r < 4096) :
    dsk (gK kf g) (gV vr g) (gQ qf g) (gV or g) (gL (lseR qf kf M) g) (gL (ddR qf kf M or vr) g) h r j = dscore qf kf M or vr (8 * g + h) r j := by
  unfold dsk
  rw [pk_prob qf kf M g h r j hr, values_sum, dscore]
  rfl

/-- The gradient of the rotated keys. -/
def dkR (j h x : ℕ) : ℝ := ∑ r ∈ Finset.range 4096, dscore qf kf M or vr h r j * sigma * qf r h x
/-- The gradient of the rotated queries. -/
def dqR (r h x : ℕ) : ℝ := ∑ j ∈ Finset.range 4096, dscore qf kf M or vr h r j * sigma * kf j h x
/-- The gradient of the values. -/
def dvR (j h d : ℕ) : ℝ := ∑ r ∈ Finset.range 4096, or r h d * prob qf kf M h r j

theorem dk_sum (j x : ℕ) :
    (∑ r ∈ Finset.range 4096, dsk (gK kf g) (gV vr g) (gQ qf g) (gV or g) (gL (lseR qf kf M) g) (gL (ddR qf kf M or vr) g) h r j * gQ qf g h r x) * Real.log 2
      = widen 96 (dkR qf kf vr or M) j (8 * g + h) x := by
  rw [widen]
  by_cases hx : x < 96
  · rw [if_pos hx, dkR, Finset.sum_mul]
    refine Finset.sum_congr rfl fun r hr => ?_
    rw [dsk_dscore _ _ _ _ _ _ _ _ _ (Finset.mem_range.mp hr)]
    show _ * widen 96 _ r (8 * g + h) x * _ = _
    rw [widen, if_pos hx]
    have := log_two_ne
    field_simp
  · rw [if_neg hx, Finset.sum_eq_zero, zero_mul]
    intro r _
    show _ * widen 96 _ r (8 * g + h) x = _
    rw [widen, if_neg hx, mul_zero]

theorem dq_sum (r x : ℕ) (hr : r < 4096) :
    (∑ j ∈ Finset.range 4096, dsk (gK kf g) (gV vr g) (gQ qf g) (gV or g) (gL (lseR qf kf M) g) (gL (ddR qf kf M or vr) g) h r j * gK kf g h j x) * sigma
      = widen 96 (dqR qf kf vr or M) r (8 * g + h) x := by
  rw [widen]
  by_cases hx : x < 96
  · rw [if_pos hx, dqR, Finset.sum_mul]
    refine Finset.sum_congr rfl fun j hj => ?_
    rw [dsk_dscore _ _ _ _ _ _ _ _ _ hr]
    show _ * widen 96 _ j (8 * g + h) x * _ = _
    rw [widen, if_pos hx]
    ring
  · rw [if_neg hx, Finset.sum_eq_zero, zero_mul]
    intro r _
    show _ * widen 96 _ r (8 * g + h) x = _
    rw [widen, if_neg hx, mul_zero]

theorem dv_sum (j x : ℕ) :
    ∑ r ∈ Finset.range 4096, pk (gK kf g) (gQ qf g) (gL (lseR qf kf M) g) h r j * gV or g h r x = widen 64 (dvR qf kf or M) j (8 * g + h) x := by
  rw [widen]
  by_cases hx : x < 64
  · rw [if_pos hx, dvR]
    refine Finset.sum_congr rfl fun r hr => ?_
    rw [pk_prob _ _ _ _ _ _ _ (Finset.mem_range.mp hr)]
    show _ * widen 64 _ r (8 * g + h) x = _
    rw [widen, if_pos hx]
    ring
  · rw [if_neg hx, Finset.sum_eq_zero]
    intro r _
    show _ * widen 64 _ r (8 * g + h) x = _
    rw [widen, if_neg hx, mul_zero]

/-- The rotation undone on a row's gradient. -/
def lanes (D : ℕ → ℝ) (C S : ℕ → ℝ) (x : ℕ) : ℝ :=
  if x < 64 then D x
  else if x < 80 then D x * C (x - 64) + D (x + 16) * S (x - 64)
  else if x < 96 then D x * C (x - 80) - D (x - 16) * S (x - 80)
  else 0

/-- The call undoes the rotation. -/
theorem unrot_lanes (D : ℕ → ℝ) (pr f : ℕ → ℝ) (R : ℕ) (d c a b : Fin 256 → Fin 128 → ℝ) (y : Fin 256) (x : Fin 128)
    (hd : ∀ x : Fin 128, d y x = if x.val < 96 then D x.val else 0) (hc : ∀ x : Fin 128, c y x = cosL pr f R x.val)
    (ha : ∀ x : Fin 128, a y x = saL pr f R x.val) (hb : ∀ x : Fin 128, b y x = sbL pr f R x.val) :
    unrotR d c a b y x = lanes D (cosT pr f R) (sinT pr f R) x.val := by
  have h16 : (rot 16 x).val = (x.val + 112) % 128 := by show (x.val + 128 - 16) % 128 = _; omega
  have h112 : (rot 112 x).val = (x.val + 16) % 128 := by show (x.val + 128 - 112) % 128 = _; omega
  rw [unrotR, hd, hd, hd, hc, ha, hb, h16, h112, cosL, saL, sbL, lanes]
  have hx := x.isLt
  by_cases h1 : x.val < 64
  · rw [if_pos (by omega), if_pos h1, if_neg (by omega : ¬(64 ≤ (x.val + 112) % 128 ∧ (x.val + 112) % 128 < 80)), if_neg (by omega : ¬(80 ≤ (x.val + 16) % 128 ∧ (x.val + 16) % 128 < 96)), if_pos h1]
    ring
  by_cases h2 : x.val < 80
  · rw [if_pos (by omega), if_neg h1, if_pos h2, if_neg (by omega : ¬(64 ≤ (x.val + 112) % 128 ∧ (x.val + 112) % 128 < 80)), if_pos (by omega : (80 ≤ (x.val + 16) % 128 ∧ (x.val + 16) % 128 < 96)), if_neg h1, if_pos h2,
      if_pos (by omega : (x.val + 16) % 128 < 96), show (x.val + 16) % 128 = x.val + 16 by omega, show x.val + 16 - 80 = x.val - 64 by omega]
    ring
  by_cases h3 : x.val < 96
  · rw [if_pos (by omega), if_neg h1, if_neg h2, if_pos h3, if_pos (by omega : (64 ≤ (x.val + 112) % 128 ∧ (x.val + 112) % 128 < 80)), if_neg (by omega : ¬(80 ≤ (x.val + 16) % 128 ∧ (x.val + 16) % 128 < 96)), if_neg h1, if_neg h2, if_pos h3,
      if_pos (by omega : (x.val + 112) % 128 < 96), show (x.val + 112) % 128 = x.val - 16 by omega, show x.val - 16 - 64 = x.val - 80 by omega]
    ring
  · rw [if_neg (by omega), if_neg (by omega : ¬(64 ≤ (x.val + 112) % 128 ∧ (x.val + 112) % 128 < 80)), if_neg (by omega : ¬(80 ≤ (x.val + 16) % 128 ∧ (x.val + 16) % 128 < 96)), if_neg h1, if_neg h2, if_neg h3]
    rw [if_neg h1, if_neg h2, if_neg h3]; ring

end Cert.KernelIdeal.AttnBwd

end
-- ==== Proof.Reads.lean ====
/- The blocks that a grid point reads, as entries of the arrays. -/
module

public import proofs.«01_k».proof.Proof.Blocks
public import proofs.«01_k».proof.Proof.HostReal
public import proofs.«01_k».proof.Proof.Spec
public import Idealize.ShloMosaic.Lib.Pipeline.ValueKit

@[expose] public section

set_option maxRecDepth 16384

noncomputable section

namespace Cert.KernelIdeal.AttnBwd

open Cert.KernelIdeal Cert.KernelIdeal.Gen
open Idealize.ShloMosaic Idealize.ShloMosaic.TcCoe Idealize.ShloMosaic.Tactic
open Idealize.SL
open Cert.RealArrays

theorem index_0 : ∀ t : Fin cfg0.N, (cfg0.win 0).index t 0 = t.val % 16 ∧ (cfg0.win 0).index t 1 = t.val / 16 := by decide +kernel
theorem index_1 : ∀ t : Fin cfg0.N, (cfg0.win 1).index t 0 = 0 ∧ (cfg0.win 1).index t 1 = t.val / 16 := by decide +kernel
theorem index_2 : ∀ t : Fin cfg0.N, (cfg0.win 2).index t 0 = 0 ∧ (cfg0.win 2).index t 1 = t.val / 16 := by decide +kernel
theorem index_3 : ∀ t : Fin cfg0.N, (cfg0.win 3).index t 0 = t.val / 16 ∧ (cfg0.win 3).index t 1 = 0 ∧ (cfg0.win 3).index t 2 = 0 ∧ (cfg0.win 3).index t 3 = 0 := by decide +kernel
theorem index_4 : ∀ t : Fin cfg0.N, (cfg0.win 4).index t 0 = t.val / 16 ∧ (cfg0.win 4).index t 1 = 0 ∧ (cfg0.win 4).index t 2 = 0 ∧ (cfg0.win 4).index t 3 = 0 := by decide +kernel
theorem index_5 : ∀ t : Fin cfg0.N, (cfg0.win 5).index t 0 = t.val % 16 ∧ (cfg0.win 5).index t 1 = 0 := by decide +kernel
theorem index_6 : ∀ t : Fin cfg0.N, (cfg0.win 6).index t 0 = t.val % 16 ∧ (cfg0.win 6).index t 1 = 0 := by decide +kernel
theorem index_7 : ∀ t : Fin cfg0.N, (cfg0.win 7).index t 0 = t.val % 16 ∧ (cfg0.win 7).index t 1 = 0 := by decide +kernel
theorem index_8 : ∀ t : Fin cfg0.N, (cfg0.win 8).index t 0 = t.val % 16 ∧ (cfg0.win 8).index t 1 = t.val / 16 := by decide +kernel
theorem index_9 : ∀ t : Fin cfg0.N, (cfg0.win 9).index t 0 = t.val % 16 ∧ (cfg0.win 9).index t 1 = t.val / 16 := by decide +kernel
theorem covers_8 : (cfg0.win 8).Covers := by decide +kernel
theorem covers_9 : (cfg0.win 9).Covers := by decide +kernel

variable {m : (ℓ : Loc nD τ sig) → Buf (Elt Ideal) ℓ} {c : Dev nD}

theorem read_0 {f : ℕ → ℕ → ℝ} (hX : V m c main_v134 = (u2 f : FVec Ideal S4096x4096 .bf16)) (t : Fin cfg0.N) (y : S256x2048.Idx) :
    (iblk m c 0 t : Vec Ideal S256x2048 .bf16) y = ((f (256 * (t.val % 16) + (y 0).val) (2048 * (t.val / 16) + (y 1).val) : ℝ) : EReal) := by
  show V m c main_v134 (((cfg0.win 0).blk t).view.emb y) = _
  rw [hX]
  show ((f (((cfg0.win 0).blk t).view.emb y 0).val (((cfg0.win 0).blk t).view.emb y 1).val : ℝ) : EReal) = _
  have e0 := (index_0 t).1
  have e1 := (index_0 t).2
  blk_simp [e0, e1]
  simp only [Nat.mul_comm, Nat.zero_mul, Nat.zero_add]

theorem read_1 {f : ℕ → ℕ → ℝ} (hX : V m c main_v129 = (u2 f : FVec Ideal S4096x2048 .bf16)) (t : Fin cfg0.N) (y : S4096x1024.Idx) :
    (iblk m c 1 t : Vec Ideal S4096x1024 .bf16) y = ((f (y 0).val (1024 * (t.val / 16) + (y 1).val) : ℝ) : EReal) := by
  show V m c main_v129 (((cfg0.win 1).blk t).view.emb y) = _
  rw [hX]
  show ((f (((cfg0.win 1).blk t).view.emb y 0).val (((cfg0.win 1).blk t).view.emb y 1).val : ℝ) : EReal) = _
  have e0 := (index_1 t).1
  have e1 := (index_1 t).2
  blk_simp [e0, e1]
  simp only [Nat.mul_comm, Nat.zero_mul, Nat.zero_add]

theorem read_2 {f : ℕ → ℕ → ℝ} (hX : V m c main_v137 = (u2 f : FVec Ideal S4096x2048 .bf16)) (t : Fin cfg0.N) (y : S4096x1024.Idx) :
    (iblk m c 2 t : Vec Ideal S4096x1024 .bf16) y = ((f (y 0).val (1024 * (t.val / 16) + (y 1).val) : ℝ) : EReal) := by
  show V m c main_v137 (((cfg0.win 2).blk t).view.emb y) = _
  rw [hX]
  show ((f (((cfg0.win 2).blk t).view.emb y 0).val (((cfg0.win 2).blk t).view.emb y 1).val : ℝ) : EReal) = _
  have e0 := (index_2 t).1
  have e1 := (index_2 t).2
  blk_simp [e0, e1]
  simp only [Nat.mul_comm, Nat.zero_mul, Nat.zero_add]

theorem read_5 {f : ℕ → ℕ → ℝ} (hX : V m c main_v31 = (u2 f : FVec Ideal S4096x128 .f32)) (t : Fin cfg0.N) (y : S256x128.Idx) :
    (iblk m c 5 t : Vec Ideal S256x128 .f32) y = ((f (256 * (t.val % 16) + (y 0).val) (y 1).val : ℝ) : EReal) := by
  show V m c main_v31 (((cfg0.win 5).blk t).view.emb y) = _
  rw [hX]
  show ((f (((cfg0.win 5).blk t).view.emb y 0).val (((cfg0.win 5).blk t).view.emb y 1).val : ℝ) : EReal) = _
  have e0 := (index_5 t).1
  have e1 := (index_5 t).2
  blk_simp [e0, e1]
  simp only [Nat.mul_comm, Nat.zero_mul, Nat.zero_add]

theorem read_6 {f : ℕ → ℕ → ℝ} (hX : V m c main_v33 = (u2 f : FVec Ideal S4096x128 .f32)) (t : Fin cfg0.N) (y : S256x128.Idx) :
    (iblk m c 6 t : Vec Ideal S256x128 .f32) y = ((f (256 * (t.val % 16) + (y 0).val) (y 1).val : ℝ) : EReal) := by
  show V m c main_v33 (((cfg0.win 6).blk t).view.emb y) = _
  rw [hX]
  show ((f (((cfg0.win 6).blk t).view.emb y 0).val (((cfg0.win 6).blk t).view.emb y 1).val : ℝ) : EReal) = _
  have e0 := (index_6 t).1
  have e1 := (index_6 t).2
  blk_simp [e0, e1]
  simp only [Nat.mul_comm, Nat.zero_mul, Nat.zero_add]

theorem read_7 {f : ℕ → ℕ → ℝ} (hX : V m c main_v34 = (u2 f : FVec Ideal S4096x128 .f32)) (t : Fin cfg0.N) (y : S256x128.Idx) :
    (iblk m c 7 t : Vec Ideal S256x128 .f32) y = ((f (256 * (t.val % 16) + (y 0).val) (y 1).val : ℝ) : EReal) := by
  show V m c main_v34 (((cfg0.win 7).blk t).view.emb y) = _
  rw [hX]
  show ((f (((cfg0.win 7).blk t).view.emb y 0).val (((cfg0.win 7).blk t).view.emb y 1).val : ℝ) : EReal) = _
  have e0 := (index_7 t).1
  have e1 := (index_7 t).2
  blk_simp [e0, e1]
  simp only [Nat.mul_comm, Nat.zero_mul, Nat.zero_add]

theorem read_3 {f : ℕ → ℕ → ℕ → ℕ → ℝ} (hX : V m c main_v111 = (u4 f : FVec Ideal S16x16x1x256 .f32)) (t : Fin cfg0.N) (y : S8x16x1x256.Idx) :
    (iblk m c 3 t : Vec Ideal S8x16x1x256 .f32) y = ((f (8 * (t.val / 16) + (y 0).val) (y 1).val (y 2).val (y 3).val : ℝ) : EReal) := by
  show V m c main_v111 (((cfg0.win 3).blk t).view.emb y) = _
  rw [hX]
  show ((f (((cfg0.win 3).blk t).view.emb y 0).val (((cfg0.win 3).blk t).view.emb y 1).val (((cfg0.win 3).blk t).view.emb y 2).val (((cfg0.win 3).blk t).view.emb y 3).val : ℝ) : EReal) = _
  have e0 := (index_3 t).1
  have e1 := (index_3 t).2.1
  have e2 := (index_3 t).2.2.1
  have e3 := (index_3 t).2.2.2
  blk_simp [e0, e1, e2, e3]
  simp only [Nat.mul_comm, Nat.zero_mul, Nat.zero_add]

theorem read_4 {f : ℕ → ℕ → ℕ → ℕ → ℝ} (hX : V m c main_v120 = (u4 f : FVec Ideal S16x16x1x256 .f32)) (t : Fin cfg0.N) (y : S8x16x1x256.Idx) :
    (iblk m c 4 t : Vec Ideal S8x16x1x256 .f32) y = ((f (8 * (t.val / 16) + (y 0).val) (y 1).val (y 2).val (y 3).val : ℝ) : EReal) := by
  show V m c main_v120 (((cfg0.win 4).blk t).view.emb y) = _
  rw [hX]
  show ((f (((cfg0.win 4).blk t).view.emb y 0).val (((cfg0.win 4).blk t).view.emb y 1).val (((cfg0.win 4).blk t).view.emb y 2).val (((cfg0.win 4).blk t).view.emb y 3).val : ℝ) : EReal) = _
  have e0 := (index_4 t).1
  have e1 := (index_4 t).2.1
  have e2 := (index_4 t).2.2.1
  have e3 := (index_4 t).2.2.2
  blk_simp [e0, e1, e2, e3]
  simp only [Nat.mul_comm, Nat.zero_mul, Nat.zero_add]

/-- What the call's arrays hold, as reals. -/
structure Host (m : (ℓ : Loc nD τ sig) → Buf (Elt Ideal) ℓ) (c : Dev nD) (qf kf vr or : ℕ → ℕ → ℕ → ℝ) (M : ℕ → ℕ → ℝ) (pr f : ℕ → ℝ) : Prop where
  q : V m c main_v129 = (u2 fun r x => qPad qf r (x / 128) (x % 128) : FVec Ideal S4096x2048 .bf16)
  kv : V m c main_v134 = (u2 fun r x => if x % 256 < 128 then widen 96 kf r (x / 256) (x % 256) else widen 64 vr r (x / 256) (x % 256 - 128) : FVec Ideal S4096x4096 .bf16)
  o : V m c main_v137 = (u2 fun r x => widen 64 or r (x / 128) (x % 128) : FVec Ideal S4096x2048 .bf16)
  l : V m c main_v111 = (u4 fun h n _ b => lseR qf kf M h (256 * n + b) : FVec Ideal S16x16x1x256 .f32)
  d : V m c main_v120 = (u4 fun h n _ b => ddR qf kf M or vr h (256 * n + b) : FVec Ideal S16x16x1x256 .f32)
  cs : V m c main_v31 = (u2 (cosL pr f) : FVec Ideal S4096x128 .f32)
  sa : V m c main_v33 = (u2 (saL pr f) : FVec Ideal S4096x128 .f32)
  sb : V m c main_v34 = (u2 (sbL pr f) : FVec Ideal S4096x128 .f32)

variable {qf kf vr or : ℕ → ℕ → ℕ → ℝ} {M : ℕ → ℕ → ℝ} {pr f : ℕ → ℝ} (H : Host m c qf kf vr or M pr f)

theorem qb_val : ∀ t : Fin cfg0.N, (qb (grid0.coords t)).val = t.val % 16 := by decide +kernel

include H

/-- The blocks that a point reads. -/
theorem inputs (t : Fin cfg0.N) : Inputs (gK kf (t.val / 16)) (gV vr (t.val / 16)) (gQ qf (t.val / 16)) (gV or (t.val / 16))
    (gL (lseR qf kf M) (t.val / 16)) (gL (ddR qf kf M or vr) (t.val / 16))
    (keysOf (iblk m c 0 t : Vec Ideal S256x2048 .bf16)) (valsOf (iblk m c 0 t : Vec Ideal S256x2048 .bf16)) (iblk m c 1 t : Vec Ideal S4096x1024 .bf16) (iblk m c 2 t : Vec Ideal S4096x1024 .bf16)
    (iblk m c 3 t : Vec Ideal S8x16x1x256 .f32) (iblk m c 4 t : Vec Ideal S8x16x1x256 .f32) (qb (grid0.coords t)) where
  hk h := by
    funext i
    have i1 : (i 1).val < 128 := (i 1).isLt
    refine (read_0 H.kv t _).trans ?_
    rw [qb_val]
    show ((if (2048 * (t.val / 16) + (128 * (2 * h.val) + 1 * (i 1).val)) % 256 < 128 then widen 96 kf (256 * (t.val % 16) + (0 + 1 * (i 0).val)) ((2048 * (t.val / 16) + (128 * (2 * h.val) + 1 * (i 1).val)) / 256) ((2048 * (t.val / 16) + (128 * (2 * h.val) + 1 * (i 1).val)) % 256) else _ : ℝ) : EReal) = ((widen 96 kf (256 * (t.val % 16) + (i 0).val) (8 * (t.val / 16) + h.val) (i 1).val : ℝ) : EReal)
    rw [if_pos (by omega), show (2048 * (t.val / 16) + (128 * (2 * h.val) + 1 * (i 1).val)) / 256 = 8 * (t.val / 16) + h.val by omega, show (2048 * (t.val / 16) + (128 * (2 * h.val) + 1 * (i 1).val)) % 256 = (i 1).val by omega, Nat.one_mul, Nat.zero_add]
  hv h := by
    funext i
    have i1 : (i 1).val < 128 := (i 1).isLt
    refine (read_0 H.kv t _).trans ?_
    rw [qb_val]
    show ((if (2048 * (t.val / 16) + (128 * (2 * h.val + 1) + 1 * (i 1).val)) % 256 < 128 then _ else widen 64 vr (256 * (t.val % 16) + (0 + 1 * (i 0).val)) ((2048 * (t.val / 16) + (128 * (2 * h.val + 1) + 1 * (i 1).val)) / 256) ((2048 * (t.val / 16) + (128 * (2 * h.val + 1) + 1 * (i 1).val)) % 256 - 128) : ℝ) : EReal) = ((widen 64 vr (256 * (t.val % 16) + (i 0).val) (8 * (t.val / 16) + h.val) (i 1).val : ℝ) : EReal)
    rw [if_neg (by omega), show (2048 * (t.val / 16) + (128 * (2 * h.val + 1) + 1 * (i 1).val)) / 256 = 8 * (t.val / 16) + h.val by omega, show (2048 * (t.val / 16) + (128 * (2 * h.val + 1) + 1 * (i 1).val)) % 256 - 128 = (i 1).val by omega, Nat.one_mul, Nat.zero_add]
  hq h n' := by
    funext i
    obtain ⟨a, l, rfl⟩ := (⟨i 0, i 1, eq_ix2 i⟩ : ∃ a l, i = ix2 a l)
    rw [tile_apply]
    refine (read_1 H.q t _).trans ?_
    show ((qPad qf (256 * n'.val + a.val) ((1024 * (t.val / 16) + (128 * h.val + l.val)) / 128) ((1024 * (t.val / 16) + (128 * h.val + l.val)) % 128) : ℝ) : EReal) = ((qPad qf (256 * n'.val + a.val) (8 * (t.val / 16) + h.val) l.val : ℝ) : EReal)
    rw [show (1024 * (t.val / 16) + (128 * h.val + l.val)) / 128 = 8 * (t.val / 16) + h.val by omega, show (1024 * (t.val / 16) + (128 * h.val + l.val)) % 128 = l.val by omega]
  ho h n' := by
    funext i
    obtain ⟨a, l, rfl⟩ := (⟨i 0, i 1, eq_ix2 i⟩ : ∃ a l, i = ix2 a l)
    rw [tile_apply]
    refine (read_2 H.o t _).trans ?_
    show ((widen 64 or (256 * n'.val + a.val) ((1024 * (t.val / 16) + (128 * h.val + l.val)) / 128) ((1024 * (t.val / 16) + (128 * h.val + l.val)) % 128) : ℝ) : EReal) = ((widen 64 or (256 * n'.val + a.val) (8 * (t.val / 16) + h.val) l.val : ℝ) : EReal)
    rw [show (1024 * (t.val / 16) + (128 * h.val + l.val)) / 128 = 8 * (t.val / 16) + h.val by omega, show (1024 * (t.val / 16) + (128 * h.val + l.val)) % 128 = l.val by omega]
  hl h n' := by
    funext i
    have i0 : (i 0).val < 1 := (i 0).isLt
    have i1 : (i 1).val < 1 := (i 1).isLt
    refine (read_3 H.l t _).trans ?_
    show ((lseR qf kf M (8 * (t.val / 16) + (h.val + 1 * (i 0).val)) (256 * (n'.val + 1 * (i 1).val) + (0 + 1 * (i 3).val)) : ℝ) : EReal) = ((lseR qf kf M (8 * (t.val / 16) + h.val) (256 * n'.val + (i 3).val) : ℝ) : EReal)
    rw [show (i 0).val = 0 by omega, show (i 1).val = 0 by omega]
    simp only [Nat.one_mul, Nat.zero_add, Nat.mul_zero, Nat.add_zero]
  hd h n' := by
    funext i
    have i0 : (i 0).val < 1 := (i 0).isLt
    have i1 : (i 1).val < 1 := (i 1).isLt
    refine (read_4 H.d t _).trans ?_
    show ((ddR qf kf M or vr (8 * (t.val / 16) + (h.val + 1 * (i 0).val)) (256 * (n'.val + 1 * (i 1).val) + (0 + 1 * (i 3).val)) : ℝ) : EReal) = ((ddR qf kf M or vr (8 * (t.val / 16) + h.val) (256 * n'.val + (i 3).val) : ℝ) : EReal)
    rw [show (i 0).val = 0 by omega, show (i 1).val = 0 by omega]
    simp only [Nat.one_mul, Nat.zero_add, Nat.mul_zero, Nat.add_zero]

/-- The blocks of cosines and sines that a point reads. -/
theorem cos_block (t : Fin cfg0.N) : (iblk m c 5 t : Vec Ideal S256x128 .f32) = up (φ := .f32) fun b x => cosL pr f (256 * (t.val % 16) + b.val) x.val :=
  funext fun i => read_5 H.cs t i
theorem sa_block (t : Fin cfg0.N) : (iblk m c 6 t : Vec Ideal S256x128 .f32) = up (φ := .f32) fun b x => saL pr f (256 * (t.val % 16) + b.val) x.val :=
  funext fun i => read_6 H.sa t i
theorem sb_block (t : Fin cfg0.N) : (iblk m c 7 t : Vec Ideal S256x128 .f32) = up (φ := .f32) fun b x => sbL pr f (256 * (t.val % 16) + b.val) x.val :=
  funext fun i => read_7 H.sb t i

/-- The queries' accumulator after a point. -/
theorem scr_after (t : Fin cfg0.N) : Scr (gK kf (t.val / 16)) (gV vr (t.val / 16)) (gQ qf (t.val / 16)) (gV or (t.val / 16))
    (gL (lseR qf kf M) (t.val / 16)) (gL (ddR qf kf M or vr) (t.val / 16)) (t.val % 16 + 1) (scrAfter m c t.val t.isLt) := by
  obtain ⟨n, hn⟩ := t
  induction n with
  | zero =>
    have e := scr_point (inputs H ⟨0, hn⟩) zeros (by rw [qb_val]; exact scr_zero)
    rw [← qb_val ⟨0, hn⟩]
    exact e
  | succ n ih =>
    by_cases h : (n + 1) % 16 = 0
    · rw [scrAfter_first m c ⟨n + 1, hn⟩ h]
      have e := scr_point (inputs H ⟨n + 1, hn⟩) zeros (by rw [qb_val]; show Scr _ _ _ _ _ _ ((n + 1) % 16) _; rw [h]; exact scr_zero)
      rw [← qb_val ⟨n + 1, hn⟩]
      exact e
    · rw [scrAfter_later m c ⟨n + 1, hn⟩ h]
      have ih' := ih (Nat.lt_of_succ_lt hn)
      have e := scr_point (inputs H ⟨n + 1, hn⟩) (scrAfter m c n (Nat.lt_of_succ_lt hn)) (by
        rw [qb_val]
        show Scr (gK kf ((n + 1) / 16)) (gV vr ((n + 1) / 16)) (gQ qf ((n + 1) / 16)) (gV or ((n + 1) / 16)) (gL (lseR qf kf M) ((n + 1) / 16)) (gL (ddR qf kf M or vr) ((n + 1) / 16)) ((n + 1) % 16) _
        rw [show (n + 1) / 16 = n / 16 by omega, show (n + 1) % 16 = n % 16 + 1 by omega]
        exact ih')
      rw [← qb_val ⟨n + 1, hn⟩]
      exact e

end Cert.KernelIdeal.AttnBwd

end
-- ==== Proof.Outputs.lean ====
/- The call's two results as real arrays. -/
module

public import proofs.«01_k».proof.Proof.Reads

@[expose] public section

set_option maxRecDepth 16384

noncomputable section

namespace Cert.KernelIdeal.AttnBwd

open Cert.KernelIdeal Cert.KernelIdeal.Gen
open Idealize.ShloMosaic Idealize.ShloMosaic.TcCoe Idealize.ShloMosaic.Tactic
open Idealize.SL
open Cert.RealArrays

/-- The queries' gradient, at row `r` and lane `x` of head `h`. -/
def gradQ (qf kf vr or : ℕ → ℕ → ℕ → ℝ) (M : ℕ → ℕ → ℝ) (pr f : ℕ → ℝ) (r h x : ℕ) : ℝ :=
  lanes (dqR qf kf vr or M r h) (cosT pr f r) (sinT pr f r) x

/-- The keys' gradient, at row `r` and lane `x` of head `h`. -/
def gradK (qf kf vr or : ℕ → ℕ → ℕ → ℝ) (M : ℕ → ℕ → ℝ) (pr f : ℕ → ℝ) (r h x : ℕ) : ℝ :=
  lanes (dkR qf kf vr or M r h) (cosT pr f r) (sinT pr f r) x

/-- The keys' and the values' gradients side by side, as the call lays them out. -/
def gradKV (qf kf vr or : ℕ → ℕ → ℕ → ℝ) (M : ℕ → ℕ → ℝ) (pr f : ℕ → ℝ) (r x : ℕ) : ℝ :=
  if x % 256 < 128 then gradK qf kf vr or M pr f r (x / 256) (x % 256) else widen 64 (dvR qf kf or M) r (x / 256) (x % 256 - 128)

variable {m : (ℓ : Loc nD τ sig) → Buf (Elt Ideal) ℓ} {c : Dev nD}
variable {qf kf vr or : ℕ → ℕ → ℕ → ℝ} {M : ℕ → ℕ → ℝ} {pr f : ℕ → ℝ} (H : Host m c qf kf vr or M pr f)
include H

/-- A tile of the queries' gradient. -/
theorem dq_tile (t : Fin cfg0.N) (h : Fin 8) :
    dqOut (tile (qb (grid0.coords t)) h (scrAfter m c t.val t.isLt)) (iblk m c 5 t : Vec Ideal S256x128 .f32) (iblk m c 6 t : Vec Ideal S256x128 .f32) (iblk m c 7 t : Vec Ideal S256x128 .f32)
      = up fun b x => gradQ qf kf vr or M pr f (256 * (t.val % 16) + b.val) (8 * (t.val / 16) + h.val) x.val := by
  have hs := scr_after H t
  rw [← qb_val t] at hs
  rw [scr_tile _ h _ hs, cos_block H t, sa_block H t, sb_block H t, dqOut_up, qb_val]
  congr 1
  funext b x
  refine unrot_lanes _ pr f (256 * (t.val % 16) + b.val) _ _ _ _ b x (fun x => ?_) (fun _ => rfl) (fun _ => rfl) (fun _ => rfl)
  exact dq_sum qf kf vr or M (t.val / 16) h.val (256 * (t.val % 16) + b.val) x.val (by omega)

/-- A tile of the keys' gradient. -/
theorem dk_tile (t : Fin cfg0.N) (h : Fin 8) :
    dkOut (dkAt (keysOf (iblk m c 0 t : Vec Ideal S256x2048 .bf16)) (valsOf (iblk m c 0 t : Vec Ideal S256x2048 .bf16)) (iblk m c 1 t : Vec Ideal S4096x1024 .bf16) (iblk m c 2 t : Vec Ideal S4096x1024 .bf16)
        (iblk m c 3 t : Vec Ideal S8x16x1x256 .f32) (iblk m c 4 t : Vec Ideal S8x16x1x256 .f32) (qb (grid0.coords t)) (16 - (grid0.coords t 1).val) h)
      (iblk m c 5 t : Vec Ideal S256x128 .f32) (iblk m c 6 t : Vec Ideal S256x128 .f32) (iblk m c 7 t : Vec Ideal S256x128 .f32)
      = up fun b x => gradK qf kf vr or M pr f (256 * (t.val % 16) + b.val) (8 * (t.val / 16) + h.val) x.val := by
  have e := dkAt_real (inputs H t) h
  rw [show (16 - (grid0.coords t 1).val) = 16 - (qb (grid0.coords t)).val from rfl, e, cos_block H t, sa_block H t, sb_block H t, dkOut_up, qb_val]
  congr 1
  funext b x
  refine unrot_lanes _ pr f (256 * (t.val % 16) + b.val) _ _ _ _ b x (fun x => ?_) (fun _ => rfl) (fun _ => rfl) (fun _ => rfl)
  exact dk_sum qf kf vr or M (t.val / 16) h.val (256 * (t.val % 16) + b.val) x.val

/-- A tile of the values' gradient. -/
theorem dv_tile (t : Fin cfg0.N) (h : Fin 8) :
    truncf .bf16 (dvAt (keysOf (iblk m c 0 t : Vec Ideal S256x2048 .bf16)) (iblk m c 1 t : Vec Ideal S4096x1024 .bf16) (iblk m c 2 t : Vec Ideal S4096x1024 .bf16)
        (iblk m c 3 t : Vec Ideal S8x16x1x256 .f32) (qb (grid0.coords t)) (16 - (grid0.coords t 1).val) h) bitsLt_bf16_f32
      = up fun b x => widen 64 (dvR qf kf or M) (256 * (t.val % 16) + b.val) (8 * (t.val / 16) + h.val) x.val := by
  have e := dvAt_real (inputs H t) h
  rw [show (16 - (grid0.coords t 1).val) = 16 - (qb (grid0.coords t)).val from rfl, e, qb_val]
  funext i
  show ((∑ r ∈ Finset.range 4096, _ : ℝ) : EReal) = _
  exact congrArg _ (dv_sum qf kf or M (t.val / 16) h.val (256 * (t.val % 16) + (i 0).val) (i 1).val)

theorem outQ_real (t : Fin cfg0.N) (y : S256x1024.Idx) :
    outQ m c t y = ((gradQ qf kf vr or M pr f (256 * (t.val % 16) + (y 0).val) ((1024 * (t.val / 16) + (y 1).val) / 128) ((1024 * (t.val / 16) + (y 1).val) % 128) : ℝ) : EReal) := by
  have y1 : (y 1).val < 1024 := (y 1).isLt
  refine (congrFun (dq_tile H t ⟨(y 1).val / 128, by omega⟩) _).trans ?_
  show ((gradQ qf kf vr or M pr f (256 * (t.val % 16) + (y 0).val) (8 * (t.val / 16) + (y 1).val / 128) ((y 1).val % 128) : ℝ) : EReal) = _
  rw [show (1024 * (t.val / 16) + (y 1).val) / 128 = 8 * (t.val / 16) + (y 1).val / 128 by omega, show (1024 * (t.val / 16) + (y 1).val) % 128 = (y 1).val % 128 by omega]

theorem outKV_real (t : Fin cfg0.N) (y : S256x2048.Idx) :
    outKV m c t y = ((gradKV qf kf vr or M pr f (256 * (t.val % 16) + (y 0).val) (2048 * (t.val / 16) + (y 1).val) : ℝ) : EReal) := by
  have y1 : (y 1).val < 2048 := (y 1).isLt
  unfold gradKV
  by_cases hp : (y 1).val / 128 % 2 = 0
  · rw [if_pos (by omega)]
    refine (congrFun (if_pos (show (y 1).val / 128 % 2 = 0 from hp)) _).trans ?_
    refine (congrFun (dk_tile H t ⟨(y 1).val / 128 / 2, by omega⟩) _).trans ?_
    show ((gradK qf kf vr or M pr f (256 * (t.val % 16) + (y 0).val) (8 * (t.val / 16) + (y 1).val / 128 / 2) ((y 1).val % 128) : ℝ) : EReal) = _
    rw [show (2048 * (t.val / 16) + (y 1).val) / 256 = 8 * (t.val / 16) + (y 1).val / 128 / 2 by omega, show (2048 * (t.val / 16) + (y 1).val) % 256 = (y 1).val % 128 by omega]
  · rw [if_neg (by omega)]
    refine (congrFun (if_neg (show ¬ (y 1).val / 128 % 2 = 0 from hp)) _).trans ?_
    refine (congrFun (dv_tile H t ⟨(y 1).val / 128 / 2, by omega⟩) _).trans ?_
    show ((widen 64 (dvR qf kf or M) (256 * (t.val % 16) + (y 0).val) (8 * (t.val / 16) + (y 1).val / 128 / 2) ((y 1).val % 128) : ℝ) : EReal) = _
    rw [show (2048 * (t.val / 16) + (y 1).val) / 256 = 8 * (t.val / 16) + (y 1).val / 128 / 2 by omega, show (2048 * (t.val / 16) + (y 1).val) % 256 - 128 = (y 1).val % 128 by omega]

/-- The first result: the queries' gradient. -/
theorem result_q : (dats m 0 c).arrAt 8 cfg0.N = (u2 fun r x => gradQ qf kf vr or M pr f r (x / 128) (x % 128) : FVec Ideal S4096x2048 .bf16) := by
  refine (dats m 0 c).arrAt_eq_of_covers 8 _ covers_8 (fun t hf y => ?_)
  blk_simp
  rw [after_8]
  refine (outQ_real H t y).trans ?_
  show _ = ((gradQ qf kf vr or M pr f (((cfg0.win 8).blk t).view.emb y 0).val ((((cfg0.win 8).blk t).view.emb y 1).val / 128) ((((cfg0.win 8).blk t).view.emb y 1).val % 128) : ℝ) : EReal)
  have e0 := (index_8 t).1
  have e1 := (index_8 t).2
  blk_simp [e0, e1]
  simp only [Nat.mul_comm]

/-- The second result: the keys' and the values' gradients. -/
theorem result_kv : (dats m 0 c).arrAt 9 cfg0.N = (u2 (gradKV qf kf vr or M pr f) : FVec Ideal S4096x4096 .bf16) := by
  refine (dats m 0 c).arrAt_eq_of_covers 9 _ covers_9 (fun t hf y => ?_)
  blk_simp
  rw [after_9]
  refine (outKV_real H t y).trans ?_
  show _ = ((gradKV qf kf vr or M pr f (((cfg0.win 9).blk t).view.emb y 0).val (((cfg0.win 9).blk t).view.emb y 1).val : ℝ) : EReal)
  have e0 := (index_9 t).1
  have e1 := (index_9 t).2
  blk_simp [e0, e1]
  simp only [Nat.mul_comm]

end Cert.KernelIdeal.AttnBwd

end
-- ==== Proof.RefOut.lean ====
/- The reference's two results as real arrays. -/
module

public import proofs.«01_k».proof.Proof.Outputs

@[expose] public section

set_option maxRecDepth 16384

noncomputable section

namespace Cert.RealArrays

open Cert.ReferenceIdeal Cert.ReferenceIdeal.Gen Cert.ReferenceIdeal.Value
open Idealize.ShloMosaic Idealize.ShloMosaic.TcCoe Idealize.ShloMosaic.Tactic Idealize.ShloMosaic.StableHlo
open Cert.KernelIdeal.AttnBwd (sigma lanes widen dqR dkR dvR gradQ gradK gradKV pad96 pad64)

theorem zero_bits : (Ideal.ofBits .f32 0x00000000#32 : EReal) = ((0 : ℝ) : EReal) := by
  simp [Ideal.ofBits, Ideal.ieee, -EReal.coe_mul]

/-- The reference undoes the rotation: lane by lane. -/
theorem unrot_ref (D : ℕ → ℕ → ℕ → ℝ) (c s : ℕ → ℕ → ℝ) (X Y : FVec Ideal S4096x16x16 .f32) (Z : FVec Ideal S4096x16x96 .f32) (C S : FVec Ideal S4096x1x16 .f32)
    (hX : X = u3 fun r h i => D r h (64 + i)) (hY : Y = u3 fun r h i => D r h (80 + i)) (hZ : Z = u3 D) (hC : C = u3 fun r _ i => c r i) (hS : S = u3 fun r _ i => s r i) :
    addf (pad S4096x16x96 ![0, 0, 64] ![0, 0, 0] ![0, 0, 0] (addf (pad S4096x16x32 ![0, 0, 16] ![0, 0, 0] ![0, 0, 0] (addf (mulf Y (broadcastInDim S4096x16x16 ![0, 1, 2] bcast_S4096x1x16_S4096x16x16_0_1_2 C)) (mulf (Host.negf X) (broadcastInDim S4096x16x16 ![0, 1, 2] bcast_S4096x1x16_S4096x16x16_0_1_2 S))) (constant S_ .f32 0x00000000#32) pads_S4096x16x16_S4096x16x32_000_000_1600 h_S_) (pad S4096x16x32 ![0, 0, 0] ![0, 0, 16] ![0, 0, 0] (addf (mulf Y (broadcastInDim S4096x16x16 ![0, 1, 2] bcast_S4096x1x16_S4096x16x16_0_1_2 S)) (mulf X (broadcastInDim S4096x16x16 ![0, 1, 2] bcast_S4096x1x16_S4096x16x16_0_1_2 C))) (constant S_ .f32 0x00000000#32) pads_S4096x16x16_S4096x16x32_000_000_0160 h_S_)) (constant S_ .f32 0x00000000#32) pads_S4096x16x32_S4096x16x96_000_000_6400 h_S_) (pad S4096x16x96 ![0, 0, 0] ![0, 0, 32] ![0, 0, 0] (extractStridedSlice S4096x16x64 ![0, 0, 0] Z slices_S4096x16x96_S4096x16x64_0_0_0) (constant S_ .f32 0x00000000#32) pads_S4096x16x64_S4096x16x96_000_000_0320 h_S_)
      = (u3 fun r h x => lanes (D r h) (c r) (s r) x : FVec Ideal S4096x16x96 .f32) := by
  subst hX hY hZ hC hS
  refine ix3_all fun r h x => ?_
  pointwise [u3]
  have hx := x.isLt
  rw [lanes]
  by_cases h1 : x.val < 64
  · rw [dif_neg (by omega), dif_pos h1, if_pos h1, zero_add]
  by_cases h2 : x.val < 80
  · rw [dif_pos (by omega), dif_neg (by omega), dif_pos (by omega), dif_neg h1, if_neg h1, if_pos h2, zero_add, add_zero,
      show 80 + (x.val - 64) = x.val + 16 by omega, show 64 + (x.val - 64) = x.val by omega, ← EReal.coe_mul, ← EReal.coe_mul, ← EReal.coe_add, add_comm]
  · rw [dif_pos (by omega), dif_pos (by omega), dif_neg (by omega), dif_neg h1, if_neg h1, if_neg h2, if_pos hx, add_zero, add_zero,
      show 80 + (x.val - 64 - 16) = x.val by omega, show 64 + (x.val - 64 - 16) = x.val - 16 by omega, show x.val - 64 - 16 = x.val - 80 by omega,
      ← EReal.coe_neg, ← EReal.coe_mul, ← EReal.coe_mul, ← EReal.coe_add, neg_mul, ← sub_eq_add_neg]

variable {W : Valuation τ sig (Elt Ideal)} {q k v o qf kf : ℕ → ℕ → ℕ → ℝ} {M : ℕ → ℕ → ℝ} {p f : ℕ → ℝ}

/-- The first result. -/
theorem result_165 (hC : res_main_v18 W = u3 fun r _ i => cosT p f r i) (hS : res_main_v19 W = u3 fun r _ i => sinT p f r i)
    (hD : res_main_v116 W = u3 (dqR qf kf v o M)) :
    truncf .bf16 (shapeCast S4096x2048 (pad S4096x16x128 ![0, 0, 0] ![0, 0, 32] ![0, 0, 0] (addf (pad S4096x16x96 ![0, 0, 64] ![0, 0, 0] ![0, 0, 0] (addf (pad S4096x16x32 ![0, 0, 16] ![0, 0, 0] ![0, 0, 0] (addf (mulf (res_main_v141 W) (broadcastInDim S4096x16x16 ![0, 1, 2] bcast_S4096x1x16_S4096x16x16_0_1_2 (res_main_v18 W))) (mulf (Host.negf (res_main_v140 W)) (broadcastInDim S4096x16x16 ![0, 1, 2] bcast_S4096x1x16_S4096x16x16_0_1_2 (res_main_v19 W)))) (constant S_ .f32 0x00000000#32) pads_S4096x16x16_S4096x16x32_000_000_1600 h_S_) (pad S4096x16x32 ![0, 0, 0] ![0, 0, 16] ![0, 0, 0] (addf (mulf (res_main_v141 W) (broadcastInDim S4096x16x16 ![0, 1, 2] bcast_S4096x1x16_S4096x16x16_0_1_2 (res_main_v19 W))) (mulf (res_main_v140 W) (broadcastInDim S4096x16x16 ![0, 1, 2] bcast_S4096x1x16_S4096x16x16_0_1_2 (res_main_v18 W)))) (constant S_ .f32 0x00000000#32) pads_S4096x16x16_S4096x16x32_000_000_0160 h_S_)) (constant S_ .f32 0x00000000#32) pads_S4096x16x32_S4096x16x96_000_000_6400 h_S_) (pad S4096x16x96 ![0, 0, 0] ![0, 0, 32] ![0, 0, 0] (extractStridedSlice S4096x16x64 ![0, 0, 0] (res_main_v116 W) slices_S4096x16x96_S4096x16x64_0_0_0) (constant S_ .f32 0x00000000#32) pads_S4096x16x64_S4096x16x96_000_000_0320 h_S_)) (sitofp .f32 (constantI S_ 32 0#32)) pads_S4096x16x96_S4096x16x128_000_000_0320 h_S_) shapeCasts_S4096x16x128_S4096x2048) bitsLt_bf16_f32
      = (u2 fun r x => gradQ qf kf v o M p f r (x / 128) (x % 128) : FVec Ideal S4096x2048 .bf16) := by
  have h140 : res_main_v140 W = (u3 fun r h i => dqR qf kf v o M r h (64 + i) : FVec Ideal S4096x16x16 .f32) := by
    rw [res_main_v140, res_main_v139, hD]
    refine ix3_all fun r h x => ?_
    pointwise [u3]
  have h141 : res_main_v141 W = (u3 fun r h i => dqR qf kf v o M r h (80 + i) : FVec Ideal S4096x16x16 .f32) := by
    rw [res_main_v141, res_main_v139, hD]
    refine ix3_all fun r h x => ?_
    pointwise [u3]
    rw [← Nat.add_assoc]
  rw [unrot_ref (dqR qf kf v o M) (cosT p f) (sinT p f) _ _ _ _ _ h140 h141 hD hC hS, pad96 _ _ rfl]
  refine ix2_all fun r x => ?_
  pointwise [u3, u2]
  unfold widen gradQ
  by_cases hx : x.val % 128 < 96
  · rw [if_pos hx]
  · rw [if_neg hx, lanes, if_neg (by omega), if_neg (by omega), if_neg hx]

/-- The second result. -/
theorem result_166 (hC : res_main_v18 W = u3 fun r _ i => cosT p f r i) (hS : res_main_v19 W = u3 fun r _ i => sinT p f r i)
    (hD : res_main_v114 W = u3 (dkR qf kf v o M))
    (hV : transpose S4096x16x64 [2, 0, 1] (Host.dotGeneral (F := Ideal) (φ₁ := .f32) (φ₂ := .f32) dot_S16x64x4096_S16x4096x4096_S16x64x4096_2_1_1_2_0_0 none (res_main_v94 W) (res_main_v88 W) : FVec Ideal S16x64x4096 .f32) transposes_S16x64x4096_S4096x16x64_2_0_1
      = u3 (dvR qf kf o M)) :
    truncf .bf16 (shapeCast S4096x4096 (concatenate S4096x16x256 2 [⟨S4096x16x128, (pad S4096x16x128 ![0, 0, 0] ![0, 0, 32] ![0, 0, 0] (addf (pad S4096x16x96 ![0, 0, 64] ![0, 0, 0] ![0, 0, 0] (addf (pad S4096x16x32 ![0, 0, 16] ![0, 0, 0] ![0, 0, 0] (addf (mulf (res_main_v120 W) (broadcastInDim S4096x16x16 ![0, 1, 2] bcast_S4096x1x16_S4096x16x16_0_1_2 (res_main_v18 W))) (mulf (Host.negf (res_main_v119 W)) (broadcastInDim S4096x16x16 ![0, 1, 2] bcast_S4096x1x16_S4096x16x16_0_1_2 (res_main_v19 W)))) (constant S_ .f32 0x00000000#32) pads_S4096x16x16_S4096x16x32_000_000_1600 h_S_) (pad S4096x16x32 ![0, 0, 0] ![0, 0, 16] ![0, 0, 0] (addf (mulf (res_main_v120 W) (broadcastInDim S4096x16x16 ![0, 1, 2] bcast_S4096x1x16_S4096x16x16_0_1_2 (res_main_v19 W))) (mulf (res_main_v119 W) (broadcastInDim S4096x16x16 ![0, 1, 2] bcast_S4096x1x16_S4096x16x16_0_1_2 (res_main_v18 W)))) (constant S_ .f32 0x00000000#32) pads_S4096x16x16_S4096x16x32_000_000_0160 h_S_)) (constant S_ .f32 0x00000000#32) pads_S4096x16x32_S4096x16x96_000_000_6400 h_S_) (pad S4096x16x96 ![0, 0, 0] ![0, 0, 32] ![0, 0, 0] (extractStridedSlice S4096x16x64 ![0, 0, 0] (res_main_v114 W) slices_S4096x16x96_S4096x16x64_0_0_0) (constant S_ .f32 0x00000000#32) pads_S4096x16x64_S4096x16x96_000_000_0320 h_S_)) (sitofp .f32 (constantI S_ 32 0#32)) pads_S4096x16x96_S4096x16x128_000_000_0320 h_S_)⟩, ⟨S4096x16x128, (pad S4096x16x128 ![0, 0, 0] ![0, 0, 64] ![0, 0, 0] (transpose S4096x16x64 [2, 0, 1] (Host.dotGeneral (F := Ideal) (φ₁ := .f32) (φ₂ := .f32) dot_S16x64x4096_S16x4096x4096_S16x64x4096_2_1_1_2_0_0 none (res_main_v94 W) (res_main_v88 W) : FVec Ideal S16x64x4096 .f32) transposes_S16x64x4096_S4096x16x64_2_0_1) (sitofp .f32 (constantI S_ 32 0#32)) pads_S4096x16x64_S4096x16x128_000_000_0640 h_S_)⟩] concatenates_S4096x16x128_S4096x16x128_S4096x16x256_d2) shapeCasts_S4096x16x256_S4096x4096) bitsLt_bf16_f32
      = (u2 (gradKV qf kf v o M p f) : FVec Ideal S4096x4096 .bf16) := by
  have h140 : res_main_v119 W = (u3 fun r h i => dkR qf kf v o M r h (64 + i) : FVec Ideal S4096x16x16 .f32) := by
    rw [res_main_v119, res_main_v118, hD]
    refine ix3_all fun r h x => ?_
    pointwise [u3]
  have h141 : res_main_v120 W = (u3 fun r h i => dkR qf kf v o M r h (80 + i) : FVec Ideal S4096x16x16 .f32) := by
    rw [res_main_v120, res_main_v118, hD]
    refine ix3_all fun r h x => ?_
    pointwise [u3]
    rw [← Nat.add_assoc]
  rw [unrot_ref (dkR qf kf v o M) (cosT p f) (sinT p f) _ _ _ _ _ h140 h141 hD hC hS, pad96 _ _ rfl, pad64 (dvR qf kf o M) _ hV]
  refine ix2_all fun r x => ?_
  pointwise [u3, u2]
  unfold gradKV
  by_cases h : x.val % 256 < 128
  · rw [dif_pos h, if_pos h]
    unfold widen gradK
    by_cases hx : x.val % 256 < 96
    · rw [if_pos hx]
    · rw [if_neg hx, lanes, if_neg (by omega), if_neg (by omega), if_neg hx]
  · rw [dif_neg h, if_neg h]

end Cert.RealArrays

end
-- ==== Proof.Finite.lean ====
/- What the precondition says: the float arguments hold real numbers. -/
module

public import proofs.«01_k».proof.Defs
public import proofs.«01_k».proof.Proof.Gen.KernelIdeal
public import proofs.«01_k».proof.Proof.RefReal

@[expose] public section

noncomputable section

namespace Cert.RealArrays

open Idealize.ShloMosaic Idealize.ShloMosaic.TcCoe Idealize.ShloMosaic.Tactic

/-- The two shape relations of the precondition. -/
theorem finite_facts : Cert.Pre_finite.Facts where
  bcast_S_S4096x16x96 := by decide
  bcast_S_S4096x16x64 := by decide

/-- A value above minus infinity and below infinity is a number. -/
theorem number {x : EReal} (h : IntOp.andi (FloatOps.cmpf (F := Ideal) (φ := .f32) .ogt x (Ideal.ofBits .f32 0xFF800000#32 : EReal)) (FloatOps.cmpf (F := Ideal) (φ := .f32) .olt x (Ideal.ofBits .f32 0x7F800000#32 : EReal)) = 1#1) :
    x = ((x.toReal : ℝ) : EReal) := by
  have eb : (Ideal.ofBits .f32 0xFF800000#32 : EReal) = ⊥ := by simp [Ideal.ofBits, Ideal.ieee, -EReal.coe_mul]
  have et : (Ideal.ofBits .f32 0x7F800000#32 : EReal) = ⊤ := by simp [Ideal.ofBits, Ideal.ieee, -EReal.coe_mul]
  rw [eb, et] at h
  refine (EReal.coe_toReal ?_ ?_).symm
  · rintro rfl
    revert h
    show IntOp.andi (Ideal.cmp .ogt ⊤ ⊥) (Ideal.cmp .olt ⊤ ⊤) = 1#1 → False
    simp [Ideal.cmp, IntOp.andi]
  · rintro rfl
    revert h
    show IntOp.andi (Ideal.cmp .ogt ⊥ ⊥) (Ideal.cmp .olt ⊥ ⊤) = 1#1 → False
    simp [Ideal.cmp, IntOp.andi]

/-- An array of numbers of three axes. -/
theorem array3 {a b c : ℕ} (X : (⟨3, ![a, b, c]⟩ : Shape).Idx → EReal) (h : ∀ i, X i = (((X i).toReal : ℝ) : EReal)) :
    ∃ f : ℕ → ℕ → ℕ → ℝ, X = u3 f := by
  refine ⟨fun x y z => if h : x < a ∧ y < b ∧ z < c then (X (ix3 ⟨x, h.1⟩ ⟨y, h.2.1⟩ ⟨z, h.2.2⟩)).toReal else 0, ix3_all fun x y z => ?_⟩
  rw [h]
  show _ = (((if h : x.val < a ∧ y.val < b ∧ z.val < c then _ else 0 : ℝ)) : EReal)
  rw [dif_pos ⟨x.isLt, y.isLt, z.isLt⟩]
  rfl

/-- The positions as numbers. -/
theorem positions (P : IVec Cert.KernelIdeal.S4096 32) : ∃ p : ℕ → ℝ, (sitofp .f32 P : FVec Ideal Cert.KernelIdeal.S4096 .f32) = u1 p := by
  refine ⟨fun x => if h : x < 4096 then ((P (ix1 ⟨x, h⟩)).toInt : ℝ) else 0, ix1_all fun x => ?_⟩
  show _ = (((if h : x.val < 4096 then _ else 0 : ℝ)) : EReal)
  rw [dif_pos x.isLt]
  rfl

/-- Where the precondition holds, the four float arguments are arrays of real numbers. -/
theorem finite_args (hP : Cert.Pre_finite.Facts) (x0 x1 : FVec Ideal Cert.Pre_finite.S4096x16x96 .f32) (x2 : FVec Ideal Cert.Pre_finite.S4096x16x64 .f32)
    (x3 : IVec Cert.Pre_finite.S4096 32) (x4 : FVec Ideal Cert.Pre_finite.S4096x16x64 .f32)
    (h0 : (Cert.Pre_finite.fn (F := Ideal) x0 x1 x2 x3 x4).1 = fun _ => 1#1) (h1 : (Cert.Pre_finite.fn (F := Ideal) x0 x1 x2 x3 x4).2.1 = fun _ => 1#1)
    (h2 : (Cert.Pre_finite.fn (F := Ideal) x0 x1 x2 x3 x4).2.2.1 = fun _ => 1#1) (h3 : (Cert.Pre_finite.fn (F := Ideal) x0 x1 x2 x3 x4).2.2.2 = fun _ => 1#1) :
    ∃ q k v o : ℕ → ℕ → ℕ → ℝ, x0 = u3 q ∧ x1 = u3 k ∧ x2 = u3 v ∧ x4 = u3 o := by
  obtain ⟨q, hq⟩ := array3 x0 fun i => number (congrFun h0 i)
  obtain ⟨k, hk⟩ := array3 x1 fun i => number (congrFun h1 i)
  obtain ⟨v, hv⟩ := array3 x2 fun i => number (congrFun h2 i)
  obtain ⟨o, ho⟩ := array3 x4 fun i => number (congrFun h3 i)
  exact ⟨q, k, v, o, hq, hk, hv, ho⟩

end Cert.RealArrays

end
-- ==== Proof.Value.lean ====
/- The value claim: from arguments of real numbers, the kernel and the reference end with the same two arrays. -/
module

public import proofs.«01_k».proof.Proof.RefOut
public import proofs.«01_k».proof.Proof.Finite

@[expose] public section

set_option maxRecDepth 16384

noncomputable section

namespace Cert.Value

open Cert.KernelIdeal Cert.KernelIdeal.Gen Cert.KernelIdeal.AttnBwd Cert.RealArrays
open Idealize.ShloMosaic Idealize.ShloMosaic.TcCoe Idealize.ShloMosaic.StableHlo Idealize.SL.Sem

/-- What is known of one device: real arguments, the same of both programs, and the largest scores. -/
structure Point (m : (ℓ : Loc nD τ sig) → Buf (Elt Ideal) ℓ) (W : Valuation Cert.ReferenceIdeal.τ Cert.ReferenceIdeal.sig (Elt Ideal)) (c : Dev nD)
    (q k v o : ℕ → ℕ → ℕ → ℝ) (M : ℕ → ℕ → ℝ) (p f : ℕ → ℝ) : Prop where
  freq : (freqs : FVec Ideal S16 .f32) = u1 f
  pos : ∃ P : IVec S4096 32, (sitofp .f32 P : FVec Ideal S4096 .f32) = u1 p ∧ SameArgs m W c (u3 q) (u3 k) (u3 v) P (u3 o)
  top : Cert.ReferenceIdeal.Value.res_main_v64 W = u2 M

variable {m : (ℓ : Loc nD τ sig) → Buf (Elt Ideal) ℓ} {W : Valuation Cert.ReferenceIdeal.τ Cert.ReferenceIdeal.sig (Elt Ideal)} {c : Dev nD}
  {q k v o : ℕ → ℕ → ℕ → ℝ} {M : ℕ → ℕ → ℝ} {p f : ℕ → ℝ}

theorem Point.args (B : Point m W c q k v o M p f) : RealArgs W q k v o p := by
  obtain ⟨P, hp, A⟩ := B.pos
  exact ⟨A.r0, A.r1, A.r2, by rw [A.r3]; exact hp, A.r4⟩

/-- The arrays that the call reads. -/
theorem Point.host (B : Point m W c q k v o M p f) : Host m c (rotR q (cosT p f) (sinT p f)) (rotR k (cosT p f) (sinT p f)) v o M p f := by
  obtain ⟨P, hp, A⟩ := B.pos
  have hq := v35_real B.args B.freq
  have hk := v51_real B.args B.freq
  have hE := exp_real A hq hk B.top
  have hL := sum_real hE
  have ha := angle_real A hp B.freq
  exact ⟨qf_real A hq, kv_real A hk rfl, do_real A rfl, lse_real (max_real A B.top) hL, dd_real A hE hL rfl rfl,
    cos_real ha, sa_real ha, sb_real ha⟩

theorem Point.score (B : Point m W c q k v o M p f) : Cert.ReferenceIdeal.Value.res_main_v112 W
    = (u3 fun h r j => dscore (rotR q (cosT p f) (sinT p f)) (rotR k (cosT p f) (sinT p f)) M o v h r j * sigma) :=
  v112_real (v84_real (v35_real B.args B.freq) (v51_real B.args B.freq) B.top) (v95_real B.args)

/-- One device's facts. -/
theorem point (hW : ∃ (Q K : FVec Ideal S4096x16x96 .f32) (V : FVec Ideal S4096x16x64 .f32) (P : IVec S4096 32) (O : FVec Ideal S4096x16x64 .f32),
      SameArgs m W c Q K V P O ∧ ∃ q k v o : ℕ → ℕ → ℕ → ℝ, Q = u3 q ∧ K = u3 k ∧ V = u3 v ∧ O = u3 o) :
    ∃ (q k v o : ℕ → ℕ → ℕ → ℝ) (M : ℕ → ℕ → ℝ) (p f : ℕ → ℝ), Point m W c q k v o M p f := by
  obtain ⟨Q, K, V, P, O, A, q, k, v, o, rfl, rfl, rfl, rfl⟩ := hW
  obtain ⟨p, hp⟩ := positions P
  obtain ⟨f, hf⟩ := freqs_real
  have R : RealArgs W q k v o p := ⟨A.r0, A.r1, A.r2, by rw [A.r3]; exact hp, A.r4⟩
  obtain ⟨M, hM⟩ := v64_real _ _ (v35_real R hf) (v51_real R hf)
  exact ⟨q, k, v, o, M, p, f, hf, ⟨P, hp, A⟩, hM⟩

/-- The kernel's run, both results and the arguments named. -/
theorem kernel_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v138_0) = (dats m 0 c).arrAt 8 cfg0.N
      ∧ r.2.mem ((c.tc : Thread nD τ).loc main_v138_1) = (dats m 0 c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h.1 c).1 8, (h.1 c).1 9,
    ((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c)⟩)
    (run_named m g)

/-- The value claim. -/
theorem algebraic (hP : Cert.Pre_finite.Facts) : Cert.algebraic_KernelIdeal_ReferenceIdeal_pre_finite (hPre_finite := hP) := by
  intro m g m' g' hpre hargs
  have hpt : ∀ c : Dev nD, ∃ (q k v o : ℕ → ℕ → ℕ → ℝ) (M : ℕ → ℕ → ℝ) (p f : ℕ → ℝ), Point m (launchContents m' c) c q k v o M p f := by
    intro c
    obtain ⟨a0, a1, a2, a3, a4⟩ := hargs c
    obtain ⟨h0, h1, h2, h3⟩ := hpre c
    exact point ⟨_, _, _, _, _, ⟨rfl, rfl, rfl, rfl, rfl, a0, a1, a2, a3, a4⟩, finite_args hP _ _ _ _ _ h0 h1 h2 h3⟩
  refine ⟨fun c => (dats m 0 c).arrAt 8 cfg0.N, fun c => (dats m 0 c).arrAt 9 cfg0.N, kernel_run m g, ?_⟩
  refine (θ_run Cert.ReferenceIdeal.defs _ _).mono (fun r h c => ?_) (Cert.ReferenceIdeal.Value.run m' g')
  obtain ⟨q, k, v, o, M, p, f, B⟩ := hpt c
  have hC := v18_real B.args B.freq
  have hS := v19_real B.args B.freq
  have hq := v35_real B.args B.freq
  have hk := v51_real B.args B.freq
  refine ⟨(h c).1.trans ?_, (h c).2.1.trans ?_, (h c).2.2⟩
  · exact (result_165 hC hS (v116_real hk B.score)).trans (result_q B.host).symm
  · exact (result_166 hC hS (v114_real hq B.score) (v97_real B.args.a4 (v88_real (v84_real hq hk B.top)))).trans (result_kv B.host).symm

end Cert.Value

end
-- ==== Proof.Sums.lean ====
/- Sums over 4096 terms, block by block, a product by a nonnegative part, and positions of zeros. -/
module

public import proofs.«01_k».proof.Proof.Value

@[expose] public section

noncomputable section

namespace Cert.Sums

open Idealize.ShloMosaic

theorem z2 : (![0, 0] : Fin 2 → Nat) = fun _ => 0 := funext fun a => by fin_cases a <;> rfl
theorem z3 : (![0, 0, 0] : Fin 3 → Nat) = fun _ => 0 := funext fun a => by fin_cases a <;> rfl

/-- Two blocks of 2048 terms. -/
theorem two (f : Fin 4096 → EReal) :
    ∑ k, f k = (∑ k : Fin 2048, f ⟨k.val, by omega⟩) + ∑ k : Fin 2048, f ⟨2048 + k.val, by omega⟩ :=
  Fin.sum_univ_add (a := 2048) (b := 2048) (f : Fin (2048 + 2048) → EReal)

/-- Four blocks of 1024 terms. -/
theorem four (f : Fin 4096 → EReal) :
    ∑ k, f k = (((∑ k : Fin 1024, f ⟨k.val, by omega⟩) + ∑ k : Fin 1024, f ⟨1024 + k.val, by omega⟩)
      + ∑ k : Fin 1024, f ⟨2048 + k.val, by omega⟩) + ∑ k : Fin 1024, f ⟨3072 + k.val, by omega⟩ := by
  have h2 (g : Fin 2048 → EReal) : ∑ k, g k = (∑ k : Fin 1024, g ⟨k.val, by omega⟩) + ∑ k : Fin 1024, g ⟨1024 + k.val, by omega⟩ :=
    Fin.sum_univ_add (a := 1024) (b := 1024) (g : Fin (1024 + 1024) → EReal)
  rw [two f, h2, h2, ← add_assoc]
  simp only [← Nat.add_assoc]

/-- A product by twice the positive part: nothing where the argument is not positive. -/
theorem gate (a y : EReal) : y * (2 * max a 0) = if 0 < a then y * (2 * max a 0) else 0 := by
  by_cases h : 0 < a
  · rw [if_pos h]
  · rw [if_neg h, max_eq_right (not_lt.mp h), mul_zero, mul_zero]

end Cert.Sums

end
-- ==== Proof.Ffn2Wg.lean ====
/- The gradient of the second feed-forward weight: the call's two steps of 2048 rows are the reference's one product. -/
module

public import proofs.«01_k».proof.Defs
public import proofs.«01_k».proof.Proof.Sums
public import proofs.«01_k».proof.Proof.Gen.Kernel3Ideal.Value
public import proofs.«01_k».proof.Proof.Gen.Reference3Ideal.Run
public import Idealize.ShloMosaic.Lib.Pipeline.ValueKit
public import Idealize.ShloMosaic.Lib.Quiescent

@[expose] public section

set_option maxRecDepth 16384

noncomputable section

namespace Cert.Kernel3Ideal.Ffn

open Cert.Kernel3Ideal Cert.Kernel3Ideal.Gen
open Idealize.ShloMosaic Idealize.ShloMosaic.TcCoe Idealize.ShloMosaic.Tactic Idealize.SL.Sem
open Idealize.ShloMosaic.Pipeline (Dat)
open Cert.RealArrays (ix2_all ix3_all)
open Cert.Sums (z2 z3)

section
variable {F : FTy → Type} [FloatOps F] (c : Dev nD) (i : grid0.Coords) (a3 : Memref sig .tc .vmem S2048x1024 .bf16) (h3 : a3.IsWhole) (a4 : Memref sig .tc .vmem S2048x1024 .bf16) (h4 : a4.IsWhole)
    (a5 : Memref sig .tc .vmem S1x1024x1024 .bf16) (h5 : a5.IsWhole) (a6 : Memref sig .tc .vmem S1024x1024 .f32) (h6 : a6.IsWhole)
    (x0 x1 : Vec F S2048x1024 .bf16) (s : Vec F S1024x1024 .f32)

/-- What the first step leaves in the accumulator. -/
theorem acc_first (hc0 : cond0_0 i) (hc1 : ¬cond0_1 i) (hc2 : ¬cond0_2 i) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero (S := S1024x1024) z2]
  unfold k0_pay2
  simp only [View.readAt_eq_ld, h3.read_unread, h4.read_unread, View.ld_unit_zero (S := S2048x1024) z2, shapeCast_self]

/-- What the second step leaves in the result's block. -/
theorem out_second (hc0 : ¬cond0_0 i) (hc1 : cond0_1 i) (hc2 : cond0_2 i) :
    out0_B_2 c i a3 h3 a4 h4 a5 h5 a6 h6 hc0 hc1 hc2 x0 x1 s = k0_pay4 (addf s (k0_pay1 x0 x1)) := by
  unfold out0_B_2
  rw [View.read_writes_eq_canon _ _ _ (cover0_B_2 c i a3 h3 a4 h4 a5 h5 a6 h6 hc0 hc1 hc2 x0 x1 s)]
  unfold kernelRun0_B
  dsimp only
  sl_unfold_words
  rw [View.canon_unit_zero (S := S1x1024x1024) z3, View.readCov_unit_zero (S := S1024x1024) _ z2]
  unfold k0_pay3
  simp only [View.readAt_eq_ld, h3.read_unread, h4.read_unread, h6.read_unread, View.ld_unit_zero (S := S2048x1024) z2, View.ld_unit_zero (S := S1024x1024) z2, shapeCast_self]

end

variable (m : (ℓ : Loc nD τ sig) → Buf (Elt Ideal) ℓ) (c : Dev nD)

theorem index_0 : ∀ t : Fin cfg0.N, (cfg0.win 0).index t 0 = t.val % 2 ∧ (cfg0.win 0).index t 1 = t.val / 2 := by decide +kernel
theorem index_1 : ∀ t : Fin cfg0.N, (cfg0.win 1).index t 0 = t.val % 2 ∧ (cfg0.win 1).index t 1 = 0 := by decide +kernel
theorem index_2 : ∀ t : Fin cfg0.N, (cfg0.win 2).index t 0 = t.val / 2 ∧ (cfg0.win 2).index t 1 = 0 ∧ (cfg0.win 2).index t 2 = 0 := by decide +kernel

theorem read_0 (t : Fin cfg0.N) (y : S2048x1024.Idx) (r s : Fin 4096) (hr : r.val = 2048 * (t.val % 2) + (y 0).val) (hs : s.val = 1024 * (t.val / 2) + (y 1).val) :
    (iblk m c 0 t : Vec Ideal S2048x1024 .bf16) y = (m ((c : Thread nD τ).loc main_arg0) : FVec Ideal S4096x4096 .bf16) (ix2 r s) := by
  show V m c main_arg0 (((cfg0.win 0).blk t).view.emb y) = _
  rw [V_main_arg0]
  refine congrArg (m ((c : Thread nD τ).loc main_arg0) : FVec Ideal S4096x4096 .bf16) (funext fun a => Fin.ext ?_)
  have e0 := (index_0 t).1
  have e1 := (index_0 t).2
  match a with
  | ⟨0, _⟩ => show (((cfg0.win 0).blk t).view.emb y 0).val = r.val; rw [hr]; blk_simp [e0]; omega
  | ⟨1, _⟩ => show (((cfg0.win 0).blk t).view.emb y 1).val = s.val; rw [hs]; blk_simp [e1]; omega

theorem read_1 (t : Fin cfg0.N) (y : S2048x1024.Idx) (r : Fin 4096) (s : Fin 1024) (hr : r.val = 2048 * (t.val % 2) + (y 0).val) (hs : s.val = (y 1).val) :
    (iblk m c 1 t : Vec Ideal S2048x1024 .bf16) y = (m ((c : Thread nD τ).loc main_arg1) : FVec Ideal S4096x1024 .bf16) (ix2 r s) := by
  show V m c main_arg1 (((cfg0.win 1).blk t).view.emb y) = _
  rw [V_main_arg1]
  refine congrArg (m ((c : Thread nD τ).loc main_arg1) : FVec Ideal S4096x1024 .bf16) (funext fun a => Fin.ext ?_)
  have e0 := (index_1 t).1
  have e1 := (index_1 t).2
  match a with
  | ⟨0, _⟩ => show (((cfg0.win 1).blk t).view.emb y 0).val = r.val; rw [hr]; blk_simp [e0]; omega
  | ⟨1, _⟩ => show (((cfg0.win 1).blk t).view.emb y 1).val = s.val; rw [hs]; blk_simp [e1]

/-- One step's product. -/
theorem part_apply (x0 x1 : Vec Ideal S2048x1024 .bf16) (i j : Fin 1024) :
    (k0_pay1 x0 x1 : FVec Ideal S1024x1024 .f32) (ix2 i j) = ∑ k : Fin 2048, (max (x0 (ix2 k i)) 0 * max (x0 (ix2 k i)) 0) * x1 (ix2 k j) := by
  pointwise [k0_pay1]

theorem store_apply (x : Vec Ideal S1024x1024 .f32) (i j : Fin 1024) : (k0_pay4 x : FVec Ideal S1x1024x1024 .bf16) (ix3 0 i j) = x (ix2 i j) := by
  pointwise [k0_pay4]

/-- The reference's gradient, at an entry. -/
def grad (a : FVec Ideal S4096x4096 .bf16) (y : FVec Ideal S4096x1024 .bf16) : FVec Ideal S4x1024x1024 .bf16 := fun i =>
  ∑ k : Fin 4096, (max (a (ix2 k (⟨(i 0).val * 1024 + (i 1).val, by have h0 : (i 0).val < 4 := (i 0).isLt; have h1 : (i 1).val < 1024 := (i 1).isLt; omega⟩ : Fin 4096))) 0
    * max (a (ix2 k (⟨(i 0).val * 1024 + (i 1).val, by have h0 : (i 0).val < 4 := (i 0).isLt; have h1 : (i 1).val < 1024 := (i 1).isLt; omega⟩ : Fin 4096))) 0) * y (ix2 k (i 2))

theorem final : (dats m 0 c).arrAt 2 cfg0.N = grad (m ((c : Thread nD τ).loc main_arg0)) (m ((c : Thread nD τ).loc main_arg1)) := by
  refine (dats m 0 c).arrAt_eq_of_cover 2 _ (fun t hf => ?_) (fun i => (Cert.Kernel3Ideal.Value.covered_iff2 i).2 (by
    have h0 : (i 0).val < 4 := (i 0).isLt; have h1 : (i 1).val < 1024 := (i 1).isLt; have h2 : (i 2).val < 1024 := (i 2).isLt; omega))
  have hN : cfg0.N = 8 := N_0
  have ht : t.val % 2 = 1 := (flush0_2 t).mp hf
  have hlt : t.val < 8 := hN ▸ t.isLt
  have hq : t.val - 1 < cfg0.N := by omega
  rw [Cert.Kernel3Ideal.Value.flushed2_B m c t (by omega) ht ht, out_second,
    outsAt0_A m c ⟨t.val - 1, hq⟩ (show (t.val - 1) % 2 = 0 by omega) (show ¬(t.val - 1) % 2 = 1 by omega) (show ¬(t.val - 1) % 2 = 1 by omega)]
  dsimp only
  rw [acc_first]
  refine ix3_all (a := 1) (b := 1024) (c := 1024) fun u i j => ?_
  obtain rfl : u = 0 := Subsingleton.elim _ _
  refine (store_apply _ i j).trans ?_
  show (k0_pay1 _ _ : FVec Ideal S1024x1024 .f32) (ix2 i j) + (k0_pay1 _ _ : FVec Ideal S1024x1024 .f32) (ix2 i j) = _
  rw [part_apply, part_apply]
  have e0 := (index_2 t).1
  have e1 := (index_2 t).2.1
  have e2 := (index_2 t).2.2
  have hi : ((cfg0.win 2).blk t).view.emb (ix3 (0 : Fin 1) i j) = (ix3 (⟨t.val / 2, by omega⟩ : Fin 4) i j : S4x1024x1024.Idx) := by
    refine funext fun a => Fin.ext ?_
    match a with
    | ⟨0, _⟩ => show (((cfg0.win 2).blk t).view.emb (ix3 (0 : Fin 1) i j) 0).val = t.val / 2; blk_simp [e0]; rfl
    | ⟨1, _⟩ => show (((cfg0.win 2).blk t).view.emb (ix3 (0 : Fin 1) i j) 1).val = i.val; blk_simp [e1]
    | ⟨2, _⟩ => show (((cfg0.win 2).blk t).view.emb (ix3 (0 : Fin 1) i j) 2).val = j.val; blk_simp [e2]
  show _ = grad (m ((c : Thread nD τ).loc main_arg0)) (m ((c : Thread nD τ).loc main_arg1)) (((cfg0.win 2).blk t).view.emb (ix3 (0 : Fin 1) i j))
  rw [hi]
  unfold grad
  rw [Cert.Sums.two]
  refine congrArg₂ (· + ·) (Finset.sum_congr rfl fun k _ => ?_) (Finset.sum_congr rfl fun k _ => ?_)
  · have hk := k.isLt
    have hi' := i.isLt
    rw [read_0 m c ⟨t.val - 1, hq⟩ (ix2 k i) ⟨k.val, by omega⟩ ⟨t.val / 2 * 1024 + i.val, by omega⟩
        (show k.val = 2048 * ((t.val - 1) % 2) + k.val by omega) (show t.val / 2 * 1024 + i.val = 1024 * ((t.val - 1) / 2) + i.val by omega),
      read_1 m c ⟨t.val - 1, hq⟩ (ix2 k j) ⟨k.val, by omega⟩ j (show k.val = 2048 * ((t.val - 1) % 2) + k.val by omega) rfl]
    rfl
  · have hk := k.isLt
    have hi' := i.isLt
    rw [read_0 m c t (ix2 k i) ⟨2048 + k.val, by omega⟩ ⟨t.val / 2 * 1024 + i.val, by omega⟩
        (show 2048 + k.val = 2048 * (t.val % 2) + k.val by omega) (show t.val / 2 * 1024 + i.val = 1024 * (t.val / 2) + i.val by omega),
      read_1 m c t (ix2 k j) ⟨2048 + k.val, by omega⟩ j (show 2048 + k.val = 2048 * (t.val % 2) + k.val by omega) rfl]
    rfl

end Cert.Kernel3Ideal.Ffn

namespace Cert.Reference3Ideal.Ffn

open Cert.Reference3Ideal Cert.Reference3Ideal.Gen
open Idealize.ShloMosaic Idealize.ShloMosaic.TcCoe Idealize.ShloMosaic.Tactic Idealize.SL.Sem
open Cert.RealArrays (ix2_all ix3_all)

theorem value (a : FVec Ideal S4096x4096 .bf16) (y : FVec Ideal S4096x1024 .bf16) :
    truncf .bf16 (shapeCast S4x1024x1024 (transpose S4096x1024 [1, 0] (Host.dotGeneral (F := Ideal) (φ₁ := .f32) (φ₂ := .f32) dot_S4096x1024_S4096x4096_S1024x4096_0_0_1_1_n_n none (extf .f32 y bitsLt_bf16_f32)
      (mulf (maximumf (extf .f32 a bitsLt_bf16_f32) (broadcastInDim S4096x4096 ![] bcast_S_S4096x4096 (constant S_ .f32 0x00000000#32)))
        (maximumf (extf .f32 a bitsLt_bf16_f32) (broadcastInDim S4096x4096 ![] bcast_S_S4096x4096 (constant S_ .f32 0x00000000#32)))) : FVec Ideal S1024x4096 .f32) transposes_S1024x4096_S4096x1024_1_0) shapeCasts_S4096x1024_S4x1024x1024) bitsLt_bf16_f32
      = (Cert.Kernel3Ideal.Ffn.grad a y : FVec Ideal S4x1024x1024 .bf16) := by
  refine ix3_all fun u i j => ?_
  pointwise [Cert.Kernel3Ideal.Ffn.grad]
  exact Finset.sum_congr rfl fun k _ => mul_comm _ _

/-- The reference ends with its arguments unchanged and every counter at zero. -/
theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h => ⟨fun c => (h c).2, sem_eq_zero_of_no_sems (by decide) _⟩) (Cert.Reference3Ideal.Value.run m g)

/-- The value claim. -/
theorem algebraic : Cert.algebraic_Kernel3Ideal_Reference3Ideal := by
  intro m g m' g' _ hargs
  refine ⟨fun c => Cert.Kernel3Ideal.Ffn.grad (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)), ?_, ?_⟩
  · exact (θ_run Cert.Kernel3Ideal.defs _ _).mono (fun r h c => ⟨(h c).1.trans (Cert.Kernel3Ideal.Ffn.final m c), (h c).2⟩) (Cert.Kernel3Ideal.Value.run_blocks m g)
  · refine (θ_run defs _ _).mono (fun r h c => ⟨(h c).1.trans ?_, (h c).2⟩) (Cert.Reference3Ideal.Value.run m' g')
    obtain ⟨a0, a1⟩ := hargs c
    refine (value _ _).trans ?_
    rw [a0, a1]

end Cert.Reference3Ideal.Ffn

end
-- ==== Proof.Ffn1Wg.lean ====
/- The gradient of the first feed-forward weight: the call's two steps of 2048 rows are the reference's one product. -/
module

public import proofs.«01_k».proof.Defs
public import proofs.«01_k».proof.Proof.Ffn2Wg
public import proofs.«01_k».proof.Proof.Gen.Kernel5Ideal.Value
public import proofs.«01_k».proof.Proof.Gen.Reference5Ideal.Run
public import Idealize.ShloMosaic.Lib.Pipeline.ValueKit
public import Idealize.ShloMosaic.Lib.Quiescent

@[expose] public section

set_option maxRecDepth 16384

noncomputable section

namespace Cert.Kernel5Ideal.Ffn

open Cert.Kernel5Ideal Cert.Kernel5Ideal.Gen
open Idealize.ShloMosaic Idealize.ShloMosaic.TcCoe Idealize.ShloMosaic.Tactic Idealize.SL.Sem
open Idealize.ShloMosaic.Pipeline (Dat)
open Cert.RealArrays (ix2_all ix3_all)
open Cert.Sums (z2 z3)

section
variable {F : FTy → Type} [FloatOps F] (c : Dev nD) (i : grid0.Coords) (a3 : Memref sig .tc .vmem S2048x1024 .bf16) (h3 : a3.IsWhole) (a4 : Memref sig .tc .vmem S2048x1024 .bf16) (h4 : a4.IsWhole)
    (a5 : Memref sig .tc .vmem S1x1024x1024 .bf16) (h5 : a5.IsWhole) (a6 : Memref sig .tc .vmem S1024x1024 .f32) (h6 : a6.IsWhole)
    (x0 x1 : Vec F S2048x1024 .bf16) (s : Vec F S1024x1024 .f32)

/-- What the first step leaves in the accumulator. -/
theorem acc_first (hc0 : cond0_0 i) (hc1 : ¬cond0_1 i) (hc2 : ¬cond0_2 i) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero (S := S1024x1024) z2]
  unfold k0_pay2
  simp only [View.readAt_eq_ld, h3.read_unread, h4.read_unread, View.ld_unit_zero (S := S2048x1024) z2, shapeCast_self]

/-- What the second step leaves in the result's block. -/
theorem out_second (hc0 : ¬cond0_0 i) (hc1 : cond0_1 i) (hc2 : cond0_2 i) :
    out0_B_2 c i a3 h3 a4 h4 a5 h5 a6 h6 hc0 hc1 hc2 x0 x1 s = k0_pay4 (addf s (k0_pay1 x0 x1)) := by
  unfold out0_B_2
  rw [View.read_writes_eq_canon _ _ _ (cover0_B_2 c i a3 h3 a4 h4 a5 h5 a6 h6 hc0 hc1 hc2 x0 x1 s)]
  unfold kernelRun0_B
  dsimp only
  sl_unfold_words
  rw [View.canon_unit_zero (S := S1x1024x1024) z3, View.readCov_unit_zero (S := S1024x1024) _ z2]
  unfold k0_pay3
  simp only [View.readAt_eq_ld, h3.read_unread, h4.read_unread, h6.read_unread, View.ld_unit_zero (S := S2048x1024) z2, View.ld_unit_zero (S := S1024x1024) z2, shapeCast_self]

end

variable (m : (ℓ : Loc nD τ sig) → Buf (Elt Ideal) ℓ) (c : Dev nD)

theorem index_0 : ∀ t : Fin cfg0.N, (cfg0.win 0).index t 0 = t.val % 2 ∧ (cfg0.win 0).index t 1 = 0 := by decide +kernel
theorem index_1 : ∀ t : Fin cfg0.N, (cfg0.win 1).index t 0 = t.val % 2 ∧ (cfg0.win 1).index t 1 = t.val / 2 := by decide +kernel
theorem index_2 : ∀ t : Fin cfg0.N, (cfg0.win 2).index t 0 = t.val / 2 ∧ (cfg0.win 2).index t 1 = 0 ∧ (cfg0.win 2).index t 2 = 0 := by decide +kernel

theorem read_0 (t : Fin cfg0.N) (y : S2048x1024.Idx) (r : Fin 4096) (s : Fin 1024) (hr : r.val = 2048 * (t.val % 2) + (y 0).val) (hs : s.val = (y 1).val) :
    (iblk m c 0 t : Vec Ideal S2048x1024 .bf16) y = (m ((c : Thread nD τ).loc main_arg0) : FVec Ideal S4096x1024 .bf16) (ix2 r s) := by
  show V m c main_arg0 (((cfg0.win 0).blk t).view.emb y) = _
  rw [V_main_arg0]
  refine congrArg (m ((c : Thread nD τ).loc main_arg0) : FVec Ideal S4096x1024 .bf16) (funext fun a => Fin.ext ?_)
  have e0 := (index_0 t).1
  have e1 := (index_0 t).2
  match a with
  | ⟨0, _⟩ => show (((cfg0.win 0).blk t).view.emb y 0).val = r.val; rw [hr]; blk_simp [e0]; omega
  | ⟨1, _⟩ => show (((cfg0.win 0).blk t).view.emb y 1).val = s.val; rw [hs]; blk_simp [e1]

theorem read_1 (t : Fin cfg0.N) (y : S2048x1024.Idx) (r s : Fin 4096) (hr : r.val = 2048 * (t.val % 2) + (y 0).val) (hs : s.val = 1024 * (t.val / 2) + (y 1).val) :
    (iblk m c 1 t : Vec Ideal S2048x1024 .bf16) y = (m ((c : Thread nD τ).loc main_arg1) : FVec Ideal S4096x4096 .bf16) (ix2 r s) := by
  show V m c main_arg1 (((cfg0.win 1).blk t).view.emb y) = _
  rw [V_main_arg1]
  refine congrArg (m ((c : Thread nD τ).loc main_arg1) : FVec Ideal S4096x4096 .bf16) (funext fun a => Fin.ext ?_)
  have e0 := (index_1 t).1
  have e1 := (index_1 t).2
  match a with
  | ⟨0, _⟩ => show (((cfg0.win 1).blk t).view.emb y 0).val = r.val; rw [hr]; blk_simp [e0]; omega
  | ⟨1, _⟩ => show (((cfg0.win 1).blk t).view.emb y 1).val = s.val; rw [hs]; blk_simp [e1]; omega

/-- One step's product. -/
theorem part_apply (x0 x1 : Vec Ideal S2048x1024 .bf16) (i j : Fin 1024) :
    (k0_pay1 x0 x1 : FVec Ideal S1024x1024 .f32) (ix2 i j) = ∑ k : Fin 2048, x0 (ix2 k i) * x1 (ix2 k j) := by
  pointwise [k0_pay1]

theorem store_apply (x : Vec Ideal S1024x1024 .f32) (i j : Fin 1024) : (k0_pay4 x : FVec Ideal S1x1024x1024 .bf16) (ix3 0 i j) = x (ix2 i j) := by
  pointwise [k0_pay4]

/-- The reference's gradient, at an entry. -/
def grad (h : FVec Ideal S4096x1024 .bf16) (d : FVec Ideal S4096x4096 .bf16) : FVec Ideal S4x1024x1024 .bf16 := fun i =>
  ∑ k : Fin 4096, h (ix2 k (i 1)) * d (ix2 k (⟨(i 0).val * 1024 + (i 2).val, by have h0 : (i 0).val < 4 := (i 0).isLt; have h1 : (i 2).val < 1024 := (i 2).isLt; omega⟩ : Fin 4096))

theorem final : (dats m 0 c).arrAt 2 cfg0.N = grad (m ((c : Thread nD τ).loc main_arg0)) (m ((c : Thread nD τ).loc main_arg1)) := by
  refine (dats m 0 c).arrAt_eq_of_cover 2 _ (fun t hf => ?_) (fun i => (Cert.Kernel5Ideal.Value.covered_iff2 i).2 (by
    have h0 : (i 0).val < 4 := (i 0).isLt; have h1 : (i 1).val < 1024 := (i 1).isLt; have h2 : (i 2).val < 1024 := (i 2).isLt; omega))
  have hN : cfg0.N = 8 := N_0
  have ht : t.val % 2 = 1 := (flush0_2 t).mp hf
  have hlt : t.val < 8 := hN ▸ t.isLt
  have hq : t.val - 1 < cfg0.N := by omega
  rw [Cert.Kernel5Ideal.Value.flushed2_B m c t (by omega) ht ht, out_second,
    outsAt0_A m c ⟨t.val - 1, hq⟩ (show (t.val - 1) % 2 = 0 by omega) (show ¬(t.val - 1) % 2 = 1 by omega) (show ¬(t.val - 1) % 2 = 1 by omega)]
  dsimp only
  rw [acc_first]
  refine ix3_all (a := 1) (b := 1024) (c := 1024) fun u i j => ?_
  obtain rfl : u = 0 := Subsingleton.elim _ _
  refine (store_apply _ i j).trans ?_
  show (k0_pay1 _ _ : FVec Ideal S1024x1024 .f32) (ix2 i j) + (k0_pay1 _ _ : FVec Ideal S1024x1024 .f32) (ix2 i j) = _
  rw [part_apply, part_apply]
  have e0 := (index_2 t).1
  have e1 := (index_2 t).2.1
  have e2 := (index_2 t).2.2
  have hi : ((cfg0.win 2).blk t).view.emb (ix3 (0 : Fin 1) i j) = (ix3 (⟨t.val / 2, by omega⟩ : Fin 4) i j : S4x1024x1024.Idx) := by
    refine funext fun a => Fin.ext ?_
    match a with
    | ⟨0, _⟩ => show (((cfg0.win 2).blk t).view.emb (ix3 (0 : Fin 1) i j) 0).val = t.val / 2; blk_simp [e0]; rfl
    | ⟨1, _⟩ => show (((cfg0.win 2).blk t).view.emb (ix3 (0 : Fin 1) i j) 1).val = i.val; blk_simp [e1]
    | ⟨2, _⟩ => show (((cfg0.win 2).blk t).view.emb (ix3 (0 : Fin 1) i j) 2).val = j.val; blk_simp [e2]
  show _ = grad (m ((c : Thread nD τ).loc main_arg0)) (m ((c : Thread nD τ).loc main_arg1)) (((cfg0.win 2).blk t).view.emb (ix3 (0 : Fin 1) i j))
  rw [hi]
  unfold grad
  rw [Cert.Sums.two]
  refine congrArg₂ (· + ·) (Finset.sum_congr rfl fun k _ => ?_) (Finset.sum_congr rfl fun k _ => ?_)
  · have hk := k.isLt
    have hj := j.isLt
    rw [read_0 m c ⟨t.val - 1, hq⟩ (ix2 k i) ⟨k.val, by omega⟩ i (show k.val = 2048 * ((t.val - 1) % 2) + k.val by omega) rfl,
      read_1 m c ⟨t.val - 1, hq⟩ (ix2 k j) ⟨k.val, by omega⟩ ⟨t.val / 2 * 1024 + j.val, by omega⟩
        (show k.val = 2048 * ((t.val - 1) % 2) + k.val by omega) (show t.val / 2 * 1024 + j.val = 1024 * ((t.val - 1) / 2) + j.val by omega)]
    rfl
  · have hk := k.isLt
    have hj := j.isLt
    rw [read_0 m c t (ix2 k i) ⟨2048 + k.val, by omega⟩ i (show 2048 + k.val = 2048 * (t.val % 2) + k.val by omega) rfl,
      read_1 m c t (ix2 k j) ⟨2048 + k.val, by omega⟩ ⟨t.val / 2 * 1024 + j.val, by omega⟩
        (show 2048 + k.val = 2048 * (t.val % 2) + k.val by omega) (show t.val / 2 * 1024 + j.val = 1024 * (t.val / 2) + j.val by omega)]
    rfl

end Cert.Kernel5Ideal.Ffn

namespace Cert.Reference5Ideal.Ffn

open Cert.Reference5Ideal Cert.Reference5Ideal.Gen
open Idealize.ShloMosaic Idealize.ShloMosaic.TcCoe Idealize.ShloMosaic.Tactic Idealize.SL.Sem
open Cert.RealArrays (ix2_all ix3_all)

theorem value (h : FVec Ideal S4096x1024 .bf16) (d : FVec Ideal S4096x4096 .bf16) :
    truncf .bf16 (transpose S4x1024x1024 [1, 0, 2] (shapeCast S1024x4x1024 (transpose S1024x4096 [1, 0] (Host.dotGeneral (F := Ideal) (φ₁ := .f32) (φ₂ := .f32) dot_S4096x4096_S4096x1024_S4096x1024_0_0_1_1_n_n none
      (extf .f32 d bitsLt_bf16_f32) (extf .f32 h bitsLt_bf16_f32) : FVec Ideal S4096x1024 .f32) transposes_S4096x1024_S1024x4096_1_0) shapeCasts_S1024x4096_S1024x4x1024) transposes_S1024x4x1024_S4x1024x1024_1_0_2) bitsLt_bf16_f32
      = (Cert.Kernel5Ideal.Ffn.grad h d : FVec Ideal S4x1024x1024 .bf16) := by
  refine ix3_all fun u i j => ?_
  pointwise [Cert.Kernel5Ideal.Ffn.grad]
  exact Finset.sum_congr rfl fun k _ => mul_comm _ _

/-- The reference ends with its arguments unchanged and every counter at zero. -/
theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h => ⟨fun c => (h c).2, sem_eq_zero_of_no_sems (by decide) _⟩) (Cert.Reference5Ideal.Value.run m g)

/-- The value claim. -/
theorem algebraic : Cert.algebraic_Kernel5Ideal_Reference5Ideal := by
  intro m g m' g' _ hargs
  refine ⟨fun c => Cert.Kernel5Ideal.Ffn.grad (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)), ?_, ?_⟩
  · exact (θ_run Cert.Kernel5Ideal.defs _ _).mono (fun r h c => ⟨(h c).1.trans (Cert.Kernel5Ideal.Ffn.final m c), (h c).2⟩) (Cert.Kernel5Ideal.Value.run_blocks m g)
  · refine (θ_run defs _ _).mono (fun r h c => ⟨(h c).1.trans ?_, (h c).2⟩) (Cert.Reference5Ideal.Value.run m' g')
    obtain ⟨a0, a1⟩ := hargs c
    refine (value _ _).trans ?_
    rw [a0, a1]

end Cert.Reference5Ideal.Ffn

end
-- ==== Proof.Ffn1Dg.lean ====
/- The gradient that the feed-forward layer hands on: the call's four steps over the inner lanes are the reference's one product. -/
module

public import proofs.«01_k».proof.Defs
public import proofs.«01_k».proof.Proof.Ffn1Wg
public import proofs.«01_k».proof.Proof.Gen.Kernel4Ideal.Value
public import proofs.«01_k».proof.Proof.Gen.Reference4Ideal.Run
public import Idealize.ShloMosaic.Lib.Pipeline.ValueKit
public import Idealize.ShloMosaic.Lib.Quiescent
public import Idealize.ShloMosaic.Lib.StableHlo.RunRead

@[expose] public section

set_option maxRecDepth 16384

noncomputable section

namespace Cert.Kernel4Ideal.Ffn

open Cert.Kernel4Ideal Cert.Kernel4Ideal.Gen
open Idealize.ShloMosaic Idealize.ShloMosaic.TcCoe Idealize.ShloMosaic.Tactic Idealize.SL.Sem
open Idealize.ShloMosaic.Pipeline (Dat)
open Cert.RealArrays (ix2_all ix3_all)
open Cert.Sums (z2 z3)

section
variable {F : FTy → Type} [FloatOps F] (c : Dev nD) (i : grid0.Coords) (a3 : Memref sig .tc .vmem S2048x1024 .bf16) (h3 : a3.IsWhole) (a4 : Memref sig .tc .vmem S1x1024x1024 .bf16) (h4 : a4.IsWhole)
    (a5 : Memref sig .tc .vmem S2048x1024 .f32) (h5 : a5.IsWhole) (a6 : Memref sig .tc .vmem S2048x1024 .f32) (h6 : a6.IsWhole)
    (x0 : Vec F S2048x1024 .bf16) (x1 : Vec F S1x1024x1024 .bf16) (s : Vec F S2048x1024 .f32)

/-- What the first step leaves in the accumulator. -/
theorem acc_first (hc0 : cond0_0 i) (hc1 : ¬cond0_1 i) (hc2 : ¬cond0_2 i) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero (S := S2048x1024) z2]
  unfold k0_pay2
  simp only [View.readAt_eq_ld, h3.read_unread, h4.read_unread, View.ld_unit_zero (S := S2048x1024) z2, View.ld_unit_zero (S := S1x1024x1024) z3, shapeCast_self]

/-- What a middle step leaves in the accumulator. -/
theorem acc_middle (hc0 : ¬cond0_0 i) (hc1 : cond0_1 i) (hc2 : ¬cond0_2 i) :
    sout0_B_0 c i a3 h3 a4 h4 a5 h5 a6 h6 hc0 hc1 hc2 x0 x1 s = addf s (k0_pay1 x0 x1) := by
  unfold sout0_B_0
  rw [View.read_writes_eq_canon _ _ _ (scover0_B_0 c i a3 h3 a4 h4 a5 h5 a6 h6 hc0 hc1 hc2 x0 x1 s)]
  unfold kernelRun0_B
  dsimp only
  sl_unfold_words
  rw [View.canon_unit_zero (S := S2048x1024) z2]
  unfold k0_pay3
  simp only [View.readAt_eq_ld, h3.read_unread, h4.read_unread, h6.read_unread, View.ld_unit_zero (S := S2048x1024) z2, View.ld_unit_zero (S := S1x1024x1024) z3, shapeCast_self]

/-- What the last step leaves in the result's block. -/
theorem out_last (hc0 : ¬cond0_0 i) (hc1 : cond0_1 i) (hc2 : cond0_2 i) :
    out0_C_2 c i a3 h3 a4 h4 a5 h5 a6 h6 hc0 hc1 hc2 x0 x1 s = addf s (k0_pay1 x0 x1) := by
  unfold out0_C_2
  rw [View.read_writes_eq_canon _ _ _ (cover0_C_2 c i a3 h3 a4 h4 a5 h5 a6 h6 hc0 hc1 hc2 x0 x1 s)]
  unfold kernelRun0_C
  dsimp only
  sl_unfold_words
  rw [View.canon_unit_zero (S := S2048x1024) z2, View.readCov_unit_zero (S := S2048x1024) _ z2]
  unfold k0_pay3
  simp only [View.readAt_eq_ld, h3.read_unread, h4.read_unread, h6.read_unread, View.ld_unit_zero (S := S2048x1024) z2, View.ld_unit_zero (S := S1x1024x1024) z3, shapeCast_self]

end

variable (m : (ℓ : Loc nD τ sig) → Buf (Elt Ideal) ℓ) (c : Dev nD)

theorem index_0 : ∀ t : Fin cfg0.N, (cfg0.win 0).index t 0 = t.val / 4 ∧ (cfg0.win 0).index t 1 = t.val % 4 := by decide +kernel
theorem index_1 : ∀ t : Fin cfg0.N, (cfg0.win 1).index t 0 = t.val % 4 ∧ (cfg0.win 1).index t 1 = 0 ∧ (cfg0.win 1).index t 2 = 0 := by decide +kernel
theorem index_2 : ∀ t : Fin cfg0.N, (cfg0.win 2).index t 0 = t.val / 4 ∧ (cfg0.win 2).index t 1 = 0 := by decide +kernel

theorem read_0 (t : Fin cfg0.N) (y : S2048x1024.Idx) (r s : Fin 4096) (hr : r.val = 2048 * (t.val / 4) + (y 0).val) (hs : s.val = 1024 * (t.val % 4) + (y 1).val) :
    (iblk m c 0 t : Vec Ideal S2048x1024 .bf16) y = (m ((c : Thread nD τ).loc main_arg0) : FVec Ideal S4096x4096 .bf16) (ix2 r s) := by
  show V m c main_arg0 (((cfg0.win 0).blk t).view.emb y) = _
  rw [V_main_arg0]
  refine congrArg (m ((c : Thread nD τ).loc main_arg0) : FVec Ideal S4096x4096 .bf16) (funext fun a => Fin.ext ?_)
  have e0 := (index_0 t).1
  have e1 := (index_0 t).2
  match a with
  | ⟨0, _⟩ => show (((cfg0.win 0).blk t).view.emb y 0).val = r.val; rw [hr]; blk_simp [e0]; omega
  | ⟨1, _⟩ => show (((cfg0.win 0).blk t).view.emb y 1).val = s.val; rw [hs]; blk_simp [e1]; omega

/-- The weight as the call reads it, in four groups of lanes. -/
theorem groups : (V m c main_v1 : FVec Ideal S4x1024x1024 .bf16)
    = transpose S4x1024x1024 [1, 0, 2] (shapeCast S1024x4x1024 (m ((c : Thread nD τ).loc main_arg1) : FVec Ideal S1024x4096 .bf16) shapeCasts_S1024x4096_S1024x4x1024) transposes_S1024x4x1024_S4x1024x1024_1_0_2 := by
  show StableHlo.after hostOps0 _ _ = _
  after_results <;> rfl

theorem group_apply (w : FVec Ideal S1024x4096 .bf16) (g : Fin 4) (r s : Fin 1024) (x : Fin 4096) (hx : x.val = g.val * 1024 + s.val) :
    (transpose S4x1024x1024 [1, 0, 2] (shapeCast S1024x4x1024 w shapeCasts_S1024x4096_S1024x4x1024) transposes_S1024x4x1024_S4x1024x1024_1_0_2 : FVec Ideal S4x1024x1024 .bf16) (ix3 g r s) = w (ix2 r x) := by
  obtain ⟨x, hlt⟩ := x
  obtain rfl : x = g.val * 1024 + s.val := hx
  pointwise []

theorem read_1 (t : Fin cfg0.N) (r s : Fin 1024) (x : Fin 4096) (hx : x.val = 1024 * (t.val % 4) + s.val) :
    (iblk m c 1 t : Vec Ideal S1x1024x1024 .bf16) (ix3 0 r s) = (m ((c : Thread nD τ).loc main_arg1) : FVec Ideal S1024x4096 .bf16) (ix2 r x) := by
  show V m c main_v1 (((cfg0.win 1).blk t).view.emb (ix3 (0 : Fin 1) r s)) = _
  have e0 := (index_1 t).1
  have e1 := (index_1 t).2.1
  have e2 := (index_1 t).2.2
  have hi : ((cfg0.win 1).blk t).view.emb (ix3 (0 : Fin 1) r s) = (ix3 (⟨t.val % 4, by omega⟩ : Fin 4) r s : S4x1024x1024.Idx) := by
    refine funext fun a => Fin.ext ?_
    match a with
    | ⟨0, _⟩ => show (((cfg0.win 1).blk t).view.emb (ix3 (0 : Fin 1) r s) 0).val = t.val % 4; blk_simp [e0]; rfl
    | ⟨1, _⟩ => show (((cfg0.win 1).blk t).view.emb (ix3 (0 : Fin 1) r s) 1).val = r.val; blk_simp [e1]
    | ⟨2, _⟩ => show (((cfg0.win 1).blk t).view.emb (ix3 (0 : Fin 1) r s) 2).val = s.val; blk_simp [e2]
  rw [hi]
  refine (congrFun (groups m c) _).trans (group_apply _ _ r s x ?_)
  show x.val = t.val % 4 * 1024 + s.val
  omega

/-- One step's product. -/
theorem part_apply (x0 : Vec Ideal S2048x1024 .bf16) (x1 : Vec Ideal S1x1024x1024 .bf16) (i : Fin 2048) (j : Fin 1024) :
    (k0_pay1 x0 x1 : FVec Ideal S2048x1024 .f32) (ix2 i j) = ∑ k : Fin 1024, x0 (ix2 i k) * x1 (ix3 0 j k) := by
  pointwise [k0_pay1]

/-- The reference's gradient, at an entry. -/
def grad (d : FVec Ideal S4096x4096 .bf16) (w : FVec Ideal S1024x4096 .bf16) : FVec Ideal S4096x1024 .f32 := fun i =>
  ∑ k : Fin 4096, d (ix2 (i 0) k) * w (ix2 (i 1) k)

/-- The part of it that sums over the lanes of group `q`. -/
def group (d : FVec Ideal S4096x4096 .bf16) (w : FVec Ideal S1024x4096 .bf16) (q : ℕ) (hq : q < 4) (u : Fin 4096) (j : Fin 1024) : EReal :=
  ∑ k : Fin 1024, d (ix2 u (⟨1024 * q + k.val, by omega⟩ : Fin 4096)) * w (ix2 j (⟨1024 * q + k.val, by omega⟩ : Fin 4096))

/-- One step's product, in the arguments. -/
theorem step_apply (t : Fin cfg0.N) (q : ℕ) (hq : t.val % 4 = q) (u : Fin 4096) (i : Fin 2048) (j : Fin 1024) (hu : u.val = 2048 * (t.val / 4) + i.val) :
    (k0_pay1 (iblk m c 0 t : Vec Ideal S2048x1024 .bf16) (iblk m c 1 t : Vec Ideal S1x1024x1024 .bf16) : FVec Ideal S2048x1024 .f32) (ix2 i j)
      = group (m ((c : Thread nD τ).loc main_arg0)) (m ((c : Thread nD τ).loc main_arg1)) q (by omega) u j := by
  rw [part_apply]
  subst hq
  refine Finset.sum_congr rfl fun k _ => ?_
  rw [read_0 m c t (ix2 i k) u ⟨1024 * (t.val % 4) + k.val, by omega⟩ hu rfl, read_1 m c t j k ⟨1024 * (t.val % 4) + k.val, by omega⟩ rfl]

theorem final : (dats m 0 c).arrAt 2 cfg0.N = grad (m ((c : Thread nD τ).loc main_arg0)) (m ((c : Thread nD τ).loc main_arg1)) := by
  refine (dats m 0 c).arrAt_eq_of_cover 2 _ (fun t hf => ?_) (fun i => (Cert.Kernel4Ideal.Value.covered_iff2 i).2 (by
    have h0 : (i 0).val < 4096 := (i 0).isLt; have h1 : (i 1).val < 1024 := (i 1).isLt; omega))
  have hN : cfg0.N = 8 := N_0
  have ht : t.val % 4 = 3 := (flush0_2 t).mp hf
  have hlt : t.val < 8 := hN ▸ t.isLt
  have q1 : t.val - 1 < cfg0.N := by omega
  have q2 : t.val - 1 - 1 < cfg0.N := by omega
  have q3 : t.val - 1 - 1 - 1 < cfg0.N := by omega
  rw [Cert.Kernel4Ideal.Value.flushed2_C m c t (by omega) (by omega) ht, out_last,
    outsAt0_B m c ⟨t.val - 1, q1⟩ (show ¬(t.val - 1) % 4 = 0 by omega) (show 1 ≤ (t.val - 1) % 4 by omega) (show ¬(t.val - 1) % 4 = 3 by omega)]
  dsimp only
  rw [acc_middle, outsAt0_B m c ⟨t.val - 1 - 1, q2⟩ (show ¬(t.val - 1 - 1) % 4 = 0 by omega) (show 1 ≤ (t.val - 1 - 1) % 4 by omega) (show ¬(t.val - 1 - 1) % 4 = 3 by omega)]
  dsimp only
  rw [acc_middle, outsAt0_A m c ⟨t.val - 1 - 1 - 1, q3⟩ (show (t.val - 1 - 1 - 1) % 4 = 0 by omega) (show ¬1 ≤ (t.val - 1 - 1 - 1) % 4 by omega) (show ¬(t.val - 1 - 1 - 1) % 4 = 3 by omega)]
  dsimp only
  rw [acc_first]
  refine ix2_all (a := 2048) (b := 1024) fun i j => ?_
  have e0 := (index_2 t).1
  have e1 := (index_2 t).2
  have hi' := i.isLt
  have hi : ((cfg0.win 2).blk t).view.emb (ix2 i j) = (ix2 (⟨2048 * (t.val / 4) + i.val, by omega⟩ : Fin 4096) j : S4096x1024.Idx) := by
    refine funext fun a => Fin.ext ?_
    match a with
    | ⟨0, _⟩ => show (((cfg0.win 2).blk t).view.emb (ix2 i j) 0).val = 2048 * (t.val / 4) + i.val; blk_simp [e0]; omega
    | ⟨1, _⟩ => show (((cfg0.win 2).blk t).view.emb (ix2 i j) 1).val = j.val; blk_simp [e1]
  show (((k0_pay1 _ _ : FVec Ideal S2048x1024 .f32) (ix2 i j) + (k0_pay1 _ _ : FVec Ideal S2048x1024 .f32) (ix2 i j))
    + (k0_pay1 _ _ : FVec Ideal S2048x1024 .f32) (ix2 i j)) + (k0_pay1 _ _ : FVec Ideal S2048x1024 .f32) (ix2 i j)
    = grad (m ((c : Thread nD τ).loc main_arg0)) (m ((c : Thread nD τ).loc main_arg1)) (((cfg0.win 2).blk t).view.emb (ix2 i j))
  rw [hi, step_apply m c ⟨t.val - 1 - 1 - 1, q3⟩ 0 (show (t.val - 1 - 1 - 1) % 4 = 0 by omega) ⟨2048 * (t.val / 4) + i.val, by omega⟩ i j (show 2048 * (t.val / 4) + i.val = 2048 * ((t.val - 1 - 1 - 1) / 4) + i.val by omega),
    step_apply m c ⟨t.val - 1 - 1, q2⟩ 1 (show (t.val - 1 - 1) % 4 = 1 by omega) ⟨2048 * (t.val / 4) + i.val, by omega⟩ i j (show 2048 * (t.val / 4) + i.val = 2048 * ((t.val - 1 - 1) / 4) + i.val by omega),
    step_apply m c ⟨t.val - 1, q1⟩ 2 (show (t.val - 1) % 4 = 2 by omega) ⟨2048 * (t.val / 4) + i.val, by omega⟩ i j (show 2048 * (t.val / 4) + i.val = 2048 * ((t.val - 1) / 4) + i.val by omega),
    step_apply m c t 3 ht ⟨2048 * (t.val / 4) + i.val, by omega⟩ i j rfl]
  unfold grad group
  rw [Cert.Sums.four]
  simp only [Nat.mul_zero, Nat.zero_add, Nat.mul_one, Nat.reduceMul]
  rfl

end Cert.Kernel4Ideal.Ffn

namespace Cert.Reference4Ideal.Ffn

open Cert.Reference4Ideal Cert.Reference4Ideal.Gen
open Idealize.ShloMosaic Idealize.ShloMosaic.TcCoe Idealize.ShloMosaic.Tactic Idealize.SL.Sem
open Cert.RealArrays (ix2_all ix3_all)

theorem value (d : FVec Ideal S4096x4096 .bf16) (w : FVec Ideal S1024x4096 .bf16) :
    (Host.dotGeneral (F := Ideal) (φ₁ := .f32) (φ₂ := .f32) dot_S4096x4096_S1024x4096_S4096x1024_1_1_0_0_n_n none (extf .f32 d bitsLt_bf16_f32) (extf .f32 w bitsLt_bf16_f32) : FVec Ideal S4096x1024 .f32)
      = (Cert.Kernel4Ideal.Ffn.grad d w : FVec Ideal S4096x1024 .f32) := by
  refine ix2_all fun i j => ?_
  pointwise [Cert.Kernel4Ideal.Ffn.grad]

/-- The reference ends with its arguments unchanged and every counter at zero. -/
theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h => ⟨fun c => (h c).2, sem_eq_zero_of_no_sems (by decide) _⟩) (Cert.Reference4Ideal.Value.run m g)

/-- The value claim. -/
theorem algebraic : Cert.algebraic_Kernel4Ideal_Reference4Ideal := by
  intro m g m' g' _ hargs
  refine ⟨fun c => Cert.Kernel4Ideal.Ffn.grad (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)), ?_, ?_⟩
  · exact (θ_run Cert.Kernel4Ideal.defs _ _).mono (fun r h c => ⟨(h c).1.trans (Cert.Kernel4Ideal.Ffn.final m c), (h c).2⟩) (Cert.Kernel4Ideal.Value.run_blocks m g)
  · refine (θ_run defs _ _).mono (fun r h c => ⟨(h c).1.trans ?_, (h c).2⟩) (Cert.Reference4Ideal.Value.run m' g')
    obtain ⟨a0, a1⟩ := hargs c
    refine (value _ _).trans ?_
    rw [a0, a1]

end Cert.Reference4Ideal.Ffn

end
-- ==== Proof.Ffn2.lean ====
/- The second feed-forward product: the call's four steps over the inner lanes are the reference's one product. -/
module

public import proofs.«01_k».proof.Defs
public import proofs.«01_k».proof.Proof.Ffn1Dg
public import proofs.«01_k».proof.Proof.Gen.Kernel7Ideal.Value
public import proofs.«01_k».proof.Proof.Gen.Reference7Ideal.Run
public import Idealize.ShloMosaic.Lib.Pipeline.ValueKit
public import Idealize.ShloMosaic.Lib.Quiescent
public import Idealize.ShloMosaic.Lib.StableHlo.RunRead

@[expose] public section

set_option maxRecDepth 16384

noncomputable section

namespace Cert.Kernel7Ideal.Ffn

open Cert.Kernel7Ideal Cert.Kernel7Ideal.Gen
open Idealize.ShloMosaic Idealize.ShloMosaic.TcCoe Idealize.ShloMosaic.Tactic Idealize.SL.Sem
open Idealize.ShloMosaic.Pipeline (Dat)
open Cert.RealArrays (ix2_all ix3_all)
open Cert.Sums (z2 z3)

section
variable {F : FTy → Type} [FloatOps F] (c : Dev nD) (i : grid0.Coords) (a3 : Memref sig .tc .vmem S1024x1024 .bf16) (h3 : a3.IsWhole) (a4 : Memref sig .tc .vmem S1x1024x1024 .bf16) (h4 : a4.IsWhole)
    (a5 : Memref sig .tc .vmem S1024x1024 .f32) (h5 : a5.IsWhole) (a6 : Memref sig .tc .vmem S1024x1024 .f32) (h6 : a6.IsWhole)
    (x0 : Vec F S1024x1024 .bf16) (x1 : Vec F S1x1024x1024 .bf16) (s : Vec F S1024x1024 .f32)

/-- What the first step leaves in the accumulator. -/
theorem acc_first (hc0 : cond0_0 i) (hc1 : ¬cond0_1 i) (hc2 : ¬cond0_2 i) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero (S := S1024x1024) z2]
  unfold k0_pay2
  simp only [View.readAt_eq_ld, h3.read_unread, h4.read_unread, View.ld_unit_zero (S := S1024x1024) z2, View.ld_unit_zero (S := S1x1024x1024) z3, shapeCast_self]

/-- What a middle step leaves in the accumulator. -/
theorem acc_middle (hc0 : ¬cond0_0 i) (hc1 : cond0_1 i) (hc2 : ¬cond0_2 i) :
    sout0_B_0 c i a3 h3 a4 h4 a5 h5 a6 h6 hc0 hc1 hc2 x0 x1 s = addf s (k0_pay1 x0 x1) := by
  unfold sout0_B_0
  rw [View.read_writes_eq_canon _ _ _ (scover0_B_0 c i a3 h3 a4 h4 a5 h5 a6 h6 hc0 hc1 hc2 x0 x1 s)]
  unfold kernelRun0_B
  dsimp only
  sl_unfold_words
  rw [View.canon_unit_zero (S := S1024x1024) z2]
  unfold k0_pay3
  simp only [View.readAt_eq_ld, h3.read_unread, h4.read_unread, h6.read_unread, View.ld_unit_zero (S := S1024x1024) z2, View.ld_unit_zero (S := S1x1024x1024) z3, shapeCast_self]

/-- What the last step leaves in the result's block. -/
theorem out_last (hc0 : ¬cond0_0 i) (hc1 : cond0_1 i) (hc2 : cond0_2 i) :
    out0_C_2 c i a3 h3 a4 h4 a5 h5 a6 h6 hc0 hc1 hc2 x0 x1 s = addf s (k0_pay1 x0 x1) := by
  unfold out0_C_2
  rw [View.read_writes_eq_canon _ _ _ (cover0_C_2 c i a3 h3 a4 h4 a5 h5 a6 h6 hc0 hc1 hc2 x0 x1 s)]
  unfold kernelRun0_C
  dsimp only
  sl_unfold_words
  rw [View.canon_unit_zero (S := S1024x1024) z2, View.readCov_unit_zero (S := S1024x1024) _ z2]
  unfold k0_pay3
  simp only [View.readAt_eq_ld, h3.read_unread, h4.read_unread, h6.read_unread, View.ld_unit_zero (S := S1024x1024) z2, View.ld_unit_zero (S := S1x1024x1024) z3, shapeCast_self]

end

variable (m : (ℓ : Loc nD τ sig) → Buf (Elt Ideal) ℓ) (c : Dev nD)

theorem index_0 : ∀ t : Fin cfg0.N, (cfg0.win 0).index t 0 = t.val / 4 ∧ (cfg0.win 0).index t 1 = t.val % 4 := by decide +kernel
theorem index_1 : ∀ t : Fin cfg0.N, (cfg0.win 1).index t 0 = t.val % 4 ∧ (cfg0.win 1).index t 1 = 0 ∧ (cfg0.win 1).index t 2 = 0 := by decide +kernel
theorem index_2 : ∀ t : Fin cfg0.N, (cfg0.win 2).index t 0 = t.val / 4 ∧ (cfg0.win 2).index t 1 = 0 := by decide +kernel

theorem read_0 (t : Fin cfg0.N) (y : S1024x1024.Idx) (r s : Fin 4096) (hr : r.val = 1024 * (t.val / 4) + (y 0).val) (hs : s.val = 1024 * (t.val % 4) + (y 1).val) :
    (iblk m c 0 t : Vec Ideal S1024x1024 .bf16) y = (m ((c : Thread nD τ).loc main_arg0) : FVec Ideal S4096x4096 .bf16) (ix2 r s) := by
  show V m c main_arg0 (((cfg0.win 0).blk t).view.emb y) = _
  rw [V_main_arg0]
  refine congrArg (m ((c : Thread nD τ).loc main_arg0) : FVec Ideal S4096x4096 .bf16) (funext fun a => Fin.ext ?_)
  have e0 := (index_0 t).1
  have e1 := (index_0 t).2
  match a with
  | ⟨0, _⟩ => show (((cfg0.win 0).blk t).view.emb y 0).val = r.val; rw [hr]; blk_simp [e0]; omega
  | ⟨1, _⟩ => show (((cfg0.win 0).blk t).view.emb y 1).val = s.val; rw [hs]; blk_simp [e1]; omega

/-- The weight as the call reads it, in four groups of rows. -/
theorem groups : (V m c main_v0 : FVec Ideal S4x1024x1024 .bf16) = shapeCast S4x1024x1024 (m ((c : Thread nD τ).loc main_arg1) : FVec Ideal S4096x1024 .bf16) shapeCasts_S4096x1024_S4x1024x1024 := by
  show StableHlo.after hostOps0 _ _ = _
  after_results <;> rfl

theorem group_apply (w : FVec Ideal S4096x1024 .bf16) (g : Fin 4) (r s : Fin 1024) (x : Fin 4096) (hx : x.val = g.val * 1024 + r.val) :
    (shapeCast S4x1024x1024 w shapeCasts_S4096x1024_S4x1024x1024 : FVec Ideal S4x1024x1024 .bf16) (ix3 g r s) = w (ix2 x s) := by
  obtain ⟨x, hlt⟩ := x
  obtain rfl : x = g.val * 1024 + r.val := hx
  pointwise []

theorem read_1 (t : Fin cfg0.N) (r s : Fin 1024) (x : Fin 4096) (hx : x.val = 1024 * (t.val % 4) + r.val) :
    (iblk m c 1 t : Vec Ideal S1x1024x1024 .bf16) (ix3 0 r s) = (m ((c : Thread nD τ).loc main_arg1) : FVec Ideal S4096x1024 .bf16) (ix2 x s) := by
  show V m c main_v0 (((cfg0.win 1).blk t).view.emb (ix3 (0 : Fin 1) r s)) = _
  have e0 := (index_1 t).1
  have e1 := (index_1 t).2.1
  have e2 := (index_1 t).2.2
  have hi : ((cfg0.win 1).blk t).view.emb (ix3 (0 : Fin 1) r s) = (ix3 (⟨t.val % 4, by omega⟩ : Fin 4) r s : S4x1024x1024.Idx) := by
    refine funext fun a => Fin.ext ?_
    match a with
    | ⟨0, _⟩ => show (((cfg0.win 1).blk t).view.emb (ix3 (0 : Fin 1) r s) 0).val = t.val % 4; blk_simp [e0]; rfl
    | ⟨1, _⟩ => show (((cfg0.win 1).blk t).view.emb (ix3 (0 : Fin 1) r s) 1).val = r.val; blk_simp [e1]
    | ⟨2, _⟩ => show (((cfg0.win 1).blk t).view.emb (ix3 (0 : Fin 1) r s) 2).val = s.val; blk_simp [e2]
  rw [hi]
  refine (congrFun (groups m c) _).trans (group_apply _ _ r s x ?_)
  show x.val = t.val % 4 * 1024 + r.val
  omega

/-- One step's product. -/
theorem part_apply (x0 : Vec Ideal S1024x1024 .bf16) (x1 : Vec Ideal S1x1024x1024 .bf16) (i : Fin 1024) (j : Fin 1024) :
    (k0_pay1 x0 x1 : FVec Ideal S1024x1024 .f32) (ix2 i j) = ∑ k : Fin 1024, (max (x0 (ix2 i k)) 0 * max (x0 (ix2 i k)) 0) * x1 (ix3 0 k j) := by
  pointwise [k0_pay1]

/-- The reference's product, at an entry. -/
def out (a : FVec Ideal S4096x4096 .bf16) (w : FVec Ideal S4096x1024 .bf16) : FVec Ideal S4096x1024 .f32 := fun i =>
  ∑ k : Fin 4096, (max (a (ix2 (i 0) k)) 0 * max (a (ix2 (i 0) k)) 0) * w (ix2 k (i 1))

/-- The part of it that sums over the lanes of group `q`. -/
def group (a : FVec Ideal S4096x4096 .bf16) (w : FVec Ideal S4096x1024 .bf16) (q : ℕ) (hq : q < 4) (u : Fin 4096) (j : Fin 1024) : EReal :=
  ∑ k : Fin 1024, (max (a (ix2 u (⟨1024 * q + k.val, by omega⟩ : Fin 4096))) 0 * max (a (ix2 u (⟨1024 * q + k.val, by omega⟩ : Fin 4096))) 0) * w (ix2 (⟨1024 * q + k.val, by omega⟩ : Fin 4096) j)

/-- One step's product, in the arguments. -/
theorem step_apply (t : Fin cfg0.N) (q : ℕ) (hq : t.val % 4 = q) (u : Fin 4096) (i : Fin 1024) (j : Fin 1024) (hu : u.val = 1024 * (t.val / 4) + i.val) :
    (k0_pay1 (iblk m c 0 t : Vec Ideal S1024x1024 .bf16) (iblk m c 1 t : Vec Ideal S1x1024x1024 .bf16) : FVec Ideal S1024x1024 .f32) (ix2 i j)
      = group (m ((c : Thread nD τ).loc main_arg0)) (m ((c : Thread nD τ).loc main_arg1)) q (by omega) u j := by
  rw [part_apply]
  subst hq
  refine Finset.sum_congr rfl fun k _ => ?_
  rw [read_0 m c t (ix2 i k) u ⟨1024 * (t.val % 4) + k.val, by omega⟩ hu rfl, read_1 m c t k j ⟨1024 * (t.val % 4) + k.val, by omega⟩ rfl]

theorem final : (dats m 0 c).arrAt 2 cfg0.N = out (m ((c : Thread nD τ).loc main_arg0)) (m ((c : Thread nD τ).loc main_arg1)) := by
  refine (dats m 0 c).arrAt_eq_of_cover 2 _ (fun t hf => ?_) (fun i => (Cert.Kernel7Ideal.Value.covered_iff2 i).2 (by
    have h0 : (i 0).val < 4096 := (i 0).isLt; have h1 : (i 1).val < 1024 := (i 1).isLt; omega))
  have hN : cfg0.N = 16 := N_0
  have ht : t.val % 4 = 3 := (flush0_2 t).mp hf
  have hlt : t.val < 16 := hN ▸ t.isLt
  have q1 : t.val - 1 < cfg0.N := by omega
  have q2 : t.val - 1 - 1 < cfg0.N := by omega
  have q3 : t.val - 1 - 1 - 1 < cfg0.N := by omega
  rw [Cert.Kernel7Ideal.Value.flushed2_C m c t (by omega) (by omega) ht, out_last,
    outsAt0_B m c ⟨t.val - 1, q1⟩ (show ¬(t.val - 1) % 4 = 0 by omega) (show 1 ≤ (t.val - 1) % 4 by omega) (show ¬(t.val - 1) % 4 = 3 by omega)]
  dsimp only
  rw [acc_middle, outsAt0_B m c ⟨t.val - 1 - 1, q2⟩ (show ¬(t.val - 1 - 1) % 4 = 0 by omega) (show 1 ≤ (t.val - 1 - 1) % 4 by omega) (show ¬(t.val - 1 - 1) % 4 = 3 by omega)]
  dsimp only
  rw [acc_middle, outsAt0_A m c ⟨t.val - 1 - 1 - 1, q3⟩ (show (t.val - 1 - 1 - 1) % 4 = 0 by omega) (show ¬1 ≤ (t.val - 1 - 1 - 1) % 4 by omega) (show ¬(t.val - 1 - 1 - 1) % 4 = 3 by omega)]
  dsimp only
  rw [acc_first]
  refine ix2_all (a := 1024) (b := 1024) fun i j => ?_
  have e0 := (index_2 t).1
  have e1 := (index_2 t).2
  have hi' := i.isLt
  have hi : ((cfg0.win 2).blk t).view.emb (ix2 i j) = (ix2 (⟨1024 * (t.val / 4) + i.val, by omega⟩ : Fin 4096) j : S4096x1024.Idx) := by
    refine funext fun a => Fin.ext ?_
    match a with
    | ⟨0, _⟩ => show (((cfg0.win 2).blk t).view.emb (ix2 i j) 0).val = 1024 * (t.val / 4) + i.val; blk_simp [e0]; omega
    | ⟨1, _⟩ => show (((cfg0.win 2).blk t).view.emb (ix2 i j) 1).val = j.val; blk_simp [e1]
  show (((k0_pay1 _ _ : FVec Ideal S1024x1024 .f32) (ix2 i j) + (k0_pay1 _ _ : FVec Ideal S1024x1024 .f32) (ix2 i j))
    + (k0_pay1 _ _ : FVec Ideal S1024x1024 .f32) (ix2 i j)) + (k0_pay1 _ _ : FVec Ideal S1024x1024 .f32) (ix2 i j)
    = out (m ((c : Thread nD τ).loc main_arg0)) (m ((c : Thread nD τ).loc main_arg1)) (((cfg0.win 2).blk t).view.emb (ix2 i j))
  rw [hi, step_apply m c ⟨t.val - 1 - 1 - 1, q3⟩ 0 (show (t.val - 1 - 1 - 1) % 4 = 0 by omega) ⟨1024 * (t.val / 4) + i.val, by omega⟩ i j (show 1024 * (t.val / 4) + i.val = 1024 * ((t.val - 1 - 1 - 1) / 4) + i.val by omega),
    step_apply m c ⟨t.val - 1 - 1, q2⟩ 1 (show (t.val - 1 - 1) % 4 = 1 by omega) ⟨1024 * (t.val / 4) + i.val, by omega⟩ i j (show 1024 * (t.val / 4) + i.val = 1024 * ((t.val - 1 - 1) / 4) + i.val by omega),
    step_apply m c ⟨t.val - 1, q1⟩ 2 (show (t.val - 1) % 4 = 2 by omega) ⟨1024 * (t.val / 4) + i.val, by omega⟩ i j (show 1024 * (t.val / 4) + i.val = 1024 * ((t.val - 1) / 4) + i.val by omega),
    step_apply m c t 3 ht ⟨1024 * (t.val / 4) + i.val, by omega⟩ i j rfl]
  unfold out group
  rw [Cert.Sums.four]
  simp only [Nat.mul_zero, Nat.zero_add, Nat.mul_one, Nat.reduceMul]
  rfl

end Cert.Kernel7Ideal.Ffn

namespace Cert.Reference7Ideal.Ffn

open Cert.Reference7Ideal Cert.Reference7Ideal.Gen
open Idealize.ShloMosaic Idealize.ShloMosaic.TcCoe Idealize.ShloMosaic.Tactic Idealize.SL.Sem
open Cert.RealArrays (ix2_all ix3_all)

theorem value (a : FVec Ideal S4096x4096 .bf16) (w : FVec Ideal S4096x1024 .bf16) :
    (Host.dotGeneral (F := Ideal) (φ₁ := .f32) (φ₂ := .f32) dot_S4096x4096_S4096x1024_S4096x1024_1_0_0_1_n_n none
      (mulf (maximumf (extf .f32 a bitsLt_bf16_f32) (broadcastInDim S4096x4096 ![] bcast_S_S4096x4096 (constant S_ .f32 0x00000000#32)))
        (maximumf (extf .f32 a bitsLt_bf16_f32) (broadcastInDim S4096x4096 ![] bcast_S_S4096x4096 (constant S_ .f32 0x00000000#32))))
      (extf .f32 w bitsLt_bf16_f32) : FVec Ideal S4096x1024 .f32)
      = (Cert.Kernel7Ideal.Ffn.out a w : FVec Ideal S4096x1024 .f32) := by
  refine ix2_all fun i j => ?_
  pointwise [Cert.Kernel7Ideal.Ffn.out]

/-- The reference ends with its arguments unchanged and every counter at zero. -/
theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h => ⟨fun c => (h c).2, sem_eq_zero_of_no_sems (by decide) _⟩) (Cert.Reference7Ideal.Value.run m g)

/-- The value claim. -/
theorem algebraic : Cert.algebraic_Kernel7Ideal_Reference7Ideal := by
  intro m g m' g' _ hargs
  refine ⟨fun c => Cert.Kernel7Ideal.Ffn.out (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)), ?_, ?_⟩
  · exact (θ_run Cert.Kernel7Ideal.defs _ _).mono (fun r h c => ⟨(h c).1.trans (Cert.Kernel7Ideal.Ffn.final m c), (h c).2⟩) (Cert.Kernel7Ideal.Value.run_blocks m g)
  · refine (θ_run defs _ _).mono (fun r h c => ⟨(h c).1.trans ?_, (h c).2⟩) (Cert.Reference7Ideal.Value.run m' g')
    obtain ⟨a0, a1⟩ := hargs c
    refine (value _ _).trans ?_
    rw [a0, a1]

end Cert.Reference7Ideal.Ffn

end
-- ==== Proof.Ffn1.lean ====
/- The first feed-forward product: the eight blocks the call writes are the blocks of the reference's one product. -/
module

public import proofs.«01_k».proof.Defs
public import proofs.«01_k».proof.Proof.Ffn2
public import proofs.«01_k».proof.Proof.Gen.Kernel6Ideal.Value
public import proofs.«01_k».proof.Proof.Gen.Reference6Ideal.Run
public import Idealize.ShloMosaic.Lib.Pipeline.ValueKit
public import Idealize.ShloMosaic.Lib.Quiescent
public import Idealize.ShloMosaic.Lib.StableHlo.RunRead

@[expose] public section

set_option maxRecDepth 16384

noncomputable section

namespace Cert.Kernel6Ideal.Ffn

open Cert.Kernel6Ideal Cert.Kernel6Ideal.Gen
open Idealize.ShloMosaic Idealize.ShloMosaic.TcCoe Idealize.ShloMosaic.Tactic Idealize.SL.Sem
open Idealize.ShloMosaic.Pipeline (Dat)
open Cert.RealArrays (ix2_all ix3_all)
open Cert.Sums (z2 z3)

variable (m : (ℓ : Loc nD τ sig) → Buf (Elt Ideal) ℓ) (c : Dev nD)

theorem index_0 : ∀ t : Fin cfg0.N, (cfg0.win 0).index t 0 = t.val / 4 ∧ (cfg0.win 0).index t 1 = 0 := by decide +kernel
theorem index_1 : ∀ t : Fin cfg0.N, (cfg0.win 1).index t 0 = t.val % 4 ∧ (cfg0.win 1).index t 1 = 0 ∧ (cfg0.win 1).index t 2 = 0 := by decide +kernel
theorem index_2 : ∀ t : Fin cfg0.N, (cfg0.win 2).index t 0 = t.val / 4 ∧ (cfg0.win 2).index t 1 = t.val % 4 := by decide +kernel
theorem covers_2 : (cfg0.win 2).Covers := by decide +kernel

/-- The block a step writes, from the blocks it reads. -/
theorem out_block (x0 : Vec Ideal S2048x1024 .bf16) (x1 : Vec Ideal S1x1024x1024 .bf16) : out0_2 x0 x1 = k0_pay1 x0 x1 := by
  unfold out0_2
  rw [View.canon_unit_zero z2, View.ld_unit_zero z2, View.ld_unit_zero z3]

theorem read_0 (t : Fin cfg0.N) (y : S2048x1024.Idx) (r : Fin 4096) (s : Fin 1024) (hr : r.val = 2048 * (t.val / 4) + (y 0).val) (hs : s.val = (y 1).val) :
    (iblk m c 0 t : Vec Ideal S2048x1024 .bf16) y = (m ((c : Thread nD τ).loc main_arg0) : FVec Ideal S4096x1024 .bf16) (ix2 r s) := by
  show V m c main_arg0 (((cfg0.win 0).blk t).view.emb y) = _
  rw [V_main_arg0]
  refine congrArg (m ((c : Thread nD τ).loc main_arg0) : FVec Ideal S4096x1024 .bf16) (funext fun a => Fin.ext ?_)
  have e0 := (index_0 t).1
  have e1 := (index_0 t).2
  match a with
  | ⟨0, _⟩ => show (((cfg0.win 0).blk t).view.emb y 0).val = r.val; rw [hr]; blk_simp [e0]; omega
  | ⟨1, _⟩ => show (((cfg0.win 0).blk t).view.emb y 1).val = s.val; rw [hs]; blk_simp [e1]

/-- The weight as the call reads it, in four groups of lanes. -/
theorem groups : (V m c main_v1 : FVec Ideal S4x1024x1024 .bf16)
    = transpose S4x1024x1024 [1, 0, 2] (shapeCast S1024x4x1024 (m ((c : Thread nD τ).loc main_arg1) : FVec Ideal S1024x4096 .bf16) shapeCasts_S1024x4096_S1024x4x1024) transposes_S1024x4x1024_S4x1024x1024_1_0_2 := by
  show StableHlo.after hostOps0 _ _ = _
  after_results <;> rfl

theorem group_apply (w : FVec Ideal S1024x4096 .bf16) (g : Fin 4) (r s : Fin 1024) (x : Fin 4096) (hx : x.val = g.val * 1024 + s.val) :
    (transpose S4x1024x1024 [1, 0, 2] (shapeCast S1024x4x1024 w shapeCasts_S1024x4096_S1024x4x1024) transposes_S1024x4x1024_S4x1024x1024_1_0_2 : FVec Ideal S4x1024x1024 .bf16) (ix3 g r s) = w (ix2 r x) := by
  obtain ⟨x, hlt⟩ := x
  obtain rfl : x = g.val * 1024 + s.val := hx
  pointwise []

theorem read_1 (t : Fin cfg0.N) (r s : Fin 1024) (x : Fin 4096) (hx : x.val = 1024 * (t.val % 4) + s.val) :
    (iblk m c 1 t : Vec Ideal S1x1024x1024 .bf16) (ix3 0 r s) = (m ((c : Thread nD τ).loc main_arg1) : FVec Ideal S1024x4096 .bf16) (ix2 r x) := by
  show V m c main_v1 (((cfg0.win 1).blk t).view.emb (ix3 (0 : Fin 1) r s)) = _
  have e0 := (index_1 t).1
  have e1 := (index_1 t).2.1
  have e2 := (index_1 t).2.2
  have hi : ((cfg0.win 1).blk t).view.emb (ix3 (0 : Fin 1) r s) = (ix3 (⟨t.val % 4, by omega⟩ : Fin 4) r s : S4x1024x1024.Idx) := by
    refine funext fun a => Fin.ext ?_
    match a with
    | ⟨0, _⟩ => show (((cfg0.win 1).blk t).view.emb (ix3 (0 : Fin 1) r s) 0).val = t.val % 4; blk_simp [e0]; rfl
    | ⟨1, _⟩ => show (((cfg0.win 1).blk t).view.emb (ix3 (0 : Fin 1) r s) 1).val = r.val; blk_simp [e1]
    | ⟨2, _⟩ => show (((cfg0.win 1).blk t).view.emb (ix3 (0 : Fin 1) r s) 2).val = s.val; blk_simp [e2]
  rw [hi]
  refine (congrFun (groups m c) _).trans (group_apply _ _ r s x ?_)
  show x.val = t.val % 4 * 1024 + s.val
  omega

/-- The block a step writes, entry by entry. -/
theorem block_apply (x0 : Vec Ideal S2048x1024 .bf16) (x1 : Vec Ideal S1x1024x1024 .bf16) (i : Fin 2048) (j : Fin 1024) :
    (k0_pay1 x0 x1 : FVec Ideal S2048x1024 .bf16) (ix2 i j) = ∑ k : Fin 1024, x0 (ix2 i k) * x1 (ix3 0 k j) := by
  pointwise [k0_pay1]

/-- The reference's product, at an entry. -/
def out (h : FVec Ideal S4096x1024 .bf16) (w : FVec Ideal S1024x4096 .bf16) : FVec Ideal S4096x4096 .bf16 := fun i =>
  ∑ k : Fin 1024, h (ix2 (i 0) k) * w (ix2 k (i 1))

theorem final : (dats m 0 c).arrAt 2 cfg0.N = out (m ((c : Thread nD τ).loc main_arg0)) (m ((c : Thread nD τ).loc main_arg1)) := by
  refine (dats m 0 c).arrAt_eq_of_cover 2 _ (fun t hf => ?_) (covers_2.cover _ (Memref.isWhole_whole _))
  have hN : cfg0.N = 8 := N_0
  have hlt : t.val < 8 := hN ▸ t.isLt
  rw [Cert.Kernel6Ideal.Value.flushed2 m c t, out_block]
  refine ix2_all (a := 2048) (b := 1024) fun i j => ?_
  have e0 := (index_2 t).1
  have e1 := (index_2 t).2
  have hi' := i.isLt
  have hj' := j.isLt
  have hi : ((cfg0.win 2).blk t).view.emb (ix2 i j) = (ix2 (⟨2048 * (t.val / 4) + i.val, by omega⟩ : Fin 4096) (⟨1024 * (t.val % 4) + j.val, by omega⟩ : Fin 4096) : S4096x4096.Idx) := by
    refine funext fun a => Fin.ext ?_
    match a with
    | ⟨0, _⟩ => show (((cfg0.win 2).blk t).view.emb (ix2 i j) 0).val = 2048 * (t.val / 4) + i.val; blk_simp [e0]; omega
    | ⟨1, _⟩ => show (((cfg0.win 2).blk t).view.emb (ix2 i j) 1).val = 1024 * (t.val % 4) + j.val; blk_simp [e1]; omega
  show (k0_pay1 (iblk m c 0 t : Vec Ideal S2048x1024 .bf16) (iblk m c 1 t : Vec Ideal S1x1024x1024 .bf16) : FVec Ideal S2048x1024 .bf16) (ix2 i j)
    = out (m ((c : Thread nD τ).loc main_arg0)) (m ((c : Thread nD τ).loc main_arg1)) (((cfg0.win 2).blk t).view.emb (ix2 i j))
  rw [hi, block_apply]
  unfold out
  refine Finset.sum_congr rfl fun k _ => ?_
  rw [read_0 m c t (ix2 i k) ⟨2048 * (t.val / 4) + i.val, by omega⟩ k rfl rfl, read_1 m c t k j ⟨1024 * (t.val % 4) + j.val, by omega⟩ rfl]
  rfl

end Cert.Kernel6Ideal.Ffn

namespace Cert.Reference6Ideal.Ffn

open Cert.Reference6Ideal Cert.Reference6Ideal.Gen
open Idealize.ShloMosaic Idealize.ShloMosaic.TcCoe Idealize.ShloMosaic.Tactic Idealize.SL.Sem
open Cert.RealArrays (ix2_all ix3_all)

theorem value (h : FVec Ideal S4096x1024 .bf16) (w : FVec Ideal S1024x4096 .bf16) :
    (truncf .bf16 (Host.dotGeneral (F := Ideal) (φ₁ := .f32) (φ₂ := .f32) dot_S4096x1024_S1024x4096_S4096x4096_1_0_0_1_n_n none
      (extf .f32 h bitsLt_bf16_f32) (extf .f32 w bitsLt_bf16_f32) : FVec Ideal S4096x4096 .f32) bitsLt_bf16_f32 : FVec Ideal S4096x4096 .bf16)
      = (Cert.Kernel6Ideal.Ffn.out h w : FVec Ideal S4096x4096 .bf16) := by
  refine ix2_all fun i j => ?_
  pointwise [Cert.Kernel6Ideal.Ffn.out]

/-- The reference ends with its arguments unchanged and every counter at zero. -/
theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h => ⟨fun c => (h c).2, sem_eq_zero_of_no_sems (by decide) _⟩) (Cert.Reference6Ideal.Value.run m g)

/-- The value claim. -/
theorem algebraic : Cert.algebraic_Kernel6Ideal_Reference6Ideal := by
  intro m g m' g' _ hargs
  refine ⟨fun c => Cert.Kernel6Ideal.Ffn.out (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)), ?_, ?_⟩
  · exact (θ_run Cert.Kernel6Ideal.defs _ _).mono (fun r h c => ⟨(h c).1.trans (Cert.Kernel6Ideal.Ffn.final m c), (h c).2⟩) (Cert.Kernel6Ideal.Value.run_blocks m g)
  · refine (θ_run defs _ _).mono (fun r h c => ⟨(h c).1.trans ?_, (h c).2⟩) (Cert.Reference6Ideal.Value.run m' g')
    obtain ⟨a0, a1⟩ := hargs c
    refine (value _ _).trans ?_
    rw [a0, a1]

end Cert.Reference6Ideal.Ffn

end
-- ==== Proof.Ffn2Dg.lean ====
/- The gradient that the second feed-forward product hands back to the first: the eight blocks the call writes are the blocks of the
   reference's gradient. -/
module

public import proofs.«01_k».proof.Defs
public import proofs.«01_k».proof.Proof.Ffn1
public import proofs.«01_k».proof.Proof.Gen.Kernel2Ideal.Value
public import proofs.«01_k».proof.Proof.Gen.Reference2Ideal.Run
public import Idealize.ShloMosaic.Lib.Pipeline.ValueKit
public import Idealize.ShloMosaic.Lib.Quiescent
public import Idealize.ShloMosaic.Lib.StableHlo.RunRead

@[expose] public section

set_option maxRecDepth 16384

noncomputable section

namespace Cert.Kernel2Ideal.Ffn

open Cert.Kernel2Ideal Cert.Kernel2Ideal.Gen
open Idealize.ShloMosaic Idealize.ShloMosaic.TcCoe Idealize.ShloMosaic.Tactic Idealize.SL.Sem
open Idealize.ShloMosaic.Pipeline (Dat)
open Cert.RealArrays (ix2_all ix3_all)
open Cert.Sums (z2 z3)

variable (m : (ℓ : Loc nD τ sig) → Buf (Elt Ideal) ℓ) (c : Dev nD)

theorem index_0 : ∀ t : Fin cfg0.N, (cfg0.win 0).index t 0 = t.val / 4 ∧ (cfg0.win 0).index t 1 = 0 := by decide +kernel
theorem index_1 : ∀ t : Fin cfg0.N, (cfg0.win 1).index t 0 = t.val % 4 ∧ (cfg0.win 1).index t 1 = 0 ∧ (cfg0.win 1).index t 2 = 0 := by decide +kernel
theorem index_2 : ∀ t : Fin cfg0.N, (cfg0.win 2).index t 0 = t.val / 4 ∧ (cfg0.win 2).index t 1 = t.val % 4 := by decide +kernel
theorem index_3 : ∀ t : Fin cfg0.N, (cfg0.win 3).index t 0 = t.val / 4 ∧ (cfg0.win 3).index t 1 = t.val % 4 := by decide +kernel
theorem covers_3 : (cfg0.win 3).Covers := by decide +kernel

/-- The block a step writes, from the blocks it reads. -/
theorem out_block (x0 : Vec Ideal S2048x1024 .bf16) (x1 : Vec Ideal S1x1024x1024 .bf16) (x2 : Vec Ideal S2048x1024 .bf16) : out0_3 x0 x1 x2 = k0_pay1 x0 x1 x2 := by
  unfold out0_3
  rw [View.canon_unit_zero z2, View.ld_unit_zero z2, View.ld_unit_zero z3, View.ld_unit_zero z2]

theorem read_0 (t : Fin cfg0.N) (y : S2048x1024.Idx) (r : Fin 4096) (s : Fin 1024) (hr : r.val = 2048 * (t.val / 4) + (y 0).val) (hs : s.val = (y 1).val) :
    (iblk m c 0 t : Vec Ideal S2048x1024 .bf16) y = (m ((c : Thread nD τ).loc main_arg2) : FVec Ideal S4096x1024 .bf16) (ix2 r s) := by
  show V m c main_arg2 (((cfg0.win 0).blk t).view.emb y) = _
  rw [V_main_arg2]
  refine congrArg (m ((c : Thread nD τ).loc main_arg2) : FVec Ideal S4096x1024 .bf16) (funext fun a => Fin.ext ?_)
  have e0 := (index_0 t).1
  have e1 := (index_0 t).2
  match a with
  | ⟨0, _⟩ => show (((cfg0.win 0).blk t).view.emb y 0).val = r.val; rw [hr]; blk_simp [e0]; omega
  | ⟨1, _⟩ => show (((cfg0.win 0).blk t).view.emb y 1).val = s.val; rw [hs]; blk_simp [e1]

theorem read_2 (t : Fin cfg0.N) (y : S2048x1024.Idx) (r s : Fin 4096) (hr : r.val = 2048 * (t.val / 4) + (y 0).val) (hs : s.val = 1024 * (t.val % 4) + (y 1).val) :
    (iblk m c 2 t : Vec Ideal S2048x1024 .bf16) y = (m ((c : Thread nD τ).loc main_arg0) : FVec Ideal S4096x4096 .bf16) (ix2 r s) := by
  show V m c main_arg0 (((cfg0.win 2).blk t).view.emb y) = _
  rw [V_main_arg0]
  refine congrArg (m ((c : Thread nD τ).loc main_arg0) : FVec Ideal S4096x4096 .bf16) (funext fun a => Fin.ext ?_)
  have e0 := (index_2 t).1
  have e1 := (index_2 t).2
  match a with
  | ⟨0, _⟩ => show (((cfg0.win 2).blk t).view.emb y 0).val = r.val; rw [hr]; blk_simp [e0]; omega
  | ⟨1, _⟩ => show (((cfg0.win 2).blk t).view.emb y 1).val = s.val; rw [hs]; blk_simp [e1]; omega

/-- The weight as the call reads it, in four groups of rows. -/
theorem groups : (V m c main_v0 : FVec Ideal S4x1024x1024 .bf16) = shapeCast S4x1024x1024 (m ((c : Thread nD τ).loc main_arg1) : FVec Ideal S4096x1024 .bf16) shapeCasts_S4096x1024_S4x1024x1024 := by
  show StableHlo.after hostOps0 _ _ = _
  after_results <;> rfl

theorem group_apply (w : FVec Ideal S4096x1024 .bf16) (g : Fin 4) (r s : Fin 1024) (x : Fin 4096) (hx : x.val = g.val * 1024 + r.val) :
    (shapeCast S4x1024x1024 w shapeCasts_S4096x1024_S4x1024x1024 : FVec Ideal S4x1024x1024 .bf16) (ix3 g r s) = w (ix2 x s) := by
  obtain ⟨x, hlt⟩ := x
  obtain rfl : x = g.val * 1024 + r.val := hx
  pointwise []

theorem read_1 (t : Fin cfg0.N) (r s : Fin 1024) (x : Fin 4096) (hx : x.val = 1024 * (t.val % 4) + r.val) :
    (iblk m c 1 t : Vec Ideal S1x1024x1024 .bf16) (ix3 0 r s) = (m ((c : Thread nD τ).loc main_arg1) : FVec Ideal S4096x1024 .bf16) (ix2 x s) := by
  show V m c main_v0 (((cfg0.win 1).blk t).view.emb (ix3 (0 : Fin 1) r s)) = _
  have e0 := (index_1 t).1
  have e1 := (index_1 t).2.1
  have e2 := (index_1 t).2.2
  have hi : ((cfg0.win 1).blk t).view.emb (ix3 (0 : Fin 1) r s) = (ix3 (⟨t.val % 4, by omega⟩ : Fin 4) r s : S4x1024x1024.Idx) := by
    refine funext fun a => Fin.ext ?_
    match a with
    | ⟨0, _⟩ => show (((cfg0.win 1).blk t).view.emb (ix3 (0 : Fin 1) r s) 0).val = t.val % 4; blk_simp [e0]; rfl
    | ⟨1, _⟩ => show (((cfg0.win 1).blk t).view.emb (ix3 (0 : Fin 1) r s) 1).val = r.val; blk_simp [e1]
    | ⟨2, _⟩ => show (((cfg0.win 1).blk t).view.emb (ix3 (0 : Fin 1) r s) 2).val = s.val; blk_simp [e2]
  rw [hi]
  refine (congrFun (groups m c) _).trans (group_apply _ _ r s x ?_)
  show x.val = t.val % 4 * 1024 + r.val
  omega

theorem two_bf16 : Ideal.ofBits .bf16 0x4000#16 = (2 : EReal) := by
  simp [Ideal.ofBits, Ideal.ieee, -EReal.coe_mul]; norm_num; rfl

/-- The block a step writes, entry by entry. -/
theorem block_apply (x0 : Vec Ideal S2048x1024 .bf16) (x1 : Vec Ideal S1x1024x1024 .bf16) (x2 : Vec Ideal S2048x1024 .bf16) (i : Fin 2048) (j : Fin 1024) :
    (k0_pay1 x0 x1 x2 : FVec Ideal S2048x1024 .bf16) (ix2 i j) = (∑ k : Fin 1024, x0 (ix2 i k) * x1 (ix3 0 j k)) * (2 * max (x2 (ix2 i j)) 0) := by
  rw [← two_bf16]
  pointwise [k0_pay1]

/-- The reference's gradient, at an entry. -/
def grad (a : FVec Ideal S4096x4096 .bf16) (w : FVec Ideal S4096x1024 .bf16) (dy : FVec Ideal S4096x1024 .bf16) : FVec Ideal S4096x4096 .bf16 := fun i =>
  (∑ k : Fin 1024, dy (ix2 (i 0) k) * w (ix2 (i 1) k)) * (2 * max (a (ix2 (i 0) (i 1))) 0)

theorem final : (dats m 0 c).arrAt 3 cfg0.N = grad (m ((c : Thread nD τ).loc main_arg0)) (m ((c : Thread nD τ).loc main_arg1)) (m ((c : Thread nD τ).loc main_arg2)) := by
  refine (dats m 0 c).arrAt_eq_of_cover 3 _ (fun t hf => ?_) (covers_3.cover _ (Memref.isWhole_whole _))
  have hN : cfg0.N = 8 := N_0
  have hlt : t.val < 8 := hN ▸ t.isLt
  rw [Cert.Kernel2Ideal.Value.flushed3 m c t, out_block]
  refine ix2_all (a := 2048) (b := 1024) fun i j => ?_
  have e0 := (index_3 t).1
  have e1 := (index_3 t).2
  have hi' := i.isLt
  have hj' := j.isLt
  have hi : ((cfg0.win 3).blk t).view.emb (ix2 i j) = (ix2 (⟨2048 * (t.val / 4) + i.val, by omega⟩ : Fin 4096) (⟨1024 * (t.val % 4) + j.val, by omega⟩ : Fin 4096) : S4096x4096.Idx) := by
    refine funext fun a => Fin.ext ?_
    match a with
    | ⟨0, _⟩ => show (((cfg0.win 3).blk t).view.emb (ix2 i j) 0).val = 2048 * (t.val / 4) + i.val; blk_simp [e0]; omega
    | ⟨1, _⟩ => show (((cfg0.win 3).blk t).view.emb (ix2 i j) 1).val = 1024 * (t.val % 4) + j.val; blk_simp [e1]; omega
  show (k0_pay1 (iblk m c 0 t : Vec Ideal S2048x1024 .bf16) (iblk m c 1 t : Vec Ideal S1x1024x1024 .bf16) (iblk m c 2 t : Vec Ideal S2048x1024 .bf16) : FVec Ideal S2048x1024 .bf16) (ix2 i j)
    = grad (m ((c : Thread nD τ).loc main_arg0)) (m ((c : Thread nD τ).loc main_arg1)) (m ((c : Thread nD τ).loc main_arg2)) (((cfg0.win 3).blk t).view.emb (ix2 i j))
  rw [hi, block_apply]
  unfold grad
  rw [read_2 m c t (ix2 i j) ⟨2048 * (t.val / 4) + i.val, by omega⟩ ⟨1024 * (t.val % 4) + j.val, by omega⟩ rfl rfl]
  refine congrArg (fun x : EReal => x * _) (Finset.sum_congr rfl fun k _ => ?_)
  rw [read_0 m c t (ix2 i k) ⟨2048 * (t.val / 4) + i.val, by omega⟩ k rfl rfl, read_1 m c t j k ⟨1024 * (t.val % 4) + j.val, by omega⟩ rfl]
  rfl

end Cert.Kernel2Ideal.Ffn

namespace Cert.Reference2Ideal.Ffn

open Cert.Reference2Ideal Cert.Reference2Ideal.Gen
open Idealize.ShloMosaic Idealize.ShloMosaic.TcCoe Idealize.ShloMosaic.Tactic Idealize.SL.Sem
open Cert.RealArrays (ix2_all ix3_all)

theorem two_f32 : Ideal.ofBits .f32 0x40000000#32 = (2 : EReal) := by
  simp [Ideal.ofBits, Ideal.ieee, -EReal.coe_mul]; norm_num; rfl

theorem value (a : FVec Ideal S4096x4096 .bf16) (w : FVec Ideal S4096x1024 .bf16) (dy : FVec Ideal S4096x1024 .bf16) :
    (truncf .bf16 (select (cmpf .ogt (extf .f32 a bitsLt_bf16_f32) (broadcastInDim S4096x4096 ![] bcast_S_S4096x4096 (constant S_ .f32 0x00000000#32)))
      (mulf (Host.dotGeneral (F := Ideal) (φ₁ := .f32) (φ₂ := .f32) dot_S4096x1024_S4096x1024_S4096x4096_1_1_0_0_n_n none
          (extf .f32 dy bitsLt_bf16_f32) (extf .f32 w bitsLt_bf16_f32) : FVec Ideal S4096x4096 .f32)
        (mulf (broadcastInDim S4096x4096 ![] bcast_S_S4096x4096 (constant S_ .f32 0x40000000#32))
          (maximumf (extf .f32 a bitsLt_bf16_f32) (broadcastInDim S4096x4096 ![] bcast_S_S4096x4096 (constant S_ .f32 0x00000000#32)))))
      (broadcastInDim S4096x4096 ![] bcast_S_S4096x4096 (constant S_ .f32 0x00000000#32)) : FVec Ideal S4096x4096 .f32) bitsLt_bf16_f32 : FVec Ideal S4096x4096 .bf16)
      = (Cert.Kernel2Ideal.Ffn.grad a w dy : FVec Ideal S4096x4096 .bf16) := by
  refine ix2_all fun i j => ?_
  unfold Cert.Kernel2Ideal.Ffn.grad
  refine Eq.trans ?_ (Cert.Sums.gate _ _).symm
  rw [← two_f32]
  pointwise []

/-- The reference ends with its arguments unchanged and every counter at zero. -/
theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun r h => ⟨fun c => (h c).2, sem_eq_zero_of_no_sems (by decide) _⟩) (Cert.Reference2Ideal.Value.run m g)

/-- The value claim. -/
theorem algebraic : Cert.algebraic_Kernel2Ideal_Reference2Ideal := by
  intro m g m' g' _ hargs
  refine ⟨fun c => Cert.Kernel2Ideal.Ffn.grad (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)), ?_, ?_⟩
  · exact (θ_run Cert.Kernel2Ideal.defs _ _).mono (fun r h c => ⟨(h c).1.trans (Cert.Kernel2Ideal.Ffn.final m c), (h c).2⟩) (Cert.Kernel2Ideal.Value.run_blocks m g)
  · refine (θ_run defs _ _).mono (fun r h c => ⟨(h c).1.trans ?_, (h c).2⟩) (Cert.Reference2Ideal.Value.run m' g')
    obtain ⟨a0, a1, a2⟩ := hargs c
    refine (value _ _ _).trans ?_
    rw [a0, a1, a2]

end Cert.Reference2Ideal.Ffn

end
-- ==== Proof.Products.lean ====
/- What the proofs of the smaller products share: a position from its two coordinates, and a sum of 2048 terms as two blocks. -/
module

public import proofs.«01_k».proof.Proof.Ffn2Dg

@[expose] public section

noncomputable section

namespace Cert.Products

open Idealize.ShloMosaic Idealize.ShloMosaic.Tactic

/-- A position is the pair of its coordinates. -/
theorem at_ix2 {a b : ℕ} (z : (⟨2, ![a, b]⟩ : Shape).Idx) (r : Fin a) (s : Fin b) (h0 : (z 0).val = r.val) (h1 : (z 1).val = s.val) : z = ix2 r s := by
  refine funext fun d => Fin.ext ?_
  match d with
  | ⟨0, _⟩ => exact h0
  | ⟨1, _⟩ => exact h1

/-- Two blocks of 1024 terms. -/
theorem two (f : Fin 2048 → EReal) :
    ∑ k, f k = (∑ k : Fin 1024, f ⟨k.val, by omega⟩) + ∑ k : Fin 1024, f ⟨1024 + k.val, by omega⟩ :=
  Fin.sum_univ_add (a := 1024) (b := 1024) (f : Fin (1024 + 1024) → EReal)

end Cert.Products

end
-- ==== Proof.Pw2Dg.lean ====
/- The gradient of the convolution's second pointwise product in its input: the blocks the call writes are those of the reference's one product. -/
module

public import proofs.«01_k».proof.Defs
public import proofs.«01_k».proof.Proof.Products
public import proofs.«01_k».proof.Proof.Gen.Kernel8Ideal.Value
public import proofs.«01_k».proof.Proof.Gen.Reference8Ideal.Run

@[expose] public section

set_option maxRecDepth 16384

noncomputable section

open Idealize.ShloMosaic Idealize.ShloMosaic.TcCoe Idealize.ShloMosaic.Tactic Idealize.SL.Sem
open Cert.Products
open Cert.Sums (z2)
open Cert.RealArrays (ix2_all)

namespace Cert.Kernel8Ideal.Product

open Cert.Kernel8Ideal Cert.Kernel8Ideal.Gen

variable (m : (ℓ : Loc nD τ sig) → Buf (Elt Ideal) ℓ) (c : Dev nD)

theorem index_0 : ∀ t : Fin cfg0.N, (cfg0.win 0).index t 0 = t.val ∧ (cfg0.win 0).index t 1 = 0 := by decide +kernel
theorem index_1 : ∀ t : Fin cfg0.N, (cfg0.win 1).index t 0 = 0 ∧ (cfg0.win 1).index t 1 = 0 := by decide +kernel
theorem index_2 : ∀ t : Fin cfg0.N, (cfg0.win 2).index t 0 = t.val ∧ (cfg0.win 2).index t 1 = 0 := by decide +kernel
theorem covers_2 : (cfg0.win 2).Covers := by decide +kernel

/-- The block a step writes, from the blocks it reads. -/
theorem out_block (x0 : Vec Ideal S1024x1024 .bf16) (x1 : Vec Ideal S1024x1024 .bf16) : out0_2 x0 x1 = k0_pay1 x0 x1 := by
  unfold out0_2
  rw [View.canon_unit_zero (S := S1024x1024) z2, View.ld_unit_zero (S := S1024x1024) z2, View.ld_unit_zero (S := S1024x1024) z2]

theorem read_0 (t : Fin cfg0.N) (y : S1024x1024.Idx) (r : Fin 4096) (s : Fin 1024) (hr : r.val = 1024 * (t.val) + (y 0).val) (hs : s.val = (y 1).val) :
    (iblk m c 0 t : Vec Ideal S1024x1024 .bf16) y = (m ((c : Thread nD τ).loc main_arg0) : FVec Ideal S4096x1024 .bf16) (ix2 r s) := by
  show V m c main_arg0 (((cfg0.win 0).blk t).view.emb y) = _
  rw [V_main_arg0]
  obtain ⟨e0, e1⟩ := index_0 t
  exact congrArg _ (at_ix2 _ r s (by rw [hr]; blk_simp [e0]; omega) (by rw [hs]; blk_simp [e1]))

theorem read_1 (t : Fin cfg0.N) (y : S1024x1024.Idx) (r s : Fin 1024) (hr : r.val = (y 0).val) (hs : s.val = (y 1).val) :
    (iblk m c 1 t : Vec Ideal S1024x1024 .bf16) y = (m ((c : Thread nD τ).loc main_arg1) : FVec Ideal S1024x1024 .bf16) (ix2 r s) := by
  show V m c main_arg1 (((cfg0.win 1).blk t).view.emb y) = _
  rw [V_main_arg1]
  obtain ⟨e0, e1⟩ := index_1 t
  exact congrArg _ (at_ix2 _ r s (by rw [hr]; blk_simp [e0]) (by rw [hs]; blk_simp [e1]))

/-- One step's product. -/
theorem block_apply (x0 : Vec Ideal S1024x1024 .bf16) (x1 : Vec Ideal S1024x1024 .bf16) (i : Fin 1024) (j : Fin 1024) :
    (k0_pay1 x0 x1 : FVec Ideal S1024x1024 .f32) (ix2 i j) = ∑ k : Fin 1024, x0 (ix2 i k) * x1 (ix2 j k) := by
  pointwise [k0_pay1]

/-- The reference's result, at an entry. -/
def out (x : FVec Ideal S4096x1024 .bf16) (w : FVec Ideal S1024x1024 .bf16) : FVec Ideal S4096x1024 .f32 := fun i =>
  ∑ k : Fin 1024, x (ix2 (i 0) k) * w (ix2 (i 1) k)

theorem final : (dats m 0 c).arrAt 2 cfg0.N = out (m ((c : Thread nD τ).loc main_arg0)) (m ((c : Thread nD τ).loc main_arg1)) := by
  refine (dats m 0 c).arrAt_eq_of_cover 2 _ (fun t hf => ?_) (covers_2.cover _ (Memref.isWhole_whole _))
  have hN : cfg0.N = 4 := N_0
  have hlt : t.val < 4 := hN ▸ t.isLt
  rw [Cert.Kernel8Ideal.Value.flushed2 m c t, out_block]
  refine ix2_all (a := 1024) (b := 1024) fun i j => ?_
  obtain ⟨e0, e1⟩ := index_2 t
  have hi' := i.isLt
  have hj' := j.isLt
  have hi : ((cfg0.win 2).blk t).view.emb (ix2 i j) = (ix2 (⟨1024 * (t.val) + i.val, by omega⟩ : Fin 4096) j : S4096x1024.Idx) :=
    at_ix2 _ _ _ (by show _ = 1024 * (t.val) + i.val; blk_simp [e0]; omega) (by blk_simp [e1])
  show (k0_pay1 (iblk m c 0 t : Vec Ideal S1024x1024 .bf16) (iblk m c 1 t : Vec Ideal S1024x1024 .bf16) : FVec Ideal S1024x1024 .f32) (ix2 i j)
    = out (m ((c : Thread nD τ).loc main_arg0)) (m ((c : Thread nD τ).loc main_arg1)) (((cfg0.win 2).blk t).view.emb (ix2 i j))
  rw [hi, block_apply]
  unfold out
  refine Finset.sum_congr rfl fun k _ => ?_
  rw [read_0 m c t (ix2 i k) ⟨1024 * (t.val) + i.val, by omega⟩ k rfl rfl, read_1 m c t (ix2 j k) j k rfl rfl]
  rfl

end Cert.Kernel8Ideal.Product

namespace Cert.Reference8Ideal.Product

open Cert.Reference8Ideal Cert.Reference8Ideal.Gen

theorem value (x : FVec Ideal S4096x1024 .bf16) (w : FVec Ideal S1024x1024 .bf16) :
    (Host.dotGeneral (F := Ideal) (φ₁ := .f32) (φ₂ := .f32) dot_S4096x1024_S1024x1024_S4096x1024_1_1_0_0_n_n none (extf .f32 x bitsLt_bf16_f32) (extf .f32 w bitsLt_bf16_f32) : FVec Ideal S4096x1024 .f32)
      = (Cert.Kernel8Ideal.Product.out x w : FVec Ideal S4096x1024 .f32) := by
  refine ix2_all fun i j => ?_
  pointwise [Cert.Kernel8Ideal.Product.out]

/-- The reference ends with its arguments unchanged and every counter at zero. -/
theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h => ⟨fun c => (h c).2, sem_eq_zero_of_no_sems (by decide) _⟩) (Cert.Reference8Ideal.Value.run m g)

/-- The value claim. -/
theorem algebraic : Cert.algebraic_Kernel8Ideal_Reference8Ideal := by
  intro m g m' g' _ hargs
  refine ⟨fun c => Cert.Kernel8Ideal.Product.out (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)), ?_, ?_⟩
  · exact (θ_run Cert.Kernel8Ideal.defs _ _).mono (fun r h c => ⟨(h c).1.trans (Cert.Kernel8Ideal.Product.final m c), (h c).2⟩) (Cert.Kernel8Ideal.Value.run_blocks m g)
  · refine (θ_run defs _ _).mono (fun r h c => ⟨(h c).1.trans ?_, (h c).2⟩) (Cert.Reference8Ideal.Value.run m' g')
    obtain ⟨a0, a1⟩ := hargs c
    refine (value _ _).trans ?_
    rw [a0, a1]

end Cert.Reference8Ideal.Product

end
-- ==== Proof.Pw2Wg.lean ====
/- The gradient of the convolution's second pointwise product in its weight: the call's four steps over the rows are the reference's one product. -/
module

public import proofs.«01_k».proof.Defs
public import proofs.«01_k».proof.Proof.Pw2Dg
public import proofs.«01_k».proof.Proof.Gen.Kernel9Ideal.Value
public import proofs.«01_k».proof.Proof.Gen.Reference9Ideal.Run

@[expose] public section

set_option maxRecDepth 16384

noncomputable section

open Idealize.ShloMosaic Idealize.ShloMosaic.TcCoe Idealize.ShloMosaic.Tactic Idealize.SL.Sem
open Cert.Products
open Cert.Sums (z2)
open Cert.RealArrays (ix2_all)

namespace Cert.Kernel9Ideal.Product

open Cert.Kernel9Ideal Cert.Kernel9Ideal.Gen

section
variable {F : FTy → Type} [FloatOps F] (c : Dev nD) (i : grid0.Coords) (a3 : Memref sig .tc .vmem S1024x1024 .bf16) (h3 : a3.IsWhole) (a4 : Memref sig .tc .vmem S1024x1024 .bf16) (h4 : a4.IsWhole)
    (a5 : Memref sig .tc .vmem S1024x1024 .f32) (h5 : a5.IsWhole) (a6 : Memref sig .tc .vmem S1024x1024 .f32) (h6 : a6.IsWhole)
    (x0 : Vec F S1024x1024 .bf16) (x1 : Vec F S1024x1024 .bf16) (s : Vec F S1024x1024 .f32)

/-- What the first step leaves in the accumulator. -/
theorem acc_first (hc0 : cond0_0 i) (hc1 : ¬cond0_1 i) (hc2 : ¬cond0_2 i) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero (S := S1024x1024) z2]
  unfold k0_pay2
  simp only [View.readAt_eq_ld, h3.read_unread, h4.read_unread, View.ld_unit_zero (S := S1024x1024) z2, shapeCast_self]

/-- What a middle step leaves in the accumulator. -/
theorem acc_middle (hc0 : ¬cond0_0 i) (hc1 : cond0_1 i) (hc2 : ¬cond0_2 i) :
    sout0_B_0 c i a3 h3 a4 h4 a5 h5 a6 h6 hc0 hc1 hc2 x0 x1 s = addf s (k0_pay1 x0 x1) := by
  unfold sout0_B_0
  rw [View.read_writes_eq_canon _ _ _ (scover0_B_0 c i a3 h3 a4 h4 a5 h5 a6 h6 hc0 hc1 hc2 x0 x1 s)]
  unfold kernelRun0_B
  dsimp only
  sl_unfold_words
  rw [View.canon_unit_zero (S := S1024x1024) z2]
  unfold k0_pay3
  simp only [View.readAt_eq_ld, h3.read_unread, h4.read_unread, h6.read_unread, View.ld_unit_zero (S := S1024x1024) z2, shapeCast_self]

/-- What the last step leaves in the result's block. -/
theorem out_last (hc0 : ¬cond0_0 i) (hc1 : cond0_1 i) (hc2 : cond0_2 i) :
    out0_C_2 c i a3 h3 a4 h4 a5 h5 a6 h6 hc0 hc1 hc2 x0 x1 s = addf s (k0_pay1 x0 x1) := by
  unfold out0_C_2
  rw [View.read_writes_eq_canon _ _ _ (cover0_C_2 c i a3 h3 a4 h4 a5 h5 a6 h6 hc0 hc1 hc2 x0 x1 s)]
  unfold kernelRun0_C
  dsimp only
  sl_unfold_words
  rw [View.canon_unit_zero (S := S1024x1024) z2, View.readCov_unit_zero (S := S1024x1024) _ z2]
  unfold k0_pay3
  simp only [View.readAt_eq_ld, h3.read_unread, h4.read_unread, h6.read_unread, View.ld_unit_zero (S := S1024x1024) z2, shapeCast_self]

end

variable (m : (ℓ : Loc nD τ sig) → Buf (Elt Ideal) ℓ) (c : Dev nD)

theorem index_0 : ∀ t : Fin cfg0.N, (cfg0.win 0).index t 0 = t.val % 4 ∧ (cfg0.win 0).index t 1 = 0 := by decide +kernel
theorem index_1 : ∀ t : Fin cfg0.N, (cfg0.win 1).index t 0 = t.val % 4 ∧ (cfg0.win 1).index t 1 = 0 := by decide +kernel
theorem index_2 : ∀ t : Fin cfg0.N, (cfg0.win 2).index t 0 = 0 ∧ (cfg0.win 2).index t 1 = 0 := by decide +kernel

theorem read_0 (t : Fin cfg0.N) (y : S1024x1024.Idx) (r : Fin 4096) (s : Fin 1024) (hr : r.val = 1024 * (t.val % 4) + (y 0).val) (hs : s.val = (y 1).val) :
    (iblk m c 0 t : Vec Ideal S1024x1024 .bf16) y = (m ((c : Thread nD τ).loc main_arg0) : FVec Ideal S4096x1024 .bf16) (ix2 r s) := by
  show V m c main_arg0 (((cfg0.win 0).blk t).view.emb y) = _
  rw [V_main_arg0]
  obtain ⟨e0, e1⟩ := index_0 t
  exact congrArg _ (at_ix2 _ r s (by rw [hr]; blk_simp [e0]; omega) (by rw [hs]; blk_simp [e1]))

theorem read_1 (t : Fin cfg0.N) (y : S1024x1024.Idx) (r : Fin 4096) (s : Fin 1024) (hr : r.val = 1024 * (t.val % 4) + (y 0).val) (hs : s.val = (y 1).val) :
    (iblk m c 1 t : Vec Ideal S1024x1024 .bf16) y = (m ((c : Thread nD τ).loc main_arg1) : FVec Ideal S4096x1024 .bf16) (ix2 r s) := by
  show V m c main_arg1 (((cfg0.win 1).blk t).view.emb y) = _
  rw [V_main_arg1]
  obtain ⟨e0, e1⟩ := index_1 t
  exact congrArg _ (at_ix2 _ r s (by rw [hr]; blk_simp [e0]; omega) (by rw [hs]; blk_simp [e1]))

/-- One step's product. -/
theorem part_apply (x0 : Vec Ideal S1024x1024 .bf16) (x1 : Vec Ideal S1024x1024 .bf16) (i : Fin 1024) (j : Fin 1024) :
    (k0_pay1 x0 x1 : FVec Ideal S1024x1024 .f32) (ix2 i j) = ∑ k : Fin 1024, x0 (ix2 k i) * x1 (ix2 k j) := by
  pointwise [k0_pay1]

/-- The reference's result, at an entry. -/
def out (x : FVec Ideal S4096x1024 .bf16) (w : FVec Ideal S4096x1024 .bf16) : FVec Ideal S1024x1024 .f32 := fun i =>
  ∑ k : Fin 4096, x (ix2 k (i 0)) * w (ix2 k (i 1))

/-- The part of it that sums over block `q` of the terms. -/
def group (x : FVec Ideal S4096x1024 .bf16) (w : FVec Ideal S4096x1024 .bf16) (q : ℕ) (hq : q < 4) (u : Fin 1024) (v : Fin 1024) : EReal :=
  ∑ k : Fin 1024, x (ix2 (⟨1024 * q + k.val, by omega⟩ : Fin 4096) u) * w (ix2 (⟨1024 * q + k.val, by omega⟩ : Fin 4096) v)

/-- One step's product, in the arguments. -/
theorem step_apply (t : Fin cfg0.N) (q : ℕ) (hq : t.val % 4 = q) (u : Fin 1024) (v : Fin 1024) (i : Fin 1024) (j : Fin 1024)
    (hu : u.val = i.val) (hv : v.val = j.val) :
    (k0_pay1 (iblk m c 0 t : Vec Ideal S1024x1024 .bf16) (iblk m c 1 t : Vec Ideal S1024x1024 .bf16) : FVec Ideal S1024x1024 .f32) (ix2 i j)
      = group (m ((c : Thread nD τ).loc main_arg0)) (m ((c : Thread nD τ).loc main_arg1)) q (by omega) u v := by
  rw [part_apply]
  subst hq
  refine Finset.sum_congr rfl fun k _ => ?_
  rw [read_0 m c t (ix2 k i) ⟨1024 * (t.val % 4) + k.val, by omega⟩ u rfl hu, read_1 m c t (ix2 k j) ⟨1024 * (t.val % 4) + k.val, by omega⟩ v rfl hv]

theorem final : (dats m 0 c).arrAt 2 cfg0.N = out (m ((c : Thread nD τ).loc main_arg0)) (m ((c : Thread nD τ).loc main_arg1)) := by
  refine (dats m 0 c).arrAt_eq_of_cover 2 _ (fun t hf => ?_) (fun i => (Cert.Kernel9Ideal.Value.covered_iff2 i).2 (by
    have h0 : (i 0).val < 1024 := (i 0).isLt; have h1 : (i 1).val < 1024 := (i 1).isLt; omega))
  have hN : cfg0.N = 4 := N_0
  have ht : t.val % 4 = 3 := (flush0_2 t).mp hf
  have hlt : t.val < 4 := hN ▸ t.isLt
  have q1 : t.val - 1 < cfg0.N := by omega
  have q2 : t.val - 1 - 1 < cfg0.N := by omega
  have q3 : t.val - 1 - 1 - 1 < cfg0.N := by omega
  rw [Cert.Kernel9Ideal.Value.flushed2_C m c t (by omega) (by omega) ht, out_last,
    outsAt0_B m c ⟨t.val - 1, q1⟩ (show ¬(t.val - 1) % 4 = 0 by omega) (show 1 ≤ t.val - 1 by omega) (show ¬(t.val - 1) % 4 = 3 by omega)]
  dsimp only
  rw [acc_middle, outsAt0_B m c ⟨t.val - 1 - 1, q2⟩ (show ¬(t.val - 1 - 1) % 4 = 0 by omega) (show 1 ≤ t.val - 1 - 1 by omega) (show ¬(t.val - 1 - 1) % 4 = 3 by omega)]
  dsimp only
  rw [acc_middle, outsAt0_A m c ⟨t.val - 1 - 1 - 1, q3⟩ (show (t.val - 1 - 1 - 1) % 4 = 0 by omega) (show ¬1 ≤ t.val - 1 - 1 - 1 by omega) (show ¬(t.val - 1 - 1 - 1) % 4 = 3 by omega)]
  dsimp only
  rw [acc_first]
  refine ix2_all (a := 1024) (b := 1024) fun i j => ?_
  obtain ⟨e0, e1⟩ := index_2 t
  have hi' := i.isLt
  have hj' := j.isLt
  have hi : ((cfg0.win 2).blk t).view.emb (ix2 i j) = (ix2 i j : S1024x1024.Idx) :=
    at_ix2 _ _ _ (by blk_simp [e0]) (by blk_simp [e1])
  show (((k0_pay1 _ _ : FVec Ideal S1024x1024 .f32) (ix2 i j) + (k0_pay1 _ _ : FVec Ideal S1024x1024 .f32) (ix2 i j)) + (k0_pay1 _ _ : FVec Ideal S1024x1024 .f32) (ix2 i j)) + (k0_pay1 _ _ : FVec Ideal S1024x1024 .f32) (ix2 i j)
    = out (m ((c : Thread nD τ).loc main_arg0)) (m ((c : Thread nD τ).loc main_arg1)) (((cfg0.win 2).blk t).view.emb (ix2 i j))
  rw [hi, step_apply m c ⟨t.val - 1 - 1 - 1, q3⟩ 0 (show (t.val - 1 - 1 - 1) % 4 = 0 by omega) i j i j rfl rfl,
    step_apply m c ⟨t.val - 1 - 1, q2⟩ 1 (show (t.val - 1 - 1) % 4 = 1 by omega) i j i j rfl rfl,
    step_apply m c ⟨t.val - 1, q1⟩ 2 (show (t.val - 1) % 4 = 2 by omega) i j i j rfl rfl,
    step_apply m c t 3 ht i j i j rfl rfl]
  unfold out group
  rw [Cert.Sums.four]
  simp only [Nat.mul_zero, Nat.zero_add, Nat.mul_one, Nat.reduceMul]
  rfl

end Cert.Kernel9Ideal.Product

namespace Cert.Reference9Ideal.Product

open Cert.Reference9Ideal Cert.Reference9Ideal.Gen

theorem value (x : FVec Ideal S4096x1024 .bf16) (w : FVec Ideal S4096x1024 .bf16) :
    (transpose S1024x1024 [1, 0] (Host.dotGeneral (F := Ideal) (φ₁ := .f32) (φ₂ := .f32) dot_S4096x1024_S4096x1024_S1024x1024_0_0_1_1_n_n none (extf .f32 w bitsLt_bf16_f32) (extf .f32 x bitsLt_bf16_f32) : FVec Ideal S1024x1024 .f32) transposes_S1024x1024_S1024x1024_1_0 : FVec Ideal S1024x1024 .f32)
      = (Cert.Kernel9Ideal.Product.out x w : FVec Ideal S1024x1024 .f32) := by
  refine ix2_all fun i j => ?_
  pointwise [Cert.Kernel9Ideal.Product.out]
  exact Finset.sum_congr rfl fun k _ => mul_comm _ _

/-- The reference ends with its arguments unchanged and every counter at zero. -/
theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h => ⟨fun c => (h c).2, sem_eq_zero_of_no_sems (by decide) _⟩) (Cert.Reference9Ideal.Value.run m g)

/-- The value claim. -/
theorem algebraic : Cert.algebraic_Kernel9Ideal_Reference9Ideal := by
  intro m g m' g' _ hargs
  refine ⟨fun c => Cert.Kernel9Ideal.Product.out (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)), ?_, ?_⟩
  · exact (θ_run Cert.Kernel9Ideal.defs _ _).mono (fun r h c => ⟨(h c).1.trans (Cert.Kernel9Ideal.Product.final m c), (h c).2⟩) (Cert.Kernel9Ideal.Value.run_blocks m g)
  · refine (θ_run defs _ _).mono (fun r h c => ⟨(h c).1.trans ?_, (h c).2⟩) (Cert.Reference9Ideal.Value.run m' g')
    obtain ⟨a0, a1⟩ := hargs c
    refine (value _ _).trans ?_
    rw [a0, a1]

end Cert.Reference9Ideal.Product

end
-- ==== Proof.Pw1Wg.lean ====
/- The gradient of the convolution's first pointwise product in its weight: the call's four steps over the rows are the reference's one product. -/
module

public import proofs.«01_k».proof.Defs
public import proofs.«01_k».proof.Proof.Pw2Wg
public import proofs.«01_k».proof.Proof.Gen.Kernel10Ideal.Value
public import proofs.«01_k».proof.Proof.Gen.Reference10Ideal.Run

@[expose] public section

set_option maxRecDepth 16384

noncomputable section

open Idealize.ShloMosaic Idealize.ShloMosaic.TcCoe Idealize.ShloMosaic.Tactic Idealize.SL.Sem
open Cert.Products
open Cert.Sums (z2)
open Cert.RealArrays (ix2_all)

namespace Cert.Kernel10Ideal.Product

open Cert.Kernel10Ideal Cert.Kernel10Ideal.Gen

section
variable {F : FTy → Type} [FloatOps F] (c : Dev nD) (i : grid0.Coords) (a3 : Memref sig .tc .vmem S1024x1024 .bf16) (h3 : a3.IsWhole) (a4 : Memref sig .tc .vmem S1024x1024 .bf16) (h4 : a4.IsWhole)
    (a5 : Memref sig .tc .vmem S1024x1024 .f32) (h5 : a5.IsWhole) (a6 : Memref sig .tc .vmem S1024x1024 .f32) (h6 : a6.IsWhole)
    (x0 : Vec F S1024x1024 .bf16) (x1 : Vec F S1024x1024 .bf16) (s : Vec F S1024x1024 .f32)

/-- What the first step leaves in the accumulator. -/
theorem acc_first (hc0 : cond0_0 i) (hc1 : ¬cond0_1 i) (hc2 : ¬cond0_2 i) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero (S := S1024x1024) z2]
  unfold k0_pay2
  simp only [View.readAt_eq_ld, h3.read_unread, h4.read_unread, View.ld_unit_zero (S := S1024x1024) z2, shapeCast_self]

/-- What a middle step leaves in the accumulator. -/
theorem acc_middle (hc0 : ¬cond0_0 i) (hc1 : cond0_1 i) (hc2 : ¬cond0_2 i) :
    sout0_B_0 c i a3 h3 a4 h4 a5 h5 a6 h6 hc0 hc1 hc2 x0 x1 s = addf s (k0_pay1 x0 x1) := by
  unfold sout0_B_0
  rw [View.read_writes_eq_canon _ _ _ (scover0_B_0 c i a3 h3 a4 h4 a5 h5 a6 h6 hc0 hc1 hc2 x0 x1 s)]
  unfold kernelRun0_B
  dsimp only
  sl_unfold_words
  rw [View.canon_unit_zero (S := S1024x1024) z2]
  unfold k0_pay3
  simp only [View.readAt_eq_ld, h3.read_unread, h4.read_unread, h6.read_unread, View.ld_unit_zero (S := S1024x1024) z2, shapeCast_self]

/-- What the last step leaves in the result's block. -/
theorem out_last (hc0 : ¬cond0_0 i) (hc1 : cond0_1 i) (hc2 : cond0_2 i) :
    out0_C_2 c i a3 h3 a4 h4 a5 h5 a6 h6 hc0 hc1 hc2 x0 x1 s = addf s (k0_pay1 x0 x1) := by
  unfold out0_C_2
  rw [View.read_writes_eq_canon _ _ _ (cover0_C_2 c i a3 h3 a4 h4 a5 h5 a6 h6 hc0 hc1 hc2 x0 x1 s)]
  unfold kernelRun0_C
  dsimp only
  sl_unfold_words
  rw [View.canon_unit_zero (S := S1024x1024) z2, View.readCov_unit_zero (S := S1024x1024) _ z2]
  unfold k0_pay3
  simp only [View.readAt_eq_ld, h3.read_unread, h4.read_unread, h6.read_unread, View.ld_unit_zero (S := S1024x1024) z2, shapeCast_self]

end

variable (m : (ℓ : Loc nD τ sig) → Buf (Elt Ideal) ℓ) (c : Dev nD)

theorem index_0 : ∀ t : Fin cfg0.N, (cfg0.win 0).index t 0 = t.val % 4 ∧ (cfg0.win 0).index t 1 = 0 := by decide +kernel
theorem index_1 : ∀ t : Fin cfg0.N, (cfg0.win 1).index t 0 = t.val % 4 ∧ (cfg0.win 1).index t 1 = t.val / 4 := by decide +kernel
theorem index_2 : ∀ t : Fin cfg0.N, (cfg0.win 2).index t 0 = 0 ∧ (cfg0.win 2).index t 1 = t.val / 4 := by decide +kernel

theorem read_0 (t : Fin cfg0.N) (y : S1024x1024.Idx) (r : Fin 4096) (s : Fin 1024) (hr : r.val = 1024 * (t.val % 4) + (y 0).val) (hs : s.val = (y 1).val) :
    (iblk m c 0 t : Vec Ideal S1024x1024 .bf16) y = (m ((c : Thread nD τ).loc main_arg0) : FVec Ideal S4096x1024 .bf16) (ix2 r s) := by
  show V m c main_arg0 (((cfg0.win 0).blk t).view.emb y) = _
  rw [V_main_arg0]
  obtain ⟨e0, e1⟩ := index_0 t
  exact congrArg _ (at_ix2 _ r s (by rw [hr]; blk_simp [e0]; omega) (by rw [hs]; blk_simp [e1]))

theorem read_1 (t : Fin cfg0.N) (y : S1024x1024.Idx) (r : Fin 4096) (s : Fin 2048) (hr : r.val = 1024 * (t.val % 4) + (y 0).val) (hs : s.val = 1024 * (t.val / 4) + (y 1).val) :
    (iblk m c 1 t : Vec Ideal S1024x1024 .bf16) y = (m ((c : Thread nD τ).loc main_arg1) : FVec Ideal S4096x2048 .bf16) (ix2 r s) := by
  show V m c main_arg1 (((cfg0.win 1).blk t).view.emb y) = _
  rw [V_main_arg1]
  obtain ⟨e0, e1⟩ := index_1 t
  exact congrArg _ (at_ix2 _ r s (by rw [hr]; blk_simp [e0]; omega) (by rw [hs]; blk_simp [e1]; omega))

/-- One step's product. -/
theorem part_apply (x0 : Vec Ideal S1024x1024 .bf16) (x1 : Vec Ideal S1024x1024 .bf16) (i : Fin 1024) (j : Fin 1024) :
    (k0_pay1 x0 x1 : FVec Ideal S1024x1024 .f32) (ix2 i j) = ∑ k : Fin 1024, x0 (ix2 k i) * x1 (ix2 k j) := by
  pointwise [k0_pay1]

/-- The reference's result, at an entry. -/
def out (x : FVec Ideal S4096x1024 .bf16) (w : FVec Ideal S4096x2048 .bf16) : FVec Ideal S1024x2048 .f32 := fun i =>
  ∑ k : Fin 4096, x (ix2 k (i 0)) * w (ix2 k (i 1))

/-- The part of it that sums over block `q` of the terms. -/
def group (x : FVec Ideal S4096x1024 .bf16) (w : FVec Ideal S4096x2048 .bf16) (q : ℕ) (hq : q < 4) (u : Fin 1024) (v : Fin 2048) : EReal :=
  ∑ k : Fin 1024, x (ix2 (⟨1024 * q + k.val, by omega⟩ : Fin 4096) u) * w (ix2 (⟨1024 * q + k.val, by omega⟩ : Fin 4096) v)

/-- One step's product, in the arguments. -/
theorem step_apply (t : Fin cfg0.N) (q : ℕ) (hq : t.val % 4 = q) (u : Fin 1024) (v : Fin 2048) (i : Fin 1024) (j : Fin 1024)
    (hu : u.val = i.val) (hv : v.val = 1024 * (t.val / 4) + j.val) :
    (k0_pay1 (iblk m c 0 t : Vec Ideal S1024x1024 .bf16) (iblk m c 1 t : Vec Ideal S1024x1024 .bf16) : FVec Ideal S1024x1024 .f32) (ix2 i j)
      = group (m ((c : Thread nD τ).loc main_arg0)) (m ((c : Thread nD τ).loc main_arg1)) q (by omega) u v := by
  rw [part_apply]
  subst hq
  refine Finset.sum_congr rfl fun k _ => ?_
  rw [read_0 m c t (ix2 k i) ⟨1024 * (t.val % 4) + k.val, by omega⟩ u rfl hu, read_1 m c t (ix2 k j) ⟨1024 * (t.val % 4) + k.val, by omega⟩ v rfl hv]

theorem final : (dats m 0 c).arrAt 2 cfg0.N = out (m ((c : Thread nD τ).loc main_arg0)) (m ((c : Thread nD τ).loc main_arg1)) := by
  refine (dats m 0 c).arrAt_eq_of_cover 2 _ (fun t hf => ?_) (fun i => (Cert.Kernel10Ideal.Value.covered_iff2 i).2 (by
    have h0 : (i 0).val < 1024 := (i 0).isLt; have h1 : (i 1).val < 2048 := (i 1).isLt; omega))
  have hN : cfg0.N = 8 := N_0
  have ht : t.val % 4 = 3 := (flush0_2 t).mp hf
  have hlt : t.val < 8 := hN ▸ t.isLt
  have q1 : t.val - 1 < cfg0.N := by omega
  have q2 : t.val - 1 - 1 < cfg0.N := by omega
  have q3 : t.val - 1 - 1 - 1 < cfg0.N := by omega
  rw [Cert.Kernel10Ideal.Value.flushed2_C m c t (by omega) (by omega) ht, out_last,
    outsAt0_B m c ⟨t.val - 1, q1⟩ (show ¬(t.val - 1) % 4 = 0 by omega) (show 1 ≤ (t.val - 1) % 4 by omega) (show ¬(t.val - 1) % 4 = 3 by omega)]
  dsimp only
  rw [acc_middle, outsAt0_B m c ⟨t.val - 1 - 1, q2⟩ (show ¬(t.val - 1 - 1) % 4 = 0 by omega) (show 1 ≤ (t.val - 1 - 1) % 4 by omega) (show ¬(t.val - 1 - 1) % 4 = 3 by omega)]
  dsimp only
  rw [acc_middle, outsAt0_A m c ⟨t.val - 1 - 1 - 1, q3⟩ (show (t.val - 1 - 1 - 1) % 4 = 0 by omega) (show ¬1 ≤ (t.val - 1 - 1 - 1) % 4 by omega) (show ¬(t.val - 1 - 1 - 1) % 4 = 3 by omega)]
  dsimp only
  rw [acc_first]
  refine ix2_all (a := 1024) (b := 1024) fun i j => ?_
  obtain ⟨e0, e1⟩ := index_2 t
  have hi' := i.isLt
  have hj' := j.isLt
  have hi : ((cfg0.win 2).blk t).view.emb (ix2 i j) = (ix2 i (⟨1024 * (t.val / 4) + j.val, by omega⟩ : Fin 2048) : S1024x2048.Idx) :=
    at_ix2 _ _ _ (by blk_simp [e0]) (by show _ = 1024 * (t.val / 4) + j.val; blk_simp [e1]; omega)
  show (((k0_pay1 _ _ : FVec Ideal S1024x1024 .f32) (ix2 i j) + (k0_pay1 _ _ : FVec Ideal S1024x1024 .f32) (ix2 i j)) + (k0_pay1 _ _ : FVec Ideal S1024x1024 .f32) (ix2 i j)) + (k0_pay1 _ _ : FVec Ideal S1024x1024 .f32) (ix2 i j)
    = out (m ((c : Thread nD τ).loc main_arg0)) (m ((c : Thread nD τ).loc main_arg1)) (((cfg0.win 2).blk t).view.emb (ix2 i j))
  rw [hi, step_apply m c ⟨t.val - 1 - 1 - 1, q3⟩ 0 (show (t.val - 1 - 1 - 1) % 4 = 0 by omega) i ⟨1024 * (t.val / 4) + j.val, by omega⟩ i j rfl (show 1024 * (t.val / 4) + j.val = 1024 * ((t.val - 1 - 1 - 1) / 4) + j.val by omega),
    step_apply m c ⟨t.val - 1 - 1, q2⟩ 1 (show (t.val - 1 - 1) % 4 = 1 by omega) i ⟨1024 * (t.val / 4) + j.val, by omega⟩ i j rfl (show 1024 * (t.val / 4) + j.val = 1024 * ((t.val - 1 - 1) / 4) + j.val by omega),
    step_apply m c ⟨t.val - 1, q1⟩ 2 (show (t.val - 1) % 4 = 2 by omega) i ⟨1024 * (t.val / 4) + j.val, by omega⟩ i j rfl (show 1024 * (t.val / 4) + j.val = 1024 * ((t.val - 1) / 4) + j.val by omega),
    step_apply m c t 3 ht i ⟨1024 * (t.val / 4) + j.val, by omega⟩ i j rfl rfl]
  unfold out group
  rw [Cert.Sums.four]
  simp only [Nat.mul_zero, Nat.zero_add, Nat.mul_one, Nat.reduceMul]
  rfl

end Cert.Kernel10Ideal.Product

namespace Cert.Reference10Ideal.Product

open Cert.Reference10Ideal Cert.Reference10Ideal.Gen

theorem value (x : FVec Ideal S4096x1024 .bf16) (w : FVec Ideal S4096x2048 .bf16) :
    (transpose S1024x2048 [1, 0] (Host.dotGeneral (F := Ideal) (φ₁ := .f32) (φ₂ := .f32) dot_S4096x2048_S4096x1024_S2048x1024_0_0_1_1_n_n none (extf .f32 w bitsLt_bf16_f32) (extf .f32 x bitsLt_bf16_f32) : FVec Ideal S2048x1024 .f32) transposes_S2048x1024_S1024x2048_1_0 : FVec Ideal S1024x2048 .f32)
      = (Cert.Kernel10Ideal.Product.out x w : FVec Ideal S1024x2048 .f32) := by
  refine ix2_all fun i j => ?_
  pointwise [Cert.Kernel10Ideal.Product.out]
  exact Finset.sum_congr rfl fun k _ => mul_comm _ _

/-- The reference ends with its arguments unchanged and every counter at zero. -/
theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h => ⟨fun c => (h c).2, sem_eq_zero_of_no_sems (by decide) _⟩) (Cert.Reference10Ideal.Value.run m g)

/-- The value claim. -/
theorem algebraic : Cert.algebraic_Kernel10Ideal_Reference10Ideal := by
  intro m g m' g' _ hargs
  refine ⟨fun c => Cert.Kernel10Ideal.Product.out (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)), ?_, ?_⟩
  · exact (θ_run Cert.Kernel10Ideal.defs _ _).mono (fun r h c => ⟨(h c).1.trans (Cert.Kernel10Ideal.Product.final m c), (h c).2⟩) (Cert.Kernel10Ideal.Value.run_blocks m g)
  · refine (θ_run defs _ _).mono (fun r h c => ⟨(h c).1.trans ?_, (h c).2⟩) (Cert.Reference10Ideal.Value.run m' g')
    obtain ⟨a0, a1⟩ := hargs c
    refine (value _ _).trans ?_
    rw [a0, a1]

end Cert.Reference10Ideal.Product

end
-- ==== Proof.Pw1Dg.lean ====
/- The gradient of the convolution's first pointwise product in its input: the call's two steps over the lanes are the reference's one product. -/
module

public import proofs.«01_k».proof.Defs
public import proofs.«01_k».proof.Proof.Pw1Wg
public import proofs.«01_k».proof.Proof.Gen.Kernel11Ideal.Value
public import proofs.«01_k».proof.Proof.Gen.Reference11Ideal.Run

@[expose] public section

set_option maxRecDepth 16384

noncomputable section

open Idealize.ShloMosaic Idealize.ShloMosaic.TcCoe Idealize.ShloMosaic.Tactic Idealize.SL.Sem
open Cert.Products
open Cert.Sums (z2)
open Cert.RealArrays (ix2_all)

namespace Cert.Kernel11Ideal.Product

open Cert.Kernel11Ideal Cert.Kernel11Ideal.Gen

section
variable {F : FTy → Type} [FloatOps F] (c : Dev nD) (i : grid0.Coords) (a3 : Memref sig .tc .vmem S1024x1024 .bf16) (h3 : a3.IsWhole) (a4 : Memref sig .tc .vmem S1024x1024 .bf16) (h4 : a4.IsWhole)
    (a5 : Memref sig .tc .vmem S1024x1024 .f32) (h5 : a5.IsWhole) (a6 : Memref sig .tc .vmem S1024x1024 .f32) (h6 : a6.IsWhole)
    (x0 : Vec F S1024x1024 .bf16) (x1 : Vec F S1024x1024 .bf16) (s : Vec F S1024x1024 .f32)

/-- What the first step leaves in the accumulator. -/
theorem acc_first (hc0 : cond0_0 i) (hc1 : ¬cond0_1 i) (hc2 : ¬cond0_2 i) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero (S := S1024x1024) z2]
  unfold k0_pay2
  simp only [View.readAt_eq_ld, h3.read_unread, h4.read_unread, View.ld_unit_zero (S := S1024x1024) z2, shapeCast_self]

/-- What the last step leaves in the result's block. -/
theorem out_last (hc0 : ¬cond0_0 i) (hc1 : cond0_1 i) (hc2 : cond0_2 i) :
    out0_B_2 c i a3 h3 a4 h4 a5 h5 a6 h6 hc0 hc1 hc2 x0 x1 s = addf s (k0_pay1 x0 x1) := by
  unfold out0_B_2
  rw [View.read_writes_eq_canon _ _ _ (cover0_B_2 c i a3 h3 a4 h4 a5 h5 a6 h6 hc0 hc1 hc2 x0 x1 s)]
  unfold kernelRun0_B
  dsimp only
  sl_unfold_words
  rw [View.canon_unit_zero (S := S1024x1024) z2, View.readCov_unit_zero (S := S1024x1024) _ z2]
  unfold k0_pay3
  simp only [View.readAt_eq_ld, h3.read_unread, h4.read_unread, h6.read_unread, View.ld_unit_zero (S := S1024x1024) z2, shapeCast_self]

end

variable (m : (ℓ : Loc nD τ sig) → Buf (Elt Ideal) ℓ) (c : Dev nD)

theorem index_0 : ∀ t : Fin cfg0.N, (cfg0.win 0).index t 0 = t.val / 2 ∧ (cfg0.win 0).index t 1 = t.val % 2 := by decide +kernel
theorem index_1 : ∀ t : Fin cfg0.N, (cfg0.win 1).index t 0 = 0 ∧ (cfg0.win 1).index t 1 = t.val % 2 := by decide +kernel
theorem index_2 : ∀ t : Fin cfg0.N, (cfg0.win 2).index t 0 = t.val / 2 ∧ (cfg0.win 2).index t 1 = 0 := by decide +kernel

theorem read_0 (t : Fin cfg0.N) (y : S1024x1024.Idx) (r : Fin 4096) (s : Fin 2048) (hr : r.val = 1024 * (t.val / 2) + (y 0).val) (hs : s.val = 1024 * (t.val % 2) + (y 1).val) :
    (iblk m c 0 t : Vec Ideal S1024x1024 .bf16) y = (m ((c : Thread nD τ).loc main_arg0) : FVec Ideal S4096x2048 .bf16) (ix2 r s) := by
  show V m c main_arg0 (((cfg0.win 0).blk t).view.emb y) = _
  rw [V_main_arg0]
  obtain ⟨e0, e1⟩ := index_0 t
  exact congrArg _ (at_ix2 _ r s (by rw [hr]; blk_simp [e0]; omega) (by rw [hs]; blk_simp [e1]; omega))

theorem read_1 (t : Fin cfg0.N) (y : S1024x1024.Idx) (r : Fin 1024) (s : Fin 2048) (hr : r.val = (y 0).val) (hs : s.val = 1024 * (t.val % 2) + (y 1).val) :
    (iblk m c 1 t : Vec Ideal S1024x1024 .bf16) y = (m ((c : Thread nD τ).loc main_arg1) : FVec Ideal S1024x2048 .bf16) (ix2 r s) := by
  show V m c main_arg1 (((cfg0.win 1).blk t).view.emb y) = _
  rw [V_main_arg1]
  obtain ⟨e0, e1⟩ := index_1 t
  exact congrArg _ (at_ix2 _ r s (by rw [hr]; blk_simp [e0]) (by rw [hs]; blk_simp [e1]; omega))

/-- One step's product. -/
theorem part_apply (x0 : Vec Ideal S1024x1024 .bf16) (x1 : Vec Ideal S1024x1024 .bf16) (i : Fin 1024) (j : Fin 1024) :
    (k0_pay1 x0 x1 : FVec Ideal S1024x1024 .f32) (ix2 i j) = ∑ k : Fin 1024, x0 (ix2 i k) * x1 (ix2 j k) := by
  pointwise [k0_pay1]

/-- The reference's result, at an entry. -/
def out (x : FVec Ideal S4096x2048 .bf16) (w : FVec Ideal S1024x2048 .bf16) : FVec Ideal S4096x1024 .f32 := fun i =>
  ∑ k : Fin 2048, x (ix2 (i 0) k) * w (ix2 (i 1) k)

/-- The part of it that sums over block `q` of the terms. -/
def group (x : FVec Ideal S4096x2048 .bf16) (w : FVec Ideal S1024x2048 .bf16) (q : ℕ) (hq : q < 2) (u : Fin 4096) (v : Fin 1024) : EReal :=
  ∑ k : Fin 1024, x (ix2 u (⟨1024 * q + k.val, by omega⟩ : Fin 2048)) * w (ix2 v (⟨1024 * q + k.val, by omega⟩ : Fin 2048))

/-- One step's product, in the arguments. -/
theorem step_apply (t : Fin cfg0.N) (q : ℕ) (hq : t.val % 2 = q) (u : Fin 4096) (v : Fin 1024) (i : Fin 1024) (j : Fin 1024)
    (hu : u.val = 1024 * (t.val / 2) + i.val) (hv : v.val = j.val) :
    (k0_pay1 (iblk m c 0 t : Vec Ideal S1024x1024 .bf16) (iblk m c 1 t : Vec Ideal S1024x1024 .bf16) : FVec Ideal S1024x1024 .f32) (ix2 i j)
      = group (m ((c : Thread nD τ).loc main_arg0)) (m ((c : Thread nD τ).loc main_arg1)) q (by omega) u v := by
  rw [part_apply]
  subst hq
  refine Finset.sum_congr rfl fun k _ => ?_
  rw [read_0 m c t (ix2 i k) u ⟨1024 * (t.val % 2) + k.val, by omega⟩ hu rfl, read_1 m c t (ix2 j k) v ⟨1024 * (t.val % 2) + k.val, by omega⟩ hv rfl]

theorem final : (dats m 0 c).arrAt 2 cfg0.N = out (m ((c : Thread nD τ).loc main_arg0)) (m ((c : Thread nD τ).loc main_arg1)) := by
  refine (dats m 0 c).arrAt_eq_of_cover 2 _ (fun t hf => ?_) (fun i => (Cert.Kernel11Ideal.Value.covered_iff2 i).2 (by
    have h0 : (i 0).val < 4096 := (i 0).isLt; have h1 : (i 1).val < 1024 := (i 1).isLt; omega))
  have hN : cfg0.N = 8 := N_0
  have ht : t.val % 2 = 1 := (flush0_2 t).mp hf
  have hlt : t.val < 8 := hN ▸ t.isLt
  have q1 : t.val - 1 < cfg0.N := by omega
  rw [Cert.Kernel11Ideal.Value.flushed2_B m c t (by omega) ht ht, out_last,
    outsAt0_A m c ⟨t.val - 1, q1⟩ (show (t.val - 1) % 2 = 0 by omega) (show ¬(t.val - 1) % 2 = 1 by omega) (show ¬(t.val - 1) % 2 = 1 by omega)]
  dsimp only
  rw [acc_first]
  refine ix2_all (a := 1024) (b := 1024) fun i j => ?_
  obtain ⟨e0, e1⟩ := index_2 t
  have hi' := i.isLt
  have hj' := j.isLt
  have hi : ((cfg0.win 2).blk t).view.emb (ix2 i j) = (ix2 (⟨1024 * (t.val / 2) + i.val, by omega⟩ : Fin 4096) j : S4096x1024.Idx) :=
    at_ix2 _ _ _ (by show _ = 1024 * (t.val / 2) + i.val; blk_simp [e0]; omega) (by blk_simp [e1])
  show (k0_pay1 _ _ : FVec Ideal S1024x1024 .f32) (ix2 i j) + (k0_pay1 _ _ : FVec Ideal S1024x1024 .f32) (ix2 i j)
    = out (m ((c : Thread nD τ).loc main_arg0)) (m ((c : Thread nD τ).loc main_arg1)) (((cfg0.win 2).blk t).view.emb (ix2 i j))
  rw [hi, step_apply m c ⟨t.val - 1, q1⟩ 0 (show (t.val - 1) % 2 = 0 by omega) ⟨1024 * (t.val / 2) + i.val, by omega⟩ j i j (show 1024 * (t.val / 2) + i.val = 1024 * ((t.val - 1) / 2) + i.val by omega) rfl,
    step_apply m c t 1 ht ⟨1024 * (t.val / 2) + i.val, by omega⟩ j i j rfl rfl]
  unfold out group
  rw [two]
  simp only [Nat.mul_zero, Nat.zero_add, Nat.mul_one, Nat.reduceMul]
  rfl

end Cert.Kernel11Ideal.Product

namespace Cert.Reference11Ideal.Product

open Cert.Reference11Ideal Cert.Reference11Ideal.Gen

theorem value (x : FVec Ideal S4096x2048 .bf16) (w : FVec Ideal S1024x2048 .bf16) :
    (Host.dotGeneral (F := Ideal) (φ₁ := .f32) (φ₂ := .f32) dot_S4096x2048_S1024x2048_S4096x1024_1_1_0_0_n_n none (extf .f32 x bitsLt_bf16_f32) (extf .f32 w bitsLt_bf16_f32) : FVec Ideal S4096x1024 .f32)
      = (Cert.Kernel11Ideal.Product.out x w : FVec Ideal S4096x1024 .f32) := by
  refine ix2_all fun i j => ?_
  pointwise [Cert.Kernel11Ideal.Product.out]

/-- The reference ends with its arguments unchanged and every counter at zero. -/
theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h => ⟨fun c => (h c).2, sem_eq_zero_of_no_sems (by decide) _⟩) (Cert.Reference11Ideal.Value.run m g)

/-- The value claim. -/
theorem algebraic : Cert.algebraic_Kernel11Ideal_Reference11Ideal := by
  intro m g m' g' _ hargs
  refine ⟨fun c => Cert.Kernel11Ideal.Product.out (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)), ?_, ?_⟩
  · exact (θ_run Cert.Kernel11Ideal.defs _ _).mono (fun r h c => ⟨(h c).1.trans (Cert.Kernel11Ideal.Product.final m c), (h c).2⟩) (Cert.Kernel11Ideal.Value.run_blocks m g)
  · refine (θ_run defs _ _).mono (fun r h c => ⟨(h c).1.trans ?_, (h c).2⟩) (Cert.Reference11Ideal.Value.run m' g')
    obtain ⟨a0, a1⟩ := hargs c
    refine (value _ _).trans ?_
    rw [a0, a1]

end Cert.Reference11Ideal.Product

end
-- ==== Proof.Pw1.lean ====
/- The convolution's first pointwise product: the blocks the call writes are those of the reference's product and bias. -/
module

public import proofs.«01_k».proof.Defs
public import proofs.«01_k».proof.Proof.Pw1Dg
public import proofs.«01_k».proof.Proof.Gen.Kernel14Ideal.Value
public import proofs.«01_k».proof.Proof.Gen.Reference14Ideal.Run

@[expose] public section

set_option maxRecDepth 16384

noncomputable section

open Idealize.ShloMosaic Idealize.ShloMosaic.TcCoe Idealize.ShloMosaic.Tactic Idealize.SL.Sem
open Cert.Products
open Cert.Sums (z2)
open Cert.RealArrays (ix2_all)

namespace Cert.Kernel14Ideal.Product

open Cert.Kernel14Ideal Cert.Kernel14Ideal.Gen

variable (m : (ℓ : Loc nD τ sig) → Buf (Elt Ideal) ℓ) (c : Dev nD)

theorem index_0 : ∀ t : Fin cfg0.N, (cfg0.win 0).index t 0 = t.val / 2 ∧ (cfg0.win 0).index t 1 = 0 := by decide +kernel
theorem index_1 : ∀ t : Fin cfg0.N, (cfg0.win 1).index t 0 = 0 ∧ (cfg0.win 1).index t 1 = t.val % 2 := by decide +kernel
theorem index_2 : ∀ t : Fin cfg0.N, (cfg0.win 2).index t 0 = 0 ∧ (cfg0.win 2).index t 1 = t.val % 2 := by decide +kernel
theorem index_3 : ∀ t : Fin cfg0.N, (cfg0.win 3).index t 0 = t.val / 2 ∧ (cfg0.win 3).index t 1 = t.val % 2 := by decide +kernel
theorem covers_3 : (cfg0.win 3).Covers := by decide +kernel

/-- The block a step writes, from the blocks it reads. -/
theorem out_block (x0 : Vec Ideal S1024x1024 .bf16) (x1 : Vec Ideal S1024x1024 .bf16) (x2 : Vec Ideal S1x1024 .f32) : out0_3 x0 x1 x2 = k0_pay1 x0 x1 x2 := by
  unfold out0_3
  rw [View.canon_unit_zero (S := S1024x1024) z2, View.ld_unit_zero (S := S1024x1024) z2, View.ld_unit_zero (S := S1024x1024) z2, View.ld_unit_zero (S := S1x1024) z2]

theorem read_0 (t : Fin cfg0.N) (y : S1024x1024.Idx) (r : Fin 4096) (s : Fin 1024) (hr : r.val = 1024 * (t.val / 2) + (y 0).val) (hs : s.val = (y 1).val) :
    (iblk m c 0 t : Vec Ideal S1024x1024 .bf16) y = (m ((c : Thread nD τ).loc main_arg0) : FVec Ideal S4096x1024 .bf16) (ix2 r s) := by
  show V m c main_arg0 (((cfg0.win 0).blk t).view.emb y) = _
  rw [V_main_arg0]
  obtain ⟨e0, e1⟩ := index_0 t
  exact congrArg _ (at_ix2 _ r s (by rw [hr]; blk_simp [e0]; omega) (by rw [hs]; blk_simp [e1]))

theorem read_1 (t : Fin cfg0.N) (y : S1024x1024.Idx) (r : Fin 1024) (s : Fin 2048) (hr : r.val = (y 0).val) (hs : s.val = 1024 * (t.val % 2) + (y 1).val) :
    (iblk m c 1 t : Vec Ideal S1024x1024 .bf16) y = (m ((c : Thread nD τ).loc main_arg1) : FVec Ideal S1024x2048 .bf16) (ix2 r s) := by
  show V m c main_arg1 (((cfg0.win 1).blk t).view.emb y) = _
  rw [V_main_arg1]
  obtain ⟨e0, e1⟩ := index_1 t
  exact congrArg _ (at_ix2 _ r s (by rw [hr]; blk_simp [e0]) (by rw [hs]; blk_simp [e1]; omega))

theorem row : (V m c main_v0 : FVec Ideal S1x2048 .f32) = shapeCast S1x2048 (m ((c : Thread nD τ).loc main_arg2) : FVec Ideal S2048 .f32) shapeCasts_S2048_S1x2048 := by
  show StableHlo.after hostOps0 _ _ = _
  after_results <;> rfl

theorem row_apply (b : FVec Ideal S2048 .f32) (s : Fin 2048) : (shapeCast S1x2048 b shapeCasts_S2048_S1x2048 : FVec Ideal S1x2048 .f32) (ix2 0 s) = b (ix1 s) := by
  pointwise []

theorem read_2 (t : Fin cfg0.N) (j : Fin 1024) (s : Fin 2048) (hs : s.val = 1024 * (t.val % 2) + j.val) :
    (iblk m c 2 t : Vec Ideal S1x1024 .f32) (ix2 0 j) = (m ((c : Thread nD τ).loc main_arg2) : FVec Ideal S2048 .f32) (ix1 s) := by
  show V m c main_v0 (((cfg0.win 2).blk t).view.emb (ix2 (0 : Fin 1) j)) = _
  obtain ⟨e0, e1⟩ := index_2 t
  have hi : ((cfg0.win 2).blk t).view.emb (ix2 (0 : Fin 1) j) = (ix2 (0 : Fin 1) s : S1x2048.Idx) :=
    at_ix2 _ _ _ (by blk_simp [e0]) (by rw [hs]; blk_simp [e1]; omega)
  rw [hi]
  exact (congrFun (row m c) _).trans (row_apply _ s)

/-- One step's product. -/
theorem block_apply (x0 : Vec Ideal S1024x1024 .bf16) (x1 : Vec Ideal S1024x1024 .bf16) (x2 : Vec Ideal S1x1024 .f32) (i : Fin 1024) (j : Fin 1024) :
    (k0_pay1 x0 x1 x2 : FVec Ideal S1024x1024 .f32) (ix2 i j) = (∑ k : Fin 1024, x0 (ix2 i k) * x1 (ix2 k j)) + x2 (ix2 0 j) := by
  pointwise [k0_pay1]

/-- The reference's result, at an entry. -/
def out (x : FVec Ideal S4096x1024 .bf16) (w : FVec Ideal S1024x2048 .bf16) (b : FVec Ideal S2048 .f32) : FVec Ideal S4096x2048 .f32 := fun i =>
  (∑ k : Fin 1024, x (ix2 (i 0) k) * w (ix2 k (i 1))) + b (ix1 (i 1))

theorem final : (dats m 0 c).arrAt 3 cfg0.N = out (m ((c : Thread nD τ).loc main_arg0)) (m ((c : Thread nD τ).loc main_arg1)) (m ((c : Thread nD τ).loc main_arg2)) := by
  refine (dats m 0 c).arrAt_eq_of_cover 3 _ (fun t hf => ?_) (covers_3.cover _ (Memref.isWhole_whole _))
  have hN : cfg0.N = 8 := N_0
  have hlt : t.val < 8 := hN ▸ t.isLt
  rw [Cert.Kernel14Ideal.Value.flushed3 m c t, out_block]
  refine ix2_all (a := 1024) (b := 1024) fun i j => ?_
  obtain ⟨e0, e1⟩ := index_3 t
  have hi' := i.isLt
  have hj' := j.isLt
  have hi : ((cfg0.win 3).blk t).view.emb (ix2 i j) = (ix2 (⟨1024 * (t.val / 2) + i.val, by omega⟩ : Fin 4096) (⟨1024 * (t.val % 2) + j.val, by omega⟩ : Fin 2048) : S4096x2048.Idx) :=
    at_ix2 _ _ _ (by show _ = 1024 * (t.val / 2) + i.val; blk_simp [e0]; omega) (by show _ = 1024 * (t.val % 2) + j.val; blk_simp [e1]; omega)
  show (k0_pay1 (iblk m c 0 t : Vec Ideal S1024x1024 .bf16) (iblk m c 1 t : Vec Ideal S1024x1024 .bf16) (iblk m c 2 t : Vec Ideal S1x1024 .f32) : FVec Ideal S1024x1024 .f32) (ix2 i j)
    = out (m ((c : Thread nD τ).loc main_arg0)) (m ((c : Thread nD τ).loc main_arg1)) (m ((c : Thread nD τ).loc main_arg2)) (((cfg0.win 3).blk t).view.emb (ix2 i j))
  rw [hi, block_apply]
  unfold out
  rw [read_2 m c t j ⟨1024 * (t.val % 2) + j.val, by omega⟩ rfl]
  refine congrArg (fun x : EReal => x + _) (Finset.sum_congr rfl fun k _ => ?_)
  rw [read_0 m c t (ix2 i k) ⟨1024 * (t.val / 2) + i.val, by omega⟩ k rfl rfl, read_1 m c t (ix2 k j) k ⟨1024 * (t.val % 2) + j.val, by omega⟩ rfl rfl]
  rfl

end Cert.Kernel14Ideal.Product

namespace Cert.Reference14Ideal.Product

open Cert.Reference14Ideal Cert.Reference14Ideal.Gen

theorem value (x : FVec Ideal S4096x1024 .bf16) (w : FVec Ideal S1024x2048 .bf16) (b : FVec Ideal S2048 .f32) :
    (addf (Host.dotGeneral (F := Ideal) (φ₁ := .f32) (φ₂ := .f32) dot_S4096x1024_S1024x2048_S4096x2048_1_0_0_1_n_n none (extf .f32 x bitsLt_bf16_f32) (extf .f32 w bitsLt_bf16_f32) : FVec Ideal S4096x2048 .f32)
      (broadcastInDim S4096x2048 ![0, 1] bcast_S1x2048_S4096x2048_0_1 (broadcastInDim S1x2048 ![1] bcast_S2048_S1x2048_1 b)) : FVec Ideal S4096x2048 .f32)
      = (Cert.Kernel14Ideal.Product.out x w b : FVec Ideal S4096x2048 .f32) := by
  refine ix2_all fun i j => ?_
  pointwise [Cert.Kernel14Ideal.Product.out]

/-- The reference ends with its arguments unchanged and every counter at zero. -/
theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun r h => ⟨fun c => (h c).2, sem_eq_zero_of_no_sems (by decide) _⟩) (Cert.Reference14Ideal.Value.run m g)

/-- The value claim. -/
theorem algebraic : Cert.algebraic_Kernel14Ideal_Reference14Ideal := by
  intro m g m' g' _ hargs
  refine ⟨fun c => Cert.Kernel14Ideal.Product.out (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)), ?_, ?_⟩
  · exact (θ_run Cert.Kernel14Ideal.defs _ _).mono (fun r h c => ⟨(h c).1.trans (Cert.Kernel14Ideal.Product.final m c), (h c).2⟩) (Cert.Kernel14Ideal.Value.run_blocks m g)
  · refine (θ_run defs _ _).mono (fun r h c => ⟨(h c).1.trans ?_, (h c).2⟩) (Cert.Reference14Ideal.Value.run m' g')
    obtain ⟨a0, a1, a2⟩ := hargs c
    refine (value _ _ _).trans ?_
    rw [a0, a1, a2]

end Cert.Reference14Ideal.Product

end
-- ==== Proof.Pw2.lean ====
/- The convolution's second pointwise product: the blocks the call writes are those of the reference's product and bias. -/
module

public import proofs.«01_k».proof.Defs
public import proofs.«01_k».proof.Proof.Pw1
public import proofs.«01_k».proof.Proof.Gen.Kernel15Ideal.Value
public import proofs.«01_k».proof.Proof.Gen.Reference15Ideal.Run

@[expose] public section

set_option maxRecDepth 16384

noncomputable section

open Idealize.ShloMosaic Idealize.ShloMosaic.TcCoe Idealize.ShloMosaic.Tactic Idealize.SL.Sem
open Cert.Products
open Cert.Sums (z2)
open Cert.RealArrays (ix2_all)

namespace Cert.Kernel15Ideal.Product

open Cert.Kernel15Ideal Cert.Kernel15Ideal.Gen

variable (m : (ℓ : Loc nD τ sig) → Buf (Elt Ideal) ℓ) (c : Dev nD)

theorem index_0 : ∀ t : Fin cfg0.N, (cfg0.win 0).index t 0 = t.val ∧ (cfg0.win 0).index t 1 = 0 := by decide +kernel
theorem index_1 : ∀ t : Fin cfg0.N, (cfg0.win 1).index t 0 = 0 ∧ (cfg0.win 1).index t 1 = 0 := by decide +kernel
theorem index_2 : ∀ t : Fin cfg0.N, (cfg0.win 2).index t 0 = 0 ∧ (cfg0.win 2).index t 1 = 0 := by decide +kernel
theorem index_3 : ∀ t : Fin cfg0.N, (cfg0.win 3).index t 0 = t.val ∧ (cfg0.win 3).index t 1 = 0 := by decide +kernel
theorem covers_3 : (cfg0.win 3).Covers := by decide +kernel

/-- The block a step writes, from the blocks it reads. -/
theorem out_block (x0 : Vec Ideal S1024x1024 .bf16) (x1 : Vec Ideal S1024x1024 .bf16) (x2 : Vec Ideal S1x1024 .f32) : out0_3 x0 x1 x2 = k0_pay1 x0 x1 x2 := by
  unfold out0_3
  rw [View.canon_unit_zero (S := S1024x1024) z2, View.ld_unit_zero (S := S1024x1024) z2, View.ld_unit_zero (S := S1024x1024) z2, View.ld_unit_zero (S := S1x1024) z2]

theorem read_0 (t : Fin cfg0.N) (y : S1024x1024.Idx) (r : Fin 4096) (s : Fin 1024) (hr : r.val = 1024 * (t.val) + (y 0).val) (hs : s.val = (y 1).val) :
    (iblk m c 0 t : Vec Ideal S1024x1024 .bf16) y = (m ((c : Thread nD τ).loc main_arg0) : FVec Ideal S4096x1024 .bf16) (ix2 r s) := by
  show V m c main_arg0 (((cfg0.win 0).blk t).view.emb y) = _
  rw [V_main_arg0]
  obtain ⟨e0, e1⟩ := index_0 t
  exact congrArg _ (at_ix2 _ r s (by rw [hr]; blk_simp [e0]; omega) (by rw [hs]; blk_simp [e1]))

theorem read_1 (t : Fin cfg0.N) (y : S1024x1024.Idx) (r s : Fin 1024) (hr : r.val = (y 0).val) (hs : s.val = (y 1).val) :
    (iblk m c 1 t : Vec Ideal S1024x1024 .bf16) y = (m ((c : Thread nD τ).loc main_arg1) : FVec Ideal S1024x1024 .bf16) (ix2 r s) := by
  show V m c main_arg1 (((cfg0.win 1).blk t).view.emb y) = _
  rw [V_main_arg1]
  obtain ⟨e0, e1⟩ := index_1 t
  exact congrArg _ (at_ix2 _ r s (by rw [hr]; blk_simp [e0]) (by rw [hs]; blk_simp [e1]))

theorem row : (V m c main_v0 : FVec Ideal S1x1024 .f32) = shapeCast S1x1024 (m ((c : Thread nD τ).loc main_arg2) : FVec Ideal S1024 .f32) shapeCasts_S1024_S1x1024 := by
  show StableHlo.after hostOps0 _ _ = _
  after_results <;> rfl

theorem row_apply (b : FVec Ideal S1024 .f32) (s : Fin 1024) : (shapeCast S1x1024 b shapeCasts_S1024_S1x1024 : FVec Ideal S1x1024 .f32) (ix2 0 s) = b (ix1 s) := by
  pointwise []

theorem read_2 (t : Fin cfg0.N) (j : Fin 1024) (s : Fin 1024) (hs : s.val = j.val) :
    (iblk m c 2 t : Vec Ideal S1x1024 .f32) (ix2 0 j) = (m ((c : Thread nD τ).loc main_arg2) : FVec Ideal S1024 .f32) (ix1 s) := by
  show V m c main_v0 (((cfg0.win 2).blk t).view.emb (ix2 (0 : Fin 1) j)) = _
  obtain ⟨e0, e1⟩ := index_2 t
  have hi : ((cfg0.win 2).blk t).view.emb (ix2 (0 : Fin 1) j) = (ix2 (0 : Fin 1) s : S1x1024.Idx) :=
    at_ix2 _ _ _ (by blk_simp [e0]) (by rw [hs]; blk_simp [e1])
  rw [hi]
  exact (congrFun (row m c) _).trans (row_apply _ s)

/-- One step's product. -/
theorem block_apply (x0 : Vec Ideal S1024x1024 .bf16) (x1 : Vec Ideal S1024x1024 .bf16) (x2 : Vec Ideal S1x1024 .f32) (i : Fin 1024) (j : Fin 1024) :
    (k0_pay1 x0 x1 x2 : FVec Ideal S1024x1024 .f32) (ix2 i j) = (∑ k : Fin 1024, x0 (ix2 i k) * x1 (ix2 k j)) + x2 (ix2 0 j) := by
  pointwise [k0_pay1]

/-- The reference's result, at an entry. -/
def out (x : FVec Ideal S4096x1024 .bf16) (w : FVec Ideal S1024x1024 .bf16) (b : FVec Ideal S1024 .f32) : FVec Ideal S4096x1024 .f32 := fun i =>
  (∑ k : Fin 1024, x (ix2 (i 0) k) * w (ix2 k (i 1))) + b (ix1 (i 1))

theorem final : (dats m 0 c).arrAt 3 cfg0.N = out (m ((c : Thread nD τ).loc main_arg0)) (m ((c : Thread nD τ).loc main_arg1)) (m ((c : Thread nD τ).loc main_arg2)) := by
  refine (dats m 0 c).arrAt_eq_of_cover 3 _ (fun t hf => ?_) (covers_3.cover _ (Memref.isWhole_whole _))
  have hN : cfg0.N = 4 := N_0
  have hlt : t.val < 4 := hN ▸ t.isLt
  rw [Cert.Kernel15Ideal.Value.flushed3 m c t, out_block]
  refine ix2_all (a := 1024) (b := 1024) fun i j => ?_
  obtain ⟨e0, e1⟩ := index_3 t
  have hi' := i.isLt
  have hj' := j.isLt
  have hi : ((cfg0.win 3).blk t).view.emb (ix2 i j) = (ix2 (⟨1024 * (t.val) + i.val, by omega⟩ : Fin 4096) j : S4096x1024.Idx) :=
    at_ix2 _ _ _ (by show _ = 1024 * (t.val) + i.val; blk_simp [e0]; omega) (by blk_simp [e1])
  show (k0_pay1 (iblk m c 0 t : Vec Ideal S1024x1024 .bf16) (iblk m c 1 t : Vec Ideal S1024x1024 .bf16) (iblk m c 2 t : Vec Ideal S1x1024 .f32) : FVec Ideal S1024x1024 .f32) (ix2 i j)
    = out (m ((c : Thread nD τ).loc main_arg0)) (m ((c : Thread nD τ).loc main_arg1)) (m ((c : Thread nD τ).loc main_arg2)) (((cfg0.win 3).blk t).view.emb (ix2 i j))
  rw [hi, block_apply]
  unfold out
  rw [read_2 m c t j j rfl]
  refine congrArg (fun x : EReal => x + _) (Finset.sum_congr rfl fun k _ => ?_)
  rw [read_0 m c t (ix2 i k) ⟨1024 * (t.val) + i.val, by omega⟩ k rfl rfl, read_1 m c t (ix2 k j) k j rfl rfl]
  rfl

end Cert.Kernel15Ideal.Product

namespace Cert.Reference15Ideal.Product

open Cert.Reference15Ideal Cert.Reference15Ideal.Gen

theorem value (x : FVec Ideal S4096x1024 .bf16) (w : FVec Ideal S1024x1024 .bf16) (b : FVec Ideal S1024 .f32) :
    (addf (Host.dotGeneral (F := Ideal) (φ₁ := .f32) (φ₂ := .f32) dot_S4096x1024_S1024x1024_S4096x1024_1_0_0_1_n_n none (extf .f32 x bitsLt_bf16_f32) (extf .f32 w bitsLt_bf16_f32) : FVec Ideal S4096x1024 .f32)
      (broadcastInDim S4096x1024 ![0, 1] bcast_S1x1024_S4096x1024_0_1 (broadcastInDim S1x1024 ![1] bcast_S1024_S1x1024_1 b)) : FVec Ideal S4096x1024 .f32)
      = (Cert.Kernel15Ideal.Product.out x w b : FVec Ideal S4096x1024 .f32) := by
  refine ix2_all fun i j => ?_
  pointwise [Cert.Kernel15Ideal.Product.out]

/-- The reference ends with its arguments unchanged and every counter at zero. -/
theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun r h => ⟨fun c => (h c).2, sem_eq_zero_of_no_sems (by decide) _⟩) (Cert.Reference15Ideal.Value.run m g)

/-- The value claim. -/
theorem algebraic : Cert.algebraic_Kernel15Ideal_Reference15Ideal := by
  intro m g m' g' _ hargs
  refine ⟨fun c => Cert.Kernel15Ideal.Product.out (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)), ?_, ?_⟩
  · exact (θ_run Cert.Kernel15Ideal.defs _ _).mono (fun r h c => ⟨(h c).1.trans (Cert.Kernel15Ideal.Product.final m c), (h c).2⟩) (Cert.Kernel15Ideal.Value.run_blocks m g)
  · refine (θ_run defs _ _).mono (fun r h c => ⟨(h c).1.trans ?_, (h c).2⟩) (Cert.Reference15Ideal.Value.run m' g')
    obtain ⟨a0, a1, a2⟩ := hargs c
    refine (value _ _ _).trans ?_
    rw [a0, a1, a2]

end Cert.Reference15Ideal.Product

end
-- ==== Proof.DownWg.lean ====
/- The gradient of the joined down projections in their weights: the call's four steps over the rows are the reference's two products side by side. -/
module

public import proofs.«01_k».proof.Defs
public import proofs.«01_k».proof.Proof.Pw2
public import proofs.«01_k».proof.Proof.Gen.Kernel12Ideal.Value
public import proofs.«01_k».proof.Proof.Gen.Reference12Ideal.Run

@[expose] public section

set_option maxRecDepth 16384

noncomputable section

open Idealize.ShloMosaic Idealize.ShloMosaic.TcCoe Idealize.ShloMosaic.Tactic Idealize.SL.Sem
open Cert.Products
open Cert.Sums (z2)
open Cert.RealArrays (ix2_all)

namespace Cert.Kernel12Ideal.Product

open Cert.Kernel12Ideal Cert.Kernel12Ideal.Gen

section
variable {F : FTy → Type} [FloatOps F] (c : Dev nD) (i : grid0.Coords) (a3 : Memref sig .tc .vmem S1024x1024 .bf16) (h3 : a3.IsWhole) (a4 : Memref sig .tc .vmem S1024x672 .bf16) (h4 : a4.IsWhole)
    (a5 : Memref sig .tc .vmem S1024x672 .f32) (h5 : a5.IsWhole) (a6 : Memref sig .tc .vmem S1024x672 .f32) (h6 : a6.IsWhole)
    (x0 : Vec F S1024x1024 .bf16) (x1 : Vec F S1024x672 .bf16) (s : Vec F S1024x672 .f32)

/-- What the first step leaves in the accumulator. -/
theorem acc_first (hc0 : cond0_0 i) (hc1 : ¬cond0_1 i) (hc2 : ¬cond0_2 i) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero (S := S1024x672) z2]
  unfold k0_pay2
  simp only [View.readAt_eq_ld, h3.read_unread, h4.read_unread, View.ld_unit_zero (S := S1024x1024) z2, View.ld_unit_zero (S := S1024x672) z2, shapeCast_self]

/-- What a middle step leaves in the accumulator. -/
theorem acc_middle (hc0 : ¬cond0_0 i) (hc1 : cond0_1 i) (hc2 : ¬cond0_2 i) :
    sout0_B_0 c i a3 h3 a4 h4 a5 h5 a6 h6 hc0 hc1 hc2 x0 x1 s = addf s (k0_pay1 x0 x1) := by
  unfold sout0_B_0
  rw [View.read_writes_eq_canon _ _ _ (scover0_B_0 c i a3 h3 a4 h4 a5 h5 a6 h6 hc0 hc1 hc2 x0 x1 s)]
  unfold kernelRun0_B
  dsimp only
  sl_unfold_words
  rw [View.canon_unit_zero (S := S1024x672) z2]
  unfold k0_pay3
  simp only [View.readAt_eq_ld, h3.read_unread, h4.read_unread, h6.read_unread, View.ld_unit_zero (S := S1024x1024) z2, View.ld_unit_zero (S := S1024x672) z2, shapeCast_self]

/-- What the last step leaves in the result's block. -/
theorem out_last (hc0 : ¬cond0_0 i) (hc1 : cond0_1 i) (hc2 : cond0_2 i) :
    out0_C_2 c i a3 h3 a4 h4 a5 h5 a6 h6 hc0 hc1 hc2 x0 x1 s = addf s (k0_pay1 x0 x1) := by
  unfold out0_C_2
  rw [View.read_writes_eq_canon _ _ _ (cover0_C_2 c i a3 h3 a4 h4 a5 h5 a6 h6 hc0 hc1 hc2 x0 x1 s)]
  unfold kernelRun0_C
  dsimp only
  sl_unfold_words
  rw [View.canon_unit_zero (S := S1024x672) z2, View.readCov_unit_zero (S := S1024x672) _ z2]
  unfold k0_pay3
  simp only [View.readAt_eq_ld, h3.read_unread, h4.read_unread, h6.read_unread, View.ld_unit_zero (S := S1024x1024) z2, View.ld_unit_zero (S := S1024x672) z2, shapeCast_self]

end

variable (m : (ℓ : Loc nD τ sig) → Buf (Elt Ideal) ℓ) (c : Dev nD)

theorem index_0 : ∀ t : Fin cfg0.N, (cfg0.win 0).index t 0 = t.val % 4 ∧ (cfg0.win 0).index t 1 = 0 := by decide +kernel
theorem index_1 : ∀ t : Fin cfg0.N, (cfg0.win 1).index t 0 = t.val % 4 ∧ (cfg0.win 1).index t 1 = 0 := by decide +kernel
theorem index_2 : ∀ t : Fin cfg0.N, (cfg0.win 2).index t 0 = 0 ∧ (cfg0.win 2).index t 1 = 0 := by decide +kernel

theorem read_0 (t : Fin cfg0.N) (y : S1024x1024.Idx) (r : Fin 4096) (s : Fin 1024) (hr : r.val = 1024 * (t.val % 4) + (y 0).val) (hs : s.val = (y 1).val) :
    (iblk m c 0 t : Vec Ideal S1024x1024 .bf16) y = (m ((c : Thread nD τ).loc main_arg0) : FVec Ideal S4096x1024 .bf16) (ix2 r s) := by
  show V m c main_arg0 (((cfg0.win 0).blk t).view.emb y) = _
  rw [V_main_arg0]
  obtain ⟨e0, e1⟩ := index_0 t
  exact congrArg _ (at_ix2 _ r s (by rw [hr]; blk_simp [e0]; omega) (by rw [hs]; blk_simp [e1]))

theorem read_1 (t : Fin cfg0.N) (y : S1024x672.Idx) (r : Fin 4096) (s : Fin 672) (hr : r.val = 1024 * (t.val % 4) + (y 0).val) (hs : s.val = (y 1).val) :
    (iblk m c 1 t : Vec Ideal S1024x672 .bf16) y = (m ((c : Thread nD τ).loc main_arg1) : FVec Ideal S4096x672 .bf16) (ix2 r s) := by
  show V m c main_arg1 (((cfg0.win 1).blk t).view.emb y) = _
  rw [V_main_arg1]
  obtain ⟨e0, e1⟩ := index_1 t
  exact congrArg _ (at_ix2 _ r s (by rw [hr]; blk_simp [e0]; omega) (by rw [hs]; blk_simp [e1]))

/-- One step's product. -/
theorem part_apply (x0 : Vec Ideal S1024x1024 .bf16) (x1 : Vec Ideal S1024x672 .bf16) (i : Fin 1024) (j : Fin 672) :
    (k0_pay1 x0 x1 : FVec Ideal S1024x672 .f32) (ix2 i j) = ∑ k : Fin 1024, x0 (ix2 k i) * x1 (ix2 k j) := by
  pointwise [k0_pay1]

/-- The reference's result, at an entry. -/
def out (x : FVec Ideal S4096x1024 .bf16) (w : FVec Ideal S4096x672 .bf16) : FVec Ideal S1024x672 .f32 := fun i =>
  ∑ k : Fin 4096, x (ix2 k (i 0)) * w (ix2 k (i 1))

/-- The part of it that sums over block `q` of the terms. -/
def group (x : FVec Ideal S4096x1024 .bf16) (w : FVec Ideal S4096x672 .bf16) (q : ℕ) (hq : q < 4) (u : Fin 1024) (v : Fin 672) : EReal :=
  ∑ k : Fin 1024, x (ix2 (⟨1024 * q + k.val, by omega⟩ : Fin 4096) u) * w (ix2 (⟨1024 * q + k.val, by omega⟩ : Fin 4096) v)

/-- One step's product, in the arguments. -/
theorem step_apply (t : Fin cfg0.N) (q : ℕ) (hq : t.val % 4 = q) (u : Fin 1024) (v : Fin 672) (i : Fin 1024) (j : Fin 672)
    (hu : u.val = i.val) (hv : v.val = j.val) :
    (k0_pay1 (iblk m c 0 t : Vec Ideal S1024x1024 .bf16) (iblk m c 1 t : Vec Ideal S1024x672 .bf16) : FVec Ideal S1024x672 .f32) (ix2 i j)
      = group (m ((c : Thread nD τ).loc main_arg0)) (m ((c : Thread nD τ).loc main_arg1)) q (by omega) u v := by
  rw [part_apply]
  subst hq
  refine Finset.sum_congr rfl fun k _ => ?_
  rw [read_0 m c t (ix2 k i) ⟨1024 * (t.val % 4) + k.val, by omega⟩ u rfl hu, read_1 m c t (ix2 k j) ⟨1024 * (t.val % 4) + k.val, by omega⟩ v rfl hv]

theorem final : (dats m 0 c).arrAt 2 cfg0.N = out (m ((c : Thread nD τ).loc main_arg0)) (m ((c : Thread nD τ).loc main_arg1)) := by
  refine (dats m 0 c).arrAt_eq_of_cover 2 _ (fun t hf => ?_) (fun i => (Cert.Kernel12Ideal.Value.covered_iff2 i).2 (by
    have h0 : (i 0).val < 1024 := (i 0).isLt; have h1 : (i 1).val < 672 := (i 1).isLt; omega))
  have hN : cfg0.N = 4 := N_0
  have ht : t.val % 4 = 3 := (flush0_2 t).mp hf
  have hlt : t.val < 4 := hN ▸ t.isLt
  have q1 : t.val - 1 < cfg0.N := by omega
  have q2 : t.val - 1 - 1 < cfg0.N := by omega
  have q3 : t.val - 1 - 1 - 1 < cfg0.N := by omega
  rw [Cert.Kernel12Ideal.Value.flushed2_C m c t (by omega) (by omega) ht, out_last,
    outsAt0_B m c ⟨t.val - 1, q1⟩ (show ¬(t.val - 1) % 4 = 0 by omega) (show 1 ≤ t.val - 1 by omega) (show ¬(t.val - 1) % 4 = 3 by omega)]
  dsimp only
  rw [acc_middle, outsAt0_B m c ⟨t.val - 1 - 1, q2⟩ (show ¬(t.val - 1 - 1) % 4 = 0 by omega) (show 1 ≤ t.val - 1 - 1 by omega) (show ¬(t.val - 1 - 1) % 4 = 3 by omega)]
  dsimp only
  rw [acc_middle, outsAt0_A m c ⟨t.val - 1 - 1 - 1, q3⟩ (show (t.val - 1 - 1 - 1) % 4 = 0 by omega) (show ¬1 ≤ t.val - 1 - 1 - 1 by omega) (show ¬(t.val - 1 - 1 - 1) % 4 = 3 by omega)]
  dsimp only
  rw [acc_first]
  refine ix2_all (a := 1024) (b := 672) fun i j => ?_
  obtain ⟨e0, e1⟩ := index_2 t
  have hi' := i.isLt
  have hj' := j.isLt
  have hi : ((cfg0.win 2).blk t).view.emb (ix2 i j) = (ix2 i j : S1024x672.Idx) :=
    at_ix2 _ _ _ (by blk_simp [e0]) (by blk_simp [e1])
  show (((k0_pay1 _ _ : FVec Ideal S1024x672 .f32) (ix2 i j) + (k0_pay1 _ _ : FVec Ideal S1024x672 .f32) (ix2 i j)) + (k0_pay1 _ _ : FVec Ideal S1024x672 .f32) (ix2 i j)) + (k0_pay1 _ _ : FVec Ideal S1024x672 .f32) (ix2 i j)
    = out (m ((c : Thread nD τ).loc main_arg0)) (m ((c : Thread nD τ).loc main_arg1)) (((cfg0.win 2).blk t).view.emb (ix2 i j))
  rw [hi, step_apply m c ⟨t.val - 1 - 1 - 1, q3⟩ 0 (show (t.val - 1 - 1 - 1) % 4 = 0 by omega) i j i j rfl rfl,
    step_apply m c ⟨t.val - 1 - 1, q2⟩ 1 (show (t.val - 1 - 1) % 4 = 1 by omega) i j i j rfl rfl,
    step_apply m c ⟨t.val - 1, q1⟩ 2 (show (t.val - 1) % 4 = 2 by omega) i j i j rfl rfl,
    step_apply m c t 3 ht i j i j rfl rfl]
  unfold out group
  rw [Cert.Sums.four]
  simp only [Nat.mul_zero, Nat.zero_add, Nat.mul_one, Nat.reduceMul]
  rfl

end Cert.Kernel12Ideal.Product

namespace Cert.Reference12Ideal.Product

open Cert.Reference12Ideal Cert.Reference12Ideal.Gen

theorem value (x : FVec Ideal S4096x1024 .bf16) (d : FVec Ideal S4096x672 .bf16) :
    (concatenate S1024x672 1 [⟨S1024x384, (transpose S1024x384 [1, 0] (Host.dotGeneral (F := Ideal) (φ₁ := .f32) (φ₂ := .f32) dot_S4096x384_S4096x1024_S384x1024_0_0_1_1_n_n none (extractStridedSlice S4096x384 ![0, 0] (extf .f32 d bitsLt_bf16_f32) slices_S4096x672_S4096x384_0_0) (extf .f32 x bitsLt_bf16_f32) : FVec Ideal S384x1024 .f32) transposes_S384x1024_S1024x384_1_0)⟩,
      ⟨S1024x288, (transpose S1024x288 [1, 0] (Host.dotGeneral (F := Ideal) (φ₁ := .f32) (φ₂ := .f32) dot_S4096x288_S4096x1024_S288x1024_0_0_1_1_n_n none (extractStridedSlice S4096x288 ![0, 384] (extf .f32 d bitsLt_bf16_f32) slices_S4096x672_S4096x288_0_384) (extf .f32 x bitsLt_bf16_f32) : FVec Ideal S288x1024 .f32) transposes_S288x1024_S1024x288_1_0)⟩] concatenates_S1024x384_S1024x288_S1024x672_d1 : FVec Ideal S1024x672 .f32)
      = (Cert.Kernel12Ideal.Product.out x d : FVec Ideal S1024x672 .f32) := by
  refine ix2_all fun i j => ?_
  pointwise [Cert.Kernel12Ideal.Product.out]
  by_cases h : j.val < 384
  · simp only [h, dif_pos]
    exact Finset.sum_congr rfl fun k _ => mul_comm _ _
  · simp only [h, dif_neg, not_false_iff]
    have hj : 384 + (j.val - 384) = j.val := by omega
    simp only [hj]
    exact Finset.sum_congr rfl fun k _ => mul_comm _ _

/-- The reference ends with its arguments unchanged and every counter at zero. -/
theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h => ⟨fun c => (h c).2, sem_eq_zero_of_no_sems (by decide) _⟩) (Cert.Reference12Ideal.Value.run m g)

/-- The value claim. -/
theorem algebraic : Cert.algebraic_Kernel12Ideal_Reference12Ideal := by
  intro m g m' g' _ hargs
  refine ⟨fun c => Cert.Kernel12Ideal.Product.out (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)), ?_, ?_⟩
  · exact (θ_run Cert.Kernel12Ideal.defs _ _).mono (fun r h c => ⟨(h c).1.trans (Cert.Kernel12Ideal.Product.final m c), (h c).2⟩) (Cert.Kernel12Ideal.Value.run_blocks m g)
  · refine (θ_run defs _ _).mono (fun r h c => ⟨(h c).1.trans ?_, (h c).2⟩) (Cert.Reference12Ideal.Value.run m' g')
    obtain ⟨a0, a1⟩ := hargs c
    refine (value _ _).trans ?_
    rw [a0, a1]

end Cert.Reference12Ideal.Product

end
-- ==== Proof.DownDg.lean ====
/- The gradient of the joined down projections in their input: the blocks the call writes are the sums of the reference's two products. -/
module

public import proofs.«01_k».proof.Defs
public import proofs.«01_k».proof.Proof.DownWg
public import proofs.«01_k».proof.Proof.Gen.Kernel13Ideal.Value
public import proofs.«01_k».proof.Proof.Gen.Reference13Ideal.Run

@[expose] public section

set_option maxRecDepth 16384

noncomputable section

open Idealize.ShloMosaic Idealize.ShloMosaic.TcCoe Idealize.ShloMosaic.Tactic Idealize.SL.Sem
open Cert.Products
open Cert.Sums (z2)
open Cert.RealArrays (ix2_all)

namespace Cert.Kernel13Ideal.Product

open Cert.Kernel13Ideal Cert.Kernel13Ideal.Gen

variable (m : (ℓ : Loc nD τ sig) → Buf (Elt Ideal) ℓ) (c : Dev nD)

theorem index_0 : ∀ t : Fin cfg0.N, (cfg0.win 0).index t 0 = t.val ∧ (cfg0.win 0).index t 1 = 0 := by decide +kernel
theorem index_1 : ∀ t : Fin cfg0.N, (cfg0.win 1).index t 0 = 0 ∧ (cfg0.win 1).index t 1 = 0 := by decide +kernel
theorem index_2 : ∀ t : Fin cfg0.N, (cfg0.win 2).index t 0 = t.val ∧ (cfg0.win 2).index t 1 = 0 := by decide +kernel
theorem covers_2 : (cfg0.win 2).Covers := by decide +kernel

/-- The block a step writes, from the blocks it reads. -/
theorem out_block (x0 : Vec Ideal S1024x672 .bf16) (x1 : Vec Ideal S1024x672 .bf16) : out0_2 x0 x1 = k0_pay1 x0 x1 := by
  unfold out0_2
  rw [View.canon_unit_zero (S := S1024x1024) z2, View.ld_unit_zero (S := S1024x672) z2, View.ld_unit_zero (S := S1024x672) z2]

theorem read_0 (t : Fin cfg0.N) (y : S1024x672.Idx) (r : Fin 4096) (s : Fin 672) (hr : r.val = 1024 * (t.val) + (y 0).val) (hs : s.val = (y 1).val) :
    (iblk m c 0 t : Vec Ideal S1024x672 .bf16) y = (m ((c : Thread nD τ).loc main_arg0) : FVec Ideal S4096x672 .bf16) (ix2 r s) := by
  show V m c main_arg0 (((cfg0.win 0).blk t).view.emb y) = _
  rw [V_main_arg0]
  obtain ⟨e0, e1⟩ := index_0 t
  exact congrArg _ (at_ix2 _ r s (by rw [hr]; blk_simp [e0]; omega) (by rw [hs]; blk_simp [e1]))

/-- The two weights side by side, as the call reads them. -/
def cat (a : FVec Ideal S1024x384 .bf16) (b : FVec Ideal S1024x288 .bf16) : FVec Ideal S1024x672 .bf16 :=
  concatenate S1024x672 1 [⟨S1024x384, a⟩, ⟨S1024x288, b⟩] concatenates_S1024x384_S1024x288_S1024x672_d1

theorem joined : (V m c main_v0 : FVec Ideal S1024x672 .bf16) = cat (m ((c : Thread nD τ).loc main_arg1)) (m ((c : Thread nD τ).loc main_arg2)) := by
  show StableHlo.after hostOps0 _ _ = _
  after_results <;> rfl

theorem read_1 (t : Fin cfg0.N) (y : S1024x672.Idx) (r : Fin 1024) (s : Fin 672) (hr : r.val = (y 0).val) (hs : s.val = (y 1).val) :
    (iblk m c 1 t : Vec Ideal S1024x672 .bf16) y = (cat (m ((c : Thread nD τ).loc main_arg1)) (m ((c : Thread nD τ).loc main_arg2))) (ix2 r s) := by
  show V m c main_v0 (((cfg0.win 1).blk t).view.emb y) = _
  refine (congrFun (joined m c) _).trans ?_
  obtain ⟨e0, e1⟩ := index_1 t
  exact congrArg _ (at_ix2 _ r s (by rw [hr]; blk_simp [e0]) (by rw [hs]; blk_simp [e1]))

/-- One step's product. -/
theorem block_apply (x0 : Vec Ideal S1024x672 .bf16) (x1 : Vec Ideal S1024x672 .bf16) (i : Fin 1024) (j : Fin 1024) :
    (k0_pay1 x0 x1 : FVec Ideal S1024x1024 .f32) (ix2 i j) = ∑ k : Fin 672, x0 (ix2 i k) * x1 (ix2 j k) := by
  pointwise [k0_pay1]

/-- The reference's result, at an entry. -/
def out (x : FVec Ideal S4096x672 .bf16) (w : FVec Ideal S1024x672 .bf16) : FVec Ideal S4096x1024 .f32 := fun i =>
  ∑ k : Fin 672, x (ix2 (i 0) k) * w (ix2 (i 1) k)

theorem final : (dats m 0 c).arrAt 2 cfg0.N = out (m ((c : Thread nD τ).loc main_arg0)) (cat (m ((c : Thread nD τ).loc main_arg1)) (m ((c : Thread nD τ).loc main_arg2))) := by
  refine (dats m 0 c).arrAt_eq_of_cover 2 _ (fun t hf => ?_) (covers_2.cover _ (Memref.isWhole_whole _))
  have hN : cfg0.N = 4 := N_0
  have hlt : t.val < 4 := hN ▸ t.isLt
  rw [Cert.Kernel13Ideal.Value.flushed2 m c t, out_block]
  refine ix2_all (a := 1024) (b := 1024) fun i j => ?_
  obtain ⟨e0, e1⟩ := index_2 t
  have hi' := i.isLt
  have hj' := j.isLt
  have hi : ((cfg0.win 2).blk t).view.emb (ix2 i j) = (ix2 (⟨1024 * (t.val) + i.val, by omega⟩ : Fin 4096) j : S4096x1024.Idx) :=
    at_ix2 _ _ _ (by show _ = 1024 * (t.val) + i.val; blk_simp [e0]; omega) (by blk_simp [e1])
  show (k0_pay1 (iblk m c 0 t : Vec Ideal S1024x672 .bf16) (iblk m c 1 t : Vec Ideal S1024x672 .bf16) : FVec Ideal S1024x1024 .f32) (ix2 i j)
    = out (m ((c : Thread nD τ).loc main_arg0)) (cat (m ((c : Thread nD τ).loc main_arg1)) (m ((c : Thread nD τ).loc main_arg2))) (((cfg0.win 2).blk t).view.emb (ix2 i j))
  rw [hi, block_apply]
  unfold out
  refine Finset.sum_congr rfl fun k _ => ?_
  rw [read_0 m c t (ix2 i k) ⟨1024 * (t.val) + i.val, by omega⟩ k rfl rfl, read_1 m c t (ix2 j k) j k rfl rfl]
  rfl

end Cert.Kernel13Ideal.Product

namespace Cert.Reference13Ideal.Product

open Cert.Reference13Ideal Cert.Reference13Ideal.Gen

theorem value (d : FVec Ideal S4096x672 .bf16) (a : FVec Ideal S1024x384 .bf16) (b : FVec Ideal S1024x288 .bf16) :
    (addf (Host.dotGeneral (F := Ideal) (φ₁ := .f32) (φ₂ := .f32) dot_S4096x288_S1024x288_S4096x1024_1_1_0_0_n_n none (extractStridedSlice S4096x288 ![0, 384] (extf .f32 d bitsLt_bf16_f32) slices_S4096x672_S4096x288_0_384) (extf .f32 b bitsLt_bf16_f32) : FVec Ideal S4096x1024 .f32)
      (Host.dotGeneral (F := Ideal) (φ₁ := .f32) (φ₂ := .f32) dot_S4096x384_S1024x384_S4096x1024_1_1_0_0_n_n none (extractStridedSlice S4096x384 ![0, 0] (extf .f32 d bitsLt_bf16_f32) slices_S4096x672_S4096x384_0_0) (extf .f32 a bitsLt_bf16_f32) : FVec Ideal S4096x1024 .f32) : FVec Ideal S4096x1024 .f32)
      = (Cert.Kernel13Ideal.Product.out d (Cert.Kernel13Ideal.Product.cat a b) : FVec Ideal S4096x1024 .f32) := by
  refine ix2_all fun i j => ?_
  pointwise [Cert.Kernel13Ideal.Product.out, Cert.Kernel13Ideal.Product.cat]
  rw [add_comm]

/-- The reference ends with its arguments unchanged and every counter at zero. -/
theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun r h => ⟨fun c => (h c).2, sem_eq_zero_of_no_sems (by decide) _⟩) (Cert.Reference13Ideal.Value.run m g)

/-- The value claim. -/
theorem algebraic : Cert.algebraic_Kernel13Ideal_Reference13Ideal := by
  intro m g m' g' _ hargs
  refine ⟨fun c => Cert.Kernel13Ideal.Product.out (m ((c.tc : Thread Cert.Kernel13Ideal.nD Cert.Kernel13Ideal.τ).loc Cert.Kernel13Ideal.main_arg0)) (Cert.Kernel13Ideal.Product.cat (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2))), ?_, ?_⟩
  · exact (θ_run Cert.Kernel13Ideal.defs _ _).mono (fun r h c => ⟨(h c).1.trans (Cert.Kernel13Ideal.Product.final m c), (h c).2⟩) (Cert.Kernel13Ideal.Value.run_blocks m g)
  · refine (θ_run defs _ _).mono (fun r h c => ⟨(h c).1.trans ?_, (h c).2⟩) (Cert.Reference13Ideal.Value.run m' g')
    obtain ⟨a0, a1, a2⟩ := hargs c
    refine (value _ _ _).trans ?_
    rw [a0, a1, a2]

end Cert.Reference13Ideal.Product

end
-- ==== Proof.Down.lean ====
/- The joined down projections: the blocks the call writes are those of the reference's two products side by side. -/
module

public import proofs.«01_k».proof.Defs
public import proofs.«01_k».proof.Proof.DownDg
public import proofs.«01_k».proof.Proof.Gen.Kernel16Ideal.Value
public import proofs.«01_k».proof.Proof.Gen.Reference16Ideal.Run

@[expose] public section

set_option maxRecDepth 16384

noncomputable section

open Idealize.ShloMosaic Idealize.ShloMosaic.TcCoe Idealize.ShloMosaic.Tactic Idealize.SL.Sem
open Cert.Products
open Cert.Sums (z2)
open Cert.RealArrays (ix2_all)

namespace Cert.Kernel16Ideal.Product

open Cert.Kernel16Ideal Cert.Kernel16Ideal.Gen

variable (m : (ℓ : Loc nD τ sig) → Buf (Elt Ideal) ℓ) (c : Dev nD)

theorem index_0 : ∀ t : Fin cfg0.N, (cfg0.win 0).index t 0 = t.val ∧ (cfg0.win 0).index t 1 = 0 := by decide +kernel
theorem index_1 : ∀ t : Fin cfg0.N, (cfg0.win 1).index t 0 = 0 ∧ (cfg0.win 1).index t 1 = 0 := by decide +kernel
theorem index_2 : ∀ t : Fin cfg0.N, (cfg0.win 2).index t 0 = t.val ∧ (cfg0.win 2).index t 1 = 0 := by decide +kernel
theorem covers_2 : (cfg0.win 2).Covers := by decide +kernel

/-- The block a step writes, from the blocks it reads. -/
theorem out_block (x0 : Vec Ideal S1024x1024 .bf16) (x1 : Vec Ideal S1024x672 .bf16) : out0_2 x0 x1 = k0_pay1 x0 x1 := by
  unfold out0_2
  rw [View.canon_unit_zero (S := S1024x672) z2, View.ld_unit_zero (S := S1024x1024) z2, View.ld_unit_zero (S := S1024x672) z2]

theorem read_0 (t : Fin cfg0.N) (y : S1024x1024.Idx) (r : Fin 4096) (s : Fin 1024) (hr : r.val = 1024 * (t.val) + (y 0).val) (hs : s.val = (y 1).val) :
    (iblk m c 0 t : Vec Ideal S1024x1024 .bf16) y = (m ((c : Thread nD τ).loc main_arg0) : FVec Ideal S4096x1024 .bf16) (ix2 r s) := by
  show V m c main_arg0 (((cfg0.win 0).blk t).view.emb y) = _
  rw [V_main_arg0]
  obtain ⟨e0, e1⟩ := index_0 t
  exact congrArg _ (at_ix2 _ r s (by rw [hr]; blk_simp [e0]; omega) (by rw [hs]; blk_simp [e1]))

/-- The two weights side by side, as the call reads them. -/
def cat (a : FVec Ideal S1024x384 .bf16) (b : FVec Ideal S1024x288 .bf16) : FVec Ideal S1024x672 .bf16 :=
  concatenate S1024x672 1 [⟨S1024x384, a⟩, ⟨S1024x288, b⟩] concatenates_S1024x384_S1024x288_S1024x672_d1

theorem joined : (V m c main_v0 : FVec Ideal S1024x672 .bf16) = cat (m ((c : Thread nD τ).loc main_arg1)) (m ((c : Thread nD τ).loc main_arg2)) := by
  show StableHlo.after hostOps0 _ _ = _
  after_results <;> rfl

theorem read_1 (t : Fin cfg0.N) (y : S1024x672.Idx) (r : Fin 1024) (s : Fin 672) (hr : r.val = (y 0).val) (hs : s.val = (y 1).val) :
    (iblk m c 1 t : Vec Ideal S1024x672 .bf16) y = (cat (m ((c : Thread nD τ).loc main_arg1)) (m ((c : Thread nD τ).loc main_arg2))) (ix2 r s) := by
  show V m c main_v0 (((cfg0.win 1).blk t).view.emb y) = _
  refine (congrFun (joined m c) _).trans ?_
  obtain ⟨e0, e1⟩ := index_1 t
  exact congrArg _ (at_ix2 _ r s (by rw [hr]; blk_simp [e0]) (by rw [hs]; blk_simp [e1]))

/-- One step's product. -/
theorem block_apply (x0 : Vec Ideal S1024x1024 .bf16) (x1 : Vec Ideal S1024x672 .bf16) (i : Fin 1024) (j : Fin 672) :
    (k0_pay1 x0 x1 : FVec Ideal S1024x672 .f32) (ix2 i j) = ∑ k : Fin 1024, x0 (ix2 i k) * x1 (ix2 k j) := by
  pointwise [k0_pay1]

/-- The reference's result, at an entry. -/
def out (x : FVec Ideal S4096x1024 .bf16) (w : FVec Ideal S1024x672 .bf16) : FVec Ideal S4096x672 .f32 := fun i =>
  ∑ k : Fin 1024, x (ix2 (i 0) k) * w (ix2 k (i 1))

theorem final : (dats m 0 c).arrAt 2 cfg0.N = out (m ((c : Thread nD τ).loc main_arg0)) (cat (m ((c : Thread nD τ).loc main_arg1)) (m ((c : Thread nD τ).loc main_arg2))) := by
  refine (dats m 0 c).arrAt_eq_of_cover 2 _ (fun t hf => ?_) (covers_2.cover _ (Memref.isWhole_whole _))
  have hN : cfg0.N = 4 := N_0
  have hlt : t.val < 4 := hN ▸ t.isLt
  rw [Cert.Kernel16Ideal.Value.flushed2 m c t, out_block]
  refine ix2_all (a := 1024) (b := 672) fun i j => ?_
  obtain ⟨e0, e1⟩ := index_2 t
  have hi' := i.isLt
  have hj' := j.isLt
  have hi : ((cfg0.win 2).blk t).view.emb (ix2 i j) = (ix2 (⟨1024 * (t.val) + i.val, by omega⟩ : Fin 4096) j : S4096x672.Idx) :=
    at_ix2 _ _ _ (by show _ = 1024 * (t.val) + i.val; blk_simp [e0]; omega) (by blk_simp [e1])
  show (k0_pay1 (iblk m c 0 t : Vec Ideal S1024x1024 .bf16) (iblk m c 1 t : Vec Ideal S1024x672 .bf16) : FVec Ideal S1024x672 .f32) (ix2 i j)
    = out (m ((c : Thread nD τ).loc main_arg0)) (cat (m ((c : Thread nD τ).loc main_arg1)) (m ((c : Thread nD τ).loc main_arg2))) (((cfg0.win 2).blk t).view.emb (ix2 i j))
  rw [hi, block_apply]
  unfold out
  refine Finset.sum_congr rfl fun k _ => ?_
  rw [read_0 m c t (ix2 i k) ⟨1024 * (t.val) + i.val, by omega⟩ k rfl rfl, read_1 m c t (ix2 k j) k j rfl rfl]
  rfl

end Cert.Kernel16Ideal.Product

namespace Cert.Reference16Ideal.Product

open Cert.Reference16Ideal Cert.Reference16Ideal.Gen

theorem value (x : FVec Ideal S4096x1024 .bf16) (a : FVec Ideal S1024x384 .bf16) (b : FVec Ideal S1024x288 .bf16) :
    (concatenate S4096x672 1 [⟨S4096x384, (Host.dotGeneral (F := Ideal) (φ₁ := .f32) (φ₂ := .f32) dot_S4096x1024_S1024x384_S4096x384_1_0_0_1_n_n none (extf .f32 x bitsLt_bf16_f32) (extf .f32 a bitsLt_bf16_f32) : FVec Ideal S4096x384 .f32)⟩,
      ⟨S4096x288, (Host.dotGeneral (F := Ideal) (φ₁ := .f32) (φ₂ := .f32) dot_S4096x1024_S1024x288_S4096x288_1_0_0_1_n_n none (extf .f32 x bitsLt_bf16_f32) (extf .f32 b bitsLt_bf16_f32) : FVec Ideal S4096x288 .f32)⟩] concatenates_S4096x384_S4096x288_S4096x672_d1 : FVec Ideal S4096x672 .f32)
      = (Cert.Kernel16Ideal.Product.out x (Cert.Kernel16Ideal.Product.cat a b) : FVec Ideal S4096x672 .f32) := by
  refine ix2_all fun i j => ?_
  pointwise [Cert.Kernel16Ideal.Product.out, Cert.Kernel16Ideal.Product.cat]
  by_cases h : j.val < 384
  · simp only [h, dif_pos]
  · simp only [h, dif_neg, not_false_iff]

/-- The reference ends with its arguments unchanged and every counter at zero. -/
theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun r h => ⟨fun c => (h c).2, sem_eq_zero_of_no_sems (by decide) _⟩) (Cert.Reference16Ideal.Value.run m g)

/-- The value claim. -/
theorem algebraic : Cert.algebraic_Kernel16Ideal_Reference16Ideal := by
  intro m g m' g' _ hargs
  refine ⟨fun c => Cert.Kernel16Ideal.Product.out (m ((c.tc : Thread Cert.Kernel16Ideal.nD Cert.Kernel16Ideal.τ).loc Cert.Kernel16Ideal.main_arg0)) (Cert.Kernel16Ideal.Product.cat (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2))), ?_, ?_⟩
  · exact (θ_run Cert.Kernel16Ideal.defs _ _).mono (fun r h c => ⟨(h c).1.trans (Cert.Kernel16Ideal.Product.final m c), (h c).2⟩) (Cert.Kernel16Ideal.Value.run_blocks m g)
  · refine (θ_run defs _ _).mono (fun r h c => ⟨(h c).1.trans ?_, (h c).2⟩) (Cert.Reference16Ideal.Value.run m' g')
    obtain ⟨a0, a1, a2⟩ := hargs c
    refine (value _ _ _).trans ?_
    rw [a0, a1, a2]

end Cert.Reference16Ideal.Product

end
-- ==== Proof.lean ====
/-
  The proof of `Cert.Claim`. Of the attention's backward call: the frames of the kernel, of the kernel at the ideal values
  and of the reference, the two named constants of `preserves`, and the value claim. Of each of the six feed-forward calls,
  the six calls of the convolution's pointwise products and the three calls of the joined down projections: the same frames
  and the value claim.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.KernelFrame
public import proofs.«01_k».proof.Proof.IdealRun
public import proofs.«01_k».proof.Proof.Frames
public import proofs.«01_k».proof.Proof.Value
public import proofs.«01_k».proof.Proof.Sums
public import proofs.«01_k».proof.Proof.Ffn2Wg
public import proofs.«01_k».proof.Proof.Ffn1Wg
public import proofs.«01_k».proof.Proof.Ffn1Dg
public import proofs.«01_k».proof.Proof.Ffn2
public import proofs.«01_k».proof.Proof.Ffn1
public import proofs.«01_k».proof.Proof.Ffn2Dg
public import proofs.«01_k».proof.Proof.Products
public import proofs.«01_k».proof.Proof.Pw2Dg
public import proofs.«01_k».proof.Proof.Pw2Wg
public import proofs.«01_k».proof.Proof.Pw1Wg
public import proofs.«01_k».proof.Proof.Pw1Dg
public import proofs.«01_k».proof.Proof.Pw1
public import proofs.«01_k».proof.Proof.Pw2
public import proofs.«01_k».proof.Proof.DownWg
public import proofs.«01_k».proof.Proof.DownDg
public import proofs.«01_k».proof.Proof.Down
public import Idealize.ShloMosaic.Adequacy
public import Idealize.ShloMosaic.Init
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run

@[expose] public section

noncomputable section

namespace Cert.Proof

open Idealize.ShloMosaic Idealize.SL.Sem Cert.Kernel

/-- The attention call's frames, named constants and value claim, and the frames and value claims of the feed-forward calls, the
    pointwise products' calls and the down projections' calls. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.RealArrays.finite_facts,
    fun m g _ => Cert.Kernel.AttnBwd.frame m g, fun m g _ => Cert.KernelIdeal.AttnBwd.frame m g,
    fun m g _ => Cert.KernelIdeal.AttnBwd.frame m g, fun m g _ => Cert.Frames.reference m g,
    fun m g _ => Cert.Frames.reference m g,
    fun m g _ => Cert.Kernel2.Gen.frame m g, fun m g _ => Cert.Kernel2Ideal.Gen.frame m g, fun m g _ => Cert.Reference2Ideal.Ffn.frame m g,
    fun m g _ => Cert.Kernel3.Gen.frame m g, fun m g _ => Cert.Kernel3Ideal.Gen.frame m g, fun m g _ => Cert.Reference3Ideal.Ffn.frame m g,
    fun m g _ => Cert.Kernel4.Gen.frame m g, fun m g _ => Cert.Kernel4Ideal.Gen.frame m g, fun m g _ => Cert.Reference4Ideal.Ffn.frame m g,
    fun m g _ => Cert.Kernel5.Gen.frame m g, fun m g _ => Cert.Kernel5Ideal.Gen.frame m g, fun m g _ => Cert.Reference5Ideal.Ffn.frame m g,
    fun m g _ => Cert.Kernel6.Gen.frame m g, fun m g _ => Cert.Kernel6Ideal.Gen.frame m g, fun m g _ => Cert.Reference6Ideal.Ffn.frame m g,
    fun m g _ => Cert.Kernel7.Gen.frame m g, fun m g _ => Cert.Kernel7Ideal.Gen.frame m g, fun m g _ => Cert.Reference7Ideal.Ffn.frame m g,
    fun m g _ => Cert.Kernel8.Gen.frame m g, fun m g _ => Cert.Kernel8Ideal.Gen.frame m g, fun m g _ => Cert.Reference8Ideal.Product.frame m g,
    fun m g _ => Cert.Kernel9.Gen.frame m g, fun m g _ => Cert.Kernel9Ideal.Gen.frame m g, fun m g _ => Cert.Reference9Ideal.Product.frame m g,
    fun m g _ => Cert.Kernel10.Gen.frame m g, fun m g _ => Cert.Kernel10Ideal.Gen.frame m g, fun m g _ => Cert.Reference10Ideal.Product.frame m g,
    fun m g _ => Cert.Kernel11.Gen.frame m g, fun m g _ => Cert.Kernel11Ideal.Gen.frame m g, fun m g _ => Cert.Reference11Ideal.Product.frame m g,
    fun m g _ => Cert.Kernel12.Gen.frame m g, fun m g _ => Cert.Kernel12Ideal.Gen.frame m g, fun m g _ => Cert.Reference12Ideal.Product.frame m g,
    fun m g _ => Cert.Kernel13.Gen.frame m g, fun m g _ => Cert.Kernel13Ideal.Gen.frame m g, fun m g _ => Cert.Reference13Ideal.Product.frame m g,
    fun m g _ => Cert.Kernel14.Gen.frame m g, fun m g _ => Cert.Kernel14Ideal.Gen.frame m g, fun m g _ => Cert.Reference14Ideal.Product.frame m g,
    fun m g _ => Cert.Kernel15.Gen.frame m g, fun m g _ => Cert.Kernel15Ideal.Gen.frame m g, fun m g _ => Cert.Reference15Ideal.Product.frame m g,
    fun m g _ => Cert.Kernel16.Gen.frame m g, fun m g _ => Cert.Kernel16Ideal.Gen.frame m g, fun m g _ => Cert.Reference16Ideal.Product.frame m g,
    Cert.Frames.preserves, Cert.Value.algebraic Cert.RealArrays.finite_facts,
    trivial, Cert.Reference2Ideal.Ffn.algebraic,
    trivial, Cert.Reference3Ideal.Ffn.algebraic,
    trivial, Cert.Reference4Ideal.Ffn.algebraic,
    trivial, Cert.Reference5Ideal.Ffn.algebraic,
    trivial, Cert.Reference6Ideal.Ffn.algebraic,
    trivial, Cert.Reference7Ideal.Ffn.algebraic,
    trivial, Cert.Reference8Ideal.Product.algebraic,
    trivial, Cert.Reference9Ideal.Product.algebraic,
    trivial, Cert.Reference10Ideal.Product.algebraic,
    trivial, Cert.Reference11Ideal.Product.algebraic,
    trivial, Cert.Reference12Ideal.Product.algebraic,
    trivial, Cert.Reference13Ideal.Product.algebraic,
    trivial, Cert.Reference14Ideal.Product.algebraic,
    trivial, Cert.Reference15Ideal.Product.algebraic,
    trivial, Cert.Reference16Ideal.Product.algebraic⟩

end Cert.Proof

end
